-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_usable.lean ====
abbrev S2x1048576x160 : Shape := ⟨3, ![2, 1048576, 160]⟩
abbrev S2x1048576 : Shape := ⟨2, ![2, 1048576]⟩
abbrev S2x1280 : Shape := ⟨2, ![2, 1280]⟩
abbrev S_ : Shape := ⟨0, ![]⟩

class Facts : Prop where
  bcast_S_S2x1048576 : S_.BroadcastsInDim S2x1048576 (![] : Fin 0 → Fin S2x1048576.rank)
  bcast_S_S2x1280 : S_.BroadcastsInDim S2x1280 (![] : Fin 0 → Fin S2x1280.rank)

variable [Facts]

def fn {F : FTy → Type} [FloatOps F] (main_arg0 : IVec S2x1048576x160 8) (main_arg1 : FVec F S2x1048576 .f32) (main_arg2 : IVec S2x1048576 8) (main_arg3 : IVec S2x1280 32) : IVec S2x1048576 1 × IVec S2x1280 1 :=
  let main_v0 : FVec F S2x1048576 .f32 := Host.absf main_arg1
  let main_cst : FVec F S_ .f32 := constant S_ .f32 0x7F800000#32
  let main_v1 : FVec F S2x1048576 .f32 := broadcastInDim S2x1048576 ![] bcast_S_S2x1048576 main_cst
  let main_v2 : IVec S2x1048576 1 := cmpf .olt main_v0 main_v1
  let main_c : IVec S_ 32 := constantI S_ 32 4293918720#32
  let main_v3 : IVec S2x1280 32 := broadcastInDim S2x1280 ![] bcast_S_S2x1280 main_c
  let main_v4 : IVec S2x1280 1 := cmpi .sge main_arg3 main_v3
  let main_c_0 : IVec S_ 32 := constantI S_ 32 1048576#32
  let main_v5 : IVec S2x1280 32 := broadcastInDim S2x1280 ![] bcast_S_S2x1280 main_c_0
  let main_v6 : IVec S2x1280 1 := cmpi .slt main_arg3 main_v5
  let main_v7 : IVec S2x1280 1 := andi main_v4 main_v6
  (main_v2, main_v7)
-- ==== Kernel.lean ====
abbrev S2x1048576x160 : Shape := ⟨3, ![2, 1048576, 160]⟩
abbrev S2x1048576 : Shape := ⟨2, ![2, 1048576]⟩
abbrev S2x1280 : Shape := ⟨2, ![2, 1280]⟩
abbrev S2x160x1048576 : Shape := ⟨3, ![2, 160, 1048576]⟩
abbrev S2x8192x128 : Shape := ⟨3, ![2, 8192, 128]⟩
abbrev S2x1280x160 : Shape := ⟨3, ![2, 1280, 160]⟩
abbrev S1x160x32768 : Shape := ⟨3, ![1, 160, 32768]⟩
abbrev S1x256x128 : Shape := ⟨3, ![1, 256, 128]⟩
abbrev S1x1280x160 : Shape := ⟨3, ![1, 1280, 160]⟩
abbrev S256x256 : Shape := ⟨2, ![256, 256]⟩
abbrev S256x128 : Shape := ⟨2, ![256, 128]⟩
abbrev S16416x128 : Shape := ⟨2, ![16416, 128]⟩
abbrev S4128x128 : Shape := ⟨2, ![4128, 128]⟩
abbrev S20480x128 : Shape := ⟨2, ![20480, 128]⟩
abbrev S1x128 : Shape := ⟨2, ![1, 128]⟩
abbrev S16x128 : Shape := ⟨2, ![16, 128]⟩
abbrev S1x160x128 : Shape := ⟨3, ![1, 160, 128]⟩
abbrev S160x128 : Shape := ⟨2, ![160, 128]⟩
abbrev S10x16x128 : Shape := ⟨3, ![10, 16, 128]⟩
abbrev S1x16x128 : Shape := ⟨3, ![1, 16, 128]⟩
abbrev S128x128 : Shape := ⟨2, ![128, 128]⟩
abbrev S32x128 : Shape := ⟨2, ![32, 128]⟩
abbrev S128x256 : Shape := ⟨2, ![128, 256]⟩
abbrev S32x256 : Shape := ⟨2, ![32, 256]⟩
abbrev S8x128 : Shape := ⟨2, ![8, 128]⟩
abbrev S1x1 : Shape := ⟨2, ![1, 1]⟩
abbrev S128 : Shape := ⟨1, ![128]⟩
abbrev S1x8x128 : Shape := ⟨3, ![1, 8, 128]⟩
abbrev S8x32 : Shape := ⟨2, ![8, 32]⟩
abbrev S1x8x32 : Shape := ⟨3, ![1, 8, 32]⟩

abbrev nBuf : Space → Nat
  | .hbm => 7
  | .vmem => 16
  | .smem => 1
  | _ => 0

abbrev bufTy : (tb : Table) → Fin (tcTables nBuf tb) → BufTy
  | .hbm, ⟨0, _⟩ => ⟨S2x1048576x160, .i8⟩
  | .hbm, ⟨1, _⟩ => ⟨S2x1048576, .f32⟩
  | .hbm, ⟨2, _⟩ => ⟨S2x1048576, .i8⟩
  | .hbm, ⟨3, _⟩ => ⟨S2x160x1048576, .i8⟩
  | .hbm, ⟨4, _⟩ => ⟨S2x8192x128, .f32⟩
  | .hbm, ⟨5, _⟩ => ⟨S2x8192x128, .i8⟩
  | .hbm, ⟨6, _⟩ => ⟨S2x1280x160, .f32⟩
  | .local _ .vmem, ⟨0, _⟩ => ⟨S1x160x32768, .i8⟩
  | .local _ .vmem, ⟨1, _⟩ => ⟨S1x160x32768, .i8⟩
  | .local _ .vmem, ⟨2, _⟩ => ⟨S1x256x128, .f32⟩
  | .local _ .vmem, ⟨3, _⟩ => ⟨S1x256x128, .f32⟩
  | .local _ .vmem, ⟨4, _⟩ => ⟨S1x256x128, .i8⟩
  | .local _ .vmem, ⟨5, _⟩ => ⟨S1x256x128, .i8⟩
  | .local _ .vmem, ⟨6, _⟩ => ⟨S1x1280x160, .f32⟩
  | .local _ .vmem, ⟨7, _⟩ => ⟨S1x1280x160, .f32⟩
  | .local _ .vmem, ⟨8, _⟩ => ⟨S256x256, .bf16⟩
  | .local _ .vmem, ⟨9, _⟩ => ⟨S256x128, .f32⟩
  | .local _ .vmem, ⟨10, _⟩ => ⟨S16416x128, .f32⟩
  | .local _ .vmem, ⟨11, _⟩ => ⟨S4128x128, .f32⟩
  | .local _ .vmem, ⟨12, _⟩ => ⟨S16416x128, .f32⟩
  | .local _ .vmem, ⟨13, _⟩ => ⟨S4128x128, .f32⟩
  | .local _ .vmem, ⟨14, _⟩ => ⟨S20480x128, .f32⟩
  | .local _ .vmem, ⟨15, _⟩ => ⟨S20480x128, .f32⟩
  | .local _ .smem, ⟨0, _⟩ => ⟨S2x1280, .i32⟩
  | _, _ => ⟨S2x1048576x160, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_9 : BitVec 32 := 0#32
  let c8_i32 : BitVec 32 := 8#32
  let v17 : BitVec 32 := Scalar.addi c0_i32_9 c8_i32
  let c1_i32_10 : BitVec 32 := 1#32
  ⟨c0_i32_9, v17, c1_i32_10⟩
def k0_mult1 (k0_t1 : Fin k0_t1_loop.trips) : BitVec 32 :=
  let c0_i32_51 : BitVec 32 := 0#32
  let c0_i32_9 : BitVec 32 := 0#32
  let c1_i32_10 : BitVec 32 := 1#32
  let arg14 : BitVec 32 := Scf.iv c0_i32_9 c1_i32_10 k0_t1
  let c2048_i32 : BitVec 32 := 2048#32
  let v82 : BitVec 32 := Scalar.muli arg14 c2048_i32
  let v83 : BitVec 32 := Scalar.addi c0_i32_51 v82
  v83
def k0_off1 (k0_t1 : Fin k0_t1_loop.trips) (c0_i32_62 : BitVec 32) (c0_i32_63 : BitVec 32) : Fin 2 → Nat :=
  let c0_i32_55 : BitVec 32 := 0#32
  let c0_i32_9 : BitVec 32 := 0#32
  let c1_i32_10 : BitVec 32 := 1#32
  let arg14 : BitVec 32 := Scf.iv c0_i32_9 c1_i32_10 k0_t1
  let c2048_i32_54 : BitVec 32 := 2048#32
  let v87 : BitVec 32 := Scalar.muli arg14 c2048_i32_54
  let v88 : BitVec 32 := Scalar.addi c0_i32_55 v87
  let c0_i32_56 : BitVec 32 := 0#32
  let v90 : BitVec 1 := Scalar.cmpi .sgt v88 c0_i32_56
  let v91 : BitVec 32 := Scalar.extui v90
  let c0_i32_57 : BitVec 32 := 0#32
  let v92 : BitVec 1 := Scalar.cmpi .slt v88 c0_i32_57
  let v93 : BitVec 32 := Scalar.extui v92
  let v94 : BitVec 32 := Scalar.subi v91 v93
  let c128_i32 : BitVec 32 := 128#32
  let c0_i32_58 : BitVec 32 := 0#32
  let v95 : BitVec 1 := Scalar.cmpi .sgt c128_i32 c0_i32_58
  let v96 : BitVec 32 := Scalar.extui v95
  let c0_i32_59 : BitVec 32 := 0#32
  let v97 : BitVec 1 := Scalar.cmpi .slt c128_i32 c0_i32_59
  let v98 : BitVec 32 := Scalar.extui v97
  let v99 : BitVec 32 := Scalar.subi v96 v98
  let v100 : BitVec 1 := Scalar.cmpi .ne v94 v99
  let v101 : BitVec 32 := Scalar.remsi v88 c128_i32
  let c0_i32_60 : BitVec 32 := 0#32
  let v102 : BitVec 1 := Scalar.cmpi .ne v101 c0_i32_60
  let v103 : BitVec 1 := Scalar.andi v100 v102
  let v89 : BitVec 32 := Scalar.divsi v88 c128_i32
  let c1_i32_61 : BitVec 32 := 1#32
  let v104 : BitVec 32 := Scalar.subi v89 c1_i32_61
  let v105 : BitVec 32 := Scalar.select v103 v104 v89
  let v106 : BitVec 32 := Scalar.addi v105 c0_i32_62
  let v107 : BitVec 32 := Scalar.addi v106 c0_i32_63
  let v108 : Index := Scalar.indexCast v107
  let c0_64 : Index := 0#32
  ![v108.toNat, 0]
def k0_off2 (k0_t1 : Fin k0_t1_loop.trips) (c0_i32_52 : BitVec 32) (c0_i32_53 : BitVec 32) : Fin 3 → Nat :=
  let c0_65 : Index := 0#32
  let c0_66 : Index := 0#32
  let c0_i32_51 : BitVec 32 := 0#32
  let c0_i32_9 : BitVec 32 := 0#32
  let c1_i32_10 : BitVec 32 := 1#32
  let arg14 : BitVec 32 := Scf.iv c0_i32_9 c1_i32_10 k0_t1
  let c2048_i32 : BitVec 32 := 2048#32
  let v82 : BitVec 32 := Scalar.muli arg14 c2048_i32
  let v83 : BitVec 32 := Scalar.addi c0_i32_51 v82
  let v84 : BitVec 32 := v83
  let v85 : BitVec 32 := Scalar.addi v84 c0_i32_52
  let v86 : BitVec 32 := Scalar.addi v85 c0_i32_53
  let v113 : Index := Scalar.indexCast v86
  ![0, 0, v113.toNat]
def k0_off3 (k0_t1 : Fin k0_t1_loop.trips) (c0_i32_301 : BitVec 32) (c0_i32_302 : BitVec 32) : Fin 2 → Nat :=
  let c0_i32_9 : BitVec 32 := 0#32
  let c1_i32_10 : BitVec 32 := 1#32
  let arg14 : BitVec 32 := Scf.iv c0_i32_9 c1_i32_10 k0_t1
  let c2052_i32 : BitVec 32 := 2052#32
  let v768 : BitVec 32 := Scalar.muli arg14 c2052_i32
  let v769 : BitVec 32 := Scalar.addi v768 c0_i32_301
  let v770 : BitVec 32 := Scalar.addi v769 c0_i32_302
  let v771 : Index := Scalar.indexCast v770
  let c0_303 : Index := 0#32
  ![v771.toNat, 0]
def k0_off4 (k0_t1 : Fin k0_t1_loop.trips) (c0_i32_332 : BitVec 32) (c0_i32_333 : BitVec 32) : Fin 2 → Nat :=
  let c0_i32_9 : BitVec 32 := 0#32
  let c1_i32_10 : BitVec 32 := 1#32
  let arg14 : BitVec 32 := Scf.iv c0_i32_9 c1_i32_10 k0_t1
  let c516_i32 : BitVec 32 := 516#32
  let v828 : BitVec 32 := Scalar.muli arg14 c516_i32
  let v829 : BitVec 32 := Scalar.addi v828 c0_i32_332
  let v830 : BitVec 32 := Scalar.addi v829 c0_i32_333
  let v831 : Index := Scalar.indexCast v830
  let c0_334 : Index := 0#32
  ![v831.toNat, 0]
@[reducible] def k0_t2_loop : Scf.Loop 32 :=
  let c0_i32_24 : BitVec 32 := 0#32
  let c80_i32 : BitVec 32 := 80#32
  let v45 : BitVec 32 := Scalar.addi c0_i32_24 c80_i32
  let c1_i32_25 : BitVec 32 := 1#32
  ⟨c0_i32_24, v45, c1_i32_25⟩
def k0_off5 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v84 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c0_i32_51 : BitVec 32 := 0#32
  let v83 : BitVec 32 := Scalar.addi v82 c0_i32_51
  let v85 : Index := Scalar.indexCast v83
  ![v84.toNat, v85.toNat]
def k0_mult2 (i : grid0.Coords) (k0_t2 : Fin k0_t2_loop.trips) (v86 : BitVec 32) : BitVec 32 :=
  let c27030_i32 : BitVec 32 := 27030#32
  let c14_i32 : BitVec 32 := 14#32
  let v92 : BitVec 32 := Scalar.shrsi v86 c14_i32
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v93 : BitVec 32 := Scalar.andi v92 v44
  let c4_i32 : BitVec 32 := 4#32
  let v94 : BitVec 32 := Scalar.shrsi v93 c4_i32
  let v95 : BitVec 32 := Scalar.xori v93 v94
  let c15_i32 : BitVec 32 := 15#32
  let v96 : BitVec 32 := Scalar.andi v95 c15_i32
  let v97 : BitVec 32 := Scalar.shrsi c27030_i32 v96
  let c1_i32_53 : BitVec 32 := 1#32
  let v98 : BitVec 32 := Scalar.andi v97 c1_i32_53
  let c10240_i32 : BitVec 32 := 10240#32
  let v99 : BitVec 32 := Scalar.muli v98 c10240_i32
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c0_i32_54 : BitVec 32 := 0#32
  let v100 : BitVec 32 := Scalar.addi v82 c0_i32_54
  let c8_i32_55 : BitVec 32 := 8#32
  let v101 : BitVec 32 := Scalar.muli v100 c8_i32_55
  let v102 : BitVec 32 := Scalar.addi v99 v101
  v102

def k0_off6 (i : grid0.Coords) (k0_t2 : Fin k0_t2_loop.trips) (v86 : BitVec 32) : Fin 2 → Nat :=
  let c27030_i32 : BitVec 32 := 27030#32
  let c14_i32 : BitVec 32 := 14#32
  let v92 : BitVec 32 := Scalar.shrsi v86 c14_i32
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v93 : BitVec 32 := Scalar.andi v92 v44
  let c4_i32 : BitVec 32 := 4#32
  let v94 : BitVec 32 := Scalar.shrsi v93 c4_i32
  let v95 : BitVec 32 := Scalar.xori v93 v94
  let c15_i32 : BitVec 32 := 15#32
  let v96 : BitVec 32 := Scalar.andi v95 c15_i32
  let v97 : BitVec 32 := Scalar.shrsi c27030_i32 v96
  let c1_i32_53 : BitVec 32 := 1#32
  let v98 : BitVec 32 := Scalar.andi v97 c1_i32_53
  let c10240_i32 : BitVec 32 := 10240#32
  let v99 : BitVec 32 := Scalar.muli v98 c10240_i32
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c0_i32_54 : BitVec 32 := 0#32
  let v100 : BitVec 32 := Scalar.addi v82 c0_i32_54
  let c8_i32_55 : BitVec 32 := 8#32
  let v101 : BitVec 32 := Scalar.muli v100 c8_i32_55
  let v102 : BitVec 32 := Scalar.addi v99 v101
  let v103 : BitVec 32 := v102
  let v104 : Index := Scalar.indexCast v103
  let c0_56 : Index := 0#32
  ![v104.toNat, 0]
def k0_off7 (v86 : BitVec 32) : Fin 2 → Nat :=
  let c2047_i32 : BitVec 32 := 2047#32
  let v87 : BitVec 32 := Scalar.andi v86 c2047_i32
  let v106 : Index := Scalar.indexCast v87
  let c0_57 : Index := 0#32
  ![v106.toNat, 0]
def k0_off8 (v86 : BitVec 32) : Fin 2 → Nat :=
  let c255_i32 : BitVec 32 := 255#32
  let v88 : BitVec 32 := Scalar.andi v86 c255_i32
  let c2_i32_52 : BitVec 32 := 2#32
  let v89 : BitVec 32 := Scalar.shrsi v86 c2_i32_52
  let c256_i32 : BitVec 32 := 256#32
  let v90 : BitVec 32 := Scalar.andi v89 c256_i32
  let v91 : BitVec 32 := Scalar.addi v88 v90
  let v111 : Index := Scalar.indexCast v91
  let c0_59 : Index := 0#32
  ![v111.toNat, 0]
def k0_off9 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v115 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c1_i32_60 : BitVec 32 := 1#32
  let v114 : BitVec 32 := Scalar.addi v82 c1_i32_60
  let v116 : Index := Scalar.indexCast v114
  ![v115.toNat, v116.toNat]
def k0_mult3 (i : grid0.Coords) (k0_t2 : Fin k0_t2_loop.trips) (v117 : BitVec 32) : BitVec 32 :=
  let c27030_i32_68 : BitVec 32 := 27030#32
  let c14_i32_65 : BitVec 32 := 14#32
  let v123 : BitVec 32 := Scalar.shrsi v117 c14_i32_65
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v124 : BitVec 32 := Scalar.andi v123 v44
  let c4_i32_66 : BitVec 32 := 4#32
  let v125 : BitVec 32 := Scalar.shrsi v124 c4_i32_66
  let v126 : BitVec 32 := Scalar.xori v124 v125
  let c15_i32_67 : BitVec 32 := 15#32
  let v127 : BitVec 32 := Scalar.andi v126 c15_i32_67
  let v128 : BitVec 32 := Scalar.shrsi c27030_i32_68 v127
  let c1_i32_69 : BitVec 32 := 1#32
  let v129 : BitVec 32 := Scalar.andi v128 c1_i32_69
  let c10240_i32_70 : BitVec 32 := 10240#32
  let v130 : BitVec 32 := Scalar.muli v129 c10240_i32_70
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c1_i32_71 : BitVec 32 := 1#32
  let v131 : BitVec 32 := Scalar.addi v82 c1_i32_71
  let c8_i32_72 : BitVec 32 := 8#32
  let v132 : BitVec 32 := Scalar.muli v131 c8_i32_72
  let v133 : BitVec 32 := Scalar.addi v130 v132
  v133

def k0_off10 (i : grid0.Coords) (k0_t2 : Fin k0_t2_loop.trips) (v117 : BitVec 32) : Fin 2 → Nat :=
  let c27030_i32_68 : BitVec 32 := 27030#32
  let c14_i32_65 : BitVec 32 := 14#32
  let v123 : BitVec 32 := Scalar.shrsi v117 c14_i32_65
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v124 : BitVec 32 := Scalar.andi v123 v44
  let c4_i32_66 : BitVec 32 := 4#32
  let v125 : BitVec 32 := Scalar.shrsi v124 c4_i32_66
  let v126 : BitVec 32 := Scalar.xori v124 v125
  let c15_i32_67 : BitVec 32 := 15#32
  let v127 : BitVec 32 := Scalar.andi v126 c15_i32_67
  let v128 : BitVec 32 := Scalar.shrsi c27030_i32_68 v127
  let c1_i32_69 : BitVec 32 := 1#32
  let v129 : BitVec 32 := Scalar.andi v128 c1_i32_69
  let c10240_i32_70 : BitVec 32 := 10240#32
  let v130 : BitVec 32 := Scalar.muli v129 c10240_i32_70
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c1_i32_71 : BitVec 32 := 1#32
  let v131 : BitVec 32 := Scalar.addi v82 c1_i32_71
  let c8_i32_72 : BitVec 32 := 8#32
  let v132 : BitVec 32 := Scalar.muli v131 c8_i32_72
  let v133 : BitVec 32 := Scalar.addi v130 v132
  let v134 : BitVec 32 := v133
  let v135 : Index := Scalar.indexCast v134
  let c0_73 : Index := 0#32
  ![v135.toNat, 0]
def k0_off11 (v117 : BitVec 32) : Fin 2 → Nat :=
  let c2047_i32_61 : BitVec 32 := 2047#32
  let v118 : BitVec 32 := Scalar.andi v117 c2047_i32_61
  let v137 : Index := Scalar.indexCast v118
  let c0_74 : Index := 0#32
  ![v137.toNat, 0]
def k0_off12 (v117 : BitVec 32) : Fin 2 → Nat :=
  let c255_i32_62 : BitVec 32 := 255#32
  let v119 : BitVec 32 := Scalar.andi v117 c255_i32_62
  let c2_i32_63 : BitVec 32 := 2#32
  let v120 : BitVec 32 := Scalar.shrsi v117 c2_i32_63
  let c256_i32_64 : BitVec 32 := 256#32
  let v121 : BitVec 32 := Scalar.andi v120 c256_i32_64
  let v122 : BitVec 32 := Scalar.addi v119 v121
  let v142 : Index := Scalar.indexCast v122
  let c0_76 : Index := 0#32
  ![v142.toNat, 0]
def k0_off13 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v146 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c2_i32_77 : BitVec 32 := 2#32
  let v145 : BitVec 32 := Scalar.addi v82 c2_i32_77
  let v147 : Index := Scalar.indexCast v145
  ![v146.toNat, v147.toNat]
def k0_mult4 (i : grid0.Coords) (k0_t2 : Fin k0_t2_loop.trips) (v148 : BitVec 32) : BitVec 32 :=
  let c27030_i32_85 : BitVec 32 := 27030#32
  let c14_i32_82 : BitVec 32 := 14#32
  let v154 : BitVec 32 := Scalar.shrsi v148 c14_i32_82
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v155 : BitVec 32 := Scalar.andi v154 v44
  let c4_i32_83 : BitVec 32 := 4#32
  let v156 : BitVec 32 := Scalar.shrsi v155 c4_i32_83
  let v157 : BitVec 32 := Scalar.xori v155 v156
  let c15_i32_84 : BitVec 32 := 15#32
  let v158 : BitVec 32 := Scalar.andi v157 c15_i32_84
  let v159 : BitVec 32 := Scalar.shrsi c27030_i32_85 v158
  let c1_i32_86 : BitVec 32 := 1#32
  let v160 : BitVec 32 := Scalar.andi v159 c1_i32_86
  let c10240_i32_87 : BitVec 32 := 10240#32
  let v161 : BitVec 32 := Scalar.muli v160 c10240_i32_87
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c2_i32_88 : BitVec 32 := 2#32
  let v162 : BitVec 32 := Scalar.addi v82 c2_i32_88
  let c8_i32_89 : BitVec 32 := 8#32
  let v163 : BitVec 32 := Scalar.muli v162 c8_i32_89
  let v164 : BitVec 32 := Scalar.addi v161 v163
  v164

def k0_off14 (i : grid0.Coords) (k0_t2 : Fin k0_t2_loop.trips) (v148 : BitVec 32) : Fin 2 → Nat :=
  let c27030_i32_85 : BitVec 32 := 27030#32
  let c14_i32_82 : BitVec 32 := 14#32
  let v154 : BitVec 32 := Scalar.shrsi v148 c14_i32_82
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v155 : BitVec 32 := Scalar.andi v154 v44
  let c4_i32_83 : BitVec 32 := 4#32
  let v156 : BitVec 32 := Scalar.shrsi v155 c4_i32_83
  let v157 : BitVec 32 := Scalar.xori v155 v156
  let c15_i32_84 : BitVec 32 := 15#32
  let v158 : BitVec 32 := Scalar.andi v157 c15_i32_84
  let v159 : BitVec 32 := Scalar.shrsi c27030_i32_85 v158
  let c1_i32_86 : BitVec 32 := 1#32
  let v160 : BitVec 32 := Scalar.andi v159 c1_i32_86
  let c10240_i32_87 : BitVec 32 := 10240#32
  let v161 : BitVec 32 := Scalar.muli v160 c10240_i32_87
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c2_i32_88 : BitVec 32 := 2#32
  let v162 : BitVec 32 := Scalar.addi v82 c2_i32_88
  let c8_i32_89 : BitVec 32 := 8#32
  let v163 : BitVec 32 := Scalar.muli v162 c8_i32_89
  let v164 : BitVec 32 := Scalar.addi v161 v163
  let v165 : BitVec 32 := v164
  let v166 : Index := Scalar.indexCast v165
  let c0_90 : Index := 0#32
  ![v166.toNat, 0]
def k0_off15 (v148 : BitVec 32) : Fin 2 → Nat :=
  let c2047_i32_78 : BitVec 32 := 2047#32
  let v149 : BitVec 32 := Scalar.andi v148 c2047_i32_78
  let v168 : Index := Scalar.indexCast v149
  let c0_91 : Index := 0#32
  ![v168.toNat, 0]
def k0_off16 (v148 : BitVec 32) : Fin 2 → Nat :=
  let c255_i32_79 : BitVec 32 := 255#32
  let v150 : BitVec 32 := Scalar.andi v148 c255_i32_79
  let c2_i32_80 : BitVec 32 := 2#32
  let v151 : BitVec 32 := Scalar.shrsi v148 c2_i32_80
  let c256_i32_81 : BitVec 32 := 256#32
  let v152 : BitVec 32 := Scalar.andi v151 c256_i32_81
  let v153 : BitVec 32 := Scalar.addi v150 v152
  let v173 : Index := Scalar.indexCast v153
  let c0_93 : Index := 0#32
  ![v173.toNat, 0]
def k0_off17 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v177 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c3_i32 : BitVec 32 := 3#32
  let v176 : BitVec 32 := Scalar.addi v82 c3_i32
  let v178 : Index := Scalar.indexCast v176
  ![v177.toNat, v178.toNat]
def k0_mult5 (i : grid0.Coords) (k0_t2 : Fin k0_t2_loop.trips) (v179 : BitVec 32) : BitVec 32 :=
  let c27030_i32_101 : BitVec 32 := 27030#32
  let c14_i32_98 : BitVec 32 := 14#32
  let v185 : BitVec 32 := Scalar.shrsi v179 c14_i32_98
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v186 : BitVec 32 := Scalar.andi v185 v44
  let c4_i32_99 : BitVec 32 := 4#32
  let v187 : BitVec 32 := Scalar.shrsi v186 c4_i32_99
  let v188 : BitVec 32 := Scalar.xori v186 v187
  let c15_i32_100 : BitVec 32 := 15#32
  let v189 : BitVec 32 := Scalar.andi v188 c15_i32_100
  let v190 : BitVec 32 := Scalar.shrsi c27030_i32_101 v189
  let c1_i32_102 : BitVec 32 := 1#32
  let v191 : BitVec 32 := Scalar.andi v190 c1_i32_102
  let c10240_i32_103 : BitVec 32 := 10240#32
  let v192 : BitVec 32 := Scalar.muli v191 c10240_i32_103
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c3_i32_104 : BitVec 32 := 3#32
  let v193 : BitVec 32 := Scalar.addi v82 c3_i32_104
  let c8_i32_105 : BitVec 32 := 8#32
  let v194 : BitVec 32 := Scalar.muli v193 c8_i32_105
  let v195 : BitVec 32 := Scalar.addi v192 v194
  v195

def k0_off18 (i : grid0.Coords) (k0_t2 : Fin k0_t2_loop.trips) (v179 : BitVec 32) : Fin 2 → Nat :=
  let c27030_i32_101 : BitVec 32 := 27030#32
  let c14_i32_98 : BitVec 32 := 14#32
  let v185 : BitVec 32 := Scalar.shrsi v179 c14_i32_98
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v186 : BitVec 32 := Scalar.andi v185 v44
  let c4_i32_99 : BitVec 32 := 4#32
  let v187 : BitVec 32 := Scalar.shrsi v186 c4_i32_99
  let v188 : BitVec 32 := Scalar.xori v186 v187
  let c15_i32_100 : BitVec 32 := 15#32
  let v189 : BitVec 32 := Scalar.andi v188 c15_i32_100
  let v190 : BitVec 32 := Scalar.shrsi c27030_i32_101 v189
  let c1_i32_102 : BitVec 32 := 1#32
  let v191 : BitVec 32 := Scalar.andi v190 c1_i32_102
  let c10240_i32_103 : BitVec 32 := 10240#32
  let v192 : BitVec 32 := Scalar.muli v191 c10240_i32_103
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c3_i32_104 : BitVec 32 := 3#32
  let v193 : BitVec 32 := Scalar.addi v82 c3_i32_104
  let c8_i32_105 : BitVec 32 := 8#32
  let v194 : BitVec 32 := Scalar.muli v193 c8_i32_105
  let v195 : BitVec 32 := Scalar.addi v192 v194
  let v196 : BitVec 32 := v195
  let v197 : Index := Scalar.indexCast v196
  let c0_106 : Index := 0#32
  ![v197.toNat, 0]
def k0_off19 (v179 : BitVec 32) : Fin 2 → Nat :=
  let c2047_i32_94 : BitVec 32 := 2047#32
  let v180 : BitVec 32 := Scalar.andi v179 c2047_i32_94
  let v199 : Index := Scalar.indexCast v180
  let c0_107 : Index := 0#32
  ![v199.toNat, 0]
def k0_off20 (v179 : BitVec 32) : Fin 2 → Nat :=
  let c255_i32_95 : BitVec 32 := 255#32
  let v181 : BitVec 32 := Scalar.andi v179 c255_i32_95
  let c2_i32_96 : BitVec 32 := 2#32
  let v182 : BitVec 32 := Scalar.shrsi v179 c2_i32_96
  let c256_i32_97 : BitVec 32 := 256#32
  let v183 : BitVec 32 := Scalar.andi v182 c256_i32_97
  let v184 : BitVec 32 := Scalar.addi v181 v183
  let v204 : Index := Scalar.indexCast v184
  let c0_109 : Index := 0#32
  ![v204.toNat, 0]
def k0_off21 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v208 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c4_i32_110 : BitVec 32 := 4#32
  let v207 : BitVec 32 := Scalar.addi v82 c4_i32_110
  let v209 : Index := Scalar.indexCast v207
  ![v208.toNat, v209.toNat]
def k0_mult6 (i : grid0.Coords) (k0_t2 : Fin k0_t2_loop.trips) (v210 : BitVec 32) : BitVec 32 :=
  let c27030_i32_118 : BitVec 32 := 27030#32
  let c14_i32_115 : BitVec 32 := 14#32
  let v216 : BitVec 32 := Scalar.shrsi v210 c14_i32_115
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v217 : BitVec 32 := Scalar.andi v216 v44
  let c4_i32_116 : BitVec 32 := 4#32
  let v218 : BitVec 32 := Scalar.shrsi v217 c4_i32_116
  let v219 : BitVec 32 := Scalar.xori v217 v218
  let c15_i32_117 : BitVec 32 := 15#32
  let v220 : BitVec 32 := Scalar.andi v219 c15_i32_117
  let v221 : BitVec 32 := Scalar.shrsi c27030_i32_118 v220
  let c1_i32_119 : BitVec 32 := 1#32
  let v222 : BitVec 32 := Scalar.andi v221 c1_i32_119
  let c10240_i32_120 : BitVec 32 := 10240#32
  let v223 : BitVec 32 := Scalar.muli v222 c10240_i32_120
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c4_i32_121 : BitVec 32 := 4#32
  let v224 : BitVec 32 := Scalar.addi v82 c4_i32_121
  let c8_i32_122 : BitVec 32 := 8#32
  let v225 : BitVec 32 := Scalar.muli v224 c8_i32_122
  let v226 : BitVec 32 := Scalar.addi v223 v225
  v226

def k0_off22 (i : grid0.Coords) (k0_t2 : Fin k0_t2_loop.trips) (v210 : BitVec 32) : Fin 2 → Nat :=
  let c27030_i32_118 : BitVec 32 := 27030#32
  let c14_i32_115 : BitVec 32 := 14#32
  let v216 : BitVec 32 := Scalar.shrsi v210 c14_i32_115
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v217 : BitVec 32 := Scalar.andi v216 v44
  let c4_i32_116 : BitVec 32 := 4#32
  let v218 : BitVec 32 := Scalar.shrsi v217 c4_i32_116
  let v219 : BitVec 32 := Scalar.xori v217 v218
  let c15_i32_117 : BitVec 32 := 15#32
  let v220 : BitVec 32 := Scalar.andi v219 c15_i32_117
  let v221 : BitVec 32 := Scalar.shrsi c27030_i32_118 v220
  let c1_i32_119 : BitVec 32 := 1#32
  let v222 : BitVec 32 := Scalar.andi v221 c1_i32_119
  let c10240_i32_120 : BitVec 32 := 10240#32
  let v223 : BitVec 32 := Scalar.muli v222 c10240_i32_120
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c4_i32_121 : BitVec 32 := 4#32
  let v224 : BitVec 32 := Scalar.addi v82 c4_i32_121
  let c8_i32_122 : BitVec 32 := 8#32
  let v225 : BitVec 32 := Scalar.muli v224 c8_i32_122
  let v226 : BitVec 32 := Scalar.addi v223 v225
  let v227 : BitVec 32 := v226
  let v228 : Index := Scalar.indexCast v227
  let c0_123 : Index := 0#32
  ![v228.toNat, 0]
def k0_off23 (v210 : BitVec 32) : Fin 2 → Nat :=
  let c2047_i32_111 : BitVec 32 := 2047#32
  let v211 : BitVec 32 := Scalar.andi v210 c2047_i32_111
  let v230 : Index := Scalar.indexCast v211
  let c0_124 : Index := 0#32
  ![v230.toNat, 0]
def k0_off24 (v210 : BitVec 32) : Fin 2 → Nat :=
  let c255_i32_112 : BitVec 32 := 255#32
  let v212 : BitVec 32 := Scalar.andi v210 c255_i32_112
  let c2_i32_113 : BitVec 32 := 2#32
  let v213 : BitVec 32 := Scalar.shrsi v210 c2_i32_113
  let c256_i32_114 : BitVec 32 := 256#32
  let v214 : BitVec 32 := Scalar.andi v213 c256_i32_114
  let v215 : BitVec 32 := Scalar.addi v212 v214
  let v235 : Index := Scalar.indexCast v215
  let c0_126 : Index := 0#32
  ![v235.toNat, 0]
def k0_off25 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v239 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c5_i32 : BitVec 32 := 5#32
  let v238 : BitVec 32 := Scalar.addi v82 c5_i32
  let v240 : Index := Scalar.indexCast v238
  ![v239.toNat, v240.toNat]
def k0_mult7 (i : grid0.Coords) (k0_t2 : Fin k0_t2_loop.trips) (v241 : BitVec 32) : BitVec 32 :=
  let c27030_i32_134 : BitVec 32 := 27030#32
  let c14_i32_131 : BitVec 32 := 14#32
  let v247 : BitVec 32 := Scalar.shrsi v241 c14_i32_131
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v248 : BitVec 32 := Scalar.andi v247 v44
  let c4_i32_132 : BitVec 32 := 4#32
  let v249 : BitVec 32 := Scalar.shrsi v248 c4_i32_132
  let v250 : BitVec 32 := Scalar.xori v248 v249
  let c15_i32_133 : BitVec 32 := 15#32
  let v251 : BitVec 32 := Scalar.andi v250 c15_i32_133
  let v252 : BitVec 32 := Scalar.shrsi c27030_i32_134 v251
  let c1_i32_135 : BitVec 32 := 1#32
  let v253 : BitVec 32 := Scalar.andi v252 c1_i32_135
  let c10240_i32_136 : BitVec 32 := 10240#32
  let v254 : BitVec 32 := Scalar.muli v253 c10240_i32_136
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c5_i32_137 : BitVec 32 := 5#32
  let v255 : BitVec 32 := Scalar.addi v82 c5_i32_137
  let c8_i32_138 : BitVec 32 := 8#32
  let v256 : BitVec 32 := Scalar.muli v255 c8_i32_138
  let v257 : BitVec 32 := Scalar.addi v254 v256
  v257

def k0_off26 (i : grid0.Coords) (k0_t2 : Fin k0_t2_loop.trips) (v241 : BitVec 32) : Fin 2 → Nat :=
  let c27030_i32_134 : BitVec 32 := 27030#32
  let c14_i32_131 : BitVec 32 := 14#32
  let v247 : BitVec 32 := Scalar.shrsi v241 c14_i32_131
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v248 : BitVec 32 := Scalar.andi v247 v44
  let c4_i32_132 : BitVec 32 := 4#32
  let v249 : BitVec 32 := Scalar.shrsi v248 c4_i32_132
  let v250 : BitVec 32 := Scalar.xori v248 v249
  let c15_i32_133 : BitVec 32 := 15#32
  let v251 : BitVec 32 := Scalar.andi v250 c15_i32_133
  let v252 : BitVec 32 := Scalar.shrsi c27030_i32_134 v251
  let c1_i32_135 : BitVec 32 := 1#32
  let v253 : BitVec 32 := Scalar.andi v252 c1_i32_135
  let c10240_i32_136 : BitVec 32 := 10240#32
  let v254 : BitVec 32 := Scalar.muli v253 c10240_i32_136
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c5_i32_137 : BitVec 32 := 5#32
  let v255 : BitVec 32 := Scalar.addi v82 c5_i32_137
  let c8_i32_138 : BitVec 32 := 8#32
  let v256 : BitVec 32 := Scalar.muli v255 c8_i32_138
  let v257 : BitVec 32 := Scalar.addi v254 v256
  let v258 : BitVec 32 := v257
  let v259 : Index := Scalar.indexCast v258
  let c0_139 : Index := 0#32
  ![v259.toNat, 0]
def k0_off27 (v241 : BitVec 32) : Fin 2 → Nat :=
  let c2047_i32_127 : BitVec 32 := 2047#32
  let v242 : BitVec 32 := Scalar.andi v241 c2047_i32_127
  let v261 : Index := Scalar.indexCast v242
  let c0_140 : Index := 0#32
  ![v261.toNat, 0]
def k0_off28 (v241 : BitVec 32) : Fin 2 → Nat :=
  let c255_i32_128 : BitVec 32 := 255#32
  let v243 : BitVec 32 := Scalar.andi v241 c255_i32_128
  let c2_i32_129 : BitVec 32 := 2#32
  let v244 : BitVec 32 := Scalar.shrsi v241 c2_i32_129
  let c256_i32_130 : BitVec 32 := 256#32
  let v245 : BitVec 32 := Scalar.andi v244 c256_i32_130
  let v246 : BitVec 32 := Scalar.addi v243 v245
  let v266 : Index := Scalar.indexCast v246
  let c0_142 : Index := 0#32
  ![v266.toNat, 0]
def k0_off29 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v270 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c6_i32 : BitVec 32 := 6#32
  let v269 : BitVec 32 := Scalar.addi v82 c6_i32
  let v271 : Index := Scalar.indexCast v269
  ![v270.toNat, v271.toNat]
def k0_mult8 (i : grid0.Coords) (k0_t2 : Fin k0_t2_loop.trips) (v272 : BitVec 32) : BitVec 32 :=
  let c27030_i32_150 : BitVec 32 := 27030#32
  let c14_i32_147 : BitVec 32 := 14#32
  let v278 : BitVec 32 := Scalar.shrsi v272 c14_i32_147
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v279 : BitVec 32 := Scalar.andi v278 v44
  let c4_i32_148 : BitVec 32 := 4#32
  let v280 : BitVec 32 := Scalar.shrsi v279 c4_i32_148
  let v281 : BitVec 32 := Scalar.xori v279 v280
  let c15_i32_149 : BitVec 32 := 15#32
  let v282 : BitVec 32 := Scalar.andi v281 c15_i32_149
  let v283 : BitVec 32 := Scalar.shrsi c27030_i32_150 v282
  let c1_i32_151 : BitVec 32 := 1#32
  let v284 : BitVec 32 := Scalar.andi v283 c1_i32_151
  let c10240_i32_152 : BitVec 32 := 10240#32
  let v285 : BitVec 32 := Scalar.muli v284 c10240_i32_152
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c6_i32_153 : BitVec 32 := 6#32
  let v286 : BitVec 32 := Scalar.addi v82 c6_i32_153
  let c8_i32_154 : BitVec 32 := 8#32
  let v287 : BitVec 32 := Scalar.muli v286 c8_i32_154
  let v288 : BitVec 32 := Scalar.addi v285 v287
  v288

def k0_off30 (i : grid0.Coords) (k0_t2 : Fin k0_t2_loop.trips) (v272 : BitVec 32) : Fin 2 → Nat :=
  let c27030_i32_150 : BitVec 32 := 27030#32
  let c14_i32_147 : BitVec 32 := 14#32
  let v278 : BitVec 32 := Scalar.shrsi v272 c14_i32_147
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v279 : BitVec 32 := Scalar.andi v278 v44
  let c4_i32_148 : BitVec 32 := 4#32
  let v280 : BitVec 32 := Scalar.shrsi v279 c4_i32_148
  let v281 : BitVec 32 := Scalar.xori v279 v280
  let c15_i32_149 : BitVec 32 := 15#32
  let v282 : BitVec 32 := Scalar.andi v281 c15_i32_149
  let v283 : BitVec 32 := Scalar.shrsi c27030_i32_150 v282
  let c1_i32_151 : BitVec 32 := 1#32
  let v284 : BitVec 32 := Scalar.andi v283 c1_i32_151
  let c10240_i32_152 : BitVec 32 := 10240#32
  let v285 : BitVec 32 := Scalar.muli v284 c10240_i32_152
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c6_i32_153 : BitVec 32 := 6#32
  let v286 : BitVec 32 := Scalar.addi v82 c6_i32_153
  let c8_i32_154 : BitVec 32 := 8#32
  let v287 : BitVec 32 := Scalar.muli v286 c8_i32_154
  let v288 : BitVec 32 := Scalar.addi v285 v287
  let v289 : BitVec 32 := v288
  let v290 : Index := Scalar.indexCast v289
  let c0_155 : Index := 0#32
  ![v290.toNat, 0]
def k0_off31 (v272 : BitVec 32) : Fin 2 → Nat :=
  let c2047_i32_143 : BitVec 32 := 2047#32
  let v273 : BitVec 32 := Scalar.andi v272 c2047_i32_143
  let v292 : Index := Scalar.indexCast v273
  let c0_156 : Index := 0#32
  ![v292.toNat, 0]
def k0_off32 (v272 : BitVec 32) : Fin 2 → Nat :=
  let c255_i32_144 : BitVec 32 := 255#32
  let v274 : BitVec 32 := Scalar.andi v272 c255_i32_144
  let c2_i32_145 : BitVec 32 := 2#32
  let v275 : BitVec 32 := Scalar.shrsi v272 c2_i32_145
  let c256_i32_146 : BitVec 32 := 256#32
  let v276 : BitVec 32 := Scalar.andi v275 c256_i32_146
  let v277 : BitVec 32 := Scalar.addi v274 v276
  let v297 : Index := Scalar.indexCast v277
  let c0_158 : Index := 0#32
  ![v297.toNat, 0]
def k0_off33 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v301 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c7_i32 : BitVec 32 := 7#32
  let v300 : BitVec 32 := Scalar.addi v82 c7_i32
  let v302 : Index := Scalar.indexCast v300
  ![v301.toNat, v302.toNat]
def k0_mult9 (i : grid0.Coords) (k0_t2 : Fin k0_t2_loop.trips) (v303 : BitVec 32) : BitVec 32 :=
  let c27030_i32_166 : BitVec 32 := 27030#32
  let c14_i32_163 : BitVec 32 := 14#32
  let v309 : BitVec 32 := Scalar.shrsi v303 c14_i32_163
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v310 : BitVec 32 := Scalar.andi v309 v44
  let c4_i32_164 : BitVec 32 := 4#32
  let v311 : BitVec 32 := Scalar.shrsi v310 c4_i32_164
  let v312 : BitVec 32 := Scalar.xori v310 v311
  let c15_i32_165 : BitVec 32 := 15#32
  let v313 : BitVec 32 := Scalar.andi v312 c15_i32_165
  let v314 : BitVec 32 := Scalar.shrsi c27030_i32_166 v313
  let c1_i32_167 : BitVec 32 := 1#32
  let v315 : BitVec 32 := Scalar.andi v314 c1_i32_167
  let c10240_i32_168 : BitVec 32 := 10240#32
  let v316 : BitVec 32 := Scalar.muli v315 c10240_i32_168
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c7_i32_169 : BitVec 32 := 7#32
  let v317 : BitVec 32 := Scalar.addi v82 c7_i32_169
  let c8_i32_170 : BitVec 32 := 8#32
  let v318 : BitVec 32 := Scalar.muli v317 c8_i32_170
  let v319 : BitVec 32 := Scalar.addi v316 v318
  v319

def k0_off34 (i : grid0.Coords) (k0_t2 : Fin k0_t2_loop.trips) (v303 : BitVec 32) : Fin 2 → Nat :=
  let c27030_i32_166 : BitVec 32 := 27030#32
  let c14_i32_163 : BitVec 32 := 14#32
  let v309 : BitVec 32 := Scalar.shrsi v303 c14_i32_163
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v310 : BitVec 32 := Scalar.andi v309 v44
  let c4_i32_164 : BitVec 32 := 4#32
  let v311 : BitVec 32 := Scalar.shrsi v310 c4_i32_164
  let v312 : BitVec 32 := Scalar.xori v310 v311
  let c15_i32_165 : BitVec 32 := 15#32
  let v313 : BitVec 32 := Scalar.andi v312 c15_i32_165
  let v314 : BitVec 32 := Scalar.shrsi c27030_i32_166 v313
  let c1_i32_167 : BitVec 32 := 1#32
  let v315 : BitVec 32 := Scalar.andi v314 c1_i32_167
  let c10240_i32_168 : BitVec 32 := 10240#32
  let v316 : BitVec 32 := Scalar.muli v315 c10240_i32_168
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c7_i32_169 : BitVec 32 := 7#32
  let v317 : BitVec 32 := Scalar.addi v82 c7_i32_169
  let c8_i32_170 : BitVec 32 := 8#32
  let v318 : BitVec 32 := Scalar.muli v317 c8_i32_170
  let v319 : BitVec 32 := Scalar.addi v316 v318
  let v320 : BitVec 32 := v319
  let v321 : Index := Scalar.indexCast v320
  let c0_171 : Index := 0#32
  ![v321.toNat, 0]
def k0_off35 (v303 : BitVec 32) : Fin 2 → Nat :=
  let c2047_i32_159 : BitVec 32 := 2047#32
  let v304 : BitVec 32 := Scalar.andi v303 c2047_i32_159
  let v323 : Index := Scalar.indexCast v304
  let c0_172 : Index := 0#32
  ![v323.toNat, 0]
def k0_off36 (v303 : BitVec 32) : Fin 2 → Nat :=
  let c255_i32_160 : BitVec 32 := 255#32
  let v305 : BitVec 32 := Scalar.andi v303 c255_i32_160
  let c2_i32_161 : BitVec 32 := 2#32
  let v306 : BitVec 32 := Scalar.shrsi v303 c2_i32_161
  let c256_i32_162 : BitVec 32 := 256#32
  let v307 : BitVec 32 := Scalar.andi v306 c256_i32_162
  let v308 : BitVec 32 := Scalar.addi v305 v307
  let v328 : Index := Scalar.indexCast v308
  let c0_174 : Index := 0#32
  ![v328.toNat, 0]
def k0_off37 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v332 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c8_i32_175 : BitVec 32 := 8#32
  let v331 : BitVec 32 := Scalar.addi v82 c8_i32_175
  let v333 : Index := Scalar.indexCast v331
  ![v332.toNat, v333.toNat]
def k0_mult10 (i : grid0.Coords) (k0_t2 : Fin k0_t2_loop.trips) (v334 : BitVec 32) : BitVec 32 :=
  let c27030_i32_183 : BitVec 32 := 27030#32
  let c14_i32_180 : BitVec 32 := 14#32
  let v340 : BitVec 32 := Scalar.shrsi v334 c14_i32_180
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v341 : BitVec 32 := Scalar.andi v340 v44
  let c4_i32_181 : BitVec 32 := 4#32
  let v342 : BitVec 32 := Scalar.shrsi v341 c4_i32_181
  let v343 : BitVec 32 := Scalar.xori v341 v342
  let c15_i32_182 : BitVec 32 := 15#32
  let v344 : BitVec 32 := Scalar.andi v343 c15_i32_182
  let v345 : BitVec 32 := Scalar.shrsi c27030_i32_183 v344
  let c1_i32_184 : BitVec 32 := 1#32
  let v346 : BitVec 32 := Scalar.andi v345 c1_i32_184
  let c10240_i32_185 : BitVec 32 := 10240#32
  let v347 : BitVec 32 := Scalar.muli v346 c10240_i32_185
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c8_i32_186 : BitVec 32 := 8#32
  let v348 : BitVec 32 := Scalar.addi v82 c8_i32_186
  let c8_i32_187 : BitVec 32 := 8#32
  let v349 : BitVec 32 := Scalar.muli v348 c8_i32_187
  let v350 : BitVec 32 := Scalar.addi v347 v349
  v350

def k0_off38 (i : grid0.Coords) (k0_t2 : Fin k0_t2_loop.trips) (v334 : BitVec 32) : Fin 2 → Nat :=
  let c27030_i32_183 : BitVec 32 := 27030#32
  let c14_i32_180 : BitVec 32 := 14#32
  let v340 : BitVec 32 := Scalar.shrsi v334 c14_i32_180
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v341 : BitVec 32 := Scalar.andi v340 v44
  let c4_i32_181 : BitVec 32 := 4#32
  let v342 : BitVec 32 := Scalar.shrsi v341 c4_i32_181
  let v343 : BitVec 32 := Scalar.xori v341 v342
  let c15_i32_182 : BitVec 32 := 15#32
  let v344 : BitVec 32 := Scalar.andi v343 c15_i32_182
  let v345 : BitVec 32 := Scalar.shrsi c27030_i32_183 v344
  let c1_i32_184 : BitVec 32 := 1#32
  let v346 : BitVec 32 := Scalar.andi v345 c1_i32_184
  let c10240_i32_185 : BitVec 32 := 10240#32
  let v347 : BitVec 32 := Scalar.muli v346 c10240_i32_185
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c8_i32_186 : BitVec 32 := 8#32
  let v348 : BitVec 32 := Scalar.addi v82 c8_i32_186
  let c8_i32_187 : BitVec 32 := 8#32
  let v349 : BitVec 32 := Scalar.muli v348 c8_i32_187
  let v350 : BitVec 32 := Scalar.addi v347 v349
  let v351 : BitVec 32 := v350
  let v352 : Index := Scalar.indexCast v351
  let c0_188 : Index := 0#32
  ![v352.toNat, 0]
def k0_off39 (v334 : BitVec 32) : Fin 2 → Nat :=
  let c2047_i32_176 : BitVec 32 := 2047#32
  let v335 : BitVec 32 := Scalar.andi v334 c2047_i32_176
  let v354 : Index := Scalar.indexCast v335
  let c0_189 : Index := 0#32
  ![v354.toNat, 0]
def k0_off40 (v334 : BitVec 32) : Fin 2 → Nat :=
  let c255_i32_177 : BitVec 32 := 255#32
  let v336 : BitVec 32 := Scalar.andi v334 c255_i32_177
  let c2_i32_178 : BitVec 32 := 2#32
  let v337 : BitVec 32 := Scalar.shrsi v334 c2_i32_178
  let c256_i32_179 : BitVec 32 := 256#32
  let v338 : BitVec 32 := Scalar.andi v337 c256_i32_179
  let v339 : BitVec 32 := Scalar.addi v336 v338
  let v359 : Index := Scalar.indexCast v339
  let c0_191 : Index := 0#32
  ![v359.toNat, 0]
def k0_off41 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v363 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c9_i32 : BitVec 32 := 9#32
  let v362 : BitVec 32 := Scalar.addi v82 c9_i32
  let v364 : Index := Scalar.indexCast v362
  ![v363.toNat, v364.toNat]
def k0_mult11 (i : grid0.Coords) (k0_t2 : Fin k0_t2_loop.trips) (v365 : BitVec 32) : BitVec 32 :=
  let c27030_i32_199 : BitVec 32 := 27030#32
  let c14_i32_196 : BitVec 32 := 14#32
  let v371 : BitVec 32 := Scalar.shrsi v365 c14_i32_196
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v372 : BitVec 32 := Scalar.andi v371 v44
  let c4_i32_197 : BitVec 32 := 4#32
  let v373 : BitVec 32 := Scalar.shrsi v372 c4_i32_197
  let v374 : BitVec 32 := Scalar.xori v372 v373
  let c15_i32_198 : BitVec 32 := 15#32
  let v375 : BitVec 32 := Scalar.andi v374 c15_i32_198
  let v376 : BitVec 32 := Scalar.shrsi c27030_i32_199 v375
  let c1_i32_200 : BitVec 32 := 1#32
  let v377 : BitVec 32 := Scalar.andi v376 c1_i32_200
  let c10240_i32_201 : BitVec 32 := 10240#32
  let v378 : BitVec 32 := Scalar.muli v377 c10240_i32_201
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c9_i32_202 : BitVec 32 := 9#32
  let v379 : BitVec 32 := Scalar.addi v82 c9_i32_202
  let c8_i32_203 : BitVec 32 := 8#32
  let v380 : BitVec 32 := Scalar.muli v379 c8_i32_203
  let v381 : BitVec 32 := Scalar.addi v378 v380
  v381

def k0_off42 (i : grid0.Coords) (k0_t2 : Fin k0_t2_loop.trips) (v365 : BitVec 32) : Fin 2 → Nat :=
  let c27030_i32_199 : BitVec 32 := 27030#32
  let c14_i32_196 : BitVec 32 := 14#32
  let v371 : BitVec 32 := Scalar.shrsi v365 c14_i32_196
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v372 : BitVec 32 := Scalar.andi v371 v44
  let c4_i32_197 : BitVec 32 := 4#32
  let v373 : BitVec 32 := Scalar.shrsi v372 c4_i32_197
  let v374 : BitVec 32 := Scalar.xori v372 v373
  let c15_i32_198 : BitVec 32 := 15#32
  let v375 : BitVec 32 := Scalar.andi v374 c15_i32_198
  let v376 : BitVec 32 := Scalar.shrsi c27030_i32_199 v375
  let c1_i32_200 : BitVec 32 := 1#32
  let v377 : BitVec 32 := Scalar.andi v376 c1_i32_200
  let c10240_i32_201 : BitVec 32 := 10240#32
  let v378 : BitVec 32 := Scalar.muli v377 c10240_i32_201
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c9_i32_202 : BitVec 32 := 9#32
  let v379 : BitVec 32 := Scalar.addi v82 c9_i32_202
  let c8_i32_203 : BitVec 32 := 8#32
  let v380 : BitVec 32 := Scalar.muli v379 c8_i32_203
  let v381 : BitVec 32 := Scalar.addi v378 v380
  let v382 : BitVec 32 := v381
  let v383 : Index := Scalar.indexCast v382
  let c0_204 : Index := 0#32
  ![v383.toNat, 0]
def k0_off43 (v365 : BitVec 32) : Fin 2 → Nat :=
  let c2047_i32_192 : BitVec 32 := 2047#32
  let v366 : BitVec 32 := Scalar.andi v365 c2047_i32_192
  let v385 : Index := Scalar.indexCast v366
  let c0_205 : Index := 0#32
  ![v385.toNat, 0]
def k0_off44 (v365 : BitVec 32) : Fin 2 → Nat :=
  let c255_i32_193 : BitVec 32 := 255#32
  let v367 : BitVec 32 := Scalar.andi v365 c255_i32_193
  let c2_i32_194 : BitVec 32 := 2#32
  let v368 : BitVec 32 := Scalar.shrsi v365 c2_i32_194
  let c256_i32_195 : BitVec 32 := 256#32
  let v369 : BitVec 32 := Scalar.andi v368 c256_i32_195
  let v370 : BitVec 32 := Scalar.addi v367 v369
  let v390 : Index := Scalar.indexCast v370
  let c0_207 : Index := 0#32
  ![v390.toNat, 0]
def k0_off45 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v394 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c10_i32 : BitVec 32 := 10#32
  let v393 : BitVec 32 := Scalar.addi v82 c10_i32
  let v395 : Index := Scalar.indexCast v393
  ![v394.toNat, v395.toNat]
def k0_mult12 (i : grid0.Coords) (k0_t2 : Fin k0_t2_loop.trips) (v396 : BitVec 32) : BitVec 32 :=
  let c27030_i32_215 : BitVec 32 := 27030#32
  let c14_i32_212 : BitVec 32 := 14#32
  let v402 : BitVec 32 := Scalar.shrsi v396 c14_i32_212
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v403 : BitVec 32 := Scalar.andi v402 v44
  let c4_i32_213 : BitVec 32 := 4#32
  let v404 : BitVec 32 := Scalar.shrsi v403 c4_i32_213
  let v405 : BitVec 32 := Scalar.xori v403 v404
  let c15_i32_214 : BitVec 32 := 15#32
  let v406 : BitVec 32 := Scalar.andi v405 c15_i32_214
  let v407 : BitVec 32 := Scalar.shrsi c27030_i32_215 v406
  let c1_i32_216 : BitVec 32 := 1#32
  let v408 : BitVec 32 := Scalar.andi v407 c1_i32_216
  let c10240_i32_217 : BitVec 32 := 10240#32
  let v409 : BitVec 32 := Scalar.muli v408 c10240_i32_217
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c10_i32_218 : BitVec 32 := 10#32
  let v410 : BitVec 32 := Scalar.addi v82 c10_i32_218
  let c8_i32_219 : BitVec 32 := 8#32
  let v411 : BitVec 32 := Scalar.muli v410 c8_i32_219
  let v412 : BitVec 32 := Scalar.addi v409 v411
  v412

def k0_off46 (i : grid0.Coords) (k0_t2 : Fin k0_t2_loop.trips) (v396 : BitVec 32) : Fin 2 → Nat :=
  let c27030_i32_215 : BitVec 32 := 27030#32
  let c14_i32_212 : BitVec 32 := 14#32
  let v402 : BitVec 32 := Scalar.shrsi v396 c14_i32_212
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v403 : BitVec 32 := Scalar.andi v402 v44
  let c4_i32_213 : BitVec 32 := 4#32
  let v404 : BitVec 32 := Scalar.shrsi v403 c4_i32_213
  let v405 : BitVec 32 := Scalar.xori v403 v404
  let c15_i32_214 : BitVec 32 := 15#32
  let v406 : BitVec 32 := Scalar.andi v405 c15_i32_214
  let v407 : BitVec 32 := Scalar.shrsi c27030_i32_215 v406
  let c1_i32_216 : BitVec 32 := 1#32
  let v408 : BitVec 32 := Scalar.andi v407 c1_i32_216
  let c10240_i32_217 : BitVec 32 := 10240#32
  let v409 : BitVec 32 := Scalar.muli v408 c10240_i32_217
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c10_i32_218 : BitVec 32 := 10#32
  let v410 : BitVec 32 := Scalar.addi v82 c10_i32_218
  let c8_i32_219 : BitVec 32 := 8#32
  let v411 : BitVec 32 := Scalar.muli v410 c8_i32_219
  let v412 : BitVec 32 := Scalar.addi v409 v411
  let v413 : BitVec 32 := v412
  let v414 : Index := Scalar.indexCast v413
  let c0_220 : Index := 0#32
  ![v414.toNat, 0]
def k0_off47 (v396 : BitVec 32) : Fin 2 → Nat :=
  let c2047_i32_208 : BitVec 32 := 2047#32
  let v397 : BitVec 32 := Scalar.andi v396 c2047_i32_208
  let v416 : Index := Scalar.indexCast v397
  let c0_221 : Index := 0#32
  ![v416.toNat, 0]
def k0_off48 (v396 : BitVec 32) : Fin 2 → Nat :=
  let c255_i32_209 : BitVec 32 := 255#32
  let v398 : BitVec 32 := Scalar.andi v396 c255_i32_209
  let c2_i32_210 : BitVec 32 := 2#32
  let v399 : BitVec 32 := Scalar.shrsi v396 c2_i32_210
  let c256_i32_211 : BitVec 32 := 256#32
  let v400 : BitVec 32 := Scalar.andi v399 c256_i32_211
  let v401 : BitVec 32 := Scalar.addi v398 v400
  let v421 : Index := Scalar.indexCast v401
  let c0_223 : Index := 0#32
  ![v421.toNat, 0]
def k0_off49 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v425 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c11_i32 : BitVec 32 := 11#32
  let v424 : BitVec 32 := Scalar.addi v82 c11_i32
  let v426 : Index := Scalar.indexCast v424
  ![v425.toNat, v426.toNat]
def k0_mult13 (i : grid0.Coords) (k0_t2 : Fin k0_t2_loop.trips) (v427 : BitVec 32) : BitVec 32 :=
  let c27030_i32_231 : BitVec 32 := 27030#32
  let c14_i32_228 : BitVec 32 := 14#32
  let v433 : BitVec 32 := Scalar.shrsi v427 c14_i32_228
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v434 : BitVec 32 := Scalar.andi v433 v44
  let c4_i32_229 : BitVec 32 := 4#32
  let v435 : BitVec 32 := Scalar.shrsi v434 c4_i32_229
  let v436 : BitVec 32 := Scalar.xori v434 v435
  let c15_i32_230 : BitVec 32 := 15#32
  let v437 : BitVec 32 := Scalar.andi v436 c15_i32_230
  let v438 : BitVec 32 := Scalar.shrsi c27030_i32_231 v437
  let c1_i32_232 : BitVec 32 := 1#32
  let v439 : BitVec 32 := Scalar.andi v438 c1_i32_232
  let c10240_i32_233 : BitVec 32 := 10240#32
  let v440 : BitVec 32 := Scalar.muli v439 c10240_i32_233
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c11_i32_234 : BitVec 32 := 11#32
  let v441 : BitVec 32 := Scalar.addi v82 c11_i32_234
  let c8_i32_235 : BitVec 32 := 8#32
  let v442 : BitVec 32 := Scalar.muli v441 c8_i32_235
  let v443 : BitVec 32 := Scalar.addi v440 v442
  v443

def k0_off50 (i : grid0.Coords) (k0_t2 : Fin k0_t2_loop.trips) (v427 : BitVec 32) : Fin 2 → Nat :=
  let c27030_i32_231 : BitVec 32 := 27030#32
  let c14_i32_228 : BitVec 32 := 14#32
  let v433 : BitVec 32 := Scalar.shrsi v427 c14_i32_228
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v434 : BitVec 32 := Scalar.andi v433 v44
  let c4_i32_229 : BitVec 32 := 4#32
  let v435 : BitVec 32 := Scalar.shrsi v434 c4_i32_229
  let v436 : BitVec 32 := Scalar.xori v434 v435
  let c15_i32_230 : BitVec 32 := 15#32
  let v437 : BitVec 32 := Scalar.andi v436 c15_i32_230
  let v438 : BitVec 32 := Scalar.shrsi c27030_i32_231 v437
  let c1_i32_232 : BitVec 32 := 1#32
  let v439 : BitVec 32 := Scalar.andi v438 c1_i32_232
  let c10240_i32_233 : BitVec 32 := 10240#32
  let v440 : BitVec 32 := Scalar.muli v439 c10240_i32_233
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c11_i32_234 : BitVec 32 := 11#32
  let v441 : BitVec 32 := Scalar.addi v82 c11_i32_234
  let c8_i32_235 : BitVec 32 := 8#32
  let v442 : BitVec 32 := Scalar.muli v441 c8_i32_235
  let v443 : BitVec 32 := Scalar.addi v440 v442
  let v444 : BitVec 32 := v443
  let v445 : Index := Scalar.indexCast v444
  let c0_236 : Index := 0#32
  ![v445.toNat, 0]
def k0_off51 (v427 : BitVec 32) : Fin 2 → Nat :=
  let c2047_i32_224 : BitVec 32 := 2047#32
  let v428 : BitVec 32 := Scalar.andi v427 c2047_i32_224
  let v447 : Index := Scalar.indexCast v428
  let c0_237 : Index := 0#32
  ![v447.toNat, 0]
def k0_off52 (v427 : BitVec 32) : Fin 2 → Nat :=
  let c255_i32_225 : BitVec 32 := 255#32
  let v429 : BitVec 32 := Scalar.andi v427 c255_i32_225
  let c2_i32_226 : BitVec 32 := 2#32
  let v430 : BitVec 32 := Scalar.shrsi v427 c2_i32_226
  let c256_i32_227 : BitVec 32 := 256#32
  let v431 : BitVec 32 := Scalar.andi v430 c256_i32_227
  let v432 : BitVec 32 := Scalar.addi v429 v431
  let v452 : Index := Scalar.indexCast v432
  let c0_239 : Index := 0#32
  ![v452.toNat, 0]
def k0_off53 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v456 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c12_i32 : BitVec 32 := 12#32
  let v455 : BitVec 32 := Scalar.addi v82 c12_i32
  let v457 : Index := Scalar.indexCast v455
  ![v456.toNat, v457.toNat]
def k0_mult14 (i : grid0.Coords) (k0_t2 : Fin k0_t2_loop.trips) (v458 : BitVec 32) : BitVec 32 :=
  let c27030_i32_247 : BitVec 32 := 27030#32
  let c14_i32_244 : BitVec 32 := 14#32
  let v464 : BitVec 32 := Scalar.shrsi v458 c14_i32_244
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v465 : BitVec 32 := Scalar.andi v464 v44
  let c4_i32_245 : BitVec 32 := 4#32
  let v466 : BitVec 32 := Scalar.shrsi v465 c4_i32_245
  let v467 : BitVec 32 := Scalar.xori v465 v466
  let c15_i32_246 : BitVec 32 := 15#32
  let v468 : BitVec 32 := Scalar.andi v467 c15_i32_246
  let v469 : BitVec 32 := Scalar.shrsi c27030_i32_247 v468
  let c1_i32_248 : BitVec 32 := 1#32
  let v470 : BitVec 32 := Scalar.andi v469 c1_i32_248
  let c10240_i32_249 : BitVec 32 := 10240#32
  let v471 : BitVec 32 := Scalar.muli v470 c10240_i32_249
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c12_i32_250 : BitVec 32 := 12#32
  let v472 : BitVec 32 := Scalar.addi v82 c12_i32_250
  let c8_i32_251 : BitVec 32 := 8#32
  let v473 : BitVec 32 := Scalar.muli v472 c8_i32_251
  let v474 : BitVec 32 := Scalar.addi v471 v473
  v474

def k0_off54 (i : grid0.Coords) (k0_t2 : Fin k0_t2_loop.trips) (v458 : BitVec 32) : Fin 2 → Nat :=
  let c27030_i32_247 : BitVec 32 := 27030#32
  let c14_i32_244 : BitVec 32 := 14#32
  let v464 : BitVec 32 := Scalar.shrsi v458 c14_i32_244
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v465 : BitVec 32 := Scalar.andi v464 v44
  let c4_i32_245 : BitVec 32 := 4#32
  let v466 : BitVec 32 := Scalar.shrsi v465 c4_i32_245
  let v467 : BitVec 32 := Scalar.xori v465 v466
  let c15_i32_246 : BitVec 32 := 15#32
  let v468 : BitVec 32 := Scalar.andi v467 c15_i32_246
  let v469 : BitVec 32 := Scalar.shrsi c27030_i32_247 v468
  let c1_i32_248 : BitVec 32 := 1#32
  let v470 : BitVec 32 := Scalar.andi v469 c1_i32_248
  let c10240_i32_249 : BitVec 32 := 10240#32
  let v471 : BitVec 32 := Scalar.muli v470 c10240_i32_249
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c12_i32_250 : BitVec 32 := 12#32
  let v472 : BitVec 32 := Scalar.addi v82 c12_i32_250
  let c8_i32_251 : BitVec 32 := 8#32
  let v473 : BitVec 32 := Scalar.muli v472 c8_i32_251
  let v474 : BitVec 32 := Scalar.addi v471 v473
  let v475 : BitVec 32 := v474
  let v476 : Index := Scalar.indexCast v475
  let c0_252 : Index := 0#32
  ![v476.toNat, 0]
def k0_off55 (v458 : BitVec 32) : Fin 2 → Nat :=
  let c2047_i32_240 : BitVec 32 := 2047#32
  let v459 : BitVec 32 := Scalar.andi v458 c2047_i32_240
  let v478 : Index := Scalar.indexCast v459
  let c0_253 : Index := 0#32
  ![v478.toNat, 0]
def k0_off56 (v458 : BitVec 32) : Fin 2 → Nat :=
  let c255_i32_241 : BitVec 32 := 255#32
  let v460 : BitVec 32 := Scalar.andi v458 c255_i32_241
  let c2_i32_242 : BitVec 32 := 2#32
  let v461 : BitVec 32 := Scalar.shrsi v458 c2_i32_242
  let c256_i32_243 : BitVec 32 := 256#32
  let v462 : BitVec 32 := Scalar.andi v461 c256_i32_243
  let v463 : BitVec 32 := Scalar.addi v460 v462
  let v483 : Index := Scalar.indexCast v463
  let c0_255 : Index := 0#32
  ![v483.toNat, 0]
def k0_off57 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v487 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c13_i32 : BitVec 32 := 13#32
  let v486 : BitVec 32 := Scalar.addi v82 c13_i32
  let v488 : Index := Scalar.indexCast v486
  ![v487.toNat, v488.toNat]
def k0_mult15 (i : grid0.Coords) (k0_t2 : Fin k0_t2_loop.trips) (v489 : BitVec 32) : BitVec 32 :=
  let c27030_i32_263 : BitVec 32 := 27030#32
  let c14_i32_260 : BitVec 32 := 14#32
  let v495 : BitVec 32 := Scalar.shrsi v489 c14_i32_260
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v496 : BitVec 32 := Scalar.andi v495 v44
  let c4_i32_261 : BitVec 32 := 4#32
  let v497 : BitVec 32 := Scalar.shrsi v496 c4_i32_261
  let v498 : BitVec 32 := Scalar.xori v496 v497
  let c15_i32_262 : BitVec 32 := 15#32
  let v499 : BitVec 32 := Scalar.andi v498 c15_i32_262
  let v500 : BitVec 32 := Scalar.shrsi c27030_i32_263 v499
  let c1_i32_264 : BitVec 32 := 1#32
  let v501 : BitVec 32 := Scalar.andi v500 c1_i32_264
  let c10240_i32_265 : BitVec 32 := 10240#32
  let v502 : BitVec 32 := Scalar.muli v501 c10240_i32_265
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c13_i32_266 : BitVec 32 := 13#32
  let v503 : BitVec 32 := Scalar.addi v82 c13_i32_266
  let c8_i32_267 : BitVec 32 := 8#32
  let v504 : BitVec 32 := Scalar.muli v503 c8_i32_267
  let v505 : BitVec 32 := Scalar.addi v502 v504
  v505

def k0_off58 (i : grid0.Coords) (k0_t2 : Fin k0_t2_loop.trips) (v489 : BitVec 32) : Fin 2 → Nat :=
  let c27030_i32_263 : BitVec 32 := 27030#32
  let c14_i32_260 : BitVec 32 := 14#32
  let v495 : BitVec 32 := Scalar.shrsi v489 c14_i32_260
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v496 : BitVec 32 := Scalar.andi v495 v44
  let c4_i32_261 : BitVec 32 := 4#32
  let v497 : BitVec 32 := Scalar.shrsi v496 c4_i32_261
  let v498 : BitVec 32 := Scalar.xori v496 v497
  let c15_i32_262 : BitVec 32 := 15#32
  let v499 : BitVec 32 := Scalar.andi v498 c15_i32_262
  let v500 : BitVec 32 := Scalar.shrsi c27030_i32_263 v499
  let c1_i32_264 : BitVec 32 := 1#32
  let v501 : BitVec 32 := Scalar.andi v500 c1_i32_264
  let c10240_i32_265 : BitVec 32 := 10240#32
  let v502 : BitVec 32 := Scalar.muli v501 c10240_i32_265
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c13_i32_266 : BitVec 32 := 13#32
  let v503 : BitVec 32 := Scalar.addi v82 c13_i32_266
  let c8_i32_267 : BitVec 32 := 8#32
  let v504 : BitVec 32 := Scalar.muli v503 c8_i32_267
  let v505 : BitVec 32 := Scalar.addi v502 v504
  let v506 : BitVec 32 := v505
  let v507 : Index := Scalar.indexCast v506
  let c0_268 : Index := 0#32
  ![v507.toNat, 0]
def k0_off59 (v489 : BitVec 32) : Fin 2 → Nat :=
  let c2047_i32_256 : BitVec 32 := 2047#32
  let v490 : BitVec 32 := Scalar.andi v489 c2047_i32_256
  let v509 : Index := Scalar.indexCast v490
  let c0_269 : Index := 0#32
  ![v509.toNat, 0]
def k0_off60 (v489 : BitVec 32) : Fin 2 → Nat :=
  let c255_i32_257 : BitVec 32 := 255#32
  let v491 : BitVec 32 := Scalar.andi v489 c255_i32_257
  let c2_i32_258 : BitVec 32 := 2#32
  let v492 : BitVec 32 := Scalar.shrsi v489 c2_i32_258
  let c256_i32_259 : BitVec 32 := 256#32
  let v493 : BitVec 32 := Scalar.andi v492 c256_i32_259
  let v494 : BitVec 32 := Scalar.addi v491 v493
  let v514 : Index := Scalar.indexCast v494
  let c0_271 : Index := 0#32
  ![v514.toNat, 0]
def k0_off61 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v518 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c14_i32_272 : BitVec 32 := 14#32
  let v517 : BitVec 32 := Scalar.addi v82 c14_i32_272
  let v519 : Index := Scalar.indexCast v517
  ![v518.toNat, v519.toNat]
def k0_mult16 (i : grid0.Coords) (k0_t2 : Fin k0_t2_loop.trips) (v520 : BitVec 32) : BitVec 32 :=
  let c27030_i32_280 : BitVec 32 := 27030#32
  let c14_i32_277 : BitVec 32 := 14#32
  let v526 : BitVec 32 := Scalar.shrsi v520 c14_i32_277
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v527 : BitVec 32 := Scalar.andi v526 v44
  let c4_i32_278 : BitVec 32 := 4#32
  let v528 : BitVec 32 := Scalar.shrsi v527 c4_i32_278
  let v529 : BitVec 32 := Scalar.xori v527 v528
  let c15_i32_279 : BitVec 32 := 15#32
  let v530 : BitVec 32 := Scalar.andi v529 c15_i32_279
  let v531 : BitVec 32 := Scalar.shrsi c27030_i32_280 v530
  let c1_i32_281 : BitVec 32 := 1#32
  let v532 : BitVec 32 := Scalar.andi v531 c1_i32_281
  let c10240_i32_282 : BitVec 32 := 10240#32
  let v533 : BitVec 32 := Scalar.muli v532 c10240_i32_282
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c14_i32_283 : BitVec 32 := 14#32
  let v534 : BitVec 32 := Scalar.addi v82 c14_i32_283
  let c8_i32_284 : BitVec 32 := 8#32
  let v535 : BitVec 32 := Scalar.muli v534 c8_i32_284
  let v536 : BitVec 32 := Scalar.addi v533 v535
  v536

def k0_off62 (i : grid0.Coords) (k0_t2 : Fin k0_t2_loop.trips) (v520 : BitVec 32) : Fin 2 → Nat :=
  let c27030_i32_280 : BitVec 32 := 27030#32
  let c14_i32_277 : BitVec 32 := 14#32
  let v526 : BitVec 32 := Scalar.shrsi v520 c14_i32_277
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v527 : BitVec 32 := Scalar.andi v526 v44
  let c4_i32_278 : BitVec 32 := 4#32
  let v528 : BitVec 32 := Scalar.shrsi v527 c4_i32_278
  let v529 : BitVec 32 := Scalar.xori v527 v528
  let c15_i32_279 : BitVec 32 := 15#32
  let v530 : BitVec 32 := Scalar.andi v529 c15_i32_279
  let v531 : BitVec 32 := Scalar.shrsi c27030_i32_280 v530
  let c1_i32_281 : BitVec 32 := 1#32
  let v532 : BitVec 32 := Scalar.andi v531 c1_i32_281
  let c10240_i32_282 : BitVec 32 := 10240#32
  let v533 : BitVec 32 := Scalar.muli v532 c10240_i32_282
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c14_i32_283 : BitVec 32 := 14#32
  let v534 : BitVec 32 := Scalar.addi v82 c14_i32_283
  let c8_i32_284 : BitVec 32 := 8#32
  let v535 : BitVec 32 := Scalar.muli v534 c8_i32_284
  let v536 : BitVec 32 := Scalar.addi v533 v535
  let v537 : BitVec 32 := v536
  let v538 : Index := Scalar.indexCast v537
  let c0_285 : Index := 0#32
  ![v538.toNat, 0]
def k0_off63 (v520 : BitVec 32) : Fin 2 → Nat :=
  let c2047_i32_273 : BitVec 32 := 2047#32
  let v521 : BitVec 32 := Scalar.andi v520 c2047_i32_273
  let v540 : Index := Scalar.indexCast v521
  let c0_286 : Index := 0#32
  ![v540.toNat, 0]
def k0_off64 (v520 : BitVec 32) : Fin 2 → Nat :=
  let c255_i32_274 : BitVec 32 := 255#32
  let v522 : BitVec 32 := Scalar.andi v520 c255_i32_274
  let c2_i32_275 : BitVec 32 := 2#32
  let v523 : BitVec 32 := Scalar.shrsi v520 c2_i32_275
  let c256_i32_276 : BitVec 32 := 256#32
  let v524 : BitVec 32 := Scalar.andi v523 c256_i32_276
  let v525 : BitVec 32 := Scalar.addi v522 v524
  let v545 : Index := Scalar.indexCast v525
  let c0_288 : Index := 0#32
  ![v545.toNat, 0]
def k0_off65 (i : grid0.Coords) (k0_t2 : Fin k0_t2_loop.trips) : Fin 2 → Nat :=
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c0_i32_12 : BitVec 32 := 0#32
  let v19 : BitVec 1 := Scalar.cmpi .sgt v16 c0_i32_12
  let v20 : BitVec 32 := Scalar.extui v19
  let c0_i32_13 : BitVec 32 := 0#32
  let v21 : BitVec 1 := Scalar.cmpi .slt v16 c0_i32_13
  let v22 : BitVec 32 := Scalar.extui v21
  let v23 : BitVec 32 := Scalar.subi v20 v22
  let c64_i32 : BitVec 32 := 64#32
  let c0_i32_14 : BitVec 32 := 0#32
  let v24 : BitVec 1 := Scalar.cmpi .sgt c64_i32 c0_i32_14
  let v25 : BitVec 32 := Scalar.extui v24
  let c0_i32_15 : BitVec 32 := 0#32
  let v26 : BitVec 1 := Scalar.cmpi .slt c64_i32 c0_i32_15
  let v27 : BitVec 32 := Scalar.extui v26
  let v28 : BitVec 32 := Scalar.subi v25 v27
  let v29 : BitVec 1 := Scalar.cmpi .ne v23 v28
  let v30 : BitVec 32 := Scalar.remsi v16 c64_i32
  let c0_i32_16 : BitVec 32 := 0#32
  let v31 : BitVec 1 := Scalar.cmpi .ne v30 c0_i32_16
  let v32 : BitVec 1 := Scalar.andi v29 v31
  let v18 : BitVec 32 := Scalar.divsi v16 c64_i32
  let c1_i32_17 : BitVec 32 := 1#32
  let v33 : BitVec 32 := Scalar.subi v18 c1_i32_17
  let v34 : BitVec 32 := Scalar.select v32 v33 v18
  let v549 : Index := Scalar.indexCast v34
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c15_i32_289 : BitVec 32 := 15#32
  let v548 : BitVec 32 := Scalar.addi v82 c15_i32_289
  let v550 : Index := Scalar.indexCast v548
  ![v549.toNat, v550.toNat]
def k0_mult17 (i : grid0.Coords) (k0_t2 : Fin k0_t2_loop.trips) (v551 : BitVec 32) : BitVec 32 :=
  let c27030_i32_297 : BitVec 32 := 27030#32
  let c14_i32_294 : BitVec 32 := 14#32
  let v557 : BitVec 32 := Scalar.shrsi v551 c14_i32_294
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v558 : BitVec 32 := Scalar.andi v557 v44
  let c4_i32_295 : BitVec 32 := 4#32
  let v559 : BitVec 32 := Scalar.shrsi v558 c4_i32_295
  let v560 : BitVec 32 := Scalar.xori v558 v559
  let c15_i32_296 : BitVec 32 := 15#32
  let v561 : BitVec 32 := Scalar.andi v560 c15_i32_296
  let v562 : BitVec 32 := Scalar.shrsi c27030_i32_297 v561
  let c1_i32_298 : BitVec 32 := 1#32
  let v563 : BitVec 32 := Scalar.andi v562 c1_i32_298
  let c10240_i32_299 : BitVec 32 := 10240#32
  let v564 : BitVec 32 := Scalar.muli v563 c10240_i32_299
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c15_i32_300 : BitVec 32 := 15#32
  let v565 : BitVec 32 := Scalar.addi v82 c15_i32_300
  let c8_i32_301 : BitVec 32 := 8#32
  let v566 : BitVec 32 := Scalar.muli v565 c8_i32_301
  let v567 : BitVec 32 := Scalar.addi v564 v566
  v567

def k0_off66 (i : grid0.Coords) (k0_t2 : Fin k0_t2_loop.trips) (v551 : BitVec 32) : Fin 2 → Nat :=
  let c27030_i32_297 : BitVec 32 := 27030#32
  let c14_i32_294 : BitVec 32 := 14#32
  let v557 : BitVec 32 := Scalar.shrsi v551 c14_i32_294
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v558 : BitVec 32 := Scalar.andi v557 v44
  let c4_i32_295 : BitVec 32 := 4#32
  let v559 : BitVec 32 := Scalar.shrsi v558 c4_i32_295
  let v560 : BitVec 32 := Scalar.xori v558 v559
  let c15_i32_296 : BitVec 32 := 15#32
  let v561 : BitVec 32 := Scalar.andi v560 c15_i32_296
  let v562 : BitVec 32 := Scalar.shrsi c27030_i32_297 v561
  let c1_i32_298 : BitVec 32 := 1#32
  let v563 : BitVec 32 := Scalar.andi v562 c1_i32_298
  let c10240_i32_299 : BitVec 32 := 10240#32
  let v564 : BitVec 32 := Scalar.muli v563 c10240_i32_299
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c15_i32_300 : BitVec 32 := 15#32
  let v565 : BitVec 32 := Scalar.addi v82 c15_i32_300
  let c8_i32_301 : BitVec 32 := 8#32
  let v566 : BitVec 32 := Scalar.muli v565 c8_i32_301
  let v567 : BitVec 32 := Scalar.addi v564 v566
  let v568 : BitVec 32 := v567
  let v569 : Index := Scalar.indexCast v568
  let c0_302 : Index := 0#32
  ![v569.toNat, 0]
def k0_off67 (v551 : BitVec 32) : Fin 2 → Nat :=
  let c2047_i32_290 : BitVec 32 := 2047#32
  let v552 : BitVec 32 := Scalar.andi v551 c2047_i32_290
  let v571 : Index := Scalar.indexCast v552
  let c0_303 : Index := 0#32
  ![v571.toNat, 0]
def k0_off68 (v551 : BitVec 32) : Fin 2 → Nat :=
  let c255_i32_291 : BitVec 32 := 255#32
  let v553 : BitVec 32 := Scalar.andi v551 c255_i32_291
  let c2_i32_292 : BitVec 32 := 2#32
  let v554 : BitVec 32 := Scalar.shrsi v551 c2_i32_292
  let c256_i32_293 : BitVec 32 := 256#32
  let v555 : BitVec 32 := Scalar.andi v554 c256_i32_293
  let v556 : BitVec 32 := Scalar.addi v553 v555
  let v576 : Index := Scalar.indexCast v556
  let c0_305 : Index := 0#32
  ![v576.toNat, 0]

def k0_chk16 (i : grid0.Coords) (k0_t2 : Fin k0_t2_loop.trips) (v551 : BitVec 32) : Prop :=
  (8 ∣ (k0_mult17 i k0_t2 v551).toNat) ∧
  (∀ a, (k0_off66 i k0_t2 v551) a + S8x128.size a ≤ S20480x128.size a) ∧
  (∀ a, S8x128.size a = 0 ∨ (k0_off67 v551) a + (![2052, 1] : Fin 2 → Nat) a * (S8x128.size a - 1) < S16416x128.size a) ∧
  (∀ a, S8x128.size a = 0 ∨ (k0_off68 v551) a + (![516, 1] : Fin 2 → Nat) a * (S8x128.size a - 1) < S4128x128.size a)
theorem k0_mult17_dvd : ∀ (i : grid0.Coords) (k0_t2 : Fin k0_t2_loop.trips) (v551 : BitVec 32) (k0_hw16 : k0_chk16 i k0_t2 v551), 8 ∣ (k0_mult17 i k0_t2 v551).toNat := fun i k0_t2 v551 k0_hw16 => k0_hw16.1
theorem k0_off66_inb : ∀ (i : grid0.Coords) (k0_t2 : Fin k0_t2_loop.trips) (v551 : BitVec 32) (k0_hw16 : k0_chk16 i k0_t2 v551), ∀ a, (k0_off66 i k0_t2 v551) a + S8x128.size a ≤ S20480x128.size a := fun i k0_t2 v551 k0_hw16 => k0_hw16.2.1
theorem k0_off67_inb : ∀ (i : grid0.Coords) (k0_t2 : Fin k0_t2_loop.trips) (v551 : BitVec 32) (k0_hw16 : k0_chk16 i k0_t2 v551), ∀ a, S8x128.size a = 0 ∨ (k0_off67 v551) a + (![2052, 1] : Fin 2 → Nat) a * (S8x128.size a - 1) < S16416x128.size a := fun i k0_t2 v551 k0_hw16 => k0_hw16.2.2.1
theorem k0_off68_inb : ∀ (i : grid0.Coords) (k0_t2 : Fin k0_t2_loop.trips) (v551 : BitVec 32) (k0_hw16 : k0_chk16 i k0_t2 v551), ∀ a, S8x128.size a = 0 ∨ (k0_off68 v551) a + (![516, 1] : Fin 2 → Nat) a * (S8x128.size a - 1) < S4128x128.size a := fun i k0_t2 v551 k0_hw16 => k0_hw16.2.2.2

def k0_off69 (i : grid0.Coords) (k0_t2 : Fin k0_t2_loop.trips) (v86 : BitVec 32) : Fin 2 → Nat :=
  let c27030_i32 : BitVec 32 := 27030#32
  let c14_i32 : BitVec 32 := 14#32
  let v92 : BitVec 32 := Scalar.shrsi v86 c14_i32
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v93 : BitVec 32 := Scalar.andi v92 v44
  let c4_i32 : BitVec 32 := 4#32
  let v94 : BitVec 32 := Scalar.shrsi v93 c4_i32
  let v95 : BitVec 32 := Scalar.xori v93 v94
  let c15_i32 : BitVec 32 := 15#32
  let v96 : BitVec 32 := Scalar.andi v95 c15_i32
  let v97 : BitVec 32 := Scalar.shrsi c27030_i32 v96
  let c1_i32_53 : BitVec 32 := 1#32
  let v98 : BitVec 32 := Scalar.andi v97 c1_i32_53
  let c10240_i32 : BitVec 32 := 10240#32
  let v99 : BitVec 32 := Scalar.muli v98 c10240_i32
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c0_i32_54 : BitVec 32 := 0#32
  let v100 : BitVec 32 := Scalar.addi v82 c0_i32_54
  let c8_i32_55 : BitVec 32 := 8#32
  let v101 : BitVec 32 := Scalar.muli v100 c8_i32_55
  let v102 : BitVec 32 := Scalar.addi v99 v101
  let v103 : BitVec 32 := v102
  let v579 : Index := Scalar.indexCast v103
  let c0_306 : Index := 0#32
  ![v579.toNat, 0]

def k0_chk1 (i : grid0.Coords) (k0_t2 : Fin k0_t2_loop.trips) (v86 : BitVec 32) : Prop :=
  (8 ∣ (k0_mult2 i k0_t2 v86).toNat) ∧
  (∀ a, (k0_off6 i k0_t2 v86) a + S8x128.size a ≤ S20480x128.size a) ∧
  (∀ a, S8x128.size a = 0 ∨ (k0_off7 v86) a + (![2052, 1] : Fin 2 → Nat) a * (S8x128.size a - 1) < S16416x128.size a) ∧
  (∀ a, S8x128.size a = 0 ∨ (k0_off8 v86) a + (![516, 1] : Fin 2 → Nat) a * (S8x128.size a - 1) < S4128x128.size a) ∧
  (∀ a, (k0_off69 i k0_t2 v86) a + S8x128.size a ≤ S20480x128.size a)
theorem k0_mult2_dvd : ∀ (i : grid0.Coords) (k0_t2 : Fin k0_t2_loop.trips) (v86 : BitVec 32) (k0_hw1 : k0_chk1 i k0_t2 v86), 8 ∣ (k0_mult2 i k0_t2 v86).toNat := fun i k0_t2 v86 k0_hw1 => k0_hw1.1
theorem k0_off6_inb : ∀ (i : grid0.Coords) (k0_t2 : Fin k0_t2_loop.trips) (v86 : BitVec 32) (k0_hw1 : k0_chk1 i k0_t2 v86), ∀ a, (k0_off6 i k0_t2 v86) a + S8x128.size a ≤ S20480x128.size a := fun i k0_t2 v86 k0_hw1 => k0_hw1.2.1
theorem k0_off7_inb : ∀ (i : grid0.Coords) (k0_t2 : Fin k0_t2_loop.trips) (v86 : BitVec 32) (k0_hw1 : k0_chk1 i k0_t2 v86), ∀ a, S8x128.size a = 0 ∨ (k0_off7 v86) a + (![2052, 1] : Fin 2 → Nat) a * (S8x128.size a - 1) < S16416x128.size a := fun i k0_t2 v86 k0_hw1 => k0_hw1.2.2.1
theorem k0_off8_inb : ∀ (i : grid0.Coords) (k0_t2 : Fin k0_t2_loop.trips) (v86 : BitVec 32) (k0_hw1 : k0_chk1 i k0_t2 v86), ∀ a, S8x128.size a = 0 ∨ (k0_off8 v86) a + (![516, 1] : Fin 2 → Nat) a * (S8x128.size a - 1) < S4128x128.size a := fun i k0_t2 v86 k0_hw1 => k0_hw1.2.2.2.1
theorem k0_off69_inb : ∀ (i : grid0.Coords) (k0_t2 : Fin k0_t2_loop.trips) (v86 : BitVec 32) (k0_hw1 : k0_chk1 i k0_t2 v86), ∀ a, (k0_off69 i k0_t2 v86) a + S8x128.size a ≤ S20480x128.size a := fun i k0_t2 v86 k0_hw1 => k0_hw1.2.2.2.2

def k0_off70 (i : grid0.Coords) (k0_t2 : Fin k0_t2_loop.trips) (v117 : BitVec 32) : Fin 2 → Nat :=
  let c27030_i32_68 : BitVec 32 := 27030#32
  let c14_i32_65 : BitVec 32 := 14#32
  let v123 : BitVec 32 := Scalar.shrsi v117 c14_i32_65
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v124 : BitVec 32 := Scalar.andi v123 v44
  let c4_i32_66 : BitVec 32 := 4#32
  let v125 : BitVec 32 := Scalar.shrsi v124 c4_i32_66
  let v126 : BitVec 32 := Scalar.xori v124 v125
  let c15_i32_67 : BitVec 32 := 15#32
  let v127 : BitVec 32 := Scalar.andi v126 c15_i32_67
  let v128 : BitVec 32 := Scalar.shrsi c27030_i32_68 v127
  let c1_i32_69 : BitVec 32 := 1#32
  let v129 : BitVec 32 := Scalar.andi v128 c1_i32_69
  let c10240_i32_70 : BitVec 32 := 10240#32
  let v130 : BitVec 32 := Scalar.muli v129 c10240_i32_70
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c1_i32_71 : BitVec 32 := 1#32
  let v131 : BitVec 32 := Scalar.addi v82 c1_i32_71
  let c8_i32_72 : BitVec 32 := 8#32
  let v132 : BitVec 32 := Scalar.muli v131 c8_i32_72
  let v133 : BitVec 32 := Scalar.addi v130 v132
  let v134 : BitVec 32 := v133
  let v587 : Index := Scalar.indexCast v134
  let c0_308 : Index := 0#32
  ![v587.toNat, 0]

def k0_chk2 (i : grid0.Coords) (k0_t2 : Fin k0_t2_loop.trips) (v117 : BitVec 32) : Prop :=
  (8 ∣ (k0_mult3 i k0_t2 v117).toNat) ∧
  (∀ a, (k0_off10 i k0_t2 v117) a + S8x128.size a ≤ S20480x128.size a) ∧
  (∀ a, S8x128.size a = 0 ∨ (k0_off11 v117) a + (![2052, 1] : Fin 2 → Nat) a * (S8x128.size a - 1) < S16416x128.size a) ∧
  (∀ a, S8x128.size a = 0 ∨ (k0_off12 v117) a + (![516, 1] : Fin 2 → Nat) a * (S8x128.size a - 1) < S4128x128.size a) ∧
  (∀ a, (k0_off70 i k0_t2 v117) a + S8x128.size a ≤ S20480x128.size a)
theorem k0_mult3_dvd : ∀ (i : grid0.Coords) (k0_t2 : Fin k0_t2_loop.trips) (v117 : BitVec 32) (k0_hw2 : k0_chk2 i k0_t2 v117), 8 ∣ (k0_mult3 i k0_t2 v117).toNat := fun i k0_t2 v117 k0_hw2 => k0_hw2.1
theorem k0_off10_inb : ∀ (i : grid0.Coords) (k0_t2 : Fin k0_t2_loop.trips) (v117 : BitVec 32) (k0_hw2 : k0_chk2 i k0_t2 v117), ∀ a, (k0_off10 i k0_t2 v117) a + S8x128.size a ≤ S20480x128.size a := fun i k0_t2 v117 k0_hw2 => k0_hw2.2.1
theorem k0_off11_inb : ∀ (i : grid0.Coords) (k0_t2 : Fin k0_t2_loop.trips) (v117 : BitVec 32) (k0_hw2 : k0_chk2 i k0_t2 v117), ∀ a, S8x128.size a = 0 ∨ (k0_off11 v117) a + (![2052, 1] : Fin 2 → Nat) a * (S8x128.size a - 1) < S16416x128.size a := fun i k0_t2 v117 k0_hw2 => k0_hw2.2.2.1
theorem k0_off12_inb : ∀ (i : grid0.Coords) (k0_t2 : Fin k0_t2_loop.trips) (v117 : BitVec 32) (k0_hw2 : k0_chk2 i k0_t2 v117), ∀ a, S8x128.size a = 0 ∨ (k0_off12 v117) a + (![516, 1] : Fin 2 → Nat) a * (S8x128.size a - 1) < S4128x128.size a := fun i k0_t2 v117 k0_hw2 => k0_hw2.2.2.2.1
theorem k0_off70_inb : ∀ (i : grid0.Coords) (k0_t2 : Fin k0_t2_loop.trips) (v117 : BitVec 32) (k0_hw2 : k0_chk2 i k0_t2 v117), ∀ a, (k0_off70 i k0_t2 v117) a + S8x128.size a ≤ S20480x128.size a := fun i k0_t2 v117 k0_hw2 => k0_hw2.2.2.2.2

def k0_off71 (i : grid0.Coords) (k0_t2 : Fin k0_t2_loop.trips) (v148 : BitVec 32) : Fin 2 → Nat :=
  let c27030_i32_85 : BitVec 32 := 27030#32
  let c14_i32_82 : BitVec 32 := 14#32
  let v154 : BitVec 32 := Scalar.shrsi v148 c14_i32_82
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v155 : BitVec 32 := Scalar.andi v154 v44
  let c4_i32_83 : BitVec 32 := 4#32
  let v156 : BitVec 32 := Scalar.shrsi v155 c4_i32_83
  let v157 : BitVec 32 := Scalar.xori v155 v156
  let c15_i32_84 : BitVec 32 := 15#32
  let v158 : BitVec 32 := Scalar.andi v157 c15_i32_84
  let v159 : BitVec 32 := Scalar.shrsi c27030_i32_85 v158
  let c1_i32_86 : BitVec 32 := 1#32
  let v160 : BitVec 32 := Scalar.andi v159 c1_i32_86
  let c10240_i32_87 : BitVec 32 := 10240#32
  let v161 : BitVec 32 := Scalar.muli v160 c10240_i32_87
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c2_i32_88 : BitVec 32 := 2#32
  let v162 : BitVec 32 := Scalar.addi v82 c2_i32_88
  let c8_i32_89 : BitVec 32 := 8#32
  let v163 : BitVec 32 := Scalar.muli v162 c8_i32_89
  let v164 : BitVec 32 := Scalar.addi v161 v163
  let v165 : BitVec 32 := v164
  let v595 : Index := Scalar.indexCast v165
  let c0_310 : Index := 0#32
  ![v595.toNat, 0]

def k0_chk3 (i : grid0.Coords) (k0_t2 : Fin k0_t2_loop.trips) (v148 : BitVec 32) : Prop :=
  (8 ∣ (k0_mult4 i k0_t2 v148).toNat) ∧
  (∀ a, (k0_off14 i k0_t2 v148) a + S8x128.size a ≤ S20480x128.size a) ∧
  (∀ a, S8x128.size a = 0 ∨ (k0_off15 v148) a + (![2052, 1] : Fin 2 → Nat) a * (S8x128.size a - 1) < S16416x128.size a) ∧
  (∀ a, S8x128.size a = 0 ∨ (k0_off16 v148) a + (![516, 1] : Fin 2 → Nat) a * (S8x128.size a - 1) < S4128x128.size a) ∧
  (∀ a, (k0_off71 i k0_t2 v148) a + S8x128.size a ≤ S20480x128.size a)
theorem k0_mult4_dvd : ∀ (i : grid0.Coords) (k0_t2 : Fin k0_t2_loop.trips) (v148 : BitVec 32) (k0_hw3 : k0_chk3 i k0_t2 v148), 8 ∣ (k0_mult4 i k0_t2 v148).toNat := fun i k0_t2 v148 k0_hw3 => k0_hw3.1
theorem k0_off14_inb : ∀ (i : grid0.Coords) (k0_t2 : Fin k0_t2_loop.trips) (v148 : BitVec 32) (k0_hw3 : k0_chk3 i k0_t2 v148), ∀ a, (k0_off14 i k0_t2 v148) a + S8x128.size a ≤ S20480x128.size a := fun i k0_t2 v148 k0_hw3 => k0_hw3.2.1
theorem k0_off15_inb : ∀ (i : grid0.Coords) (k0_t2 : Fin k0_t2_loop.trips) (v148 : BitVec 32) (k0_hw3 : k0_chk3 i k0_t2 v148), ∀ a, S8x128.size a = 0 ∨ (k0_off15 v148) a + (![2052, 1] : Fin 2 → Nat) a * (S8x128.size a - 1) < S16416x128.size a := fun i k0_t2 v148 k0_hw3 => k0_hw3.2.2.1
theorem k0_off16_inb : ∀ (i : grid0.Coords) (k0_t2 : Fin k0_t2_loop.trips) (v148 : BitVec 32) (k0_hw3 : k0_chk3 i k0_t2 v148), ∀ a, S8x128.size a = 0 ∨ (k0_off16 v148) a + (![516, 1] : Fin 2 → Nat) a * (S8x128.size a - 1) < S4128x128.size a := fun i k0_t2 v148 k0_hw3 => k0_hw3.2.2.2.1
theorem k0_off71_inb : ∀ (i : grid0.Coords) (k0_t2 : Fin k0_t2_loop.trips) (v148 : BitVec 32) (k0_hw3 : k0_chk3 i k0_t2 v148), ∀ a, (k0_off71 i k0_t2 v148) a + S8x128.size a ≤ S20480x128.size a := fun i k0_t2 v148 k0_hw3 => k0_hw3.2.2.2.2

def k0_off72 (i : grid0.Coords) (k0_t2 : Fin k0_t2_loop.trips) (v179 : BitVec 32) : Fin 2 → Nat :=
  let c27030_i32_101 : BitVec 32 := 27030#32
  let c14_i32_98 : BitVec 32 := 14#32
  let v185 : BitVec 32 := Scalar.shrsi v179 c14_i32_98
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v186 : BitVec 32 := Scalar.andi v185 v44
  let c4_i32_99 : BitVec 32 := 4#32
  let v187 : BitVec 32 := Scalar.shrsi v186 c4_i32_99
  let v188 : BitVec 32 := Scalar.xori v186 v187
  let c15_i32_100 : BitVec 32 := 15#32
  let v189 : BitVec 32 := Scalar.andi v188 c15_i32_100
  let v190 : BitVec 32 := Scalar.shrsi c27030_i32_101 v189
  let c1_i32_102 : BitVec 32 := 1#32
  let v191 : BitVec 32 := Scalar.andi v190 c1_i32_102
  let c10240_i32_103 : BitVec 32 := 10240#32
  let v192 : BitVec 32 := Scalar.muli v191 c10240_i32_103
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c3_i32_104 : BitVec 32 := 3#32
  let v193 : BitVec 32 := Scalar.addi v82 c3_i32_104
  let c8_i32_105 : BitVec 32 := 8#32
  let v194 : BitVec 32 := Scalar.muli v193 c8_i32_105
  let v195 : BitVec 32 := Scalar.addi v192 v194
  let v196 : BitVec 32 := v195
  let v603 : Index := Scalar.indexCast v196
  let c0_312 : Index := 0#32
  ![v603.toNat, 0]

def k0_chk4 (i : grid0.Coords) (k0_t2 : Fin k0_t2_loop.trips) (v179 : BitVec 32) : Prop :=
  (8 ∣ (k0_mult5 i k0_t2 v179).toNat) ∧
  (∀ a, (k0_off18 i k0_t2 v179) a + S8x128.size a ≤ S20480x128.size a) ∧
  (∀ a, S8x128.size a = 0 ∨ (k0_off19 v179) a + (![2052, 1] : Fin 2 → Nat) a * (S8x128.size a - 1) < S16416x128.size a) ∧
  (∀ a, S8x128.size a = 0 ∨ (k0_off20 v179) a + (![516, 1] : Fin 2 → Nat) a * (S8x128.size a - 1) < S4128x128.size a) ∧
  (∀ a, (k0_off72 i k0_t2 v179) a + S8x128.size a ≤ S20480x128.size a)
theorem k0_mult5_dvd : ∀ (i : grid0.Coords) (k0_t2 : Fin k0_t2_loop.trips) (v179 : BitVec 32) (k0_hw4 : k0_chk4 i k0_t2 v179), 8 ∣ (k0_mult5 i k0_t2 v179).toNat := fun i k0_t2 v179 k0_hw4 => k0_hw4.1
theorem k0_off18_inb : ∀ (i : grid0.Coords) (k0_t2 : Fin k0_t2_loop.trips) (v179 : BitVec 32) (k0_hw4 : k0_chk4 i k0_t2 v179), ∀ a, (k0_off18 i k0_t2 v179) a + S8x128.size a ≤ S20480x128.size a := fun i k0_t2 v179 k0_hw4 => k0_hw4.2.1
theorem k0_off19_inb : ∀ (i : grid0.Coords) (k0_t2 : Fin k0_t2_loop.trips) (v179 : BitVec 32) (k0_hw4 : k0_chk4 i k0_t2 v179), ∀ a, S8x128.size a = 0 ∨ (k0_off19 v179) a + (![2052, 1] : Fin 2 → Nat) a * (S8x128.size a - 1) < S16416x128.size a := fun i k0_t2 v179 k0_hw4 => k0_hw4.2.2.1
theorem k0_off20_inb : ∀ (i : grid0.Coords) (k0_t2 : Fin k0_t2_loop.trips) (v179 : BitVec 32) (k0_hw4 : k0_chk4 i k0_t2 v179), ∀ a, S8x128.size a = 0 ∨ (k0_off20 v179) a + (![516, 1] : Fin 2 → Nat) a * (S8x128.size a - 1) < S4128x128.size a := fun i k0_t2 v179 k0_hw4 => k0_hw4.2.2.2.1
theorem k0_off72_inb : ∀ (i : grid0.Coords) (k0_t2 : Fin k0_t2_loop.trips) (v179 : BitVec 32) (k0_hw4 : k0_chk4 i k0_t2 v179), ∀ a, (k0_off72 i k0_t2 v179) a + S8x128.size a ≤ S20480x128.size a := fun i k0_t2 v179 k0_hw4 => k0_hw4.2.2.2.2

def k0_off73 (i : grid0.Coords) (k0_t2 : Fin k0_t2_loop.trips) (v210 : BitVec 32) : Fin 2 → Nat :=
  let c27030_i32_118 : BitVec 32 := 27030#32
  let c14_i32_115 : BitVec 32 := 14#32
  let v216 : BitVec 32 := Scalar.shrsi v210 c14_i32_115
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v217 : BitVec 32 := Scalar.andi v216 v44
  let c4_i32_116 : BitVec 32 := 4#32
  let v218 : BitVec 32 := Scalar.shrsi v217 c4_i32_116
  let v219 : BitVec 32 := Scalar.xori v217 v218
  let c15_i32_117 : BitVec 32 := 15#32
  let v220 : BitVec 32 := Scalar.andi v219 c15_i32_117
  let v221 : BitVec 32 := Scalar.shrsi c27030_i32_118 v220
  let c1_i32_119 : BitVec 32 := 1#32
  let v222 : BitVec 32 := Scalar.andi v221 c1_i32_119
  let c10240_i32_120 : BitVec 32 := 10240#32
  let v223 : BitVec 32 := Scalar.muli v222 c10240_i32_120
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c4_i32_121 : BitVec 32 := 4#32
  let v224 : BitVec 32 := Scalar.addi v82 c4_i32_121
  let c8_i32_122 : BitVec 32 := 8#32
  let v225 : BitVec 32 := Scalar.muli v224 c8_i32_122
  let v226 : BitVec 32 := Scalar.addi v223 v225
  let v227 : BitVec 32 := v226
  let v611 : Index := Scalar.indexCast v227
  let c0_314 : Index := 0#32
  ![v611.toNat, 0]

def k0_chk5 (i : grid0.Coords) (k0_t2 : Fin k0_t2_loop.trips) (v210 : BitVec 32) : Prop :=
  (8 ∣ (k0_mult6 i k0_t2 v210).toNat) ∧
  (∀ a, (k0_off22 i k0_t2 v210) a + S8x128.size a ≤ S20480x128.size a) ∧
  (∀ a, S8x128.size a = 0 ∨ (k0_off23 v210) a + (![2052, 1] : Fin 2 → Nat) a * (S8x128.size a - 1) < S16416x128.size a) ∧
  (∀ a, S8x128.size a = 0 ∨ (k0_off24 v210) a + (![516, 1] : Fin 2 → Nat) a * (S8x128.size a - 1) < S4128x128.size a) ∧
  (∀ a, (k0_off73 i k0_t2 v210) a + S8x128.size a ≤ S20480x128.size a)
theorem k0_mult6_dvd : ∀ (i : grid0.Coords) (k0_t2 : Fin k0_t2_loop.trips) (v210 : BitVec 32) (k0_hw5 : k0_chk5 i k0_t2 v210), 8 ∣ (k0_mult6 i k0_t2 v210).toNat := fun i k0_t2 v210 k0_hw5 => k0_hw5.1
theorem k0_off22_inb : ∀ (i : grid0.Coords) (k0_t2 : Fin k0_t2_loop.trips) (v210 : BitVec 32) (k0_hw5 : k0_chk5 i k0_t2 v210), ∀ a, (k0_off22 i k0_t2 v210) a + S8x128.size a ≤ S20480x128.size a := fun i k0_t2 v210 k0_hw5 => k0_hw5.2.1
theorem k0_off23_inb : ∀ (i : grid0.Coords) (k0_t2 : Fin k0_t2_loop.trips) (v210 : BitVec 32) (k0_hw5 : k0_chk5 i k0_t2 v210), ∀ a, S8x128.size a = 0 ∨ (k0_off23 v210) a + (![2052, 1] : Fin 2 → Nat) a * (S8x128.size a - 1) < S16416x128.size a := fun i k0_t2 v210 k0_hw5 => k0_hw5.2.2.1
theorem k0_off24_inb : ∀ (i : grid0.Coords) (k0_t2 : Fin k0_t2_loop.trips) (v210 : BitVec 32) (k0_hw5 : k0_chk5 i k0_t2 v210), ∀ a, S8x128.size a = 0 ∨ (k0_off24 v210) a + (![516, 1] : Fin 2 → Nat) a * (S8x128.size a - 1) < S4128x128.size a := fun i k0_t2 v210 k0_hw5 => k0_hw5.2.2.2.1
theorem k0_off73_inb : ∀ (i : grid0.Coords) (k0_t2 : Fin k0_t2_loop.trips) (v210 : BitVec 32) (k0_hw5 : k0_chk5 i k0_t2 v210), ∀ a, (k0_off73 i k0_t2 v210) a + S8x128.size a ≤ S20480x128.size a := fun i k0_t2 v210 k0_hw5 => k0_hw5.2.2.2.2

def k0_off74 (i : grid0.Coords) (k0_t2 : Fin k0_t2_loop.trips) (v241 : BitVec 32) : Fin 2 → Nat :=
  let c27030_i32_134 : BitVec 32 := 27030#32
  let c14_i32_131 : BitVec 32 := 14#32
  let v247 : BitVec 32 := Scalar.shrsi v241 c14_i32_131
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v248 : BitVec 32 := Scalar.andi v247 v44
  let c4_i32_132 : BitVec 32 := 4#32
  let v249 : BitVec 32 := Scalar.shrsi v248 c4_i32_132
  let v250 : BitVec 32 := Scalar.xori v248 v249
  let c15_i32_133 : BitVec 32 := 15#32
  let v251 : BitVec 32 := Scalar.andi v250 c15_i32_133
  let v252 : BitVec 32 := Scalar.shrsi c27030_i32_134 v251
  let c1_i32_135 : BitVec 32 := 1#32
  let v253 : BitVec 32 := Scalar.andi v252 c1_i32_135
  let c10240_i32_136 : BitVec 32 := 10240#32
  let v254 : BitVec 32 := Scalar.muli v253 c10240_i32_136
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c5_i32_137 : BitVec 32 := 5#32
  let v255 : BitVec 32 := Scalar.addi v82 c5_i32_137
  let c8_i32_138 : BitVec 32 := 8#32
  let v256 : BitVec 32 := Scalar.muli v255 c8_i32_138
  let v257 : BitVec 32 := Scalar.addi v254 v256
  let v258 : BitVec 32 := v257
  let v619 : Index := Scalar.indexCast v258
  let c0_316 : Index := 0#32
  ![v619.toNat, 0]

def k0_chk6 (i : grid0.Coords) (k0_t2 : Fin k0_t2_loop.trips) (v241 : BitVec 32) : Prop :=
  (8 ∣ (k0_mult7 i k0_t2 v241).toNat) ∧
  (∀ a, (k0_off26 i k0_t2 v241) a + S8x128.size a ≤ S20480x128.size a) ∧
  (∀ a, S8x128.size a = 0 ∨ (k0_off27 v241) a + (![2052, 1] : Fin 2 → Nat) a * (S8x128.size a - 1) < S16416x128.size a) ∧
  (∀ a, S8x128.size a = 0 ∨ (k0_off28 v241) a + (![516, 1] : Fin 2 → Nat) a * (S8x128.size a - 1) < S4128x128.size a) ∧
  (∀ a, (k0_off74 i k0_t2 v241) a + S8x128.size a ≤ S20480x128.size a)
theorem k0_mult7_dvd : ∀ (i : grid0.Coords) (k0_t2 : Fin k0_t2_loop.trips) (v241 : BitVec 32) (k0_hw6 : k0_chk6 i k0_t2 v241), 8 ∣ (k0_mult7 i k0_t2 v241).toNat := fun i k0_t2 v241 k0_hw6 => k0_hw6.1
theorem k0_off26_inb : ∀ (i : grid0.Coords) (k0_t2 : Fin k0_t2_loop.trips) (v241 : BitVec 32) (k0_hw6 : k0_chk6 i k0_t2 v241), ∀ a, (k0_off26 i k0_t2 v241) a + S8x128.size a ≤ S20480x128.size a := fun i k0_t2 v241 k0_hw6 => k0_hw6.2.1
theorem k0_off27_inb : ∀ (i : grid0.Coords) (k0_t2 : Fin k0_t2_loop.trips) (v241 : BitVec 32) (k0_hw6 : k0_chk6 i k0_t2 v241), ∀ a, S8x128.size a = 0 ∨ (k0_off27 v241) a + (![2052, 1] : Fin 2 → Nat) a * (S8x128.size a - 1) < S16416x128.size a := fun i k0_t2 v241 k0_hw6 => k0_hw6.2.2.1
theorem k0_off28_inb : ∀ (i : grid0.Coords) (k0_t2 : Fin k0_t2_loop.trips) (v241 : BitVec 32) (k0_hw6 : k0_chk6 i k0_t2 v241), ∀ a, S8x128.size a = 0 ∨ (k0_off28 v241) a + (![516, 1] : Fin 2 → Nat) a * (S8x128.size a - 1) < S4128x128.size a := fun i k0_t2 v241 k0_hw6 => k0_hw6.2.2.2.1
theorem k0_off74_inb : ∀ (i : grid0.Coords) (k0_t2 : Fin k0_t2_loop.trips) (v241 : BitVec 32) (k0_hw6 : k0_chk6 i k0_t2 v241), ∀ a, (k0_off74 i k0_t2 v241) a + S8x128.size a ≤ S20480x128.size a := fun i k0_t2 v241 k0_hw6 => k0_hw6.2.2.2.2

def k0_off75 (i : grid0.Coords) (k0_t2 : Fin k0_t2_loop.trips) (v272 : BitVec 32) : Fin 2 → Nat :=
  let c27030_i32_150 : BitVec 32 := 27030#32
  let c14_i32_147 : BitVec 32 := 14#32
  let v278 : BitVec 32 := Scalar.shrsi v272 c14_i32_147
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v279 : BitVec 32 := Scalar.andi v278 v44
  let c4_i32_148 : BitVec 32 := 4#32
  let v280 : BitVec 32 := Scalar.shrsi v279 c4_i32_148
  let v281 : BitVec 32 := Scalar.xori v279 v280
  let c15_i32_149 : BitVec 32 := 15#32
  let v282 : BitVec 32 := Scalar.andi v281 c15_i32_149
  let v283 : BitVec 32 := Scalar.shrsi c27030_i32_150 v282
  let c1_i32_151 : BitVec 32 := 1#32
  let v284 : BitVec 32 := Scalar.andi v283 c1_i32_151
  let c10240_i32_152 : BitVec 32 := 10240#32
  let v285 : BitVec 32 := Scalar.muli v284 c10240_i32_152
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c6_i32_153 : BitVec 32 := 6#32
  let v286 : BitVec 32 := Scalar.addi v82 c6_i32_153
  let c8_i32_154 : BitVec 32 := 8#32
  let v287 : BitVec 32 := Scalar.muli v286 c8_i32_154
  let v288 : BitVec 32 := Scalar.addi v285 v287
  let v289 : BitVec 32 := v288
  let v627 : Index := Scalar.indexCast v289
  let c0_318 : Index := 0#32
  ![v627.toNat, 0]

def k0_chk7 (i : grid0.Coords) (k0_t2 : Fin k0_t2_loop.trips) (v272 : BitVec 32) : Prop :=
  (8 ∣ (k0_mult8 i k0_t2 v272).toNat) ∧
  (∀ a, (k0_off30 i k0_t2 v272) a + S8x128.size a ≤ S20480x128.size a) ∧
  (∀ a, S8x128.size a = 0 ∨ (k0_off31 v272) a + (![2052, 1] : Fin 2 → Nat) a * (S8x128.size a - 1) < S16416x128.size a) ∧
  (∀ a, S8x128.size a = 0 ∨ (k0_off32 v272) a + (![516, 1] : Fin 2 → Nat) a * (S8x128.size a - 1) < S4128x128.size a) ∧
  (∀ a, (k0_off75 i k0_t2 v272) a + S8x128.size a ≤ S20480x128.size a)
theorem k0_mult8_dvd : ∀ (i : grid0.Coords) (k0_t2 : Fin k0_t2_loop.trips) (v272 : BitVec 32) (k0_hw7 : k0_chk7 i k0_t2 v272), 8 ∣ (k0_mult8 i k0_t2 v272).toNat := fun i k0_t2 v272 k0_hw7 => k0_hw7.1
theorem k0_off30_inb : ∀ (i : grid0.Coords) (k0_t2 : Fin k0_t2_loop.trips) (v272 : BitVec 32) (k0_hw7 : k0_chk7 i k0_t2 v272), ∀ a, (k0_off30 i k0_t2 v272) a + S8x128.size a ≤ S20480x128.size a := fun i k0_t2 v272 k0_hw7 => k0_hw7.2.1
theorem k0_off31_inb : ∀ (i : grid0.Coords) (k0_t2 : Fin k0_t2_loop.trips) (v272 : BitVec 32) (k0_hw7 : k0_chk7 i k0_t2 v272), ∀ a, S8x128.size a = 0 ∨ (k0_off31 v272) a + (![2052, 1] : Fin 2 → Nat) a * (S8x128.size a - 1) < S16416x128.size a := fun i k0_t2 v272 k0_hw7 => k0_hw7.2.2.1
theorem k0_off32_inb : ∀ (i : grid0.Coords) (k0_t2 : Fin k0_t2_loop.trips) (v272 : BitVec 32) (k0_hw7 : k0_chk7 i k0_t2 v272), ∀ a, S8x128.size a = 0 ∨ (k0_off32 v272) a + (![516, 1] : Fin 2 → Nat) a * (S8x128.size a - 1) < S4128x128.size a := fun i k0_t2 v272 k0_hw7 => k0_hw7.2.2.2.1
theorem k0_off75_inb : ∀ (i : grid0.Coords) (k0_t2 : Fin k0_t2_loop.trips) (v272 : BitVec 32) (k0_hw7 : k0_chk7 i k0_t2 v272), ∀ a, (k0_off75 i k0_t2 v272) a + S8x128.size a ≤ S20480x128.size a := fun i k0_t2 v272 k0_hw7 => k0_hw7.2.2.2.2

def k0_off76 (i : grid0.Coords) (k0_t2 : Fin k0_t2_loop.trips) (v303 : BitVec 32) : Fin 2 → Nat :=
  let c27030_i32_166 : BitVec 32 := 27030#32
  let c14_i32_163 : BitVec 32 := 14#32
  let v309 : BitVec 32 := Scalar.shrsi v303 c14_i32_163
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v310 : BitVec 32 := Scalar.andi v309 v44
  let c4_i32_164 : BitVec 32 := 4#32
  let v311 : BitVec 32 := Scalar.shrsi v310 c4_i32_164
  let v312 : BitVec 32 := Scalar.xori v310 v311
  let c15_i32_165 : BitVec 32 := 15#32
  let v313 : BitVec 32 := Scalar.andi v312 c15_i32_165
  let v314 : BitVec 32 := Scalar.shrsi c27030_i32_166 v313
  let c1_i32_167 : BitVec 32 := 1#32
  let v315 : BitVec 32 := Scalar.andi v314 c1_i32_167
  let c10240_i32_168 : BitVec 32 := 10240#32
  let v316 : BitVec 32 := Scalar.muli v315 c10240_i32_168
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c7_i32_169 : BitVec 32 := 7#32
  let v317 : BitVec 32 := Scalar.addi v82 c7_i32_169
  let c8_i32_170 : BitVec 32 := 8#32
  let v318 : BitVec 32 := Scalar.muli v317 c8_i32_170
  let v319 : BitVec 32 := Scalar.addi v316 v318
  let v320 : BitVec 32 := v319
  let v635 : Index := Scalar.indexCast v320
  let c0_320 : Index := 0#32
  ![v635.toNat, 0]

def k0_chk8 (i : grid0.Coords) (k0_t2 : Fin k0_t2_loop.trips) (v303 : BitVec 32) : Prop :=
  (8 ∣ (k0_mult9 i k0_t2 v303).toNat) ∧
  (∀ a, (k0_off34 i k0_t2 v303) a + S8x128.size a ≤ S20480x128.size a) ∧
  (∀ a, S8x128.size a = 0 ∨ (k0_off35 v303) a + (![2052, 1] : Fin 2 → Nat) a * (S8x128.size a - 1) < S16416x128.size a) ∧
  (∀ a, S8x128.size a = 0 ∨ (k0_off36 v303) a + (![516, 1] : Fin 2 → Nat) a * (S8x128.size a - 1) < S4128x128.size a) ∧
  (∀ a, (k0_off76 i k0_t2 v303) a + S8x128.size a ≤ S20480x128.size a)
theorem k0_mult9_dvd : ∀ (i : grid0.Coords) (k0_t2 : Fin k0_t2_loop.trips) (v303 : BitVec 32) (k0_hw8 : k0_chk8 i k0_t2 v303), 8 ∣ (k0_mult9 i k0_t2 v303).toNat := fun i k0_t2 v303 k0_hw8 => k0_hw8.1
theorem k0_off34_inb : ∀ (i : grid0.Coords) (k0_t2 : Fin k0_t2_loop.trips) (v303 : BitVec 32) (k0_hw8 : k0_chk8 i k0_t2 v303), ∀ a, (k0_off34 i k0_t2 v303) a + S8x128.size a ≤ S20480x128.size a := fun i k0_t2 v303 k0_hw8 => k0_hw8.2.1
theorem k0_off35_inb : ∀ (i : grid0.Coords) (k0_t2 : Fin k0_t2_loop.trips) (v303 : BitVec 32) (k0_hw8 : k0_chk8 i k0_t2 v303), ∀ a, S8x128.size a = 0 ∨ (k0_off35 v303) a + (![2052, 1] : Fin 2 → Nat) a * (S8x128.size a - 1) < S16416x128.size a := fun i k0_t2 v303 k0_hw8 => k0_hw8.2.2.1
theorem k0_off36_inb : ∀ (i : grid0.Coords) (k0_t2 : Fin k0_t2_loop.trips) (v303 : BitVec 32) (k0_hw8 : k0_chk8 i k0_t2 v303), ∀ a, S8x128.size a = 0 ∨ (k0_off36 v303) a + (![516, 1] : Fin 2 → Nat) a * (S8x128.size a - 1) < S4128x128.size a := fun i k0_t2 v303 k0_hw8 => k0_hw8.2.2.2.1
theorem k0_off76_inb : ∀ (i : grid0.Coords) (k0_t2 : Fin k0_t2_loop.trips) (v303 : BitVec 32) (k0_hw8 : k0_chk8 i k0_t2 v303), ∀ a, (k0_off76 i k0_t2 v303) a + S8x128.size a ≤ S20480x128.size a := fun i k0_t2 v303 k0_hw8 => k0_hw8.2.2.2.2

def k0_off77 (i : grid0.Coords) (k0_t2 : Fin k0_t2_loop.trips) (v334 : BitVec 32) : Fin 2 → Nat :=
  let c27030_i32_183 : BitVec 32 := 27030#32
  let c14_i32_180 : BitVec 32 := 14#32
  let v340 : BitVec 32 := Scalar.shrsi v334 c14_i32_180
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v341 : BitVec 32 := Scalar.andi v340 v44
  let c4_i32_181 : BitVec 32 := 4#32
  let v342 : BitVec 32 := Scalar.shrsi v341 c4_i32_181
  let v343 : BitVec 32 := Scalar.xori v341 v342
  let c15_i32_182 : BitVec 32 := 15#32
  let v344 : BitVec 32 := Scalar.andi v343 c15_i32_182
  let v345 : BitVec 32 := Scalar.shrsi c27030_i32_183 v344
  let c1_i32_184 : BitVec 32 := 1#32
  let v346 : BitVec 32 := Scalar.andi v345 c1_i32_184
  let c10240_i32_185 : BitVec 32 := 10240#32
  let v347 : BitVec 32 := Scalar.muli v346 c10240_i32_185
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c8_i32_186 : BitVec 32 := 8#32
  let v348 : BitVec 32 := Scalar.addi v82 c8_i32_186
  let c8_i32_187 : BitVec 32 := 8#32
  let v349 : BitVec 32 := Scalar.muli v348 c8_i32_187
  let v350 : BitVec 32 := Scalar.addi v347 v349
  let v351 : BitVec 32 := v350
  let v643 : Index := Scalar.indexCast v351
  let c0_322 : Index := 0#32
  ![v643.toNat, 0]

def k0_chk9 (i : grid0.Coords) (k0_t2 : Fin k0_t2_loop.trips) (v334 : BitVec 32) : Prop :=
  (8 ∣ (k0_mult10 i k0_t2 v334).toNat) ∧
  (∀ a, (k0_off38 i k0_t2 v334) a + S8x128.size a ≤ S20480x128.size a) ∧
  (∀ a, S8x128.size a = 0 ∨ (k0_off39 v334) a + (![2052, 1] : Fin 2 → Nat) a * (S8x128.size a - 1) < S16416x128.size a) ∧
  (∀ a, S8x128.size a = 0 ∨ (k0_off40 v334) a + (![516, 1] : Fin 2 → Nat) a * (S8x128.size a - 1) < S4128x128.size a) ∧
  (∀ a, (k0_off77 i k0_t2 v334) a + S8x128.size a ≤ S20480x128.size a)
theorem k0_mult10_dvd : ∀ (i : grid0.Coords) (k0_t2 : Fin k0_t2_loop.trips) (v334 : BitVec 32) (k0_hw9 : k0_chk9 i k0_t2 v334), 8 ∣ (k0_mult10 i k0_t2 v334).toNat := fun i k0_t2 v334 k0_hw9 => k0_hw9.1
theorem k0_off38_inb : ∀ (i : grid0.Coords) (k0_t2 : Fin k0_t2_loop.trips) (v334 : BitVec 32) (k0_hw9 : k0_chk9 i k0_t2 v334), ∀ a, (k0_off38 i k0_t2 v334) a + S8x128.size a ≤ S20480x128.size a := fun i k0_t2 v334 k0_hw9 => k0_hw9.2.1
theorem k0_off39_inb : ∀ (i : grid0.Coords) (k0_t2 : Fin k0_t2_loop.trips) (v334 : BitVec 32) (k0_hw9 : k0_chk9 i k0_t2 v334), ∀ a, S8x128.size a = 0 ∨ (k0_off39 v334) a + (![2052, 1] : Fin 2 → Nat) a * (S8x128.size a - 1) < S16416x128.size a := fun i k0_t2 v334 k0_hw9 => k0_hw9.2.2.1
theorem k0_off40_inb : ∀ (i : grid0.Coords) (k0_t2 : Fin k0_t2_loop.trips) (v334 : BitVec 32) (k0_hw9 : k0_chk9 i k0_t2 v334), ∀ a, S8x128.size a = 0 ∨ (k0_off40 v334) a + (![516, 1] : Fin 2 → Nat) a * (S8x128.size a - 1) < S4128x128.size a := fun i k0_t2 v334 k0_hw9 => k0_hw9.2.2.2.1
theorem k0_off77_inb : ∀ (i : grid0.Coords) (k0_t2 : Fin k0_t2_loop.trips) (v334 : BitVec 32) (k0_hw9 : k0_chk9 i k0_t2 v334), ∀ a, (k0_off77 i k0_t2 v334) a + S8x128.size a ≤ S20480x128.size a := fun i k0_t2 v334 k0_hw9 => k0_hw9.2.2.2.2

def k0_off78 (i : grid0.Coords) (k0_t2 : Fin k0_t2_loop.trips) (v365 : BitVec 32) : Fin 2 → Nat :=
  let c27030_i32_199 : BitVec 32 := 27030#32
  let c14_i32_196 : BitVec 32 := 14#32
  let v371 : BitVec 32 := Scalar.shrsi v365 c14_i32_196
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v372 : BitVec 32 := Scalar.andi v371 v44
  let c4_i32_197 : BitVec 32 := 4#32
  let v373 : BitVec 32 := Scalar.shrsi v372 c4_i32_197
  let v374 : BitVec 32 := Scalar.xori v372 v373
  let c15_i32_198 : BitVec 32 := 15#32
  let v375 : BitVec 32 := Scalar.andi v374 c15_i32_198
  let v376 : BitVec 32 := Scalar.shrsi c27030_i32_199 v375
  let c1_i32_200 : BitVec 32 := 1#32
  let v377 : BitVec 32 := Scalar.andi v376 c1_i32_200
  let c10240_i32_201 : BitVec 32 := 10240#32
  let v378 : BitVec 32 := Scalar.muli v377 c10240_i32_201
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c9_i32_202 : BitVec 32 := 9#32
  let v379 : BitVec 32 := Scalar.addi v82 c9_i32_202
  let c8_i32_203 : BitVec 32 := 8#32
  let v380 : BitVec 32 := Scalar.muli v379 c8_i32_203
  let v381 : BitVec 32 := Scalar.addi v378 v380
  let v382 : BitVec 32 := v381
  let v651 : Index := Scalar.indexCast v382
  let c0_324 : Index := 0#32
  ![v651.toNat, 0]

def k0_chk10 (i : grid0.Coords) (k0_t2 : Fin k0_t2_loop.trips) (v365 : BitVec 32) : Prop :=
  (8 ∣ (k0_mult11 i k0_t2 v365).toNat) ∧
  (∀ a, (k0_off42 i k0_t2 v365) a + S8x128.size a ≤ S20480x128.size a) ∧
  (∀ a, S8x128.size a = 0 ∨ (k0_off43 v365) a + (![2052, 1] : Fin 2 → Nat) a * (S8x128.size a - 1) < S16416x128.size a) ∧
  (∀ a, S8x128.size a = 0 ∨ (k0_off44 v365) a + (![516, 1] : Fin 2 → Nat) a * (S8x128.size a - 1) < S4128x128.size a) ∧
  (∀ a, (k0_off78 i k0_t2 v365) a + S8x128.size a ≤ S20480x128.size a)
theorem k0_mult11_dvd : ∀ (i : grid0.Coords) (k0_t2 : Fin k0_t2_loop.trips) (v365 : BitVec 32) (k0_hw10 : k0_chk10 i k0_t2 v365), 8 ∣ (k0_mult11 i k0_t2 v365).toNat := fun i k0_t2 v365 k0_hw10 => k0_hw10.1
theorem k0_off42_inb : ∀ (i : grid0.Coords) (k0_t2 : Fin k0_t2_loop.trips) (v365 : BitVec 32) (k0_hw10 : k0_chk10 i k0_t2 v365), ∀ a, (k0_off42 i k0_t2 v365) a + S8x128.size a ≤ S20480x128.size a := fun i k0_t2 v365 k0_hw10 => k0_hw10.2.1
theorem k0_off43_inb : ∀ (i : grid0.Coords) (k0_t2 : Fin k0_t2_loop.trips) (v365 : BitVec 32) (k0_hw10 : k0_chk10 i k0_t2 v365), ∀ a, S8x128.size a = 0 ∨ (k0_off43 v365) a + (![2052, 1] : Fin 2 → Nat) a * (S8x128.size a - 1) < S16416x128.size a := fun i k0_t2 v365 k0_hw10 => k0_hw10.2.2.1
theorem k0_off44_inb : ∀ (i : grid0.Coords) (k0_t2 : Fin k0_t2_loop.trips) (v365 : BitVec 32) (k0_hw10 : k0_chk10 i k0_t2 v365), ∀ a, S8x128.size a = 0 ∨ (k0_off44 v365) a + (![516, 1] : Fin 2 → Nat) a * (S8x128.size a - 1) < S4128x128.size a := fun i k0_t2 v365 k0_hw10 => k0_hw10.2.2.2.1
theorem k0_off78_inb : ∀ (i : grid0.Coords) (k0_t2 : Fin k0_t2_loop.trips) (v365 : BitVec 32) (k0_hw10 : k0_chk10 i k0_t2 v365), ∀ a, (k0_off78 i k0_t2 v365) a + S8x128.size a ≤ S20480x128.size a := fun i k0_t2 v365 k0_hw10 => k0_hw10.2.2.2.2

def k0_off79 (i : grid0.Coords) (k0_t2 : Fin k0_t2_loop.trips) (v396 : BitVec 32) : Fin 2 → Nat :=
  let c27030_i32_215 : BitVec 32 := 27030#32
  let c14_i32_212 : BitVec 32 := 14#32
  let v402 : BitVec 32 := Scalar.shrsi v396 c14_i32_212
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v403 : BitVec 32 := Scalar.andi v402 v44
  let c4_i32_213 : BitVec 32 := 4#32
  let v404 : BitVec 32 := Scalar.shrsi v403 c4_i32_213
  let v405 : BitVec 32 := Scalar.xori v403 v404
  let c15_i32_214 : BitVec 32 := 15#32
  let v406 : BitVec 32 := Scalar.andi v405 c15_i32_214
  let v407 : BitVec 32 := Scalar.shrsi c27030_i32_215 v406
  let c1_i32_216 : BitVec 32 := 1#32
  let v408 : BitVec 32 := Scalar.andi v407 c1_i32_216
  let c10240_i32_217 : BitVec 32 := 10240#32
  let v409 : BitVec 32 := Scalar.muli v408 c10240_i32_217
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c10_i32_218 : BitVec 32 := 10#32
  let v410 : BitVec 32 := Scalar.addi v82 c10_i32_218
  let c8_i32_219 : BitVec 32 := 8#32
  let v411 : BitVec 32 := Scalar.muli v410 c8_i32_219
  let v412 : BitVec 32 := Scalar.addi v409 v411
  let v413 : BitVec 32 := v412
  let v659 : Index := Scalar.indexCast v413
  let c0_326 : Index := 0#32
  ![v659.toNat, 0]

def k0_chk11 (i : grid0.Coords) (k0_t2 : Fin k0_t2_loop.trips) (v396 : BitVec 32) : Prop :=
  (8 ∣ (k0_mult12 i k0_t2 v396).toNat) ∧
  (∀ a, (k0_off46 i k0_t2 v396) a + S8x128.size a ≤ S20480x128.size a) ∧
  (∀ a, S8x128.size a = 0 ∨ (k0_off47 v396) a + (![2052, 1] : Fin 2 → Nat) a * (S8x128.size a - 1) < S16416x128.size a) ∧
  (∀ a, S8x128.size a = 0 ∨ (k0_off48 v396) a + (![516, 1] : Fin 2 → Nat) a * (S8x128.size a - 1) < S4128x128.size a) ∧
  (∀ a, (k0_off79 i k0_t2 v396) a + S8x128.size a ≤ S20480x128.size a)
theorem k0_mult12_dvd : ∀ (i : grid0.Coords) (k0_t2 : Fin k0_t2_loop.trips) (v396 : BitVec 32) (k0_hw11 : k0_chk11 i k0_t2 v396), 8 ∣ (k0_mult12 i k0_t2 v396).toNat := fun i k0_t2 v396 k0_hw11 => k0_hw11.1
theorem k0_off46_inb : ∀ (i : grid0.Coords) (k0_t2 : Fin k0_t2_loop.trips) (v396 : BitVec 32) (k0_hw11 : k0_chk11 i k0_t2 v396), ∀ a, (k0_off46 i k0_t2 v396) a + S8x128.size a ≤ S20480x128.size a := fun i k0_t2 v396 k0_hw11 => k0_hw11.2.1
theorem k0_off47_inb : ∀ (i : grid0.Coords) (k0_t2 : Fin k0_t2_loop.trips) (v396 : BitVec 32) (k0_hw11 : k0_chk11 i k0_t2 v396), ∀ a, S8x128.size a = 0 ∨ (k0_off47 v396) a + (![2052, 1] : Fin 2 → Nat) a * (S8x128.size a - 1) < S16416x128.size a := fun i k0_t2 v396 k0_hw11 => k0_hw11.2.2.1
theorem k0_off48_inb : ∀ (i : grid0.Coords) (k0_t2 : Fin k0_t2_loop.trips) (v396 : BitVec 32) (k0_hw11 : k0_chk11 i k0_t2 v396), ∀ a, S8x128.size a = 0 ∨ (k0_off48 v396) a + (![516, 1] : Fin 2 → Nat) a * (S8x128.size a - 1) < S4128x128.size a := fun i k0_t2 v396 k0_hw11 => k0_hw11.2.2.2.1
theorem k0_off79_inb : ∀ (i : grid0.Coords) (k0_t2 : Fin k0_t2_loop.trips) (v396 : BitVec 32) (k0_hw11 : k0_chk11 i k0_t2 v396), ∀ a, (k0_off79 i k0_t2 v396) a + S8x128.size a ≤ S20480x128.size a := fun i k0_t2 v396 k0_hw11 => k0_hw11.2.2.2.2

def k0_off80 (i : grid0.Coords) (k0_t2 : Fin k0_t2_loop.trips) (v427 : BitVec 32) : Fin 2 → Nat :=
  let c27030_i32_231 : BitVec 32 := 27030#32
  let c14_i32_228 : BitVec 32 := 14#32
  let v433 : BitVec 32 := Scalar.shrsi v427 c14_i32_228
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v434 : BitVec 32 := Scalar.andi v433 v44
  let c4_i32_229 : BitVec 32 := 4#32
  let v435 : BitVec 32 := Scalar.shrsi v434 c4_i32_229
  let v436 : BitVec 32 := Scalar.xori v434 v435
  let c15_i32_230 : BitVec 32 := 15#32
  let v437 : BitVec 32 := Scalar.andi v436 c15_i32_230
  let v438 : BitVec 32 := Scalar.shrsi c27030_i32_231 v437
  let c1_i32_232 : BitVec 32 := 1#32
  let v439 : BitVec 32 := Scalar.andi v438 c1_i32_232
  let c10240_i32_233 : BitVec 32 := 10240#32
  let v440 : BitVec 32 := Scalar.muli v439 c10240_i32_233
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c11_i32_234 : BitVec 32 := 11#32
  let v441 : BitVec 32 := Scalar.addi v82 c11_i32_234
  let c8_i32_235 : BitVec 32 := 8#32
  let v442 : BitVec 32 := Scalar.muli v441 c8_i32_235
  let v443 : BitVec 32 := Scalar.addi v440 v442
  let v444 : BitVec 32 := v443
  let v667 : Index := Scalar.indexCast v444
  let c0_328 : Index := 0#32
  ![v667.toNat, 0]

def k0_chk12 (i : grid0.Coords) (k0_t2 : Fin k0_t2_loop.trips) (v427 : BitVec 32) : Prop :=
  (8 ∣ (k0_mult13 i k0_t2 v427).toNat) ∧
  (∀ a, (k0_off50 i k0_t2 v427) a + S8x128.size a ≤ S20480x128.size a) ∧
  (∀ a, S8x128.size a = 0 ∨ (k0_off51 v427) a + (![2052, 1] : Fin 2 → Nat) a * (S8x128.size a - 1) < S16416x128.size a) ∧
  (∀ a, S8x128.size a = 0 ∨ (k0_off52 v427) a + (![516, 1] : Fin 2 → Nat) a * (S8x128.size a - 1) < S4128x128.size a) ∧
  (∀ a, (k0_off80 i k0_t2 v427) a + S8x128.size a ≤ S20480x128.size a)
theorem k0_mult13_dvd : ∀ (i : grid0.Coords) (k0_t2 : Fin k0_t2_loop.trips) (v427 : BitVec 32) (k0_hw12 : k0_chk12 i k0_t2 v427), 8 ∣ (k0_mult13 i k0_t2 v427).toNat := fun i k0_t2 v427 k0_hw12 => k0_hw12.1
theorem k0_off50_inb : ∀ (i : grid0.Coords) (k0_t2 : Fin k0_t2_loop.trips) (v427 : BitVec 32) (k0_hw12 : k0_chk12 i k0_t2 v427), ∀ a, (k0_off50 i k0_t2 v427) a + S8x128.size a ≤ S20480x128.size a := fun i k0_t2 v427 k0_hw12 => k0_hw12.2.1
theorem k0_off51_inb : ∀ (i : grid0.Coords) (k0_t2 : Fin k0_t2_loop.trips) (v427 : BitVec 32) (k0_hw12 : k0_chk12 i k0_t2 v427), ∀ a, S8x128.size a = 0 ∨ (k0_off51 v427) a + (![2052, 1] : Fin 2 → Nat) a * (S8x128.size a - 1) < S16416x128.size a := fun i k0_t2 v427 k0_hw12 => k0_hw12.2.2.1
theorem k0_off52_inb : ∀ (i : grid0.Coords) (k0_t2 : Fin k0_t2_loop.trips) (v427 : BitVec 32) (k0_hw12 : k0_chk12 i k0_t2 v427), ∀ a, S8x128.size a = 0 ∨ (k0_off52 v427) a + (![516, 1] : Fin 2 → Nat) a * (S8x128.size a - 1) < S4128x128.size a := fun i k0_t2 v427 k0_hw12 => k0_hw12.2.2.2.1
theorem k0_off80_inb : ∀ (i : grid0.Coords) (k0_t2 : Fin k0_t2_loop.trips) (v427 : BitVec 32) (k0_hw12 : k0_chk12 i k0_t2 v427), ∀ a, (k0_off80 i k0_t2 v427) a + S8x128.size a ≤ S20480x128.size a := fun i k0_t2 v427 k0_hw12 => k0_hw12.2.2.2.2

def k0_off81 (i : grid0.Coords) (k0_t2 : Fin k0_t2_loop.trips) (v458 : BitVec 32) : Fin 2 → Nat :=
  let c27030_i32_247 : BitVec 32 := 27030#32
  let c14_i32_244 : BitVec 32 := 14#32
  let v464 : BitVec 32 := Scalar.shrsi v458 c14_i32_244
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v465 : BitVec 32 := Scalar.andi v464 v44
  let c4_i32_245 : BitVec 32 := 4#32
  let v466 : BitVec 32 := Scalar.shrsi v465 c4_i32_245
  let v467 : BitVec 32 := Scalar.xori v465 v466
  let c15_i32_246 : BitVec 32 := 15#32
  let v468 : BitVec 32 := Scalar.andi v467 c15_i32_246
  let v469 : BitVec 32 := Scalar.shrsi c27030_i32_247 v468
  let c1_i32_248 : BitVec 32 := 1#32
  let v470 : BitVec 32 := Scalar.andi v469 c1_i32_248
  let c10240_i32_249 : BitVec 32 := 10240#32
  let v471 : BitVec 32 := Scalar.muli v470 c10240_i32_249
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c12_i32_250 : BitVec 32 := 12#32
  let v472 : BitVec 32 := Scalar.addi v82 c12_i32_250
  let c8_i32_251 : BitVec 32 := 8#32
  let v473 : BitVec 32 := Scalar.muli v472 c8_i32_251
  let v474 : BitVec 32 := Scalar.addi v471 v473
  let v475 : BitVec 32 := v474
  let v675 : Index := Scalar.indexCast v475
  let c0_330 : Index := 0#32
  ![v675.toNat, 0]

def k0_chk13 (i : grid0.Coords) (k0_t2 : Fin k0_t2_loop.trips) (v458 : BitVec 32) : Prop :=
  (8 ∣ (k0_mult14 i k0_t2 v458).toNat) ∧
  (∀ a, (k0_off54 i k0_t2 v458) a + S8x128.size a ≤ S20480x128.size a) ∧
  (∀ a, S8x128.size a = 0 ∨ (k0_off55 v458) a + (![2052, 1] : Fin 2 → Nat) a * (S8x128.size a - 1) < S16416x128.size a) ∧
  (∀ a, S8x128.size a = 0 ∨ (k0_off56 v458) a + (![516, 1] : Fin 2 → Nat) a * (S8x128.size a - 1) < S4128x128.size a) ∧
  (∀ a, (k0_off81 i k0_t2 v458) a + S8x128.size a ≤ S20480x128.size a)
theorem k0_mult14_dvd : ∀ (i : grid0.Coords) (k0_t2 : Fin k0_t2_loop.trips) (v458 : BitVec 32) (k0_hw13 : k0_chk13 i k0_t2 v458), 8 ∣ (k0_mult14 i k0_t2 v458).toNat := fun i k0_t2 v458 k0_hw13 => k0_hw13.1
theorem k0_off54_inb : ∀ (i : grid0.Coords) (k0_t2 : Fin k0_t2_loop.trips) (v458 : BitVec 32) (k0_hw13 : k0_chk13 i k0_t2 v458), ∀ a, (k0_off54 i k0_t2 v458) a + S8x128.size a ≤ S20480x128.size a := fun i k0_t2 v458 k0_hw13 => k0_hw13.2.1
theorem k0_off55_inb : ∀ (i : grid0.Coords) (k0_t2 : Fin k0_t2_loop.trips) (v458 : BitVec 32) (k0_hw13 : k0_chk13 i k0_t2 v458), ∀ a, S8x128.size a = 0 ∨ (k0_off55 v458) a + (![2052, 1] : Fin 2 → Nat) a * (S8x128.size a - 1) < S16416x128.size a := fun i k0_t2 v458 k0_hw13 => k0_hw13.2.2.1
theorem k0_off56_inb : ∀ (i : grid0.Coords) (k0_t2 : Fin k0_t2_loop.trips) (v458 : BitVec 32) (k0_hw13 : k0_chk13 i k0_t2 v458), ∀ a, S8x128.size a = 0 ∨ (k0_off56 v458) a + (![516, 1] : Fin 2 → Nat) a * (S8x128.size a - 1) < S4128x128.size a := fun i k0_t2 v458 k0_hw13 => k0_hw13.2.2.2.1
theorem k0_off81_inb : ∀ (i : grid0.Coords) (k0_t2 : Fin k0_t2_loop.trips) (v458 : BitVec 32) (k0_hw13 : k0_chk13 i k0_t2 v458), ∀ a, (k0_off81 i k0_t2 v458) a + S8x128.size a ≤ S20480x128.size a := fun i k0_t2 v458 k0_hw13 => k0_hw13.2.2.2.2

def k0_off82 (i : grid0.Coords) (k0_t2 : Fin k0_t2_loop.trips) (v489 : BitVec 32) : Fin 2 → Nat :=
  let c27030_i32_263 : BitVec 32 := 27030#32
  let c14_i32_260 : BitVec 32 := 14#32
  let v495 : BitVec 32 := Scalar.shrsi v489 c14_i32_260
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v496 : BitVec 32 := Scalar.andi v495 v44
  let c4_i32_261 : BitVec 32 := 4#32
  let v497 : BitVec 32 := Scalar.shrsi v496 c4_i32_261
  let v498 : BitVec 32 := Scalar.xori v496 v497
  let c15_i32_262 : BitVec 32 := 15#32
  let v499 : BitVec 32 := Scalar.andi v498 c15_i32_262
  let v500 : BitVec 32 := Scalar.shrsi c27030_i32_263 v499
  let c1_i32_264 : BitVec 32 := 1#32
  let v501 : BitVec 32 := Scalar.andi v500 c1_i32_264
  let c10240_i32_265 : BitVec 32 := 10240#32
  let v502 : BitVec 32 := Scalar.muli v501 c10240_i32_265
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c13_i32_266 : BitVec 32 := 13#32
  let v503 : BitVec 32 := Scalar.addi v82 c13_i32_266
  let c8_i32_267 : BitVec 32 := 8#32
  let v504 : BitVec 32 := Scalar.muli v503 c8_i32_267
  let v505 : BitVec 32 := Scalar.addi v502 v504
  let v506 : BitVec 32 := v505
  let v683 : Index := Scalar.indexCast v506
  let c0_332 : Index := 0#32
  ![v683.toNat, 0]

def k0_chk14 (i : grid0.Coords) (k0_t2 : Fin k0_t2_loop.trips) (v489 : BitVec 32) : Prop :=
  (8 ∣ (k0_mult15 i k0_t2 v489).toNat) ∧
  (∀ a, (k0_off58 i k0_t2 v489) a + S8x128.size a ≤ S20480x128.size a) ∧
  (∀ a, S8x128.size a = 0 ∨ (k0_off59 v489) a + (![2052, 1] : Fin 2 → Nat) a * (S8x128.size a - 1) < S16416x128.size a) ∧
  (∀ a, S8x128.size a = 0 ∨ (k0_off60 v489) a + (![516, 1] : Fin 2 → Nat) a * (S8x128.size a - 1) < S4128x128.size a) ∧
  (∀ a, (k0_off82 i k0_t2 v489) a + S8x128.size a ≤ S20480x128.size a)
theorem k0_mult15_dvd : ∀ (i : grid0.Coords) (k0_t2 : Fin k0_t2_loop.trips) (v489 : BitVec 32) (k0_hw14 : k0_chk14 i k0_t2 v489), 8 ∣ (k0_mult15 i k0_t2 v489).toNat := fun i k0_t2 v489 k0_hw14 => k0_hw14.1
theorem k0_off58_inb : ∀ (i : grid0.Coords) (k0_t2 : Fin k0_t2_loop.trips) (v489 : BitVec 32) (k0_hw14 : k0_chk14 i k0_t2 v489), ∀ a, (k0_off58 i k0_t2 v489) a + S8x128.size a ≤ S20480x128.size a := fun i k0_t2 v489 k0_hw14 => k0_hw14.2.1
theorem k0_off59_inb : ∀ (i : grid0.Coords) (k0_t2 : Fin k0_t2_loop.trips) (v489 : BitVec 32) (k0_hw14 : k0_chk14 i k0_t2 v489), ∀ a, S8x128.size a = 0 ∨ (k0_off59 v489) a + (![2052, 1] : Fin 2 → Nat) a * (S8x128.size a - 1) < S16416x128.size a := fun i k0_t2 v489 k0_hw14 => k0_hw14.2.2.1
theorem k0_off60_inb : ∀ (i : grid0.Coords) (k0_t2 : Fin k0_t2_loop.trips) (v489 : BitVec 32) (k0_hw14 : k0_chk14 i k0_t2 v489), ∀ a, S8x128.size a = 0 ∨ (k0_off60 v489) a + (![516, 1] : Fin 2 → Nat) a * (S8x128.size a - 1) < S4128x128.size a := fun i k0_t2 v489 k0_hw14 => k0_hw14.2.2.2.1
theorem k0_off82_inb : ∀ (i : grid0.Coords) (k0_t2 : Fin k0_t2_loop.trips) (v489 : BitVec 32) (k0_hw14 : k0_chk14 i k0_t2 v489), ∀ a, (k0_off82 i k0_t2 v489) a + S8x128.size a ≤ S20480x128.size a := fun i k0_t2 v489 k0_hw14 => k0_hw14.2.2.2.2

def k0_off83 (i : grid0.Coords) (k0_t2 : Fin k0_t2_loop.trips) (v520 : BitVec 32) : Fin 2 → Nat :=
  let c27030_i32_280 : BitVec 32 := 27030#32
  let c14_i32_277 : BitVec 32 := 14#32
  let v526 : BitVec 32 := Scalar.shrsi v520 c14_i32_277
  let c2_i32 : BitVec 32 := 2#32
  let arg0 : BitVec 32 := BitVec.ofNat 32 (i 0).val
  let v14 : BitVec 32 := Scalar.muli c2_i32 arg0
  let c1_i32 : BitVec 32 := 1#32
  let v15 : BitVec 32 := Scalar.subi v14 c1_i32
  let c0_i32_8 : BitVec 32 := 0#32
  let v16 : BitVec 32 := Scalar.maxsi v15 c0_i32_8
  let c64_i32_18 : BitVec 32 := 64#32
  let c0_i32_19 : BitVec 32 := 0#32
  let v35 : BitVec 1 := Scalar.cmpi .eq c64_i32_18 c0_i32_19
  let c1_i32_20 : BitVec 32 := 1#32
  let v36 : BitVec 32 := Scalar.select v35 c1_i32_20 c64_i32_18
  let v37 : BitVec 32 := Scalar.remsi v16 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v527 : BitVec 32 := Scalar.andi v526 v44
  let c4_i32_278 : BitVec 32 := 4#32
  let v528 : BitVec 32 := Scalar.shrsi v527 c4_i32_278
  let v529 : BitVec 32 := Scalar.xori v527 v528
  let c15_i32_279 : BitVec 32 := 15#32
  let v530 : BitVec 32 := Scalar.andi v529 c15_i32_279
  let v531 : BitVec 32 := Scalar.shrsi c27030_i32_280 v530
  let c1_i32_281 : BitVec 32 := 1#32
  let v532 : BitVec 32 := Scalar.andi v531 c1_i32_281
  let c10240_i32_282 : BitVec 32 := 10240#32
  let v533 : BitVec 32 := Scalar.muli v532 c10240_i32_282
  let c0_i32_24 : BitVec 32 := 0#32
  let c1_i32_25 : BitVec 32 := 1#32
  let arg14 : BitVec 32 := Scf.iv c0_i32_24 c1_i32_25 k0_t2
  let c16_i32 : BitVec 32 := 16#32
  let v82 : BitVec 32 := Scalar.muli arg14 c16_i32
  let c14_i32_283 : BitVec 32 := 14#32
  let v534 : BitVec 32 := Scalar.addi v82 c14_i32_283
  let c8_i32_284 : BitVec 32 := 8#32
  let v535 : BitVec 32 := Scalar.muli v534 c8_i32_284
  let v536 : BitVec 32 := Scalar.addi v533 v535
  let v537 : BitVec 32 := v536
  let v691 : Index := Scalar.indexCast v537
  let c0_334 : Index := 0#32
  ![v691.toNat, 0]

def k0_chk15 (i : grid0.Coords) (k0_t2 : Fin k0_t2_loop.trips) (v520 : BitVec 32) : Prop :=
  (8 ∣ (k0_mult16 i k0_t2 v520).toNat) ∧
  (∀ a, (k0_off62 i k0_t2 v520) a + S8x128.size a ≤ S20480x128.size a) ∧
  (∀ a, S8x128.size a = 0 ∨ (k0_off63 v520) a + (![2052, 1] : Fin 2 → Nat) a * (S8x128.size a - 1) < S16416x128.size a) ∧
  (∀ a, S8x128.size a = 0 ∨ (k0_off64 v520) a + (![516, 1] : Fin 2 → Nat) a * (S8x128.size a - 1) < S4128x128.size a) ∧
  (∀ a, (k0_off83 i k0_t2 v520) a + S8x128.size a ≤ S20480x128.size a)
theorem k0_mult16_dvd : ∀ (i : grid0.Coords) (k0_t2 : Fin k0_t2_loop.trips) (v520 : BitVec 32) (k0_hw15 : k0_chk15 i k0_t2 v520), 8 ∣ (k0_mult16 i k0_t2 v520).toNat := fun i k0_t2 v520 k0_hw15 => k0_hw15.1
theorem k0_off62_inb : ∀ (i : grid0.Coords) (k0_t2 : Fin k0_t2_loop.trips) (v520 : BitVec 32) (k0_hw15 : k0_chk15 i k0_t2 v520), ∀ a, (k0_off62 i k0_t2 v520) a + S8x128.size a ≤ S20480x128.size a := fun i k0_t2 v520 k0_hw15 => k0_hw15.2.1
theorem k0_off63_inb : ∀ (i : grid0.Coords) (k0_t2 : Fin k0_t2_loop.trips) (v520 : BitVec 32) (k0_hw15 : k0_chk15 i k0_t2 v520), ∀ a, S8x128.size a = 0 ∨ (k0_off63 v520) a + (![2052, 1] : Fin 2 → Nat) a * (S8x128.size a - 1) < S16416x128.size a := fun i k0_t2 v520 k0_hw15 => k0_hw15.2.2.1
theorem k0_off64_inb : ∀ (i : grid0.Coords) (k0_t2 : Fin k0_t2_loop.trips) (v520 : BitVec 32) (k0_hw15 : k0_chk15 i k0_t2 v520), ∀ a, S8x128.size a = 0 ∨ (k0_off64 v520) a + (![516, 1] : Fin 2 → Nat) a * (S8x128.size a - 1) < S4128x128.size a := fun i k0_t2 v520 k0_hw15 => k0_hw15.2.2.2.1
theorem k0_off83_inb : ∀ (i : grid0.Coords) (k0_t2 : Fin k0_t2_loop.trips) (v520 : BitVec 32) (k0_hw15 : k0_chk15 i k0_t2 v520), ∀ a, (k0_off83 i k0_t2 v520) a + S8x128.size a ≤ S20480x128.size a := fun i k0_t2 v520 k0_hw15 => k0_hw15.2.2.2.2

def k0_cond2 (i : grid0.Coords) : BitVec 1 :=
  let arg0 : BitVec 32 := BitVec.ofNat 32 (i 0).val
  let c32_i32 : BitVec 32 := 32#32
  let v46 : BitVec 1 := Scalar.cmpi .eq arg0 c32_i32
  let v47 : BitVec 32 := Scalar.extui v46
  let c0_i32_27 : BitVec 32 := 0#32
  let v48 : BitVec 1 := Scalar.cmpi .ne v47 c0_i32_27
  v48

@[reducible] def k0_t3_loop : Scf.Loop 32 :=
  let c0_i32_58 : BitVec 32 := 0#32
  let c160_i32 : BitVec 32 := 160#32
  let v108 : BitVec 32 := Scalar.addi c0_i32_58 c160_i32
  let c1_i32_59 : BitVec 32 := 1#32
  ⟨c0_i32_58, v108, c1_i32_59⟩
def k0_mult18 (k0_t3 : Fin k0_t3_loop.trips) : BitVec 32 :=
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  v117
def k0_off84 (k0_t3 : Fin k0_t3_loop.trips) (c0_i32_68 : BitVec 32) : Fin 2 → Nat :=
  let c0_69 : Index := 0#32
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let v119 : BitVec 32 := Scalar.addi v118 c0_i32_68
  let v120 : Index := Scalar.indexCast v119
  ![0, v120.toNat]
def k0_mult19 (k0_t3 : Fin k0_t3_loop.trips) : BitVec 32 :=
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let c0_i32_70 : BitVec 32 := 0#32
  let v122 : BitVec 32 := Scalar.addi v118 c0_i32_70
  let c8_i32_71 : BitVec 32 := 8#32
  let v123 : BitVec 32 := Scalar.muli v122 c8_i32_71
  v123
def k0_off85 (k0_t3 : Fin k0_t3_loop.trips) (c0_i32_70 : BitVec 32) : Fin 2 → Nat :=
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let v122 : BitVec 32 := Scalar.addi v118 c0_i32_70
  let c8_i32_71 : BitVec 32 := 8#32
  let v123 : BitVec 32 := Scalar.muli v122 c8_i32_71
  let v124 : BitVec 32 := v123
  let v150 : Index := Scalar.indexCast v124
  let c0_79 : Index := 0#32
  ![v150.toNat, 0]
def k0_off86 (k0_t3 : Fin k0_t3_loop.trips) (c0_i32_70 : BitVec 32) : Fin 2 → Nat :=
  let c10240_i32 : BitVec 32 := 10240#32
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let v122 : BitVec 32 := Scalar.addi v118 c0_i32_70
  let c8_i32_71 : BitVec 32 := 8#32
  let v123 : BitVec 32 := Scalar.muli v122 c8_i32_71
  let v124 : BitVec 32 := v123
  let v152 : BitVec 32 := Scalar.addi c10240_i32 v124
  let v153 : Index := Scalar.indexCast v152
  let c0_80 : Index := 0#32
  ![v153.toNat, 0]
def k0_mult20 (k0_t3 : Fin k0_t3_loop.trips) : BitVec 32 :=
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let c1_i32_88 : BitVec 32 := 1#32
  let v171 : BitVec 32 := Scalar.addi v118 c1_i32_88
  let c8_i32_89 : BitVec 32 := 8#32
  let v172 : BitVec 32 := Scalar.muli v171 c8_i32_89
  v172
def k0_mult21 (k0_t3 : Fin k0_t3_loop.trips) : BitVec 32 :=
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let c2_i32_110 : BitVec 32 := 2#32
  let v220 : BitVec 32 := Scalar.addi v118 c2_i32_110
  let c8_i32_111 : BitVec 32 := 8#32
  let v221 : BitVec 32 := Scalar.muli v220 c8_i32_111
  v221
def k0_mult22 (k0_t3 : Fin k0_t3_loop.trips) : BitVec 32 :=
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let c3_i32_132 : BitVec 32 := 3#32
  let v269 : BitVec 32 := Scalar.addi v118 c3_i32_132
  let c8_i32_133 : BitVec 32 := 8#32
  let v270 : BitVec 32 := Scalar.muli v269 c8_i32_133
  v270
def k0_mult23 (k0_t3 : Fin k0_t3_loop.trips) : BitVec 32 :=
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let c4_i32_153 : BitVec 32 := 4#32
  let v318 : BitVec 32 := Scalar.addi v118 c4_i32_153
  let c8_i32_154 : BitVec 32 := 8#32
  let v319 : BitVec 32 := Scalar.muli v318 c8_i32_154
  v319
def k0_mult24 (k0_t3 : Fin k0_t3_loop.trips) : BitVec 32 :=
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let c5_i32_174 : BitVec 32 := 5#32
  let v367 : BitVec 32 := Scalar.addi v118 c5_i32_174
  let c8_i32_175 : BitVec 32 := 8#32
  let v368 : BitVec 32 := Scalar.muli v367 c8_i32_175
  v368
def k0_mult25 (k0_t3 : Fin k0_t3_loop.trips) : BitVec 32 :=
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let c6_i32_195 : BitVec 32 := 6#32
  let v416 : BitVec 32 := Scalar.addi v118 c6_i32_195
  let c8_i32_196 : BitVec 32 := 8#32
  let v417 : BitVec 32 := Scalar.muli v416 c8_i32_196
  v417
def k0_mult26 (k0_t3 : Fin k0_t3_loop.trips) : BitVec 32 :=
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let c7_i32_217 : BitVec 32 := 7#32
  let v465 : BitVec 32 := Scalar.addi v118 c7_i32_217
  let c8_i32_218 : BitVec 32 := 8#32
  let v466 : BitVec 32 := Scalar.muli v465 c8_i32_218
  v466
def k0_off87 (k0_t3 : Fin k0_t3_loop.trips) : Fin 3 → Nat :=
  let c0_239 : Index := 0#32
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let v519 : Index := Scalar.indexCast v118
  let c0_240 : Index := 0#32
  ![0, v519.toNat, 0]
def k0_off88 (k0_t3 : Fin k0_t3_loop.trips) : Fin 3 → Nat :=
  let c0_241 : Index := 0#32
  let c0_i32_58 : BitVec 32 := 0#32
  let c1_i32_59 : BitVec 32 := 1#32
  let arg14 : BitVec 32 := Scf.iv c0_i32_58 c1_i32_59 k0_t3
  let c8_i32_67 : BitVec 32 := 8#32
  let v117 : BitVec 32 := Scalar.muli arg14 c8_i32_67
  let v118 : BitVec 32 := v117
  let v526 : Index := Scalar.indexCast v118
  let c128 : Index := 128#32
  ![0, v526.toNat, 128]
@[reducible] def k0_t4_loop : Scf.Loop 32 :=
  let c0_i32_35 : BitVec 32 := 0#32
  let c8_i32_36 : BitVec 32 := 8#32
  let v66 : BitVec 32 := Scalar.addi c0_i32_35 c8_i32_36
  let c1_i32_37 : BitVec 32 := 1#32
  ⟨c0_i32_35, v66, c1_i32_37⟩
def k0_mult27 (k0_t4 : Fin k0_t4_loop.trips) : BitVec 32 :=
  let c16384_i32 : BitVec 32 := 16384#32
  let c0_i32_35 : BitVec 32 := 0#32
  let c1_i32_37 : BitVec 32 := 1#32
  let arg14 : BitVec 32 := Scf.iv c0_i32_35 c1_i32_37 k0_t4
  let c2048_i32 : BitVec 32 := 2048#32
  let v82 : BitVec 32 := Scalar.muli arg14 c2048_i32
  let v83 : BitVec 32 := Scalar.addi c16384_i32 v82
  v83
def k0_off89 (k0_t4 : Fin k0_t4_loop.trips) (c0_i32_61 : BitVec 32) (c0_i32_62 : BitVec 32) : Fin 2 → Nat :=
  let c16384_i32_54 : BitVec 32 := 16384#32
  let c0_i32_35 : BitVec 32 := 0#32
  let c1_i32_37 : BitVec 32 := 1#32
  let arg14 : BitVec 32 := Scf.iv c0_i32_35 c1_i32_37 k0_t4
  let c2048_i32_53 : BitVec 32 := 2048#32
  let v87 : BitVec 32 := Scalar.muli arg14 c2048_i32_53
  let v88 : BitVec 32 := Scalar.addi c16384_i32_54 v87
  let c0_i32_55 : BitVec 32 := 0#32
  let v90 : BitVec 1 := Scalar.cmpi .sgt v88 c0_i32_55
  let v91 : BitVec 32 := Scalar.extui v90
  let c0_i32_56 : BitVec 32 := 0#32
  let v92 : BitVec 1 := Scalar.cmpi .slt v88 c0_i32_56
  let v93 : BitVec 32 := Scalar.extui v92
  let v94 : BitVec 32 := Scalar.subi v91 v93
  let c128_i32 : BitVec 32 := 128#32
  let c0_i32_57 : BitVec 32 := 0#32
  let v95 : BitVec 1 := Scalar.cmpi .sgt c128_i32 c0_i32_57
  let v96 : BitVec 32 := Scalar.extui v95
  let c0_i32_58 : BitVec 32 := 0#32
  let v97 : BitVec 1 := Scalar.cmpi .slt c128_i32 c0_i32_58
  let v98 : BitVec 32 := Scalar.extui v97
  let v99 : BitVec 32 := Scalar.subi v96 v98
  let v100 : BitVec 1 := Scalar.cmpi .ne v94 v99
  let v101 : BitVec 32 := Scalar.remsi v88 c128_i32
  let c0_i32_59 : BitVec 32 := 0#32
  let v102 : BitVec 1 := Scalar.cmpi .ne v101 c0_i32_59
  let v103 : BitVec 1 := Scalar.andi v100 v102
  let v89 : BitVec 32 := Scalar.divsi v88 c128_i32
  let c1_i32_60 : BitVec 32 := 1#32
  let v104 : BitVec 32 := Scalar.subi v89 c1_i32_60
  let v105 : BitVec 32 := Scalar.select v103 v104 v89
  let v106 : BitVec 32 := Scalar.addi v105 c0_i32_61
  let v107 : BitVec 32 := Scalar.addi v106 c0_i32_62
  let v108 : Index := Scalar.indexCast v107
  let c0_63 : Index := 0#32
  ![v108.toNat, 0]
def k0_off90 (k0_t4 : Fin k0_t4_loop.trips) (c0_i32_51 : BitVec 32) (c0_i32_52 : BitVec 32) : Fin 3 → Nat :=
  let c0_64 : Index := 0#32
  let c0_65 : Index := 0#32
  let c16384_i32 : BitVec 32 := 16384#32
  let c0_i32_35 : BitVec 32 := 0#32
  let c1_i32_37 : BitVec 32 := 1#32
  let arg14 : BitVec 32 := Scf.iv c0_i32_35 c1_i32_37 k0_t4
  let c2048_i32 : BitVec 32 := 2048#32
  let v82 : BitVec 32 := Scalar.muli arg14 c2048_i32
  let v83 : BitVec 32 := Scalar.addi c16384_i32 v82
  let v84 : BitVec 32 := v83
  let v85 : BitVec 32 := Scalar.addi v84 c0_i32_51
  let v86 : BitVec 32 := Scalar.addi v85 c0_i32_52
  let v113 : Index := Scalar.indexCast v86
  ![0, 0, v113.toNat]
def k0_off91 (k0_t4 : Fin k0_t4_loop.trips) (c0_i32_300 : BitVec 32) (c0_i32_301 : BitVec 32) : Fin 2 → Nat :=
  let c0_i32_35 : BitVec 32 := 0#32
  let c1_i32_37 : BitVec 32 := 1#32
  let arg14 : BitVec 32 := Scf.iv c0_i32_35 c1_i32_37 k0_t4
  let c2052_i32 : BitVec 32 := 2052#32
  let v768 : BitVec 32 := Scalar.muli arg14 c2052_i32
  let v769 : BitVec 32 := Scalar.addi v768 c0_i32_300
  let v770 : BitVec 32 := Scalar.addi v769 c0_i32_301
  let v771 : Index := Scalar.indexCast v770
  let c0_302 : Index := 0#32
  ![v771.toNat, 0]
def k0_off92 (k0_t4 : Fin k0_t4_loop.trips) (c0_i32_331 : BitVec 32) (c0_i32_332 : BitVec 32) : Fin 2 → Nat :=
  let c0_i32_35 : BitVec 32 := 0#32
  let c1_i32_37 : BitVec 32 := 1#32
  let arg14 : BitVec 32 := Scf.iv c0_i32_35 c1_i32_37 k0_t4
  let c516_i32 : BitVec 32 := 516#32
  let v828 : BitVec 32 := Scalar.muli arg14 c516_i32
  let v829 : BitVec 32 := Scalar.addi v828 c0_i32_331
  let v830 : BitVec 32 := Scalar.addi v829 c0_i32_332
  let v831 : Index := Scalar.indexCast v830
  let c0_333 : Index := 0#32
  ![v831.toNat, 0]
@[reducible] def k0_t5_loop : Scf.Loop 32 :=
  let c0_i32_46 : BitVec 32 := 0#32
  let c80_i32_47 : BitVec 32 := 80#32
  let v78 : BitVec 32 := Scalar.addi c0_i32_46 c80_i32_47
  let c1_i32_48 : BitVec 32 := 1#32
  ⟨c0_i32_46, v78, c1_i32_48⟩
def k0_off93 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v84 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c0_i32_51 : BitVec 32 := 0#32
  let v83 : BitVec 32 := Scalar.addi v82 c0_i32_51
  let v85 : Index := Scalar.indexCast v83
  ![v84.toNat, v85.toNat]
def k0_mult28 (i : grid0.Coords) (k0_t5 : Fin k0_t5_loop.trips) (v86 : BitVec 32) : BitVec 32 :=
  let c27030_i32 : BitVec 32 := 27030#32
  let c14_i32 : BitVec 32 := 14#32
  let v92 : BitVec 32 := Scalar.shrsi v86 c14_i32
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v93 : BitVec 32 := Scalar.andi v92 v77
  let c4_i32 : BitVec 32 := 4#32
  let v94 : BitVec 32 := Scalar.shrsi v93 c4_i32
  let v95 : BitVec 32 := Scalar.xori v93 v94
  let c15_i32 : BitVec 32 := 15#32
  let v96 : BitVec 32 := Scalar.andi v95 c15_i32
  let v97 : BitVec 32 := Scalar.shrsi c27030_i32 v96
  let c1_i32_53 : BitVec 32 := 1#32
  let v98 : BitVec 32 := Scalar.andi v97 c1_i32_53
  let c10240_i32 : BitVec 32 := 10240#32
  let v99 : BitVec 32 := Scalar.muli v98 c10240_i32
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c0_i32_54 : BitVec 32 := 0#32
  let v100 : BitVec 32 := Scalar.addi v82 c0_i32_54
  let c8_i32_55 : BitVec 32 := 8#32
  let v101 : BitVec 32 := Scalar.muli v100 c8_i32_55
  let v102 : BitVec 32 := Scalar.addi v99 v101
  v102

def k0_off94 (i : grid0.Coords) (k0_t5 : Fin k0_t5_loop.trips) (v86 : BitVec 32) : Fin 2 → Nat :=
  let c27030_i32 : BitVec 32 := 27030#32
  let c14_i32 : BitVec 32 := 14#32
  let v92 : BitVec 32 := Scalar.shrsi v86 c14_i32
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v93 : BitVec 32 := Scalar.andi v92 v77
  let c4_i32 : BitVec 32 := 4#32
  let v94 : BitVec 32 := Scalar.shrsi v93 c4_i32
  let v95 : BitVec 32 := Scalar.xori v93 v94
  let c15_i32 : BitVec 32 := 15#32
  let v96 : BitVec 32 := Scalar.andi v95 c15_i32
  let v97 : BitVec 32 := Scalar.shrsi c27030_i32 v96
  let c1_i32_53 : BitVec 32 := 1#32
  let v98 : BitVec 32 := Scalar.andi v97 c1_i32_53
  let c10240_i32 : BitVec 32 := 10240#32
  let v99 : BitVec 32 := Scalar.muli v98 c10240_i32
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c0_i32_54 : BitVec 32 := 0#32
  let v100 : BitVec 32 := Scalar.addi v82 c0_i32_54
  let c8_i32_55 : BitVec 32 := 8#32
  let v101 : BitVec 32 := Scalar.muli v100 c8_i32_55
  let v102 : BitVec 32 := Scalar.addi v99 v101
  let v103 : BitVec 32 := v102
  let v104 : Index := Scalar.indexCast v103
  let c0_56 : Index := 0#32
  ![v104.toNat, 0]
def k0_off95 (v86 : BitVec 32) : Fin 2 → Nat :=
  let c2047_i32 : BitVec 32 := 2047#32
  let v87 : BitVec 32 := Scalar.andi v86 c2047_i32
  let v106 : Index := Scalar.indexCast v87
  let c0_57 : Index := 0#32
  ![v106.toNat, 0]
def k0_off96 (v86 : BitVec 32) : Fin 2 → Nat :=
  let c255_i32 : BitVec 32 := 255#32
  let v88 : BitVec 32 := Scalar.andi v86 c255_i32
  let c2_i32_52 : BitVec 32 := 2#32
  let v89 : BitVec 32 := Scalar.shrsi v86 c2_i32_52
  let c256_i32 : BitVec 32 := 256#32
  let v90 : BitVec 32 := Scalar.andi v89 c256_i32
  let v91 : BitVec 32 := Scalar.addi v88 v90
  let v111 : Index := Scalar.indexCast v91
  let c0_59 : Index := 0#32
  ![v111.toNat, 0]
def k0_off97 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v115 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c1_i32_60 : BitVec 32 := 1#32
  let v114 : BitVec 32 := Scalar.addi v82 c1_i32_60
  let v116 : Index := Scalar.indexCast v114
  ![v115.toNat, v116.toNat]
def k0_mult29 (i : grid0.Coords) (k0_t5 : Fin k0_t5_loop.trips) (v117 : BitVec 32) : BitVec 32 :=
  let c27030_i32_68 : BitVec 32 := 27030#32
  let c14_i32_65 : BitVec 32 := 14#32
  let v123 : BitVec 32 := Scalar.shrsi v117 c14_i32_65
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v124 : BitVec 32 := Scalar.andi v123 v77
  let c4_i32_66 : BitVec 32 := 4#32
  let v125 : BitVec 32 := Scalar.shrsi v124 c4_i32_66
  let v126 : BitVec 32 := Scalar.xori v124 v125
  let c15_i32_67 : BitVec 32 := 15#32
  let v127 : BitVec 32 := Scalar.andi v126 c15_i32_67
  let v128 : BitVec 32 := Scalar.shrsi c27030_i32_68 v127
  let c1_i32_69 : BitVec 32 := 1#32
  let v129 : BitVec 32 := Scalar.andi v128 c1_i32_69
  let c10240_i32_70 : BitVec 32 := 10240#32
  let v130 : BitVec 32 := Scalar.muli v129 c10240_i32_70
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c1_i32_71 : BitVec 32 := 1#32
  let v131 : BitVec 32 := Scalar.addi v82 c1_i32_71
  let c8_i32_72 : BitVec 32 := 8#32
  let v132 : BitVec 32 := Scalar.muli v131 c8_i32_72
  let v133 : BitVec 32 := Scalar.addi v130 v132
  v133

def k0_off98 (i : grid0.Coords) (k0_t5 : Fin k0_t5_loop.trips) (v117 : BitVec 32) : Fin 2 → Nat :=
  let c27030_i32_68 : BitVec 32 := 27030#32
  let c14_i32_65 : BitVec 32 := 14#32
  let v123 : BitVec 32 := Scalar.shrsi v117 c14_i32_65
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v124 : BitVec 32 := Scalar.andi v123 v77
  let c4_i32_66 : BitVec 32 := 4#32
  let v125 : BitVec 32 := Scalar.shrsi v124 c4_i32_66
  let v126 : BitVec 32 := Scalar.xori v124 v125
  let c15_i32_67 : BitVec 32 := 15#32
  let v127 : BitVec 32 := Scalar.andi v126 c15_i32_67
  let v128 : BitVec 32 := Scalar.shrsi c27030_i32_68 v127
  let c1_i32_69 : BitVec 32 := 1#32
  let v129 : BitVec 32 := Scalar.andi v128 c1_i32_69
  let c10240_i32_70 : BitVec 32 := 10240#32
  let v130 : BitVec 32 := Scalar.muli v129 c10240_i32_70
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c1_i32_71 : BitVec 32 := 1#32
  let v131 : BitVec 32 := Scalar.addi v82 c1_i32_71
  let c8_i32_72 : BitVec 32 := 8#32
  let v132 : BitVec 32 := Scalar.muli v131 c8_i32_72
  let v133 : BitVec 32 := Scalar.addi v130 v132
  let v134 : BitVec 32 := v133
  let v135 : Index := Scalar.indexCast v134
  let c0_73 : Index := 0#32
  ![v135.toNat, 0]
def k0_off99 (v117 : BitVec 32) : Fin 2 → Nat :=
  let c2047_i32_61 : BitVec 32 := 2047#32
  let v118 : BitVec 32 := Scalar.andi v117 c2047_i32_61
  let v137 : Index := Scalar.indexCast v118
  let c0_74 : Index := 0#32
  ![v137.toNat, 0]
def k0_off100 (v117 : BitVec 32) : Fin 2 → Nat :=
  let c255_i32_62 : BitVec 32 := 255#32
  let v119 : BitVec 32 := Scalar.andi v117 c255_i32_62
  let c2_i32_63 : BitVec 32 := 2#32
  let v120 : BitVec 32 := Scalar.shrsi v117 c2_i32_63
  let c256_i32_64 : BitVec 32 := 256#32
  let v121 : BitVec 32 := Scalar.andi v120 c256_i32_64
  let v122 : BitVec 32 := Scalar.addi v119 v121
  let v142 : Index := Scalar.indexCast v122
  let c0_76 : Index := 0#32
  ![v142.toNat, 0]
def k0_off101 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v146 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c2_i32_77 : BitVec 32 := 2#32
  let v145 : BitVec 32 := Scalar.addi v82 c2_i32_77
  let v147 : Index := Scalar.indexCast v145
  ![v146.toNat, v147.toNat]
def k0_mult30 (i : grid0.Coords) (k0_t5 : Fin k0_t5_loop.trips) (v148 : BitVec 32) : BitVec 32 :=
  let c27030_i32_85 : BitVec 32 := 27030#32
  let c14_i32_82 : BitVec 32 := 14#32
  let v154 : BitVec 32 := Scalar.shrsi v148 c14_i32_82
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v155 : BitVec 32 := Scalar.andi v154 v77
  let c4_i32_83 : BitVec 32 := 4#32
  let v156 : BitVec 32 := Scalar.shrsi v155 c4_i32_83
  let v157 : BitVec 32 := Scalar.xori v155 v156
  let c15_i32_84 : BitVec 32 := 15#32
  let v158 : BitVec 32 := Scalar.andi v157 c15_i32_84
  let v159 : BitVec 32 := Scalar.shrsi c27030_i32_85 v158
  let c1_i32_86 : BitVec 32 := 1#32
  let v160 : BitVec 32 := Scalar.andi v159 c1_i32_86
  let c10240_i32_87 : BitVec 32 := 10240#32
  let v161 : BitVec 32 := Scalar.muli v160 c10240_i32_87
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c2_i32_88 : BitVec 32 := 2#32
  let v162 : BitVec 32 := Scalar.addi v82 c2_i32_88
  let c8_i32_89 : BitVec 32 := 8#32
  let v163 : BitVec 32 := Scalar.muli v162 c8_i32_89
  let v164 : BitVec 32 := Scalar.addi v161 v163
  v164

def k0_off102 (i : grid0.Coords) (k0_t5 : Fin k0_t5_loop.trips) (v148 : BitVec 32) : Fin 2 → Nat :=
  let c27030_i32_85 : BitVec 32 := 27030#32
  let c14_i32_82 : BitVec 32 := 14#32
  let v154 : BitVec 32 := Scalar.shrsi v148 c14_i32_82
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v155 : BitVec 32 := Scalar.andi v154 v77
  let c4_i32_83 : BitVec 32 := 4#32
  let v156 : BitVec 32 := Scalar.shrsi v155 c4_i32_83
  let v157 : BitVec 32 := Scalar.xori v155 v156
  let c15_i32_84 : BitVec 32 := 15#32
  let v158 : BitVec 32 := Scalar.andi v157 c15_i32_84
  let v159 : BitVec 32 := Scalar.shrsi c27030_i32_85 v158
  let c1_i32_86 : BitVec 32 := 1#32
  let v160 : BitVec 32 := Scalar.andi v159 c1_i32_86
  let c10240_i32_87 : BitVec 32 := 10240#32
  let v161 : BitVec 32 := Scalar.muli v160 c10240_i32_87
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c2_i32_88 : BitVec 32 := 2#32
  let v162 : BitVec 32 := Scalar.addi v82 c2_i32_88
  let c8_i32_89 : BitVec 32 := 8#32
  let v163 : BitVec 32 := Scalar.muli v162 c8_i32_89
  let v164 : BitVec 32 := Scalar.addi v161 v163
  let v165 : BitVec 32 := v164
  let v166 : Index := Scalar.indexCast v165
  let c0_90 : Index := 0#32
  ![v166.toNat, 0]
def k0_off103 (v148 : BitVec 32) : Fin 2 → Nat :=
  let c2047_i32_78 : BitVec 32 := 2047#32
  let v149 : BitVec 32 := Scalar.andi v148 c2047_i32_78
  let v168 : Index := Scalar.indexCast v149
  let c0_91 : Index := 0#32
  ![v168.toNat, 0]
def k0_off104 (v148 : BitVec 32) : Fin 2 → Nat :=
  let c255_i32_79 : BitVec 32 := 255#32
  let v150 : BitVec 32 := Scalar.andi v148 c255_i32_79
  let c2_i32_80 : BitVec 32 := 2#32
  let v151 : BitVec 32 := Scalar.shrsi v148 c2_i32_80
  let c256_i32_81 : BitVec 32 := 256#32
  let v152 : BitVec 32 := Scalar.andi v151 c256_i32_81
  let v153 : BitVec 32 := Scalar.addi v150 v152
  let v173 : Index := Scalar.indexCast v153
  let c0_93 : Index := 0#32
  ![v173.toNat, 0]
def k0_off105 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v177 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c3_i32 : BitVec 32 := 3#32
  let v176 : BitVec 32 := Scalar.addi v82 c3_i32
  let v178 : Index := Scalar.indexCast v176
  ![v177.toNat, v178.toNat]
def k0_mult31 (i : grid0.Coords) (k0_t5 : Fin k0_t5_loop.trips) (v179 : BitVec 32) : BitVec 32 :=
  let c27030_i32_101 : BitVec 32 := 27030#32
  let c14_i32_98 : BitVec 32 := 14#32
  let v185 : BitVec 32 := Scalar.shrsi v179 c14_i32_98
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v186 : BitVec 32 := Scalar.andi v185 v77
  let c4_i32_99 : BitVec 32 := 4#32
  let v187 : BitVec 32 := Scalar.shrsi v186 c4_i32_99
  let v188 : BitVec 32 := Scalar.xori v186 v187
  let c15_i32_100 : BitVec 32 := 15#32
  let v189 : BitVec 32 := Scalar.andi v188 c15_i32_100
  let v190 : BitVec 32 := Scalar.shrsi c27030_i32_101 v189
  let c1_i32_102 : BitVec 32 := 1#32
  let v191 : BitVec 32 := Scalar.andi v190 c1_i32_102
  let c10240_i32_103 : BitVec 32 := 10240#32
  let v192 : BitVec 32 := Scalar.muli v191 c10240_i32_103
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c3_i32_104 : BitVec 32 := 3#32
  let v193 : BitVec 32 := Scalar.addi v82 c3_i32_104
  let c8_i32_105 : BitVec 32 := 8#32
  let v194 : BitVec 32 := Scalar.muli v193 c8_i32_105
  let v195 : BitVec 32 := Scalar.addi v192 v194
  v195

def k0_off106 (i : grid0.Coords) (k0_t5 : Fin k0_t5_loop.trips) (v179 : BitVec 32) : Fin 2 → Nat :=
  let c27030_i32_101 : BitVec 32 := 27030#32
  let c14_i32_98 : BitVec 32 := 14#32
  let v185 : BitVec 32 := Scalar.shrsi v179 c14_i32_98
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v186 : BitVec 32 := Scalar.andi v185 v77
  let c4_i32_99 : BitVec 32 := 4#32
  let v187 : BitVec 32 := Scalar.shrsi v186 c4_i32_99
  let v188 : BitVec 32 := Scalar.xori v186 v187
  let c15_i32_100 : BitVec 32 := 15#32
  let v189 : BitVec 32 := Scalar.andi v188 c15_i32_100
  let v190 : BitVec 32 := Scalar.shrsi c27030_i32_101 v189
  let c1_i32_102 : BitVec 32 := 1#32
  let v191 : BitVec 32 := Scalar.andi v190 c1_i32_102
  let c10240_i32_103 : BitVec 32 := 10240#32
  let v192 : BitVec 32 := Scalar.muli v191 c10240_i32_103
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c3_i32_104 : BitVec 32 := 3#32
  let v193 : BitVec 32 := Scalar.addi v82 c3_i32_104
  let c8_i32_105 : BitVec 32 := 8#32
  let v194 : BitVec 32 := Scalar.muli v193 c8_i32_105
  let v195 : BitVec 32 := Scalar.addi v192 v194
  let v196 : BitVec 32 := v195
  let v197 : Index := Scalar.indexCast v196
  let c0_106 : Index := 0#32
  ![v197.toNat, 0]
def k0_off107 (v179 : BitVec 32) : Fin 2 → Nat :=
  let c2047_i32_94 : BitVec 32 := 2047#32
  let v180 : BitVec 32 := Scalar.andi v179 c2047_i32_94
  let v199 : Index := Scalar.indexCast v180
  let c0_107 : Index := 0#32
  ![v199.toNat, 0]
def k0_off108 (v179 : BitVec 32) : Fin 2 → Nat :=
  let c255_i32_95 : BitVec 32 := 255#32
  let v181 : BitVec 32 := Scalar.andi v179 c255_i32_95
  let c2_i32_96 : BitVec 32 := 2#32
  let v182 : BitVec 32 := Scalar.shrsi v179 c2_i32_96
  let c256_i32_97 : BitVec 32 := 256#32
  let v183 : BitVec 32 := Scalar.andi v182 c256_i32_97
  let v184 : BitVec 32 := Scalar.addi v181 v183
  let v204 : Index := Scalar.indexCast v184
  let c0_109 : Index := 0#32
  ![v204.toNat, 0]
def k0_off109 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v208 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c4_i32_110 : BitVec 32 := 4#32
  let v207 : BitVec 32 := Scalar.addi v82 c4_i32_110
  let v209 : Index := Scalar.indexCast v207
  ![v208.toNat, v209.toNat]
def k0_mult32 (i : grid0.Coords) (k0_t5 : Fin k0_t5_loop.trips) (v210 : BitVec 32) : BitVec 32 :=
  let c27030_i32_118 : BitVec 32 := 27030#32
  let c14_i32_115 : BitVec 32 := 14#32
  let v216 : BitVec 32 := Scalar.shrsi v210 c14_i32_115
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v217 : BitVec 32 := Scalar.andi v216 v77
  let c4_i32_116 : BitVec 32 := 4#32
  let v218 : BitVec 32 := Scalar.shrsi v217 c4_i32_116
  let v219 : BitVec 32 := Scalar.xori v217 v218
  let c15_i32_117 : BitVec 32 := 15#32
  let v220 : BitVec 32 := Scalar.andi v219 c15_i32_117
  let v221 : BitVec 32 := Scalar.shrsi c27030_i32_118 v220
  let c1_i32_119 : BitVec 32 := 1#32
  let v222 : BitVec 32 := Scalar.andi v221 c1_i32_119
  let c10240_i32_120 : BitVec 32 := 10240#32
  let v223 : BitVec 32 := Scalar.muli v222 c10240_i32_120
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c4_i32_121 : BitVec 32 := 4#32
  let v224 : BitVec 32 := Scalar.addi v82 c4_i32_121
  let c8_i32_122 : BitVec 32 := 8#32
  let v225 : BitVec 32 := Scalar.muli v224 c8_i32_122
  let v226 : BitVec 32 := Scalar.addi v223 v225
  v226

def k0_off110 (i : grid0.Coords) (k0_t5 : Fin k0_t5_loop.trips) (v210 : BitVec 32) : Fin 2 → Nat :=
  let c27030_i32_118 : BitVec 32 := 27030#32
  let c14_i32_115 : BitVec 32 := 14#32
  let v216 : BitVec 32 := Scalar.shrsi v210 c14_i32_115
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v217 : BitVec 32 := Scalar.andi v216 v77
  let c4_i32_116 : BitVec 32 := 4#32
  let v218 : BitVec 32 := Scalar.shrsi v217 c4_i32_116
  let v219 : BitVec 32 := Scalar.xori v217 v218
  let c15_i32_117 : BitVec 32 := 15#32
  let v220 : BitVec 32 := Scalar.andi v219 c15_i32_117
  let v221 : BitVec 32 := Scalar.shrsi c27030_i32_118 v220
  let c1_i32_119 : BitVec 32 := 1#32
  let v222 : BitVec 32 := Scalar.andi v221 c1_i32_119
  let c10240_i32_120 : BitVec 32 := 10240#32
  let v223 : BitVec 32 := Scalar.muli v222 c10240_i32_120
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c4_i32_121 : BitVec 32 := 4#32
  let v224 : BitVec 32 := Scalar.addi v82 c4_i32_121
  let c8_i32_122 : BitVec 32 := 8#32
  let v225 : BitVec 32 := Scalar.muli v224 c8_i32_122
  let v226 : BitVec 32 := Scalar.addi v223 v225
  let v227 : BitVec 32 := v226
  let v228 : Index := Scalar.indexCast v227
  let c0_123 : Index := 0#32
  ![v228.toNat, 0]
def k0_off111 (v210 : BitVec 32) : Fin 2 → Nat :=
  let c2047_i32_111 : BitVec 32 := 2047#32
  let v211 : BitVec 32 := Scalar.andi v210 c2047_i32_111
  let v230 : Index := Scalar.indexCast v211
  let c0_124 : Index := 0#32
  ![v230.toNat, 0]
def k0_off112 (v210 : BitVec 32) : Fin 2 → Nat :=
  let c255_i32_112 : BitVec 32 := 255#32
  let v212 : BitVec 32 := Scalar.andi v210 c255_i32_112
  let c2_i32_113 : BitVec 32 := 2#32
  let v213 : BitVec 32 := Scalar.shrsi v210 c2_i32_113
  let c256_i32_114 : BitVec 32 := 256#32
  let v214 : BitVec 32 := Scalar.andi v213 c256_i32_114
  let v215 : BitVec 32 := Scalar.addi v212 v214
  let v235 : Index := Scalar.indexCast v215
  let c0_126 : Index := 0#32
  ![v235.toNat, 0]
def k0_off113 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v239 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c5_i32 : BitVec 32 := 5#32
  let v238 : BitVec 32 := Scalar.addi v82 c5_i32
  let v240 : Index := Scalar.indexCast v238
  ![v239.toNat, v240.toNat]
def k0_mult33 (i : grid0.Coords) (k0_t5 : Fin k0_t5_loop.trips) (v241 : BitVec 32) : BitVec 32 :=
  let c27030_i32_134 : BitVec 32 := 27030#32
  let c14_i32_131 : BitVec 32 := 14#32
  let v247 : BitVec 32 := Scalar.shrsi v241 c14_i32_131
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v248 : BitVec 32 := Scalar.andi v247 v77
  let c4_i32_132 : BitVec 32 := 4#32
  let v249 : BitVec 32 := Scalar.shrsi v248 c4_i32_132
  let v250 : BitVec 32 := Scalar.xori v248 v249
  let c15_i32_133 : BitVec 32 := 15#32
  let v251 : BitVec 32 := Scalar.andi v250 c15_i32_133
  let v252 : BitVec 32 := Scalar.shrsi c27030_i32_134 v251
  let c1_i32_135 : BitVec 32 := 1#32
  let v253 : BitVec 32 := Scalar.andi v252 c1_i32_135
  let c10240_i32_136 : BitVec 32 := 10240#32
  let v254 : BitVec 32 := Scalar.muli v253 c10240_i32_136
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c5_i32_137 : BitVec 32 := 5#32
  let v255 : BitVec 32 := Scalar.addi v82 c5_i32_137
  let c8_i32_138 : BitVec 32 := 8#32
  let v256 : BitVec 32 := Scalar.muli v255 c8_i32_138
  let v257 : BitVec 32 := Scalar.addi v254 v256
  v257

def k0_off114 (i : grid0.Coords) (k0_t5 : Fin k0_t5_loop.trips) (v241 : BitVec 32) : Fin 2 → Nat :=
  let c27030_i32_134 : BitVec 32 := 27030#32
  let c14_i32_131 : BitVec 32 := 14#32
  let v247 : BitVec 32 := Scalar.shrsi v241 c14_i32_131
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v248 : BitVec 32 := Scalar.andi v247 v77
  let c4_i32_132 : BitVec 32 := 4#32
  let v249 : BitVec 32 := Scalar.shrsi v248 c4_i32_132
  let v250 : BitVec 32 := Scalar.xori v248 v249
  let c15_i32_133 : BitVec 32 := 15#32
  let v251 : BitVec 32 := Scalar.andi v250 c15_i32_133
  let v252 : BitVec 32 := Scalar.shrsi c27030_i32_134 v251
  let c1_i32_135 : BitVec 32 := 1#32
  let v253 : BitVec 32 := Scalar.andi v252 c1_i32_135
  let c10240_i32_136 : BitVec 32 := 10240#32
  let v254 : BitVec 32 := Scalar.muli v253 c10240_i32_136
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c5_i32_137 : BitVec 32 := 5#32
  let v255 : BitVec 32 := Scalar.addi v82 c5_i32_137
  let c8_i32_138 : BitVec 32 := 8#32
  let v256 : BitVec 32 := Scalar.muli v255 c8_i32_138
  let v257 : BitVec 32 := Scalar.addi v254 v256
  let v258 : BitVec 32 := v257
  let v259 : Index := Scalar.indexCast v258
  let c0_139 : Index := 0#32
  ![v259.toNat, 0]
def k0_off115 (v241 : BitVec 32) : Fin 2 → Nat :=
  let c2047_i32_127 : BitVec 32 := 2047#32
  let v242 : BitVec 32 := Scalar.andi v241 c2047_i32_127
  let v261 : Index := Scalar.indexCast v242
  let c0_140 : Index := 0#32
  ![v261.toNat, 0]
def k0_off116 (v241 : BitVec 32) : Fin 2 → Nat :=
  let c255_i32_128 : BitVec 32 := 255#32
  let v243 : BitVec 32 := Scalar.andi v241 c255_i32_128
  let c2_i32_129 : BitVec 32 := 2#32
  let v244 : BitVec 32 := Scalar.shrsi v241 c2_i32_129
  let c256_i32_130 : BitVec 32 := 256#32
  let v245 : BitVec 32 := Scalar.andi v244 c256_i32_130
  let v246 : BitVec 32 := Scalar.addi v243 v245
  let v266 : Index := Scalar.indexCast v246
  let c0_142 : Index := 0#32
  ![v266.toNat, 0]
def k0_off117 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v270 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c6_i32 : BitVec 32 := 6#32
  let v269 : BitVec 32 := Scalar.addi v82 c6_i32
  let v271 : Index := Scalar.indexCast v269
  ![v270.toNat, v271.toNat]
def k0_mult34 (i : grid0.Coords) (k0_t5 : Fin k0_t5_loop.trips) (v272 : BitVec 32) : BitVec 32 :=
  let c27030_i32_150 : BitVec 32 := 27030#32
  let c14_i32_147 : BitVec 32 := 14#32
  let v278 : BitVec 32 := Scalar.shrsi v272 c14_i32_147
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v279 : BitVec 32 := Scalar.andi v278 v77
  let c4_i32_148 : BitVec 32 := 4#32
  let v280 : BitVec 32 := Scalar.shrsi v279 c4_i32_148
  let v281 : BitVec 32 := Scalar.xori v279 v280
  let c15_i32_149 : BitVec 32 := 15#32
  let v282 : BitVec 32 := Scalar.andi v281 c15_i32_149
  let v283 : BitVec 32 := Scalar.shrsi c27030_i32_150 v282
  let c1_i32_151 : BitVec 32 := 1#32
  let v284 : BitVec 32 := Scalar.andi v283 c1_i32_151
  let c10240_i32_152 : BitVec 32 := 10240#32
  let v285 : BitVec 32 := Scalar.muli v284 c10240_i32_152
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c6_i32_153 : BitVec 32 := 6#32
  let v286 : BitVec 32 := Scalar.addi v82 c6_i32_153
  let c8_i32_154 : BitVec 32 := 8#32
  let v287 : BitVec 32 := Scalar.muli v286 c8_i32_154
  let v288 : BitVec 32 := Scalar.addi v285 v287
  v288

def k0_off118 (i : grid0.Coords) (k0_t5 : Fin k0_t5_loop.trips) (v272 : BitVec 32) : Fin 2 → Nat :=
  let c27030_i32_150 : BitVec 32 := 27030#32
  let c14_i32_147 : BitVec 32 := 14#32
  let v278 : BitVec 32 := Scalar.shrsi v272 c14_i32_147
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v279 : BitVec 32 := Scalar.andi v278 v77
  let c4_i32_148 : BitVec 32 := 4#32
  let v280 : BitVec 32 := Scalar.shrsi v279 c4_i32_148
  let v281 : BitVec 32 := Scalar.xori v279 v280
  let c15_i32_149 : BitVec 32 := 15#32
  let v282 : BitVec 32 := Scalar.andi v281 c15_i32_149
  let v283 : BitVec 32 := Scalar.shrsi c27030_i32_150 v282
  let c1_i32_151 : BitVec 32 := 1#32
  let v284 : BitVec 32 := Scalar.andi v283 c1_i32_151
  let c10240_i32_152 : BitVec 32 := 10240#32
  let v285 : BitVec 32 := Scalar.muli v284 c10240_i32_152
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c6_i32_153 : BitVec 32 := 6#32
  let v286 : BitVec 32 := Scalar.addi v82 c6_i32_153
  let c8_i32_154 : BitVec 32 := 8#32
  let v287 : BitVec 32 := Scalar.muli v286 c8_i32_154
  let v288 : BitVec 32 := Scalar.addi v285 v287
  let v289 : BitVec 32 := v288
  let v290 : Index := Scalar.indexCast v289
  let c0_155 : Index := 0#32
  ![v290.toNat, 0]
def k0_off119 (v272 : BitVec 32) : Fin 2 → Nat :=
  let c2047_i32_143 : BitVec 32 := 2047#32
  let v273 : BitVec 32 := Scalar.andi v272 c2047_i32_143
  let v292 : Index := Scalar.indexCast v273
  let c0_156 : Index := 0#32
  ![v292.toNat, 0]
def k0_off120 (v272 : BitVec 32) : Fin 2 → Nat :=
  let c255_i32_144 : BitVec 32 := 255#32
  let v274 : BitVec 32 := Scalar.andi v272 c255_i32_144
  let c2_i32_145 : BitVec 32 := 2#32
  let v275 : BitVec 32 := Scalar.shrsi v272 c2_i32_145
  let c256_i32_146 : BitVec 32 := 256#32
  let v276 : BitVec 32 := Scalar.andi v275 c256_i32_146
  let v277 : BitVec 32 := Scalar.addi v274 v276
  let v297 : Index := Scalar.indexCast v277
  let c0_158 : Index := 0#32
  ![v297.toNat, 0]
def k0_off121 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v301 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c7_i32 : BitVec 32 := 7#32
  let v300 : BitVec 32 := Scalar.addi v82 c7_i32
  let v302 : Index := Scalar.indexCast v300
  ![v301.toNat, v302.toNat]
def k0_mult35 (i : grid0.Coords) (k0_t5 : Fin k0_t5_loop.trips) (v303 : BitVec 32) : BitVec 32 :=
  let c27030_i32_166 : BitVec 32 := 27030#32
  let c14_i32_163 : BitVec 32 := 14#32
  let v309 : BitVec 32 := Scalar.shrsi v303 c14_i32_163
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v310 : BitVec 32 := Scalar.andi v309 v77
  let c4_i32_164 : BitVec 32 := 4#32
  let v311 : BitVec 32 := Scalar.shrsi v310 c4_i32_164
  let v312 : BitVec 32 := Scalar.xori v310 v311
  let c15_i32_165 : BitVec 32 := 15#32
  let v313 : BitVec 32 := Scalar.andi v312 c15_i32_165
  let v314 : BitVec 32 := Scalar.shrsi c27030_i32_166 v313
  let c1_i32_167 : BitVec 32 := 1#32
  let v315 : BitVec 32 := Scalar.andi v314 c1_i32_167
  let c10240_i32_168 : BitVec 32 := 10240#32
  let v316 : BitVec 32 := Scalar.muli v315 c10240_i32_168
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c7_i32_169 : BitVec 32 := 7#32
  let v317 : BitVec 32 := Scalar.addi v82 c7_i32_169
  let c8_i32_170 : BitVec 32 := 8#32
  let v318 : BitVec 32 := Scalar.muli v317 c8_i32_170
  let v319 : BitVec 32 := Scalar.addi v316 v318
  v319

def k0_off122 (i : grid0.Coords) (k0_t5 : Fin k0_t5_loop.trips) (v303 : BitVec 32) : Fin 2 → Nat :=
  let c27030_i32_166 : BitVec 32 := 27030#32
  let c14_i32_163 : BitVec 32 := 14#32
  let v309 : BitVec 32 := Scalar.shrsi v303 c14_i32_163
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v310 : BitVec 32 := Scalar.andi v309 v77
  let c4_i32_164 : BitVec 32 := 4#32
  let v311 : BitVec 32 := Scalar.shrsi v310 c4_i32_164
  let v312 : BitVec 32 := Scalar.xori v310 v311
  let c15_i32_165 : BitVec 32 := 15#32
  let v313 : BitVec 32 := Scalar.andi v312 c15_i32_165
  let v314 : BitVec 32 := Scalar.shrsi c27030_i32_166 v313
  let c1_i32_167 : BitVec 32 := 1#32
  let v315 : BitVec 32 := Scalar.andi v314 c1_i32_167
  let c10240_i32_168 : BitVec 32 := 10240#32
  let v316 : BitVec 32 := Scalar.muli v315 c10240_i32_168
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c7_i32_169 : BitVec 32 := 7#32
  let v317 : BitVec 32 := Scalar.addi v82 c7_i32_169
  let c8_i32_170 : BitVec 32 := 8#32
  let v318 : BitVec 32 := Scalar.muli v317 c8_i32_170
  let v319 : BitVec 32 := Scalar.addi v316 v318
  let v320 : BitVec 32 := v319
  let v321 : Index := Scalar.indexCast v320
  let c0_171 : Index := 0#32
  ![v321.toNat, 0]
def k0_off123 (v303 : BitVec 32) : Fin 2 → Nat :=
  let c2047_i32_159 : BitVec 32 := 2047#32
  let v304 : BitVec 32 := Scalar.andi v303 c2047_i32_159
  let v323 : Index := Scalar.indexCast v304
  let c0_172 : Index := 0#32
  ![v323.toNat, 0]
def k0_off124 (v303 : BitVec 32) : Fin 2 → Nat :=
  let c255_i32_160 : BitVec 32 := 255#32
  let v305 : BitVec 32 := Scalar.andi v303 c255_i32_160
  let c2_i32_161 : BitVec 32 := 2#32
  let v306 : BitVec 32 := Scalar.shrsi v303 c2_i32_161
  let c256_i32_162 : BitVec 32 := 256#32
  let v307 : BitVec 32 := Scalar.andi v306 c256_i32_162
  let v308 : BitVec 32 := Scalar.addi v305 v307
  let v328 : Index := Scalar.indexCast v308
  let c0_174 : Index := 0#32
  ![v328.toNat, 0]
def k0_off125 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v332 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c8_i32_175 : BitVec 32 := 8#32
  let v331 : BitVec 32 := Scalar.addi v82 c8_i32_175
  let v333 : Index := Scalar.indexCast v331
  ![v332.toNat, v333.toNat]
def k0_mult36 (i : grid0.Coords) (k0_t5 : Fin k0_t5_loop.trips) (v334 : BitVec 32) : BitVec 32 :=
  let c27030_i32_183 : BitVec 32 := 27030#32
  let c14_i32_180 : BitVec 32 := 14#32
  let v340 : BitVec 32 := Scalar.shrsi v334 c14_i32_180
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v341 : BitVec 32 := Scalar.andi v340 v77
  let c4_i32_181 : BitVec 32 := 4#32
  let v342 : BitVec 32 := Scalar.shrsi v341 c4_i32_181
  let v343 : BitVec 32 := Scalar.xori v341 v342
  let c15_i32_182 : BitVec 32 := 15#32
  let v344 : BitVec 32 := Scalar.andi v343 c15_i32_182
  let v345 : BitVec 32 := Scalar.shrsi c27030_i32_183 v344
  let c1_i32_184 : BitVec 32 := 1#32
  let v346 : BitVec 32 := Scalar.andi v345 c1_i32_184
  let c10240_i32_185 : BitVec 32 := 10240#32
  let v347 : BitVec 32 := Scalar.muli v346 c10240_i32_185
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c8_i32_186 : BitVec 32 := 8#32
  let v348 : BitVec 32 := Scalar.addi v82 c8_i32_186
  let c8_i32_187 : BitVec 32 := 8#32
  let v349 : BitVec 32 := Scalar.muli v348 c8_i32_187
  let v350 : BitVec 32 := Scalar.addi v347 v349
  v350

def k0_off126 (i : grid0.Coords) (k0_t5 : Fin k0_t5_loop.trips) (v334 : BitVec 32) : Fin 2 → Nat :=
  let c27030_i32_183 : BitVec 32 := 27030#32
  let c14_i32_180 : BitVec 32 := 14#32
  let v340 : BitVec 32 := Scalar.shrsi v334 c14_i32_180
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v341 : BitVec 32 := Scalar.andi v340 v77
  let c4_i32_181 : BitVec 32 := 4#32
  let v342 : BitVec 32 := Scalar.shrsi v341 c4_i32_181
  let v343 : BitVec 32 := Scalar.xori v341 v342
  let c15_i32_182 : BitVec 32 := 15#32
  let v344 : BitVec 32 := Scalar.andi v343 c15_i32_182
  let v345 : BitVec 32 := Scalar.shrsi c27030_i32_183 v344
  let c1_i32_184 : BitVec 32 := 1#32
  let v346 : BitVec 32 := Scalar.andi v345 c1_i32_184
  let c10240_i32_185 : BitVec 32 := 10240#32
  let v347 : BitVec 32 := Scalar.muli v346 c10240_i32_185
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c8_i32_186 : BitVec 32 := 8#32
  let v348 : BitVec 32 := Scalar.addi v82 c8_i32_186
  let c8_i32_187 : BitVec 32 := 8#32
  let v349 : BitVec 32 := Scalar.muli v348 c8_i32_187
  let v350 : BitVec 32 := Scalar.addi v347 v349
  let v351 : BitVec 32 := v350
  let v352 : Index := Scalar.indexCast v351
  let c0_188 : Index := 0#32
  ![v352.toNat, 0]
def k0_off127 (v334 : BitVec 32) : Fin 2 → Nat :=
  let c2047_i32_176 : BitVec 32 := 2047#32
  let v335 : BitVec 32 := Scalar.andi v334 c2047_i32_176
  let v354 : Index := Scalar.indexCast v335
  let c0_189 : Index := 0#32
  ![v354.toNat, 0]
def k0_off128 (v334 : BitVec 32) : Fin 2 → Nat :=
  let c255_i32_177 : BitVec 32 := 255#32
  let v336 : BitVec 32 := Scalar.andi v334 c255_i32_177
  let c2_i32_178 : BitVec 32 := 2#32
  let v337 : BitVec 32 := Scalar.shrsi v334 c2_i32_178
  let c256_i32_179 : BitVec 32 := 256#32
  let v338 : BitVec 32 := Scalar.andi v337 c256_i32_179
  let v339 : BitVec 32 := Scalar.addi v336 v338
  let v359 : Index := Scalar.indexCast v339
  let c0_191 : Index := 0#32
  ![v359.toNat, 0]
def k0_off129 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v363 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c9_i32 : BitVec 32 := 9#32
  let v362 : BitVec 32 := Scalar.addi v82 c9_i32
  let v364 : Index := Scalar.indexCast v362
  ![v363.toNat, v364.toNat]
def k0_mult37 (i : grid0.Coords) (k0_t5 : Fin k0_t5_loop.trips) (v365 : BitVec 32) : BitVec 32 :=
  let c27030_i32_199 : BitVec 32 := 27030#32
  let c14_i32_196 : BitVec 32 := 14#32
  let v371 : BitVec 32 := Scalar.shrsi v365 c14_i32_196
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v372 : BitVec 32 := Scalar.andi v371 v77
  let c4_i32_197 : BitVec 32 := 4#32
  let v373 : BitVec 32 := Scalar.shrsi v372 c4_i32_197
  let v374 : BitVec 32 := Scalar.xori v372 v373
  let c15_i32_198 : BitVec 32 := 15#32
  let v375 : BitVec 32 := Scalar.andi v374 c15_i32_198
  let v376 : BitVec 32 := Scalar.shrsi c27030_i32_199 v375
  let c1_i32_200 : BitVec 32 := 1#32
  let v377 : BitVec 32 := Scalar.andi v376 c1_i32_200
  let c10240_i32_201 : BitVec 32 := 10240#32
  let v378 : BitVec 32 := Scalar.muli v377 c10240_i32_201
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c9_i32_202 : BitVec 32 := 9#32
  let v379 : BitVec 32 := Scalar.addi v82 c9_i32_202
  let c8_i32_203 : BitVec 32 := 8#32
  let v380 : BitVec 32 := Scalar.muli v379 c8_i32_203
  let v381 : BitVec 32 := Scalar.addi v378 v380
  v381

def k0_off130 (i : grid0.Coords) (k0_t5 : Fin k0_t5_loop.trips) (v365 : BitVec 32) : Fin 2 → Nat :=
  let c27030_i32_199 : BitVec 32 := 27030#32
  let c14_i32_196 : BitVec 32 := 14#32
  let v371 : BitVec 32 := Scalar.shrsi v365 c14_i32_196
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v372 : BitVec 32 := Scalar.andi v371 v77
  let c4_i32_197 : BitVec 32 := 4#32
  let v373 : BitVec 32 := Scalar.shrsi v372 c4_i32_197
  let v374 : BitVec 32 := Scalar.xori v372 v373
  let c15_i32_198 : BitVec 32 := 15#32
  let v375 : BitVec 32 := Scalar.andi v374 c15_i32_198
  let v376 : BitVec 32 := Scalar.shrsi c27030_i32_199 v375
  let c1_i32_200 : BitVec 32 := 1#32
  let v377 : BitVec 32 := Scalar.andi v376 c1_i32_200
  let c10240_i32_201 : BitVec 32 := 10240#32
  let v378 : BitVec 32 := Scalar.muli v377 c10240_i32_201
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c9_i32_202 : BitVec 32 := 9#32
  let v379 : BitVec 32 := Scalar.addi v82 c9_i32_202
  let c8_i32_203 : BitVec 32 := 8#32
  let v380 : BitVec 32 := Scalar.muli v379 c8_i32_203
  let v381 : BitVec 32 := Scalar.addi v378 v380
  let v382 : BitVec 32 := v381
  let v383 : Index := Scalar.indexCast v382
  let c0_204 : Index := 0#32
  ![v383.toNat, 0]
def k0_off131 (v365 : BitVec 32) : Fin 2 → Nat :=
  let c2047_i32_192 : BitVec 32 := 2047#32
  let v366 : BitVec 32 := Scalar.andi v365 c2047_i32_192
  let v385 : Index := Scalar.indexCast v366
  let c0_205 : Index := 0#32
  ![v385.toNat, 0]
def k0_off132 (v365 : BitVec 32) : Fin 2 → Nat :=
  let c255_i32_193 : BitVec 32 := 255#32
  let v367 : BitVec 32 := Scalar.andi v365 c255_i32_193
  let c2_i32_194 : BitVec 32 := 2#32
  let v368 : BitVec 32 := Scalar.shrsi v365 c2_i32_194
  let c256_i32_195 : BitVec 32 := 256#32
  let v369 : BitVec 32 := Scalar.andi v368 c256_i32_195
  let v370 : BitVec 32 := Scalar.addi v367 v369
  let v390 : Index := Scalar.indexCast v370
  let c0_207 : Index := 0#32
  ![v390.toNat, 0]
def k0_off133 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v394 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c10_i32 : BitVec 32 := 10#32
  let v393 : BitVec 32 := Scalar.addi v82 c10_i32
  let v395 : Index := Scalar.indexCast v393
  ![v394.toNat, v395.toNat]
def k0_mult38 (i : grid0.Coords) (k0_t5 : Fin k0_t5_loop.trips) (v396 : BitVec 32) : BitVec 32 :=
  let c27030_i32_215 : BitVec 32 := 27030#32
  let c14_i32_212 : BitVec 32 := 14#32
  let v402 : BitVec 32 := Scalar.shrsi v396 c14_i32_212
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v403 : BitVec 32 := Scalar.andi v402 v77
  let c4_i32_213 : BitVec 32 := 4#32
  let v404 : BitVec 32 := Scalar.shrsi v403 c4_i32_213
  let v405 : BitVec 32 := Scalar.xori v403 v404
  let c15_i32_214 : BitVec 32 := 15#32
  let v406 : BitVec 32 := Scalar.andi v405 c15_i32_214
  let v407 : BitVec 32 := Scalar.shrsi c27030_i32_215 v406
  let c1_i32_216 : BitVec 32 := 1#32
  let v408 : BitVec 32 := Scalar.andi v407 c1_i32_216
  let c10240_i32_217 : BitVec 32 := 10240#32
  let v409 : BitVec 32 := Scalar.muli v408 c10240_i32_217
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c10_i32_218 : BitVec 32 := 10#32
  let v410 : BitVec 32 := Scalar.addi v82 c10_i32_218
  let c8_i32_219 : BitVec 32 := 8#32
  let v411 : BitVec 32 := Scalar.muli v410 c8_i32_219
  let v412 : BitVec 32 := Scalar.addi v409 v411
  v412

def k0_off134 (i : grid0.Coords) (k0_t5 : Fin k0_t5_loop.trips) (v396 : BitVec 32) : Fin 2 → Nat :=
  let c27030_i32_215 : BitVec 32 := 27030#32
  let c14_i32_212 : BitVec 32 := 14#32
  let v402 : BitVec 32 := Scalar.shrsi v396 c14_i32_212
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v403 : BitVec 32 := Scalar.andi v402 v77
  let c4_i32_213 : BitVec 32 := 4#32
  let v404 : BitVec 32 := Scalar.shrsi v403 c4_i32_213
  let v405 : BitVec 32 := Scalar.xori v403 v404
  let c15_i32_214 : BitVec 32 := 15#32
  let v406 : BitVec 32 := Scalar.andi v405 c15_i32_214
  let v407 : BitVec 32 := Scalar.shrsi c27030_i32_215 v406
  let c1_i32_216 : BitVec 32 := 1#32
  let v408 : BitVec 32 := Scalar.andi v407 c1_i32_216
  let c10240_i32_217 : BitVec 32 := 10240#32
  let v409 : BitVec 32 := Scalar.muli v408 c10240_i32_217
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c10_i32_218 : BitVec 32 := 10#32
  let v410 : BitVec 32 := Scalar.addi v82 c10_i32_218
  let c8_i32_219 : BitVec 32 := 8#32
  let v411 : BitVec 32 := Scalar.muli v410 c8_i32_219
  let v412 : BitVec 32 := Scalar.addi v409 v411
  let v413 : BitVec 32 := v412
  let v414 : Index := Scalar.indexCast v413
  let c0_220 : Index := 0#32
  ![v414.toNat, 0]
def k0_off135 (v396 : BitVec 32) : Fin 2 → Nat :=
  let c2047_i32_208 : BitVec 32 := 2047#32
  let v397 : BitVec 32 := Scalar.andi v396 c2047_i32_208
  let v416 : Index := Scalar.indexCast v397
  let c0_221 : Index := 0#32
  ![v416.toNat, 0]
def k0_off136 (v396 : BitVec 32) : Fin 2 → Nat :=
  let c255_i32_209 : BitVec 32 := 255#32
  let v398 : BitVec 32 := Scalar.andi v396 c255_i32_209
  let c2_i32_210 : BitVec 32 := 2#32
  let v399 : BitVec 32 := Scalar.shrsi v396 c2_i32_210
  let c256_i32_211 : BitVec 32 := 256#32
  let v400 : BitVec 32 := Scalar.andi v399 c256_i32_211
  let v401 : BitVec 32 := Scalar.addi v398 v400
  let v421 : Index := Scalar.indexCast v401
  let c0_223 : Index := 0#32
  ![v421.toNat, 0]
def k0_off137 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v425 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c11_i32 : BitVec 32 := 11#32
  let v424 : BitVec 32 := Scalar.addi v82 c11_i32
  let v426 : Index := Scalar.indexCast v424
  ![v425.toNat, v426.toNat]
def k0_mult39 (i : grid0.Coords) (k0_t5 : Fin k0_t5_loop.trips) (v427 : BitVec 32) : BitVec 32 :=
  let c27030_i32_231 : BitVec 32 := 27030#32
  let c14_i32_228 : BitVec 32 := 14#32
  let v433 : BitVec 32 := Scalar.shrsi v427 c14_i32_228
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v434 : BitVec 32 := Scalar.andi v433 v77
  let c4_i32_229 : BitVec 32 := 4#32
  let v435 : BitVec 32 := Scalar.shrsi v434 c4_i32_229
  let v436 : BitVec 32 := Scalar.xori v434 v435
  let c15_i32_230 : BitVec 32 := 15#32
  let v437 : BitVec 32 := Scalar.andi v436 c15_i32_230
  let v438 : BitVec 32 := Scalar.shrsi c27030_i32_231 v437
  let c1_i32_232 : BitVec 32 := 1#32
  let v439 : BitVec 32 := Scalar.andi v438 c1_i32_232
  let c10240_i32_233 : BitVec 32 := 10240#32
  let v440 : BitVec 32 := Scalar.muli v439 c10240_i32_233
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c11_i32_234 : BitVec 32 := 11#32
  let v441 : BitVec 32 := Scalar.addi v82 c11_i32_234
  let c8_i32_235 : BitVec 32 := 8#32
  let v442 : BitVec 32 := Scalar.muli v441 c8_i32_235
  let v443 : BitVec 32 := Scalar.addi v440 v442
  v443

def k0_off138 (i : grid0.Coords) (k0_t5 : Fin k0_t5_loop.trips) (v427 : BitVec 32) : Fin 2 → Nat :=
  let c27030_i32_231 : BitVec 32 := 27030#32
  let c14_i32_228 : BitVec 32 := 14#32
  let v433 : BitVec 32 := Scalar.shrsi v427 c14_i32_228
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v434 : BitVec 32 := Scalar.andi v433 v77
  let c4_i32_229 : BitVec 32 := 4#32
  let v435 : BitVec 32 := Scalar.shrsi v434 c4_i32_229
  let v436 : BitVec 32 := Scalar.xori v434 v435
  let c15_i32_230 : BitVec 32 := 15#32
  let v437 : BitVec 32 := Scalar.andi v436 c15_i32_230
  let v438 : BitVec 32 := Scalar.shrsi c27030_i32_231 v437
  let c1_i32_232 : BitVec 32 := 1#32
  let v439 : BitVec 32 := Scalar.andi v438 c1_i32_232
  let c10240_i32_233 : BitVec 32 := 10240#32
  let v440 : BitVec 32 := Scalar.muli v439 c10240_i32_233
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c11_i32_234 : BitVec 32 := 11#32
  let v441 : BitVec 32 := Scalar.addi v82 c11_i32_234
  let c8_i32_235 : BitVec 32 := 8#32
  let v442 : BitVec 32 := Scalar.muli v441 c8_i32_235
  let v443 : BitVec 32 := Scalar.addi v440 v442
  let v444 : BitVec 32 := v443
  let v445 : Index := Scalar.indexCast v444
  let c0_236 : Index := 0#32
  ![v445.toNat, 0]
def k0_off139 (v427 : BitVec 32) : Fin 2 → Nat :=
  let c2047_i32_224 : BitVec 32 := 2047#32
  let v428 : BitVec 32 := Scalar.andi v427 c2047_i32_224
  let v447 : Index := Scalar.indexCast v428
  let c0_237 : Index := 0#32
  ![v447.toNat, 0]
def k0_off140 (v427 : BitVec 32) : Fin 2 → Nat :=
  let c255_i32_225 : BitVec 32 := 255#32
  let v429 : BitVec 32 := Scalar.andi v427 c255_i32_225
  let c2_i32_226 : BitVec 32 := 2#32
  let v430 : BitVec 32 := Scalar.shrsi v427 c2_i32_226
  let c256_i32_227 : BitVec 32 := 256#32
  let v431 : BitVec 32 := Scalar.andi v430 c256_i32_227
  let v432 : BitVec 32 := Scalar.addi v429 v431
  let v452 : Index := Scalar.indexCast v432
  let c0_239 : Index := 0#32
  ![v452.toNat, 0]
def k0_off141 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v456 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c12_i32 : BitVec 32 := 12#32
  let v455 : BitVec 32 := Scalar.addi v82 c12_i32
  let v457 : Index := Scalar.indexCast v455
  ![v456.toNat, v457.toNat]
def k0_mult40 (i : grid0.Coords) (k0_t5 : Fin k0_t5_loop.trips) (v458 : BitVec 32) : BitVec 32 :=
  let c27030_i32_247 : BitVec 32 := 27030#32
  let c14_i32_244 : BitVec 32 := 14#32
  let v464 : BitVec 32 := Scalar.shrsi v458 c14_i32_244
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v465 : BitVec 32 := Scalar.andi v464 v77
  let c4_i32_245 : BitVec 32 := 4#32
  let v466 : BitVec 32 := Scalar.shrsi v465 c4_i32_245
  let v467 : BitVec 32 := Scalar.xori v465 v466
  let c15_i32_246 : BitVec 32 := 15#32
  let v468 : BitVec 32 := Scalar.andi v467 c15_i32_246
  let v469 : BitVec 32 := Scalar.shrsi c27030_i32_247 v468
  let c1_i32_248 : BitVec 32 := 1#32
  let v470 : BitVec 32 := Scalar.andi v469 c1_i32_248
  let c10240_i32_249 : BitVec 32 := 10240#32
  let v471 : BitVec 32 := Scalar.muli v470 c10240_i32_249
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c12_i32_250 : BitVec 32 := 12#32
  let v472 : BitVec 32 := Scalar.addi v82 c12_i32_250
  let c8_i32_251 : BitVec 32 := 8#32
  let v473 : BitVec 32 := Scalar.muli v472 c8_i32_251
  let v474 : BitVec 32 := Scalar.addi v471 v473
  v474

def k0_off142 (i : grid0.Coords) (k0_t5 : Fin k0_t5_loop.trips) (v458 : BitVec 32) : Fin 2 → Nat :=
  let c27030_i32_247 : BitVec 32 := 27030#32
  let c14_i32_244 : BitVec 32 := 14#32
  let v464 : BitVec 32 := Scalar.shrsi v458 c14_i32_244
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v465 : BitVec 32 := Scalar.andi v464 v77
  let c4_i32_245 : BitVec 32 := 4#32
  let v466 : BitVec 32 := Scalar.shrsi v465 c4_i32_245
  let v467 : BitVec 32 := Scalar.xori v465 v466
  let c15_i32_246 : BitVec 32 := 15#32
  let v468 : BitVec 32 := Scalar.andi v467 c15_i32_246
  let v469 : BitVec 32 := Scalar.shrsi c27030_i32_247 v468
  let c1_i32_248 : BitVec 32 := 1#32
  let v470 : BitVec 32 := Scalar.andi v469 c1_i32_248
  let c10240_i32_249 : BitVec 32 := 10240#32
  let v471 : BitVec 32 := Scalar.muli v470 c10240_i32_249
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c12_i32_250 : BitVec 32 := 12#32
  let v472 : BitVec 32 := Scalar.addi v82 c12_i32_250
  let c8_i32_251 : BitVec 32 := 8#32
  let v473 : BitVec 32 := Scalar.muli v472 c8_i32_251
  let v474 : BitVec 32 := Scalar.addi v471 v473
  let v475 : BitVec 32 := v474
  let v476 : Index := Scalar.indexCast v475
  let c0_252 : Index := 0#32
  ![v476.toNat, 0]
def k0_off143 (v458 : BitVec 32) : Fin 2 → Nat :=
  let c2047_i32_240 : BitVec 32 := 2047#32
  let v459 : BitVec 32 := Scalar.andi v458 c2047_i32_240
  let v478 : Index := Scalar.indexCast v459
  let c0_253 : Index := 0#32
  ![v478.toNat, 0]
def k0_off144 (v458 : BitVec 32) : Fin 2 → Nat :=
  let c255_i32_241 : BitVec 32 := 255#32
  let v460 : BitVec 32 := Scalar.andi v458 c255_i32_241
  let c2_i32_242 : BitVec 32 := 2#32
  let v461 : BitVec 32 := Scalar.shrsi v458 c2_i32_242
  let c256_i32_243 : BitVec 32 := 256#32
  let v462 : BitVec 32 := Scalar.andi v461 c256_i32_243
  let v463 : BitVec 32 := Scalar.addi v460 v462
  let v483 : Index := Scalar.indexCast v463
  let c0_255 : Index := 0#32
  ![v483.toNat, 0]
def k0_off145 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v487 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c13_i32 : BitVec 32 := 13#32
  let v486 : BitVec 32 := Scalar.addi v82 c13_i32
  let v488 : Index := Scalar.indexCast v486
  ![v487.toNat, v488.toNat]
def k0_mult41 (i : grid0.Coords) (k0_t5 : Fin k0_t5_loop.trips) (v489 : BitVec 32) : BitVec 32 :=
  let c27030_i32_263 : BitVec 32 := 27030#32
  let c14_i32_260 : BitVec 32 := 14#32
  let v495 : BitVec 32 := Scalar.shrsi v489 c14_i32_260
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v496 : BitVec 32 := Scalar.andi v495 v77
  let c4_i32_261 : BitVec 32 := 4#32
  let v497 : BitVec 32 := Scalar.shrsi v496 c4_i32_261
  let v498 : BitVec 32 := Scalar.xori v496 v497
  let c15_i32_262 : BitVec 32 := 15#32
  let v499 : BitVec 32 := Scalar.andi v498 c15_i32_262
  let v500 : BitVec 32 := Scalar.shrsi c27030_i32_263 v499
  let c1_i32_264 : BitVec 32 := 1#32
  let v501 : BitVec 32 := Scalar.andi v500 c1_i32_264
  let c10240_i32_265 : BitVec 32 := 10240#32
  let v502 : BitVec 32 := Scalar.muli v501 c10240_i32_265
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c13_i32_266 : BitVec 32 := 13#32
  let v503 : BitVec 32 := Scalar.addi v82 c13_i32_266
  let c8_i32_267 : BitVec 32 := 8#32
  let v504 : BitVec 32 := Scalar.muli v503 c8_i32_267
  let v505 : BitVec 32 := Scalar.addi v502 v504
  v505

def k0_off146 (i : grid0.Coords) (k0_t5 : Fin k0_t5_loop.trips) (v489 : BitVec 32) : Fin 2 → Nat :=
  let c27030_i32_263 : BitVec 32 := 27030#32
  let c14_i32_260 : BitVec 32 := 14#32
  let v495 : BitVec 32 := Scalar.shrsi v489 c14_i32_260
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v496 : BitVec 32 := Scalar.andi v495 v77
  let c4_i32_261 : BitVec 32 := 4#32
  let v497 : BitVec 32 := Scalar.shrsi v496 c4_i32_261
  let v498 : BitVec 32 := Scalar.xori v496 v497
  let c15_i32_262 : BitVec 32 := 15#32
  let v499 : BitVec 32 := Scalar.andi v498 c15_i32_262
  let v500 : BitVec 32 := Scalar.shrsi c27030_i32_263 v499
  let c1_i32_264 : BitVec 32 := 1#32
  let v501 : BitVec 32 := Scalar.andi v500 c1_i32_264
  let c10240_i32_265 : BitVec 32 := 10240#32
  let v502 : BitVec 32 := Scalar.muli v501 c10240_i32_265
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c13_i32_266 : BitVec 32 := 13#32
  let v503 : BitVec 32 := Scalar.addi v82 c13_i32_266
  let c8_i32_267 : BitVec 32 := 8#32
  let v504 : BitVec 32 := Scalar.muli v503 c8_i32_267
  let v505 : BitVec 32 := Scalar.addi v502 v504
  let v506 : BitVec 32 := v505
  let v507 : Index := Scalar.indexCast v506
  let c0_268 : Index := 0#32
  ![v507.toNat, 0]
def k0_off147 (v489 : BitVec 32) : Fin 2 → Nat :=
  let c2047_i32_256 : BitVec 32 := 2047#32
  let v490 : BitVec 32 := Scalar.andi v489 c2047_i32_256
  let v509 : Index := Scalar.indexCast v490
  let c0_269 : Index := 0#32
  ![v509.toNat, 0]
def k0_off148 (v489 : BitVec 32) : Fin 2 → Nat :=
  let c255_i32_257 : BitVec 32 := 255#32
  let v491 : BitVec 32 := Scalar.andi v489 c255_i32_257
  let c2_i32_258 : BitVec 32 := 2#32
  let v492 : BitVec 32 := Scalar.shrsi v489 c2_i32_258
  let c256_i32_259 : BitVec 32 := 256#32
  let v493 : BitVec 32 := Scalar.andi v492 c256_i32_259
  let v494 : BitVec 32 := Scalar.addi v491 v493
  let v514 : Index := Scalar.indexCast v494
  let c0_271 : Index := 0#32
  ![v514.toNat, 0]
def k0_off149 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v518 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c14_i32_272 : BitVec 32 := 14#32
  let v517 : BitVec 32 := Scalar.addi v82 c14_i32_272
  let v519 : Index := Scalar.indexCast v517
  ![v518.toNat, v519.toNat]
def k0_mult42 (i : grid0.Coords) (k0_t5 : Fin k0_t5_loop.trips) (v520 : BitVec 32) : BitVec 32 :=
  let c27030_i32_280 : BitVec 32 := 27030#32
  let c14_i32_277 : BitVec 32 := 14#32
  let v526 : BitVec 32 := Scalar.shrsi v520 c14_i32_277
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v527 : BitVec 32 := Scalar.andi v526 v77
  let c4_i32_278 : BitVec 32 := 4#32
  let v528 : BitVec 32 := Scalar.shrsi v527 c4_i32_278
  let v529 : BitVec 32 := Scalar.xori v527 v528
  let c15_i32_279 : BitVec 32 := 15#32
  let v530 : BitVec 32 := Scalar.andi v529 c15_i32_279
  let v531 : BitVec 32 := Scalar.shrsi c27030_i32_280 v530
  let c1_i32_281 : BitVec 32 := 1#32
  let v532 : BitVec 32 := Scalar.andi v531 c1_i32_281
  let c10240_i32_282 : BitVec 32 := 10240#32
  let v533 : BitVec 32 := Scalar.muli v532 c10240_i32_282
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c14_i32_283 : BitVec 32 := 14#32
  let v534 : BitVec 32 := Scalar.addi v82 c14_i32_283
  let c8_i32_284 : BitVec 32 := 8#32
  let v535 : BitVec 32 := Scalar.muli v534 c8_i32_284
  let v536 : BitVec 32 := Scalar.addi v533 v535
  v536

def k0_off150 (i : grid0.Coords) (k0_t5 : Fin k0_t5_loop.trips) (v520 : BitVec 32) : Fin 2 → Nat :=
  let c27030_i32_280 : BitVec 32 := 27030#32
  let c14_i32_277 : BitVec 32 := 14#32
  let v526 : BitVec 32 := Scalar.shrsi v520 c14_i32_277
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v527 : BitVec 32 := Scalar.andi v526 v77
  let c4_i32_278 : BitVec 32 := 4#32
  let v528 : BitVec 32 := Scalar.shrsi v527 c4_i32_278
  let v529 : BitVec 32 := Scalar.xori v527 v528
  let c15_i32_279 : BitVec 32 := 15#32
  let v530 : BitVec 32 := Scalar.andi v529 c15_i32_279
  let v531 : BitVec 32 := Scalar.shrsi c27030_i32_280 v530
  let c1_i32_281 : BitVec 32 := 1#32
  let v532 : BitVec 32 := Scalar.andi v531 c1_i32_281
  let c10240_i32_282 : BitVec 32 := 10240#32
  let v533 : BitVec 32 := Scalar.muli v532 c10240_i32_282
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c14_i32_283 : BitVec 32 := 14#32
  let v534 : BitVec 32 := Scalar.addi v82 c14_i32_283
  let c8_i32_284 : BitVec 32 := 8#32
  let v535 : BitVec 32 := Scalar.muli v534 c8_i32_284
  let v536 : BitVec 32 := Scalar.addi v533 v535
  let v537 : BitVec 32 := v536
  let v538 : Index := Scalar.indexCast v537
  let c0_285 : Index := 0#32
  ![v538.toNat, 0]
def k0_off151 (v520 : BitVec 32) : Fin 2 → Nat :=
  let c2047_i32_273 : BitVec 32 := 2047#32
  let v521 : BitVec 32 := Scalar.andi v520 c2047_i32_273
  let v540 : Index := Scalar.indexCast v521
  let c0_286 : Index := 0#32
  ![v540.toNat, 0]
def k0_off152 (v520 : BitVec 32) : Fin 2 → Nat :=
  let c255_i32_274 : BitVec 32 := 255#32
  let v522 : BitVec 32 := Scalar.andi v520 c255_i32_274
  let c2_i32_275 : BitVec 32 := 2#32
  let v523 : BitVec 32 := Scalar.shrsi v520 c2_i32_275
  let c256_i32_276 : BitVec 32 := 256#32
  let v524 : BitVec 32 := Scalar.andi v523 c256_i32_276
  let v525 : BitVec 32 := Scalar.addi v522 v524
  let v545 : Index := Scalar.indexCast v525
  let c0_288 : Index := 0#32
  ![v545.toNat, 0]
def k0_off153 (i : grid0.Coords) (k0_t5 : Fin k0_t5_loop.trips) : Fin 2 → Nat :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .slt arg0 c0_i32_30
  let v53 : BitVec 32 := Scalar.extui v52
  let v54 : BitVec 32 := Scalar.subi v51 v53
  let c32_i32_28 : BitVec 32 := 32#32
  let c0_i32_31 : BitVec 32 := 0#32
  let v55 : BitVec 1 := Scalar.cmpi .sgt c32_i32_28 c0_i32_31
  let v56 : BitVec 32 := Scalar.extui v55
  let c0_i32_32 : BitVec 32 := 0#32
  let v57 : BitVec 1 := Scalar.cmpi .slt c32_i32_28 c0_i32_32
  let v58 : BitVec 32 := Scalar.extui v57
  let v59 : BitVec 32 := Scalar.subi v56 v58
  let v60 : BitVec 1 := Scalar.cmpi .ne v54 v59
  let v61 : BitVec 32 := Scalar.remsi arg0 c32_i32_28
  let c0_i32_33 : BitVec 32 := 0#32
  let v62 : BitVec 1 := Scalar.cmpi .ne v61 c0_i32_33
  let v63 : BitVec 1 := Scalar.andi v60 v62
  let v49 : BitVec 32 := Scalar.divsi arg0 c32_i32_28
  let c1_i32_34 : BitVec 32 := 1#32
  let v64 : BitVec 32 := Scalar.subi v49 c1_i32_34
  let v65 : BitVec 32 := Scalar.select v63 v64 v49
  let v549 : Index := Scalar.indexCast v65
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c15_i32_289 : BitVec 32 := 15#32
  let v548 : BitVec 32 := Scalar.addi v82 c15_i32_289
  let v550 : Index := Scalar.indexCast v548
  ![v549.toNat, v550.toNat]
def k0_mult43 (i : grid0.Coords) (k0_t5 : Fin k0_t5_loop.trips) (v551 : BitVec 32) : BitVec 32 :=
  let c27030_i32_297 : BitVec 32 := 27030#32
  let c14_i32_294 : BitVec 32 := 14#32
  let v557 : BitVec 32 := Scalar.shrsi v551 c14_i32_294
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v558 : BitVec 32 := Scalar.andi v557 v77
  let c4_i32_295 : BitVec 32 := 4#32
  let v559 : BitVec 32 := Scalar.shrsi v558 c4_i32_295
  let v560 : BitVec 32 := Scalar.xori v558 v559
  let c15_i32_296 : BitVec 32 := 15#32
  let v561 : BitVec 32 := Scalar.andi v560 c15_i32_296
  let v562 : BitVec 32 := Scalar.shrsi c27030_i32_297 v561
  let c1_i32_298 : BitVec 32 := 1#32
  let v563 : BitVec 32 := Scalar.andi v562 c1_i32_298
  let c10240_i32_299 : BitVec 32 := 10240#32
  let v564 : BitVec 32 := Scalar.muli v563 c10240_i32_299
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c15_i32_300 : BitVec 32 := 15#32
  let v565 : BitVec 32 := Scalar.addi v82 c15_i32_300
  let c8_i32_301 : BitVec 32 := 8#32
  let v566 : BitVec 32 := Scalar.muli v565 c8_i32_301
  let v567 : BitVec 32 := Scalar.addi v564 v566
  v567

def k0_off154 (i : grid0.Coords) (k0_t5 : Fin k0_t5_loop.trips) (v551 : BitVec 32) : Fin 2 → Nat :=
  let c27030_i32_297 : BitVec 32 := 27030#32
  let c14_i32_294 : BitVec 32 := 14#32
  let v557 : BitVec 32 := Scalar.shrsi v551 c14_i32_294
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v558 : BitVec 32 := Scalar.andi v557 v77
  let c4_i32_295 : BitVec 32 := 4#32
  let v559 : BitVec 32 := Scalar.shrsi v558 c4_i32_295
  let v560 : BitVec 32 := Scalar.xori v558 v559
  let c15_i32_296 : BitVec 32 := 15#32
  let v561 : BitVec 32 := Scalar.andi v560 c15_i32_296
  let v562 : BitVec 32 := Scalar.shrsi c27030_i32_297 v561
  let c1_i32_298 : BitVec 32 := 1#32
  let v563 : BitVec 32 := Scalar.andi v562 c1_i32_298
  let c10240_i32_299 : BitVec 32 := 10240#32
  let v564 : BitVec 32 := Scalar.muli v563 c10240_i32_299
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c15_i32_300 : BitVec 32 := 15#32
  let v565 : BitVec 32 := Scalar.addi v82 c15_i32_300
  let c8_i32_301 : BitVec 32 := 8#32
  let v566 : BitVec 32 := Scalar.muli v565 c8_i32_301
  let v567 : BitVec 32 := Scalar.addi v564 v566
  let v568 : BitVec 32 := v567
  let v569 : Index := Scalar.indexCast v568
  let c0_302 : Index := 0#32
  ![v569.toNat, 0]
def k0_off155 (v551 : BitVec 32) : Fin 2 → Nat :=
  let c2047_i32_290 : BitVec 32 := 2047#32
  let v552 : BitVec 32 := Scalar.andi v551 c2047_i32_290
  let v571 : Index := Scalar.indexCast v552
  let c0_303 : Index := 0#32
  ![v571.toNat, 0]
def k0_off156 (v551 : BitVec 32) : Fin 2 → Nat :=
  let c255_i32_291 : BitVec 32 := 255#32
  let v553 : BitVec 32 := Scalar.andi v551 c255_i32_291
  let c2_i32_292 : BitVec 32 := 2#32
  let v554 : BitVec 32 := Scalar.shrsi v551 c2_i32_292
  let c256_i32_293 : BitVec 32 := 256#32
  let v555 : BitVec 32 := Scalar.andi v554 c256_i32_293
  let v556 : BitVec 32 := Scalar.addi v553 v555
  let v576 : Index := Scalar.indexCast v556
  let c0_305 : Index := 0#32
  ![v576.toNat, 0]

def k0_chk32 (i : grid0.Coords) (k0_t5 : Fin k0_t5_loop.trips) (v551 : BitVec 32) : Prop :=
  (8 ∣ (k0_mult43 i k0_t5 v551).toNat) ∧
  (∀ a, (k0_off154 i k0_t5 v551) a + S8x128.size a ≤ S20480x128.size a) ∧
  (∀ a, S8x128.size a = 0 ∨ (k0_off155 v551) a + (![2052, 1] : Fin 2 → Nat) a * (S8x128.size a - 1) < S16416x128.size a) ∧
  (∀ a, S8x128.size a = 0 ∨ (k0_off156 v551) a + (![516, 1] : Fin 2 → Nat) a * (S8x128.size a - 1) < S4128x128.size a)
theorem k0_mult43_dvd : ∀ (i : grid0.Coords) (k0_t5 : Fin k0_t5_loop.trips) (v551 : BitVec 32) (k0_hw32 : k0_chk32 i k0_t5 v551), 8 ∣ (k0_mult43 i k0_t5 v551).toNat := fun i k0_t5 v551 k0_hw32 => k0_hw32.1
theorem k0_off154_inb : ∀ (i : grid0.Coords) (k0_t5 : Fin k0_t5_loop.trips) (v551 : BitVec 32) (k0_hw32 : k0_chk32 i k0_t5 v551), ∀ a, (k0_off154 i k0_t5 v551) a + S8x128.size a ≤ S20480x128.size a := fun i k0_t5 v551 k0_hw32 => k0_hw32.2.1
theorem k0_off155_inb : ∀ (i : grid0.Coords) (k0_t5 : Fin k0_t5_loop.trips) (v551 : BitVec 32) (k0_hw32 : k0_chk32 i k0_t5 v551), ∀ a, S8x128.size a = 0 ∨ (k0_off155 v551) a + (![2052, 1] : Fin 2 → Nat) a * (S8x128.size a - 1) < S16416x128.size a := fun i k0_t5 v551 k0_hw32 => k0_hw32.2.2.1
theorem k0_off156_inb : ∀ (i : grid0.Coords) (k0_t5 : Fin k0_t5_loop.trips) (v551 : BitVec 32) (k0_hw32 : k0_chk32 i k0_t5 v551), ∀ a, S8x128.size a = 0 ∨ (k0_off156 v551) a + (![516, 1] : Fin 2 → Nat) a * (S8x128.size a - 1) < S4128x128.size a := fun i k0_t5 v551 k0_hw32 => k0_hw32.2.2.2

def k0_off157 (i : grid0.Coords) (k0_t5 : Fin k0_t5_loop.trips) (v86 : BitVec 32) : Fin 2 → Nat :=
  let c27030_i32 : BitVec 32 := 27030#32
  let c14_i32 : BitVec 32 := 14#32
  let v92 : BitVec 32 := Scalar.shrsi v86 c14_i32
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v93 : BitVec 32 := Scalar.andi v92 v77
  let c4_i32 : BitVec 32 := 4#32
  let v94 : BitVec 32 := Scalar.shrsi v93 c4_i32
  let v95 : BitVec 32 := Scalar.xori v93 v94
  let c15_i32 : BitVec 32 := 15#32
  let v96 : BitVec 32 := Scalar.andi v95 c15_i32
  let v97 : BitVec 32 := Scalar.shrsi c27030_i32 v96
  let c1_i32_53 : BitVec 32 := 1#32
  let v98 : BitVec 32 := Scalar.andi v97 c1_i32_53
  let c10240_i32 : BitVec 32 := 10240#32
  let v99 : BitVec 32 := Scalar.muli v98 c10240_i32
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c0_i32_54 : BitVec 32 := 0#32
  let v100 : BitVec 32 := Scalar.addi v82 c0_i32_54
  let c8_i32_55 : BitVec 32 := 8#32
  let v101 : BitVec 32 := Scalar.muli v100 c8_i32_55
  let v102 : BitVec 32 := Scalar.addi v99 v101
  let v103 : BitVec 32 := v102
  let v579 : Index := Scalar.indexCast v103
  let c0_306 : Index := 0#32
  ![v579.toNat, 0]

def k0_chk17 (i : grid0.Coords) (k0_t5 : Fin k0_t5_loop.trips) (v86 : BitVec 32) : Prop :=
  (8 ∣ (k0_mult28 i k0_t5 v86).toNat) ∧
  (∀ a, (k0_off94 i k0_t5 v86) a + S8x128.size a ≤ S20480x128.size a) ∧
  (∀ a, S8x128.size a = 0 ∨ (k0_off95 v86) a + (![2052, 1] : Fin 2 → Nat) a * (S8x128.size a - 1) < S16416x128.size a) ∧
  (∀ a, S8x128.size a = 0 ∨ (k0_off96 v86) a + (![516, 1] : Fin 2 → Nat) a * (S8x128.size a - 1) < S4128x128.size a) ∧
  (∀ a, (k0_off157 i k0_t5 v86) a + S8x128.size a ≤ S20480x128.size a)
theorem k0_mult28_dvd : ∀ (i : grid0.Coords) (k0_t5 : Fin k0_t5_loop.trips) (v86 : BitVec 32) (k0_hw17 : k0_chk17 i k0_t5 v86), 8 ∣ (k0_mult28 i k0_t5 v86).toNat := fun i k0_t5 v86 k0_hw17 => k0_hw17.1
theorem k0_off94_inb : ∀ (i : grid0.Coords) (k0_t5 : Fin k0_t5_loop.trips) (v86 : BitVec 32) (k0_hw17 : k0_chk17 i k0_t5 v86), ∀ a, (k0_off94 i k0_t5 v86) a + S8x128.size a ≤ S20480x128.size a := fun i k0_t5 v86 k0_hw17 => k0_hw17.2.1
theorem k0_off95_inb : ∀ (i : grid0.Coords) (k0_t5 : Fin k0_t5_loop.trips) (v86 : BitVec 32) (k0_hw17 : k0_chk17 i k0_t5 v86), ∀ a, S8x128.size a = 0 ∨ (k0_off95 v86) a + (![2052, 1] : Fin 2 → Nat) a * (S8x128.size a - 1) < S16416x128.size a := fun i k0_t5 v86 k0_hw17 => k0_hw17.2.2.1
theorem k0_off96_inb : ∀ (i : grid0.Coords) (k0_t5 : Fin k0_t5_loop.trips) (v86 : BitVec 32) (k0_hw17 : k0_chk17 i k0_t5 v86), ∀ a, S8x128.size a = 0 ∨ (k0_off96 v86) a + (![516, 1] : Fin 2 → Nat) a * (S8x128.size a - 1) < S4128x128.size a := fun i k0_t5 v86 k0_hw17 => k0_hw17.2.2.2.1
theorem k0_off157_inb : ∀ (i : grid0.Coords) (k0_t5 : Fin k0_t5_loop.trips) (v86 : BitVec 32) (k0_hw17 : k0_chk17 i k0_t5 v86), ∀ a, (k0_off157 i k0_t5 v86) a + S8x128.size a ≤ S20480x128.size a := fun i k0_t5 v86 k0_hw17 => k0_hw17.2.2.2.2

def k0_off158 (i : grid0.Coords) (k0_t5 : Fin k0_t5_loop.trips) (v117 : BitVec 32) : Fin 2 → Nat :=
  let c27030_i32_68 : BitVec 32 := 27030#32
  let c14_i32_65 : BitVec 32 := 14#32
  let v123 : BitVec 32 := Scalar.shrsi v117 c14_i32_65
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v124 : BitVec 32 := Scalar.andi v123 v77
  let c4_i32_66 : BitVec 32 := 4#32
  let v125 : BitVec 32 := Scalar.shrsi v124 c4_i32_66
  let v126 : BitVec 32 := Scalar.xori v124 v125
  let c15_i32_67 : BitVec 32 := 15#32
  let v127 : BitVec 32 := Scalar.andi v126 c15_i32_67
  let v128 : BitVec 32 := Scalar.shrsi c27030_i32_68 v127
  let c1_i32_69 : BitVec 32 := 1#32
  let v129 : BitVec 32 := Scalar.andi v128 c1_i32_69
  let c10240_i32_70 : BitVec 32 := 10240#32
  let v130 : BitVec 32 := Scalar.muli v129 c10240_i32_70
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c1_i32_71 : BitVec 32 := 1#32
  let v131 : BitVec 32 := Scalar.addi v82 c1_i32_71
  let c8_i32_72 : BitVec 32 := 8#32
  let v132 : BitVec 32 := Scalar.muli v131 c8_i32_72
  let v133 : BitVec 32 := Scalar.addi v130 v132
  let v134 : BitVec 32 := v133
  let v587 : Index := Scalar.indexCast v134
  let c0_308 : Index := 0#32
  ![v587.toNat, 0]

def k0_chk18 (i : grid0.Coords) (k0_t5 : Fin k0_t5_loop.trips) (v117 : BitVec 32) : Prop :=
  (8 ∣ (k0_mult29 i k0_t5 v117).toNat) ∧
  (∀ a, (k0_off98 i k0_t5 v117) a + S8x128.size a ≤ S20480x128.size a) ∧
  (∀ a, S8x128.size a = 0 ∨ (k0_off99 v117) a + (![2052, 1] : Fin 2 → Nat) a * (S8x128.size a - 1) < S16416x128.size a) ∧
  (∀ a, S8x128.size a = 0 ∨ (k0_off100 v117) a + (![516, 1] : Fin 2 → Nat) a * (S8x128.size a - 1) < S4128x128.size a) ∧
  (∀ a, (k0_off158 i k0_t5 v117) a + S8x128.size a ≤ S20480x128.size a)
theorem k0_mult29_dvd : ∀ (i : grid0.Coords) (k0_t5 : Fin k0_t5_loop.trips) (v117 : BitVec 32) (k0_hw18 : k0_chk18 i k0_t5 v117), 8 ∣ (k0_mult29 i k0_t5 v117).toNat := fun i k0_t5 v117 k0_hw18 => k0_hw18.1
theorem k0_off98_inb : ∀ (i : grid0.Coords) (k0_t5 : Fin k0_t5_loop.trips) (v117 : BitVec 32) (k0_hw18 : k0_chk18 i k0_t5 v117), ∀ a, (k0_off98 i k0_t5 v117) a + S8x128.size a ≤ S20480x128.size a := fun i k0_t5 v117 k0_hw18 => k0_hw18.2.1
theorem k0_off99_inb : ∀ (i : grid0.Coords) (k0_t5 : Fin k0_t5_loop.trips) (v117 : BitVec 32) (k0_hw18 : k0_chk18 i k0_t5 v117), ∀ a, S8x128.size a = 0 ∨ (k0_off99 v117) a + (![2052, 1] : Fin 2 → Nat) a * (S8x128.size a - 1) < S16416x128.size a := fun i k0_t5 v117 k0_hw18 => k0_hw18.2.2.1
theorem k0_off100_inb : ∀ (i : grid0.Coords) (k0_t5 : Fin k0_t5_loop.trips) (v117 : BitVec 32) (k0_hw18 : k0_chk18 i k0_t5 v117), ∀ a, S8x128.size a = 0 ∨ (k0_off100 v117) a + (![516, 1] : Fin 2 → Nat) a * (S8x128.size a - 1) < S4128x128.size a := fun i k0_t5 v117 k0_hw18 => k0_hw18.2.2.2.1
theorem k0_off158_inb : ∀ (i : grid0.Coords) (k0_t5 : Fin k0_t5_loop.trips) (v117 : BitVec 32) (k0_hw18 : k0_chk18 i k0_t5 v117), ∀ a, (k0_off158 i k0_t5 v117) a + S8x128.size a ≤ S20480x128.size a := fun i k0_t5 v117 k0_hw18 => k0_hw18.2.2.2.2

def k0_off159 (i : grid0.Coords) (k0_t5 : Fin k0_t5_loop.trips) (v148 : BitVec 32) : Fin 2 → Nat :=
  let c27030_i32_85 : BitVec 32 := 27030#32
  let c14_i32_82 : BitVec 32 := 14#32
  let v154 : BitVec 32 := Scalar.shrsi v148 c14_i32_82
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v155 : BitVec 32 := Scalar.andi v154 v77
  let c4_i32_83 : BitVec 32 := 4#32
  let v156 : BitVec 32 := Scalar.shrsi v155 c4_i32_83
  let v157 : BitVec 32 := Scalar.xori v155 v156
  let c15_i32_84 : BitVec 32 := 15#32
  let v158 : BitVec 32 := Scalar.andi v157 c15_i32_84
  let v159 : BitVec 32 := Scalar.shrsi c27030_i32_85 v158
  let c1_i32_86 : BitVec 32 := 1#32
  let v160 : BitVec 32 := Scalar.andi v159 c1_i32_86
  let c10240_i32_87 : BitVec 32 := 10240#32
  let v161 : BitVec 32 := Scalar.muli v160 c10240_i32_87
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c2_i32_88 : BitVec 32 := 2#32
  let v162 : BitVec 32 := Scalar.addi v82 c2_i32_88
  let c8_i32_89 : BitVec 32 := 8#32
  let v163 : BitVec 32 := Scalar.muli v162 c8_i32_89
  let v164 : BitVec 32 := Scalar.addi v161 v163
  let v165 : BitVec 32 := v164
  let v595 : Index := Scalar.indexCast v165
  let c0_310 : Index := 0#32
  ![v595.toNat, 0]

def k0_chk19 (i : grid0.Coords) (k0_t5 : Fin k0_t5_loop.trips) (v148 : BitVec 32) : Prop :=
  (8 ∣ (k0_mult30 i k0_t5 v148).toNat) ∧
  (∀ a, (k0_off102 i k0_t5 v148) a + S8x128.size a ≤ S20480x128.size a) ∧
  (∀ a, S8x128.size a = 0 ∨ (k0_off103 v148) a + (![2052, 1] : Fin 2 → Nat) a * (S8x128.size a - 1) < S16416x128.size a) ∧
  (∀ a, S8x128.size a = 0 ∨ (k0_off104 v148) a + (![516, 1] : Fin 2 → Nat) a * (S8x128.size a - 1) < S4128x128.size a) ∧
  (∀ a, (k0_off159 i k0_t5 v148) a + S8x128.size a ≤ S20480x128.size a)
theorem k0_mult30_dvd : ∀ (i : grid0.Coords) (k0_t5 : Fin k0_t5_loop.trips) (v148 : BitVec 32) (k0_hw19 : k0_chk19 i k0_t5 v148), 8 ∣ (k0_mult30 i k0_t5 v148).toNat := fun i k0_t5 v148 k0_hw19 => k0_hw19.1
theorem k0_off102_inb : ∀ (i : grid0.Coords) (k0_t5 : Fin k0_t5_loop.trips) (v148 : BitVec 32) (k0_hw19 : k0_chk19 i k0_t5 v148), ∀ a, (k0_off102 i k0_t5 v148) a + S8x128.size a ≤ S20480x128.size a := fun i k0_t5 v148 k0_hw19 => k0_hw19.2.1
theorem k0_off103_inb : ∀ (i : grid0.Coords) (k0_t5 : Fin k0_t5_loop.trips) (v148 : BitVec 32) (k0_hw19 : k0_chk19 i k0_t5 v148), ∀ a, S8x128.size a = 0 ∨ (k0_off103 v148) a + (![2052, 1] : Fin 2 → Nat) a * (S8x128.size a - 1) < S16416x128.size a := fun i k0_t5 v148 k0_hw19 => k0_hw19.2.2.1
theorem k0_off104_inb : ∀ (i : grid0.Coords) (k0_t5 : Fin k0_t5_loop.trips) (v148 : BitVec 32) (k0_hw19 : k0_chk19 i k0_t5 v148), ∀ a, S8x128.size a = 0 ∨ (k0_off104 v148) a + (![516, 1] : Fin 2 → Nat) a * (S8x128.size a - 1) < S4128x128.size a := fun i k0_t5 v148 k0_hw19 => k0_hw19.2.2.2.1
theorem k0_off159_inb : ∀ (i : grid0.Coords) (k0_t5 : Fin k0_t5_loop.trips) (v148 : BitVec 32) (k0_hw19 : k0_chk19 i k0_t5 v148), ∀ a, (k0_off159 i k0_t5 v148) a + S8x128.size a ≤ S20480x128.size a := fun i k0_t5 v148 k0_hw19 => k0_hw19.2.2.2.2

def k0_off160 (i : grid0.Coords) (k0_t5 : Fin k0_t5_loop.trips) (v179 : BitVec 32) : Fin 2 → Nat :=
  let c27030_i32_101 : BitVec 32 := 27030#32
  let c14_i32_98 : BitVec 32 := 14#32
  let v185 : BitVec 32 := Scalar.shrsi v179 c14_i32_98
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v186 : BitVec 32 := Scalar.andi v185 v77
  let c4_i32_99 : BitVec 32 := 4#32
  let v187 : BitVec 32 := Scalar.shrsi v186 c4_i32_99
  let v188 : BitVec 32 := Scalar.xori v186 v187
  let c15_i32_100 : BitVec 32 := 15#32
  let v189 : BitVec 32 := Scalar.andi v188 c15_i32_100
  let v190 : BitVec 32 := Scalar.shrsi c27030_i32_101 v189
  let c1_i32_102 : BitVec 32 := 1#32
  let v191 : BitVec 32 := Scalar.andi v190 c1_i32_102
  let c10240_i32_103 : BitVec 32 := 10240#32
  let v192 : BitVec 32 := Scalar.muli v191 c10240_i32_103
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c3_i32_104 : BitVec 32 := 3#32
  let v193 : BitVec 32 := Scalar.addi v82 c3_i32_104
  let c8_i32_105 : BitVec 32 := 8#32
  let v194 : BitVec 32 := Scalar.muli v193 c8_i32_105
  let v195 : BitVec 32 := Scalar.addi v192 v194
  let v196 : BitVec 32 := v195
  let v603 : Index := Scalar.indexCast v196
  let c0_312 : Index := 0#32
  ![v603.toNat, 0]

def k0_chk20 (i : grid0.Coords) (k0_t5 : Fin k0_t5_loop.trips) (v179 : BitVec 32) : Prop :=
  (8 ∣ (k0_mult31 i k0_t5 v179).toNat) ∧
  (∀ a, (k0_off106 i k0_t5 v179) a + S8x128.size a ≤ S20480x128.size a) ∧
  (∀ a, S8x128.size a = 0 ∨ (k0_off107 v179) a + (![2052, 1] : Fin 2 → Nat) a * (S8x128.size a - 1) < S16416x128.size a) ∧
  (∀ a, S8x128.size a = 0 ∨ (k0_off108 v179) a + (![516, 1] : Fin 2 → Nat) a * (S8x128.size a - 1) < S4128x128.size a) ∧
  (∀ a, (k0_off160 i k0_t5 v179) a + S8x128.size a ≤ S20480x128.size a)
theorem k0_mult31_dvd : ∀ (i : grid0.Coords) (k0_t5 : Fin k0_t5_loop.trips) (v179 : BitVec 32) (k0_hw20 : k0_chk20 i k0_t5 v179), 8 ∣ (k0_mult31 i k0_t5 v179).toNat := fun i k0_t5 v179 k0_hw20 => k0_hw20.1
theorem k0_off106_inb : ∀ (i : grid0.Coords) (k0_t5 : Fin k0_t5_loop.trips) (v179 : BitVec 32) (k0_hw20 : k0_chk20 i k0_t5 v179), ∀ a, (k0_off106 i k0_t5 v179) a + S8x128.size a ≤ S20480x128.size a := fun i k0_t5 v179 k0_hw20 => k0_hw20.2.1
theorem k0_off107_inb : ∀ (i : grid0.Coords) (k0_t5 : Fin k0_t5_loop.trips) (v179 : BitVec 32) (k0_hw20 : k0_chk20 i k0_t5 v179), ∀ a, S8x128.size a = 0 ∨ (k0_off107 v179) a + (![2052, 1] : Fin 2 → Nat) a * (S8x128.size a - 1) < S16416x128.size a := fun i k0_t5 v179 k0_hw20 => k0_hw20.2.2.1
theorem k0_off108_inb : ∀ (i : grid0.Coords) (k0_t5 : Fin k0_t5_loop.trips) (v179 : BitVec 32) (k0_hw20 : k0_chk20 i k0_t5 v179), ∀ a, S8x128.size a = 0 ∨ (k0_off108 v179) a + (![516, 1] : Fin 2 → Nat) a * (S8x128.size a - 1) < S4128x128.size a := fun i k0_t5 v179 k0_hw20 => k0_hw20.2.2.2.1
theorem k0_off160_inb : ∀ (i : grid0.Coords) (k0_t5 : Fin k0_t5_loop.trips) (v179 : BitVec 32) (k0_hw20 : k0_chk20 i k0_t5 v179), ∀ a, (k0_off160 i k0_t5 v179) a + S8x128.size a ≤ S20480x128.size a := fun i k0_t5 v179 k0_hw20 => k0_hw20.2.2.2.2

def k0_off161 (i : grid0.Coords) (k0_t5 : Fin k0_t5_loop.trips) (v210 : BitVec 32) : Fin 2 → Nat :=
  let c27030_i32_118 : BitVec 32 := 27030#32
  let c14_i32_115 : BitVec 32 := 14#32
  let v216 : BitVec 32 := Scalar.shrsi v210 c14_i32_115
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v217 : BitVec 32 := Scalar.andi v216 v77
  let c4_i32_116 : BitVec 32 := 4#32
  let v218 : BitVec 32 := Scalar.shrsi v217 c4_i32_116
  let v219 : BitVec 32 := Scalar.xori v217 v218
  let c15_i32_117 : BitVec 32 := 15#32
  let v220 : BitVec 32 := Scalar.andi v219 c15_i32_117
  let v221 : BitVec 32 := Scalar.shrsi c27030_i32_118 v220
  let c1_i32_119 : BitVec 32 := 1#32
  let v222 : BitVec 32 := Scalar.andi v221 c1_i32_119
  let c10240_i32_120 : BitVec 32 := 10240#32
  let v223 : BitVec 32 := Scalar.muli v222 c10240_i32_120
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c4_i32_121 : BitVec 32 := 4#32
  let v224 : BitVec 32 := Scalar.addi v82 c4_i32_121
  let c8_i32_122 : BitVec 32 := 8#32
  let v225 : BitVec 32 := Scalar.muli v224 c8_i32_122
  let v226 : BitVec 32 := Scalar.addi v223 v225
  let v227 : BitVec 32 := v226
  let v611 : Index := Scalar.indexCast v227
  let c0_314 : Index := 0#32
  ![v611.toNat, 0]

def k0_chk21 (i : grid0.Coords) (k0_t5 : Fin k0_t5_loop.trips) (v210 : BitVec 32) : Prop :=
  (8 ∣ (k0_mult32 i k0_t5 v210).toNat) ∧
  (∀ a, (k0_off110 i k0_t5 v210) a + S8x128.size a ≤ S20480x128.size a) ∧
  (∀ a, S8x128.size a = 0 ∨ (k0_off111 v210) a + (![2052, 1] : Fin 2 → Nat) a * (S8x128.size a - 1) < S16416x128.size a) ∧
  (∀ a, S8x128.size a = 0 ∨ (k0_off112 v210) a + (![516, 1] : Fin 2 → Nat) a * (S8x128.size a - 1) < S4128x128.size a) ∧
  (∀ a, (k0_off161 i k0_t5 v210) a + S8x128.size a ≤ S20480x128.size a)
theorem k0_mult32_dvd : ∀ (i : grid0.Coords) (k0_t5 : Fin k0_t5_loop.trips) (v210 : BitVec 32) (k0_hw21 : k0_chk21 i k0_t5 v210), 8 ∣ (k0_mult32 i k0_t5 v210).toNat := fun i k0_t5 v210 k0_hw21 => k0_hw21.1
theorem k0_off110_inb : ∀ (i : grid0.Coords) (k0_t5 : Fin k0_t5_loop.trips) (v210 : BitVec 32) (k0_hw21 : k0_chk21 i k0_t5 v210), ∀ a, (k0_off110 i k0_t5 v210) a + S8x128.size a ≤ S20480x128.size a := fun i k0_t5 v210 k0_hw21 => k0_hw21.2.1
theorem k0_off111_inb : ∀ (i : grid0.Coords) (k0_t5 : Fin k0_t5_loop.trips) (v210 : BitVec 32) (k0_hw21 : k0_chk21 i k0_t5 v210), ∀ a, S8x128.size a = 0 ∨ (k0_off111 v210) a + (![2052, 1] : Fin 2 → Nat) a * (S8x128.size a - 1) < S16416x128.size a := fun i k0_t5 v210 k0_hw21 => k0_hw21.2.2.1
theorem k0_off112_inb : ∀ (i : grid0.Coords) (k0_t5 : Fin k0_t5_loop.trips) (v210 : BitVec 32) (k0_hw21 : k0_chk21 i k0_t5 v210), ∀ a, S8x128.size a = 0 ∨ (k0_off112 v210) a + (![516, 1] : Fin 2 → Nat) a * (S8x128.size a - 1) < S4128x128.size a := fun i k0_t5 v210 k0_hw21 => k0_hw21.2.2.2.1
theorem k0_off161_inb : ∀ (i : grid0.Coords) (k0_t5 : Fin k0_t5_loop.trips) (v210 : BitVec 32) (k0_hw21 : k0_chk21 i k0_t5 v210), ∀ a, (k0_off161 i k0_t5 v210) a + S8x128.size a ≤ S20480x128.size a := fun i k0_t5 v210 k0_hw21 => k0_hw21.2.2.2.2

def k0_off162 (i : grid0.Coords) (k0_t5 : Fin k0_t5_loop.trips) (v241 : BitVec 32) : Fin 2 → Nat :=
  let c27030_i32_134 : BitVec 32 := 27030#32
  let c14_i32_131 : BitVec 32 := 14#32
  let v247 : BitVec 32 := Scalar.shrsi v241 c14_i32_131
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v248 : BitVec 32 := Scalar.andi v247 v77
  let c4_i32_132 : BitVec 32 := 4#32
  let v249 : BitVec 32 := Scalar.shrsi v248 c4_i32_132
  let v250 : BitVec 32 := Scalar.xori v248 v249
  let c15_i32_133 : BitVec 32 := 15#32
  let v251 : BitVec 32 := Scalar.andi v250 c15_i32_133
  let v252 : BitVec 32 := Scalar.shrsi c27030_i32_134 v251
  let c1_i32_135 : BitVec 32 := 1#32
  let v253 : BitVec 32 := Scalar.andi v252 c1_i32_135
  let c10240_i32_136 : BitVec 32 := 10240#32
  let v254 : BitVec 32 := Scalar.muli v253 c10240_i32_136
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c5_i32_137 : BitVec 32 := 5#32
  let v255 : BitVec 32 := Scalar.addi v82 c5_i32_137
  let c8_i32_138 : BitVec 32 := 8#32
  let v256 : BitVec 32 := Scalar.muli v255 c8_i32_138
  let v257 : BitVec 32 := Scalar.addi v254 v256
  let v258 : BitVec 32 := v257
  let v619 : Index := Scalar.indexCast v258
  let c0_316 : Index := 0#32
  ![v619.toNat, 0]

def k0_chk22 (i : grid0.Coords) (k0_t5 : Fin k0_t5_loop.trips) (v241 : BitVec 32) : Prop :=
  (8 ∣ (k0_mult33 i k0_t5 v241).toNat) ∧
  (∀ a, (k0_off114 i k0_t5 v241) a + S8x128.size a ≤ S20480x128.size a) ∧
  (∀ a, S8x128.size a = 0 ∨ (k0_off115 v241) a + (![2052, 1] : Fin 2 → Nat) a * (S8x128.size a - 1) < S16416x128.size a) ∧
  (∀ a, S8x128.size a = 0 ∨ (k0_off116 v241) a + (![516, 1] : Fin 2 → Nat) a * (S8x128.size a - 1) < S4128x128.size a) ∧
  (∀ a, (k0_off162 i k0_t5 v241) a + S8x128.size a ≤ S20480x128.size a)
theorem k0_mult33_dvd : ∀ (i : grid0.Coords) (k0_t5 : Fin k0_t5_loop.trips) (v241 : BitVec 32) (k0_hw22 : k0_chk22 i k0_t5 v241), 8 ∣ (k0_mult33 i k0_t5 v241).toNat := fun i k0_t5 v241 k0_hw22 => k0_hw22.1
theorem k0_off114_inb : ∀ (i : grid0.Coords) (k0_t5 : Fin k0_t5_loop.trips) (v241 : BitVec 32) (k0_hw22 : k0_chk22 i k0_t5 v241), ∀ a, (k0_off114 i k0_t5 v241) a + S8x128.size a ≤ S20480x128.size a := fun i k0_t5 v241 k0_hw22 => k0_hw22.2.1
theorem k0_off115_inb : ∀ (i : grid0.Coords) (k0_t5 : Fin k0_t5_loop.trips) (v241 : BitVec 32) (k0_hw22 : k0_chk22 i k0_t5 v241), ∀ a, S8x128.size a = 0 ∨ (k0_off115 v241) a + (![2052, 1] : Fin 2 → Nat) a * (S8x128.size a - 1) < S16416x128.size a := fun i k0_t5 v241 k0_hw22 => k0_hw22.2.2.1
theorem k0_off116_inb : ∀ (i : grid0.Coords) (k0_t5 : Fin k0_t5_loop.trips) (v241 : BitVec 32) (k0_hw22 : k0_chk22 i k0_t5 v241), ∀ a, S8x128.size a = 0 ∨ (k0_off116 v241) a + (![516, 1] : Fin 2 → Nat) a * (S8x128.size a - 1) < S4128x128.size a := fun i k0_t5 v241 k0_hw22 => k0_hw22.2.2.2.1
theorem k0_off162_inb : ∀ (i : grid0.Coords) (k0_t5 : Fin k0_t5_loop.trips) (v241 : BitVec 32) (k0_hw22 : k0_chk22 i k0_t5 v241), ∀ a, (k0_off162 i k0_t5 v241) a + S8x128.size a ≤ S20480x128.size a := fun i k0_t5 v241 k0_hw22 => k0_hw22.2.2.2.2

def k0_off163 (i : grid0.Coords) (k0_t5 : Fin k0_t5_loop.trips) (v272 : BitVec 32) : Fin 2 → Nat :=
  let c27030_i32_150 : BitVec 32 := 27030#32
  let c14_i32_147 : BitVec 32 := 14#32
  let v278 : BitVec 32 := Scalar.shrsi v272 c14_i32_147
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v279 : BitVec 32 := Scalar.andi v278 v77
  let c4_i32_148 : BitVec 32 := 4#32
  let v280 : BitVec 32 := Scalar.shrsi v279 c4_i32_148
  let v281 : BitVec 32 := Scalar.xori v279 v280
  let c15_i32_149 : BitVec 32 := 15#32
  let v282 : BitVec 32 := Scalar.andi v281 c15_i32_149
  let v283 : BitVec 32 := Scalar.shrsi c27030_i32_150 v282
  let c1_i32_151 : BitVec 32 := 1#32
  let v284 : BitVec 32 := Scalar.andi v283 c1_i32_151
  let c10240_i32_152 : BitVec 32 := 10240#32
  let v285 : BitVec 32 := Scalar.muli v284 c10240_i32_152
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c6_i32_153 : BitVec 32 := 6#32
  let v286 : BitVec 32 := Scalar.addi v82 c6_i32_153
  let c8_i32_154 : BitVec 32 := 8#32
  let v287 : BitVec 32 := Scalar.muli v286 c8_i32_154
  let v288 : BitVec 32 := Scalar.addi v285 v287
  let v289 : BitVec 32 := v288
  let v627 : Index := Scalar.indexCast v289
  let c0_318 : Index := 0#32
  ![v627.toNat, 0]

def k0_chk23 (i : grid0.Coords) (k0_t5 : Fin k0_t5_loop.trips) (v272 : BitVec 32) : Prop :=
  (8 ∣ (k0_mult34 i k0_t5 v272).toNat) ∧
  (∀ a, (k0_off118 i k0_t5 v272) a + S8x128.size a ≤ S20480x128.size a) ∧
  (∀ a, S8x128.size a = 0 ∨ (k0_off119 v272) a + (![2052, 1] : Fin 2 → Nat) a * (S8x128.size a - 1) < S16416x128.size a) ∧
  (∀ a, S8x128.size a = 0 ∨ (k0_off120 v272) a + (![516, 1] : Fin 2 → Nat) a * (S8x128.size a - 1) < S4128x128.size a) ∧
  (∀ a, (k0_off163 i k0_t5 v272) a + S8x128.size a ≤ S20480x128.size a)
theorem k0_mult34_dvd : ∀ (i : grid0.Coords) (k0_t5 : Fin k0_t5_loop.trips) (v272 : BitVec 32) (k0_hw23 : k0_chk23 i k0_t5 v272), 8 ∣ (k0_mult34 i k0_t5 v272).toNat := fun i k0_t5 v272 k0_hw23 => k0_hw23.1
theorem k0_off118_inb : ∀ (i : grid0.Coords) (k0_t5 : Fin k0_t5_loop.trips) (v272 : BitVec 32) (k0_hw23 : k0_chk23 i k0_t5 v272), ∀ a, (k0_off118 i k0_t5 v272) a + S8x128.size a ≤ S20480x128.size a := fun i k0_t5 v272 k0_hw23 => k0_hw23.2.1
theorem k0_off119_inb : ∀ (i : grid0.Coords) (k0_t5 : Fin k0_t5_loop.trips) (v272 : BitVec 32) (k0_hw23 : k0_chk23 i k0_t5 v272), ∀ a, S8x128.size a = 0 ∨ (k0_off119 v272) a + (![2052, 1] : Fin 2 → Nat) a * (S8x128.size a - 1) < S16416x128.size a := fun i k0_t5 v272 k0_hw23 => k0_hw23.2.2.1
theorem k0_off120_inb : ∀ (i : grid0.Coords) (k0_t5 : Fin k0_t5_loop.trips) (v272 : BitVec 32) (k0_hw23 : k0_chk23 i k0_t5 v272), ∀ a, S8x128.size a = 0 ∨ (k0_off120 v272) a + (![516, 1] : Fin 2 → Nat) a * (S8x128.size a - 1) < S4128x128.size a := fun i k0_t5 v272 k0_hw23 => k0_hw23.2.2.2.1
theorem k0_off163_inb : ∀ (i : grid0.Coords) (k0_t5 : Fin k0_t5_loop.trips) (v272 : BitVec 32) (k0_hw23 : k0_chk23 i k0_t5 v272), ∀ a, (k0_off163 i k0_t5 v272) a + S8x128.size a ≤ S20480x128.size a := fun i k0_t5 v272 k0_hw23 => k0_hw23.2.2.2.2

def k0_off164 (i : grid0.Coords) (k0_t5 : Fin k0_t5_loop.trips) (v303 : BitVec 32) : Fin 2 → Nat :=
  let c27030_i32_166 : BitVec 32 := 27030#32
  let c14_i32_163 : BitVec 32 := 14#32
  let v309 : BitVec 32 := Scalar.shrsi v303 c14_i32_163
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v310 : BitVec 32 := Scalar.andi v309 v77
  let c4_i32_164 : BitVec 32 := 4#32
  let v311 : BitVec 32 := Scalar.shrsi v310 c4_i32_164
  let v312 : BitVec 32 := Scalar.xori v310 v311
  let c15_i32_165 : BitVec 32 := 15#32
  let v313 : BitVec 32 := Scalar.andi v312 c15_i32_165
  let v314 : BitVec 32 := Scalar.shrsi c27030_i32_166 v313
  let c1_i32_167 : BitVec 32 := 1#32
  let v315 : BitVec 32 := Scalar.andi v314 c1_i32_167
  let c10240_i32_168 : BitVec 32 := 10240#32
  let v316 : BitVec 32 := Scalar.muli v315 c10240_i32_168
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c7_i32_169 : BitVec 32 := 7#32
  let v317 : BitVec 32 := Scalar.addi v82 c7_i32_169
  let c8_i32_170 : BitVec 32 := 8#32
  let v318 : BitVec 32 := Scalar.muli v317 c8_i32_170
  let v319 : BitVec 32 := Scalar.addi v316 v318
  let v320 : BitVec 32 := v319
  let v635 : Index := Scalar.indexCast v320
  let c0_320 : Index := 0#32
  ![v635.toNat, 0]

def k0_chk24 (i : grid0.Coords) (k0_t5 : Fin k0_t5_loop.trips) (v303 : BitVec 32) : Prop :=
  (8 ∣ (k0_mult35 i k0_t5 v303).toNat) ∧
  (∀ a, (k0_off122 i k0_t5 v303) a + S8x128.size a ≤ S20480x128.size a) ∧
  (∀ a, S8x128.size a = 0 ∨ (k0_off123 v303) a + (![2052, 1] : Fin 2 → Nat) a * (S8x128.size a - 1) < S16416x128.size a) ∧
  (∀ a, S8x128.size a = 0 ∨ (k0_off124 v303) a + (![516, 1] : Fin 2 → Nat) a * (S8x128.size a - 1) < S4128x128.size a) ∧
  (∀ a, (k0_off164 i k0_t5 v303) a + S8x128.size a ≤ S20480x128.size a)
theorem k0_mult35_dvd : ∀ (i : grid0.Coords) (k0_t5 : Fin k0_t5_loop.trips) (v303 : BitVec 32) (k0_hw24 : k0_chk24 i k0_t5 v303), 8 ∣ (k0_mult35 i k0_t5 v303).toNat := fun i k0_t5 v303 k0_hw24 => k0_hw24.1
theorem k0_off122_inb : ∀ (i : grid0.Coords) (k0_t5 : Fin k0_t5_loop.trips) (v303 : BitVec 32) (k0_hw24 : k0_chk24 i k0_t5 v303), ∀ a, (k0_off122 i k0_t5 v303) a + S8x128.size a ≤ S20480x128.size a := fun i k0_t5 v303 k0_hw24 => k0_hw24.2.1
theorem k0_off123_inb : ∀ (i : grid0.Coords) (k0_t5 : Fin k0_t5_loop.trips) (v303 : BitVec 32) (k0_hw24 : k0_chk24 i k0_t5 v303), ∀ a, S8x128.size a = 0 ∨ (k0_off123 v303) a + (![2052, 1] : Fin 2 → Nat) a * (S8x128.size a - 1) < S16416x128.size a := fun i k0_t5 v303 k0_hw24 => k0_hw24.2.2.1
theorem k0_off124_inb : ∀ (i : grid0.Coords) (k0_t5 : Fin k0_t5_loop.trips) (v303 : BitVec 32) (k0_hw24 : k0_chk24 i k0_t5 v303), ∀ a, S8x128.size a = 0 ∨ (k0_off124 v303) a + (![516, 1] : Fin 2 → Nat) a * (S8x128.size a - 1) < S4128x128.size a := fun i k0_t5 v303 k0_hw24 => k0_hw24.2.2.2.1
theorem k0_off164_inb : ∀ (i : grid0.Coords) (k0_t5 : Fin k0_t5_loop.trips) (v303 : BitVec 32) (k0_hw24 : k0_chk24 i k0_t5 v303), ∀ a, (k0_off164 i k0_t5 v303) a + S8x128.size a ≤ S20480x128.size a := fun i k0_t5 v303 k0_hw24 => k0_hw24.2.2.2.2

def k0_off165 (i : grid0.Coords) (k0_t5 : Fin k0_t5_loop.trips) (v334 : BitVec 32) : Fin 2 → Nat :=
  let c27030_i32_183 : BitVec 32 := 27030#32
  let c14_i32_180 : BitVec 32 := 14#32
  let v340 : BitVec 32 := Scalar.shrsi v334 c14_i32_180
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v341 : BitVec 32 := Scalar.andi v340 v77
  let c4_i32_181 : BitVec 32 := 4#32
  let v342 : BitVec 32 := Scalar.shrsi v341 c4_i32_181
  let v343 : BitVec 32 := Scalar.xori v341 v342
  let c15_i32_182 : BitVec 32 := 15#32
  let v344 : BitVec 32 := Scalar.andi v343 c15_i32_182
  let v345 : BitVec 32 := Scalar.shrsi c27030_i32_183 v344
  let c1_i32_184 : BitVec 32 := 1#32
  let v346 : BitVec 32 := Scalar.andi v345 c1_i32_184
  let c10240_i32_185 : BitVec 32 := 10240#32
  let v347 : BitVec 32 := Scalar.muli v346 c10240_i32_185
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c8_i32_186 : BitVec 32 := 8#32
  let v348 : BitVec 32 := Scalar.addi v82 c8_i32_186
  let c8_i32_187 : BitVec 32 := 8#32
  let v349 : BitVec 32 := Scalar.muli v348 c8_i32_187
  let v350 : BitVec 32 := Scalar.addi v347 v349
  let v351 : BitVec 32 := v350
  let v643 : Index := Scalar.indexCast v351
  let c0_322 : Index := 0#32
  ![v643.toNat, 0]

def k0_chk25 (i : grid0.Coords) (k0_t5 : Fin k0_t5_loop.trips) (v334 : BitVec 32) : Prop :=
  (8 ∣ (k0_mult36 i k0_t5 v334).toNat) ∧
  (∀ a, (k0_off126 i k0_t5 v334) a + S8x128.size a ≤ S20480x128.size a) ∧
  (∀ a, S8x128.size a = 0 ∨ (k0_off127 v334) a + (![2052, 1] : Fin 2 → Nat) a * (S8x128.size a - 1) < S16416x128.size a) ∧
  (∀ a, S8x128.size a = 0 ∨ (k0_off128 v334) a + (![516, 1] : Fin 2 → Nat) a * (S8x128.size a - 1) < S4128x128.size a) ∧
  (∀ a, (k0_off165 i k0_t5 v334) a + S8x128.size a ≤ S20480x128.size a)
theorem k0_mult36_dvd : ∀ (i : grid0.Coords) (k0_t5 : Fin k0_t5_loop.trips) (v334 : BitVec 32) (k0_hw25 : k0_chk25 i k0_t5 v334), 8 ∣ (k0_mult36 i k0_t5 v334).toNat := fun i k0_t5 v334 k0_hw25 => k0_hw25.1
theorem k0_off126_inb : ∀ (i : grid0.Coords) (k0_t5 : Fin k0_t5_loop.trips) (v334 : BitVec 32) (k0_hw25 : k0_chk25 i k0_t5 v334), ∀ a, (k0_off126 i k0_t5 v334) a + S8x128.size a ≤ S20480x128.size a := fun i k0_t5 v334 k0_hw25 => k0_hw25.2.1
theorem k0_off127_inb : ∀ (i : grid0.Coords) (k0_t5 : Fin k0_t5_loop.trips) (v334 : BitVec 32) (k0_hw25 : k0_chk25 i k0_t5 v334), ∀ a, S8x128.size a = 0 ∨ (k0_off127 v334) a + (![2052, 1] : Fin 2 → Nat) a * (S8x128.size a - 1) < S16416x128.size a := fun i k0_t5 v334 k0_hw25 => k0_hw25.2.2.1
theorem k0_off128_inb : ∀ (i : grid0.Coords) (k0_t5 : Fin k0_t5_loop.trips) (v334 : BitVec 32) (k0_hw25 : k0_chk25 i k0_t5 v334), ∀ a, S8x128.size a = 0 ∨ (k0_off128 v334) a + (![516, 1] : Fin 2 → Nat) a * (S8x128.size a - 1) < S4128x128.size a := fun i k0_t5 v334 k0_hw25 => k0_hw25.2.2.2.1
theorem k0_off165_inb : ∀ (i : grid0.Coords) (k0_t5 : Fin k0_t5_loop.trips) (v334 : BitVec 32) (k0_hw25 : k0_chk25 i k0_t5 v334), ∀ a, (k0_off165 i k0_t5 v334) a + S8x128.size a ≤ S20480x128.size a := fun i k0_t5 v334 k0_hw25 => k0_hw25.2.2.2.2

def k0_off166 (i : grid0.Coords) (k0_t5 : Fin k0_t5_loop.trips) (v365 : BitVec 32) : Fin 2 → Nat :=
  let c27030_i32_199 : BitVec 32 := 27030#32
  let c14_i32_196 : BitVec 32 := 14#32
  let v371 : BitVec 32 := Scalar.shrsi v365 c14_i32_196
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v372 : BitVec 32 := Scalar.andi v371 v77
  let c4_i32_197 : BitVec 32 := 4#32
  let v373 : BitVec 32 := Scalar.shrsi v372 c4_i32_197
  let v374 : BitVec 32 := Scalar.xori v372 v373
  let c15_i32_198 : BitVec 32 := 15#32
  let v375 : BitVec 32 := Scalar.andi v374 c15_i32_198
  let v376 : BitVec 32 := Scalar.shrsi c27030_i32_199 v375
  let c1_i32_200 : BitVec 32 := 1#32
  let v377 : BitVec 32 := Scalar.andi v376 c1_i32_200
  let c10240_i32_201 : BitVec 32 := 10240#32
  let v378 : BitVec 32 := Scalar.muli v377 c10240_i32_201
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c9_i32_202 : BitVec 32 := 9#32
  let v379 : BitVec 32 := Scalar.addi v82 c9_i32_202
  let c8_i32_203 : BitVec 32 := 8#32
  let v380 : BitVec 32 := Scalar.muli v379 c8_i32_203
  let v381 : BitVec 32 := Scalar.addi v378 v380
  let v382 : BitVec 32 := v381
  let v651 : Index := Scalar.indexCast v382
  let c0_324 : Index := 0#32
  ![v651.toNat, 0]

def k0_chk26 (i : grid0.Coords) (k0_t5 : Fin k0_t5_loop.trips) (v365 : BitVec 32) : Prop :=
  (8 ∣ (k0_mult37 i k0_t5 v365).toNat) ∧
  (∀ a, (k0_off130 i k0_t5 v365) a + S8x128.size a ≤ S20480x128.size a) ∧
  (∀ a, S8x128.size a = 0 ∨ (k0_off131 v365) a + (![2052, 1] : Fin 2 → Nat) a * (S8x128.size a - 1) < S16416x128.size a) ∧
  (∀ a, S8x128.size a = 0 ∨ (k0_off132 v365) a + (![516, 1] : Fin 2 → Nat) a * (S8x128.size a - 1) < S4128x128.size a) ∧
  (∀ a, (k0_off166 i k0_t5 v365) a + S8x128.size a ≤ S20480x128.size a)
theorem k0_mult37_dvd : ∀ (i : grid0.Coords) (k0_t5 : Fin k0_t5_loop.trips) (v365 : BitVec 32) (k0_hw26 : k0_chk26 i k0_t5 v365), 8 ∣ (k0_mult37 i k0_t5 v365).toNat := fun i k0_t5 v365 k0_hw26 => k0_hw26.1
theorem k0_off130_inb : ∀ (i : grid0.Coords) (k0_t5 : Fin k0_t5_loop.trips) (v365 : BitVec 32) (k0_hw26 : k0_chk26 i k0_t5 v365), ∀ a, (k0_off130 i k0_t5 v365) a + S8x128.size a ≤ S20480x128.size a := fun i k0_t5 v365 k0_hw26 => k0_hw26.2.1
theorem k0_off131_inb : ∀ (i : grid0.Coords) (k0_t5 : Fin k0_t5_loop.trips) (v365 : BitVec 32) (k0_hw26 : k0_chk26 i k0_t5 v365), ∀ a, S8x128.size a = 0 ∨ (k0_off131 v365) a + (![2052, 1] : Fin 2 → Nat) a * (S8x128.size a - 1) < S16416x128.size a := fun i k0_t5 v365 k0_hw26 => k0_hw26.2.2.1
theorem k0_off132_inb : ∀ (i : grid0.Coords) (k0_t5 : Fin k0_t5_loop.trips) (v365 : BitVec 32) (k0_hw26 : k0_chk26 i k0_t5 v365), ∀ a, S8x128.size a = 0 ∨ (k0_off132 v365) a + (![516, 1] : Fin 2 → Nat) a * (S8x128.size a - 1) < S4128x128.size a := fun i k0_t5 v365 k0_hw26 => k0_hw26.2.2.2.1
theorem k0_off166_inb : ∀ (i : grid0.Coords) (k0_t5 : Fin k0_t5_loop.trips) (v365 : BitVec 32) (k0_hw26 : k0_chk26 i k0_t5 v365), ∀ a, (k0_off166 i k0_t5 v365) a + S8x128.size a ≤ S20480x128.size a := fun i k0_t5 v365 k0_hw26 => k0_hw26.2.2.2.2

def k0_off167 (i : grid0.Coords) (k0_t5 : Fin k0_t5_loop.trips) (v396 : BitVec 32) : Fin 2 → Nat :=
  let c27030_i32_215 : BitVec 32 := 27030#32
  let c14_i32_212 : BitVec 32 := 14#32
  let v402 : BitVec 32 := Scalar.shrsi v396 c14_i32_212
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v403 : BitVec 32 := Scalar.andi v402 v77
  let c4_i32_213 : BitVec 32 := 4#32
  let v404 : BitVec 32 := Scalar.shrsi v403 c4_i32_213
  let v405 : BitVec 32 := Scalar.xori v403 v404
  let c15_i32_214 : BitVec 32 := 15#32
  let v406 : BitVec 32 := Scalar.andi v405 c15_i32_214
  let v407 : BitVec 32 := Scalar.shrsi c27030_i32_215 v406
  let c1_i32_216 : BitVec 32 := 1#32
  let v408 : BitVec 32 := Scalar.andi v407 c1_i32_216
  let c10240_i32_217 : BitVec 32 := 10240#32
  let v409 : BitVec 32 := Scalar.muli v408 c10240_i32_217
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c10_i32_218 : BitVec 32 := 10#32
  let v410 : BitVec 32 := Scalar.addi v82 c10_i32_218
  let c8_i32_219 : BitVec 32 := 8#32
  let v411 : BitVec 32 := Scalar.muli v410 c8_i32_219
  let v412 : BitVec 32 := Scalar.addi v409 v411
  let v413 : BitVec 32 := v412
  let v659 : Index := Scalar.indexCast v413
  let c0_326 : Index := 0#32
  ![v659.toNat, 0]

def k0_chk27 (i : grid0.Coords) (k0_t5 : Fin k0_t5_loop.trips) (v396 : BitVec 32) : Prop :=
  (8 ∣ (k0_mult38 i k0_t5 v396).toNat) ∧
  (∀ a, (k0_off134 i k0_t5 v396) a + S8x128.size a ≤ S20480x128.size a) ∧
  (∀ a, S8x128.size a = 0 ∨ (k0_off135 v396) a + (![2052, 1] : Fin 2 → Nat) a * (S8x128.size a - 1) < S16416x128.size a) ∧
  (∀ a, S8x128.size a = 0 ∨ (k0_off136 v396) a + (![516, 1] : Fin 2 → Nat) a * (S8x128.size a - 1) < S4128x128.size a) ∧
  (∀ a, (k0_off167 i k0_t5 v396) a + S8x128.size a ≤ S20480x128.size a)
theorem k0_mult38_dvd : ∀ (i : grid0.Coords) (k0_t5 : Fin k0_t5_loop.trips) (v396 : BitVec 32) (k0_hw27 : k0_chk27 i k0_t5 v396), 8 ∣ (k0_mult38 i k0_t5 v396).toNat := fun i k0_t5 v396 k0_hw27 => k0_hw27.1
theorem k0_off134_inb : ∀ (i : grid0.Coords) (k0_t5 : Fin k0_t5_loop.trips) (v396 : BitVec 32) (k0_hw27 : k0_chk27 i k0_t5 v396), ∀ a, (k0_off134 i k0_t5 v396) a + S8x128.size a ≤ S20480x128.size a := fun i k0_t5 v396 k0_hw27 => k0_hw27.2.1
theorem k0_off135_inb : ∀ (i : grid0.Coords) (k0_t5 : Fin k0_t5_loop.trips) (v396 : BitVec 32) (k0_hw27 : k0_chk27 i k0_t5 v396), ∀ a, S8x128.size a = 0 ∨ (k0_off135 v396) a + (![2052, 1] : Fin 2 → Nat) a * (S8x128.size a - 1) < S16416x128.size a := fun i k0_t5 v396 k0_hw27 => k0_hw27.2.2.1
theorem k0_off136_inb : ∀ (i : grid0.Coords) (k0_t5 : Fin k0_t5_loop.trips) (v396 : BitVec 32) (k0_hw27 : k0_chk27 i k0_t5 v396), ∀ a, S8x128.size a = 0 ∨ (k0_off136 v396) a + (![516, 1] : Fin 2 → Nat) a * (S8x128.size a - 1) < S4128x128.size a := fun i k0_t5 v396 k0_hw27 => k0_hw27.2.2.2.1
theorem k0_off167_inb : ∀ (i : grid0.Coords) (k0_t5 : Fin k0_t5_loop.trips) (v396 : BitVec 32) (k0_hw27 : k0_chk27 i k0_t5 v396), ∀ a, (k0_off167 i k0_t5 v396) a + S8x128.size a ≤ S20480x128.size a := fun i k0_t5 v396 k0_hw27 => k0_hw27.2.2.2.2

def k0_off168 (i : grid0.Coords) (k0_t5 : Fin k0_t5_loop.trips) (v427 : BitVec 32) : Fin 2 → Nat :=
  let c27030_i32_231 : BitVec 32 := 27030#32
  let c14_i32_228 : BitVec 32 := 14#32
  let v433 : BitVec 32 := Scalar.shrsi v427 c14_i32_228
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v434 : BitVec 32 := Scalar.andi v433 v77
  let c4_i32_229 : BitVec 32 := 4#32
  let v435 : BitVec 32 := Scalar.shrsi v434 c4_i32_229
  let v436 : BitVec 32 := Scalar.xori v434 v435
  let c15_i32_230 : BitVec 32 := 15#32
  let v437 : BitVec 32 := Scalar.andi v436 c15_i32_230
  let v438 : BitVec 32 := Scalar.shrsi c27030_i32_231 v437
  let c1_i32_232 : BitVec 32 := 1#32
  let v439 : BitVec 32 := Scalar.andi v438 c1_i32_232
  let c10240_i32_233 : BitVec 32 := 10240#32
  let v440 : BitVec 32 := Scalar.muli v439 c10240_i32_233
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c11_i32_234 : BitVec 32 := 11#32
  let v441 : BitVec 32 := Scalar.addi v82 c11_i32_234
  let c8_i32_235 : BitVec 32 := 8#32
  let v442 : BitVec 32 := Scalar.muli v441 c8_i32_235
  let v443 : BitVec 32 := Scalar.addi v440 v442
  let v444 : BitVec 32 := v443
  let v667 : Index := Scalar.indexCast v444
  let c0_328 : Index := 0#32
  ![v667.toNat, 0]

def k0_chk28 (i : grid0.Coords) (k0_t5 : Fin k0_t5_loop.trips) (v427 : BitVec 32) : Prop :=
  (8 ∣ (k0_mult39 i k0_t5 v427).toNat) ∧
  (∀ a, (k0_off138 i k0_t5 v427) a + S8x128.size a ≤ S20480x128.size a) ∧
  (∀ a, S8x128.size a = 0 ∨ (k0_off139 v427) a + (![2052, 1] : Fin 2 → Nat) a * (S8x128.size a - 1) < S16416x128.size a) ∧
  (∀ a, S8x128.size a = 0 ∨ (k0_off140 v427) a + (![516, 1] : Fin 2 → Nat) a * (S8x128.size a - 1) < S4128x128.size a) ∧
  (∀ a, (k0_off168 i k0_t5 v427) a + S8x128.size a ≤ S20480x128.size a)
theorem k0_mult39_dvd : ∀ (i : grid0.Coords) (k0_t5 : Fin k0_t5_loop.trips) (v427 : BitVec 32) (k0_hw28 : k0_chk28 i k0_t5 v427), 8 ∣ (k0_mult39 i k0_t5 v427).toNat := fun i k0_t5 v427 k0_hw28 => k0_hw28.1
theorem k0_off138_inb : ∀ (i : grid0.Coords) (k0_t5 : Fin k0_t5_loop.trips) (v427 : BitVec 32) (k0_hw28 : k0_chk28 i k0_t5 v427), ∀ a, (k0_off138 i k0_t5 v427) a + S8x128.size a ≤ S20480x128.size a := fun i k0_t5 v427 k0_hw28 => k0_hw28.2.1
theorem k0_off139_inb : ∀ (i : grid0.Coords) (k0_t5 : Fin k0_t5_loop.trips) (v427 : BitVec 32) (k0_hw28 : k0_chk28 i k0_t5 v427), ∀ a, S8x128.size a = 0 ∨ (k0_off139 v427) a + (![2052, 1] : Fin 2 → Nat) a * (S8x128.size a - 1) < S16416x128.size a := fun i k0_t5 v427 k0_hw28 => k0_hw28.2.2.1
theorem k0_off140_inb : ∀ (i : grid0.Coords) (k0_t5 : Fin k0_t5_loop.trips) (v427 : BitVec 32) (k0_hw28 : k0_chk28 i k0_t5 v427), ∀ a, S8x128.size a = 0 ∨ (k0_off140 v427) a + (![516, 1] : Fin 2 → Nat) a * (S8x128.size a - 1) < S4128x128.size a := fun i k0_t5 v427 k0_hw28 => k0_hw28.2.2.2.1
theorem k0_off168_inb : ∀ (i : grid0.Coords) (k0_t5 : Fin k0_t5_loop.trips) (v427 : BitVec 32) (k0_hw28 : k0_chk28 i k0_t5 v427), ∀ a, (k0_off168 i k0_t5 v427) a + S8x128.size a ≤ S20480x128.size a := fun i k0_t5 v427 k0_hw28 => k0_hw28.2.2.2.2

def k0_off169 (i : grid0.Coords) (k0_t5 : Fin k0_t5_loop.trips) (v458 : BitVec 32) : Fin 2 → Nat :=
  let c27030_i32_247 : BitVec 32 := 27030#32
  let c14_i32_244 : BitVec 32 := 14#32
  let v464 : BitVec 32 := Scalar.shrsi v458 c14_i32_244
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v465 : BitVec 32 := Scalar.andi v464 v77
  let c4_i32_245 : BitVec 32 := 4#32
  let v466 : BitVec 32 := Scalar.shrsi v465 c4_i32_245
  let v467 : BitVec 32 := Scalar.xori v465 v466
  let c15_i32_246 : BitVec 32 := 15#32
  let v468 : BitVec 32 := Scalar.andi v467 c15_i32_246
  let v469 : BitVec 32 := Scalar.shrsi c27030_i32_247 v468
  let c1_i32_248 : BitVec 32 := 1#32
  let v470 : BitVec 32 := Scalar.andi v469 c1_i32_248
  let c10240_i32_249 : BitVec 32 := 10240#32
  let v471 : BitVec 32 := Scalar.muli v470 c10240_i32_249
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c12_i32_250 : BitVec 32 := 12#32
  let v472 : BitVec 32 := Scalar.addi v82 c12_i32_250
  let c8_i32_251 : BitVec 32 := 8#32
  let v473 : BitVec 32 := Scalar.muli v472 c8_i32_251
  let v474 : BitVec 32 := Scalar.addi v471 v473
  let v475 : BitVec 32 := v474
  let v675 : Index := Scalar.indexCast v475
  let c0_330 : Index := 0#32
  ![v675.toNat, 0]

def k0_chk29 (i : grid0.Coords) (k0_t5 : Fin k0_t5_loop.trips) (v458 : BitVec 32) : Prop :=
  (8 ∣ (k0_mult40 i k0_t5 v458).toNat) ∧
  (∀ a, (k0_off142 i k0_t5 v458) a + S8x128.size a ≤ S20480x128.size a) ∧
  (∀ a, S8x128.size a = 0 ∨ (k0_off143 v458) a + (![2052, 1] : Fin 2 → Nat) a * (S8x128.size a - 1) < S16416x128.size a) ∧
  (∀ a, S8x128.size a = 0 ∨ (k0_off144 v458) a + (![516, 1] : Fin 2 → Nat) a * (S8x128.size a - 1) < S4128x128.size a) ∧
  (∀ a, (k0_off169 i k0_t5 v458) a + S8x128.size a ≤ S20480x128.size a)
theorem k0_mult40_dvd : ∀ (i : grid0.Coords) (k0_t5 : Fin k0_t5_loop.trips) (v458 : BitVec 32) (k0_hw29 : k0_chk29 i k0_t5 v458), 8 ∣ (k0_mult40 i k0_t5 v458).toNat := fun i k0_t5 v458 k0_hw29 => k0_hw29.1
theorem k0_off142_inb : ∀ (i : grid0.Coords) (k0_t5 : Fin k0_t5_loop.trips) (v458 : BitVec 32) (k0_hw29 : k0_chk29 i k0_t5 v458), ∀ a, (k0_off142 i k0_t5 v458) a + S8x128.size a ≤ S20480x128.size a := fun i k0_t5 v458 k0_hw29 => k0_hw29.2.1
theorem k0_off143_inb : ∀ (i : grid0.Coords) (k0_t5 : Fin k0_t5_loop.trips) (v458 : BitVec 32) (k0_hw29 : k0_chk29 i k0_t5 v458), ∀ a, S8x128.size a = 0 ∨ (k0_off143 v458) a + (![2052, 1] : Fin 2 → Nat) a * (S8x128.size a - 1) < S16416x128.size a := fun i k0_t5 v458 k0_hw29 => k0_hw29.2.2.1
theorem k0_off144_inb : ∀ (i : grid0.Coords) (k0_t5 : Fin k0_t5_loop.trips) (v458 : BitVec 32) (k0_hw29 : k0_chk29 i k0_t5 v458), ∀ a, S8x128.size a = 0 ∨ (k0_off144 v458) a + (![516, 1] : Fin 2 → Nat) a * (S8x128.size a - 1) < S4128x128.size a := fun i k0_t5 v458 k0_hw29 => k0_hw29.2.2.2.1
theorem k0_off169_inb : ∀ (i : grid0.Coords) (k0_t5 : Fin k0_t5_loop.trips) (v458 : BitVec 32) (k0_hw29 : k0_chk29 i k0_t5 v458), ∀ a, (k0_off169 i k0_t5 v458) a + S8x128.size a ≤ S20480x128.size a := fun i k0_t5 v458 k0_hw29 => k0_hw29.2.2.2.2

def k0_off170 (i : grid0.Coords) (k0_t5 : Fin k0_t5_loop.trips) (v489 : BitVec 32) : Fin 2 → Nat :=
  let c27030_i32_263 : BitVec 32 := 27030#32
  let c14_i32_260 : BitVec 32 := 14#32
  let v495 : BitVec 32 := Scalar.shrsi v489 c14_i32_260
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v496 : BitVec 32 := Scalar.andi v495 v77
  let c4_i32_261 : BitVec 32 := 4#32
  let v497 : BitVec 32 := Scalar.shrsi v496 c4_i32_261
  let v498 : BitVec 32 := Scalar.xori v496 v497
  let c15_i32_262 : BitVec 32 := 15#32
  let v499 : BitVec 32 := Scalar.andi v498 c15_i32_262
  let v500 : BitVec 32 := Scalar.shrsi c27030_i32_263 v499
  let c1_i32_264 : BitVec 32 := 1#32
  let v501 : BitVec 32 := Scalar.andi v500 c1_i32_264
  let c10240_i32_265 : BitVec 32 := 10240#32
  let v502 : BitVec 32 := Scalar.muli v501 c10240_i32_265
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c13_i32_266 : BitVec 32 := 13#32
  let v503 : BitVec 32 := Scalar.addi v82 c13_i32_266
  let c8_i32_267 : BitVec 32 := 8#32
  let v504 : BitVec 32 := Scalar.muli v503 c8_i32_267
  let v505 : BitVec 32 := Scalar.addi v502 v504
  let v506 : BitVec 32 := v505
  let v683 : Index := Scalar.indexCast v506
  let c0_332 : Index := 0#32
  ![v683.toNat, 0]

def k0_chk30 (i : grid0.Coords) (k0_t5 : Fin k0_t5_loop.trips) (v489 : BitVec 32) : Prop :=
  (8 ∣ (k0_mult41 i k0_t5 v489).toNat) ∧
  (∀ a, (k0_off146 i k0_t5 v489) a + S8x128.size a ≤ S20480x128.size a) ∧
  (∀ a, S8x128.size a = 0 ∨ (k0_off147 v489) a + (![2052, 1] : Fin 2 → Nat) a * (S8x128.size a - 1) < S16416x128.size a) ∧
  (∀ a, S8x128.size a = 0 ∨ (k0_off148 v489) a + (![516, 1] : Fin 2 → Nat) a * (S8x128.size a - 1) < S4128x128.size a) ∧
  (∀ a, (k0_off170 i k0_t5 v489) a + S8x128.size a ≤ S20480x128.size a)
theorem k0_mult41_dvd : ∀ (i : grid0.Coords) (k0_t5 : Fin k0_t5_loop.trips) (v489 : BitVec 32) (k0_hw30 : k0_chk30 i k0_t5 v489), 8 ∣ (k0_mult41 i k0_t5 v489).toNat := fun i k0_t5 v489 k0_hw30 => k0_hw30.1
theorem k0_off146_inb : ∀ (i : grid0.Coords) (k0_t5 : Fin k0_t5_loop.trips) (v489 : BitVec 32) (k0_hw30 : k0_chk30 i k0_t5 v489), ∀ a, (k0_off146 i k0_t5 v489) a + S8x128.size a ≤ S20480x128.size a := fun i k0_t5 v489 k0_hw30 => k0_hw30.2.1
theorem k0_off147_inb : ∀ (i : grid0.Coords) (k0_t5 : Fin k0_t5_loop.trips) (v489 : BitVec 32) (k0_hw30 : k0_chk30 i k0_t5 v489), ∀ a, S8x128.size a = 0 ∨ (k0_off147 v489) a + (![2052, 1] : Fin 2 → Nat) a * (S8x128.size a - 1) < S16416x128.size a := fun i k0_t5 v489 k0_hw30 => k0_hw30.2.2.1
theorem k0_off148_inb : ∀ (i : grid0.Coords) (k0_t5 : Fin k0_t5_loop.trips) (v489 : BitVec 32) (k0_hw30 : k0_chk30 i k0_t5 v489), ∀ a, S8x128.size a = 0 ∨ (k0_off148 v489) a + (![516, 1] : Fin 2 → Nat) a * (S8x128.size a - 1) < S4128x128.size a := fun i k0_t5 v489 k0_hw30 => k0_hw30.2.2.2.1
theorem k0_off170_inb : ∀ (i : grid0.Coords) (k0_t5 : Fin k0_t5_loop.trips) (v489 : BitVec 32) (k0_hw30 : k0_chk30 i k0_t5 v489), ∀ a, (k0_off170 i k0_t5 v489) a + S8x128.size a ≤ S20480x128.size a := fun i k0_t5 v489 k0_hw30 => k0_hw30.2.2.2.2

def k0_off171 (i : grid0.Coords) (k0_t5 : Fin k0_t5_loop.trips) (v520 : BitVec 32) : Fin 2 → Nat :=
  let c27030_i32_280 : BitVec 32 := 27030#32
  let c14_i32_277 : BitVec 32 := 14#32
  let v526 : BitVec 32 := Scalar.shrsi v520 c14_i32_277
  let c2_i32_39 : BitVec 32 := 2#32
  let arg0 : BitVec 32 := BitVec.ofNat 32 (i 0).val
  let v67 : BitVec 32 := Scalar.muli c2_i32_39 arg0
  let c64_i32_40 : BitVec 32 := 64#32
  let c0_i32_41 : BitVec 32 := 0#32
  let v68 : BitVec 1 := Scalar.cmpi .eq c64_i32_40 c0_i32_41
  let c1_i32_42 : BitVec 32 := 1#32
  let v69 : BitVec 32 := Scalar.select v68 c1_i32_42 c64_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let v527 : BitVec 32 := Scalar.andi v526 v77
  let c4_i32_278 : BitVec 32 := 4#32
  let v528 : BitVec 32 := Scalar.shrsi v527 c4_i32_278
  let v529 : BitVec 32 := Scalar.xori v527 v528
  let c15_i32_279 : BitVec 32 := 15#32
  let v530 : BitVec 32 := Scalar.andi v529 c15_i32_279
  let v531 : BitVec 32 := Scalar.shrsi c27030_i32_280 v530
  let c1_i32_281 : BitVec 32 := 1#32
  let v532 : BitVec 32 := Scalar.andi v531 c1_i32_281
  let c10240_i32_282 : BitVec 32 := 10240#32
  let v533 : BitVec 32 := Scalar.muli v532 c10240_i32_282
  let c0_i32_46 : BitVec 32 := 0#32
  let c1_i32_48 : BitVec 32 := 1#32
  let arg14 : BitVec 32 := Scf.iv c0_i32_46 c1_i32_48 k0_t5
  let c16_i32 : BitVec 32 := 16#32
  let v82 : BitVec 32 := Scalar.muli arg14 c16_i32
  let c14_i32_283 : BitVec 32 := 14#32
  let v534 : BitVec 32 := Scalar.addi v82 c14_i32_283
  let c8_i32_284 : BitVec 32 := 8#32
  let v535 : BitVec 32 := Scalar.muli v534 c8_i32_284
  let v536 : BitVec 32 := Scalar.addi v533 v535
  let v537 : BitVec 32 := v536
  let v691 : Index := Scalar.indexCast v537
  let c0_334 : Index := 0#32
  ![v691.toNat, 0]

def k0_chk31 (i : grid0.Coords) (k0_t5 : Fin k0_t5_loop.trips) (v520 : BitVec 32) : Prop :=
  (8 ∣ (k0_mult42 i k0_t5 v520).toNat) ∧
  (∀ a, (k0_off150 i k0_t5 v520) a + S8x128.size a ≤ S20480x128.size a) ∧
  (∀ a, S8x128.size a = 0 ∨ (k0_off151 v520) a + (![2052, 1] : Fin 2 → Nat) a * (S8x128.size a - 1) < S16416x128.size a) ∧
  (∀ a, S8x128.size a = 0 ∨ (k0_off152 v520) a + (![516, 1] : Fin 2 → Nat) a * (S8x128.size a - 1) < S4128x128.size a) ∧
  (∀ a, (k0_off171 i k0_t5 v520) a + S8x128.size a ≤ S20480x128.size a)
theorem k0_mult42_dvd : ∀ (i : grid0.Coords) (k0_t5 : Fin k0_t5_loop.trips) (v520 : BitVec 32) (k0_hw31 : k0_chk31 i k0_t5 v520), 8 ∣ (k0_mult42 i k0_t5 v520).toNat := fun i k0_t5 v520 k0_hw31 => k0_hw31.1
theorem k0_off150_inb : ∀ (i : grid0.Coords) (k0_t5 : Fin k0_t5_loop.trips) (v520 : BitVec 32) (k0_hw31 : k0_chk31 i k0_t5 v520), ∀ a, (k0_off150 i k0_t5 v520) a + S8x128.size a ≤ S20480x128.size a := fun i k0_t5 v520 k0_hw31 => k0_hw31.2.1
theorem k0_off151_inb : ∀ (i : grid0.Coords) (k0_t5 : Fin k0_t5_loop.trips) (v520 : BitVec 32) (k0_hw31 : k0_chk31 i k0_t5 v520), ∀ a, S8x128.size a = 0 ∨ (k0_off151 v520) a + (![2052, 1] : Fin 2 → Nat) a * (S8x128.size a - 1) < S16416x128.size a := fun i k0_t5 v520 k0_hw31 => k0_hw31.2.2.1
theorem k0_off152_inb : ∀ (i : grid0.Coords) (k0_t5 : Fin k0_t5_loop.trips) (v520 : BitVec 32) (k0_hw31 : k0_chk31 i k0_t5 v520), ∀ a, S8x128.size a = 0 ∨ (k0_off152 v520) a + (![516, 1] : Fin 2 → Nat) a * (S8x128.size a - 1) < S4128x128.size a := fun i k0_t5 v520 k0_hw31 => k0_hw31.2.2.2.1
theorem k0_off171_inb : ∀ (i : grid0.Coords) (k0_t5 : Fin k0_t5_loop.trips) (v520 : BitVec 32) (k0_hw31 : k0_chk31 i k0_t5 v520), ∀ a, (k0_off171 i k0_t5 v520) a + S8x128.size a ≤ S20480x128.size a := fun i k0_t5 v520 k0_hw31 => k0_hw31.2.2.2.2

def k0_cond3 (i : grid0.Coords) : BitVec 1 :=
  let arg0 : BitVec 32 := BitVec.ofNat 32 (i 0).val
  let c63_i32 : BitVec 32 := 63#32
  let v79 : BitVec 1 := Scalar.cmpi .eq arg0 c63_i32
  let v80 : BitVec 32 := Scalar.extui v79
  let c0_i32_50 : BitVec 32 := 0#32
  let v81 : BitVec 1 := Scalar.cmpi .ne v80 c0_i32_50
  v81

@[reducible] def k0_t6_loop : Scf.Loop 32 :=
  let c0_i32_51 : BitVec 32 := 0#32
  let c80_i32_52 : BitVec 32 := 80#32
  let v82 : BitVec 32 := Scalar.addi c0_i32_51 c80_i32_52
  let c1_i32_53 : BitVec 32 := 1#32
  ⟨c0_i32_51, v82, c1_i32_53⟩
def k0_off172 (k0_t6 : Fin k0_t6_loop.trips) : Fin 2 → Nat :=
  let c1 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c0_i32_65 : BitVec 32 := 0#32
  let v111 : BitVec 32 := Scalar.addi v110 c0_i32_65
  let v112 : Index := Scalar.indexCast v111
  ![1, v112.toNat]
def k0_mult44 (k0_t6 : Fin k0_t6_loop.trips) (v113 : BitVec 32) : BitVec 32 :=
  let c27030_i32 : BitVec 32 := 27030#32
  let c14_i32 : BitVec 32 := 14#32
  let v119 : BitVec 32 := Scalar.shrsi v113 c14_i32
  let c63_i32_67 : BitVec 32 := 63#32
  let v120 : BitVec 32 := Scalar.andi v119 c63_i32_67
  let c4_i32 : BitVec 32 := 4#32
  let v121 : BitVec 32 := Scalar.shrsi v120 c4_i32
  let v122 : BitVec 32 := Scalar.xori v120 v121
  let c15_i32 : BitVec 32 := 15#32
  let v123 : BitVec 32 := Scalar.andi v122 c15_i32
  let v124 : BitVec 32 := Scalar.shrsi c27030_i32 v123
  let c1_i32_68 : BitVec 32 := 1#32
  let v125 : BitVec 32 := Scalar.andi v124 c1_i32_68
  let c10240_i32 : BitVec 32 := 10240#32
  let v126 : BitVec 32 := Scalar.muli v125 c10240_i32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c0_i32_69 : BitVec 32 := 0#32
  let v127 : BitVec 32 := Scalar.addi v110 c0_i32_69
  let c8_i32_70 : BitVec 32 := 8#32
  let v128 : BitVec 32 := Scalar.muli v127 c8_i32_70
  let v129 : BitVec 32 := Scalar.addi v126 v128
  v129

def k0_off173 (k0_t6 : Fin k0_t6_loop.trips) (v113 : BitVec 32) : Fin 2 → Nat :=
  let c27030_i32 : BitVec 32 := 27030#32
  let c14_i32 : BitVec 32 := 14#32
  let v119 : BitVec 32 := Scalar.shrsi v113 c14_i32
  let c63_i32_67 : BitVec 32 := 63#32
  let v120 : BitVec 32 := Scalar.andi v119 c63_i32_67
  let c4_i32 : BitVec 32 := 4#32
  let v121 : BitVec 32 := Scalar.shrsi v120 c4_i32
  let v122 : BitVec 32 := Scalar.xori v120 v121
  let c15_i32 : BitVec 32 := 15#32
  let v123 : BitVec 32 := Scalar.andi v122 c15_i32
  let v124 : BitVec 32 := Scalar.shrsi c27030_i32 v123
  let c1_i32_68 : BitVec 32 := 1#32
  let v125 : BitVec 32 := Scalar.andi v124 c1_i32_68
  let c10240_i32 : BitVec 32 := 10240#32
  let v126 : BitVec 32 := Scalar.muli v125 c10240_i32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c0_i32_69 : BitVec 32 := 0#32
  let v127 : BitVec 32 := Scalar.addi v110 c0_i32_69
  let c8_i32_70 : BitVec 32 := 8#32
  let v128 : BitVec 32 := Scalar.muli v127 c8_i32_70
  let v129 : BitVec 32 := Scalar.addi v126 v128
  let v130 : BitVec 32 := v129
  let v131 : Index := Scalar.indexCast v130
  let c0_71 : Index := 0#32
  ![v131.toNat, 0]
def k0_off174 (v113 : BitVec 32) : Fin 2 → Nat :=
  let c2047_i32 : BitVec 32 := 2047#32
  let v114 : BitVec 32 := Scalar.andi v113 c2047_i32
  let v133 : Index := Scalar.indexCast v114
  let c0_72 : Index := 0#32
  ![v133.toNat, 0]
def k0_off175 (v113 : BitVec 32) : Fin 2 → Nat :=
  let c255_i32 : BitVec 32 := 255#32
  let v115 : BitVec 32 := Scalar.andi v113 c255_i32
  let c2_i32_66 : BitVec 32 := 2#32
  let v116 : BitVec 32 := Scalar.shrsi v113 c2_i32_66
  let c256_i32 : BitVec 32 := 256#32
  let v117 : BitVec 32 := Scalar.andi v116 c256_i32
  let v118 : BitVec 32 := Scalar.addi v115 v117
  let v138 : Index := Scalar.indexCast v118
  let c0_74 : Index := 0#32
  ![v138.toNat, 0]
def k0_off176 (k0_t6 : Fin k0_t6_loop.trips) : Fin 2 → Nat :=
  let c1_76 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c1_i32_75 : BitVec 32 := 1#32
  let v141 : BitVec 32 := Scalar.addi v110 c1_i32_75
  let v142 : Index := Scalar.indexCast v141
  ![1, v142.toNat]
def k0_mult45 (k0_t6 : Fin k0_t6_loop.trips) (v143 : BitVec 32) : BitVec 32 :=
  let c27030_i32_85 : BitVec 32 := 27030#32
  let c14_i32_81 : BitVec 32 := 14#32
  let v149 : BitVec 32 := Scalar.shrsi v143 c14_i32_81
  let c63_i32_82 : BitVec 32 := 63#32
  let v150 : BitVec 32 := Scalar.andi v149 c63_i32_82
  let c4_i32_83 : BitVec 32 := 4#32
  let v151 : BitVec 32 := Scalar.shrsi v150 c4_i32_83
  let v152 : BitVec 32 := Scalar.xori v150 v151
  let c15_i32_84 : BitVec 32 := 15#32
  let v153 : BitVec 32 := Scalar.andi v152 c15_i32_84
  let v154 : BitVec 32 := Scalar.shrsi c27030_i32_85 v153
  let c1_i32_86 : BitVec 32 := 1#32
  let v155 : BitVec 32 := Scalar.andi v154 c1_i32_86
  let c10240_i32_87 : BitVec 32 := 10240#32
  let v156 : BitVec 32 := Scalar.muli v155 c10240_i32_87
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c1_i32_88 : BitVec 32 := 1#32
  let v157 : BitVec 32 := Scalar.addi v110 c1_i32_88
  let c8_i32_89 : BitVec 32 := 8#32
  let v158 : BitVec 32 := Scalar.muli v157 c8_i32_89
  let v159 : BitVec 32 := Scalar.addi v156 v158
  v159

def k0_off177 (k0_t6 : Fin k0_t6_loop.trips) (v143 : BitVec 32) : Fin 2 → Nat :=
  let c27030_i32_85 : BitVec 32 := 27030#32
  let c14_i32_81 : BitVec 32 := 14#32
  let v149 : BitVec 32 := Scalar.shrsi v143 c14_i32_81
  let c63_i32_82 : BitVec 32 := 63#32
  let v150 : BitVec 32 := Scalar.andi v149 c63_i32_82
  let c4_i32_83 : BitVec 32 := 4#32
  let v151 : BitVec 32 := Scalar.shrsi v150 c4_i32_83
  let v152 : BitVec 32 := Scalar.xori v150 v151
  let c15_i32_84 : BitVec 32 := 15#32
  let v153 : BitVec 32 := Scalar.andi v152 c15_i32_84
  let v154 : BitVec 32 := Scalar.shrsi c27030_i32_85 v153
  let c1_i32_86 : BitVec 32 := 1#32
  let v155 : BitVec 32 := Scalar.andi v154 c1_i32_86
  let c10240_i32_87 : BitVec 32 := 10240#32
  let v156 : BitVec 32 := Scalar.muli v155 c10240_i32_87
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c1_i32_88 : BitVec 32 := 1#32
  let v157 : BitVec 32 := Scalar.addi v110 c1_i32_88
  let c8_i32_89 : BitVec 32 := 8#32
  let v158 : BitVec 32 := Scalar.muli v157 c8_i32_89
  let v159 : BitVec 32 := Scalar.addi v156 v158
  let v160 : BitVec 32 := v159
  let v161 : Index := Scalar.indexCast v160
  let c0_90 : Index := 0#32
  ![v161.toNat, 0]
def k0_off178 (v143 : BitVec 32) : Fin 2 → Nat :=
  let c2047_i32_77 : BitVec 32 := 2047#32
  let v144 : BitVec 32 := Scalar.andi v143 c2047_i32_77
  let v163 : Index := Scalar.indexCast v144
  let c0_91 : Index := 0#32
  ![v163.toNat, 0]
def k0_off179 (v143 : BitVec 32) : Fin 2 → Nat :=
  let c255_i32_78 : BitVec 32 := 255#32
  let v145 : BitVec 32 := Scalar.andi v143 c255_i32_78
  let c2_i32_79 : BitVec 32 := 2#32
  let v146 : BitVec 32 := Scalar.shrsi v143 c2_i32_79
  let c256_i32_80 : BitVec 32 := 256#32
  let v147 : BitVec 32 := Scalar.andi v146 c256_i32_80
  let v148 : BitVec 32 := Scalar.addi v145 v147
  let v168 : Index := Scalar.indexCast v148
  let c0_93 : Index := 0#32
  ![v168.toNat, 0]
def k0_off180 (k0_t6 : Fin k0_t6_loop.trips) : Fin 2 → Nat :=
  let c1_95 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c2_i32_94 : BitVec 32 := 2#32
  let v171 : BitVec 32 := Scalar.addi v110 c2_i32_94
  let v172 : Index := Scalar.indexCast v171
  ![1, v172.toNat]
def k0_mult46 (k0_t6 : Fin k0_t6_loop.trips) (v173 : BitVec 32) : BitVec 32 :=
  let c27030_i32_104 : BitVec 32 := 27030#32
  let c14_i32_100 : BitVec 32 := 14#32
  let v179 : BitVec 32 := Scalar.shrsi v173 c14_i32_100
  let c63_i32_101 : BitVec 32 := 63#32
  let v180 : BitVec 32 := Scalar.andi v179 c63_i32_101
  let c4_i32_102 : BitVec 32 := 4#32
  let v181 : BitVec 32 := Scalar.shrsi v180 c4_i32_102
  let v182 : BitVec 32 := Scalar.xori v180 v181
  let c15_i32_103 : BitVec 32 := 15#32
  let v183 : BitVec 32 := Scalar.andi v182 c15_i32_103
  let v184 : BitVec 32 := Scalar.shrsi c27030_i32_104 v183
  let c1_i32_105 : BitVec 32 := 1#32
  let v185 : BitVec 32 := Scalar.andi v184 c1_i32_105
  let c10240_i32_106 : BitVec 32 := 10240#32
  let v186 : BitVec 32 := Scalar.muli v185 c10240_i32_106
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c2_i32_107 : BitVec 32 := 2#32
  let v187 : BitVec 32 := Scalar.addi v110 c2_i32_107
  let c8_i32_108 : BitVec 32 := 8#32
  let v188 : BitVec 32 := Scalar.muli v187 c8_i32_108
  let v189 : BitVec 32 := Scalar.addi v186 v188
  v189

def k0_off181 (k0_t6 : Fin k0_t6_loop.trips) (v173 : BitVec 32) : Fin 2 → Nat :=
  let c27030_i32_104 : BitVec 32 := 27030#32
  let c14_i32_100 : BitVec 32 := 14#32
  let v179 : BitVec 32 := Scalar.shrsi v173 c14_i32_100
  let c63_i32_101 : BitVec 32 := 63#32
  let v180 : BitVec 32 := Scalar.andi v179 c63_i32_101
  let c4_i32_102 : BitVec 32 := 4#32
  let v181 : BitVec 32 := Scalar.shrsi v180 c4_i32_102
  let v182 : BitVec 32 := Scalar.xori v180 v181
  let c15_i32_103 : BitVec 32 := 15#32
  let v183 : BitVec 32 := Scalar.andi v182 c15_i32_103
  let v184 : BitVec 32 := Scalar.shrsi c27030_i32_104 v183
  let c1_i32_105 : BitVec 32 := 1#32
  let v185 : BitVec 32 := Scalar.andi v184 c1_i32_105
  let c10240_i32_106 : BitVec 32 := 10240#32
  let v186 : BitVec 32 := Scalar.muli v185 c10240_i32_106
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c2_i32_107 : BitVec 32 := 2#32
  let v187 : BitVec 32 := Scalar.addi v110 c2_i32_107
  let c8_i32_108 : BitVec 32 := 8#32
  let v188 : BitVec 32 := Scalar.muli v187 c8_i32_108
  let v189 : BitVec 32 := Scalar.addi v186 v188
  let v190 : BitVec 32 := v189
  let v191 : Index := Scalar.indexCast v190
  let c0_109 : Index := 0#32
  ![v191.toNat, 0]
def k0_off182 (v173 : BitVec 32) : Fin 2 → Nat :=
  let c2047_i32_96 : BitVec 32 := 2047#32
  let v174 : BitVec 32 := Scalar.andi v173 c2047_i32_96
  let v193 : Index := Scalar.indexCast v174
  let c0_110 : Index := 0#32
  ![v193.toNat, 0]
def k0_off183 (v173 : BitVec 32) : Fin 2 → Nat :=
  let c255_i32_97 : BitVec 32 := 255#32
  let v175 : BitVec 32 := Scalar.andi v173 c255_i32_97
  let c2_i32_98 : BitVec 32 := 2#32
  let v176 : BitVec 32 := Scalar.shrsi v173 c2_i32_98
  let c256_i32_99 : BitVec 32 := 256#32
  let v177 : BitVec 32 := Scalar.andi v176 c256_i32_99
  let v178 : BitVec 32 := Scalar.addi v175 v177
  let v198 : Index := Scalar.indexCast v178
  let c0_112 : Index := 0#32
  ![v198.toNat, 0]
def k0_off184 (k0_t6 : Fin k0_t6_loop.trips) : Fin 2 → Nat :=
  let c1_113 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c3_i32 : BitVec 32 := 3#32
  let v201 : BitVec 32 := Scalar.addi v110 c3_i32
  let v202 : Index := Scalar.indexCast v201
  ![1, v202.toNat]
def k0_mult47 (k0_t6 : Fin k0_t6_loop.trips) (v203 : BitVec 32) : BitVec 32 :=
  let c27030_i32_122 : BitVec 32 := 27030#32
  let c14_i32_118 : BitVec 32 := 14#32
  let v209 : BitVec 32 := Scalar.shrsi v203 c14_i32_118
  let c63_i32_119 : BitVec 32 := 63#32
  let v210 : BitVec 32 := Scalar.andi v209 c63_i32_119
  let c4_i32_120 : BitVec 32 := 4#32
  let v211 : BitVec 32 := Scalar.shrsi v210 c4_i32_120
  let v212 : BitVec 32 := Scalar.xori v210 v211
  let c15_i32_121 : BitVec 32 := 15#32
  let v213 : BitVec 32 := Scalar.andi v212 c15_i32_121
  let v214 : BitVec 32 := Scalar.shrsi c27030_i32_122 v213
  let c1_i32_123 : BitVec 32 := 1#32
  let v215 : BitVec 32 := Scalar.andi v214 c1_i32_123
  let c10240_i32_124 : BitVec 32 := 10240#32
  let v216 : BitVec 32 := Scalar.muli v215 c10240_i32_124
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c3_i32_125 : BitVec 32 := 3#32
  let v217 : BitVec 32 := Scalar.addi v110 c3_i32_125
  let c8_i32_126 : BitVec 32 := 8#32
  let v218 : BitVec 32 := Scalar.muli v217 c8_i32_126
  let v219 : BitVec 32 := Scalar.addi v216 v218
  v219

def k0_off185 (k0_t6 : Fin k0_t6_loop.trips) (v203 : BitVec 32) : Fin 2 → Nat :=
  let c27030_i32_122 : BitVec 32 := 27030#32
  let c14_i32_118 : BitVec 32 := 14#32
  let v209 : BitVec 32 := Scalar.shrsi v203 c14_i32_118
  let c63_i32_119 : BitVec 32 := 63#32
  let v210 : BitVec 32 := Scalar.andi v209 c63_i32_119
  let c4_i32_120 : BitVec 32 := 4#32
  let v211 : BitVec 32 := Scalar.shrsi v210 c4_i32_120
  let v212 : BitVec 32 := Scalar.xori v210 v211
  let c15_i32_121 : BitVec 32 := 15#32
  let v213 : BitVec 32 := Scalar.andi v212 c15_i32_121
  let v214 : BitVec 32 := Scalar.shrsi c27030_i32_122 v213
  let c1_i32_123 : BitVec 32 := 1#32
  let v215 : BitVec 32 := Scalar.andi v214 c1_i32_123
  let c10240_i32_124 : BitVec 32 := 10240#32
  let v216 : BitVec 32 := Scalar.muli v215 c10240_i32_124
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c3_i32_125 : BitVec 32 := 3#32
  let v217 : BitVec 32 := Scalar.addi v110 c3_i32_125
  let c8_i32_126 : BitVec 32 := 8#32
  let v218 : BitVec 32 := Scalar.muli v217 c8_i32_126
  let v219 : BitVec 32 := Scalar.addi v216 v218
  let v220 : BitVec 32 := v219
  let v221 : Index := Scalar.indexCast v220
  let c0_127 : Index := 0#32
  ![v221.toNat, 0]
def k0_off186 (v203 : BitVec 32) : Fin 2 → Nat :=
  let c2047_i32_114 : BitVec 32 := 2047#32
  let v204 : BitVec 32 := Scalar.andi v203 c2047_i32_114
  let v223 : Index := Scalar.indexCast v204
  let c0_128 : Index := 0#32
  ![v223.toNat, 0]
def k0_off187 (v203 : BitVec 32) : Fin 2 → Nat :=
  let c255_i32_115 : BitVec 32 := 255#32
  let v205 : BitVec 32 := Scalar.andi v203 c255_i32_115
  let c2_i32_116 : BitVec 32 := 2#32
  let v206 : BitVec 32 := Scalar.shrsi v203 c2_i32_116
  let c256_i32_117 : BitVec 32 := 256#32
  let v207 : BitVec 32 := Scalar.andi v206 c256_i32_117
  let v208 : BitVec 32 := Scalar.addi v205 v207
  let v228 : Index := Scalar.indexCast v208
  let c0_130 : Index := 0#32
  ![v228.toNat, 0]
def k0_off188 (k0_t6 : Fin k0_t6_loop.trips) : Fin 2 → Nat :=
  let c1_132 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c4_i32_131 : BitVec 32 := 4#32
  let v231 : BitVec 32 := Scalar.addi v110 c4_i32_131
  let v232 : Index := Scalar.indexCast v231
  ![1, v232.toNat]
def k0_mult48 (k0_t6 : Fin k0_t6_loop.trips) (v233 : BitVec 32) : BitVec 32 :=
  let c27030_i32_141 : BitVec 32 := 27030#32
  let c14_i32_137 : BitVec 32 := 14#32
  let v239 : BitVec 32 := Scalar.shrsi v233 c14_i32_137
  let c63_i32_138 : BitVec 32 := 63#32
  let v240 : BitVec 32 := Scalar.andi v239 c63_i32_138
  let c4_i32_139 : BitVec 32 := 4#32
  let v241 : BitVec 32 := Scalar.shrsi v240 c4_i32_139
  let v242 : BitVec 32 := Scalar.xori v240 v241
  let c15_i32_140 : BitVec 32 := 15#32
  let v243 : BitVec 32 := Scalar.andi v242 c15_i32_140
  let v244 : BitVec 32 := Scalar.shrsi c27030_i32_141 v243
  let c1_i32_142 : BitVec 32 := 1#32
  let v245 : BitVec 32 := Scalar.andi v244 c1_i32_142
  let c10240_i32_143 : BitVec 32 := 10240#32
  let v246 : BitVec 32 := Scalar.muli v245 c10240_i32_143
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c4_i32_144 : BitVec 32 := 4#32
  let v247 : BitVec 32 := Scalar.addi v110 c4_i32_144
  let c8_i32_145 : BitVec 32 := 8#32
  let v248 : BitVec 32 := Scalar.muli v247 c8_i32_145
  let v249 : BitVec 32 := Scalar.addi v246 v248
  v249

def k0_off189 (k0_t6 : Fin k0_t6_loop.trips) (v233 : BitVec 32) : Fin 2 → Nat :=
  let c27030_i32_141 : BitVec 32 := 27030#32
  let c14_i32_137 : BitVec 32 := 14#32
  let v239 : BitVec 32 := Scalar.shrsi v233 c14_i32_137
  let c63_i32_138 : BitVec 32 := 63#32
  let v240 : BitVec 32 := Scalar.andi v239 c63_i32_138
  let c4_i32_139 : BitVec 32 := 4#32
  let v241 : BitVec 32 := Scalar.shrsi v240 c4_i32_139
  let v242 : BitVec 32 := Scalar.xori v240 v241
  let c15_i32_140 : BitVec 32 := 15#32
  let v243 : BitVec 32 := Scalar.andi v242 c15_i32_140
  let v244 : BitVec 32 := Scalar.shrsi c27030_i32_141 v243
  let c1_i32_142 : BitVec 32 := 1#32
  let v245 : BitVec 32 := Scalar.andi v244 c1_i32_142
  let c10240_i32_143 : BitVec 32 := 10240#32
  let v246 : BitVec 32 := Scalar.muli v245 c10240_i32_143
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c4_i32_144 : BitVec 32 := 4#32
  let v247 : BitVec 32 := Scalar.addi v110 c4_i32_144
  let c8_i32_145 : BitVec 32 := 8#32
  let v248 : BitVec 32 := Scalar.muli v247 c8_i32_145
  let v249 : BitVec 32 := Scalar.addi v246 v248
  let v250 : BitVec 32 := v249
  let v251 : Index := Scalar.indexCast v250
  let c0_146 : Index := 0#32
  ![v251.toNat, 0]
def k0_off190 (v233 : BitVec 32) : Fin 2 → Nat :=
  let c2047_i32_133 : BitVec 32 := 2047#32
  let v234 : BitVec 32 := Scalar.andi v233 c2047_i32_133
  let v253 : Index := Scalar.indexCast v234
  let c0_147 : Index := 0#32
  ![v253.toNat, 0]
def k0_off191 (v233 : BitVec 32) : Fin 2 → Nat :=
  let c255_i32_134 : BitVec 32 := 255#32
  let v235 : BitVec 32 := Scalar.andi v233 c255_i32_134
  let c2_i32_135 : BitVec 32 := 2#32
  let v236 : BitVec 32 := Scalar.shrsi v233 c2_i32_135
  let c256_i32_136 : BitVec 32 := 256#32
  let v237 : BitVec 32 := Scalar.andi v236 c256_i32_136
  let v238 : BitVec 32 := Scalar.addi v235 v237
  let v258 : Index := Scalar.indexCast v238
  let c0_149 : Index := 0#32
  ![v258.toNat, 0]
def k0_off192 (k0_t6 : Fin k0_t6_loop.trips) : Fin 2 → Nat :=
  let c1_150 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c5_i32 : BitVec 32 := 5#32
  let v261 : BitVec 32 := Scalar.addi v110 c5_i32
  let v262 : Index := Scalar.indexCast v261
  ![1, v262.toNat]
def k0_mult49 (k0_t6 : Fin k0_t6_loop.trips) (v263 : BitVec 32) : BitVec 32 :=
  let c27030_i32_159 : BitVec 32 := 27030#32
  let c14_i32_155 : BitVec 32 := 14#32
  let v269 : BitVec 32 := Scalar.shrsi v263 c14_i32_155
  let c63_i32_156 : BitVec 32 := 63#32
  let v270 : BitVec 32 := Scalar.andi v269 c63_i32_156
  let c4_i32_157 : BitVec 32 := 4#32
  let v271 : BitVec 32 := Scalar.shrsi v270 c4_i32_157
  let v272 : BitVec 32 := Scalar.xori v270 v271
  let c15_i32_158 : BitVec 32 := 15#32
  let v273 : BitVec 32 := Scalar.andi v272 c15_i32_158
  let v274 : BitVec 32 := Scalar.shrsi c27030_i32_159 v273
  let c1_i32_160 : BitVec 32 := 1#32
  let v275 : BitVec 32 := Scalar.andi v274 c1_i32_160
  let c10240_i32_161 : BitVec 32 := 10240#32
  let v276 : BitVec 32 := Scalar.muli v275 c10240_i32_161
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c5_i32_162 : BitVec 32 := 5#32
  let v277 : BitVec 32 := Scalar.addi v110 c5_i32_162
  let c8_i32_163 : BitVec 32 := 8#32
  let v278 : BitVec 32 := Scalar.muli v277 c8_i32_163
  let v279 : BitVec 32 := Scalar.addi v276 v278
  v279

def k0_off193 (k0_t6 : Fin k0_t6_loop.trips) (v263 : BitVec 32) : Fin 2 → Nat :=
  let c27030_i32_159 : BitVec 32 := 27030#32
  let c14_i32_155 : BitVec 32 := 14#32
  let v269 : BitVec 32 := Scalar.shrsi v263 c14_i32_155
  let c63_i32_156 : BitVec 32 := 63#32
  let v270 : BitVec 32 := Scalar.andi v269 c63_i32_156
  let c4_i32_157 : BitVec 32 := 4#32
  let v271 : BitVec 32 := Scalar.shrsi v270 c4_i32_157
  let v272 : BitVec 32 := Scalar.xori v270 v271
  let c15_i32_158 : BitVec 32 := 15#32
  let v273 : BitVec 32 := Scalar.andi v272 c15_i32_158
  let v274 : BitVec 32 := Scalar.shrsi c27030_i32_159 v273
  let c1_i32_160 : BitVec 32 := 1#32
  let v275 : BitVec 32 := Scalar.andi v274 c1_i32_160
  let c10240_i32_161 : BitVec 32 := 10240#32
  let v276 : BitVec 32 := Scalar.muli v275 c10240_i32_161
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c5_i32_162 : BitVec 32 := 5#32
  let v277 : BitVec 32 := Scalar.addi v110 c5_i32_162
  let c8_i32_163 : BitVec 32 := 8#32
  let v278 : BitVec 32 := Scalar.muli v277 c8_i32_163
  let v279 : BitVec 32 := Scalar.addi v276 v278
  let v280 : BitVec 32 := v279
  let v281 : Index := Scalar.indexCast v280
  let c0_164 : Index := 0#32
  ![v281.toNat, 0]
def k0_off194 (v263 : BitVec 32) : Fin 2 → Nat :=
  let c2047_i32_151 : BitVec 32 := 2047#32
  let v264 : BitVec 32 := Scalar.andi v263 c2047_i32_151
  let v283 : Index := Scalar.indexCast v264
  let c0_165 : Index := 0#32
  ![v283.toNat, 0]
def k0_off195 (v263 : BitVec 32) : Fin 2 → Nat :=
  let c255_i32_152 : BitVec 32 := 255#32
  let v265 : BitVec 32 := Scalar.andi v263 c255_i32_152
  let c2_i32_153 : BitVec 32 := 2#32
  let v266 : BitVec 32 := Scalar.shrsi v263 c2_i32_153
  let c256_i32_154 : BitVec 32 := 256#32
  let v267 : BitVec 32 := Scalar.andi v266 c256_i32_154
  let v268 : BitVec 32 := Scalar.addi v265 v267
  let v288 : Index := Scalar.indexCast v268
  let c0_167 : Index := 0#32
  ![v288.toNat, 0]
def k0_off196 (k0_t6 : Fin k0_t6_loop.trips) : Fin 2 → Nat :=
  let c1_168 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c6_i32 : BitVec 32 := 6#32
  let v291 : BitVec 32 := Scalar.addi v110 c6_i32
  let v292 : Index := Scalar.indexCast v291
  ![1, v292.toNat]
def k0_mult50 (k0_t6 : Fin k0_t6_loop.trips) (v293 : BitVec 32) : BitVec 32 :=
  let c27030_i32_177 : BitVec 32 := 27030#32
  let c14_i32_173 : BitVec 32 := 14#32
  let v299 : BitVec 32 := Scalar.shrsi v293 c14_i32_173
  let c63_i32_174 : BitVec 32 := 63#32
  let v300 : BitVec 32 := Scalar.andi v299 c63_i32_174
  let c4_i32_175 : BitVec 32 := 4#32
  let v301 : BitVec 32 := Scalar.shrsi v300 c4_i32_175
  let v302 : BitVec 32 := Scalar.xori v300 v301
  let c15_i32_176 : BitVec 32 := 15#32
  let v303 : BitVec 32 := Scalar.andi v302 c15_i32_176
  let v304 : BitVec 32 := Scalar.shrsi c27030_i32_177 v303
  let c1_i32_178 : BitVec 32 := 1#32
  let v305 : BitVec 32 := Scalar.andi v304 c1_i32_178
  let c10240_i32_179 : BitVec 32 := 10240#32
  let v306 : BitVec 32 := Scalar.muli v305 c10240_i32_179
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c6_i32_180 : BitVec 32 := 6#32
  let v307 : BitVec 32 := Scalar.addi v110 c6_i32_180
  let c8_i32_181 : BitVec 32 := 8#32
  let v308 : BitVec 32 := Scalar.muli v307 c8_i32_181
  let v309 : BitVec 32 := Scalar.addi v306 v308
  v309

def k0_off197 (k0_t6 : Fin k0_t6_loop.trips) (v293 : BitVec 32) : Fin 2 → Nat :=
  let c27030_i32_177 : BitVec 32 := 27030#32
  let c14_i32_173 : BitVec 32 := 14#32
  let v299 : BitVec 32 := Scalar.shrsi v293 c14_i32_173
  let c63_i32_174 : BitVec 32 := 63#32
  let v300 : BitVec 32 := Scalar.andi v299 c63_i32_174
  let c4_i32_175 : BitVec 32 := 4#32
  let v301 : BitVec 32 := Scalar.shrsi v300 c4_i32_175
  let v302 : BitVec 32 := Scalar.xori v300 v301
  let c15_i32_176 : BitVec 32 := 15#32
  let v303 : BitVec 32 := Scalar.andi v302 c15_i32_176
  let v304 : BitVec 32 := Scalar.shrsi c27030_i32_177 v303
  let c1_i32_178 : BitVec 32 := 1#32
  let v305 : BitVec 32 := Scalar.andi v304 c1_i32_178
  let c10240_i32_179 : BitVec 32 := 10240#32
  let v306 : BitVec 32 := Scalar.muli v305 c10240_i32_179
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c6_i32_180 : BitVec 32 := 6#32
  let v307 : BitVec 32 := Scalar.addi v110 c6_i32_180
  let c8_i32_181 : BitVec 32 := 8#32
  let v308 : BitVec 32 := Scalar.muli v307 c8_i32_181
  let v309 : BitVec 32 := Scalar.addi v306 v308
  let v310 : BitVec 32 := v309
  let v311 : Index := Scalar.indexCast v310
  let c0_182 : Index := 0#32
  ![v311.toNat, 0]
def k0_off198 (v293 : BitVec 32) : Fin 2 → Nat :=
  let c2047_i32_169 : BitVec 32 := 2047#32
  let v294 : BitVec 32 := Scalar.andi v293 c2047_i32_169
  let v313 : Index := Scalar.indexCast v294
  let c0_183 : Index := 0#32
  ![v313.toNat, 0]
def k0_off199 (v293 : BitVec 32) : Fin 2 → Nat :=
  let c255_i32_170 : BitVec 32 := 255#32
  let v295 : BitVec 32 := Scalar.andi v293 c255_i32_170
  let c2_i32_171 : BitVec 32 := 2#32
  let v296 : BitVec 32 := Scalar.shrsi v293 c2_i32_171
  let c256_i32_172 : BitVec 32 := 256#32
  let v297 : BitVec 32 := Scalar.andi v296 c256_i32_172
  let v298 : BitVec 32 := Scalar.addi v295 v297
  let v318 : Index := Scalar.indexCast v298
  let c0_185 : Index := 0#32
  ![v318.toNat, 0]
def k0_off200 (k0_t6 : Fin k0_t6_loop.trips) : Fin 2 → Nat :=
  let c1_186 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c7_i32 : BitVec 32 := 7#32
  let v321 : BitVec 32 := Scalar.addi v110 c7_i32
  let v322 : Index := Scalar.indexCast v321
  ![1, v322.toNat]
def k0_mult51 (k0_t6 : Fin k0_t6_loop.trips) (v323 : BitVec 32) : BitVec 32 :=
  let c27030_i32_195 : BitVec 32 := 27030#32
  let c14_i32_191 : BitVec 32 := 14#32
  let v329 : BitVec 32 := Scalar.shrsi v323 c14_i32_191
  let c63_i32_192 : BitVec 32 := 63#32
  let v330 : BitVec 32 := Scalar.andi v329 c63_i32_192
  let c4_i32_193 : BitVec 32 := 4#32
  let v331 : BitVec 32 := Scalar.shrsi v330 c4_i32_193
  let v332 : BitVec 32 := Scalar.xori v330 v331
  let c15_i32_194 : BitVec 32 := 15#32
  let v333 : BitVec 32 := Scalar.andi v332 c15_i32_194
  let v334 : BitVec 32 := Scalar.shrsi c27030_i32_195 v333
  let c1_i32_196 : BitVec 32 := 1#32
  let v335 : BitVec 32 := Scalar.andi v334 c1_i32_196
  let c10240_i32_197 : BitVec 32 := 10240#32
  let v336 : BitVec 32 := Scalar.muli v335 c10240_i32_197
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c7_i32_198 : BitVec 32 := 7#32
  let v337 : BitVec 32 := Scalar.addi v110 c7_i32_198
  let c8_i32_199 : BitVec 32 := 8#32
  let v338 : BitVec 32 := Scalar.muli v337 c8_i32_199
  let v339 : BitVec 32 := Scalar.addi v336 v338
  v339

def k0_off201 (k0_t6 : Fin k0_t6_loop.trips) (v323 : BitVec 32) : Fin 2 → Nat :=
  let c27030_i32_195 : BitVec 32 := 27030#32
  let c14_i32_191 : BitVec 32 := 14#32
  let v329 : BitVec 32 := Scalar.shrsi v323 c14_i32_191
  let c63_i32_192 : BitVec 32 := 63#32
  let v330 : BitVec 32 := Scalar.andi v329 c63_i32_192
  let c4_i32_193 : BitVec 32 := 4#32
  let v331 : BitVec 32 := Scalar.shrsi v330 c4_i32_193
  let v332 : BitVec 32 := Scalar.xori v330 v331
  let c15_i32_194 : BitVec 32 := 15#32
  let v333 : BitVec 32 := Scalar.andi v332 c15_i32_194
  let v334 : BitVec 32 := Scalar.shrsi c27030_i32_195 v333
  let c1_i32_196 : BitVec 32 := 1#32
  let v335 : BitVec 32 := Scalar.andi v334 c1_i32_196
  let c10240_i32_197 : BitVec 32 := 10240#32
  let v336 : BitVec 32 := Scalar.muli v335 c10240_i32_197
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c7_i32_198 : BitVec 32 := 7#32
  let v337 : BitVec 32 := Scalar.addi v110 c7_i32_198
  let c8_i32_199 : BitVec 32 := 8#32
  let v338 : BitVec 32 := Scalar.muli v337 c8_i32_199
  let v339 : BitVec 32 := Scalar.addi v336 v338
  let v340 : BitVec 32 := v339
  let v341 : Index := Scalar.indexCast v340
  let c0_200 : Index := 0#32
  ![v341.toNat, 0]
def k0_off202 (v323 : BitVec 32) : Fin 2 → Nat :=
  let c2047_i32_187 : BitVec 32 := 2047#32
  let v324 : BitVec 32 := Scalar.andi v323 c2047_i32_187
  let v343 : Index := Scalar.indexCast v324
  let c0_201 : Index := 0#32
  ![v343.toNat, 0]
def k0_off203 (v323 : BitVec 32) : Fin 2 → Nat :=
  let c255_i32_188 : BitVec 32 := 255#32
  let v325 : BitVec 32 := Scalar.andi v323 c255_i32_188
  let c2_i32_189 : BitVec 32 := 2#32
  let v326 : BitVec 32 := Scalar.shrsi v323 c2_i32_189
  let c256_i32_190 : BitVec 32 := 256#32
  let v327 : BitVec 32 := Scalar.andi v326 c256_i32_190
  let v328 : BitVec 32 := Scalar.addi v325 v327
  let v348 : Index := Scalar.indexCast v328
  let c0_203 : Index := 0#32
  ![v348.toNat, 0]
def k0_off204 (k0_t6 : Fin k0_t6_loop.trips) : Fin 2 → Nat :=
  let c1_205 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c8_i32_204 : BitVec 32 := 8#32
  let v351 : BitVec 32 := Scalar.addi v110 c8_i32_204
  let v352 : Index := Scalar.indexCast v351
  ![1, v352.toNat]
def k0_mult52 (k0_t6 : Fin k0_t6_loop.trips) (v353 : BitVec 32) : BitVec 32 :=
  let c27030_i32_214 : BitVec 32 := 27030#32
  let c14_i32_210 : BitVec 32 := 14#32
  let v359 : BitVec 32 := Scalar.shrsi v353 c14_i32_210
  let c63_i32_211 : BitVec 32 := 63#32
  let v360 : BitVec 32 := Scalar.andi v359 c63_i32_211
  let c4_i32_212 : BitVec 32 := 4#32
  let v361 : BitVec 32 := Scalar.shrsi v360 c4_i32_212
  let v362 : BitVec 32 := Scalar.xori v360 v361
  let c15_i32_213 : BitVec 32 := 15#32
  let v363 : BitVec 32 := Scalar.andi v362 c15_i32_213
  let v364 : BitVec 32 := Scalar.shrsi c27030_i32_214 v363
  let c1_i32_215 : BitVec 32 := 1#32
  let v365 : BitVec 32 := Scalar.andi v364 c1_i32_215
  let c10240_i32_216 : BitVec 32 := 10240#32
  let v366 : BitVec 32 := Scalar.muli v365 c10240_i32_216
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c8_i32_217 : BitVec 32 := 8#32
  let v367 : BitVec 32 := Scalar.addi v110 c8_i32_217
  let c8_i32_218 : BitVec 32 := 8#32
  let v368 : BitVec 32 := Scalar.muli v367 c8_i32_218
  let v369 : BitVec 32 := Scalar.addi v366 v368
  v369

def k0_off205 (k0_t6 : Fin k0_t6_loop.trips) (v353 : BitVec 32) : Fin 2 → Nat :=
  let c27030_i32_214 : BitVec 32 := 27030#32
  let c14_i32_210 : BitVec 32 := 14#32
  let v359 : BitVec 32 := Scalar.shrsi v353 c14_i32_210
  let c63_i32_211 : BitVec 32 := 63#32
  let v360 : BitVec 32 := Scalar.andi v359 c63_i32_211
  let c4_i32_212 : BitVec 32 := 4#32
  let v361 : BitVec 32 := Scalar.shrsi v360 c4_i32_212
  let v362 : BitVec 32 := Scalar.xori v360 v361
  let c15_i32_213 : BitVec 32 := 15#32
  let v363 : BitVec 32 := Scalar.andi v362 c15_i32_213
  let v364 : BitVec 32 := Scalar.shrsi c27030_i32_214 v363
  let c1_i32_215 : BitVec 32 := 1#32
  let v365 : BitVec 32 := Scalar.andi v364 c1_i32_215
  let c10240_i32_216 : BitVec 32 := 10240#32
  let v366 : BitVec 32 := Scalar.muli v365 c10240_i32_216
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c8_i32_217 : BitVec 32 := 8#32
  let v367 : BitVec 32 := Scalar.addi v110 c8_i32_217
  let c8_i32_218 : BitVec 32 := 8#32
  let v368 : BitVec 32 := Scalar.muli v367 c8_i32_218
  let v369 : BitVec 32 := Scalar.addi v366 v368
  let v370 : BitVec 32 := v369
  let v371 : Index := Scalar.indexCast v370
  let c0_219 : Index := 0#32
  ![v371.toNat, 0]
def k0_off206 (v353 : BitVec 32) : Fin 2 → Nat :=
  let c2047_i32_206 : BitVec 32 := 2047#32
  let v354 : BitVec 32 := Scalar.andi v353 c2047_i32_206
  let v373 : Index := Scalar.indexCast v354
  let c0_220 : Index := 0#32
  ![v373.toNat, 0]
def k0_off207 (v353 : BitVec 32) : Fin 2 → Nat :=
  let c255_i32_207 : BitVec 32 := 255#32
  let v355 : BitVec 32 := Scalar.andi v353 c255_i32_207
  let c2_i32_208 : BitVec 32 := 2#32
  let v356 : BitVec 32 := Scalar.shrsi v353 c2_i32_208
  let c256_i32_209 : BitVec 32 := 256#32
  let v357 : BitVec 32 := Scalar.andi v356 c256_i32_209
  let v358 : BitVec 32 := Scalar.addi v355 v357
  let v378 : Index := Scalar.indexCast v358
  let c0_222 : Index := 0#32
  ![v378.toNat, 0]
def k0_off208 (k0_t6 : Fin k0_t6_loop.trips) : Fin 2 → Nat :=
  let c1_223 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c9_i32 : BitVec 32 := 9#32
  let v381 : BitVec 32 := Scalar.addi v110 c9_i32
  let v382 : Index := Scalar.indexCast v381
  ![1, v382.toNat]
def k0_mult53 (k0_t6 : Fin k0_t6_loop.trips) (v383 : BitVec 32) : BitVec 32 :=
  let c27030_i32_232 : BitVec 32 := 27030#32
  let c14_i32_228 : BitVec 32 := 14#32
  let v389 : BitVec 32 := Scalar.shrsi v383 c14_i32_228
  let c63_i32_229 : BitVec 32 := 63#32
  let v390 : BitVec 32 := Scalar.andi v389 c63_i32_229
  let c4_i32_230 : BitVec 32 := 4#32
  let v391 : BitVec 32 := Scalar.shrsi v390 c4_i32_230
  let v392 : BitVec 32 := Scalar.xori v390 v391
  let c15_i32_231 : BitVec 32 := 15#32
  let v393 : BitVec 32 := Scalar.andi v392 c15_i32_231
  let v394 : BitVec 32 := Scalar.shrsi c27030_i32_232 v393
  let c1_i32_233 : BitVec 32 := 1#32
  let v395 : BitVec 32 := Scalar.andi v394 c1_i32_233
  let c10240_i32_234 : BitVec 32 := 10240#32
  let v396 : BitVec 32 := Scalar.muli v395 c10240_i32_234
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c9_i32_235 : BitVec 32 := 9#32
  let v397 : BitVec 32 := Scalar.addi v110 c9_i32_235
  let c8_i32_236 : BitVec 32 := 8#32
  let v398 : BitVec 32 := Scalar.muli v397 c8_i32_236
  let v399 : BitVec 32 := Scalar.addi v396 v398
  v399

def k0_off209 (k0_t6 : Fin k0_t6_loop.trips) (v383 : BitVec 32) : Fin 2 → Nat :=
  let c27030_i32_232 : BitVec 32 := 27030#32
  let c14_i32_228 : BitVec 32 := 14#32
  let v389 : BitVec 32 := Scalar.shrsi v383 c14_i32_228
  let c63_i32_229 : BitVec 32 := 63#32
  let v390 : BitVec 32 := Scalar.andi v389 c63_i32_229
  let c4_i32_230 : BitVec 32 := 4#32
  let v391 : BitVec 32 := Scalar.shrsi v390 c4_i32_230
  let v392 : BitVec 32 := Scalar.xori v390 v391
  let c15_i32_231 : BitVec 32 := 15#32
  let v393 : BitVec 32 := Scalar.andi v392 c15_i32_231
  let v394 : BitVec 32 := Scalar.shrsi c27030_i32_232 v393
  let c1_i32_233 : BitVec 32 := 1#32
  let v395 : BitVec 32 := Scalar.andi v394 c1_i32_233
  let c10240_i32_234 : BitVec 32 := 10240#32
  let v396 : BitVec 32 := Scalar.muli v395 c10240_i32_234
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c9_i32_235 : BitVec 32 := 9#32
  let v397 : BitVec 32 := Scalar.addi v110 c9_i32_235
  let c8_i32_236 : BitVec 32 := 8#32
  let v398 : BitVec 32 := Scalar.muli v397 c8_i32_236
  let v399 : BitVec 32 := Scalar.addi v396 v398
  let v400 : BitVec 32 := v399
  let v401 : Index := Scalar.indexCast v400
  let c0_237 : Index := 0#32
  ![v401.toNat, 0]
def k0_off210 (v383 : BitVec 32) : Fin 2 → Nat :=
  let c2047_i32_224 : BitVec 32 := 2047#32
  let v384 : BitVec 32 := Scalar.andi v383 c2047_i32_224
  let v403 : Index := Scalar.indexCast v384
  let c0_238 : Index := 0#32
  ![v403.toNat, 0]
def k0_off211 (v383 : BitVec 32) : Fin 2 → Nat :=
  let c255_i32_225 : BitVec 32 := 255#32
  let v385 : BitVec 32 := Scalar.andi v383 c255_i32_225
  let c2_i32_226 : BitVec 32 := 2#32
  let v386 : BitVec 32 := Scalar.shrsi v383 c2_i32_226
  let c256_i32_227 : BitVec 32 := 256#32
  let v387 : BitVec 32 := Scalar.andi v386 c256_i32_227
  let v388 : BitVec 32 := Scalar.addi v385 v387
  let v408 : Index := Scalar.indexCast v388
  let c0_240 : Index := 0#32
  ![v408.toNat, 0]
def k0_off212 (k0_t6 : Fin k0_t6_loop.trips) : Fin 2 → Nat :=
  let c1_241 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c10_i32 : BitVec 32 := 10#32
  let v411 : BitVec 32 := Scalar.addi v110 c10_i32
  let v412 : Index := Scalar.indexCast v411
  ![1, v412.toNat]
def k0_mult54 (k0_t6 : Fin k0_t6_loop.trips) (v413 : BitVec 32) : BitVec 32 :=
  let c27030_i32_250 : BitVec 32 := 27030#32
  let c14_i32_246 : BitVec 32 := 14#32
  let v419 : BitVec 32 := Scalar.shrsi v413 c14_i32_246
  let c63_i32_247 : BitVec 32 := 63#32
  let v420 : BitVec 32 := Scalar.andi v419 c63_i32_247
  let c4_i32_248 : BitVec 32 := 4#32
  let v421 : BitVec 32 := Scalar.shrsi v420 c4_i32_248
  let v422 : BitVec 32 := Scalar.xori v420 v421
  let c15_i32_249 : BitVec 32 := 15#32
  let v423 : BitVec 32 := Scalar.andi v422 c15_i32_249
  let v424 : BitVec 32 := Scalar.shrsi c27030_i32_250 v423
  let c1_i32_251 : BitVec 32 := 1#32
  let v425 : BitVec 32 := Scalar.andi v424 c1_i32_251
  let c10240_i32_252 : BitVec 32 := 10240#32
  let v426 : BitVec 32 := Scalar.muli v425 c10240_i32_252
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c10_i32_253 : BitVec 32 := 10#32
  let v427 : BitVec 32 := Scalar.addi v110 c10_i32_253
  let c8_i32_254 : BitVec 32 := 8#32
  let v428 : BitVec 32 := Scalar.muli v427 c8_i32_254
  let v429 : BitVec 32 := Scalar.addi v426 v428
  v429

def k0_off213 (k0_t6 : Fin k0_t6_loop.trips) (v413 : BitVec 32) : Fin 2 → Nat :=
  let c27030_i32_250 : BitVec 32 := 27030#32
  let c14_i32_246 : BitVec 32 := 14#32
  let v419 : BitVec 32 := Scalar.shrsi v413 c14_i32_246
  let c63_i32_247 : BitVec 32 := 63#32
  let v420 : BitVec 32 := Scalar.andi v419 c63_i32_247
  let c4_i32_248 : BitVec 32 := 4#32
  let v421 : BitVec 32 := Scalar.shrsi v420 c4_i32_248
  let v422 : BitVec 32 := Scalar.xori v420 v421
  let c15_i32_249 : BitVec 32 := 15#32
  let v423 : BitVec 32 := Scalar.andi v422 c15_i32_249
  let v424 : BitVec 32 := Scalar.shrsi c27030_i32_250 v423
  let c1_i32_251 : BitVec 32 := 1#32
  let v425 : BitVec 32 := Scalar.andi v424 c1_i32_251
  let c10240_i32_252 : BitVec 32 := 10240#32
  let v426 : BitVec 32 := Scalar.muli v425 c10240_i32_252
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c10_i32_253 : BitVec 32 := 10#32
  let v427 : BitVec 32 := Scalar.addi v110 c10_i32_253
  let c8_i32_254 : BitVec 32 := 8#32
  let v428 : BitVec 32 := Scalar.muli v427 c8_i32_254
  let v429 : BitVec 32 := Scalar.addi v426 v428
  let v430 : BitVec 32 := v429
  let v431 : Index := Scalar.indexCast v430
  let c0_255 : Index := 0#32
  ![v431.toNat, 0]
def k0_off214 (v413 : BitVec 32) : Fin 2 → Nat :=
  let c2047_i32_242 : BitVec 32 := 2047#32
  let v414 : BitVec 32 := Scalar.andi v413 c2047_i32_242
  let v433 : Index := Scalar.indexCast v414
  let c0_256 : Index := 0#32
  ![v433.toNat, 0]
def k0_off215 (v413 : BitVec 32) : Fin 2 → Nat :=
  let c255_i32_243 : BitVec 32 := 255#32
  let v415 : BitVec 32 := Scalar.andi v413 c255_i32_243
  let c2_i32_244 : BitVec 32 := 2#32
  let v416 : BitVec 32 := Scalar.shrsi v413 c2_i32_244
  let c256_i32_245 : BitVec 32 := 256#32
  let v417 : BitVec 32 := Scalar.andi v416 c256_i32_245
  let v418 : BitVec 32 := Scalar.addi v415 v417
  let v438 : Index := Scalar.indexCast v418
  let c0_258 : Index := 0#32
  ![v438.toNat, 0]
def k0_off216 (k0_t6 : Fin k0_t6_loop.trips) : Fin 2 → Nat :=
  let c1_259 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c11_i32 : BitVec 32 := 11#32
  let v441 : BitVec 32 := Scalar.addi v110 c11_i32
  let v442 : Index := Scalar.indexCast v441
  ![1, v442.toNat]
def k0_mult55 (k0_t6 : Fin k0_t6_loop.trips) (v443 : BitVec 32) : BitVec 32 :=
  let c27030_i32_268 : BitVec 32 := 27030#32
  let c14_i32_264 : BitVec 32 := 14#32
  let v449 : BitVec 32 := Scalar.shrsi v443 c14_i32_264
  let c63_i32_265 : BitVec 32 := 63#32
  let v450 : BitVec 32 := Scalar.andi v449 c63_i32_265
  let c4_i32_266 : BitVec 32 := 4#32
  let v451 : BitVec 32 := Scalar.shrsi v450 c4_i32_266
  let v452 : BitVec 32 := Scalar.xori v450 v451
  let c15_i32_267 : BitVec 32 := 15#32
  let v453 : BitVec 32 := Scalar.andi v452 c15_i32_267
  let v454 : BitVec 32 := Scalar.shrsi c27030_i32_268 v453
  let c1_i32_269 : BitVec 32 := 1#32
  let v455 : BitVec 32 := Scalar.andi v454 c1_i32_269
  let c10240_i32_270 : BitVec 32 := 10240#32
  let v456 : BitVec 32 := Scalar.muli v455 c10240_i32_270
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c11_i32_271 : BitVec 32 := 11#32
  let v457 : BitVec 32 := Scalar.addi v110 c11_i32_271
  let c8_i32_272 : BitVec 32 := 8#32
  let v458 : BitVec 32 := Scalar.muli v457 c8_i32_272
  let v459 : BitVec 32 := Scalar.addi v456 v458
  v459

def k0_off217 (k0_t6 : Fin k0_t6_loop.trips) (v443 : BitVec 32) : Fin 2 → Nat :=
  let c27030_i32_268 : BitVec 32 := 27030#32
  let c14_i32_264 : BitVec 32 := 14#32
  let v449 : BitVec 32 := Scalar.shrsi v443 c14_i32_264
  let c63_i32_265 : BitVec 32 := 63#32
  let v450 : BitVec 32 := Scalar.andi v449 c63_i32_265
  let c4_i32_266 : BitVec 32 := 4#32
  let v451 : BitVec 32 := Scalar.shrsi v450 c4_i32_266
  let v452 : BitVec 32 := Scalar.xori v450 v451
  let c15_i32_267 : BitVec 32 := 15#32
  let v453 : BitVec 32 := Scalar.andi v452 c15_i32_267
  let v454 : BitVec 32 := Scalar.shrsi c27030_i32_268 v453
  let c1_i32_269 : BitVec 32 := 1#32
  let v455 : BitVec 32 := Scalar.andi v454 c1_i32_269
  let c10240_i32_270 : BitVec 32 := 10240#32
  let v456 : BitVec 32 := Scalar.muli v455 c10240_i32_270
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c11_i32_271 : BitVec 32 := 11#32
  let v457 : BitVec 32 := Scalar.addi v110 c11_i32_271
  let c8_i32_272 : BitVec 32 := 8#32
  let v458 : BitVec 32 := Scalar.muli v457 c8_i32_272
  let v459 : BitVec 32 := Scalar.addi v456 v458
  let v460 : BitVec 32 := v459
  let v461 : Index := Scalar.indexCast v460
  let c0_273 : Index := 0#32
  ![v461.toNat, 0]
def k0_off218 (v443 : BitVec 32) : Fin 2 → Nat :=
  let c2047_i32_260 : BitVec 32 := 2047#32
  let v444 : BitVec 32 := Scalar.andi v443 c2047_i32_260
  let v463 : Index := Scalar.indexCast v444
  let c0_274 : Index := 0#32
  ![v463.toNat, 0]
def k0_off219 (v443 : BitVec 32) : Fin 2 → Nat :=
  let c255_i32_261 : BitVec 32 := 255#32
  let v445 : BitVec 32 := Scalar.andi v443 c255_i32_261
  let c2_i32_262 : BitVec 32 := 2#32
  let v446 : BitVec 32 := Scalar.shrsi v443 c2_i32_262
  let c256_i32_263 : BitVec 32 := 256#32
  let v447 : BitVec 32 := Scalar.andi v446 c256_i32_263
  let v448 : BitVec 32 := Scalar.addi v445 v447
  let v468 : Index := Scalar.indexCast v448
  let c0_276 : Index := 0#32
  ![v468.toNat, 0]
def k0_off220 (k0_t6 : Fin k0_t6_loop.trips) : Fin 2 → Nat :=
  let c1_277 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c12_i32 : BitVec 32 := 12#32
  let v471 : BitVec 32 := Scalar.addi v110 c12_i32
  let v472 : Index := Scalar.indexCast v471
  ![1, v472.toNat]
def k0_mult56 (k0_t6 : Fin k0_t6_loop.trips) (v473 : BitVec 32) : BitVec 32 :=
  let c27030_i32_286 : BitVec 32 := 27030#32
  let c14_i32_282 : BitVec 32 := 14#32
  let v479 : BitVec 32 := Scalar.shrsi v473 c14_i32_282
  let c63_i32_283 : BitVec 32 := 63#32
  let v480 : BitVec 32 := Scalar.andi v479 c63_i32_283
  let c4_i32_284 : BitVec 32 := 4#32
  let v481 : BitVec 32 := Scalar.shrsi v480 c4_i32_284
  let v482 : BitVec 32 := Scalar.xori v480 v481
  let c15_i32_285 : BitVec 32 := 15#32
  let v483 : BitVec 32 := Scalar.andi v482 c15_i32_285
  let v484 : BitVec 32 := Scalar.shrsi c27030_i32_286 v483
  let c1_i32_287 : BitVec 32 := 1#32
  let v485 : BitVec 32 := Scalar.andi v484 c1_i32_287
  let c10240_i32_288 : BitVec 32 := 10240#32
  let v486 : BitVec 32 := Scalar.muli v485 c10240_i32_288
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c12_i32_289 : BitVec 32 := 12#32
  let v487 : BitVec 32 := Scalar.addi v110 c12_i32_289
  let c8_i32_290 : BitVec 32 := 8#32
  let v488 : BitVec 32 := Scalar.muli v487 c8_i32_290
  let v489 : BitVec 32 := Scalar.addi v486 v488
  v489

def k0_off221 (k0_t6 : Fin k0_t6_loop.trips) (v473 : BitVec 32) : Fin 2 → Nat :=
  let c27030_i32_286 : BitVec 32 := 27030#32
  let c14_i32_282 : BitVec 32 := 14#32
  let v479 : BitVec 32 := Scalar.shrsi v473 c14_i32_282
  let c63_i32_283 : BitVec 32 := 63#32
  let v480 : BitVec 32 := Scalar.andi v479 c63_i32_283
  let c4_i32_284 : BitVec 32 := 4#32
  let v481 : BitVec 32 := Scalar.shrsi v480 c4_i32_284
  let v482 : BitVec 32 := Scalar.xori v480 v481
  let c15_i32_285 : BitVec 32 := 15#32
  let v483 : BitVec 32 := Scalar.andi v482 c15_i32_285
  let v484 : BitVec 32 := Scalar.shrsi c27030_i32_286 v483
  let c1_i32_287 : BitVec 32 := 1#32
  let v485 : BitVec 32 := Scalar.andi v484 c1_i32_287
  let c10240_i32_288 : BitVec 32 := 10240#32
  let v486 : BitVec 32 := Scalar.muli v485 c10240_i32_288
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c12_i32_289 : BitVec 32 := 12#32
  let v487 : BitVec 32 := Scalar.addi v110 c12_i32_289
  let c8_i32_290 : BitVec 32 := 8#32
  let v488 : BitVec 32 := Scalar.muli v487 c8_i32_290
  let v489 : BitVec 32 := Scalar.addi v486 v488
  let v490 : BitVec 32 := v489
  let v491 : Index := Scalar.indexCast v490
  let c0_291 : Index := 0#32
  ![v491.toNat, 0]
def k0_off222 (v473 : BitVec 32) : Fin 2 → Nat :=
  let c2047_i32_278 : BitVec 32 := 2047#32
  let v474 : BitVec 32 := Scalar.andi v473 c2047_i32_278
  let v493 : Index := Scalar.indexCast v474
  let c0_292 : Index := 0#32
  ![v493.toNat, 0]
def k0_off223 (v473 : BitVec 32) : Fin 2 → Nat :=
  let c255_i32_279 : BitVec 32 := 255#32
  let v475 : BitVec 32 := Scalar.andi v473 c255_i32_279
  let c2_i32_280 : BitVec 32 := 2#32
  let v476 : BitVec 32 := Scalar.shrsi v473 c2_i32_280
  let c256_i32_281 : BitVec 32 := 256#32
  let v477 : BitVec 32 := Scalar.andi v476 c256_i32_281
  let v478 : BitVec 32 := Scalar.addi v475 v477
  let v498 : Index := Scalar.indexCast v478
  let c0_294 : Index := 0#32
  ![v498.toNat, 0]
def k0_off224 (k0_t6 : Fin k0_t6_loop.trips) : Fin 2 → Nat :=
  let c1_295 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c13_i32 : BitVec 32 := 13#32
  let v501 : BitVec 32 := Scalar.addi v110 c13_i32
  let v502 : Index := Scalar.indexCast v501
  ![1, v502.toNat]
def k0_mult57 (k0_t6 : Fin k0_t6_loop.trips) (v503 : BitVec 32) : BitVec 32 :=
  let c27030_i32_304 : BitVec 32 := 27030#32
  let c14_i32_300 : BitVec 32 := 14#32
  let v509 : BitVec 32 := Scalar.shrsi v503 c14_i32_300
  let c63_i32_301 : BitVec 32 := 63#32
  let v510 : BitVec 32 := Scalar.andi v509 c63_i32_301
  let c4_i32_302 : BitVec 32 := 4#32
  let v511 : BitVec 32 := Scalar.shrsi v510 c4_i32_302
  let v512 : BitVec 32 := Scalar.xori v510 v511
  let c15_i32_303 : BitVec 32 := 15#32
  let v513 : BitVec 32 := Scalar.andi v512 c15_i32_303
  let v514 : BitVec 32 := Scalar.shrsi c27030_i32_304 v513
  let c1_i32_305 : BitVec 32 := 1#32
  let v515 : BitVec 32 := Scalar.andi v514 c1_i32_305
  let c10240_i32_306 : BitVec 32 := 10240#32
  let v516 : BitVec 32 := Scalar.muli v515 c10240_i32_306
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c13_i32_307 : BitVec 32 := 13#32
  let v517 : BitVec 32 := Scalar.addi v110 c13_i32_307
  let c8_i32_308 : BitVec 32 := 8#32
  let v518 : BitVec 32 := Scalar.muli v517 c8_i32_308
  let v519 : BitVec 32 := Scalar.addi v516 v518
  v519

def k0_off225 (k0_t6 : Fin k0_t6_loop.trips) (v503 : BitVec 32) : Fin 2 → Nat :=
  let c27030_i32_304 : BitVec 32 := 27030#32
  let c14_i32_300 : BitVec 32 := 14#32
  let v509 : BitVec 32 := Scalar.shrsi v503 c14_i32_300
  let c63_i32_301 : BitVec 32 := 63#32
  let v510 : BitVec 32 := Scalar.andi v509 c63_i32_301
  let c4_i32_302 : BitVec 32 := 4#32
  let v511 : BitVec 32 := Scalar.shrsi v510 c4_i32_302
  let v512 : BitVec 32 := Scalar.xori v510 v511
  let c15_i32_303 : BitVec 32 := 15#32
  let v513 : BitVec 32 := Scalar.andi v512 c15_i32_303
  let v514 : BitVec 32 := Scalar.shrsi c27030_i32_304 v513
  let c1_i32_305 : BitVec 32 := 1#32
  let v515 : BitVec 32 := Scalar.andi v514 c1_i32_305
  let c10240_i32_306 : BitVec 32 := 10240#32
  let v516 : BitVec 32 := Scalar.muli v515 c10240_i32_306
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c13_i32_307 : BitVec 32 := 13#32
  let v517 : BitVec 32 := Scalar.addi v110 c13_i32_307
  let c8_i32_308 : BitVec 32 := 8#32
  let v518 : BitVec 32 := Scalar.muli v517 c8_i32_308
  let v519 : BitVec 32 := Scalar.addi v516 v518
  let v520 : BitVec 32 := v519
  let v521 : Index := Scalar.indexCast v520
  let c0_309 : Index := 0#32
  ![v521.toNat, 0]
def k0_off226 (v503 : BitVec 32) : Fin 2 → Nat :=
  let c2047_i32_296 : BitVec 32 := 2047#32
  let v504 : BitVec 32 := Scalar.andi v503 c2047_i32_296
  let v523 : Index := Scalar.indexCast v504
  let c0_310 : Index := 0#32
  ![v523.toNat, 0]
def k0_off227 (v503 : BitVec 32) : Fin 2 → Nat :=
  let c255_i32_297 : BitVec 32 := 255#32
  let v505 : BitVec 32 := Scalar.andi v503 c255_i32_297
  let c2_i32_298 : BitVec 32 := 2#32
  let v506 : BitVec 32 := Scalar.shrsi v503 c2_i32_298
  let c256_i32_299 : BitVec 32 := 256#32
  let v507 : BitVec 32 := Scalar.andi v506 c256_i32_299
  let v508 : BitVec 32 := Scalar.addi v505 v507
  let v528 : Index := Scalar.indexCast v508
  let c0_312 : Index := 0#32
  ![v528.toNat, 0]
def k0_off228 (k0_t6 : Fin k0_t6_loop.trips) : Fin 2 → Nat :=
  let c1_314 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c14_i32_313 : BitVec 32 := 14#32
  let v531 : BitVec 32 := Scalar.addi v110 c14_i32_313
  let v532 : Index := Scalar.indexCast v531
  ![1, v532.toNat]
def k0_mult58 (k0_t6 : Fin k0_t6_loop.trips) (v533 : BitVec 32) : BitVec 32 :=
  let c27030_i32_323 : BitVec 32 := 27030#32
  let c14_i32_319 : BitVec 32 := 14#32
  let v539 : BitVec 32 := Scalar.shrsi v533 c14_i32_319
  let c63_i32_320 : BitVec 32 := 63#32
  let v540 : BitVec 32 := Scalar.andi v539 c63_i32_320
  let c4_i32_321 : BitVec 32 := 4#32
  let v541 : BitVec 32 := Scalar.shrsi v540 c4_i32_321
  let v542 : BitVec 32 := Scalar.xori v540 v541
  let c15_i32_322 : BitVec 32 := 15#32
  let v543 : BitVec 32 := Scalar.andi v542 c15_i32_322
  let v544 : BitVec 32 := Scalar.shrsi c27030_i32_323 v543
  let c1_i32_324 : BitVec 32 := 1#32
  let v545 : BitVec 32 := Scalar.andi v544 c1_i32_324
  let c10240_i32_325 : BitVec 32 := 10240#32
  let v546 : BitVec 32 := Scalar.muli v545 c10240_i32_325
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c14_i32_326 : BitVec 32 := 14#32
  let v547 : BitVec 32 := Scalar.addi v110 c14_i32_326
  let c8_i32_327 : BitVec 32 := 8#32
  let v548 : BitVec 32 := Scalar.muli v547 c8_i32_327
  let v549 : BitVec 32 := Scalar.addi v546 v548
  v549

def k0_off229 (k0_t6 : Fin k0_t6_loop.trips) (v533 : BitVec 32) : Fin 2 → Nat :=
  let c27030_i32_323 : BitVec 32 := 27030#32
  let c14_i32_319 : BitVec 32 := 14#32
  let v539 : BitVec 32 := Scalar.shrsi v533 c14_i32_319
  let c63_i32_320 : BitVec 32 := 63#32
  let v540 : BitVec 32 := Scalar.andi v539 c63_i32_320
  let c4_i32_321 : BitVec 32 := 4#32
  let v541 : BitVec 32 := Scalar.shrsi v540 c4_i32_321
  let v542 : BitVec 32 := Scalar.xori v540 v541
  let c15_i32_322 : BitVec 32 := 15#32
  let v543 : BitVec 32 := Scalar.andi v542 c15_i32_322
  let v544 : BitVec 32 := Scalar.shrsi c27030_i32_323 v543
  let c1_i32_324 : BitVec 32 := 1#32
  let v545 : BitVec 32 := Scalar.andi v544 c1_i32_324
  let c10240_i32_325 : BitVec 32 := 10240#32
  let v546 : BitVec 32 := Scalar.muli v545 c10240_i32_325
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c14_i32_326 : BitVec 32 := 14#32
  let v547 : BitVec 32 := Scalar.addi v110 c14_i32_326
  let c8_i32_327 : BitVec 32 := 8#32
  let v548 : BitVec 32 := Scalar.muli v547 c8_i32_327
  let v549 : BitVec 32 := Scalar.addi v546 v548
  let v550 : BitVec 32 := v549
  let v551 : Index := Scalar.indexCast v550
  let c0_328 : Index := 0#32
  ![v551.toNat, 0]
def k0_off230 (v533 : BitVec 32) : Fin 2 → Nat :=
  let c2047_i32_315 : BitVec 32 := 2047#32
  let v534 : BitVec 32 := Scalar.andi v533 c2047_i32_315
  let v553 : Index := Scalar.indexCast v534
  let c0_329 : Index := 0#32
  ![v553.toNat, 0]
def k0_off231 (v533 : BitVec 32) : Fin 2 → Nat :=
  let c255_i32_316 : BitVec 32 := 255#32
  let v535 : BitVec 32 := Scalar.andi v533 c255_i32_316
  let c2_i32_317 : BitVec 32 := 2#32
  let v536 : BitVec 32 := Scalar.shrsi v533 c2_i32_317
  let c256_i32_318 : BitVec 32 := 256#32
  let v537 : BitVec 32 := Scalar.andi v536 c256_i32_318
  let v538 : BitVec 32 := Scalar.addi v535 v537
  let v558 : Index := Scalar.indexCast v538
  let c0_331 : Index := 0#32
  ![v558.toNat, 0]
def k0_off232 (k0_t6 : Fin k0_t6_loop.trips) : Fin 2 → Nat :=
  let c1_333 : Index := 1#32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c15_i32_332 : BitVec 32 := 15#32
  let v561 : BitVec 32 := Scalar.addi v110 c15_i32_332
  let v562 : Index := Scalar.indexCast v561
  ![1, v562.toNat]
def k0_mult59 (k0_t6 : Fin k0_t6_loop.trips) (v563 : BitVec 32) : BitVec 32 :=
  let c27030_i32_342 : BitVec 32 := 27030#32
  let c14_i32_338 : BitVec 32 := 14#32
  let v569 : BitVec 32 := Scalar.shrsi v563 c14_i32_338
  let c63_i32_339 : BitVec 32 := 63#32
  let v570 : BitVec 32 := Scalar.andi v569 c63_i32_339
  let c4_i32_340 : BitVec 32 := 4#32
  let v571 : BitVec 32 := Scalar.shrsi v570 c4_i32_340
  let v572 : BitVec 32 := Scalar.xori v570 v571
  let c15_i32_341 : BitVec 32 := 15#32
  let v573 : BitVec 32 := Scalar.andi v572 c15_i32_341
  let v574 : BitVec 32 := Scalar.shrsi c27030_i32_342 v573
  let c1_i32_343 : BitVec 32 := 1#32
  let v575 : BitVec 32 := Scalar.andi v574 c1_i32_343
  let c10240_i32_344 : BitVec 32 := 10240#32
  let v576 : BitVec 32 := Scalar.muli v575 c10240_i32_344
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c15_i32_345 : BitVec 32 := 15#32
  let v577 : BitVec 32 := Scalar.addi v110 c15_i32_345
  let c8_i32_346 : BitVec 32 := 8#32
  let v578 : BitVec 32 := Scalar.muli v577 c8_i32_346
  let v579 : BitVec 32 := Scalar.addi v576 v578
  v579

def k0_off233 (k0_t6 : Fin k0_t6_loop.trips) (v563 : BitVec 32) : Fin 2 → Nat :=
  let c27030_i32_342 : BitVec 32 := 27030#32
  let c14_i32_338 : BitVec 32 := 14#32
  let v569 : BitVec 32 := Scalar.shrsi v563 c14_i32_338
  let c63_i32_339 : BitVec 32 := 63#32
  let v570 : BitVec 32 := Scalar.andi v569 c63_i32_339
  let c4_i32_340 : BitVec 32 := 4#32
  let v571 : BitVec 32 := Scalar.shrsi v570 c4_i32_340
  let v572 : BitVec 32 := Scalar.xori v570 v571
  let c15_i32_341 : BitVec 32 := 15#32
  let v573 : BitVec 32 := Scalar.andi v572 c15_i32_341
  let v574 : BitVec 32 := Scalar.shrsi c27030_i32_342 v573
  let c1_i32_343 : BitVec 32 := 1#32
  let v575 : BitVec 32 := Scalar.andi v574 c1_i32_343
  let c10240_i32_344 : BitVec 32 := 10240#32
  let v576 : BitVec 32 := Scalar.muli v575 c10240_i32_344
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c15_i32_345 : BitVec 32 := 15#32
  let v577 : BitVec 32 := Scalar.addi v110 c15_i32_345
  let c8_i32_346 : BitVec 32 := 8#32
  let v578 : BitVec 32 := Scalar.muli v577 c8_i32_346
  let v579 : BitVec 32 := Scalar.addi v576 v578
  let v580 : BitVec 32 := v579
  let v581 : Index := Scalar.indexCast v580
  let c0_347 : Index := 0#32
  ![v581.toNat, 0]
def k0_off234 (v563 : BitVec 32) : Fin 2 → Nat :=
  let c2047_i32_334 : BitVec 32 := 2047#32
  let v564 : BitVec 32 := Scalar.andi v563 c2047_i32_334
  let v583 : Index := Scalar.indexCast v564
  let c0_348 : Index := 0#32
  ![v583.toNat, 0]
def k0_off235 (v563 : BitVec 32) : Fin 2 → Nat :=
  let c255_i32_335 : BitVec 32 := 255#32
  let v565 : BitVec 32 := Scalar.andi v563 c255_i32_335
  let c2_i32_336 : BitVec 32 := 2#32
  let v566 : BitVec 32 := Scalar.shrsi v563 c2_i32_336
  let c256_i32_337 : BitVec 32 := 256#32
  let v567 : BitVec 32 := Scalar.andi v566 c256_i32_337
  let v568 : BitVec 32 := Scalar.addi v565 v567
  let v588 : Index := Scalar.indexCast v568
  let c0_350 : Index := 0#32
  ![v588.toNat, 0]

def k0_chk48 (i : grid0.Coords) (k0_t6 : Fin k0_t6_loop.trips) (v563 : BitVec 32) : Prop :=
  (∀ (k0_h3 : k0_cond3 i = 1#1), 8 ∣ (k0_mult59 k0_t6 v563).toNat) ∧
  (∀ (k0_h3 : k0_cond3 i = 1#1), ∀ a, (k0_off233 k0_t6 v563) a + S8x128.size a ≤ S20480x128.size a) ∧
  (∀ (k0_h3 : k0_cond3 i = 1#1), ∀ a, S8x128.size a = 0 ∨ (k0_off234 v563) a + (![2052, 1] : Fin 2 → Nat) a * (S8x128.size a - 1) < S16416x128.size a) ∧
  (∀ (k0_h3 : k0_cond3 i = 1#1), ∀ a, S8x128.size a = 0 ∨ (k0_off235 v563) a + (![516, 1] : Fin 2 → Nat) a * (S8x128.size a - 1) < S4128x128.size a)
theorem k0_mult59_dvd : ∀ (i : grid0.Coords) (k0_t6 : Fin k0_t6_loop.trips) (v563 : BitVec 32) (k0_hw48 : k0_chk48 i k0_t6 v563), ∀ (k0_h3 : k0_cond3 i = 1#1), 8 ∣ (k0_mult59 k0_t6 v563).toNat := fun i k0_t6 v563 k0_hw48 k0_h3 => k0_hw48.1 k0_h3
theorem k0_off233_inb : ∀ (i : grid0.Coords) (k0_t6 : Fin k0_t6_loop.trips) (v563 : BitVec 32) (k0_hw48 : k0_chk48 i k0_t6 v563), ∀ (k0_h3 : k0_cond3 i = 1#1), ∀ a, (k0_off233 k0_t6 v563) a + S8x128.size a ≤ S20480x128.size a := fun i k0_t6 v563 k0_hw48 k0_h3 => k0_hw48.2.1 k0_h3
theorem k0_off234_inb : ∀ (i : grid0.Coords) (k0_t6 : Fin k0_t6_loop.trips) (v563 : BitVec 32) (k0_hw48 : k0_chk48 i k0_t6 v563), ∀ (k0_h3 : k0_cond3 i = 1#1), ∀ a, S8x128.size a = 0 ∨ (k0_off234 v563) a + (![2052, 1] : Fin 2 → Nat) a * (S8x128.size a - 1) < S16416x128.size a := fun i k0_t6 v563 k0_hw48 k0_h3 => k0_hw48.2.2.1 k0_h3
theorem k0_off235_inb : ∀ (i : grid0.Coords) (k0_t6 : Fin k0_t6_loop.trips) (v563 : BitVec 32) (k0_hw48 : k0_chk48 i k0_t6 v563), ∀ (k0_h3 : k0_cond3 i = 1#1), ∀ a, S8x128.size a = 0 ∨ (k0_off235 v563) a + (![516, 1] : Fin 2 → Nat) a * (S8x128.size a - 1) < S4128x128.size a := fun i k0_t6 v563 k0_hw48 k0_h3 => k0_hw48.2.2.2 k0_h3

def k0_off236 (k0_t6 : Fin k0_t6_loop.trips) (v113 : BitVec 32) : Fin 2 → Nat :=
  let c27030_i32 : BitVec 32 := 27030#32
  let c14_i32 : BitVec 32 := 14#32
  let v119 : BitVec 32 := Scalar.shrsi v113 c14_i32
  let c63_i32_67 : BitVec 32 := 63#32
  let v120 : BitVec 32 := Scalar.andi v119 c63_i32_67
  let c4_i32 : BitVec 32 := 4#32
  let v121 : BitVec 32 := Scalar.shrsi v120 c4_i32
  let v122 : BitVec 32 := Scalar.xori v120 v121
  let c15_i32 : BitVec 32 := 15#32
  let v123 : BitVec 32 := Scalar.andi v122 c15_i32
  let v124 : BitVec 32 := Scalar.shrsi c27030_i32 v123
  let c1_i32_68 : BitVec 32 := 1#32
  let v125 : BitVec 32 := Scalar.andi v124 c1_i32_68
  let c10240_i32 : BitVec 32 := 10240#32
  let v126 : BitVec 32 := Scalar.muli v125 c10240_i32
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c0_i32_69 : BitVec 32 := 0#32
  let v127 : BitVec 32 := Scalar.addi v110 c0_i32_69
  let c8_i32_70 : BitVec 32 := 8#32
  let v128 : BitVec 32 := Scalar.muli v127 c8_i32_70
  let v129 : BitVec 32 := Scalar.addi v126 v128
  let v130 : BitVec 32 := v129
  let v591 : Index := Scalar.indexCast v130
  let c0_351 : Index := 0#32
  ![v591.toNat, 0]

def k0_chk33 (i : grid0.Coords) (k0_t6 : Fin k0_t6_loop.trips) (v113 : BitVec 32) : Prop :=
  (∀ (k0_h3 : k0_cond3 i = 1#1), 8 ∣ (k0_mult44 k0_t6 v113).toNat) ∧
  (∀ (k0_h3 : k0_cond3 i = 1#1), ∀ a, (k0_off173 k0_t6 v113) a + S8x128.size a ≤ S20480x128.size a) ∧
  (∀ (k0_h3 : k0_cond3 i = 1#1), ∀ a, S8x128.size a = 0 ∨ (k0_off174 v113) a + (![2052, 1] : Fin 2 → Nat) a * (S8x128.size a - 1) < S16416x128.size a) ∧
  (∀ (k0_h3 : k0_cond3 i = 1#1), ∀ a, S8x128.size a = 0 ∨ (k0_off175 v113) a + (![516, 1] : Fin 2 → Nat) a * (S8x128.size a - 1) < S4128x128.size a) ∧
  (∀ (k0_h3 : k0_cond3 i = 1#1), ∀ a, (k0_off236 k0_t6 v113) a + S8x128.size a ≤ S20480x128.size a)
theorem k0_mult44_dvd : ∀ (i : grid0.Coords) (k0_t6 : Fin k0_t6_loop.trips) (v113 : BitVec 32) (k0_hw33 : k0_chk33 i k0_t6 v113), ∀ (k0_h3 : k0_cond3 i = 1#1), 8 ∣ (k0_mult44 k0_t6 v113).toNat := fun i k0_t6 v113 k0_hw33 k0_h3 => k0_hw33.1 k0_h3
theorem k0_off173_inb : ∀ (i : grid0.Coords) (k0_t6 : Fin k0_t6_loop.trips) (v113 : BitVec 32) (k0_hw33 : k0_chk33 i k0_t6 v113), ∀ (k0_h3 : k0_cond3 i = 1#1), ∀ a, (k0_off173 k0_t6 v113) a + S8x128.size a ≤ S20480x128.size a := fun i k0_t6 v113 k0_hw33 k0_h3 => k0_hw33.2.1 k0_h3
theorem k0_off174_inb : ∀ (i : grid0.Coords) (k0_t6 : Fin k0_t6_loop.trips) (v113 : BitVec 32) (k0_hw33 : k0_chk33 i k0_t6 v113), ∀ (k0_h3 : k0_cond3 i = 1#1), ∀ a, S8x128.size a = 0 ∨ (k0_off174 v113) a + (![2052, 1] : Fin 2 → Nat) a * (S8x128.size a - 1) < S16416x128.size a := fun i k0_t6 v113 k0_hw33 k0_h3 => k0_hw33.2.2.1 k0_h3
theorem k0_off175_inb : ∀ (i : grid0.Coords) (k0_t6 : Fin k0_t6_loop.trips) (v113 : BitVec 32) (k0_hw33 : k0_chk33 i k0_t6 v113), ∀ (k0_h3 : k0_cond3 i = 1#1), ∀ a, S8x128.size a = 0 ∨ (k0_off175 v113) a + (![516, 1] : Fin 2 → Nat) a * (S8x128.size a - 1) < S4128x128.size a := fun i k0_t6 v113 k0_hw33 k0_h3 => k0_hw33.2.2.2.1 k0_h3
theorem k0_off236_inb : ∀ (i : grid0.Coords) (k0_t6 : Fin k0_t6_loop.trips) (v113 : BitVec 32) (k0_hw33 : k0_chk33 i k0_t6 v113), ∀ (k0_h3 : k0_cond3 i = 1#1), ∀ a, (k0_off236 k0_t6 v113) a + S8x128.size a ≤ S20480x128.size a := fun i k0_t6 v113 k0_hw33 k0_h3 => k0_hw33.2.2.2.2 k0_h3

def k0_off237 (k0_t6 : Fin k0_t6_loop.trips) (v143 : BitVec 32) : Fin 2 → Nat :=
  let c27030_i32_85 : BitVec 32 := 27030#32
  let c14_i32_81 : BitVec 32 := 14#32
  let v149 : BitVec 32 := Scalar.shrsi v143 c14_i32_81
  let c63_i32_82 : BitVec 32 := 63#32
  let v150 : BitVec 32 := Scalar.andi v149 c63_i32_82
  let c4_i32_83 : BitVec 32 := 4#32
  let v151 : BitVec 32 := Scalar.shrsi v150 c4_i32_83
  let v152 : BitVec 32 := Scalar.xori v150 v151
  let c15_i32_84 : BitVec 32 := 15#32
  let v153 : BitVec 32 := Scalar.andi v152 c15_i32_84
  let v154 : BitVec 32 := Scalar.shrsi c27030_i32_85 v153
  let c1_i32_86 : BitVec 32 := 1#32
  let v155 : BitVec 32 := Scalar.andi v154 c1_i32_86
  let c10240_i32_87 : BitVec 32 := 10240#32
  let v156 : BitVec 32 := Scalar.muli v155 c10240_i32_87
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c1_i32_88 : BitVec 32 := 1#32
  let v157 : BitVec 32 := Scalar.addi v110 c1_i32_88
  let c8_i32_89 : BitVec 32 := 8#32
  let v158 : BitVec 32 := Scalar.muli v157 c8_i32_89
  let v159 : BitVec 32 := Scalar.addi v156 v158
  let v160 : BitVec 32 := v159
  let v599 : Index := Scalar.indexCast v160
  let c0_353 : Index := 0#32
  ![v599.toNat, 0]

def k0_chk34 (i : grid0.Coords) (k0_t6 : Fin k0_t6_loop.trips) (v143 : BitVec 32) : Prop :=
  (∀ (k0_h3 : k0_cond3 i = 1#1), 8 ∣ (k0_mult45 k0_t6 v143).toNat) ∧
  (∀ (k0_h3 : k0_cond3 i = 1#1), ∀ a, (k0_off177 k0_t6 v143) a + S8x128.size a ≤ S20480x128.size a) ∧
  (∀ (k0_h3 : k0_cond3 i = 1#1), ∀ a, S8x128.size a = 0 ∨ (k0_off178 v143) a + (![2052, 1] : Fin 2 → Nat) a * (S8x128.size a - 1) < S16416x128.size a) ∧
  (∀ (k0_h3 : k0_cond3 i = 1#1), ∀ a, S8x128.size a = 0 ∨ (k0_off179 v143) a + (![516, 1] : Fin 2 → Nat) a * (S8x128.size a - 1) < S4128x128.size a) ∧
  (∀ (k0_h3 : k0_cond3 i = 1#1), ∀ a, (k0_off237 k0_t6 v143) a + S8x128.size a ≤ S20480x128.size a)
theorem k0_mult45_dvd : ∀ (i : grid0.Coords) (k0_t6 : Fin k0_t6_loop.trips) (v143 : BitVec 32) (k0_hw34 : k0_chk34 i k0_t6 v143), ∀ (k0_h3 : k0_cond3 i = 1#1), 8 ∣ (k0_mult45 k0_t6 v143).toNat := fun i k0_t6 v143 k0_hw34 k0_h3 => k0_hw34.1 k0_h3
theorem k0_off177_inb : ∀ (i : grid0.Coords) (k0_t6 : Fin k0_t6_loop.trips) (v143 : BitVec 32) (k0_hw34 : k0_chk34 i k0_t6 v143), ∀ (k0_h3 : k0_cond3 i = 1#1), ∀ a, (k0_off177 k0_t6 v143) a + S8x128.size a ≤ S20480x128.size a := fun i k0_t6 v143 k0_hw34 k0_h3 => k0_hw34.2.1 k0_h3
theorem k0_off178_inb : ∀ (i : grid0.Coords) (k0_t6 : Fin k0_t6_loop.trips) (v143 : BitVec 32) (k0_hw34 : k0_chk34 i k0_t6 v143), ∀ (k0_h3 : k0_cond3 i = 1#1), ∀ a, S8x128.size a = 0 ∨ (k0_off178 v143) a + (![2052, 1] : Fin 2 → Nat) a * (S8x128.size a - 1) < S16416x128.size a := fun i k0_t6 v143 k0_hw34 k0_h3 => k0_hw34.2.2.1 k0_h3
theorem k0_off179_inb : ∀ (i : grid0.Coords) (k0_t6 : Fin k0_t6_loop.trips) (v143 : BitVec 32) (k0_hw34 : k0_chk34 i k0_t6 v143), ∀ (k0_h3 : k0_cond3 i = 1#1), ∀ a, S8x128.size a = 0 ∨ (k0_off179 v143) a + (![516, 1] : Fin 2 → Nat) a * (S8x128.size a - 1) < S4128x128.size a := fun i k0_t6 v143 k0_hw34 k0_h3 => k0_hw34.2.2.2.1 k0_h3
theorem k0_off237_inb : ∀ (i : grid0.Coords) (k0_t6 : Fin k0_t6_loop.trips) (v143 : BitVec 32) (k0_hw34 : k0_chk34 i k0_t6 v143), ∀ (k0_h3 : k0_cond3 i = 1#1), ∀ a, (k0_off237 k0_t6 v143) a + S8x128.size a ≤ S20480x128.size a := fun i k0_t6 v143 k0_hw34 k0_h3 => k0_hw34.2.2.2.2 k0_h3

def k0_off238 (k0_t6 : Fin k0_t6_loop.trips) (v173 : BitVec 32) : Fin 2 → Nat :=
  let c27030_i32_104 : BitVec 32 := 27030#32
  let c14_i32_100 : BitVec 32 := 14#32
  let v179 : BitVec 32 := Scalar.shrsi v173 c14_i32_100
  let c63_i32_101 : BitVec 32 := 63#32
  let v180 : BitVec 32 := Scalar.andi v179 c63_i32_101
  let c4_i32_102 : BitVec 32 := 4#32
  let v181 : BitVec 32 := Scalar.shrsi v180 c4_i32_102
  let v182 : BitVec 32 := Scalar.xori v180 v181
  let c15_i32_103 : BitVec 32 := 15#32
  let v183 : BitVec 32 := Scalar.andi v182 c15_i32_103
  let v184 : BitVec 32 := Scalar.shrsi c27030_i32_104 v183
  let c1_i32_105 : BitVec 32 := 1#32
  let v185 : BitVec 32 := Scalar.andi v184 c1_i32_105
  let c10240_i32_106 : BitVec 32 := 10240#32
  let v186 : BitVec 32 := Scalar.muli v185 c10240_i32_106
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c2_i32_107 : BitVec 32 := 2#32
  let v187 : BitVec 32 := Scalar.addi v110 c2_i32_107
  let c8_i32_108 : BitVec 32 := 8#32
  let v188 : BitVec 32 := Scalar.muli v187 c8_i32_108
  let v189 : BitVec 32 := Scalar.addi v186 v188
  let v190 : BitVec 32 := v189
  let v607 : Index := Scalar.indexCast v190
  let c0_355 : Index := 0#32
  ![v607.toNat, 0]

def k0_chk35 (i : grid0.Coords) (k0_t6 : Fin k0_t6_loop.trips) (v173 : BitVec 32) : Prop :=
  (∀ (k0_h3 : k0_cond3 i = 1#1), 8 ∣ (k0_mult46 k0_t6 v173).toNat) ∧
  (∀ (k0_h3 : k0_cond3 i = 1#1), ∀ a, (k0_off181 k0_t6 v173) a + S8x128.size a ≤ S20480x128.size a) ∧
  (∀ (k0_h3 : k0_cond3 i = 1#1), ∀ a, S8x128.size a = 0 ∨ (k0_off182 v173) a + (![2052, 1] : Fin 2 → Nat) a * (S8x128.size a - 1) < S16416x128.size a) ∧
  (∀ (k0_h3 : k0_cond3 i = 1#1), ∀ a, S8x128.size a = 0 ∨ (k0_off183 v173) a + (![516, 1] : Fin 2 → Nat) a * (S8x128.size a - 1) < S4128x128.size a) ∧
  (∀ (k0_h3 : k0_cond3 i = 1#1), ∀ a, (k0_off238 k0_t6 v173) a + S8x128.size a ≤ S20480x128.size a)
theorem k0_mult46_dvd : ∀ (i : grid0.Coords) (k0_t6 : Fin k0_t6_loop.trips) (v173 : BitVec 32) (k0_hw35 : k0_chk35 i k0_t6 v173), ∀ (k0_h3 : k0_cond3 i = 1#1), 8 ∣ (k0_mult46 k0_t6 v173).toNat := fun i k0_t6 v173 k0_hw35 k0_h3 => k0_hw35.1 k0_h3
theorem k0_off181_inb : ∀ (i : grid0.Coords) (k0_t6 : Fin k0_t6_loop.trips) (v173 : BitVec 32) (k0_hw35 : k0_chk35 i k0_t6 v173), ∀ (k0_h3 : k0_cond3 i = 1#1), ∀ a, (k0_off181 k0_t6 v173) a + S8x128.size a ≤ S20480x128.size a := fun i k0_t6 v173 k0_hw35 k0_h3 => k0_hw35.2.1 k0_h3
theorem k0_off182_inb : ∀ (i : grid0.Coords) (k0_t6 : Fin k0_t6_loop.trips) (v173 : BitVec 32) (k0_hw35 : k0_chk35 i k0_t6 v173), ∀ (k0_h3 : k0_cond3 i = 1#1), ∀ a, S8x128.size a = 0 ∨ (k0_off182 v173) a + (![2052, 1] : Fin 2 → Nat) a * (S8x128.size a - 1) < S16416x128.size a := fun i k0_t6 v173 k0_hw35 k0_h3 => k0_hw35.2.2.1 k0_h3
theorem k0_off183_inb : ∀ (i : grid0.Coords) (k0_t6 : Fin k0_t6_loop.trips) (v173 : BitVec 32) (k0_hw35 : k0_chk35 i k0_t6 v173), ∀ (k0_h3 : k0_cond3 i = 1#1), ∀ a, S8x128.size a = 0 ∨ (k0_off183 v173) a + (![516, 1] : Fin 2 → Nat) a * (S8x128.size a - 1) < S4128x128.size a := fun i k0_t6 v173 k0_hw35 k0_h3 => k0_hw35.2.2.2.1 k0_h3
theorem k0_off238_inb : ∀ (i : grid0.Coords) (k0_t6 : Fin k0_t6_loop.trips) (v173 : BitVec 32) (k0_hw35 : k0_chk35 i k0_t6 v173), ∀ (k0_h3 : k0_cond3 i = 1#1), ∀ a, (k0_off238 k0_t6 v173) a + S8x128.size a ≤ S20480x128.size a := fun i k0_t6 v173 k0_hw35 k0_h3 => k0_hw35.2.2.2.2 k0_h3

def k0_off239 (k0_t6 : Fin k0_t6_loop.trips) (v203 : BitVec 32) : Fin 2 → Nat :=
  let c27030_i32_122 : BitVec 32 := 27030#32
  let c14_i32_118 : BitVec 32 := 14#32
  let v209 : BitVec 32 := Scalar.shrsi v203 c14_i32_118
  let c63_i32_119 : BitVec 32 := 63#32
  let v210 : BitVec 32 := Scalar.andi v209 c63_i32_119
  let c4_i32_120 : BitVec 32 := 4#32
  let v211 : BitVec 32 := Scalar.shrsi v210 c4_i32_120
  let v212 : BitVec 32 := Scalar.xori v210 v211
  let c15_i32_121 : BitVec 32 := 15#32
  let v213 : BitVec 32 := Scalar.andi v212 c15_i32_121
  let v214 : BitVec 32 := Scalar.shrsi c27030_i32_122 v213
  let c1_i32_123 : BitVec 32 := 1#32
  let v215 : BitVec 32 := Scalar.andi v214 c1_i32_123
  let c10240_i32_124 : BitVec 32 := 10240#32
  let v216 : BitVec 32 := Scalar.muli v215 c10240_i32_124
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c3_i32_125 : BitVec 32 := 3#32
  let v217 : BitVec 32 := Scalar.addi v110 c3_i32_125
  let c8_i32_126 : BitVec 32 := 8#32
  let v218 : BitVec 32 := Scalar.muli v217 c8_i32_126
  let v219 : BitVec 32 := Scalar.addi v216 v218
  let v220 : BitVec 32 := v219
  let v615 : Index := Scalar.indexCast v220
  let c0_357 : Index := 0#32
  ![v615.toNat, 0]

def k0_chk36 (i : grid0.Coords) (k0_t6 : Fin k0_t6_loop.trips) (v203 : BitVec 32) : Prop :=
  (∀ (k0_h3 : k0_cond3 i = 1#1), 8 ∣ (k0_mult47 k0_t6 v203).toNat) ∧
  (∀ (k0_h3 : k0_cond3 i = 1#1), ∀ a, (k0_off185 k0_t6 v203) a + S8x128.size a ≤ S20480x128.size a) ∧
  (∀ (k0_h3 : k0_cond3 i = 1#1), ∀ a, S8x128.size a = 0 ∨ (k0_off186 v203) a + (![2052, 1] : Fin 2 → Nat) a * (S8x128.size a - 1) < S16416x128.size a) ∧
  (∀ (k0_h3 : k0_cond3 i = 1#1), ∀ a, S8x128.size a = 0 ∨ (k0_off187 v203) a + (![516, 1] : Fin 2 → Nat) a * (S8x128.size a - 1) < S4128x128.size a) ∧
  (∀ (k0_h3 : k0_cond3 i = 1#1), ∀ a, (k0_off239 k0_t6 v203) a + S8x128.size a ≤ S20480x128.size a)
theorem k0_mult47_dvd : ∀ (i : grid0.Coords) (k0_t6 : Fin k0_t6_loop.trips) (v203 : BitVec 32) (k0_hw36 : k0_chk36 i k0_t6 v203), ∀ (k0_h3 : k0_cond3 i = 1#1), 8 ∣ (k0_mult47 k0_t6 v203).toNat := fun i k0_t6 v203 k0_hw36 k0_h3 => k0_hw36.1 k0_h3
theorem k0_off185_inb : ∀ (i : grid0.Coords) (k0_t6 : Fin k0_t6_loop.trips) (v203 : BitVec 32) (k0_hw36 : k0_chk36 i k0_t6 v203), ∀ (k0_h3 : k0_cond3 i = 1#1), ∀ a, (k0_off185 k0_t6 v203) a + S8x128.size a ≤ S20480x128.size a := fun i k0_t6 v203 k0_hw36 k0_h3 => k0_hw36.2.1 k0_h3
theorem k0_off186_inb : ∀ (i : grid0.Coords) (k0_t6 : Fin k0_t6_loop.trips) (v203 : BitVec 32) (k0_hw36 : k0_chk36 i k0_t6 v203), ∀ (k0_h3 : k0_cond3 i = 1#1), ∀ a, S8x128.size a = 0 ∨ (k0_off186 v203) a + (![2052, 1] : Fin 2 → Nat) a * (S8x128.size a - 1) < S16416x128.size a := fun i k0_t6 v203 k0_hw36 k0_h3 => k0_hw36.2.2.1 k0_h3
theorem k0_off187_inb : ∀ (i : grid0.Coords) (k0_t6 : Fin k0_t6_loop.trips) (v203 : BitVec 32) (k0_hw36 : k0_chk36 i k0_t6 v203), ∀ (k0_h3 : k0_cond3 i = 1#1), ∀ a, S8x128.size a = 0 ∨ (k0_off187 v203) a + (![516, 1] : Fin 2 → Nat) a * (S8x128.size a - 1) < S4128x128.size a := fun i k0_t6 v203 k0_hw36 k0_h3 => k0_hw36.2.2.2.1 k0_h3
theorem k0_off239_inb : ∀ (i : grid0.Coords) (k0_t6 : Fin k0_t6_loop.trips) (v203 : BitVec 32) (k0_hw36 : k0_chk36 i k0_t6 v203), ∀ (k0_h3 : k0_cond3 i = 1#1), ∀ a, (k0_off239 k0_t6 v203) a + S8x128.size a ≤ S20480x128.size a := fun i k0_t6 v203 k0_hw36 k0_h3 => k0_hw36.2.2.2.2 k0_h3

def k0_off240 (k0_t6 : Fin k0_t6_loop.trips) (v233 : BitVec 32) : Fin 2 → Nat :=
  let c27030_i32_141 : BitVec 32 := 27030#32
  let c14_i32_137 : BitVec 32 := 14#32
  let v239 : BitVec 32 := Scalar.shrsi v233 c14_i32_137
  let c63_i32_138 : BitVec 32 := 63#32
  let v240 : BitVec 32 := Scalar.andi v239 c63_i32_138
  let c4_i32_139 : BitVec 32 := 4#32
  let v241 : BitVec 32 := Scalar.shrsi v240 c4_i32_139
  let v242 : BitVec 32 := Scalar.xori v240 v241
  let c15_i32_140 : BitVec 32 := 15#32
  let v243 : BitVec 32 := Scalar.andi v242 c15_i32_140
  let v244 : BitVec 32 := Scalar.shrsi c27030_i32_141 v243
  let c1_i32_142 : BitVec 32 := 1#32
  let v245 : BitVec 32 := Scalar.andi v244 c1_i32_142
  let c10240_i32_143 : BitVec 32 := 10240#32
  let v246 : BitVec 32 := Scalar.muli v245 c10240_i32_143
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c4_i32_144 : BitVec 32 := 4#32
  let v247 : BitVec 32 := Scalar.addi v110 c4_i32_144
  let c8_i32_145 : BitVec 32 := 8#32
  let v248 : BitVec 32 := Scalar.muli v247 c8_i32_145
  let v249 : BitVec 32 := Scalar.addi v246 v248
  let v250 : BitVec 32 := v249
  let v623 : Index := Scalar.indexCast v250
  let c0_359 : Index := 0#32
  ![v623.toNat, 0]

def k0_chk37 (i : grid0.Coords) (k0_t6 : Fin k0_t6_loop.trips) (v233 : BitVec 32) : Prop :=
  (∀ (k0_h3 : k0_cond3 i = 1#1), 8 ∣ (k0_mult48 k0_t6 v233).toNat) ∧
  (∀ (k0_h3 : k0_cond3 i = 1#1), ∀ a, (k0_off189 k0_t6 v233) a + S8x128.size a ≤ S20480x128.size a) ∧
  (∀ (k0_h3 : k0_cond3 i = 1#1), ∀ a, S8x128.size a = 0 ∨ (k0_off190 v233) a + (![2052, 1] : Fin 2 → Nat) a * (S8x128.size a - 1) < S16416x128.size a) ∧
  (∀ (k0_h3 : k0_cond3 i = 1#1), ∀ a, S8x128.size a = 0 ∨ (k0_off191 v233) a + (![516, 1] : Fin 2 → Nat) a * (S8x128.size a - 1) < S4128x128.size a) ∧
  (∀ (k0_h3 : k0_cond3 i = 1#1), ∀ a, (k0_off240 k0_t6 v233) a + S8x128.size a ≤ S20480x128.size a)
theorem k0_mult48_dvd : ∀ (i : grid0.Coords) (k0_t6 : Fin k0_t6_loop.trips) (v233 : BitVec 32) (k0_hw37 : k0_chk37 i k0_t6 v233), ∀ (k0_h3 : k0_cond3 i = 1#1), 8 ∣ (k0_mult48 k0_t6 v233).toNat := fun i k0_t6 v233 k0_hw37 k0_h3 => k0_hw37.1 k0_h3
theorem k0_off189_inb : ∀ (i : grid0.Coords) (k0_t6 : Fin k0_t6_loop.trips) (v233 : BitVec 32) (k0_hw37 : k0_chk37 i k0_t6 v233), ∀ (k0_h3 : k0_cond3 i = 1#1), ∀ a, (k0_off189 k0_t6 v233) a + S8x128.size a ≤ S20480x128.size a := fun i k0_t6 v233 k0_hw37 k0_h3 => k0_hw37.2.1 k0_h3
theorem k0_off190_inb : ∀ (i : grid0.Coords) (k0_t6 : Fin k0_t6_loop.trips) (v233 : BitVec 32) (k0_hw37 : k0_chk37 i k0_t6 v233), ∀ (k0_h3 : k0_cond3 i = 1#1), ∀ a, S8x128.size a = 0 ∨ (k0_off190 v233) a + (![2052, 1] : Fin 2 → Nat) a * (S8x128.size a - 1) < S16416x128.size a := fun i k0_t6 v233 k0_hw37 k0_h3 => k0_hw37.2.2.1 k0_h3
theorem k0_off191_inb : ∀ (i : grid0.Coords) (k0_t6 : Fin k0_t6_loop.trips) (v233 : BitVec 32) (k0_hw37 : k0_chk37 i k0_t6 v233), ∀ (k0_h3 : k0_cond3 i = 1#1), ∀ a, S8x128.size a = 0 ∨ (k0_off191 v233) a + (![516, 1] : Fin 2 → Nat) a * (S8x128.size a - 1) < S4128x128.size a := fun i k0_t6 v233 k0_hw37 k0_h3 => k0_hw37.2.2.2.1 k0_h3
theorem k0_off240_inb : ∀ (i : grid0.Coords) (k0_t6 : Fin k0_t6_loop.trips) (v233 : BitVec 32) (k0_hw37 : k0_chk37 i k0_t6 v233), ∀ (k0_h3 : k0_cond3 i = 1#1), ∀ a, (k0_off240 k0_t6 v233) a + S8x128.size a ≤ S20480x128.size a := fun i k0_t6 v233 k0_hw37 k0_h3 => k0_hw37.2.2.2.2 k0_h3

def k0_off241 (k0_t6 : Fin k0_t6_loop.trips) (v263 : BitVec 32) : Fin 2 → Nat :=
  let c27030_i32_159 : BitVec 32 := 27030#32
  let c14_i32_155 : BitVec 32 := 14#32
  let v269 : BitVec 32 := Scalar.shrsi v263 c14_i32_155
  let c63_i32_156 : BitVec 32 := 63#32
  let v270 : BitVec 32 := Scalar.andi v269 c63_i32_156
  let c4_i32_157 : BitVec 32 := 4#32
  let v271 : BitVec 32 := Scalar.shrsi v270 c4_i32_157
  let v272 : BitVec 32 := Scalar.xori v270 v271
  let c15_i32_158 : BitVec 32 := 15#32
  let v273 : BitVec 32 := Scalar.andi v272 c15_i32_158
  let v274 : BitVec 32 := Scalar.shrsi c27030_i32_159 v273
  let c1_i32_160 : BitVec 32 := 1#32
  let v275 : BitVec 32 := Scalar.andi v274 c1_i32_160
  let c10240_i32_161 : BitVec 32 := 10240#32
  let v276 : BitVec 32 := Scalar.muli v275 c10240_i32_161
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c5_i32_162 : BitVec 32 := 5#32
  let v277 : BitVec 32 := Scalar.addi v110 c5_i32_162
  let c8_i32_163 : BitVec 32 := 8#32
  let v278 : BitVec 32 := Scalar.muli v277 c8_i32_163
  let v279 : BitVec 32 := Scalar.addi v276 v278
  let v280 : BitVec 32 := v279
  let v631 : Index := Scalar.indexCast v280
  let c0_361 : Index := 0#32
  ![v631.toNat, 0]

def k0_chk38 (i : grid0.Coords) (k0_t6 : Fin k0_t6_loop.trips) (v263 : BitVec 32) : Prop :=
  (∀ (k0_h3 : k0_cond3 i = 1#1), 8 ∣ (k0_mult49 k0_t6 v263).toNat) ∧
  (∀ (k0_h3 : k0_cond3 i = 1#1), ∀ a, (k0_off193 k0_t6 v263) a + S8x128.size a ≤ S20480x128.size a) ∧
  (∀ (k0_h3 : k0_cond3 i = 1#1), ∀ a, S8x128.size a = 0 ∨ (k0_off194 v263) a + (![2052, 1] : Fin 2 → Nat) a * (S8x128.size a - 1) < S16416x128.size a) ∧
  (∀ (k0_h3 : k0_cond3 i = 1#1), ∀ a, S8x128.size a = 0 ∨ (k0_off195 v263) a + (![516, 1] : Fin 2 → Nat) a * (S8x128.size a - 1) < S4128x128.size a) ∧
  (∀ (k0_h3 : k0_cond3 i = 1#1), ∀ a, (k0_off241 k0_t6 v263) a + S8x128.size a ≤ S20480x128.size a)
theorem k0_mult49_dvd : ∀ (i : grid0.Coords) (k0_t6 : Fin k0_t6_loop.trips) (v263 : BitVec 32) (k0_hw38 : k0_chk38 i k0_t6 v263), ∀ (k0_h3 : k0_cond3 i = 1#1), 8 ∣ (k0_mult49 k0_t6 v263).toNat := fun i k0_t6 v263 k0_hw38 k0_h3 => k0_hw38.1 k0_h3
theorem k0_off193_inb : ∀ (i : grid0.Coords) (k0_t6 : Fin k0_t6_loop.trips) (v263 : BitVec 32) (k0_hw38 : k0_chk38 i k0_t6 v263), ∀ (k0_h3 : k0_cond3 i = 1#1), ∀ a, (k0_off193 k0_t6 v263) a + S8x128.size a ≤ S20480x128.size a := fun i k0_t6 v263 k0_hw38 k0_h3 => k0_hw38.2.1 k0_h3
theorem k0_off194_inb : ∀ (i : grid0.Coords) (k0_t6 : Fin k0_t6_loop.trips) (v263 : BitVec 32) (k0_hw38 : k0_chk38 i k0_t6 v263), ∀ (k0_h3 : k0_cond3 i = 1#1), ∀ a, S8x128.size a = 0 ∨ (k0_off194 v263) a + (![2052, 1] : Fin 2 → Nat) a * (S8x128.size a - 1) < S16416x128.size a := fun i k0_t6 v263 k0_hw38 k0_h3 => k0_hw38.2.2.1 k0_h3
theorem k0_off195_inb : ∀ (i : grid0.Coords) (k0_t6 : Fin k0_t6_loop.trips) (v263 : BitVec 32) (k0_hw38 : k0_chk38 i k0_t6 v263), ∀ (k0_h3 : k0_cond3 i = 1#1), ∀ a, S8x128.size a = 0 ∨ (k0_off195 v263) a + (![516, 1] : Fin 2 → Nat) a * (S8x128.size a - 1) < S4128x128.size a := fun i k0_t6 v263 k0_hw38 k0_h3 => k0_hw38.2.2.2.1 k0_h3
theorem k0_off241_inb : ∀ (i : grid0.Coords) (k0_t6 : Fin k0_t6_loop.trips) (v263 : BitVec 32) (k0_hw38 : k0_chk38 i k0_t6 v263), ∀ (k0_h3 : k0_cond3 i = 1#1), ∀ a, (k0_off241 k0_t6 v263) a + S8x128.size a ≤ S20480x128.size a := fun i k0_t6 v263 k0_hw38 k0_h3 => k0_hw38.2.2.2.2 k0_h3

def k0_off242 (k0_t6 : Fin k0_t6_loop.trips) (v293 : BitVec 32) : Fin 2 → Nat :=
  let c27030_i32_177 : BitVec 32 := 27030#32
  let c14_i32_173 : BitVec 32 := 14#32
  let v299 : BitVec 32 := Scalar.shrsi v293 c14_i32_173
  let c63_i32_174 : BitVec 32 := 63#32
  let v300 : BitVec 32 := Scalar.andi v299 c63_i32_174
  let c4_i32_175 : BitVec 32 := 4#32
  let v301 : BitVec 32 := Scalar.shrsi v300 c4_i32_175
  let v302 : BitVec 32 := Scalar.xori v300 v301
  let c15_i32_176 : BitVec 32 := 15#32
  let v303 : BitVec 32 := Scalar.andi v302 c15_i32_176
  let v304 : BitVec 32 := Scalar.shrsi c27030_i32_177 v303
  let c1_i32_178 : BitVec 32 := 1#32
  let v305 : BitVec 32 := Scalar.andi v304 c1_i32_178
  let c10240_i32_179 : BitVec 32 := 10240#32
  let v306 : BitVec 32 := Scalar.muli v305 c10240_i32_179
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c6_i32_180 : BitVec 32 := 6#32
  let v307 : BitVec 32 := Scalar.addi v110 c6_i32_180
  let c8_i32_181 : BitVec 32 := 8#32
  let v308 : BitVec 32 := Scalar.muli v307 c8_i32_181
  let v309 : BitVec 32 := Scalar.addi v306 v308
  let v310 : BitVec 32 := v309
  let v639 : Index := Scalar.indexCast v310
  let c0_363 : Index := 0#32
  ![v639.toNat, 0]

def k0_chk39 (i : grid0.Coords) (k0_t6 : Fin k0_t6_loop.trips) (v293 : BitVec 32) : Prop :=
  (∀ (k0_h3 : k0_cond3 i = 1#1), 8 ∣ (k0_mult50 k0_t6 v293).toNat) ∧
  (∀ (k0_h3 : k0_cond3 i = 1#1), ∀ a, (k0_off197 k0_t6 v293) a + S8x128.size a ≤ S20480x128.size a) ∧
  (∀ (k0_h3 : k0_cond3 i = 1#1), ∀ a, S8x128.size a = 0 ∨ (k0_off198 v293) a + (![2052, 1] : Fin 2 → Nat) a * (S8x128.size a - 1) < S16416x128.size a) ∧
  (∀ (k0_h3 : k0_cond3 i = 1#1), ∀ a, S8x128.size a = 0 ∨ (k0_off199 v293) a + (![516, 1] : Fin 2 → Nat) a * (S8x128.size a - 1) < S4128x128.size a) ∧
  (∀ (k0_h3 : k0_cond3 i = 1#1), ∀ a, (k0_off242 k0_t6 v293) a + S8x128.size a ≤ S20480x128.size a)
theorem k0_mult50_dvd : ∀ (i : grid0.Coords) (k0_t6 : Fin k0_t6_loop.trips) (v293 : BitVec 32) (k0_hw39 : k0_chk39 i k0_t6 v293), ∀ (k0_h3 : k0_cond3 i = 1#1), 8 ∣ (k0_mult50 k0_t6 v293).toNat := fun i k0_t6 v293 k0_hw39 k0_h3 => k0_hw39.1 k0_h3
theorem k0_off197_inb : ∀ (i : grid0.Coords) (k0_t6 : Fin k0_t6_loop.trips) (v293 : BitVec 32) (k0_hw39 : k0_chk39 i k0_t6 v293), ∀ (k0_h3 : k0_cond3 i = 1#1), ∀ a, (k0_off197 k0_t6 v293) a + S8x128.size a ≤ S20480x128.size a := fun i k0_t6 v293 k0_hw39 k0_h3 => k0_hw39.2.1 k0_h3
theorem k0_off198_inb : ∀ (i : grid0.Coords) (k0_t6 : Fin k0_t6_loop.trips) (v293 : BitVec 32) (k0_hw39 : k0_chk39 i k0_t6 v293), ∀ (k0_h3 : k0_cond3 i = 1#1), ∀ a, S8x128.size a = 0 ∨ (k0_off198 v293) a + (![2052, 1] : Fin 2 → Nat) a * (S8x128.size a - 1) < S16416x128.size a := fun i k0_t6 v293 k0_hw39 k0_h3 => k0_hw39.2.2.1 k0_h3
theorem k0_off199_inb : ∀ (i : grid0.Coords) (k0_t6 : Fin k0_t6_loop.trips) (v293 : BitVec 32) (k0_hw39 : k0_chk39 i k0_t6 v293), ∀ (k0_h3 : k0_cond3 i = 1#1), ∀ a, S8x128.size a = 0 ∨ (k0_off199 v293) a + (![516, 1] : Fin 2 → Nat) a * (S8x128.size a - 1) < S4128x128.size a := fun i k0_t6 v293 k0_hw39 k0_h3 => k0_hw39.2.2.2.1 k0_h3
theorem k0_off242_inb : ∀ (i : grid0.Coords) (k0_t6 : Fin k0_t6_loop.trips) (v293 : BitVec 32) (k0_hw39 : k0_chk39 i k0_t6 v293), ∀ (k0_h3 : k0_cond3 i = 1#1), ∀ a, (k0_off242 k0_t6 v293) a + S8x128.size a ≤ S20480x128.size a := fun i k0_t6 v293 k0_hw39 k0_h3 => k0_hw39.2.2.2.2 k0_h3

def k0_off243 (k0_t6 : Fin k0_t6_loop.trips) (v323 : BitVec 32) : Fin 2 → Nat :=
  let c27030_i32_195 : BitVec 32 := 27030#32
  let c14_i32_191 : BitVec 32 := 14#32
  let v329 : BitVec 32 := Scalar.shrsi v323 c14_i32_191
  let c63_i32_192 : BitVec 32 := 63#32
  let v330 : BitVec 32 := Scalar.andi v329 c63_i32_192
  let c4_i32_193 : BitVec 32 := 4#32
  let v331 : BitVec 32 := Scalar.shrsi v330 c4_i32_193
  let v332 : BitVec 32 := Scalar.xori v330 v331
  let c15_i32_194 : BitVec 32 := 15#32
  let v333 : BitVec 32 := Scalar.andi v332 c15_i32_194
  let v334 : BitVec 32 := Scalar.shrsi c27030_i32_195 v333
  let c1_i32_196 : BitVec 32 := 1#32
  let v335 : BitVec 32 := Scalar.andi v334 c1_i32_196
  let c10240_i32_197 : BitVec 32 := 10240#32
  let v336 : BitVec 32 := Scalar.muli v335 c10240_i32_197
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c7_i32_198 : BitVec 32 := 7#32
  let v337 : BitVec 32 := Scalar.addi v110 c7_i32_198
  let c8_i32_199 : BitVec 32 := 8#32
  let v338 : BitVec 32 := Scalar.muli v337 c8_i32_199
  let v339 : BitVec 32 := Scalar.addi v336 v338
  let v340 : BitVec 32 := v339
  let v647 : Index := Scalar.indexCast v340
  let c0_365 : Index := 0#32
  ![v647.toNat, 0]

def k0_chk40 (i : grid0.Coords) (k0_t6 : Fin k0_t6_loop.trips) (v323 : BitVec 32) : Prop :=
  (∀ (k0_h3 : k0_cond3 i = 1#1), 8 ∣ (k0_mult51 k0_t6 v323).toNat) ∧
  (∀ (k0_h3 : k0_cond3 i = 1#1), ∀ a, (k0_off201 k0_t6 v323) a + S8x128.size a ≤ S20480x128.size a) ∧
  (∀ (k0_h3 : k0_cond3 i = 1#1), ∀ a, S8x128.size a = 0 ∨ (k0_off202 v323) a + (![2052, 1] : Fin 2 → Nat) a * (S8x128.size a - 1) < S16416x128.size a) ∧
  (∀ (k0_h3 : k0_cond3 i = 1#1), ∀ a, S8x128.size a = 0 ∨ (k0_off203 v323) a + (![516, 1] : Fin 2 → Nat) a * (S8x128.size a - 1) < S4128x128.size a) ∧
  (∀ (k0_h3 : k0_cond3 i = 1#1), ∀ a, (k0_off243 k0_t6 v323) a + S8x128.size a ≤ S20480x128.size a)
theorem k0_mult51_dvd : ∀ (i : grid0.Coords) (k0_t6 : Fin k0_t6_loop.trips) (v323 : BitVec 32) (k0_hw40 : k0_chk40 i k0_t6 v323), ∀ (k0_h3 : k0_cond3 i = 1#1), 8 ∣ (k0_mult51 k0_t6 v323).toNat := fun i k0_t6 v323 k0_hw40 k0_h3 => k0_hw40.1 k0_h3
theorem k0_off201_inb : ∀ (i : grid0.Coords) (k0_t6 : Fin k0_t6_loop.trips) (v323 : BitVec 32) (k0_hw40 : k0_chk40 i k0_t6 v323), ∀ (k0_h3 : k0_cond3 i = 1#1), ∀ a, (k0_off201 k0_t6 v323) a + S8x128.size a ≤ S20480x128.size a := fun i k0_t6 v323 k0_hw40 k0_h3 => k0_hw40.2.1 k0_h3
theorem k0_off202_inb : ∀ (i : grid0.Coords) (k0_t6 : Fin k0_t6_loop.trips) (v323 : BitVec 32) (k0_hw40 : k0_chk40 i k0_t6 v323), ∀ (k0_h3 : k0_cond3 i = 1#1), ∀ a, S8x128.size a = 0 ∨ (k0_off202 v323) a + (![2052, 1] : Fin 2 → Nat) a * (S8x128.size a - 1) < S16416x128.size a := fun i k0_t6 v323 k0_hw40 k0_h3 => k0_hw40.2.2.1 k0_h3
theorem k0_off203_inb : ∀ (i : grid0.Coords) (k0_t6 : Fin k0_t6_loop.trips) (v323 : BitVec 32) (k0_hw40 : k0_chk40 i k0_t6 v323), ∀ (k0_h3 : k0_cond3 i = 1#1), ∀ a, S8x128.size a = 0 ∨ (k0_off203 v323) a + (![516, 1] : Fin 2 → Nat) a * (S8x128.size a - 1) < S4128x128.size a := fun i k0_t6 v323 k0_hw40 k0_h3 => k0_hw40.2.2.2.1 k0_h3
theorem k0_off243_inb : ∀ (i : grid0.Coords) (k0_t6 : Fin k0_t6_loop.trips) (v323 : BitVec 32) (k0_hw40 : k0_chk40 i k0_t6 v323), ∀ (k0_h3 : k0_cond3 i = 1#1), ∀ a, (k0_off243 k0_t6 v323) a + S8x128.size a ≤ S20480x128.size a := fun i k0_t6 v323 k0_hw40 k0_h3 => k0_hw40.2.2.2.2 k0_h3

def k0_off244 (k0_t6 : Fin k0_t6_loop.trips) (v353 : BitVec 32) : Fin 2 → Nat :=
  let c27030_i32_214 : BitVec 32 := 27030#32
  let c14_i32_210 : BitVec 32 := 14#32
  let v359 : BitVec 32 := Scalar.shrsi v353 c14_i32_210
  let c63_i32_211 : BitVec 32 := 63#32
  let v360 : BitVec 32 := Scalar.andi v359 c63_i32_211
  let c4_i32_212 : BitVec 32 := 4#32
  let v361 : BitVec 32 := Scalar.shrsi v360 c4_i32_212
  let v362 : BitVec 32 := Scalar.xori v360 v361
  let c15_i32_213 : BitVec 32 := 15#32
  let v363 : BitVec 32 := Scalar.andi v362 c15_i32_213
  let v364 : BitVec 32 := Scalar.shrsi c27030_i32_214 v363
  let c1_i32_215 : BitVec 32 := 1#32
  let v365 : BitVec 32 := Scalar.andi v364 c1_i32_215
  let c10240_i32_216 : BitVec 32 := 10240#32
  let v366 : BitVec 32 := Scalar.muli v365 c10240_i32_216
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c8_i32_217 : BitVec 32 := 8#32
  let v367 : BitVec 32 := Scalar.addi v110 c8_i32_217
  let c8_i32_218 : BitVec 32 := 8#32
  let v368 : BitVec 32 := Scalar.muli v367 c8_i32_218
  let v369 : BitVec 32 := Scalar.addi v366 v368
  let v370 : BitVec 32 := v369
  let v655 : Index := Scalar.indexCast v370
  let c0_367 : Index := 0#32
  ![v655.toNat, 0]

def k0_chk41 (i : grid0.Coords) (k0_t6 : Fin k0_t6_loop.trips) (v353 : BitVec 32) : Prop :=
  (∀ (k0_h3 : k0_cond3 i = 1#1), 8 ∣ (k0_mult52 k0_t6 v353).toNat) ∧
  (∀ (k0_h3 : k0_cond3 i = 1#1), ∀ a, (k0_off205 k0_t6 v353) a + S8x128.size a ≤ S20480x128.size a) ∧
  (∀ (k0_h3 : k0_cond3 i = 1#1), ∀ a, S8x128.size a = 0 ∨ (k0_off206 v353) a + (![2052, 1] : Fin 2 → Nat) a * (S8x128.size a - 1) < S16416x128.size a) ∧
  (∀ (k0_h3 : k0_cond3 i = 1#1), ∀ a, S8x128.size a = 0 ∨ (k0_off207 v353) a + (![516, 1] : Fin 2 → Nat) a * (S8x128.size a - 1) < S4128x128.size a) ∧
  (∀ (k0_h3 : k0_cond3 i = 1#1), ∀ a, (k0_off244 k0_t6 v353) a + S8x128.size a ≤ S20480x128.size a)
theorem k0_mult52_dvd : ∀ (i : grid0.Coords) (k0_t6 : Fin k0_t6_loop.trips) (v353 : BitVec 32) (k0_hw41 : k0_chk41 i k0_t6 v353), ∀ (k0_h3 : k0_cond3 i = 1#1), 8 ∣ (k0_mult52 k0_t6 v353).toNat := fun i k0_t6 v353 k0_hw41 k0_h3 => k0_hw41.1 k0_h3
theorem k0_off205_inb : ∀ (i : grid0.Coords) (k0_t6 : Fin k0_t6_loop.trips) (v353 : BitVec 32) (k0_hw41 : k0_chk41 i k0_t6 v353), ∀ (k0_h3 : k0_cond3 i = 1#1), ∀ a, (k0_off205 k0_t6 v353) a + S8x128.size a ≤ S20480x128.size a := fun i k0_t6 v353 k0_hw41 k0_h3 => k0_hw41.2.1 k0_h3
theorem k0_off206_inb : ∀ (i : grid0.Coords) (k0_t6 : Fin k0_t6_loop.trips) (v353 : BitVec 32) (k0_hw41 : k0_chk41 i k0_t6 v353), ∀ (k0_h3 : k0_cond3 i = 1#1), ∀ a, S8x128.size a = 0 ∨ (k0_off206 v353) a + (![2052, 1] : Fin 2 → Nat) a * (S8x128.size a - 1) < S16416x128.size a := fun i k0_t6 v353 k0_hw41 k0_h3 => k0_hw41.2.2.1 k0_h3
theorem k0_off207_inb : ∀ (i : grid0.Coords) (k0_t6 : Fin k0_t6_loop.trips) (v353 : BitVec 32) (k0_hw41 : k0_chk41 i k0_t6 v353), ∀ (k0_h3 : k0_cond3 i = 1#1), ∀ a, S8x128.size a = 0 ∨ (k0_off207 v353) a + (![516, 1] : Fin 2 → Nat) a * (S8x128.size a - 1) < S4128x128.size a := fun i k0_t6 v353 k0_hw41 k0_h3 => k0_hw41.2.2.2.1 k0_h3
theorem k0_off244_inb : ∀ (i : grid0.Coords) (k0_t6 : Fin k0_t6_loop.trips) (v353 : BitVec 32) (k0_hw41 : k0_chk41 i k0_t6 v353), ∀ (k0_h3 : k0_cond3 i = 1#1), ∀ a, (k0_off244 k0_t6 v353) a + S8x128.size a ≤ S20480x128.size a := fun i k0_t6 v353 k0_hw41 k0_h3 => k0_hw41.2.2.2.2 k0_h3

def k0_off245 (k0_t6 : Fin k0_t6_loop.trips) (v383 : BitVec 32) : Fin 2 → Nat :=
  let c27030_i32_232 : BitVec 32 := 27030#32
  let c14_i32_228 : BitVec 32 := 14#32
  let v389 : BitVec 32 := Scalar.shrsi v383 c14_i32_228
  let c63_i32_229 : BitVec 32 := 63#32
  let v390 : BitVec 32 := Scalar.andi v389 c63_i32_229
  let c4_i32_230 : BitVec 32 := 4#32
  let v391 : BitVec 32 := Scalar.shrsi v390 c4_i32_230
  let v392 : BitVec 32 := Scalar.xori v390 v391
  let c15_i32_231 : BitVec 32 := 15#32
  let v393 : BitVec 32 := Scalar.andi v392 c15_i32_231
  let v394 : BitVec 32 := Scalar.shrsi c27030_i32_232 v393
  let c1_i32_233 : BitVec 32 := 1#32
  let v395 : BitVec 32 := Scalar.andi v394 c1_i32_233
  let c10240_i32_234 : BitVec 32 := 10240#32
  let v396 : BitVec 32 := Scalar.muli v395 c10240_i32_234
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c9_i32_235 : BitVec 32 := 9#32
  let v397 : BitVec 32 := Scalar.addi v110 c9_i32_235
  let c8_i32_236 : BitVec 32 := 8#32
  let v398 : BitVec 32 := Scalar.muli v397 c8_i32_236
  let v399 : BitVec 32 := Scalar.addi v396 v398
  let v400 : BitVec 32 := v399
  let v663 : Index := Scalar.indexCast v400
  let c0_369 : Index := 0#32
  ![v663.toNat, 0]

def k0_chk42 (i : grid0.Coords) (k0_t6 : Fin k0_t6_loop.trips) (v383 : BitVec 32) : Prop :=
  (∀ (k0_h3 : k0_cond3 i = 1#1), 8 ∣ (k0_mult53 k0_t6 v383).toNat) ∧
  (∀ (k0_h3 : k0_cond3 i = 1#1), ∀ a, (k0_off209 k0_t6 v383) a + S8x128.size a ≤ S20480x128.size a) ∧
  (∀ (k0_h3 : k0_cond3 i = 1#1), ∀ a, S8x128.size a = 0 ∨ (k0_off210 v383) a + (![2052, 1] : Fin 2 → Nat) a * (S8x128.size a - 1) < S16416x128.size a) ∧
  (∀ (k0_h3 : k0_cond3 i = 1#1), ∀ a, S8x128.size a = 0 ∨ (k0_off211 v383) a + (![516, 1] : Fin 2 → Nat) a * (S8x128.size a - 1) < S4128x128.size a) ∧
  (∀ (k0_h3 : k0_cond3 i = 1#1), ∀ a, (k0_off245 k0_t6 v383) a + S8x128.size a ≤ S20480x128.size a)
theorem k0_mult53_dvd : ∀ (i : grid0.Coords) (k0_t6 : Fin k0_t6_loop.trips) (v383 : BitVec 32) (k0_hw42 : k0_chk42 i k0_t6 v383), ∀ (k0_h3 : k0_cond3 i = 1#1), 8 ∣ (k0_mult53 k0_t6 v383).toNat := fun i k0_t6 v383 k0_hw42 k0_h3 => k0_hw42.1 k0_h3
theorem k0_off209_inb : ∀ (i : grid0.Coords) (k0_t6 : Fin k0_t6_loop.trips) (v383 : BitVec 32) (k0_hw42 : k0_chk42 i k0_t6 v383), ∀ (k0_h3 : k0_cond3 i = 1#1), ∀ a, (k0_off209 k0_t6 v383) a + S8x128.size a ≤ S20480x128.size a := fun i k0_t6 v383 k0_hw42 k0_h3 => k0_hw42.2.1 k0_h3
theorem k0_off210_inb : ∀ (i : grid0.Coords) (k0_t6 : Fin k0_t6_loop.trips) (v383 : BitVec 32) (k0_hw42 : k0_chk42 i k0_t6 v383), ∀ (k0_h3 : k0_cond3 i = 1#1), ∀ a, S8x128.size a = 0 ∨ (k0_off210 v383) a + (![2052, 1] : Fin 2 → Nat) a * (S8x128.size a - 1) < S16416x128.size a := fun i k0_t6 v383 k0_hw42 k0_h3 => k0_hw42.2.2.1 k0_h3
theorem k0_off211_inb : ∀ (i : grid0.Coords) (k0_t6 : Fin k0_t6_loop.trips) (v383 : BitVec 32) (k0_hw42 : k0_chk42 i k0_t6 v383), ∀ (k0_h3 : k0_cond3 i = 1#1), ∀ a, S8x128.size a = 0 ∨ (k0_off211 v383) a + (![516, 1] : Fin 2 → Nat) a * (S8x128.size a - 1) < S4128x128.size a := fun i k0_t6 v383 k0_hw42 k0_h3 => k0_hw42.2.2.2.1 k0_h3
theorem k0_off245_inb : ∀ (i : grid0.Coords) (k0_t6 : Fin k0_t6_loop.trips) (v383 : BitVec 32) (k0_hw42 : k0_chk42 i k0_t6 v383), ∀ (k0_h3 : k0_cond3 i = 1#1), ∀ a, (k0_off245 k0_t6 v383) a + S8x128.size a ≤ S20480x128.size a := fun i k0_t6 v383 k0_hw42 k0_h3 => k0_hw42.2.2.2.2 k0_h3

def k0_off246 (k0_t6 : Fin k0_t6_loop.trips) (v413 : BitVec 32) : Fin 2 → Nat :=
  let c27030_i32_250 : BitVec 32 := 27030#32
  let c14_i32_246 : BitVec 32 := 14#32
  let v419 : BitVec 32 := Scalar.shrsi v413 c14_i32_246
  let c63_i32_247 : BitVec 32 := 63#32
  let v420 : BitVec 32 := Scalar.andi v419 c63_i32_247
  let c4_i32_248 : BitVec 32 := 4#32
  let v421 : BitVec 32 := Scalar.shrsi v420 c4_i32_248
  let v422 : BitVec 32 := Scalar.xori v420 v421
  let c15_i32_249 : BitVec 32 := 15#32
  let v423 : BitVec 32 := Scalar.andi v422 c15_i32_249
  let v424 : BitVec 32 := Scalar.shrsi c27030_i32_250 v423
  let c1_i32_251 : BitVec 32 := 1#32
  let v425 : BitVec 32 := Scalar.andi v424 c1_i32_251
  let c10240_i32_252 : BitVec 32 := 10240#32
  let v426 : BitVec 32 := Scalar.muli v425 c10240_i32_252
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c10_i32_253 : BitVec 32 := 10#32
  let v427 : BitVec 32 := Scalar.addi v110 c10_i32_253
  let c8_i32_254 : BitVec 32 := 8#32
  let v428 : BitVec 32 := Scalar.muli v427 c8_i32_254
  let v429 : BitVec 32 := Scalar.addi v426 v428
  let v430 : BitVec 32 := v429
  let v671 : Index := Scalar.indexCast v430
  let c0_371 : Index := 0#32
  ![v671.toNat, 0]

def k0_chk43 (i : grid0.Coords) (k0_t6 : Fin k0_t6_loop.trips) (v413 : BitVec 32) : Prop :=
  (∀ (k0_h3 : k0_cond3 i = 1#1), 8 ∣ (k0_mult54 k0_t6 v413).toNat) ∧
  (∀ (k0_h3 : k0_cond3 i = 1#1), ∀ a, (k0_off213 k0_t6 v413) a + S8x128.size a ≤ S20480x128.size a) ∧
  (∀ (k0_h3 : k0_cond3 i = 1#1), ∀ a, S8x128.size a = 0 ∨ (k0_off214 v413) a + (![2052, 1] : Fin 2 → Nat) a * (S8x128.size a - 1) < S16416x128.size a) ∧
  (∀ (k0_h3 : k0_cond3 i = 1#1), ∀ a, S8x128.size a = 0 ∨ (k0_off215 v413) a + (![516, 1] : Fin 2 → Nat) a * (S8x128.size a - 1) < S4128x128.size a) ∧
  (∀ (k0_h3 : k0_cond3 i = 1#1), ∀ a, (k0_off246 k0_t6 v413) a + S8x128.size a ≤ S20480x128.size a)
theorem k0_mult54_dvd : ∀ (i : grid0.Coords) (k0_t6 : Fin k0_t6_loop.trips) (v413 : BitVec 32) (k0_hw43 : k0_chk43 i k0_t6 v413), ∀ (k0_h3 : k0_cond3 i = 1#1), 8 ∣ (k0_mult54 k0_t6 v413).toNat := fun i k0_t6 v413 k0_hw43 k0_h3 => k0_hw43.1 k0_h3
theorem k0_off213_inb : ∀ (i : grid0.Coords) (k0_t6 : Fin k0_t6_loop.trips) (v413 : BitVec 32) (k0_hw43 : k0_chk43 i k0_t6 v413), ∀ (k0_h3 : k0_cond3 i = 1#1), ∀ a, (k0_off213 k0_t6 v413) a + S8x128.size a ≤ S20480x128.size a := fun i k0_t6 v413 k0_hw43 k0_h3 => k0_hw43.2.1 k0_h3
theorem k0_off214_inb : ∀ (i : grid0.Coords) (k0_t6 : Fin k0_t6_loop.trips) (v413 : BitVec 32) (k0_hw43 : k0_chk43 i k0_t6 v413), ∀ (k0_h3 : k0_cond3 i = 1#1), ∀ a, S8x128.size a = 0 ∨ (k0_off214 v413) a + (![2052, 1] : Fin 2 → Nat) a * (S8x128.size a - 1) < S16416x128.size a := fun i k0_t6 v413 k0_hw43 k0_h3 => k0_hw43.2.2.1 k0_h3
theorem k0_off215_inb : ∀ (i : grid0.Coords) (k0_t6 : Fin k0_t6_loop.trips) (v413 : BitVec 32) (k0_hw43 : k0_chk43 i k0_t6 v413), ∀ (k0_h3 : k0_cond3 i = 1#1), ∀ a, S8x128.size a = 0 ∨ (k0_off215 v413) a + (![516, 1] : Fin 2 → Nat) a * (S8x128.size a - 1) < S4128x128.size a := fun i k0_t6 v413 k0_hw43 k0_h3 => k0_hw43.2.2.2.1 k0_h3
theorem k0_off246_inb : ∀ (i : grid0.Coords) (k0_t6 : Fin k0_t6_loop.trips) (v413 : BitVec 32) (k0_hw43 : k0_chk43 i k0_t6 v413), ∀ (k0_h3 : k0_cond3 i = 1#1), ∀ a, (k0_off246 k0_t6 v413) a + S8x128.size a ≤ S20480x128.size a := fun i k0_t6 v413 k0_hw43 k0_h3 => k0_hw43.2.2.2.2 k0_h3

def k0_off247 (k0_t6 : Fin k0_t6_loop.trips) (v443 : BitVec 32) : Fin 2 → Nat :=
  let c27030_i32_268 : BitVec 32 := 27030#32
  let c14_i32_264 : BitVec 32 := 14#32
  let v449 : BitVec 32 := Scalar.shrsi v443 c14_i32_264
  let c63_i32_265 : BitVec 32 := 63#32
  let v450 : BitVec 32 := Scalar.andi v449 c63_i32_265
  let c4_i32_266 : BitVec 32 := 4#32
  let v451 : BitVec 32 := Scalar.shrsi v450 c4_i32_266
  let v452 : BitVec 32 := Scalar.xori v450 v451
  let c15_i32_267 : BitVec 32 := 15#32
  let v453 : BitVec 32 := Scalar.andi v452 c15_i32_267
  let v454 : BitVec 32 := Scalar.shrsi c27030_i32_268 v453
  let c1_i32_269 : BitVec 32 := 1#32
  let v455 : BitVec 32 := Scalar.andi v454 c1_i32_269
  let c10240_i32_270 : BitVec 32 := 10240#32
  let v456 : BitVec 32 := Scalar.muli v455 c10240_i32_270
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c11_i32_271 : BitVec 32 := 11#32
  let v457 : BitVec 32 := Scalar.addi v110 c11_i32_271
  let c8_i32_272 : BitVec 32 := 8#32
  let v458 : BitVec 32 := Scalar.muli v457 c8_i32_272
  let v459 : BitVec 32 := Scalar.addi v456 v458
  let v460 : BitVec 32 := v459
  let v679 : Index := Scalar.indexCast v460
  let c0_373 : Index := 0#32
  ![v679.toNat, 0]

def k0_chk44 (i : grid0.Coords) (k0_t6 : Fin k0_t6_loop.trips) (v443 : BitVec 32) : Prop :=
  (∀ (k0_h3 : k0_cond3 i = 1#1), 8 ∣ (k0_mult55 k0_t6 v443).toNat) ∧
  (∀ (k0_h3 : k0_cond3 i = 1#1), ∀ a, (k0_off217 k0_t6 v443) a + S8x128.size a ≤ S20480x128.size a) ∧
  (∀ (k0_h3 : k0_cond3 i = 1#1), ∀ a, S8x128.size a = 0 ∨ (k0_off218 v443) a + (![2052, 1] : Fin 2 → Nat) a * (S8x128.size a - 1) < S16416x128.size a) ∧
  (∀ (k0_h3 : k0_cond3 i = 1#1), ∀ a, S8x128.size a = 0 ∨ (k0_off219 v443) a + (![516, 1] : Fin 2 → Nat) a * (S8x128.size a - 1) < S4128x128.size a) ∧
  (∀ (k0_h3 : k0_cond3 i = 1#1), ∀ a, (k0_off247 k0_t6 v443) a + S8x128.size a ≤ S20480x128.size a)
theorem k0_mult55_dvd : ∀ (i : grid0.Coords) (k0_t6 : Fin k0_t6_loop.trips) (v443 : BitVec 32) (k0_hw44 : k0_chk44 i k0_t6 v443), ∀ (k0_h3 : k0_cond3 i = 1#1), 8 ∣ (k0_mult55 k0_t6 v443).toNat := fun i k0_t6 v443 k0_hw44 k0_h3 => k0_hw44.1 k0_h3
theorem k0_off217_inb : ∀ (i : grid0.Coords) (k0_t6 : Fin k0_t6_loop.trips) (v443 : BitVec 32) (k0_hw44 : k0_chk44 i k0_t6 v443), ∀ (k0_h3 : k0_cond3 i = 1#1), ∀ a, (k0_off217 k0_t6 v443) a + S8x128.size a ≤ S20480x128.size a := fun i k0_t6 v443 k0_hw44 k0_h3 => k0_hw44.2.1 k0_h3
theorem k0_off218_inb : ∀ (i : grid0.Coords) (k0_t6 : Fin k0_t6_loop.trips) (v443 : BitVec 32) (k0_hw44 : k0_chk44 i k0_t6 v443), ∀ (k0_h3 : k0_cond3 i = 1#1), ∀ a, S8x128.size a = 0 ∨ (k0_off218 v443) a + (![2052, 1] : Fin 2 → Nat) a * (S8x128.size a - 1) < S16416x128.size a := fun i k0_t6 v443 k0_hw44 k0_h3 => k0_hw44.2.2.1 k0_h3
theorem k0_off219_inb : ∀ (i : grid0.Coords) (k0_t6 : Fin k0_t6_loop.trips) (v443 : BitVec 32) (k0_hw44 : k0_chk44 i k0_t6 v443), ∀ (k0_h3 : k0_cond3 i = 1#1), ∀ a, S8x128.size a = 0 ∨ (k0_off219 v443) a + (![516, 1] : Fin 2 → Nat) a * (S8x128.size a - 1) < S4128x128.size a := fun i k0_t6 v443 k0_hw44 k0_h3 => k0_hw44.2.2.2.1 k0_h3
theorem k0_off247_inb : ∀ (i : grid0.Coords) (k0_t6 : Fin k0_t6_loop.trips) (v443 : BitVec 32) (k0_hw44 : k0_chk44 i k0_t6 v443), ∀ (k0_h3 : k0_cond3 i = 1#1), ∀ a, (k0_off247 k0_t6 v443) a + S8x128.size a ≤ S20480x128.size a := fun i k0_t6 v443 k0_hw44 k0_h3 => k0_hw44.2.2.2.2 k0_h3

def k0_off248 (k0_t6 : Fin k0_t6_loop.trips) (v473 : BitVec 32) : Fin 2 → Nat :=
  let c27030_i32_286 : BitVec 32 := 27030#32
  let c14_i32_282 : BitVec 32 := 14#32
  let v479 : BitVec 32 := Scalar.shrsi v473 c14_i32_282
  let c63_i32_283 : BitVec 32 := 63#32
  let v480 : BitVec 32 := Scalar.andi v479 c63_i32_283
  let c4_i32_284 : BitVec 32 := 4#32
  let v481 : BitVec 32 := Scalar.shrsi v480 c4_i32_284
  let v482 : BitVec 32 := Scalar.xori v480 v481
  let c15_i32_285 : BitVec 32 := 15#32
  let v483 : BitVec 32 := Scalar.andi v482 c15_i32_285
  let v484 : BitVec 32 := Scalar.shrsi c27030_i32_286 v483
  let c1_i32_287 : BitVec 32 := 1#32
  let v485 : BitVec 32 := Scalar.andi v484 c1_i32_287
  let c10240_i32_288 : BitVec 32 := 10240#32
  let v486 : BitVec 32 := Scalar.muli v485 c10240_i32_288
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c12_i32_289 : BitVec 32 := 12#32
  let v487 : BitVec 32 := Scalar.addi v110 c12_i32_289
  let c8_i32_290 : BitVec 32 := 8#32
  let v488 : BitVec 32 := Scalar.muli v487 c8_i32_290
  let v489 : BitVec 32 := Scalar.addi v486 v488
  let v490 : BitVec 32 := v489
  let v687 : Index := Scalar.indexCast v490
  let c0_375 : Index := 0#32
  ![v687.toNat, 0]

def k0_chk45 (i : grid0.Coords) (k0_t6 : Fin k0_t6_loop.trips) (v473 : BitVec 32) : Prop :=
  (∀ (k0_h3 : k0_cond3 i = 1#1), 8 ∣ (k0_mult56 k0_t6 v473).toNat) ∧
  (∀ (k0_h3 : k0_cond3 i = 1#1), ∀ a, (k0_off221 k0_t6 v473) a + S8x128.size a ≤ S20480x128.size a) ∧
  (∀ (k0_h3 : k0_cond3 i = 1#1), ∀ a, S8x128.size a = 0 ∨ (k0_off222 v473) a + (![2052, 1] : Fin 2 → Nat) a * (S8x128.size a - 1) < S16416x128.size a) ∧
  (∀ (k0_h3 : k0_cond3 i = 1#1), ∀ a, S8x128.size a = 0 ∨ (k0_off223 v473) a + (![516, 1] : Fin 2 → Nat) a * (S8x128.size a - 1) < S4128x128.size a) ∧
  (∀ (k0_h3 : k0_cond3 i = 1#1), ∀ a, (k0_off248 k0_t6 v473) a + S8x128.size a ≤ S20480x128.size a)
theorem k0_mult56_dvd : ∀ (i : grid0.Coords) (k0_t6 : Fin k0_t6_loop.trips) (v473 : BitVec 32) (k0_hw45 : k0_chk45 i k0_t6 v473), ∀ (k0_h3 : k0_cond3 i = 1#1), 8 ∣ (k0_mult56 k0_t6 v473).toNat := fun i k0_t6 v473 k0_hw45 k0_h3 => k0_hw45.1 k0_h3
theorem k0_off221_inb : ∀ (i : grid0.Coords) (k0_t6 : Fin k0_t6_loop.trips) (v473 : BitVec 32) (k0_hw45 : k0_chk45 i k0_t6 v473), ∀ (k0_h3 : k0_cond3 i = 1#1), ∀ a, (k0_off221 k0_t6 v473) a + S8x128.size a ≤ S20480x128.size a := fun i k0_t6 v473 k0_hw45 k0_h3 => k0_hw45.2.1 k0_h3
theorem k0_off222_inb : ∀ (i : grid0.Coords) (k0_t6 : Fin k0_t6_loop.trips) (v473 : BitVec 32) (k0_hw45 : k0_chk45 i k0_t6 v473), ∀ (k0_h3 : k0_cond3 i = 1#1), ∀ a, S8x128.size a = 0 ∨ (k0_off222 v473) a + (![2052, 1] : Fin 2 → Nat) a * (S8x128.size a - 1) < S16416x128.size a := fun i k0_t6 v473 k0_hw45 k0_h3 => k0_hw45.2.2.1 k0_h3
theorem k0_off223_inb : ∀ (i : grid0.Coords) (k0_t6 : Fin k0_t6_loop.trips) (v473 : BitVec 32) (k0_hw45 : k0_chk45 i k0_t6 v473), ∀ (k0_h3 : k0_cond3 i = 1#1), ∀ a, S8x128.size a = 0 ∨ (k0_off223 v473) a + (![516, 1] : Fin 2 → Nat) a * (S8x128.size a - 1) < S4128x128.size a := fun i k0_t6 v473 k0_hw45 k0_h3 => k0_hw45.2.2.2.1 k0_h3
theorem k0_off248_inb : ∀ (i : grid0.Coords) (k0_t6 : Fin k0_t6_loop.trips) (v473 : BitVec 32) (k0_hw45 : k0_chk45 i k0_t6 v473), ∀ (k0_h3 : k0_cond3 i = 1#1), ∀ a, (k0_off248 k0_t6 v473) a + S8x128.size a ≤ S20480x128.size a := fun i k0_t6 v473 k0_hw45 k0_h3 => k0_hw45.2.2.2.2 k0_h3

def k0_off249 (k0_t6 : Fin k0_t6_loop.trips) (v503 : BitVec 32) : Fin 2 → Nat :=
  let c27030_i32_304 : BitVec 32 := 27030#32
  let c14_i32_300 : BitVec 32 := 14#32
  let v509 : BitVec 32 := Scalar.shrsi v503 c14_i32_300
  let c63_i32_301 : BitVec 32 := 63#32
  let v510 : BitVec 32 := Scalar.andi v509 c63_i32_301
  let c4_i32_302 : BitVec 32 := 4#32
  let v511 : BitVec 32 := Scalar.shrsi v510 c4_i32_302
  let v512 : BitVec 32 := Scalar.xori v510 v511
  let c15_i32_303 : BitVec 32 := 15#32
  let v513 : BitVec 32 := Scalar.andi v512 c15_i32_303
  let v514 : BitVec 32 := Scalar.shrsi c27030_i32_304 v513
  let c1_i32_305 : BitVec 32 := 1#32
  let v515 : BitVec 32 := Scalar.andi v514 c1_i32_305
  let c10240_i32_306 : BitVec 32 := 10240#32
  let v516 : BitVec 32 := Scalar.muli v515 c10240_i32_306
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c13_i32_307 : BitVec 32 := 13#32
  let v517 : BitVec 32 := Scalar.addi v110 c13_i32_307
  let c8_i32_308 : BitVec 32 := 8#32
  let v518 : BitVec 32 := Scalar.muli v517 c8_i32_308
  let v519 : BitVec 32 := Scalar.addi v516 v518
  let v520 : BitVec 32 := v519
  let v695 : Index := Scalar.indexCast v520
  let c0_377 : Index := 0#32
  ![v695.toNat, 0]

def k0_chk46 (i : grid0.Coords) (k0_t6 : Fin k0_t6_loop.trips) (v503 : BitVec 32) : Prop :=
  (∀ (k0_h3 : k0_cond3 i = 1#1), 8 ∣ (k0_mult57 k0_t6 v503).toNat) ∧
  (∀ (k0_h3 : k0_cond3 i = 1#1), ∀ a, (k0_off225 k0_t6 v503) a + S8x128.size a ≤ S20480x128.size a) ∧
  (∀ (k0_h3 : k0_cond3 i = 1#1), ∀ a, S8x128.size a = 0 ∨ (k0_off226 v503) a + (![2052, 1] : Fin 2 → Nat) a * (S8x128.size a - 1) < S16416x128.size a) ∧
  (∀ (k0_h3 : k0_cond3 i = 1#1), ∀ a, S8x128.size a = 0 ∨ (k0_off227 v503) a + (![516, 1] : Fin 2 → Nat) a * (S8x128.size a - 1) < S4128x128.size a) ∧
  (∀ (k0_h3 : k0_cond3 i = 1#1), ∀ a, (k0_off249 k0_t6 v503) a + S8x128.size a ≤ S20480x128.size a)
theorem k0_mult57_dvd : ∀ (i : grid0.Coords) (k0_t6 : Fin k0_t6_loop.trips) (v503 : BitVec 32) (k0_hw46 : k0_chk46 i k0_t6 v503), ∀ (k0_h3 : k0_cond3 i = 1#1), 8 ∣ (k0_mult57 k0_t6 v503).toNat := fun i k0_t6 v503 k0_hw46 k0_h3 => k0_hw46.1 k0_h3
theorem k0_off225_inb : ∀ (i : grid0.Coords) (k0_t6 : Fin k0_t6_loop.trips) (v503 : BitVec 32) (k0_hw46 : k0_chk46 i k0_t6 v503), ∀ (k0_h3 : k0_cond3 i = 1#1), ∀ a, (k0_off225 k0_t6 v503) a + S8x128.size a ≤ S20480x128.size a := fun i k0_t6 v503 k0_hw46 k0_h3 => k0_hw46.2.1 k0_h3
theorem k0_off226_inb : ∀ (i : grid0.Coords) (k0_t6 : Fin k0_t6_loop.trips) (v503 : BitVec 32) (k0_hw46 : k0_chk46 i k0_t6 v503), ∀ (k0_h3 : k0_cond3 i = 1#1), ∀ a, S8x128.size a = 0 ∨ (k0_off226 v503) a + (![2052, 1] : Fin 2 → Nat) a * (S8x128.size a - 1) < S16416x128.size a := fun i k0_t6 v503 k0_hw46 k0_h3 => k0_hw46.2.2.1 k0_h3
theorem k0_off227_inb : ∀ (i : grid0.Coords) (k0_t6 : Fin k0_t6_loop.trips) (v503 : BitVec 32) (k0_hw46 : k0_chk46 i k0_t6 v503), ∀ (k0_h3 : k0_cond3 i = 1#1), ∀ a, S8x128.size a = 0 ∨ (k0_off227 v503) a + (![516, 1] : Fin 2 → Nat) a * (S8x128.size a - 1) < S4128x128.size a := fun i k0_t6 v503 k0_hw46 k0_h3 => k0_hw46.2.2.2.1 k0_h3
theorem k0_off249_inb : ∀ (i : grid0.Coords) (k0_t6 : Fin k0_t6_loop.trips) (v503 : BitVec 32) (k0_hw46 : k0_chk46 i k0_t6 v503), ∀ (k0_h3 : k0_cond3 i = 1#1), ∀ a, (k0_off249 k0_t6 v503) a + S8x128.size a ≤ S20480x128.size a := fun i k0_t6 v503 k0_hw46 k0_h3 => k0_hw46.2.2.2.2 k0_h3

def k0_off250 (k0_t6 : Fin k0_t6_loop.trips) (v533 : BitVec 32) : Fin 2 → Nat :=
  let c27030_i32_323 : BitVec 32 := 27030#32
  let c14_i32_319 : BitVec 32 := 14#32
  let v539 : BitVec 32 := Scalar.shrsi v533 c14_i32_319
  let c63_i32_320 : BitVec 32 := 63#32
  let v540 : BitVec 32 := Scalar.andi v539 c63_i32_320
  let c4_i32_321 : BitVec 32 := 4#32
  let v541 : BitVec 32 := Scalar.shrsi v540 c4_i32_321
  let v542 : BitVec 32 := Scalar.xori v540 v541
  let c15_i32_322 : BitVec 32 := 15#32
  let v543 : BitVec 32 := Scalar.andi v542 c15_i32_322
  let v544 : BitVec 32 := Scalar.shrsi c27030_i32_323 v543
  let c1_i32_324 : BitVec 32 := 1#32
  let v545 : BitVec 32 := Scalar.andi v544 c1_i32_324
  let c10240_i32_325 : BitVec 32 := 10240#32
  let v546 : BitVec 32 := Scalar.muli v545 c10240_i32_325
  let c0_i32_51 : BitVec 32 := 0#32
  let c1_i32_53 : BitVec 32 := 1#32
  let arg14 : BitVec 32 := Scf.iv c0_i32_51 c1_i32_53 k0_t6
  let c16_i32 : BitVec 32 := 16#32
  let v110 : BitVec 32 := Scalar.muli arg14 c16_i32
  let c14_i32_326 : BitVec 32 := 14#32
  let v547 : BitVec 32 := Scalar.addi v110 c14_i32_326
  let c8_i32_327 : BitVec 32 := 8#32
  let v548 : BitVec 32 := Scalar.muli v547 c8_i32_327
  let v549 : BitVec 32 := Scalar.addi v546 v548
  let v550 : BitVec 32 := v549
  let v703 : Index := Scalar.indexCast v550
  let c0_379 : Index := 0#32
  ![v703.toNat, 0]

def k0_chk47 (i : grid0.Coords) (k0_t6 : Fin k0_t6_loop.trips) (v533 : BitVec 32) : Prop :=
  (∀ (k0_h3 : k0_cond3 i = 1#1), 8 ∣ (k0_mult58 k0_t6 v533).toNat) ∧
  (∀ (k0_h3 : k0_cond3 i = 1#1), ∀ a, (k0_off229 k0_t6 v533) a + S8x128.size a ≤ S20480x128.size a) ∧
  (∀ (k0_h3 : k0_cond3 i = 1#1), ∀ a, S8x128.size a = 0 ∨ (k0_off230 v533) a + (![2052, 1] : Fin 2 → Nat) a * (S8x128.size a - 1) < S16416x128.size a) ∧
  (∀ (k0_h3 : k0_cond3 i = 1#1), ∀ a, S8x128.size a = 0 ∨ (k0_off231 v533) a + (![516, 1] : Fin 2 → Nat) a * (S8x128.size a - 1) < S4128x128.size a) ∧
  (∀ (k0_h3 : k0_cond3 i = 1#1), ∀ a, (k0_off250 k0_t6 v533) a + S8x128.size a ≤ S20480x128.size a)
theorem k0_mult58_dvd : ∀ (i : grid0.Coords) (k0_t6 : Fin k0_t6_loop.trips) (v533 : BitVec 32) (k0_hw47 : k0_chk47 i k0_t6 v533), ∀ (k0_h3 : k0_cond3 i = 1#1), 8 ∣ (k0_mult58 k0_t6 v533).toNat := fun i k0_t6 v533 k0_hw47 k0_h3 => k0_hw47.1 k0_h3
theorem k0_off229_inb : ∀ (i : grid0.Coords) (k0_t6 : Fin k0_t6_loop.trips) (v533 : BitVec 32) (k0_hw47 : k0_chk47 i k0_t6 v533), ∀ (k0_h3 : k0_cond3 i = 1#1), ∀ a, (k0_off229 k0_t6 v533) a + S8x128.size a ≤ S20480x128.size a := fun i k0_t6 v533 k0_hw47 k0_h3 => k0_hw47.2.1 k0_h3
theorem k0_off230_inb : ∀ (i : grid0.Coords) (k0_t6 : Fin k0_t6_loop.trips) (v533 : BitVec 32) (k0_hw47 : k0_chk47 i k0_t6 v533), ∀ (k0_h3 : k0_cond3 i = 1#1), ∀ a, S8x128.size a = 0 ∨ (k0_off230 v533) a + (![2052, 1] : Fin 2 → Nat) a * (S8x128.size a - 1) < S16416x128.size a := fun i k0_t6 v533 k0_hw47 k0_h3 => k0_hw47.2.2.1 k0_h3
theorem k0_off231_inb : ∀ (i : grid0.Coords) (k0_t6 : Fin k0_t6_loop.trips) (v533 : BitVec 32) (k0_hw47 : k0_chk47 i k0_t6 v533), ∀ (k0_h3 : k0_cond3 i = 1#1), ∀ a, S8x128.size a = 0 ∨ (k0_off231 v533) a + (![516, 1] : Fin 2 → Nat) a * (S8x128.size a - 1) < S4128x128.size a := fun i k0_t6 v533 k0_hw47 k0_h3 => k0_hw47.2.2.2.1 k0_h3
theorem k0_off250_inb : ∀ (i : grid0.Coords) (k0_t6 : Fin k0_t6_loop.trips) (v533 : BitVec 32) (k0_hw47 : k0_chk47 i k0_t6 v533), ∀ (k0_h3 : k0_cond3 i = 1#1), ∀ a, (k0_off250 k0_t6 v533) a + S8x128.size a ≤ S20480x128.size a := fun i k0_t6 v533 k0_hw47 k0_h3 => k0_hw47.2.2.2.2 k0_h3

@[reducible] def k0_t7_loop : Scf.Loop 32 :=
  let c0_i32_62 : BitVec 32 := 0#32
  let c160_i32 : BitVec 32 := 160#32
  let v109 : BitVec 32 := Scalar.addi c0_i32_62 c160_i32
  let c1_i32_63 : BitVec 32 := 1#32
  ⟨c0_i32_62, v109, c1_i32_63⟩
def k0_mult60 (k0_t7 : Fin k0_t7_loop.trips) : BitVec 32 :=
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  v110
def k0_off251 (k0_t7 : Fin k0_t7_loop.trips) (c0_i32_66 : BitVec 32) : Fin 2 → Nat :=
  let c1 : Index := 1#32
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let v112 : BitVec 32 := Scalar.addi v111 c0_i32_66
  let v113 : Index := Scalar.indexCast v112
  ![1, v113.toNat]
def k0_mult61 (k0_t7 : Fin k0_t7_loop.trips) : BitVec 32 :=
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let c0_i32_67 : BitVec 32 := 0#32
  let v115 : BitVec 32 := Scalar.addi v111 c0_i32_67
  let c8_i32_68 : BitVec 32 := 8#32
  let v116 : BitVec 32 := Scalar.muli v115 c8_i32_68
  v116
def k0_off252 (k0_t7 : Fin k0_t7_loop.trips) (c0_i32_67 : BitVec 32) : Fin 2 → Nat :=
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let v115 : BitVec 32 := Scalar.addi v111 c0_i32_67
  let c8_i32_68 : BitVec 32 := 8#32
  let v116 : BitVec 32 := Scalar.muli v115 c8_i32_68
  let v117 : BitVec 32 := v116
  let v143 : Index := Scalar.indexCast v117
  let c0_76 : Index := 0#32
  ![v143.toNat, 0]
def k0_off253 (k0_t7 : Fin k0_t7_loop.trips) (c0_i32_67 : BitVec 32) : Fin 2 → Nat :=
  let c10240_i32 : BitVec 32 := 10240#32
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let v115 : BitVec 32 := Scalar.addi v111 c0_i32_67
  let c8_i32_68 : BitVec 32 := 8#32
  let v116 : BitVec 32 := Scalar.muli v115 c8_i32_68
  let v117 : BitVec 32 := v116
  let v145 : BitVec 32 := Scalar.addi c10240_i32 v117
  let v146 : Index := Scalar.indexCast v145
  let c0_77 : Index := 0#32
  ![v146.toNat, 0]
def k0_mult62 (k0_t7 : Fin k0_t7_loop.trips) : BitVec 32 :=
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let c1_i32_85 : BitVec 32 := 1#32
  let v164 : BitVec 32 := Scalar.addi v111 c1_i32_85
  let c8_i32_86 : BitVec 32 := 8#32
  let v165 : BitVec 32 := Scalar.muli v164 c8_i32_86
  v165
def k0_mult63 (k0_t7 : Fin k0_t7_loop.trips) : BitVec 32 :=
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let c2_i32_107 : BitVec 32 := 2#32
  let v213 : BitVec 32 := Scalar.addi v111 c2_i32_107
  let c8_i32_108 : BitVec 32 := 8#32
  let v214 : BitVec 32 := Scalar.muli v213 c8_i32_108
  v214
def k0_mult64 (k0_t7 : Fin k0_t7_loop.trips) : BitVec 32 :=
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let c3_i32_129 : BitVec 32 := 3#32
  let v262 : BitVec 32 := Scalar.addi v111 c3_i32_129
  let c8_i32_130 : BitVec 32 := 8#32
  let v263 : BitVec 32 := Scalar.muli v262 c8_i32_130
  v263
def k0_mult65 (k0_t7 : Fin k0_t7_loop.trips) : BitVec 32 :=
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let c4_i32_150 : BitVec 32 := 4#32
  let v311 : BitVec 32 := Scalar.addi v111 c4_i32_150
  let c8_i32_151 : BitVec 32 := 8#32
  let v312 : BitVec 32 := Scalar.muli v311 c8_i32_151
  v312
def k0_mult66 (k0_t7 : Fin k0_t7_loop.trips) : BitVec 32 :=
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let c5_i32_171 : BitVec 32 := 5#32
  let v360 : BitVec 32 := Scalar.addi v111 c5_i32_171
  let c8_i32_172 : BitVec 32 := 8#32
  let v361 : BitVec 32 := Scalar.muli v360 c8_i32_172
  v361
def k0_mult67 (k0_t7 : Fin k0_t7_loop.trips) : BitVec 32 :=
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let c6_i32_192 : BitVec 32 := 6#32
  let v409 : BitVec 32 := Scalar.addi v111 c6_i32_192
  let c8_i32_193 : BitVec 32 := 8#32
  let v410 : BitVec 32 := Scalar.muli v409 c8_i32_193
  v410
def k0_mult68 (k0_t7 : Fin k0_t7_loop.trips) : BitVec 32 :=
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let c7_i32_214 : BitVec 32 := 7#32
  let v458 : BitVec 32 := Scalar.addi v111 c7_i32_214
  let c8_i32_215 : BitVec 32 := 8#32
  let v459 : BitVec 32 := Scalar.muli v458 c8_i32_215
  v459
def k0_off254 (k0_t7 : Fin k0_t7_loop.trips) : Fin 3 → Nat :=
  let c0_236 : Index := 0#32
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let v512 : Index := Scalar.indexCast v111
  let c0_237 : Index := 0#32
  ![0, v512.toNat, 0]
def k0_off255 (k0_t7 : Fin k0_t7_loop.trips) : Fin 3 → Nat :=
  let c0_238 : Index := 0#32
  let c0_i32_62 : BitVec 32 := 0#32
  let c1_i32_63 : BitVec 32 := 1#32
  let arg14 : BitVec 32 := Scf.iv c0_i32_62 c1_i32_63 k0_t7
  let c8_i32_65 : BitVec 32 := 8#32
  let v110 : BitVec 32 := Scalar.muli arg14 c8_i32_65
  let v111 : BitVec 32 := v110
  let v519 : Index := Scalar.indexCast v111
  let c128 : Index := 128#32
  ![0, v519.toNat, 128]
def cc0_transform_0 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

abbrev stage0_0 : Fin 2 → Memref sig .tc .vmem S1x160x32768 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1280x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x1048576x160 : Shape := ⟨3, ![2, 1048576, 160]⟩
abbrev S2x1048576 : Shape := ⟨2, ![2, 1048576]⟩
abbrev S2x1280 : Shape := ⟨2, ![2, 1280]⟩
abbrev S2x1048576x1 : Shape := ⟨3, ![2, 1048576, 1]⟩
abbrev S2x64x128x128x160 : Shape := ⟨5, ![2, 64, 128, 128, 160]⟩
abbrev S64x64 : Shape := ⟨2, ![64, 64]⟩
abbrev S_ : Shape := ⟨0, ![]⟩
abbrev S64x2x128x128x160 : Shape := ⟨5, ![64, 2, 128, 128, 160]⟩
abbrev S128x128 : Shape := ⟨2, ![128, 128]⟩
abbrev S128x2x64x128x160 : Shape := ⟨5, ![128, 2, 64, 128, 160]⟩
abbrev S2x8192x128x160 : Shape := ⟨4, ![2, 8192, 128, 160]⟩
abbrev S2 : Shape := ⟨1, ![2]⟩
abbrev S2x1 : Shape := ⟨2, ![2, 1]⟩
abbrev S2x1280x1 : Shape := ⟨3, ![2, 1280, 1]⟩
abbrev S2x1280x2 : Shape := ⟨3, ![2, 1280, 2]⟩
abbrev S2x1280x128x160 : Shape := ⟨4, ![2, 1280, 128, 160]⟩
abbrev S2x1280x128 : Shape := ⟨3, ![2, 1280, 128]⟩
abbrev S2x1280x160 : Shape := ⟨3, ![2, 1280, 160]⟩

abbrev nBuf : Space → Nat
  | .hbm => 95
  | .vmem => 4
  | .smem => 0
  | _ => 0

abbrev bufTy : (tb : Table) → Fin (tcTables nBuf tb) → BufTy
  | .hbm, ⟨0, _⟩ => ⟨S2x1048576x160, .i8⟩
  | .hbm, ⟨1, _⟩ => ⟨S2x1048576, .f32⟩
  | .hbm, ⟨2, _⟩ => ⟨S2x1048576, .i8⟩
  | .hbm, ⟨3, _⟩ => ⟨S2x1280, .i32⟩
  | .hbm, ⟨4, _⟩ => ⟨S2x1048576x1, .f32⟩
  | .hbm, ⟨5, _⟩ => ⟨S2x1048576x1, .i8⟩
  | .hbm, ⟨6, _⟩ => ⟨S2x1048576x160, .bf16⟩
  | .hbm, ⟨7, _⟩ => ⟨S2x64x128x128x160, .bf16⟩
  | .hbm, ⟨8, _⟩ => ⟨S64x64, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S_, .i32⟩
  | .hbm, ⟨19, _⟩ => ⟨S64x64, .i32⟩
  | .hbm, ⟨20, _⟩ => ⟨S64x64, .i32⟩
  | .hbm, ⟨21, _⟩ => ⟨S64x64, .bf16⟩
  | .hbm, ⟨22, _⟩ => ⟨S64x2x128x128x160, .f32⟩
  | .hbm, ⟨23, _⟩ => ⟨S2x64x128x128x160, .f32⟩
  | .hbm, ⟨24, _⟩ => ⟨S128x128, .i32⟩
  | .hbm, ⟨25, _⟩ => ⟨S128x128, .i32⟩
  | .hbm, ⟨26, _⟩ => ⟨S128x128, .i32⟩
  | .hbm, ⟨27, _⟩ => ⟨S128x128, .i32⟩
  | .hbm, ⟨28, _⟩ => ⟨S_, .i32⟩
  | .hbm, ⟨29, _⟩ => ⟨S128x128, .i32⟩
  | .hbm, ⟨30, _⟩ => ⟨S128x128, .i32⟩
  | .hbm, ⟨31, _⟩ => ⟨S_, .i32⟩
  | .hbm, ⟨32, _⟩ => ⟨S128x128, .i32⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S128x128, .f32⟩
  | .hbm, ⟨38, _⟩ => ⟨S128x2x64x128x160, .f32⟩
  | .hbm, ⟨39, _⟩ => ⟨S2x64x128x128x160, .f32⟩
  | .hbm, ⟨40, _⟩ => ⟨S2x8192x128x160, .f32⟩
  | .hbm, ⟨41, _⟩ => ⟨S_, .i32⟩
  | .hbm, ⟨42, _⟩ => ⟨S2x1280, .i32⟩
  | .hbm, ⟨43, _⟩ => ⟨S2x1280, .i32⟩
  | .hbm, ⟨44, _⟩ => ⟨S_, .i32⟩
  | .hbm, ⟨45, _⟩ => ⟨S2x1280, .i32⟩
  | .hbm, ⟨46, _⟩ => ⟨S2x1280, .i32⟩
  | .hbm, ⟨47, _⟩ => ⟨S2, .i32⟩
  | .hbm, ⟨48, _⟩ => ⟨S2x1, .i32⟩
  | .hbm, ⟨49, _⟩ => ⟨S_, .i32⟩
  | .hbm, ⟨50, _⟩ => ⟨S2x1, .i32⟩
  | .hbm, ⟨51, _⟩ => ⟨S2x1, .i1⟩
  | .hbm, ⟨52, _⟩ => ⟨S_, .i32⟩
  | .hbm, ⟨53, _⟩ => ⟨S2x1, .i32⟩
  | .hbm, ⟨54, _⟩ => ⟨S2x1, .i32⟩
  | .hbm, ⟨55, _⟩ => ⟨S2x1, .i32⟩
  | .hbm, ⟨56, _⟩ => ⟨S_, .i32⟩
  | .hbm, ⟨57, _⟩ => ⟨S2x1280, .i32⟩
  | .hbm, ⟨58, _⟩ => ⟨S2x1280, .i1⟩
  | .hbm, ⟨59, _⟩ => ⟨S_, .i32⟩
  | .hbm, ⟨60, _⟩ => ⟨S2x1280, .i32⟩
  | .hbm, ⟨61, _⟩ => ⟨S2x1280, .i32⟩
  | .hbm, ⟨62, _⟩ => ⟨S2x1280, .i32⟩
  | .hbm, ⟨63, _⟩ => ⟨S2x1280, .i32⟩
  | .hbm, ⟨64, _⟩ => ⟨S2x1280x1, .i32⟩
  | .hbm, ⟨65, _⟩ => ⟨S2x1280x1, .i32⟩
  | .hbm, ⟨66, _⟩ => ⟨S2x1280x2, .i32⟩
  | .hbm, ⟨67, _⟩ => ⟨S2x1280x128x160, .f32⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .i32⟩
  | .hbm, ⟨72, _⟩ => ⟨S_, .i32⟩
  | .hbm, ⟨73, _⟩ => ⟨S128x128, .i32⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .f32⟩
  | .hbm, ⟨82, _⟩ => ⟨S_, .i32⟩
  | .hbm, ⟨83, _⟩ => ⟨S2x1280, .i32⟩
  | .hbm, ⟨84, _⟩ => ⟨S2x1280, .i1⟩
  | .hbm, ⟨85, _⟩ => ⟨S_, .i32⟩
  | .hbm, ⟨86, _⟩ => ⟨S2x1280, .i32⟩
  | .hbm, ⟨87, _⟩ => ⟨S2x1280, .i32⟩
  | .hbm, ⟨88, _⟩ => ⟨S2x1280, .i32⟩
  | .hbm, ⟨89, _⟩ => ⟨S2x1280x1, .i32⟩
  | .hbm, ⟨90, _⟩ => ⟨S2x1280x128, .f32⟩
  | .hbm, ⟨91, _⟩ => ⟨S2x1280x160, .f32⟩
  | .hbm, ⟨92, _⟩ => ⟨S_, .f32⟩
  | .hbm, ⟨93, _⟩ => ⟨S2x1280x160, .f32⟩
  | .hbm, ⟨94, _⟩ => ⟨S2x1280x160, .f32⟩
  | .local _ .vmem, ⟨0, _⟩ => ⟨S2x1048576x160, .i8⟩
  | .local _ .vmem, ⟨1, _⟩ => ⟨S2x1048576x1, .f32⟩
  | .local _ .vmem, ⟨2, _⟩ => ⟨S2x1048576x1, .i8⟩
  | .local _ .vmem, ⟨3, _⟩ => ⟨S2x1048576x160, .bf16⟩
  | _, _ => ⟨S2x1048576x160, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_7 : Ref sig .tc := ⟨.hbm, 49, rfl⟩
abbrev main_v37 : Ref sig .tc := ⟨.hbm, 50, rfl⟩
abbrev main_v38 : Ref sig .tc := ⟨.hbm, 51, rfl⟩
abbrev main_c_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_9 : Ref sig .tc := ⟨.hbm, 56, rfl⟩
abbrev main_v42 : Ref sig .tc := ⟨.hbm, 57, rfl⟩
abbrev main_v43 : Ref sig .tc := ⟨.hbm, 58, rfl⟩
abbrev main_c_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_11 : Ref sig .tc := ⟨.hbm, 72, rfl⟩
abbrev main_v56 : Ref sig .tc := ⟨.hbm, 73, rfl⟩
abbrev main_v57 : Ref sig .tc := ⟨.hbm, 74, rfl⟩
abbrev main_c_12 : Ref sig .tc := ⟨.hbm, 75, rfl⟩
abbrev main_v58 : Ref sig .tc := ⟨.hbm, 76, rfl⟩
abbrev main_v59 : Ref sig .tc := ⟨.hbm, 77, rfl⟩
abbrev main_c_13 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_14 : Ref sig .tc := ⟨.hbm, 82, rfl⟩
abbrev main_v63 : Ref sig .tc := ⟨.hbm, 83, rfl⟩
abbrev main_v64 : Ref sig .tc := ⟨.hbm, 84, rfl⟩
abbrev main_c_15 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst : Ref sig .tc := ⟨.hbm, 92, rfl⟩
abbrev main_v71 : Ref sig .tc := ⟨.hbm, 93, rfl⟩
abbrev main_v72 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x1048576x160 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1048576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1048576x1 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1048576x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.lean ====
/-
  The words of the sample loops: from an index word `w` of the table and the chunk number `hi`, the half of the
  accumulator the row is added into (the parity of `(w >> 14) & hi`, found by shifting the constant 0x6996), the row of
  the accumulator, and the row of the transformed chunk. Each side condition the body assumes of a loaded word
  (`k0_chk1` … `k0_chk48`) holds of every word: the half is 0 or 1 and the rows are masked.
-/
module

public import proofs.«01_k».proof.Proof.Gen.KernelIdeal
public import Idealize.ShloMosaic.Lib.Scf
public import Mathlib.Tactic.IntervalCases

@[expose] public section

noncomputable section

namespace Cert.Proof

open Cert.KernelIdeal Cert.KernelIdeal.Gen
open Idealize.ShloMosaic

/-- The parity of the low six bits of `a` (of a word below 64, the parity of the word), as the kernel computes it. -/
def par6 (a : BitVec 32) : BitVec 32 :=
  Scalar.andi (Scalar.shrsi 27030#32 (Scalar.andi (Scalar.xori a (Scalar.shrsi a 4#32)) 15#32)) 1#32
/-- Which half of the accumulator the row of the index word `w` goes to in chunk `hi`. -/
def minusW (w hi : BitVec 32) : BitVec 32 := par6 (Scalar.andi (Scalar.shrsi w 14#32) hi)
/-- That half as a number. -/
def minus (w hi : BitVec 32) : ℕ := (minusW w hi).toNat
/-- The accumulator row a group stores at: `m` is the sample's number. -/
def accW (w hi m : BitVec 32) : BitVec 32 := Scalar.addi (Scalar.muli (minusW w hi) 10240#32) (Scalar.muli m 8#32)
/-- Sample `u` of trip `k`, sixteen samples a trip. -/
def grpW (k : ℕ) (u : BitVec 32) : BitVec 32 := Scalar.addi (Scalar.muli (Scf.iv 0#32 1#32 k) 16#32) u
/-- The row of an octet's main block an index word reads: its low eleven bits. -/
def rowMW (w : BitVec 32) : BitVec 32 := Scalar.andi w 2047#32
/-- The row of an octet's tail block an index word reads: its low eight bits and bit ten. -/
def rowTW (w : BitVec 32) : BitVec 32 := Scalar.addi (Scalar.andi w 255#32) (Scalar.andi (Scalar.shrsi w 2#32) 256#32)

theorem andi_le (x y : BitVec 32) : (Scalar.andi x y).toNat ≤ y.toNat := by
  show (x &&& y).toNat ≤ _
  rw [BitVec.toNat_and]; exact Nat.and_le_right

theorem minus_lt (w hi : BitVec 32) : minus w hi < 2 :=
  Nat.lt_succ_of_le (andi_le _ 1#32)
theorem rowM_lt (w : BitVec 32) : (rowMW w).toNat < 2048 := Nat.lt_succ_of_le (andi_le _ 2047#32)
theorem rowTW_toNat (w : BitVec 32) :
    (rowTW w).toNat = (Scalar.andi w 255#32).toNat + (Scalar.andi (Scalar.shrsi w 2#32) 256#32).toNat := by
  have h1 := andi_le w 255#32
  have h2 := andi_le (Scalar.shrsi w 2#32) 256#32
  simp only [BitVec.toNat_ofNat] at h1 h2
  show (_ + _ : BitVec 32).toNat = _
  rw [BitVec.toNat_add]
  omega
theorem rowT_lt (w : BitVec 32) : (rowTW w).toNat < 512 := by
  have h1 := andi_le w 255#32
  have h2 := andi_le (Scalar.shrsi w 2#32) 256#32
  rw [rowTW_toNat]
  simp only [BitVec.toNat_ofNat] at h1 h2
  omega
/-- The row of the main block, and of the tail block, as a bounded number. -/
def rowM (w : BitVec 32) : Fin 2048 := ⟨(rowMW w).toNat, rowM_lt w⟩
def rowT (w : BitVec 32) : Fin 512 := ⟨(rowTW w).toNat, rowT_lt w⟩

theorem grpW_toNat (k : ℕ) (hk : k < 80) (u : ℕ) (hu : u < 16) : (grpW k (BitVec.ofNat 32 u)).toNat = 16 * k + u := by
  show ((0#32 + BitVec.ofNat 32 k * 1#32) * 16#32 + BitVec.ofNat 32 u : BitVec 32).toNat = _
  simp only [BitVec.toNat_add, BitVec.toNat_mul, BitVec.toNat_ofNat]
  omega
theorem accW_toNat (w hi m : BitVec 32) (hm : m.toNat < 1280) :
    (accW w hi m).toNat = minus w hi * 10240 + m.toNat * 8 := by
  have h := minus_lt w hi
  show (minusW w hi * 10240#32 + m * 8#32 : BitVec 32).toNat = _
  unfold minus at h ⊢
  simp only [BitVec.toNat_add, BitVec.toNat_mul, BitVec.toNat_ofNat]
  omega

/-- What the body assumes of a sample's word, in any loop: the accumulator row is a multiple of eight, and every
    rectangle of the sample lies in its buffer. -/
theorem chk_holds (w hi m : BitVec 32) (hm : m.toNat < 1280) :
    (8 ∣ (accW w hi m).toNat) ∧
    (∀ a, (![(accW w hi m).toNat, 0] : Fin 2 → ℕ) a + S8x128.size a ≤ S20480x128.size a) ∧
    (∀ a, S8x128.size a = 0 ∨ (![(rowMW w).toNat, 0] : Fin 2 → ℕ) a + (![2052, 1] : Fin 2 → ℕ) a * (S8x128.size a - 1) < S16416x128.size a) ∧
    (∀ a, S8x128.size a = 0 ∨ (![(rowTW w).toNat, 0] : Fin 2 → ℕ) a + (![516, 1] : Fin 2 → ℕ) a * (S8x128.size a - 1) < S4128x128.size a) ∧
    (∀ a, (![(accW w hi m).toNat, 0] : Fin 2 → ℕ) a + S8x128.size a ≤ S20480x128.size a) := by
  have h := minus_lt w hi
  have hM := rowM_lt w
  have hT := rowT_lt w
  have hb : ∀ a, (![(accW w hi m).toNat, 0] : Fin 2 → ℕ) a + S8x128.size a ≤ S20480x128.size a := by
    rw [accW_toNat w hi m hm]
    intro a; fin_cases a
    · show _ + 8 ≤ 20480; simp only [Fin.zero_eta, Fin.isValue, Matrix.cons_val_zero]; omega
    · show 0 + 128 ≤ 128; omega
  refine ⟨?_, hb, ?_, ?_, hb⟩
  · rw [accW_toNat w hi m hm]; omega
  · intro a; right; fin_cases a
    · show (rowMW w).toNat + 2052 * (8 - 1) < 16416; omega
    · show 0 + 1 * (128 - 1) < 128; omega
  · intro a; right; fin_cases a
    · show (rowTW w).toNat + 516 * (8 - 1) < 4128; omega
    · show 0 + 1 * (128 - 1) < 128; omega

/-- The chunk whose sums the first sample of a point adds (`max(2 s - 1, 0)`), its batch and its number in the batch. -/
def prevW (i : grid0.Coords) : BitVec 32 := Scalar.maxsi (Scalar.subi (Scalar.muli 2#32 (BitVec.ofNat 32 (i 0).val)) 1#32) 0#32
def prevBatchW (i : grid0.Coords) : BitVec 32 :=
  let q := Scalar.divsi (prevW i) 64#32
  Scalar.select (Scalar.andi (Scalar.cmpi .ne
    (Scalar.subi (Scalar.extui (Scalar.cmpi .sgt (prevW i) 0#32)) (Scalar.extui (Scalar.cmpi .slt (prevW i) 0#32)))
    (Scalar.subi (Scalar.extui (Scalar.cmpi .sgt 64#32 0#32)) (Scalar.extui (Scalar.cmpi .slt 64#32 0#32))))
    (Scalar.cmpi .ne (Scalar.remsi (prevW i) 64#32) 0#32)) (Scalar.subi q 1#32) q
/-- Python's remainder by 64, as the body computes it. -/
def mod64W (x : BitVec 32) : BitVec 32 :=
  let d := Scalar.select (Scalar.cmpi .eq 64#32 0#32) 1#32 64#32
  let r := Scalar.remsi x d
  Scalar.select (Scalar.andi (Scalar.xori (Scalar.cmpi .slt r 0#32) (Scalar.cmpi .slt d 0#32)) (Scalar.cmpi .ne r 0#32)) (Scalar.addi r d) r
def prevHiW (i : grid0.Coords) : BitVec 32 := mod64W (prevW i)
/-- The chunk of the second sample of a point: number `2 s` modulo 64. -/
def curHiW (i : grid0.Coords) : BitVec 32 := mod64W (Scalar.muli 2#32 (BitVec.ofNat 32 (i 0).val))

/-- The batch of the second sample of a point: `s // 32`. -/
def curBatchW (i : grid0.Coords) : BitVec 32 :=
  let s := BitVec.ofNat 32 (i 0).val
  let q := Scalar.divsi s 32#32
  Scalar.select (Scalar.andi (Scalar.cmpi .ne
    (Scalar.subi (Scalar.extui (Scalar.cmpi .sgt s 0#32)) (Scalar.extui (Scalar.cmpi .slt s 0#32)))
    (Scalar.subi (Scalar.extui (Scalar.cmpi .sgt 32#32 0#32)) (Scalar.extui (Scalar.cmpi .slt 32#32 0#32))))
    (Scalar.cmpi .ne (Scalar.remsi s 32#32) 0#32)) (Scalar.subi q 1#32) q

theorem group_lt (k : Fin k0_t2_loop.trips) : k.val < 80 := lt_of_lt_of_eq k.isLt (by decide)
theorem sample_lt (k : ℕ) (hk : k < 80) (u : ℕ) (hu : u < 16) : (grpW k (BitVec.ofNat 32 u)).toNat < 1280 := by
  rw [grpW_toNat k hk u hu]; omega

end Cert.Proof

namespace Cert.KernelIdeal.Gen

open Cert.KernelIdeal Cert.Proof
open Idealize.ShloMosaic

section Checks
variable (i : grid0.Coords)
theorem k0_chk1_all (k : Fin k0_t2_loop.trips) (w : BitVec 32) : k0_chk1 i k w :=
  chk_holds w (prevHiW i) (grpW k 0#32) (sample_lt k (group_lt k) 0 (by decide))
theorem k0_chk2_all (k : Fin k0_t2_loop.trips) (w : BitVec 32) : k0_chk2 i k w :=
  chk_holds w (prevHiW i) (grpW k 1#32) (sample_lt k (group_lt k) 1 (by decide))
theorem k0_chk3_all (k : Fin k0_t2_loop.trips) (w : BitVec 32) : k0_chk3 i k w :=
  chk_holds w (prevHiW i) (grpW k 2#32) (sample_lt k (group_lt k) 2 (by decide))
theorem k0_chk4_all (k : Fin k0_t2_loop.trips) (w : BitVec 32) : k0_chk4 i k w :=
  chk_holds w (prevHiW i) (grpW k 3#32) (sample_lt k (group_lt k) 3 (by decide))
theorem k0_chk5_all (k : Fin k0_t2_loop.trips) (w : BitVec 32) : k0_chk5 i k w :=
  chk_holds w (prevHiW i) (grpW k 4#32) (sample_lt k (group_lt k) 4 (by decide))
theorem k0_chk6_all (k : Fin k0_t2_loop.trips) (w : BitVec 32) : k0_chk6 i k w :=
  chk_holds w (prevHiW i) (grpW k 5#32) (sample_lt k (group_lt k) 5 (by decide))
theorem k0_chk7_all (k : Fin k0_t2_loop.trips) (w : BitVec 32) : k0_chk7 i k w :=
  chk_holds w (prevHiW i) (grpW k 6#32) (sample_lt k (group_lt k) 6 (by decide))
theorem k0_chk8_all (k : Fin k0_t2_loop.trips) (w : BitVec 32) : k0_chk8 i k w :=
  chk_holds w (prevHiW i) (grpW k 7#32) (sample_lt k (group_lt k) 7 (by decide))
theorem k0_chk9_all (k : Fin k0_t2_loop.trips) (w : BitVec 32) : k0_chk9 i k w :=
  chk_holds w (prevHiW i) (grpW k 8#32) (sample_lt k (group_lt k) 8 (by decide))
theorem k0_chk10_all (k : Fin k0_t2_loop.trips) (w : BitVec 32) : k0_chk10 i k w :=
  chk_holds w (prevHiW i) (grpW k 9#32) (sample_lt k (group_lt k) 9 (by decide))
theorem k0_chk11_all (k : Fin k0_t2_loop.trips) (w : BitVec 32) : k0_chk11 i k w :=
  chk_holds w (prevHiW i) (grpW k 10#32) (sample_lt k (group_lt k) 10 (by decide))
theorem k0_chk12_all (k : Fin k0_t2_loop.trips) (w : BitVec 32) : k0_chk12 i k w :=
  chk_holds w (prevHiW i) (grpW k 11#32) (sample_lt k (group_lt k) 11 (by decide))
theorem k0_chk13_all (k : Fin k0_t2_loop.trips) (w : BitVec 32) : k0_chk13 i k w :=
  chk_holds w (prevHiW i) (grpW k 12#32) (sample_lt k (group_lt k) 12 (by decide))
theorem k0_chk14_all (k : Fin k0_t2_loop.trips) (w : BitVec 32) : k0_chk14 i k w :=
  chk_holds w (prevHiW i) (grpW k 13#32) (sample_lt k (group_lt k) 13 (by decide))
theorem k0_chk15_all (k : Fin k0_t2_loop.trips) (w : BitVec 32) : k0_chk15 i k w :=
  chk_holds w (prevHiW i) (grpW k 14#32) (sample_lt k (group_lt k) 14 (by decide))
theorem k0_chk16_all (k : Fin k0_t2_loop.trips) (w : BitVec 32) : k0_chk16 i k w :=
  have h := chk_holds w (prevHiW i) (grpW k 15#32) (sample_lt k (group_lt k) 15 (by decide))
  ⟨h.1, h.2.1, h.2.2.1, h.2.2.2.1⟩
theorem k0_chk17_all (k : Fin k0_t5_loop.trips) (w : BitVec 32) : k0_chk17 i k w :=
  chk_holds w (curHiW i) (grpW k 0#32) (sample_lt k (group_lt k) 0 (by decide))
theorem k0_chk18_all (k : Fin k0_t5_loop.trips) (w : BitVec 32) : k0_chk18 i k w :=
  chk_holds w (curHiW i) (grpW k 1#32) (sample_lt k (group_lt k) 1 (by decide))
theorem k0_chk19_all (k : Fin k0_t5_loop.trips) (w : BitVec 32) : k0_chk19 i k w :=
  chk_holds w (curHiW i) (grpW k 2#32) (sample_lt k (group_lt k) 2 (by decide))
theorem k0_chk20_all (k : Fin k0_t5_loop.trips) (w : BitVec 32) : k0_chk20 i k w :=
  chk_holds w (curHiW i) (grpW k 3#32) (sample_lt k (group_lt k) 3 (by decide))
theorem k0_chk21_all (k : Fin k0_t5_loop.trips) (w : BitVec 32) : k0_chk21 i k w :=
  chk_holds w (curHiW i) (grpW k 4#32) (sample_lt k (group_lt k) 4 (by decide))
theorem k0_chk22_all (k : Fin k0_t5_loop.trips) (w : BitVec 32) : k0_chk22 i k w :=
  chk_holds w (curHiW i) (grpW k 5#32) (sample_lt k (group_lt k) 5 (by decide))
theorem k0_chk23_all (k : Fin k0_t5_loop.trips) (w : BitVec 32) : k0_chk23 i k w :=
  chk_holds w (curHiW i) (grpW k 6#32) (sample_lt k (group_lt k) 6 (by decide))
theorem k0_chk24_all (k : Fin k0_t5_loop.trips) (w : BitVec 32) : k0_chk24 i k w :=
  chk_holds w (curHiW i) (grpW k 7#32) (sample_lt k (group_lt k) 7 (by decide))
theorem k0_chk25_all (k : Fin k0_t5_loop.trips) (w : BitVec 32) : k0_chk25 i k w :=
  chk_holds w (curHiW i) (grpW k 8#32) (sample_lt k (group_lt k) 8 (by decide))
theorem k0_chk26_all (k : Fin k0_t5_loop.trips) (w : BitVec 32) : k0_chk26 i k w :=
  chk_holds w (curHiW i) (grpW k 9#32) (sample_lt k (group_lt k) 9 (by decide))
theorem k0_chk27_all (k : Fin k0_t5_loop.trips) (w : BitVec 32) : k0_chk27 i k w :=
  chk_holds w (curHiW i) (grpW k 10#32) (sample_lt k (group_lt k) 10 (by decide))
theorem k0_chk28_all (k : Fin k0_t5_loop.trips) (w : BitVec 32) : k0_chk28 i k w :=
  chk_holds w (curHiW i) (grpW k 11#32) (sample_lt k (group_lt k) 11 (by decide))
theorem k0_chk29_all (k : Fin k0_t5_loop.trips) (w : BitVec 32) : k0_chk29 i k w :=
  chk_holds w (curHiW i) (grpW k 12#32) (sample_lt k (group_lt k) 12 (by decide))
theorem k0_chk30_all (k : Fin k0_t5_loop.trips) (w : BitVec 32) : k0_chk30 i k w :=
  chk_holds w (curHiW i) (grpW k 13#32) (sample_lt k (group_lt k) 13 (by decide))
theorem k0_chk31_all (k : Fin k0_t5_loop.trips) (w : BitVec 32) : k0_chk31 i k w :=
  chk_holds w (curHiW i) (grpW k 14#32) (sample_lt k (group_lt k) 14 (by decide))
theorem k0_chk32_all (k : Fin k0_t5_loop.trips) (w : BitVec 32) : k0_chk32 i k w :=
  have h := chk_holds w (curHiW i) (grpW k 15#32) (sample_lt k (group_lt k) 15 (by decide))
  ⟨h.1, h.2.1, h.2.2.1, h.2.2.2.1⟩
theorem k0_chk33_all (k : Fin k0_t6_loop.trips) (w : BitVec 32) : k0_chk33 i k w :=
  have h := chk_holds w 63#32 (grpW k 0#32) (sample_lt k (group_lt k) 0 (by decide))
  ⟨fun _ => h.1, fun _ => h.2.1, fun _ => h.2.2.1, fun _ => h.2.2.2.1, fun _ => h.2.2.2.2⟩
theorem k0_chk34_all (k : Fin k0_t6_loop.trips) (w : BitVec 32) : k0_chk34 i k w :=
  have h := chk_holds w 63#32 (grpW k 1#32) (sample_lt k (group_lt k) 1 (by decide))
  ⟨fun _ => h.1, fun _ => h.2.1, fun _ => h.2.2.1, fun _ => h.2.2.2.1, fun _ => h.2.2.2.2⟩
theorem k0_chk35_all (k : Fin k0_t6_loop.trips) (w : BitVec 32) : k0_chk35 i k w :=
  have h := chk_holds w 63#32 (grpW k 2#32) (sample_lt k (group_lt k) 2 (by decide))
  ⟨fun _ => h.1, fun _ => h.2.1, fun _ => h.2.2.1, fun _ => h.2.2.2.1, fun _ => h.2.2.2.2⟩
theorem k0_chk36_all (k : Fin k0_t6_loop.trips) (w : BitVec 32) : k0_chk36 i k w :=
  have h := chk_holds w 63#32 (grpW k 3#32) (sample_lt k (group_lt k) 3 (by decide))
  ⟨fun _ => h.1, fun _ => h.2.1, fun _ => h.2.2.1, fun _ => h.2.2.2.1, fun _ => h.2.2.2.2⟩
theorem k0_chk37_all (k : Fin k0_t6_loop.trips) (w : BitVec 32) : k0_chk37 i k w :=
  have h := chk_holds w 63#32 (grpW k 4#32) (sample_lt k (group_lt k) 4 (by decide))
  ⟨fun _ => h.1, fun _ => h.2.1, fun _ => h.2.2.1, fun _ => h.2.2.2.1, fun _ => h.2.2.2.2⟩
theorem k0_chk38_all (k : Fin k0_t6_loop.trips) (w : BitVec 32) : k0_chk38 i k w :=
  have h := chk_holds w 63#32 (grpW k 5#32) (sample_lt k (group_lt k) 5 (by decide))
  ⟨fun _ => h.1, fun _ => h.2.1, fun _ => h.2.2.1, fun _ => h.2.2.2.1, fun _ => h.2.2.2.2⟩
theorem k0_chk39_all (k : Fin k0_t6_loop.trips) (w : BitVec 32) : k0_chk39 i k w :=
  have h := chk_holds w 63#32 (grpW k 6#32) (sample_lt k (group_lt k) 6 (by decide))
  ⟨fun _ => h.1, fun _ => h.2.1, fun _ => h.2.2.1, fun _ => h.2.2.2.1, fun _ => h.2.2.2.2⟩
theorem k0_chk40_all (k : Fin k0_t6_loop.trips) (w : BitVec 32) : k0_chk40 i k w :=
  have h := chk_holds w 63#32 (grpW k 7#32) (sample_lt k (group_lt k) 7 (by decide))
  ⟨fun _ => h.1, fun _ => h.2.1, fun _ => h.2.2.1, fun _ => h.2.2.2.1, fun _ => h.2.2.2.2⟩
theorem k0_chk41_all (k : Fin k0_t6_loop.trips) (w : BitVec 32) : k0_chk41 i k w :=
  have h := chk_holds w 63#32 (grpW k 8#32) (sample_lt k (group_lt k) 8 (by decide))
  ⟨fun _ => h.1, fun _ => h.2.1, fun _ => h.2.2.1, fun _ => h.2.2.2.1, fun _ => h.2.2.2.2⟩
theorem k0_chk42_all (k : Fin k0_t6_loop.trips) (w : BitVec 32) : k0_chk42 i k w :=
  have h := chk_holds w 63#32 (grpW k 9#32) (sample_lt k (group_lt k) 9 (by decide))
  ⟨fun _ => h.1, fun _ => h.2.1, fun _ => h.2.2.1, fun _ => h.2.2.2.1, fun _ => h.2.2.2.2⟩
theorem k0_chk43_all (k : Fin k0_t6_loop.trips) (w : BitVec 32) : k0_chk43 i k w :=
  have h := chk_holds w 63#32 (grpW k 10#32) (sample_lt k (group_lt k) 10 (by decide))
  ⟨fun _ => h.1, fun _ => h.2.1, fun _ => h.2.2.1, fun _ => h.2.2.2.1, fun _ => h.2.2.2.2⟩
theorem k0_chk44_all (k : Fin k0_t6_loop.trips) (w : BitVec 32) : k0_chk44 i k w :=
  have h := chk_holds w 63#32 (grpW k 11#32) (sample_lt k (group_lt k) 11 (by decide))
  ⟨fun _ => h.1, fun _ => h.2.1, fun _ => h.2.2.1, fun _ => h.2.2.2.1, fun _ => h.2.2.2.2⟩
theorem k0_chk45_all (k : Fin k0_t6_loop.trips) (w : BitVec 32) : k0_chk45 i k w :=
  have h := chk_holds w 63#32 (grpW k 12#32) (sample_lt k (group_lt k) 12 (by decide))
  ⟨fun _ => h.1, fun _ => h.2.1, fun _ => h.2.2.1, fun _ => h.2.2.2.1, fun _ => h.2.2.2.2⟩
theorem k0_chk46_all (k : Fin k0_t6_loop.trips) (w : BitVec 32) : k0_chk46 i k w :=
  have h := chk_holds w 63#32 (grpW k 13#32) (sample_lt k (group_lt k) 13 (by decide))
  ⟨fun _ => h.1, fun _ => h.2.1, fun _ => h.2.2.1, fun _ => h.2.2.2.1, fun _ => h.2.2.2.2⟩
theorem k0_chk47_all (k : Fin k0_t6_loop.trips) (w : BitVec 32) : k0_chk47 i k w :=
  have h := chk_holds w 63#32 (grpW k 14#32) (sample_lt k (group_lt k) 14 (by decide))
  ⟨fun _ => h.1, fun _ => h.2.1, fun _ => h.2.2.1, fun _ => h.2.2.2.1, fun _ => h.2.2.2.2⟩
theorem k0_chk48_all (k : Fin k0_t6_loop.trips) (w : BitVec 32) : k0_chk48 i k w :=
  have h := chk_holds w 63#32 (grpW k 15#32) (sample_lt k (group_lt k) 15 (by decide))
  ⟨fun _ => h.1, fun _ => h.2.1, fun _ => h.2.2.1, fun _ => h.2.2.2.1⟩
end Checks

end Cert.KernelIdeal.Gen

end
-- ==== Proof.Sample.lean ====
module

public import proofs.«01_k».proof.Proof.Words
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore
public import Idealize.ShloMosaic.Lib.Pipeline.Value

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The accumulator after the samples below `n` have been added: row `half · 10240 + 8 m + j` gains row `row (T m)` of
    octet `j` of the transformed chunk when the sample's half is `half`. -/
def sampled {R : ℕ} (row : BitVec 32 → Fin R) (T : Fin 1280 → BitVec 32) (hi : BitVec 32)
    (V : Fin 8 → Fin R → Fin 128 → F .f32) (old : S20480x128.Idx → F .f32) (n : ℕ) : S20480x128.Idx → F .f32 := fun ix =>
  let m : Fin 1280 := ⟨(ix 0).val % 10240 / 8, by omega⟩
  if m.val < n ∧ minus (T m) hi = (ix 0).val / 10240 then
    FloatOps.addf (old ix) (V ⟨(ix 0).val % 8, by omega⟩ (row (T m)) (ix 1))
  else old ix

theorem rowM_inb (w : BitVec 32) : ∀ a, S8x128.size a = 0 ∨ (![(rowMW w).toNat, 0] : Fin 2 → ℕ) a + (![2052, 1] : Fin 2 → ℕ) a * (S8x128.size a - 1) < S16416x128.size a :=
  (chk_holds w 0#32 0#32 (by decide)).2.2.1
theorem rowT_inb (w : BitVec 32) : ∀ a, S8x128.size a = 0 ∨ (![(rowTW w).toNat, 0] : Fin 2 → ℕ) a + (![516, 1] : Fin 2 → ℕ) a * (S8x128.size a - 1) < S4128x128.size a :=
  (chk_holds w 0#32 0#32 (by decide)).2.2.2.1

/-- The rectangle of the accumulator that sample `u` of trip `k` reads and stores. -/
def accRect (w hi : BitVec 32) (k : ℕ) (hk : k < 80) (u : ℕ) (hu : u < 16) : Rect S20480x128 :=
  Rect.unit (s := S20480x128) ![(accW w hi (grpW k (BitVec.ofNat 32 u))).toNat, 0] S8x128.size
    (chk_holds w hi _ (sample_lt k hk u hu)).2.1

section Step
variable {sig : RefSig} {κ : Kind} {sp : Space} (v : View sig κ sp S20480x128 .f32) (g : v.ty.Contents (Elt F))
variable {R : ℕ} (row : BitVec 32 → Fin R) (T : Fin 1280 → BitVec 32) (hi : BitVec 32)
  (V : Fin 8 → Fin R → Fin 128 → F .f32) (old : S20480x128.Idx → F .f32)
  (k : ℕ) (hk : k < 80) (w : ℕ → BitVec 32) (ld : ℕ → S8x128.Idx → F .f32)

/-- The store of sample `u`: the accumulator's eight rows plus the eight rows loaded from the transformed chunk. -/
def samplePiece (u : ℕ) (hu : u < 16) : View.Piece (Elt F) S20480x128 .f32 :=
  ⟨accRect (w u) hi k hk u hu,
   shapeCast S8x128 (addf (φ := .f32) (v.readAt (Elt F) (accRect (w u) hi k hk u hu).toLoadRect g) (ld u)) shapeCasts_S8x128_S8x128⟩

theorem sampled_at (n : ℕ) (ix : S20480x128.Idx) (m : Fin 1280) (j : Fin 8) (d : Fin 128)
    (h0 : (ix 0).val = minus (T m) hi * 10240 + m.val * 8 + j.val) (h1 : ix 1 = d) (hn : m.val < n) :
    sampled row T hi V old n ix = FloatOps.addf (old ix) (V j (row (T m)) d) := by
  have hm := minus_lt (T m) hi
  have e : (⟨(ix 0).val % 10240 / 8, by omega⟩ : Fin 1280) = m := Fin.ext (by show _ % 10240 / 8 = m.val; omega)
  have ej : (⟨(ix 0).val % 8, by omega⟩ : Fin 8) = j := Fin.ext (by show _ % 8 = j.val; omega)
  unfold sampled
  simp only [e, ej, h1]
  rw [if_pos ⟨by omega, by omega⟩]
theorem sampled_old (n : ℕ) (ix : S20480x128.Idx) (hn : n ≤ (ix 0).val % 10240 / 8) : sampled row T hi V old n ix = old ix := by
  unfold sampled
  rw [if_neg (fun h => absurd h.1 (by show ¬ (ix 0).val % 10240 / 8 < n; omega))]

theorem sampled_hit (hw : ∀ u (hu : u < 16), w u = T ⟨16 * k + u, by omega⟩)
    (hld : ∀ u (hu : u < 16) (x : S8x128.Idx), ld u x = V (x 0) (row (w u)) (x 1))
    (hg : ∀ ix, v.read (Elt F) g ix = sampled row T hi V old (16 * k) ix)
    (u : ℕ) (hu : u < 16) (x : S8x128.Idx) :
    (samplePiece v g hi k hk w ld u hu).2 x
      = sampled row T hi V old (16 * (k + 1)) ((samplePiece v g hi k hk w ld u hu).1.emb x) := by
  have hx0 : (x 0).val < 8 := (x 0).isLt
  have hm := minus_lt (w u) hi
  have e0 : (((samplePiece v g hi k hk w ld u hu).1.emb x) 0).val = minus (w u) hi * 10240 + (16 * k + u) * 8 + (x 0).val := by
    show (accW (w u) hi (grpW k (BitVec.ofNat 32 u))).toNat + 1 * (x 0).val = _
    rw [accW_toNat _ _ _ (sample_lt k hk u hu), grpW_toNat k hk u hu]; omega
  have e1 : ((samplePiece v g hi k hk w ld u hu).1.emb x) 1 = x 1 := Fin.ext (by show 0 + 1 * (x 1).val = _; omega)
  rw [sampled_at row T hi V old (16 * (k + 1)) ((samplePiece v g hi k hk w ld u hu).1.emb x) ⟨16 * k + u, by omega⟩ (x 0) (x 1) (by rw [← hw u hu]; exact e0) e1 (by show 16 * k + u < _; omega),
    ← hw u hu, ← hld u hu, ← sampled_old row T hi V old (16 * k) _ (by rw [e0]; omega), ← hg]
  exact (congrFun (shapeCast_self (addf (φ := .f32) (v.readAt (Elt F) (accRect (w u) hi k hk u hu).toLoadRect g) (ld u)) shapeCasts_S8x128_S8x128) x).trans rfl

/-- One trip of the sample loop: the sixteen stores bring the accumulator from the samples below `16 k` to those below `16 (k + 1)`. -/
theorem sample_step (hw : ∀ u (hu : u < 16), w u = T ⟨16 * k + u, by omega⟩)
    (hld : ∀ u (hu : u < 16) (x : S8x128.Idx), ld u x = V (x 0) (row (w u)) (x 1))
    (hg : ∀ ix, v.read (Elt F) g ix = sampled row T hi V old (16 * k) ix) (ix : S20480x128.Idx) :
    v.read (Elt F) (v.writes (Elt F) g
      [samplePiece v g hi k hk w ld 15 (by decide), samplePiece v g hi k hk w ld 14 (by decide), samplePiece v g hi k hk w ld 13 (by decide),
       samplePiece v g hi k hk w ld 12 (by decide), samplePiece v g hi k hk w ld 11 (by decide), samplePiece v g hi k hk w ld 10 (by decide),
       samplePiece v g hi k hk w ld 9 (by decide), samplePiece v g hi k hk w ld 8 (by decide), samplePiece v g hi k hk w ld 7 (by decide),
       samplePiece v g hi k hk w ld 6 (by decide), samplePiece v g hi k hk w ld 5 (by decide), samplePiece v g hi k hk w ld 4 (by decide),
       samplePiece v g hi k hk w ld 3 (by decide), samplePiece v g hi k hk w ld 2 (by decide), samplePiece v g hi k hk w ld 1 (by decide),
       samplePiece v g hi k hk w ld 0 (by decide)]) ix = sampled row T hi V old (16 * (k + 1)) ix := by
  generalize hL : [samplePiece v g hi k hk w ld 15 (by decide), samplePiece v g hi k hk w ld 14 (by decide), samplePiece v g hi k hk w ld 13 (by decide),
       samplePiece v g hi k hk w ld 12 (by decide), samplePiece v g hi k hk w ld 11 (by decide), samplePiece v g hi k hk w ld 10 (by decide),
       samplePiece v g hi k hk w ld 9 (by decide), samplePiece v g hi k hk w ld 8 (by decide), samplePiece v g hi k hk w ld 7 (by decide),
       samplePiece v g hi k hk w ld 6 (by decide), samplePiece v g hi k hk w ld 5 (by decide), samplePiece v g hi k hk w ld 4 (by decide),
       samplePiece v g hi k hk w ld 3 (by decide), samplePiece v g hi k hk w ld 2 (by decide), samplePiece v g hi k hk w ld 1 (by decide),
       samplePiece v g hi k hk w ld 0 (by decide)] = L
  have hmem : ∀ p, p ∈ L ↔ ∃ u, ∃ hu : u < 16, p = samplePiece v g hi k hk w ld u hu := by
    intro p
    subst hL
    simp only [List.mem_cons, List.not_mem_nil, or_false]
    constructor
    · rintro (h | h | h | h | h | h | h | h | h | h | h | h | h | h | h | h) <;> exact ⟨_, _, h⟩
    · rintro ⟨u, hu, rfl⟩
      interval_cases u <;> simp
  clear hL
  by_cases hc : ∃ p ∈ L, ix ∈ p.1.set
  · refine View.read_writes_apply_of_pieces v g (sampled row T hi V old (16 * (k + 1))) L ?_ ix hc
    intro p hp
    obtain ⟨u, hu, rfl⟩ := (hmem p).mp hp
    exact sampled_hit v g row T hi V old k hk w ld hw hld hg u hu
  · rw [View.read_writes_apply_of_forall_not_mem v g ix L (fun p hp hx => hc ⟨p, hp, hx⟩), hg]
    have h0 : (ix 0).val < 20480 := (ix 0).isLt
    unfold sampled
    by_cases hn : (ix 0).val % 10240 / 8 < 16 * k
    · simp only [hn, show (ix 0).val % 10240 / 8 < 16 * (k + 1) by omega]
    · have hr : ¬ ((ix 0).val % 10240 / 8 < 16 * (k + 1) ∧ minus (T ⟨(ix 0).val % 10240 / 8, by omega⟩) hi = (ix 0).val / 10240) := by
        rintro ⟨h1, h2⟩
        obtain ⟨u, hu, hue⟩ : ∃ u, u < 16 ∧ (ix 0).val % 10240 / 8 = 16 * k + u := ⟨(ix 0).val % 10240 / 8 - 16 * k, by omega, by omega⟩
        have hT : w u = T ⟨(ix 0).val % 10240 / 8, by omega⟩ := (hw u hu).trans (congrArg T (Fin.ext hue.symm))
        rw [← hT] at h2
        refine hc ⟨samplePiece v g hi k hk w ld u hu, (hmem _).mpr ⟨u, hu, rfl⟩, ?_⟩
        refine (LoadRect.mem_set _).mpr fun a => ?_
        have e : (accW (w u) hi (grpW k (BitVec.ofNat 32 u))).toNat = minus (w u) hi * 10240 + (16 * k + u) * 8 := by
          rw [accW_toNat _ _ _ (sample_lt k hk u hu), grpW_toNat k hk u hu]
        fin_cases a
        · have e' : (ix 0).val = (accW (w u) hi (grpW k (BitVec.ofNat 32 u))).toNat + 1 * ((ix 0).val % 8) := by
            rw [e, h2]; omega
          exact ⟨(ix 0).val % 8, Nat.mod_lt _ (by decide), e'⟩
        · have e' : (ix 1).val = 0 + 1 * (ix 1).val := by omega
          exact ⟨(ix 1).val, (ix 1).isLt, e'⟩
      rw [if_neg (by simp [hn]), if_neg hr]
end Step

end Cert.Proof
end
-- ==== Proof.Octet.lean ====
module

public import proofs.«01_k».proof.Proof.Sample
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## The values of one octet of a chunk -/

/-- One tile of codes times its row of scales: 160 rows of 128 lanes. -/
def scaled (row : FVec F S1x128 .f32) (x : Vec F S1x160x128 .i8) : FVec F S160x128 .bf16 :=
  shapeCast S160x128
    (mulf (shapeCast S10x16x128 (sitofp (F := F) .bf16 (shapeCast S160x128 x shapeCasts_S1x160x128_S160x128)) shapeCasts_S160x128_S10x16x128)
      (broadcastTo S10x16x128 (shapeCast S1x16x128 (truncf .bf16 (broadcastTo S16x128 (shapeCast S1x128 row shapeCasts_S1x128_S1x128) broadcasts_S1x128_S16x128) bitsLt_bf16_f32)
        shapeCasts_S16x128_S1x16x128) broadcasts_S1x16x128_S10x16x128))
    shapeCasts_S10x16x128_S160x128
/-- Block `q` of 256 positions: its first 128 channels, and its last 32. -/
def mainBlk (row : ℕ → ℕ → FVec F S1x128 .f32) (x : ℕ → ℕ → Vec F S1x160x128 .i8) (q : ℕ) : FVec F S128x256 .bf16 :=
  concatenate S128x256 1 [⟨S128x128, extractStridedSlice S128x128 ![0, 0] (scaled (row q 0) (x q 0)) slices_S160x128_o0_0_S128x128⟩,
    ⟨S128x128, extractStridedSlice S128x128 ![0, 0] (scaled (row q 1) (x q 1)) slices_S160x128_o0_0_S128x128⟩] concatenates_S128x128_S128x128_S128x256_d1
def tailBlk (row : ℕ → ℕ → FVec F S1x128 .f32) (x : ℕ → ℕ → Vec F S1x160x128 .i8) (q : ℕ) : FVec F S32x256 .bf16 :=
  concatenate S32x256 1 [⟨S32x128, extractStridedSlice S32x128 ![128, 0] (scaled (row q 0) (x q 0)) slices_S160x128_o128_0_S32x128⟩,
    ⟨S32x128, extractStridedSlice S32x128 ![128, 0] (scaled (row q 1) (x q 1)) slices_S160x128_o128_0_S32x128⟩] concatenates_S32x128_S32x128_S32x256_d1
/-- The Hadamard matrix times the transpose of 256 rows. -/
def dotH (h : FVec F S256x256 .bf16) (b : FVec F S256x256 .bf16) : FVec F S256x256 .f32 :=
  matmul dot_S256x256_S256x256_S256x256_1_1_0_0_n_n none h b (constant S256x256 .f32 0x00000000#32)
/-- The products of blocks `2 p` and `2 p + 1`, and of the eight tails. -/
def wMain (h : FVec F S256x256 .bf16) (row : ℕ → ℕ → FVec F S1x128 .f32) (x : ℕ → ℕ → Vec F S1x160x128 .i8) (p : ℕ) : FVec F S256x256 .f32 :=
  dotH h (concatenate S256x256 0 [⟨S128x256, mainBlk row x (2 * p)⟩, ⟨S128x256, mainBlk row x (2 * p + 1)⟩] concatenates_S128x256_S128x256_S256x256_d0)
def wTail (h : FVec F S256x256 .bf16) (row : ℕ → ℕ → FVec F S1x128 .f32) (x : ℕ → ℕ → Vec F S1x160x128 .i8) : FVec F S256x256 .f32 :=
  dotH h (concatenate S256x256 0 [⟨S32x256, tailBlk row x 0⟩, ⟨S32x256, tailBlk row x 1⟩, ⟨S32x256, tailBlk row x 2⟩, ⟨S32x256, tailBlk row x 3⟩,
    ⟨S32x256, tailBlk row x 4⟩, ⟨S32x256, tailBlk row x 5⟩, ⟨S32x256, tailBlk row x 6⟩, ⟨S32x256, tailBlk row x 7⟩]
    concatenates_S32x256_S32x256_S32x256_S32x256_S32x256_S32x256_S32x256_S32x256_S256x256_d0)

theorem slices8 (lo c : ℕ) (hlo : lo < 32) (hc : c < 2) : S256x256.Slices ![8 * lo, 128 * c] S8x128 := by
  refine ⟨rfl, fun a => ?_⟩
  fin_cases a
  · show 8 * lo + 8 ≤ 256; omega
  · show 128 * c + 128 ≤ 256; omega
/-- Rows `8 lo` to `8 lo + 7` of half `c` of the columns of a product. -/
def rows8x128 (w : FVec F S256x256 .f32) (lo c : ℕ) (hlo : lo < 32) (hc : c < 2) : FVec F S8x128 .f32 :=
  extractStridedSlice S8x128 ![8 * lo, 128 * c] w (slices8 lo c hlo hc)
/-- One stage of the Walsh-Hadamard transform, at distance `h`. -/
def stage (h : ℕ) (v : ℕ → FVec F S8x128 .f32) (k : ℕ) : FVec F S8x128 .f32 :=
  if k / h % 2 = 0 then addf (v k) (v (k + h)) else subf (v (k - h)) (v k)
/-- Rows `8 lo` to `8 lo + 7` of block `q` of a transformed octet: the main block, and the tail block. -/
def octetM (w : ℕ → FVec F S256x256 .f32) (lo : ℕ) (hlo : lo < 32) (q : ℕ) : FVec F S8x128 .f32 :=
  stage 4 (stage 2 (stage 1 fun k => rows8x128 (w (k / 2)) lo (k % 2) hlo (Nat.mod_lt _ (by decide)))) q
def octetT (w : FVec F S256x256 .f32) (lo : ℕ) (hlo : lo < 32) (q : ℕ) : FVec F S8x128 .f32 :=
  stage 1 (fun k => rows8x128 w lo (k % 2) hlo (Nat.mod_lt _ (by decide))) q

/-! ## The stores of one octet -/

def offM (k q lo : ℕ) : Fin 2 → ℕ :=
  ![(Scalar.addi (Scalar.addi (Scalar.muli (Scf.iv 0#32 1#32 k) 2052#32) (BitVec.ofNat 32 (256 * q))) (BitVec.ofNat 32 (8 * lo)) : BitVec 32).toNat, 0]
def offT (k q lo : ℕ) : Fin 2 → ℕ :=
  ![(Scalar.addi (Scalar.addi (Scalar.muli (Scf.iv 0#32 1#32 k) 516#32) (BitVec.ofNat 32 (256 * q))) (BitVec.ofNat 32 (8 * lo)) : BitVec 32).toNat, 0]
theorem offM_zero (k q lo : ℕ) (hk : k < 8) (hq : q < 8) (hlo : lo < 32) : offM k q lo 0 = k * 2052 + q * 256 + lo * 8 := by
  show (((0#32 + BitVec.ofNat 32 k * 1#32) * 2052#32 + BitVec.ofNat 32 (256 * q)) + BitVec.ofNat 32 (8 * lo) : BitVec 32).toNat = _
  simp only [BitVec.toNat_add, BitVec.toNat_mul, BitVec.toNat_ofNat]
  omega
theorem offT_zero (k q lo : ℕ) (hk : k < 8) (hq : q < 2) (hlo : lo < 32) : offT k q lo 0 = k * 516 + q * 256 + lo * 8 := by
  show (((0#32 + BitVec.ofNat 32 k * 1#32) * 516#32 + BitVec.ofNat 32 (256 * q)) + BitVec.ofNat 32 (8 * lo) : BitVec 32).toNat = _
  simp only [BitVec.toNat_add, BitVec.toNat_mul, BitVec.toNat_ofNat]
  omega
theorem offM_inb (k q lo : ℕ) (hk : k < 8) (hq : q < 8) (hlo : lo < 32) : ∀ a, offM k q lo a + S8x128.size a ≤ S16416x128.size a := by
  have h := offM_zero k q lo hk hq hlo
  intro a; fin_cases a
  · show offM k q lo 0 + 8 ≤ 16416; omega
  · show 0 + 128 ≤ 128; omega
theorem offT_inb (k q lo : ℕ) (hk : k < 8) (hq : q < 2) (hlo : lo < 32) : ∀ a, offT k q lo a + S8x128.size a ≤ S4128x128.size a := by
  have h := offT_zero k q lo hk hq hlo
  intro a; fin_cases a
  · show offT k q lo 0 + 8 ≤ 4128; omega
  · show 0 + 128 ≤ 128; omega

section Pieces
variable (w : ℕ → FVec F S256x256 .f32) (wt : FVec F S256x256 .f32) (k : ℕ) (hk : k < 8)

def mainPiece (lo : ℕ) (hlo : lo < 32) (q : ℕ) (hq : q < 8) : View.Piece (Elt F) S16416x128 .f32 :=
  ⟨Rect.unit (s := S16416x128) (offM k q lo) S8x128.size (offM_inb k q lo hk hq hlo), shapeCast S8x128 (octetM w lo hlo q) shapeCasts_S8x128_S8x128⟩
def tailPiece (lo : ℕ) (hlo : lo < 32) (q : ℕ) (hq : q < 2) : View.Piece (Elt F) S4128x128 .f32 :=
  ⟨Rect.unit (s := S4128x128) (offT k q lo) S8x128.size (offT_inb k q lo hk hq hlo), shapeCast S8x128 (octetT wt lo hlo q) shapeCasts_S8x128_S8x128⟩
/-- The stores of the groups of eight rows below `n`, the latest first. -/
def mainPieces : (n : ℕ) → n ≤ 32 → List (View.Piece (Elt F) S16416x128 .f32)
  | 0, _ => []
  | n + 1, h => mainPiece w k hk n h 7 (by decide) :: mainPiece w k hk n h 6 (by decide) :: mainPiece w k hk n h 5 (by decide)
      :: mainPiece w k hk n h 4 (by decide) :: mainPiece w k hk n h 3 (by decide) :: mainPiece w k hk n h 2 (by decide)
      :: mainPiece w k hk n h 1 (by decide) :: mainPiece w k hk n h 0 (by decide) :: mainPieces n (Nat.le_of_succ_le h)
def tailPieces : (n : ℕ) → n ≤ 32 → List (View.Piece (Elt F) S4128x128 .f32)
  | 0, _ => []
  | n + 1, h => tailPiece wt k hk n h 1 (by decide) :: tailPiece wt k hk n h 0 (by decide) :: tailPieces n (Nat.le_of_succ_le h)

theorem mem_mainPieces (n : ℕ) (h : n ≤ 32) (p) :
    p ∈ mainPieces w k hk n h ↔ ∃ lo, ∃ hlo : lo < n, ∃ q, ∃ hq : q < 8, p = mainPiece w k hk lo (lt_of_lt_of_le hlo h) q hq := by
  induction n with
  | zero => simp [mainPieces]
  | succ n ih =>
    simp only [mainPieces, List.mem_cons, ih (Nat.le_of_succ_le h)]
    constructor
    · rintro (e | e | e | e | e | e | e | e | ⟨lo, hlo, q, hq, e⟩)
      iterate 8 exact ⟨n, Nat.lt_succ_self n, _, _, e⟩
      exact ⟨lo, Nat.lt_succ_of_lt hlo, q, hq, e⟩
    · rintro ⟨lo, hlo, q, hq, rfl⟩
      rcases Nat.lt_succ_iff_lt_or_eq.mp hlo with h' | rfl
      · iterate 8 right
        exact ⟨lo, h', q, hq, rfl⟩
      · interval_cases q <;> simp
theorem mem_tailPieces (n : ℕ) (h : n ≤ 32) (p) :
    p ∈ tailPieces wt k hk n h ↔ ∃ lo, ∃ hlo : lo < n, ∃ q, ∃ hq : q < 2, p = tailPiece wt k hk lo (lt_of_lt_of_le hlo h) q hq := by
  induction n with
  | zero => simp [tailPieces]
  | succ n ih =>
    simp only [tailPieces, List.mem_cons, ih (Nat.le_of_succ_le h)]
    constructor
    · rintro (e | e | ⟨lo, hlo, q, hq, e⟩)
      iterate 2 exact ⟨n, Nat.lt_succ_self n, _, _, e⟩
      exact ⟨lo, Nat.lt_succ_of_lt hlo, q, hq, e⟩
    · rintro ⟨lo, hlo, q, hq, rfl⟩
      rcases Nat.lt_succ_iff_lt_or_eq.mp hlo with h' | rfl
      · iterate 2 right
        exact ⟨lo, h', q, hq, rfl⟩
      · interval_cases q <;> simp

end Pieces

/-- Row `r` of a transformed octet: the main block, and the tail block. -/
def octRowM (w : ℕ → FVec F S256x256 .f32) (r : Fin 2048) (d : Fin 128) : F .f32 := octetM w (r.val % 256 / 8) (by omega) (r.val / 256) (ix2 ⟨r.val % 8, Nat.mod_lt _ (by decide)⟩ d)
def octRowT (wt : FVec F S256x256 .f32) (r : Fin 512) (d : Fin 128) : F .f32 := octetT wt (r.val % 256 / 8) (by omega) (r.val / 256) (ix2 ⟨r.val % 8, Nat.mod_lt _ (by decide)⟩ d)

theorem octRowM_at (w : ℕ → FVec F S256x256 .f32) (lo : ℕ) (hlo : lo < 32) (q : ℕ) (hq : q < 8) (x : S8x128.Idx) (r : Fin 2048) (d : Fin 128)
    (hr : r.val = q * 256 + lo * 8 + (x 0).val) (hd : d = x 1) : octRowM w r d = octetM w lo hlo q x := by
  have hx : (x 0).val < 8 := (x 0).isLt
  unfold octRowM
  have e1 : r.val % 256 / 8 = lo := by omega
  have e2 : r.val / 256 = q := by omega
  simp only [e1, e2]
  refine congrArg _ (funext fun a => Fin.ext ?_)
  fin_cases a
  · show r.val % 8 = (x 0).val; omega
  · show d.val = (x 1).val; rw [hd]
theorem octRowT_at (wt : FVec F S256x256 .f32) (lo : ℕ) (hlo : lo < 32) (q : ℕ) (hq : q < 2) (x : S8x128.Idx) (r : Fin 512) (d : Fin 128)
    (hr : r.val = q * 256 + lo * 8 + (x 0).val) (hd : d = x 1) : octRowT wt r d = octetT wt lo hlo q x := by
  have hx : (x 0).val < 8 := (x 0).isLt
  unfold octRowT
  have e1 : r.val % 256 / 8 = lo := by omega
  have e2 : r.val / 256 = q := by omega
  simp only [e1, e2]
  refine congrArg _ (funext fun a => Fin.ext ?_)
  fin_cases a
  · show r.val % 8 = (x 0).val; omega
  · show d.val = (x 1).val; rw [hd]
section Step
variable {sig : RefSig} {κ : Kind} {sp : Space}

/-- One trip of the octet loop, the main block: its stores bring the octets below `k` to those below `k + 1`. -/
theorem octM_step (v : View sig κ sp S16416x128 .f32) (g : v.ty.Contents (Elt F)) (w : ℕ → FVec F S256x256 .f32) (k : ℕ) (hk : k < 8)
    (C : Fin 8 → Fin 2048 → Fin 128 → F .f32) (hC : C ⟨k, hk⟩ = octRowM w)
    (hg : ∀ j : Fin 8, j.val < k → ∀ r d, v.read (Elt F) g (ix2 ⟨j.val * 2052 + r.val, by omega⟩ d) = C j r d)
    (j : Fin 8) (hj : j.val < k + 1) (r : Fin 2048) (d : Fin 128) :
    v.read (Elt F) (v.writes (Elt F) g (mainPieces w k hk 32 (Nat.le_refl 32))) (ix2 ⟨j.val * 2052 + r.val, by omega⟩ d) = C j r d := by
  by_cases hc : j.val < k
  · rw [View.read_writes_apply_of_forall_not_mem v g _ _ ?_, hg j hc]
    intro p hp hx
    obtain ⟨lo, hlo, q, hq, rfl⟩ := (mem_mainPieces w k hk 32 (Nat.le_refl 32) p).mp hp
    obtain ⟨i, hi, e⟩ := (LoadRect.mem_set _).mp hx (0 : Fin 2)
    have e' : j.val * 2052 + r.val = offM k q lo 0 + 1 * i := e
    rw [offM_zero k q lo hk hq hlo] at e'
    omega
  · have ej : j = ⟨k, hk⟩ := Fin.ext (by show j.val = k; omega)
    subst ej
    rw [hC]
    refine (View.read_writes_apply_of_pieces v g (fun ix => octRowM w ⟨((ix 0).val - k * 2052) % 2048, Nat.mod_lt _ (by decide)⟩ (ix 1)) _ ?_ _ ?_).trans ?_
    · intro p hp
      obtain ⟨lo, hlo, q, hq, rfl⟩ := (mem_mainPieces w k hk 32 (Nat.le_refl 32) p).mp hp
      intro (x : S8x128.Idx)
      have hx : (x 0).val < 8 := (x 0).isLt
      refine (congrFun (shapeCast_self (octetM w lo hlo q) shapeCasts_S8x128_S8x128) x).trans
        (octRowM_at w lo hlo q hq x _ _ ?_ (Fin.ext ?_)).symm
      · show (offM k q lo 0 + 1 * (x 0).val - k * 2052) % 2048 = _
        rw [offM_zero k q lo hk hq hlo]; omega
      · show 0 + 1 * (x 1).val = (x 1).val; omega
    · refine ⟨mainPiece w k hk (r.val % 256 / 8) (by omega) (r.val / 256) (by omega), (mem_mainPieces w k hk 32 (Nat.le_refl 32) _).mpr ⟨_, by omega, _, by omega, rfl⟩,
        (LoadRect.mem_set _).mpr fun a => ?_⟩
      fin_cases a
      · refine ⟨r.val % 8, show _ < 8 from Nat.mod_lt _ (by decide), show k * 2052 + r.val = offM k (r.val / 256) (r.val % 256 / 8) 0 + 1 * (r.val % 8) from ?_⟩
        rw [offM_zero k _ _ hk (by omega) (by omega)]; omega
      · exact ⟨d.val, d.isLt, show d.val = 0 + 1 * d.val by omega⟩
    · refine congrArg₂ (octRowM w) (Fin.ext ?_) rfl
      show (k * 2052 + r.val - k * 2052) % 2048 = r.val
      omega

/-- One trip of the octet loop, the tail block: its stores bring the octets below `k` to those below `k + 1`. -/
theorem octT_step (v : View sig κ sp S4128x128 .f32) (g : v.ty.Contents (Elt F)) (w : FVec F S256x256 .f32) (k : ℕ) (hk : k < 8)
    (C : Fin 8 → Fin 512 → Fin 128 → F .f32) (hC : C ⟨k, hk⟩ = octRowT w)
    (hg : ∀ j : Fin 8, j.val < k → ∀ r d, v.read (Elt F) g (ix2 ⟨j.val * 516 + r.val, by omega⟩ d) = C j r d)
    (j : Fin 8) (hj : j.val < k + 1) (r : Fin 512) (d : Fin 128) :
    v.read (Elt F) (v.writes (Elt F) g (tailPieces w k hk 32 (Nat.le_refl 32))) (ix2 ⟨j.val * 516 + r.val, by omega⟩ d) = C j r d := by
  by_cases hc : j.val < k
  · rw [View.read_writes_apply_of_forall_not_mem v g _ _ ?_, hg j hc]
    intro p hp hx
    obtain ⟨lo, hlo, q, hq, rfl⟩ := (mem_tailPieces w k hk 32 (Nat.le_refl 32) p).mp hp
    obtain ⟨i, hi, e⟩ := (LoadRect.mem_set _).mp hx (0 : Fin 2)
    have e' : j.val * 516 + r.val = offT k q lo 0 + 1 * i := e
    rw [offT_zero k q lo hk hq hlo] at e'
    omega
  · have ej : j = ⟨k, hk⟩ := Fin.ext (by show j.val = k; omega)
    subst ej
    rw [hC]
    refine (View.read_writes_apply_of_pieces v g (fun ix => octRowT w ⟨((ix 0).val - k * 516) % 512, Nat.mod_lt _ (by decide)⟩ (ix 1)) _ ?_ _ ?_).trans ?_
    · intro p hp
      obtain ⟨lo, hlo, q, hq, rfl⟩ := (mem_tailPieces w k hk 32 (Nat.le_refl 32) p).mp hp
      intro (x : S8x128.Idx)
      have hx : (x 0).val < 8 := (x 0).isLt
      refine (congrFun (shapeCast_self (octetT w lo hlo q) shapeCasts_S8x128_S8x128) x).trans
        (octRowT_at w lo hlo q hq x _ _ ?_ (Fin.ext ?_)).symm
      · show (offT k q lo 0 + 1 * (x 0).val - k * 516) % 512 = _
        rw [offT_zero k q lo hk hq hlo]; omega
      · show 0 + 1 * (x 1).val = (x 1).val; omega
    · refine ⟨tailPiece w k hk (r.val % 256 / 8) (by omega) (r.val / 256) (by omega), (mem_tailPieces w k hk 32 (Nat.le_refl 32) _).mpr ⟨_, by omega, _, by omega, rfl⟩,
        (LoadRect.mem_set _).mpr fun a => ?_⟩
      fin_cases a
      · refine ⟨r.val % 8, show _ < 8 from Nat.mod_lt _ (by decide), show k * 516 + r.val = offT k (r.val / 256) (r.val % 256 / 8) 0 + 1 * (r.val % 8) from ?_⟩
        rw [offT_zero k _ _ hk (by omega) (by omega)]; omega
      · exact ⟨d.val, d.isLt, show d.val = 0 + 1 * d.val by omega⟩
    · refine congrArg₂ (octRowT w) (Fin.ext ?_) rfl
      show (k * 516 + r.val - k * 516) % 512 = r.val
      omega
end Step

end Cert.Proof
end
-- ==== Proof.SampleTrip.lean ====
module

public import proofs.«01_k».proof.Proof.Sample
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)
  (X1 : BufTy.Contents (Elt F) arg1.view.ty)

theorem word_inb (b : BitVec 32) (hb : b.toNat < 2) (k : ℕ) (hk : k < 80) (u : ℕ) (hu : u < 16) :
    ∀ a, (![b.toNat, (grpW k (BitVec.ofNat 32 u)).toNat] : Fin 2 → ℕ) a + S1x1.size a ≤ S2x1280.size a := by
  have h := sample_lt k hk u hu
  intro a; fin_cases a
  · show b.toNat + 1 ≤ 2; omega
  · show (grpW k (BitVec.ofNat 32 u)).toNat + 1 ≤ 1280; omega

/-- The sixteen words of a trip, as the body loads them: entries `16 k + u` of row `b` of the table. -/
def wordAt (b : BitVec 32) (hb : b.toNat < 2) (k : ℕ) (hk : k < 80) (u : ℕ) : BitVec 32 :=
  if hu : u < 16 then
    arg1.view.readAt (Elt F) (Rect.unit (s := S2x1280) ![b.toNat, (grpW k (BitVec.ofNat 32 u)).toNat] S1x1.size (word_inb b hb k hk u hu)).toLoadRect X1 (Shape.Idx.first (show 0 < S1x1.numel by decide))
  else 0#32
/-- Row `b` of the table. -/
def tab (b : BitVec 32) (hb : b.toNat < 2) : Fin 1280 → BitVec 32 := fun m => arg1.view.read (Elt F) X1 (ix2 ⟨b.toNat, hb⟩ m)
theorem wordAt_eq (b : BitVec 32) (hb : b.toNat < 2) (k : ℕ) (hk : k < 80) (u : ℕ) (hu : u < 16) :
    wordAt (F := F) arg1 X1 b hb k hk u = tab (F := F) arg1 X1 b hb ⟨16 * k + u, by omega⟩ := by
  unfold wordAt tab
  rw [dif_pos hu]
  refine congrArg (arg1.view.read (Elt F) X1) (funext fun a => Fin.ext ?_)
  fin_cases a
  · show b.toNat + 1 * 0 = b.toNat; omega
  · show (grpW k (BitVec.ofNat 32 u)).toNat + 1 * 0 = 16 * k + u
    rw [grpW_toNat k hk u hu]; omega

/-- The rows of octet `j` of a transformed chunk's main block, and of its tail block. -/
def octM (a : Memref sig .tc .vmem S16416x128 .f32) (X : BufTy.Contents (Elt F) a.view.ty) : Fin 8 → Fin 2048 → Fin 128 → F .f32 :=
  fun j r d => a.view.read (Elt F) X (ix2 ⟨j.val * 2052 + r.val, by omega⟩ d)
def octT (a : Memref sig .tc .vmem S4128x128 .f32) (X : BufTy.Contents (Elt F) a.view.ty) : Fin 8 → Fin 512 → Fin 128 → F .f32 :=
  fun j r d => a.view.read (Elt F) X (ix2 ⟨j.val * 516 + r.val, by omega⟩ d)
/-- The eight rows an index word loads of a chunk: its row of each octet. -/
def ldM (a : Memref sig .tc .vmem S16416x128 .f32) (X : BufTy.Contents (Elt F) a.view.ty) (w : BitVec 32) : S8x128.Idx → F .f32 :=
  a.view.readAt (Elt F) { off := ![(rowMW w).toNat, 0], size := S8x128.size, stride := ![2052, 1], inb := rowM_inb w } X
def ldT (a : Memref sig .tc .vmem S4128x128 .f32) (X : BufTy.Contents (Elt F) a.view.ty) (w : BitVec 32) : S8x128.Idx → F .f32 :=
  a.view.readAt (Elt F) { off := ![(rowTW w).toNat, 0], size := S8x128.size, stride := ![516, 1], inb := rowT_inb w } X
theorem ldM_eq (a : Memref sig .tc .vmem S16416x128 .f32) (X : BufTy.Contents (Elt F) a.view.ty) (w : BitVec 32) (x : S8x128.Idx) :
    ldM a X w x = octM a X (x 0) (rowM w) (x 1) := by
  refine congrArg (a.view.read (Elt F) X) (funext fun b => Fin.ext ?_)
  fin_cases b
  · show (rowMW w).toNat + 2052 * (x 0).val = (x 0).val * 2052 + (rowMW w).toNat; omega
  · show 0 + 1 * (x 1).val = (x 1).val; omega
theorem ldT_eq (a : Memref sig .tc .vmem S4128x128 .f32) (X : BufTy.Contents (Elt F) a.view.ty) (w : BitVec 32) (x : S8x128.Idx) :
    ldT a X w x = octT a X (x 0) (rowT w) (x 1) := by
  refine congrArg (a.view.read (Elt F) X) (funext fun b => Fin.ext ?_)
  fin_cases b
  · show (rowTW w).toNat + 516 * (x 0).val = (x 0).val * 516 + (rowTW w).toNat; omega
  · show 0 + 1 * (x 1).val = (x 1).val; omega

/-- What a sample loop holds after the samples below `n`: the table, the transformed chunk in `a` and `a'`, and the two accumulators, these being the old ones
    (`O`, `O'`) with those samples added. -/
def SampleInv (a : Memref sig .tc .vmem S16416x128 .f32) (a' : Memref sig .tc .vmem S4128x128 .f32)
    (X : BufTy.Contents (Elt F) a.view.ty) (X' : BufTy.Contents (Elt F) a'.view.ty) (b : BitVec 32) (hb : b.toNat < 2) (hi : BitVec 32)
    (O O' : S20480x128.Idx → F .f32) (n : ℕ) : sProp 𝕄G :=
  iprop(∃ g12, ∃ g13, (arg1.view.loc (c : Thread nD τ) ↦{fullShare.right} X1) ∗ (a.view.loc (c : Thread nD τ) ↦[a.view.set]{fullShare} X)
    ∗ (a'.view.loc (c : Thread nD τ) ↦[a'.view.set]{fullShare} X') ∗ (arg12.view.loc (c : Thread nD τ) ↦[arg12.view.set]{fullShare} g12)
    ∗ (arg13.view.loc (c : Thread nD τ) ↦[arg13.view.set]{fullShare} g13) ∗
     ⌜(∀ ix, arg12.view.read (Elt F) g12 ix = sampled rowM (tab (F := F) arg1 X1 b hb) hi (octM a X) O n ix) ∧
      (∀ ix, arg13.view.read (Elt F) g13 ix = sampled rowT (tab (F := F) arg1 X1 b hb) hi (octT a' X') O' n ix)⌝)

/-- A trip of a point's first sample loop: the chunk before this point's first. -/
theorem trip2 (X : BufTy.Contents (Elt F) arg10.view.ty) (X' : BufTy.Contents (Elt F) arg11.view.ty) (O O' : S20480x128.Idx → F .f32)
    (hb : ((prevBatchW i) : BitVec 32).toNat < 2) (arg0 v16 v18 : BitVec 32) (v32 : BitVec 1) (k : Fin k0_t2_loop.trips) (E : Set ℕ) :
    SampleInv c arg1 arg12 arg13 X1 arg10 arg11 X X' (prevBatchW i) hb (prevHiW i) O O' (16 * k.val)
    ⊢ (wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 arg12 harg12 arg13 harg13 arg0 v16 v18 v32 (prevBatchW i) (prevHiW i) k PUnit.unit)
     (fun _ => SampleInv c arg1 arg12 arg13 X1 arg10 arg11 X X' (prevBatchW i) hb (prevHiW i) O O' (16 * (k.val + 1))) : sProp 𝕄G) := by
  unfold k0_t2_body SampleInv
  iintro ⟨%G12, %G13, H1, H10, H11, H12, H13, %h⟩
  obtain ⟨h12, h13⟩ := h
  sl_exec
  sl_step
  iexists _
  iexists _
  isplitl [H1]
  · iexact H1
  isplitl [H10]
  · iexact H10
  isplitl [H11]
  · iexact H11
  isplitl [H12]
  · iexact H12
  isplitl [H13]
  · iexact H13
  ipureintro
  have hk : k.val < 80 := lt_of_lt_of_eq k.isLt (by decide)
  constructor
  · exact sample_step arg12.view G12 rowM (tab arg1 X1 (prevBatchW i) hb) (prevHiW i) (octM arg10 X) O k.val hk
      (wordAt arg1 X1 (prevBatchW i) hb k.val hk) (fun u => ldM arg10 X (wordAt arg1 X1 (prevBatchW i) hb k.val hk u))
      (fun u hu => wordAt_eq arg1 X1 (prevBatchW i) hb k.val hk u hu) (fun u hu x => ldM_eq arg10 X _ x) h12
  · exact sample_step arg13.view G13 rowT (tab arg1 X1 (prevBatchW i) hb) (prevHiW i) (octT arg11 X') O' k.val hk
      (wordAt arg1 X1 (prevBatchW i) hb k.val hk) (fun u => ldT arg11 X' (wordAt arg1 X1 (prevBatchW i) hb k.val hk u))
      (fun u hu => wordAt_eq arg1 X1 (prevBatchW i) hb k.val hk u hu) (fun u hu x => ldT_eq arg11 X' _ x) h13

/-- A trip of a point's second sample loop: the point's first chunk. -/
theorem trip5 (X : BufTy.Contents (Elt F) arg8.view.ty) (X' : BufTy.Contents (Elt F) arg9.view.ty) (O O' : S20480x128.Idx → F .f32)
    (hb : ((curBatchW i) : BitVec 32).toNat < 2) (k : Fin k0_t5_loop.trips) (E : Set ℕ) :
    SampleInv c arg1 arg12 arg13 X1 arg8 arg9 X X' (curBatchW i) hb (curHiW i) O O' (16 * k.val)
    ⊢ (wp frame (wpE (defs₀ (F := F)) Variants.none (c : Thread nD τ) none) E (k0_t5_body (F := F) i arg1 harg1 arg2 harg2 arg3 harg3 arg4 harg4 arg5 harg5 arg6 harg6 arg7 harg7 arg8 harg8 arg9 harg9 arg10 harg10 arg11 harg11 arg12 harg12 arg13 harg13 (curBatchW i) (curHiW i) k PUnit.unit)
     (fun _ => SampleInv c arg1 arg12 arg13 X1 arg8 arg9 X X' (curBatchW i) hb (curHiW i) O O' (16 * (k.val + 1))) : sProp 𝕄G) := by
  unfold k0_t5_body SampleInv
  iintro ⟨%G12, %G13, H1, H10, H11, H12, H13, %h⟩
  obtain ⟨h12, h13⟩ := h
  sl_exec
  sl_step
  iexists _
  iexists _
  isplitl [H1]
  · iexact H1
  isplitl [H10]
  · iexact H10
  isplitl [H11]
  · iexact H11
  isplitl [H12]
  · iexact H12
  isplitl [H13]
  · iexact H13
  ipureintro
  have hk : k.val < 80 := lt_of_lt_of_eq k.isLt (by decide)
  constructor
  · exact sample_step arg12.view G12 rowM (tab arg1 X1 (curBatchW i) hb) (curHiW i) (octM arg8 X) O k.val hk
      (wordAt arg1 X1 (curBatchW i) hb k.val hk) (fun u => ldM arg8 X (wordAt arg1 X1 (curBatchW i) hb k.val hk u))
      (fun u hu => wordAt_eq arg1 X1 (curBatchW i) hb k.val hk u hu) (fun u hu x => ldM_eq arg8 X _ x) h12
  · exact sample_step arg13.view G13 rowT (tab arg1 X1 (curBatchW i) hb) (curHiW i) (octT arg9 X') O' k.val hk
      (wordAt arg1 X1 (curBatchW i) hb k.val hk) (fun u => ldT arg9 X' (wordAt arg1 X1 (curBatchW i) hb k.val hk u))
      (fun u hu => wordAt_eq arg1 X1 (curBatchW i) hb k.val hk u hu) (fun u hu x => ldT_eq arg9 X' _ x) h13

/-- A trip of the last point's third sample loop: the last chunk of the second batch. -/
theorem trip6 (X : BufTy.Contents (Elt F) arg10.view.ty) (X' : BufTy.Contents (Elt F) arg11.view.ty) (O O' : S20480x128.Idx → F .f32)
    (hb : (1#32 : BitVec 32).toNat < 2) (h3 : k0_cond3 i = 1#1) (k : Fin k0_t6_loop.trips) (E : Set ℕ) :
    SampleInv c arg1 arg12 arg13 X1 arg10 arg11 X X' 1#32 hb 63#32 O O' (16 * k.val)
    ⊢ (wp frame (wpE (defs₀ (F := F)) Variants.none (c : Thread nD τ) none) E (k0_t6_body (F := F) i arg1 harg1 arg2 harg2 arg3 harg3 arg4 harg4 arg5 harg5 arg6 harg6 arg7 harg7 arg8 harg8 arg9 harg9 arg10 harg10 arg11 harg11 arg12 harg12 arg13 harg13 h3 k PUnit.unit)
     (fun _ => SampleInv c arg1 arg12 arg13 X1 arg10 arg11 X X' 1#32 hb 63#32 O O' (16 * (k.val + 1))) : sProp 𝕄G) := by
  unfold k0_t6_body SampleInv
  iintro ⟨%G12, %G13, H1, H10, H11, H12, H13, %h⟩
  obtain ⟨h12, h13⟩ := h
  sl_exec
  sl_step
  iexists _
  iexists _
  isplitl [H1]
  · iexact H1
  isplitl [H10]
  · iexact H10
  isplitl [H11]
  · iexact H11
  isplitl [H12]
  · iexact H12
  isplitl [H13]
  · iexact H13
  ipureintro
  have hk : k.val < 80 := lt_of_lt_of_eq k.isLt (by decide)
  constructor
  · exact sample_step arg12.view G12 rowM (tab arg1 X1 1#32 hb) 63#32 (octM arg10 X) O k.val hk
      (wordAt arg1 X1 1#32 hb k.val hk) (fun u => ldM arg10 X (wordAt arg1 X1 1#32 hb k.val hk u))
      (fun u hu => wordAt_eq arg1 X1 1#32 hb k.val hk u hu) (fun u hu x => ldM_eq arg10 X _ x) h12
  · exact sample_step arg13.view G13 rowT (tab arg1 X1 1#32 hb) 63#32 (octT arg11 X') O' k.val hk
      (wordAt arg1 X1 1#32 hb k.val hk) (fun u => ldT arg11 X' (wordAt arg1 X1 1#32 hb k.val hk u))
      (fun u hu => wordAt_eq arg1 X1 1#32 hb k.val hk u hu) (fun u hu x => ldT_eq arg11 X' _ x) h13

end Loop
end Cert.Proof
end
-- ==== Proof.OctLoads.lean ====
module

public import proofs.«01_k».proof.Proof.Octet
public import proofs.«01_k».proof.Proof.SampleTrip
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The row of scales and the tile of codes number `t` of block `q` of octet `k` of half `half` of a block of scales `R` and codes `X`. -/
def rowOf (R : S256x128.Idx → F .f32) (half k q t : ℕ) : FVec F S1x128 .f32 :=
  fun y => R (ix2 ⟨(half * 128 + k * 16 + 2 * q + t) % 256, Nat.mod_lt _ (by decide)⟩ (y 1))
def xOf (X : S1x160x32768.Idx → BitVec 8) (half k q t : ℕ) : Vec F S1x160x128 .i8 :=
  fun y => X (ix3 0 (y 1) ⟨(half * 16384 + k * 2048 + 256 * q + 128 * t + (y 2).val) % 32768, Nat.mod_lt _ (by decide)⟩)

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)
  (X2 : BufTy.Contents (Elt F) arg2.view.ty) (X6 : BufTy.Contents (Elt F) arg6.view.ty) (X7 : BufTy.Contents (Elt F) arg7.view.ty)

/-- The Hadamard matrix as the body loads it. -/
def hAt : FVec F S256x256 .bf16 :=
  arg6.view.readAt (Elt F) (Rect.unit (s := S256x256) ![0, 0] S256x256.size inb_S256x256_S256x256_0_0).toLoadRect X6

/-- The rows of scales and the tiles of codes of octet `k` of the first half of the block, as the body loads them. -/
def rowAt1 (k : Fin k0_t1_loop.trips) (q t : ℕ) : FVec F S1x128 .f32 :=
  if h : q < 8 ∧ t < 2 then
    arg7.view.readAt (Elt F) (Rect.unit (s := S256x128) (k0_off1 k (BitVec.ofNat 32 (2 * q)) (BitVec.ofNat 32 t)) S1x128.size (k0_off1_inb k ⟨q, h.1⟩ ⟨t, h.2⟩)).toLoadRect X7
  else rowOf (arg7.view.read (Elt F) X7) 0 k.val q t
def xAt1 (k : Fin k0_t1_loop.trips) (q t : ℕ) : Vec F S1x160x128 .i8 :=
  if h : q < 8 ∧ t < 2 then
    arg2.view.readAt (Elt F) (Rect.unit (s := S1x160x32768) (k0_off2 k (BitVec.ofNat 32 (256 * q)) (BitVec.ofNat 32 (128 * t))) S1x160x128.size (k0_off2_inb k ⟨q, h.1⟩ ⟨t, h.2⟩)).toLoadRect X2
  else xOf (arg2.view.read (Elt F) X2) 0 k.val q t

/-- The rows of scales and the tiles of codes of octet `k` of the second half of the block, as the body loads them. -/
def rowAt4 (k : Fin k0_t4_loop.trips) (q t : ℕ) : FVec F S1x128 .f32 :=
  if h : q < 8 ∧ t < 2 then
    arg7.view.readAt (Elt F) (Rect.unit (s := S256x128) (k0_off89 k (BitVec.ofNat 32 (2 * q)) (BitVec.ofNat 32 t)) S1x128.size (k0_off89_inb k ⟨q, h.1⟩ ⟨t, h.2⟩)).toLoadRect X7
  else rowOf (arg7.view.read (Elt F) X7) 1 k.val q t
def xAt4 (k : Fin k0_t4_loop.trips) (q t : ℕ) : Vec F S1x160x128 .i8 :=
  if h : q < 8 ∧ t < 2 then
    arg2.view.readAt (Elt F) (Rect.unit (s := S1x160x32768) (k0_off90 k (BitVec.ofNat 32 (256 * q)) (BitVec.ofNat 32 (128 * t))) S1x160x128.size (k0_off90_inb k ⟨q, h.1⟩ ⟨t, h.2⟩)).toLoadRect X2
  else xOf (arg2.view.read (Elt F) X2) 1 k.val q t

theorem hAt_eq : hAt arg6 X6 = arg6.view.read (Elt F) X6 := by
  unfold hAt
  refine funext fun x => congrArg (arg6.view.read (Elt F) X6) (funext fun a => Fin.ext ?_)
  fin_cases a
  · show 0 + 1 * (x 0).val = (x 0).val; omega
  · show 0 + 1 * (x 1).val = (x 1).val; omega
theorem off1_eq : ∀ (k : Fin k0_t1_loop.trips) (q : Fin 8) (t : Fin 2),
    k0_off1 k (BitVec.ofNat 32 (2 * q.val)) (BitVec.ofNat 32 t.val) 0 = k.val * 16 + 2 * q.val + t.val := by decide +kernel
theorem off89_eq : ∀ (k : Fin k0_t4_loop.trips) (q : Fin 8) (t : Fin 2),
    k0_off89 k (BitVec.ofNat 32 (2 * q.val)) (BitVec.ofNat 32 t.val) 0 = 128 + k.val * 16 + 2 * q.val + t.val := by decide +kernel
theorem off2_eq : ∀ (k : Fin k0_t1_loop.trips) (q : Fin 8) (t : Fin 2),
    k0_off2 k (BitVec.ofNat 32 (256 * q.val)) (BitVec.ofNat 32 (128 * t.val)) 2 = k.val * 2048 + 256 * q.val + 128 * t.val := by decide +kernel
theorem off90_eq : ∀ (k : Fin k0_t4_loop.trips) (q : Fin 8) (t : Fin 2),
    k0_off90 k (BitVec.ofNat 32 (256 * q.val)) (BitVec.ofNat 32 (128 * t.val)) 2 = 16384 + k.val * 2048 + 256 * q.val + 128 * t.val := by decide +kernel
theorem rowAt1_eq (k : Fin k0_t1_loop.trips) : rowAt1 arg7 X7 k = rowOf (arg7.view.read (Elt F) X7) 0 k.val := by
  funext q t
  have hk : k.val < 8 := lt_of_lt_of_eq k.isLt (by decide)
  unfold rowAt1
  split
  · rename_i h
    have e := off1_eq k ⟨q, h.1⟩ ⟨t, h.2⟩
    refine funext fun y => congrArg (arg7.view.read (Elt F) X7) (funext fun a => Fin.ext ?_)
    fin_cases a
    · have hy : (y 0).val < 1 := (y 0).isLt
      have e' : k0_off1 k (BitVec.ofNat 32 (2 * q)) (BitVec.ofNat 32 t) 0 + 1 * (y 0).val = (0 * 128 + k.val * 16 + 2 * q + t) % 256 := by
        rw [e]; simp only; omega
      exact e'
    · show 0 + 1 * (y 1).val = (y 1).val; omega
  · rfl
theorem xAt1_eq (k : Fin k0_t1_loop.trips) : xAt1 arg2 X2 k = xOf (arg2.view.read (Elt F) X2) 0 k.val := by
  funext q t
  have hk : k.val < 8 := lt_of_lt_of_eq k.isLt (by decide)
  unfold xAt1
  split
  · rename_i h
    have e := off2_eq k ⟨q, h.1⟩ ⟨t, h.2⟩
    refine funext fun y => congrArg (arg2.view.read (Elt F) X2) (funext fun a => Fin.ext ?_)
    fin_cases a
    · have hy : (y 0).val < 1 := (y 0).isLt
      show 0 + 1 * (y 0).val = 0; omega
    · show 0 + 1 * (y 1).val = (y 1).val; omega
    · have hy : (y 2).val < 128 := (y 2).isLt
      have e' : k0_off2 k (BitVec.ofNat 32 (256 * q)) (BitVec.ofNat 32 (128 * t)) 2 + 1 * (y 2).val
          = (0 * 16384 + k.val * 2048 + 256 * q + 128 * t + (y 2).val) % 32768 := by
        rw [e]; simp only; omega
      exact e'
  · rfl
theorem rowAt4_eq (k : Fin k0_t4_loop.trips) : rowAt4 arg7 X7 k = rowOf (arg7.view.read (Elt F) X7) 1 k.val := by
  funext q t
  have hk : k.val < 8 := lt_of_lt_of_eq k.isLt (by decide)
  unfold rowAt4
  split
  · rename_i h
    have e := off89_eq k ⟨q, h.1⟩ ⟨t, h.2⟩
    refine funext fun y => congrArg (arg7.view.read (Elt F) X7) (funext fun a => Fin.ext ?_)
    fin_cases a
    · have hy : (y 0).val < 1 := (y 0).isLt
      have e' : k0_off89 k (BitVec.ofNat 32 (2 * q)) (BitVec.ofNat 32 t) 0 + 1 * (y 0).val = (1 * 128 + k.val * 16 + 2 * q + t) % 256 := by
        rw [e]; simp only; omega
      exact e'
    · show 0 + 1 * (y 1).val = (y 1).val; omega
  · rfl
theorem xAt4_eq (k : Fin k0_t4_loop.trips) : xAt4 arg2 X2 k = xOf (arg2.view.read (Elt F) X2) 1 k.val := by
  funext q t
  have hk : k.val < 8 := lt_of_lt_of_eq k.isLt (by decide)
  unfold xAt4
  split
  · rename_i h
    have e := off90_eq k ⟨q, h.1⟩ ⟨t, h.2⟩
    refine funext fun y => congrArg (arg2.view.read (Elt F) X2) (funext fun a => Fin.ext ?_)
    fin_cases a
    · have hy : (y 0).val < 1 := (y 0).isLt
      show 0 + 1 * (y 0).val = 0; omega
    · show 0 + 1 * (y 1).val = (y 1).val; omega
    · have hy : (y 2).val < 128 := (y 2).isLt
      have e' : k0_off90 k (BitVec.ofNat 32 (256 * q)) (BitVec.ofNat 32 (128 * t)) 2 + 1 * (y 2).val
          = (1 * 16384 + k.val * 2048 + 256 * q + 128 * t + (y 2).val) % 32768 := by
        rw [e]; simp only; omega
      exact e'
  · rfl

end Loop
end Cert.Proof
end
-- ==== Proof.Chunk.lean ====
module

public import proofs.«01_k».proof.Proof.OctLoads
public import proofs.«01_k».proof.Proof.SampleTrip
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)

/-- The rows of octet `j` of a transformed chunk, main block and tail block: from the Hadamard matrix `h`, the block of scales `R`, the block of codes `X`
    and which half of the block the chunk is. -/
def chunkM (h : S256x256.Idx → F .bf16) (R : S256x128.Idx → F .f32) (X : S1x160x32768.Idx → BitVec 8) (half : ℕ) : Fin 8 → Fin 2048 → Fin 128 → F .f32 :=
  fun j => octRowM (wMain h (rowOf R half j.val) (xOf X half j.val))
def chunkT (h : S256x256.Idx → F .bf16) (R : S256x128.Idx → F .f32) (X : S1x160x32768.Idx → BitVec 8) (half : ℕ) : Fin 8 → Fin 512 → Fin 128 → F .f32 :=
  fun j => octRowT (wTail h (rowOf R half j.val) (xOf X half j.val))

/-- What a transform loop holds after the octets below `n`: its inputs, and the chunk's two blocks with those octets' rows in place. -/
def OctInv (X2 : BufTy.Contents (Elt F) arg2.view.ty) (X6 : BufTy.Contents (Elt F) arg6.view.ty) (X7 : BufTy.Contents (Elt F) arg7.view.ty)
    (a : Memref sig .tc .vmem S16416x128 .f32) (a' : Memref sig .tc .vmem S4128x128 .f32) (half n : ℕ) : sProp 𝕄G :=
  iprop(∃ g, ∃ g', (arg2.view.loc (c : Thread nD τ) ↦[arg2.view.set]{fullShare} X2) ∗ (arg6.view.loc (c : Thread nD τ) ↦[arg6.view.set]{fullShare} X6)
    ∗ (arg7.view.loc (c : Thread nD τ) ↦[arg7.view.set]{fullShare} X7) ∗ (a.view.loc (c : Thread nD τ) ↦[a.view.set]{fullShare} g)
    ∗ (a'.view.loc (c : Thread nD τ) ↦[a'.view.set]{fullShare} g') ∗
     ⌜(∀ j : Fin 8, j.val < n → ∀ r d, octM a g j r d = chunkM (arg6.view.read (Elt F) X6) (arg7.view.read (Elt F) X7) (arg2.view.read (Elt F) X2) half j r d) ∧
      (∀ j : Fin 8, j.val < n → ∀ r d, octT a' g' j r d = chunkT (arg6.view.read (Elt F) X6) (arg7.view.read (Elt F) X7) (arg2.view.read (Elt F) X2) half j r d)⌝)

end Loop
end Cert.Proof
end
-- ==== Proof.Finish.lean ====
module

public import proofs.«01_k».proof.Proof.SampleTrip
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The sign `(-1)^popcount(a & s)` of every lane, as the kernel computes it from the bits `s` of the lanes. -/
def laneSign (s : IVec S8x128 32) (a : BitVec 32) : FVec F S8x128 .f32 :=
  sitofp .f32 (subi (broadcast S8x128 1#32) (muli (broadcast S8x128 2#32) (andi (ctpop (andi (broadcast S8x128 a) s)) (broadcast S8x128 1#32))))
/-- The octet of a sublane. -/
def subW : IVec S8x128 32 := iota .tc S8x128 32 [0] iota_S8x128_d0_w32
/-- The signs of a sample's eight octets, and those signs times the signs of the four blocks of thirty-two lanes. -/
def sgM (w : BitVec 32) : FVec F S8x128 .f32 := laneSign subW (Scalar.andi (Scalar.shrsi w 11#32) 7#32)
def sgT (w : BitVec 32) : FVec F S8x128 .f32 := mulf (sgM w) (laneSign k0_pay3138 (Scalar.andi (Scalar.shrsi w 8#32) 3#32))
/-- The sum over the octets of the signed difference of the two halves of the accumulator. -/
def rowSum (A B s : FVec F S8x128 .f32) : FVec F S1x128 .f32 :=
  shapeCast S1x128 (multiReduction .add [0] S128 (mulf (subf A B) s) 0x00000000#32 reduces_S8x128_S128 (.inl rfl) rfl) shapeCasts_S128_S1x128
/-- Eight rows, one under the other. -/
def eightRows (r : ℕ → FVec F S1x128 .f32) : FVec F S8x128 .f32 :=
  concatenate S8x128 0 [⟨S1x128, r 0⟩, ⟨S1x128, r 1⟩, ⟨S1x128, r 2⟩, ⟨S1x128, r 3⟩, ⟨S1x128, r 4⟩, ⟨S1x128, r 5⟩, ⟨S1x128, r 6⟩, ⟨S1x128, r 7⟩]
    concatenates_S1x128_S1x128_S1x128_S1x128_S1x128_S1x128_S1x128_S1x128_S8x128_d0
/-- A row of four blocks of thirty-two lanes, the blocks added up in every block. -/
def addBlocks (v : FVec F S8x128 .f32) : FVec F S8x128 .f32 :=
  addf (addf v (dynamicRotate 1 64#32 none v rotates_S8x128_d1))
    (dynamicRotate 1 32#32 none (addf v (dynamicRotate 1 64#32 none v rotates_S8x128_d1)) rotates_S8x128_d1)
/-- The eight result rows of eight samples: lanes 0 to 127, and lanes 128 to 159. -/
def finM (cst : F .f32) (w : ℕ → BitVec 32) (A B : ℕ → FVec F S8x128 .f32) : FVec F S1x8x128 .f32 :=
  shapeCast S1x8x128 (mulf (eightRows fun u => rowSum (A u) (B u) (sgM (w u))) (broadcast S8x128 cst)) shapeCasts_S8x128_S1x8x128
def finT (cst : F .f32) (w : ℕ → BitVec 32) (A B : ℕ → FVec F S8x128 .f32) : FVec F S1x8x32 .f32 :=
  shapeCast S1x8x32 (mulf (extractStridedSlice S8x32 ![0, 0] (addBlocks (eightRows fun u => rowSum (A u) (B u) (sgT (w u)))) slices_S8x128_o0_0_S8x32)
    (broadcast S8x32 cst)) shapeCasts_S8x32_S1x8x32

/-- The eight rows of an accumulator from row `r` on. -/
def rows8 (O : S20480x128.Idx → F .f32) (r : ℕ) : FVec F S8x128 .f32 := fun x => O (ix2 ⟨(r + (x 0).val) % 20480, Nat.mod_lt _ (by decide)⟩ (x 1))
/-- Entry `n` of a table row (any entry past its end). -/
def tabAt (T : Fin 1280 → BitVec 32) (n : ℕ) : BitVec 32 := T ⟨n % 1280, Nat.mod_lt _ (by decide)⟩

/-- The result the finish loop makes of the table row `T` and the accumulators `O`, `O'`. -/
def finY (cst : F .f32) (T : Fin 1280 → BitVec 32) (O O' : S20480x128.Idx → F .f32) : S1x1280x160.Idx → F .f32 := fun ix =>
  let g := (ix 1).val / 8
  if h : (ix 2).val < 128 then
    finM cst (fun u => tabAt T (8 * g + u)) (fun u => rows8 O ((8 * g + u) * 8)) (fun u => rows8 O (10240 + (8 * g + u) * 8))
      (ix3 0 ⟨(ix 1).val % 8, Nat.mod_lt _ (by decide)⟩ ⟨(ix 2).val, h⟩)
  else
    finT cst (fun u => tabAt T (8 * g + u)) (fun u => rows8 O' ((8 * g + u) * 8)) (fun u => rows8 O' (10240 + (8 * g + u) * 8))
      (ix3 0 ⟨(ix 1).val % 8, Nat.mod_lt _ (by decide)⟩ ⟨(ix 2).val - 128, by have h2 : (ix 2).val < 160 := (ix 2).isLt; omega⟩)

/-- Sample `u` of trip `k` of the finish loop, eight samples a trip. -/
def finW (k : ℕ) (u : BitVec 32) : BitVec 32 := Scalar.addi (Scalar.muli (Scf.iv 0#32 1#32 k) 8#32) u
theorem finW_toNat (k : ℕ) (hk : k < 160) (u : ℕ) (hu : u < 8) : (finW k (BitVec.ofNat 32 u)).toNat = 8 * k + u := by
  show ((0#32 + BitVec.ofNat 32 k * 1#32) * 8#32 + BitVec.ofNat 32 u : BitVec 32).toNat = _
  simp only [BitVec.toNat_add, BitVec.toNat_mul, BitVec.toNat_ofNat]
  omega
theorem finBase_toNat (k : ℕ) (hk : k < 160) : (Scalar.muli (Scf.iv 0#32 1#32 k) 8#32).toNat = 8 * k := by
  show ((0#32 + BitVec.ofNat 32 k * 1#32) * 8#32 : BitVec 32).toNat = _
  simp only [BitVec.toNat_add, BitVec.toNat_mul, BitVec.toNat_ofNat]
  omega
theorem finRow0 (k : ℕ) (hk : k < 160) (u : ℕ) (hu : u < 8) :
    (Scalar.muli (finW k (BitVec.ofNat 32 u)) 8#32).toNat = (8 * k + u) * 8 := by
  show (finW k (BitVec.ofNat 32 u) * 8#32 : BitVec 32).toNat = _
  rw [BitVec.toNat_mul, finW_toNat k hk u hu, BitVec.toNat_ofNat]; omega
theorem finRow1 (k : ℕ) (hk : k < 160) (u : ℕ) (hu : u < 8) :
    (Scalar.addi 10240#32 (Scalar.muli (finW k (BitVec.ofNat 32 u)) 8#32)).toNat = 10240 + (8 * k + u) * 8 := by
  show (10240#32 + Scalar.muli (finW k (BitVec.ofNat 32 u)) 8#32 : BitVec 32).toNat = _
  rw [BitVec.toNat_add, finRow0 k hk u hu, BitVec.toNat_ofNat]; omega

theorem finM_inb (k : ℕ) (hk : k < 160) :
    ∀ a, (![0, (Scalar.muli (Scf.iv 0#32 1#32 k) 8#32).toNat, 0] : Fin 3 → ℕ) a + S1x8x128.size a ≤ S1x1280x160.size a := by
  have h := finBase_toNat k hk
  intro a; fin_cases a
  · show 0 + 1 ≤ 1; omega
  · show (Scalar.muli (Scf.iv 0#32 1#32 k) 8#32).toNat + 8 ≤ 1280; omega
  · show 0 + 128 ≤ 160; omega
theorem finT_inb (k : ℕ) (hk : k < 160) :
    ∀ a, (![0, (Scalar.muli (Scf.iv 0#32 1#32 k) 8#32).toNat, 128] : Fin 3 → ℕ) a + S1x8x32.size a ≤ S1x1280x160.size a := by
  have h := finBase_toNat k hk
  intro a; fin_cases a
  · show 0 + 1 ≤ 1; omega
  · show (Scalar.muli (Scf.iv 0#32 1#32 k) 8#32).toNat + 8 ≤ 1280; omega
  · show 128 + 32 ≤ 160; omega

section Step
variable {sig : RefSig} {κ : Kind} {sp : Space} (v : View sig κ sp S1x1280x160 .f32) (g : v.ty.Contents (Elt F))
variable (cst : F .f32) (T : Fin 1280 → BitVec 32) (O O' : S20480x128.Idx → F .f32) (k : ℕ) (hk : k < 160)
  (w : ℕ → BitVec 32) (A B A' B' : ℕ → FVec F S8x128 .f32)

theorem eightRows_congr (r r' : ℕ → FVec F S1x128 .f32) (h : ∀ u, u < 8 → r u = r' u) : eightRows r = eightRows r' := by
  unfold eightRows
  rw [h 0 (by decide), h 1 (by decide), h 2 (by decide), h 3 (by decide), h 4 (by decide), h 5 (by decide), h 6 (by decide), h 7 (by decide)]

/-- One trip of the finish loop: its two stores bring the result rows below `8 k` to those below `8 (k + 1)`. -/
theorem finish_step (hw : ∀ u, u < 8 → w u = tabAt T (8 * k + u))
    (hA : ∀ u, u < 8 → A u = rows8 O ((8 * k + u) * 8)) (hB : ∀ u, u < 8 → B u = rows8 O (10240 + (8 * k + u) * 8))
    (hA' : ∀ u, u < 8 → A' u = rows8 O' ((8 * k + u) * 8)) (hB' : ∀ u, u < 8 → B' u = rows8 O' (10240 + (8 * k + u) * 8))
    (hg : ∀ ix : S1x1280x160.Idx, (ix 1).val < 8 * k → v.read (Elt F) g ix = finY cst T O O' ix)
    (ix : S1x1280x160.Idx) (hix : (ix 1).val < 8 * (k + 1)) :
    v.read (Elt F) (v.writes (Elt F) g
      [⟨Rect.unit (s := S1x1280x160) ![0, (Scalar.muli (Scf.iv 0#32 1#32 k) 8#32).toNat, 128] S1x8x32.size (finT_inb k hk), finT cst w A' B'⟩,
       ⟨Rect.unit (s := S1x1280x160) ![0, (Scalar.muli (Scf.iv 0#32 1#32 k) 8#32).toNat, 0] S1x8x128.size (finM_inb k hk), finM cst w A B⟩]) ix
      = finY cst T O O' ix := by
  have hb := finBase_toNat k hk
  have eM : finM cst w A B = finM cst (fun u => tabAt T (8 * k + u)) (fun u => rows8 O ((8 * k + u) * 8)) (fun u => rows8 O (10240 + (8 * k + u) * 8)) := by
    unfold finM
    rw [eightRows_congr _ (fun u => rowSum (rows8 O ((8 * k + u) * 8)) (rows8 O (10240 + (8 * k + u) * 8)) (sgM (tabAt T (8 * k + u))))
      (fun u hu => by rw [hw u hu, hA u hu, hB u hu])]
  have eT : finT cst w A' B' = finT cst (fun u => tabAt T (8 * k + u)) (fun u => rows8 O' ((8 * k + u) * 8)) (fun u => rows8 O' (10240 + (8 * k + u) * 8)) := by
    unfold finT
    rw [eightRows_congr _ (fun u => rowSum (rows8 O' ((8 * k + u) * 8)) (rows8 O' (10240 + (8 * k + u) * 8)) (sgT (tabAt T (8 * k + u))))
      (fun u hu => by rw [hw u hu, hA' u hu, hB' u hu])]
  rw [eM, eT]
  have h2 : (ix 2).val < 160 := (ix 2).isLt
  have h0 : (ix 0).val = 0 := by have : (ix 0).val < 1 := (ix 0).isLt; omega
  generalize hL : ([⟨Rect.unit (s := S1x1280x160) ![0, (Scalar.muli (Scf.iv 0#32 1#32 k) 8#32).toNat, 128] S1x8x32.size (finT_inb k hk), _⟩, ⟨Rect.unit (s := S1x1280x160) ![0, (Scalar.muli (Scf.iv 0#32 1#32 k) 8#32).toNat, 0] S1x8x128.size (finM_inb k hk), _⟩] : List (View.Piece (Elt F) S1x1280x160 .f32)) = L
  by_cases hc : (ix 1).val < 8 * k
  · rw [View.read_writes_apply_of_forall_not_mem v g ix L ?_, hg ix hc]
    subst hL
    intro p hp hx
    simp only [List.mem_cons, List.not_mem_nil, or_false] at hp
    rcases hp with rfl | rfl
    · obtain ⟨j, hj, e⟩ := (LoadRect.mem_set _).mp hx (1 : Fin 3)
      have e' : (ix 1).val = (Scalar.muli (Scf.iv 0#32 1#32 k) 8#32).toNat + 1 * j := e
      omega
    · obtain ⟨j, hj, e⟩ := (LoadRect.mem_set _).mp hx (1 : Fin 3)
      have e' : (ix 1).val = (Scalar.muli (Scf.iv 0#32 1#32 k) 8#32).toNat + 1 * j := e
      omega
  · refine View.read_writes_apply_of_pieces v g (finY cst T O O') L ?_ ix ?_
    · subst hL
      intro p hp
      simp only [List.mem_cons, List.not_mem_nil, or_false] at hp
      rcases hp with rfl | rfl
      · intro (x : S1x8x32.Idx)
        have hx0 : (x 0).val = 0 := by have : (x 0).val < 1 := (x 0).isLt; omega
        have hx1 : (x 1).val < 8 := (x 1).isLt
        have hx2 : (x 2).val < 32 := (x 2).isLt
        generalize hy : (Rect.unit (s := S1x1280x160) ![0, (Scalar.muli (Scf.iv 0#32 1#32 k) 8#32).toNat, 128] S1x8x32.size (finT_inb k hk)).emb x = y
        have e1 : (y 1).val = 8 * k + (x 1).val := by
          rw [← hy]; show (Scalar.muli (Scf.iv 0#32 1#32 k) 8#32).toNat + 1 * (x 1).val = _; omega
        have e2 : (y 2).val = 128 + (x 2).val := by
          rw [← hy]; show 128 + 1 * (x 2).val = _; omega
        have eg : (y 1).val / 8 = k := by omega
        show _ = finY cst T O O' y
        unfold finY
        rw [dif_neg (by omega)]
        simp only [eg]
        refine congrArg _ (funext fun a => Fin.ext ?_)
        fin_cases a
        · exact hx0
        · show (x 1).val = (y 1).val % 8; omega
        · show (x 2).val = (y 2).val - 128; omega
      · intro (x : S1x8x128.Idx)
        have hx0 : (x 0).val = 0 := by have : (x 0).val < 1 := (x 0).isLt; omega
        have hx1 : (x 1).val < 8 := (x 1).isLt
        have hx2 : (x 2).val < 128 := (x 2).isLt
        generalize hy : (Rect.unit (s := S1x1280x160) ![0, (Scalar.muli (Scf.iv 0#32 1#32 k) 8#32).toNat, 0] S1x8x128.size (finM_inb k hk)).emb x = y
        have e1 : (y 1).val = 8 * k + (x 1).val := by
          rw [← hy]; show (Scalar.muli (Scf.iv 0#32 1#32 k) 8#32).toNat + 1 * (x 1).val = _; omega
        have e2 : (y 2).val = (x 2).val := by
          rw [← hy]; show 0 + 1 * (x 2).val = _; omega
        have eg : (y 1).val / 8 = k := by omega
        show _ = finY cst T O O' y
        unfold finY
        rw [dif_pos (by omega)]
        simp only [eg]
        refine congrArg _ (funext fun a => Fin.ext ?_)
        fin_cases a
        · exact hx0
        · show (x 1).val = (y 1).val % 8; omega
        · show (x 2).val = (y 2).val; omega
    · subst hL
      by_cases hd : (ix 2).val < 128
      · refine ⟨_, List.mem_cons_of_mem _ List.mem_cons_self, (LoadRect.mem_set _).mpr fun a => ?_⟩
        fin_cases a
        · exact ⟨0, show 0 < 1 by omega, show (ix 0).val = 0 + 1 * 0 by omega⟩
        · exact ⟨(ix 1).val - 8 * k, show _ < 8 by omega, show (ix 1).val = (Scalar.muli (Scf.iv 0#32 1#32 k) 8#32).toNat + 1 * ((ix 1).val - 8 * k) by omega⟩
        · exact ⟨(ix 2).val, show _ < 128 by omega, show (ix 2).val = 0 + 1 * (ix 2).val by omega⟩
      · refine ⟨_, List.mem_cons_self, (LoadRect.mem_set _).mpr fun a => ?_⟩
        fin_cases a
        · exact ⟨0, show 0 < 1 by omega, show (ix 0).val = 0 + 1 * 0 by omega⟩
        · exact ⟨(ix 1).val - 8 * k, show _ < 8 by omega, show (ix 1).val = (Scalar.muli (Scf.iv 0#32 1#32 k) 8#32).toNat + 1 * ((ix 1).val - 8 * k) by omega⟩
        · exact ⟨(ix 2).val - 128, show _ < 32 by omega, show (ix 2).val = 128 + 1 * ((ix 2).val - 128) by omega⟩
end Step

end Cert.Proof
end
-- ==== Proof.FinishTrip.lean ====
module

public import proofs.«01_k».proof.Proof.Finish
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)
  (X1 : BufTy.Contents (Elt F) arg1.view.ty)

theorem finWord_inb (b : ℕ) (hb : b < 2) (k : ℕ) (hk : k < 160) (u : ℕ) (hu : u < 8) :
    ∀ a, (![b, (finW k (BitVec.ofNat 32 u)).toNat] : Fin 2 → ℕ) a + S1x1.size a ≤ S2x1280.size a := by
  have h := finW_toNat k hk u hu
  intro a; fin_cases a
  · show b + 1 ≤ 2; omega
  · show (finW k (BitVec.ofNat 32 u)).toNat + 1 ≤ 1280; omega
theorem finAcc0_inb (k : ℕ) (hk : k < 160) (u : ℕ) (hu : u < 8) :
    ∀ a, (![(Scalar.muli (finW k (BitVec.ofNat 32 u)) 8#32).toNat, 0] : Fin 2 → ℕ) a + S8x128.size a ≤ S20480x128.size a := by
  have h := finRow0 k hk u hu
  intro a; fin_cases a
  · show (Scalar.muli (finW k (BitVec.ofNat 32 u)) 8#32).toNat + 8 ≤ 20480; omega
  · show 0 + 128 ≤ 128; omega
theorem finAcc1_inb (k : ℕ) (hk : k < 160) (u : ℕ) (hu : u < 8) :
    ∀ a, (![(Scalar.addi 10240#32 (Scalar.muli (finW k (BitVec.ofNat 32 u)) 8#32)).toNat, 0] : Fin 2 → ℕ) a + S8x128.size a ≤ S20480x128.size a := by
  have h := finRow1 k hk u hu
  intro a; fin_cases a
  · show (Scalar.addi 10240#32 (Scalar.muli (finW k (BitVec.ofNat 32 u)) 8#32)).toNat + 8 ≤ 20480; omega
  · show 0 + 128 ≤ 128; omega

/-- The words of a trip of the finish loop, and the rows of an accumulator it loads, as the body loads them. -/
def finWord (b : ℕ) (hb : b < 2) (k : ℕ) (hk : k < 160) (u : ℕ) : BitVec 32 :=
  if hu : u < 8 then
    arg1.view.readAt (Elt F) (Rect.unit (s := S2x1280) ![b, (finW k (BitVec.ofNat 32 u)).toNat] S1x1.size (finWord_inb b hb k hk u hu)).toLoadRect X1 (Shape.Idx.first (show 0 < S1x1.numel by decide))
  else 0#32
def finAcc0 (a : Memref sig .tc .vmem S20480x128 .f32) (X : BufTy.Contents (Elt F) a.view.ty) (k : ℕ) (hk : k < 160) (u : ℕ) : FVec F S8x128 .f32 :=
  if hu : u < 8 then
    a.view.readAt (Elt F) (Rect.unit (s := S20480x128) ![(Scalar.muli (finW k (BitVec.ofNat 32 u)) 8#32).toNat, 0] S8x128.size (finAcc0_inb k hk u hu)).toLoadRect X
  else rows8 (a.view.read (Elt F) X) 0
def finAcc1 (a : Memref sig .tc .vmem S20480x128 .f32) (X : BufTy.Contents (Elt F) a.view.ty) (k : ℕ) (hk : k < 160) (u : ℕ) : FVec F S8x128 .f32 :=
  if hu : u < 8 then
    a.view.readAt (Elt F) (Rect.unit (s := S20480x128) ![(Scalar.addi 10240#32 (Scalar.muli (finW k (BitVec.ofNat 32 u)) 8#32)).toNat, 0] S8x128.size (finAcc1_inb k hk u hu)).toLoadRect X
  else rows8 (a.view.read (Elt F) X) 0

theorem finWord_eq (b : BitVec 32) (hb : b.toNat < 2) (k : ℕ) (hk : k < 160) (u : ℕ) (hu : u < 8) :
    finWord (F := F) arg1 X1 b.toNat hb k hk u = tabAt (tab (F := F) arg1 X1 b hb) (8 * k + u) := by
  unfold finWord tabAt tab
  rw [dif_pos hu]
  refine congrArg (arg1.view.read (Elt F) X1) (funext fun a => Fin.ext ?_)
  fin_cases a
  · show b.toNat + 1 * 0 = b.toNat; omega
  · show (finW k (BitVec.ofNat 32 u)).toNat + 1 * 0 = (8 * k + u) % 1280
    have h := finW_toNat k hk u hu; omega
theorem finAcc0_eq (a : Memref sig .tc .vmem S20480x128 .f32) (X : BufTy.Contents (Elt F) a.view.ty) (k : ℕ) (hk : k < 160) (u : ℕ) (hu : u < 8) :
    finAcc0 a X k hk u = rows8 (a.view.read (Elt F) X) ((8 * k + u) * 8) := by
  unfold finAcc0 rows8
  rw [dif_pos hu]
  funext x
  have hx : (x 0).val < 8 := (x 0).isLt
  refine congrArg (a.view.read (Elt F) X) (funext fun b => Fin.ext ?_)
  fin_cases b
  · show (Scalar.muli (finW k (BitVec.ofNat 32 u)) 8#32).toNat + 1 * (x 0).val = ((8 * k + u) * 8 + (x 0).val) % 20480
    have h := finRow0 k hk u hu; omega
  · show 0 + 1 * (x 1).val = (x 1).val; omega
theorem finAcc1_eq (a : Memref sig .tc .vmem S20480x128 .f32) (X : BufTy.Contents (Elt F) a.view.ty) (k : ℕ) (hk : k < 160) (u : ℕ) (hu : u < 8) :
    finAcc1 a X k hk u = rows8 (a.view.read (Elt F) X) (10240 + (8 * k + u) * 8) := by
  unfold finAcc1 rows8
  rw [dif_pos hu]
  funext x
  have hx : (x 0).val < 8 := (x 0).isLt
  refine congrArg (a.view.read (Elt F) X) (funext fun b => Fin.ext ?_)
  fin_cases b
  · show (Scalar.addi 10240#32 (Scalar.muli (finW k (BitVec.ofNat 32 u)) 8#32)).toNat + 1 * (x 0).val = (10240 + (8 * k + u) * 8 + (x 0).val) % 20480
    have h := finRow1 k hk u hu; omega
  · show 0 + 1 * (x 1).val = (x 1).val; omega

/-- What a finish loop holds after `n` trips: the table, the two accumulators, and the output block whose first `8 n` rows are the result. -/
def FinishInv (cst : F .f32) (X : BufTy.Contents (Elt F) arg12.view.ty) (X' : BufTy.Contents (Elt F) arg13.view.ty) (b : BitVec 32) (hb : b.toNat < 2) (n : ℕ) : sProp 𝕄G :=
  iprop(∃ g5, (arg1.view.loc (c : Thread nD τ) ↦{fullShare.right} X1) ∗ (arg12.view.loc (c : Thread nD τ) ↦[arg12.view.set]{fullShare} X)
    ∗ (arg13.view.loc (c : Thread nD τ) ↦[arg13.view.set]{fullShare} X') ∗ (arg5.view.loc (c : Thread nD τ) ↦[arg5.view.set]{fullShare} g5) ∗
     ⌜∀ ix : S1x1280x160.Idx, (ix 1).val < 8 * n → arg5.view.read (Elt F) g5 ix
        = finY cst (tab (F := F) arg1 X1 b hb) (arg12.view.read (Elt F) X) (arg13.view.read (Elt F) X') ix⌝)

/-- A trip of the finish loop of the first batch. -/
theorem trip3 (cst : F .f32) (X : BufTy.Contents (Elt F) arg12.view.ty) (X' : BufTy.Contents (Elt F) arg13.view.ty)
    (hb : (0#32 : BitVec 32).toNat < 2) (arg0 v16 v18 : BitVec 32) (v32 : BitVec 1) (h2 : k0_cond2 i = 1#1) (k : Fin k0_t3_loop.trips) (E : Set ℕ) :
    FinishInv c arg1 arg5 arg12 arg13 X1 cst X X' 0#32 hb k.val
    ⊢ (wp frame (wpE (defs₀ (F := F)) Variants.none (c : Thread nD τ) none) E (k0_t3_body (F := F) i arg1 harg1 arg2 harg2 arg3 harg3 arg4 harg4 arg5 harg5 arg6 harg6 arg7 harg7 arg8 harg8 arg9 harg9 arg10 harg10 arg11 harg11 arg12 harg12 arg13 harg13 arg0 v16 v18 v32 h2 subW cst k PUnit.unit)
     (fun _ => FinishInv c arg1 arg5 arg12 arg13 X1 cst X X' 0#32 hb (k.val + 1)) : sProp 𝕄G) := by
  unfold k0_t3_body FinishInv
  iintro ⟨%G5, H1, H12, H13, H5, %h⟩
  sl_exec
  sl_step
  iexists _
  isplitl [H1]
  · iexact H1
  isplitl [H12]
  · iexact H12
  isplitl [H13]
  · iexact H13
  isplitl [H5]
  · iexact H5
  ipureintro
  have hk : k.val < 160 := lt_of_lt_of_eq k.isLt (by decide)
  exact finish_step arg5.view G5 cst (tab arg1 X1 0#32 hb) (arg12.view.read (Elt F) X) (arg13.view.read (Elt F) X') k.val hk
    (finWord arg1 X1 (0#32 : BitVec 32).toNat hb k.val hk) (finAcc0 arg12 X k.val hk) (finAcc1 arg12 X k.val hk) (finAcc0 arg13 X' k.val hk) (finAcc1 arg13 X' k.val hk)
    (fun u hu => finWord_eq arg1 X1 0#32 hb k.val hk u hu) (fun u hu => finAcc0_eq arg12 X k.val hk u hu) (fun u hu => finAcc1_eq arg12 X k.val hk u hu)
    (fun u hu => finAcc0_eq arg13 X' k.val hk u hu) (fun u hu => finAcc1_eq arg13 X' k.val hk u hu) h

/-- A trip of the finish loop of the second batch. -/
theorem trip7 (cst : F .f32) (X : BufTy.Contents (Elt F) arg12.view.ty) (X' : BufTy.Contents (Elt F) arg13.view.ty)
    (hb : (1#32 : BitVec 32).toNat < 2) (h3 : k0_cond3 i = 1#1) (k : Fin k0_t7_loop.trips) (E : Set ℕ) :
    FinishInv c arg1 arg5 arg12 arg13 X1 cst X X' 1#32 hb k.val
    ⊢ (wp frame (wpE (defs₀ (F := F)) Variants.none (c : Thread nD τ) none) E (k0_t7_body (F := F) i arg1 harg1 arg2 harg2 arg3 harg3 arg4 harg4 arg5 harg5 arg6 harg6 arg7 harg7 arg8 harg8 arg9 harg9 arg10 harg10 arg11 harg11 arg12 harg12 arg13 harg13 h3 subW cst k PUnit.unit)
     (fun _ => FinishInv c arg1 arg5 arg12 arg13 X1 cst X X' 1#32 hb (k.val + 1)) : sProp 𝕄G) := by
  unfold k0_t7_body FinishInv
  iintro ⟨%G5, H1, H12, H13, H5, %h⟩
  sl_exec
  sl_step
  iexists _
  isplitl [H1]
  · iexact H1
  isplitl [H12]
  · iexact H12
  isplitl [H13]
  · iexact H13
  isplitl [H5]
  · iexact H5
  ipureintro
  have hk : k.val < 160 := lt_of_lt_of_eq k.isLt (by decide)
  exact finish_step arg5.view G5 cst (tab arg1 X1 1#32 hb) (arg12.view.read (Elt F) X) (arg13.view.read (Elt F) X') k.val hk
    (finWord arg1 X1 (1#32 : BitVec 32).toNat hb k.val hk) (finAcc0 arg12 X k.val hk) (finAcc1 arg12 X k.val hk) (finAcc0 arg13 X' k.val hk) (finAcc1 arg13 X' k.val hk)
    (fun u hu => finWord_eq arg1 X1 1#32 hb k.val hk u hu) (fun u hu => finAcc0_eq arg12 X k.val hk u hu) (fun u hu => finAcc1_eq arg12 X k.val hk u hu)
    (fun u hu => finAcc0_eq arg13 X' k.val hk u hu) (fun u hu => finAcc1_eq arg13 X' k.val hk u hu) h

end Loop
end Cert.Proof
end
-- ==== Proof.State.lean ====
module

public import proofs.«01_k».proof.Proof.Chunk
public import proofs.«01_k».proof.Proof.FinishTrip
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What the buffers a point writes hold, as values: the output block, the Hadamard matrix, the rounded scales, the two transformed chunks (main and tail rows) and the two accumulators. -/
structure St (F : FTy → Type) where
  y : S1x1280x160.Idx → F .f32
  h : S256x256.Idx → F .bf16
  rs : S256x128.Idx → F .f32
  m0 : Fin 8 → Fin 2048 → Fin 128 → F .f32
  t0 : Fin 8 → Fin 512 → Fin 128 → F .f32
  m1 : Fin 8 → Fin 2048 → Fin 128 → F .f32
  t1 : Fin 8 → Fin 512 → Fin 128 → F .f32
  aM : S20480x128.Idx → F .f32
  aT : S20480x128.Idx → F .f32

/-- A load of a whole memref is its contents, and a store of a whole memref leaves what was stored. -/
theorem readAt_full {sig : RefSig} {κ : Kind} {sp : Space} {s : Shape} {e : EltTy} (v : View sig κ sp s e) (f : v.ty.Contents (Elt F))
    (off : Fin s.rank → ℕ) (h0 : ∀ a, off a = 0) (inb) : v.readAt (Elt F) (Rect.unit (s := s) off s.size inb).toLoadRect f = v.read (Elt F) f := by
  refine funext fun x => congrArg (v.read (Elt F) f) (funext fun a => Fin.ext ?_)
  show off a + 1 * (x a).val = (x a).val
  rw [h0]; omega
theorem read_writes_full {sig : RefSig} {κ : Kind} {sp : Space} {s : Shape} {e : EltTy} (v : View sig κ sp s e) (f : v.ty.Contents (Elt F))
    (off : Fin s.rank → ℕ) (h0 : ∀ a, off a = 0) (inb) (w : (Rect.unit (s := s) off s.size inb).shape.Idx → Elt F e) (x : s.Idx) :
    v.read (Elt F) (v.writes (Elt F) f [⟨Rect.unit (s := s) off s.size inb, w⟩]) x = w x := by
  have e1 : (Rect.unit (s := s) off s.size inb).emb x = x := funext fun a => Fin.ext (by
    show off a + 1 * (x a).val = (x a).val
    rw [h0]; omega)
  have := View.read_writes_cons_emb (Val := Elt F) v f (Rect.unit (s := s) off s.size inb) w [] x
  rwa [e1] at this

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)

/-- The buffers of a point: the table (half of it), the three input blocks at their contents, and the written buffers at contents whose values satisfy `P`. -/
def Hold (X1 : BufTy.Contents (Elt F) arg1.view.ty) (X2 : BufTy.Contents (Elt F) arg2.view.ty) (X3 : BufTy.Contents (Elt F) arg3.view.ty) (X4 : BufTy.Contents (Elt F) arg4.view.ty)
    (P : St F → Prop) : sProp 𝕄G :=
  iprop(∃ g5, ∃ g6, ∃ g7, ∃ g8, ∃ g9, ∃ g10, ∃ g11, ∃ g12, ∃ g13, (arg1.view.loc (c : Thread nD τ) ↦{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13)
    ∗ ⌜P ⟨arg5.view.read (Elt F) g5, arg6.view.read (Elt F) g6, arg7.view.read (Elt F) g7, octM arg8 g8, octT arg9 g9, octM arg10 g10, octT arg11 g11,
        arg12.view.read (Elt F) g12, arg13.view.read (Elt F) g13⟩⌝)

/-- The rounded scales of a point: its block of scales times its block of signs. -/
def scales (s : S1x256x128.Idx → F .f32) (g : S1x256x128.Idx → BitVec 8) : S256x128.Idx → F .f32 := k0_pay3133 s g

/-- A buffer of two possible contents reads as one value when each does. -/
theorem oct_ite {α β : Type} (f : α → β) (p : Prop) [Decidable p] (a b : α) (w : β) (ha : p → f a = w) (hb : ¬ p → f b = w) :
    f (if hc : p then a else b) = w := by
  split
  · rename_i hc; exact ha hc
  · rename_i hc; exact hb hc

/-- All eight octets of a transformed chunk in place. -/
theorem chunkM_of (a : Memref sig .tc .vmem S16416x128 .f32) (g : BufTy.Contents (Elt F) a.view.ty) (h h' : S256x256.Idx → F .bf16) (R R' : S256x128.Idx → F .f32)
    (X : S1x160x32768.Idx → BitVec 8) (half : ℕ) (eh : h = h') (eR : R = R') (H : ∀ j r d, octM a g j r d = chunkM h R X half j r d) : octM a g = chunkM h' R' X half := by
  subst eh eR; exact funext fun j => funext fun r => funext fun d => H j r d
theorem chunkT_of (a : Memref sig .tc .vmem S4128x128 .f32) (g : BufTy.Contents (Elt F) a.view.ty) (h h' : S256x256.Idx → F .bf16) (R R' : S256x128.Idx → F .f32)
    (X : S1x160x32768.Idx → BitVec 8) (half : ℕ) (eh : h = h') (eR : R = R') (H : ∀ j r d, octT a g j r d = chunkT h R X half j r d) : octT a g = chunkT h' R' X half := by
  subst eh eR; exact funext fun j => funext fun r => funext fun d => H j r d

/-- Whether a point is the first. -/
def firstW (i : grid0.Coords) : BitVec 1 := Scalar.cmpi .ne (Scalar.extui (Scalar.cmpi .eq (BitVec.ofNat 32 (i 0).val) 0#32) : BitVec 32) 0#32

/-- What a point runs after its first two parts. -/
def restBody (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole) (arg0 v65 : BitVec 32) : Prog (TpuEff nD τ sig (Elt F) Λ₀ .tc) PUnit := do
  let v67 : BitVec 32 := Scalar.muli 2#32 arg0
  let v68 : BitVec 1 := Scalar.cmpi .eq 64#32 0#32
  let v69 : BitVec 32 := Scalar.select v68 1#32 64#32
  let v70 : BitVec 32 := Scalar.remsi v67 v69
  let v71 : BitVec 1 := Scalar.cmpi .ne v70 0#32
  let v72 : BitVec 1 := Scalar.cmpi .slt v70 0#32
  let v73 : BitVec 1 := Scalar.cmpi .slt v69 0#32
  let v74 : BitVec 1 := Scalar.xori v72 v73
  let v75 : BitVec 1 := Scalar.andi v74 v71
  let v76 : BitVec 32 := Scalar.addi v70 v69
  let v77 : BitVec 32 := Scalar.select v75 v76 v70
  Scf.Loop.for k0_t5_loop k0_t5_ok ⟨⟩ (k0_t5_body i arg1 harg1 arg2 harg2 arg3 harg3 arg4 harg4 arg5 harg5 arg6 harg6 arg7 harg7 arg8 harg8 arg9 harg9 arg10 harg10 arg11 harg11 arg12 harg12 arg13 harg13 v65 v77)
  if k0_h3 : k0_cond3 i = 1#1 then do
    Scf.Loop.for k0_t6_loop (k0_t6_ok i k0_h3) ⟨⟩ (k0_t6_body i arg1 harg1 arg2 harg2 arg3 harg3 arg4 harg4 arg5 harg5 arg6 harg6 arg7 harg7 arg8 harg8 arg9 harg9 arg10 harg10 arg11 harg11 arg12 harg12 arg13 harg13 k0_h3)
    have v83 : IVec S8x128 32 := iota .tc S8x128 32 [0] iota_S8x128_d0_w32
    have cst : F .f32 := Scalar.ofBits .f32 0x3CE4F92E#32
    Scf.Loop.for k0_t7_loop (k0_t7_ok i k0_h3) ⟨⟩ (k0_t7_body i arg1 harg1 arg2 harg2 arg3 harg3 arg4 harg4 arg5 harg5 arg6 harg6 arg7 harg7 arg8 harg8 arg9 harg9 arg10 harg10 arg11 harg11 arg12 harg12 arg13 harg13 k0_h3 v83 cst)
    pure ⟨⟩
  else do
    pure ⟨⟩
  pure ⟨⟩

/-- The words the first part of a point hands on. -/
def words (i : grid0.Coords) : Σ' (arg0 : BitVec 32) (v16 : BitVec 32) (v18 : BitVec 32), BitVec 1 :=
  ⟨BitVec.ofNat 32 (i 0).val, prevW i, Scalar.divsi (prevW i) 64#32,
   Scalar.andi (Scalar.cmpi .ne
    (Scalar.subi (Scalar.extui (Scalar.cmpi .sgt (prevW i) 0#32)) (Scalar.extui (Scalar.cmpi .slt (prevW i) 0#32)))
    (Scalar.subi (Scalar.extui (Scalar.cmpi .sgt 64#32 0#32)) (Scalar.extui (Scalar.cmpi .slt 64#32 0#32))))
    (Scalar.cmpi .ne (Scalar.remsi (prevW i) 64#32) 0#32)⟩

end Loop
end Cert.Proof
end
-- ==== Proof.OctTrip1.lean ====
module

public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)
  (X2 : BufTy.Contents (Elt F) arg2.view.ty) (X6 : BufTy.Contents (Elt F) arg6.view.ty) (X7 : BufTy.Contents (Elt F) arg7.view.ty)

/-- One trip of the octet loop that fills the transformed chunk in `arg8` and `arg9`: the list of the stores it makes in each buffer, with the proof
    that the trip makes exactly these. -/
def octTrip1 (k : Fin k0_t1_loop.trips) : {L : List (View.Piece (Elt F) S16416x128 .f32) × List (View.Piece (Elt F) S4128x128 .f32) //
    ∀ (G8 : BufTy.Contents (Elt F) arg8.view.ty) (G9 : BufTy.Contents (Elt F) arg9.view.ty) (E : Set ℕ),
   iprop((arg2.view.loc (c : Thread nD τ) ↦[arg2.view.set]{fullShare} X2) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} G8)
    ∗ (arg9.view.loc (c : Thread nD τ) ↦[arg9.view.set]{fullShare} G9))
   ⊢ (wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 k PUnit.unit)
     (fun _ => iprop((arg2.view.loc (c : Thread nD τ) ↦[arg2.view.set]{fullShare} X2) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} arg8.view.writes (Elt F) G8 L.1)
    ∗ (arg9.view.loc (c : Thread nD τ) ↦[arg9.view.set]{fullShare} arg9.view.writes (Elt F) G9 L.2))) : sProp 𝕄G)} := by
  refine ⟨(?L8, ?L9), fun G8 G9 E => ?_⟩
  rotate_left 2
  · unfold k0_t1_body
    iintro ⟨H2, H6, H7, H8, H9⟩
    sl_exec
    sl_step
    isplitl [H2]
    · iexact H2
    isplitl [H6]
    · iexact H6
    isplitl [H7]
    · iexact H7
    isplitl [H8]
    · iexact H8
    iexact H9

end Loop
end Cert.Proof
end
-- ==== Proof.OctList1.lean ====
module

public import proofs.«01_k».proof.Proof.OctLoads
public import proofs.«01_k».proof.Proof.SampleTrip
public import proofs.«01_k».proof.Proof.OctTrip1
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)
  (X2 : BufTy.Contents (Elt F) arg2.view.ty) (X6 : BufTy.Contents (Elt F) arg6.view.ty) (X7 : BufTy.Contents (Elt F) arg7.view.ty)

theorem oct1_main (k : Fin k0_t1_loop.trips) :
    (octTrip1 (F := F) c i arg1 harg1 arg2 harg2 arg3 harg3 arg4 harg4 arg5 harg5 arg6 harg6 arg7 harg7 arg8 harg8 arg9 harg9 arg10 harg10 arg11 harg11 arg12 harg12 arg13 harg13 X2 X6 X7 k).1.1
      = mainPieces (wMain (hAt arg6 X6) (rowAt1 arg7 X7 k) (xAt1 arg2 X2 k)) k.val (lt_of_lt_of_eq k.isLt (by decide)) 32 (Nat.le_refl 32) := by rfl
theorem oct1_tail (k : Fin k0_t1_loop.trips) :
    (octTrip1 (F := F) c i arg1 harg1 arg2 harg2 arg3 harg3 arg4 harg4 arg5 harg5 arg6 harg6 arg7 harg7 arg8 harg8 arg9 harg9 arg10 harg10 arg11 harg11 arg12 harg12 arg13 harg13 X2 X6 X7 k).1.2
      = tailPieces (wTail (hAt arg6 X6) (rowAt1 arg7 X7 k) (xAt1 arg2 X2 k)) k.val (lt_of_lt_of_eq k.isLt (by decide)) 32 (Nat.le_refl 32) := by rfl

end Loop
end Cert.Proof
end
-- ==== Proof.OctLoop1.lean ====
module

public import proofs.«01_k».proof.Proof.Chunk
public import proofs.«01_k».proof.Proof.OctList1
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)

/-- One trip of the transform loop of a point's first chunk. -/
theorem octStep1 (X2 : BufTy.Contents (Elt F) arg2.view.ty) (X6 : BufTy.Contents (Elt F) arg6.view.ty) (X7 : BufTy.Contents (Elt F) arg7.view.ty)
    (k : Fin k0_t1_loop.trips) (E : Set ℕ) :
    OctInv c arg2 arg6 arg7 X2 X6 X7 arg8 arg9 0 k.val
    ⊢ (wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 k PUnit.unit)
     (fun _ => OctInv c arg2 arg6 arg7 X2 X6 X7 arg8 arg9 0 (k.val + 1)) : sProp 𝕄G) := by
  unfold OctInv
  iintro ⟨%G, %G', H2, H6, H7, H8, H9, %h⟩
  obtain ⟨h8, h9⟩ := h
  have hk : k.val < 8 := lt_of_lt_of_eq k.isLt (by decide)
  have T := (octTrip1 (F := F) c i arg1 harg1 arg2 harg2 arg3 harg3 arg4 harg4 arg5 harg5 arg6 harg6 arg7 harg7 arg8 harg8 arg9 harg9 arg10 harg10 arg11 harg11 arg12 harg12 arg13 harg13 X2 X6 X7 k).2 G G' E
  rw [oct1_main, oct1_tail] at T
  iapply (wp_mono _ _ _ ?_) $$ [H2 H6 H7 H8 H9]
  rotate_left
  · iapply T
    isplitl [H2]; · iexact H2
    isplitl [H6]; · iexact H6
    isplitl [H7]; · iexact H7
    isplitl [H8]; · iexact H8
    iexact H9
  intro _
  iintro ⟨H2, H6, H7, H8, H9⟩
  iexists _
  iexists _
  isplitl [H2]; · iexact H2
  isplitl [H6]; · iexact H6
  isplitl [H7]; · iexact H7
  isplitl [H8]; · iexact H8
  isplitl [H9]; · iexact H9
  ipureintro
  constructor
  · exact octM_step arg8.view G _ k.val hk (chunkM (arg6.view.read (Elt F) X6) (arg7.view.read (Elt F) X7) (arg2.view.read (Elt F) X2) 0)
      (by unfold chunkM; rw [hAt_eq, rowAt1_eq, xAt1_eq]) h8
  · exact octT_step arg9.view G' _ k.val hk (chunkT (arg6.view.read (Elt F) X6) (arg7.view.read (Elt F) X7) (arg2.view.read (Elt F) X2) 0)
      (by unfold chunkT; rw [hAt_eq, rowAt1_eq, xAt1_eq]) h9

end Loop
end Cert.Proof
end
-- ==== Proof.BodyA.lean ====
module

public import proofs.«01_k».proof.Proof.State
public import proofs.«01_k».proof.Proof.OctLoop1
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)

/-- The first part of a point: at the first point the Hadamard matrix and the zeros are stored; then the scales, then the first chunk's transform. -/
theorem partA (X1 : BufTy.Contents (Elt F) arg1.view.ty) (X2 : BufTy.Contents (Elt F) arg2.view.ty) (X3 : BufTy.Contents (Elt F) arg3.view.ty) (X4 : BufTy.Contents (Elt F) arg4.view.ty) (m1 : Fin 8 → Fin 2048 → Fin 128 → F .f32) (t1 : Fin 8 → Fin 512 → Fin 128 → F .f32) (aM aT : S20480x128.Idx → F .f32)
    (hz : firstW i = 1#1 → (∀ j r d, m1 j r d = Scalar.ofBits .f32 0#32) ∧ (∀ j r d, t1 j r d = Scalar.ofBits .f32 0#32)
      ∧ (∀ ix, aM ix = Scalar.ofBits .f32 0#32) ∧ (∀ ix, aT ix = Scalar.ofBits .f32 0#32)) (E : Set ℕ) :
    Hold c arg1 arg2 arg3 arg4 arg5 arg6 arg7 arg8 arg9 arg10 arg11 arg12 arg13 X1 X2 X3 X4 (fun s => ¬ firstW i = 1#1 → s.h = k0_pay3128 ∧ s.m1 = m1 ∧ s.t1 = t1 ∧ s.aM = aM ∧ s.aT = aT)
    ⊢ (wp frame (wpE (defs₀ (F := F)) Variants.none (c : Thread nD τ) none) E (k0_part269 (F := F) i arg1 harg1 arg2 harg2 arg3 harg3 arg4 harg4 arg5 harg5 arg6 harg6 arg7 harg7 arg8 harg8 arg9 harg9 arg10 harg10 arg11 harg11 arg12 harg12 arg13 harg13)
     (fun r => iprop(⌜r = words i⌝ ∗ Hold c arg1 arg2 arg3 arg4 arg5 arg6 arg7 arg8 arg9 arg10 arg11 arg12 arg13 X1 X2 X3 X4 (fun s => s.h = k0_pay3128 ∧ s.rs = scales (arg3.view.read (Elt F) X3) (arg4.view.read (Elt F) X4)
        ∧ s.m0 = chunkM k0_pay3128 (scales (arg3.view.read (Elt F) X3) (arg4.view.read (Elt F) X4)) (arg2.view.read (Elt F) X2) 0
        ∧ s.t0 = chunkT k0_pay3128 (scales (arg3.view.read (Elt F) X3) (arg4.view.read (Elt F) X4)) (arg2.view.read (Elt F) X2) 0
        ∧ s.m1 = m1 ∧ s.t1 = t1 ∧ s.aM = aM ∧ s.aT = aT))) : sProp 𝕄G) := by
  have e3 := readAt_full arg3.view X3 ![0, 0, 0] (by decide) inb_S1x256x128_S1x256x128_0_0_0
  have e4 := readAt_full arg4.view X4 ![0, 0, 0] (by decide) inb_S1x256x128_S1x256x128_0_0_0
  rw [k0_part269_eq_skeleton]
  unfold k0_part269_skel Hold
  iintro ⟨%G5, %G6, %G7, %G8, %G9, %G10, %G11, %G12, %G13, H1, H2, H3, H4, H5, H6, H7, H8, H9, H10, H11, H12, H13, %h⟩
  sl_exec
  iapply (Scf.wp_for_bind frame (wpE (defs₀ (F := F)) Variants.none (c : Thread nD τ) none) E _ _ _ k0_t1_ok _ _
      (fun k _ => OctInv c arg2 arg6 arg7 X2 _ _ arg8 arg9 0 k)
      (fun k _ => octStep1 c i arg1 harg1 arg2 harg2 arg3 harg3 arg4 harg4 arg5 harg5 arg6 harg6 arg7 harg7 arg8 harg8 arg9 harg9 arg10 harg10 arg11 harg11 arg12 harg12 arg13 harg13 X2 _ _ k E)) $$ [H2 H6 H7 H8 H9]
  · unfold OctInv
    iexists _
    iexists _
    isplitl [H2]; · iexact H2
    isplitl [H6]; · iexact H6
    isplitl [H7]; · iexact H7
    isplitl [H8]; · iexact H8
    isplitl [H9]; · iexact H9
    ipureintro
    exact ⟨fun j hj => absurd hj (by omega), fun j hj => absurd hj (by omega)⟩
  iintro %acc Hinv
  unfold OctInv
  icases Hinv with ⟨%g8, %g9, H2, H6, H7, H8, H9, %h89⟩
  obtain ⟨h8, h9⟩ := h89
  sl_exec
  sl_step
  isplitr
  · ipureintro; rfl
  iexists _
  iexists _
  iexists _
  iexists _
  iexists _
  iexists _
  iexists _
  iexists _
  iexists _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  ipureintro

  have e6 : ∀ hc : firstW i = 1#1, arg6.view.read (Elt F) (arg6.view.writes (Elt F) G6 [⟨Rect.unit ![0, 0] S256x256.size inb_S256x256_S256x256_0_0, k0_pay3128⟩]) = k0_pay3128 :=
    fun _ => funext fun x => read_writes_full arg6.view G6 ![0, 0] (by decide) _ _ x
  have E6 := oct_ite (arg6.view.read (Elt F)) (firstW i = 1#1) _ _ k0_pay3128 e6 (fun hc => (h hc).1)
  refine ⟨E6, ?_, chunkM_of arg8 g8 _ _ _ _ _ 0 ?_ ?_ (fun j => h8 j (lt_of_lt_of_eq j.isLt (by decide))), chunkT_of arg9 g9 _ _ _ _ _ 0 ?_ ?_ (fun j => h9 j (lt_of_lt_of_eq j.isLt (by decide))), ?_, ?_, ?_, ?_⟩
  · refine funext fun x => ?_
    refine (read_writes_full arg7.view _ ![0, 0] (by decide) _ _ x).trans ?_
    rfl
  · exact E6
  · refine funext fun x => ?_
    refine (read_writes_full arg7.view _ ![0, 0] (by decide) _ _ x).trans ?_
    rfl
  · exact E6
  · refine funext fun x => ?_
    refine (read_writes_full arg7.view _ ![0, 0] (by decide) _ _ x).trans ?_
    rfl
  · exact oct_ite (octM arg10) (firstW i = 1#1) _ _ m1 (fun hc => funext fun j => funext fun r => funext fun d =>
      (read_writes_full arg10.view G10 ![0, 0] (by decide) inb_S16416x128_S16416x128_0_0 k0_pay3129 _).trans ((hz hc).1 j r d).symm) (fun hc => (h hc).2.1)
  · exact oct_ite (octT arg11) (firstW i = 1#1) _ _ t1 (fun hc => funext fun j => funext fun r => funext fun d =>
      (read_writes_full arg11.view G11 ![0, 0] (by decide) inb_S4128x128_S4128x128_0_0 k0_pay3130 _).trans ((hz hc).2.1 j r d).symm) (fun hc => (h hc).2.2.1)
  · exact oct_ite (arg12.view.read (Elt F)) (firstW i = 1#1) _ _ aM (fun hc => funext fun x =>
      (read_writes_full arg12.view G12 ![0, 0] (by decide) inb_S20480x128_S20480x128_0_0 k0_pay3131 x).trans ((hz hc).2.2.1 x).symm) (fun hc => (h hc).2.2.2.1)
  · exact oct_ite (arg13.view.read (Elt F)) (firstW i = 1#1) _ _ aT (fun hc => funext fun x =>
      (read_writes_full arg13.view G13 ![0, 0] (by decide) inb_S20480x128_S20480x128_0_0 k0_pay3132 x).trans ((hz hc).2.2.2 x).symm) (fun hc => (h hc).2.2.2.2)

end Loop
end Cert.Proof
end
-- ==== Proof.OctTrip4.lean ====
module

public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)
  (X2 : BufTy.Contents (Elt F) arg2.view.ty) (X6 : BufTy.Contents (Elt F) arg6.view.ty) (X7 : BufTy.Contents (Elt F) arg7.view.ty)

/-- One trip of the octet loop that fills the transformed chunk in `arg10` and `arg11`: the list of the stores it makes in each buffer, with the proof
    that the trip makes exactly these. -/
def octTrip4 (k : Fin k0_t4_loop.trips) (arg0 v16 v18 : BitVec 32) (v32 : BitVec 1) : {L : List (View.Piece (Elt F) S16416x128 .f32) × List (View.Piece (Elt F) S4128x128 .f32) //
    ∀ (G8 : BufTy.Contents (Elt F) arg10.view.ty) (G9 : BufTy.Contents (Elt F) arg11.view.ty) (E : Set ℕ),
   iprop((arg2.view.loc (c : Thread nD τ) ↦[arg2.view.set]{fullShare} X2) ∗ (arg6.view.loc (c : Thread nD τ) ↦[arg6.view.set]{fullShare} X6)
    ∗ (arg7.view.loc (c : Thread nD τ) ↦[arg7.view.set]{fullShare} X7) ∗ (arg10.view.loc (c : Thread nD τ) ↦[arg10.view.set]{fullShare} G8)
    ∗ (arg11.view.loc (c : Thread nD τ) ↦[arg11.view.set]{fullShare} G9))
   ⊢ (wp frame (wpE (defs₀ (F := F)) Variants.none (c : Thread nD τ) none) E (k0_t4_body (F := F) i arg1 harg1 arg2 harg2 arg3 harg3 arg4 harg4 arg5 harg5 arg6 harg6 arg7 harg7 arg8 harg8 arg9 harg9 arg10 harg10 arg11 harg11 arg12 harg12 arg13 harg13 arg0 v16 v18 v32 k PUnit.unit)
     (fun _ => iprop((arg2.view.loc (c : Thread nD τ) ↦[arg2.view.set]{fullShare} X2) ∗ (arg6.view.loc (c : Thread nD τ) ↦[arg6.view.set]{fullShare} X6)
    ∗ (arg7.view.loc (c : Thread nD τ) ↦[arg7.view.set]{fullShare} X7) ∗ (arg10.view.loc (c : Thread nD τ) ↦[arg10.view.set]{fullShare} arg10.view.writes (Elt F) G8 L.1)
    ∗ (arg11.view.loc (c : Thread nD τ) ↦[arg11.view.set]{fullShare} arg11.view.writes (Elt F) G9 L.2))) : sProp 𝕄G)} := by
  refine ⟨(?L8, ?L9), fun G8 G9 E => ?_⟩
  rotate_left 2
  · unfold k0_t4_body
    iintro ⟨H2, H6, H7, H8, H9⟩
    sl_exec
    sl_step
    isplitl [H2]
    · iexact H2
    isplitl [H6]
    · iexact H6
    isplitl [H7]
    · iexact H7
    isplitl [H8]
    · iexact H8
    iexact H9

end Loop
end Cert.Proof
end
-- ==== Proof.OctList4.lean ====
module

public import proofs.«01_k».proof.Proof.OctLoads
public import proofs.«01_k».proof.Proof.SampleTrip
public import proofs.«01_k».proof.Proof.OctTrip4
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)
  (X2 : BufTy.Contents (Elt F) arg2.view.ty) (X6 : BufTy.Contents (Elt F) arg6.view.ty) (X7 : BufTy.Contents (Elt F) arg7.view.ty)

theorem oct4_main (arg0 v16 v18 : BitVec 32) (v32 : BitVec 1) (k : Fin k0_t4_loop.trips) :
    (octTrip4 (F := F) c i arg1 harg1 arg2 harg2 arg3 harg3 arg4 harg4 arg5 harg5 arg6 harg6 arg7 harg7 arg8 harg8 arg9 harg9 arg10 harg10 arg11 harg11 arg12 harg12 arg13 harg13 X2 X6 X7 k arg0 v16 v18 v32).1.1
      = mainPieces (wMain (hAt arg6 X6) (rowAt4 arg7 X7 k) (xAt4 arg2 X2 k)) k.val (lt_of_lt_of_eq k.isLt (by decide)) 32 (Nat.le_refl 32) := by rfl
theorem oct4_tail (arg0 v16 v18 : BitVec 32) (v32 : BitVec 1) (k : Fin k0_t4_loop.trips) :
    (octTrip4 (F := F) c i arg1 harg1 arg2 harg2 arg3 harg3 arg4 harg4 arg5 harg5 arg6 harg6 arg7 harg7 arg8 harg8 arg9 harg9 arg10 harg10 arg11 harg11 arg12 harg12 arg13 harg13 X2 X6 X7 k arg0 v16 v18 v32).1.2
      = tailPieces (wTail (hAt arg6 X6) (rowAt4 arg7 X7 k) (xAt4 arg2 X2 k)) k.val (lt_of_lt_of_eq k.isLt (by decide)) 32 (Nat.le_refl 32) := by rfl

end Loop
end Cert.Proof
end
-- ==== Proof.OctLoop4.lean ====
module

public import proofs.«01_k».proof.Proof.Chunk
public import proofs.«01_k».proof.Proof.OctList4
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)

/-- One trip of the transform loop of a point's second chunk. -/
theorem octStep4 (X2 : BufTy.Contents (Elt F) arg2.view.ty) (X6 : BufTy.Contents (Elt F) arg6.view.ty) (X7 : BufTy.Contents (Elt F) arg7.view.ty) (arg0 v16 v18 : BitVec 32) (v32 : BitVec 1)
    (k : Fin k0_t4_loop.trips) (E : Set ℕ) :
    OctInv c arg2 arg6 arg7 X2 X6 X7 arg10 arg11 1 k.val
    ⊢ (wp frame (wpE (defs₀ (F := F)) Variants.none (c : Thread nD τ) none) E (k0_t4_body (F := F) i arg1 harg1 arg2 harg2 arg3 harg3 arg4 harg4 arg5 harg5 arg6 harg6 arg7 harg7 arg8 harg8 arg9 harg9 arg10 harg10 arg11 harg11 arg12 harg12 arg13 harg13 arg0 v16 v18 v32 k PUnit.unit)
     (fun _ => OctInv c arg2 arg6 arg7 X2 X6 X7 arg10 arg11 1 (k.val + 1)) : sProp 𝕄G) := by
  unfold OctInv
  iintro ⟨%G, %G', H2, H6, H7, H8, H9, %h⟩
  obtain ⟨h8, h9⟩ := h
  have hk : k.val < 8 := lt_of_lt_of_eq k.isLt (by decide)
  have T := (octTrip4 (F := F) c i arg1 harg1 arg2 harg2 arg3 harg3 arg4 harg4 arg5 harg5 arg6 harg6 arg7 harg7 arg8 harg8 arg9 harg9 arg10 harg10 arg11 harg11 arg12 harg12 arg13 harg13 X2 X6 X7 k arg0 v16 v18 v32).2 G G' E
  rw [oct4_main, oct4_tail] at T
  iapply (wp_mono _ _ _ ?_) $$ [H2 H6 H7 H8 H9]
  rotate_left
  · iapply T
    isplitl [H2]; · iexact H2
    isplitl [H6]; · iexact H6
    isplitl [H7]; · iexact H7
    isplitl [H8]; · iexact H8
    iexact H9
  intro _
  iintro ⟨H2, H6, H7, H8, H9⟩
  iexists _
  iexists _
  isplitl [H2]; · iexact H2
  isplitl [H6]; · iexact H6
  isplitl [H7]; · iexact H7
  isplitl [H8]; · iexact H8
  isplitl [H9]; · iexact H9
  ipureintro
  constructor
  · exact octM_step arg10.view G _ k.val hk (chunkM (arg6.view.read (Elt F) X6) (arg7.view.read (Elt F) X7) (arg2.view.read (Elt F) X2) 1)
      (by unfold chunkM; rw [hAt_eq, rowAt4_eq, xAt4_eq]) h8
  · exact octT_step arg11.view G' _ k.val hk (chunkT (arg6.view.read (Elt F) X6) (arg7.view.read (Elt F) X7) (arg2.view.read (Elt F) X2) 1)
      (by unfold chunkT; rw [hAt_eq, rowAt4_eq, xAt4_eq]) h9

end Loop
end Cert.Proof
end
-- ==== Proof.BodyB.lean ====
module

public import proofs.«01_k».proof.Proof.State
public import proofs.«01_k».proof.Proof.OctLoop4
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)

set_option maxRecDepth 1000000 in
/-- The second part of a point: the sample of the chunk before, at the middle point the first batch's result and new zeros, then the second chunk's transform. -/
theorem partB (X1 : BufTy.Contents (Elt F) arg1.view.ty) (X2 : BufTy.Contents (Elt F) arg2.view.ty) (X3 : BufTy.Contents (Elt F) arg3.view.ty) (X4 : BufTy.Contents (Elt F) arg4.view.ty) (h : S256x256.Idx → F .bf16) (rs : S256x128.Idx → F .f32) (m0 m1 : Fin 8 → Fin 2048 → Fin 128 → F .f32) (t0 t1 : Fin 8 → Fin 512 → Fin 128 → F .f32) (aM aT : S20480x128.Idx → F .f32)
    (hb : (prevBatchW i : BitVec 32).toNat < 2) (hb0 : (0#32 : BitVec 32).toNat < 2) (E : Set ℕ) :
    Hold c arg1 arg2 arg3 arg4 arg5 arg6 arg7 arg8 arg9 arg10 arg11 arg12 arg13 X1 X2 X3 X4 (fun s => s.h = h ∧ s.rs = rs ∧ s.m0 = m0 ∧ s.t0 = t0 ∧ s.m1 = m1 ∧ s.t1 = t1 ∧ s.aM = aM ∧ s.aT = aT)
    ⊢ (wp frame (wpE (defs₀ (F := F)) Variants.none (c : Thread nD τ) none) E (k0_part270 (F := F) i arg1 harg1 arg2 harg2 arg3 harg3 arg4 harg4 arg5 harg5 arg6 harg6 arg7 harg7 arg8 harg8 arg9 harg9 arg10 harg10 arg11 harg11 arg12 harg12 arg13 harg13 (words i).1 (words i).2.1 (words i).2.2.1 (words i).2.2.2)
     (fun r => iprop(⌜r = curBatchW i⌝ ∗ Hold c arg1 arg2 arg3 arg4 arg5 arg6 arg7 arg8 arg9 arg10 arg11 arg12 arg13 X1 X2 X3 X4 (fun s => s.h = h ∧ s.m0 = m0 ∧ s.t0 = t0
        ∧ s.m1 = chunkM h rs (arg2.view.read (Elt F) X2) 1 ∧ s.t1 = chunkT h rs (arg2.view.read (Elt F) X2) 1
        ∧ s.aM = (if k0_cond2 i = 1#1 then fun _ => Scalar.ofBits .f32 0#32 else sampled rowM (tab (F := F) arg1 X1 (prevBatchW i) hb) (prevHiW i) m1 aM 1280)
        ∧ s.aT = (if k0_cond2 i = 1#1 then fun _ => Scalar.ofBits .f32 0#32 else sampled rowT (tab (F := F) arg1 X1 (prevBatchW i) hb) (prevHiW i) t1 aT 1280)
        ∧ (k0_cond2 i = 1#1 → s.y = finY (Scalar.ofBits .f32 0x3CE4F92E#32) (tab (F := F) arg1 X1 0#32 hb0)
            (sampled rowM (tab (F := F) arg1 X1 (prevBatchW i) hb) (prevHiW i) m1 aM 1280) (sampled rowT (tab (F := F) arg1 X1 (prevBatchW i) hb) (prevHiW i) t1 aT 1280))))) : sProp 𝕄G) := by
  rw [k0_part270_eq_skeleton]
  unfold k0_part270_skel Hold
  iintro ⟨%G5, %G6, %G7, %G8, %G9, %G10, %G11, %G12, %G13, H1, H2, H3, H4, H5, H6, H7, H8, H9, H10, H11, H12, H13, %h⟩
  obtain ⟨e6, e7, em0, et0, em1, et1, eM, eT⟩ := h
  sl_exec
  iapply (Scf.wp_for_bind frame (wpE (defs₀ (F := F)) Variants.none (c : Thread nD τ) none) E _ _ _ k0_t2_ok _ _
      (fun k _ => SampleInv c arg1 arg12 arg13 X1 arg10 arg11 G10 G11 (prevBatchW i) hb (prevHiW i) aM aT (16 * k))
      (fun k _ => trip2 c i arg1 harg1 arg2 harg2 arg3 harg3 arg4 harg4 arg5 harg5 arg6 harg6 arg7 harg7 arg8 harg8 arg9 harg9 arg10 harg10 arg11 harg11 arg12 harg12 arg13 harg13 X1 G10 G11 aM aT hb (words i).1 (words i).2.1 (words i).2.2.1 (words i).2.2.2 k E)) $$ [H1 H10 H11 H12 H13]
  · unfold SampleInv
    iexists _
    iexists _
    isplitl [H1]; · iexact H1
    isplitl [H10]; · iexact H10
    isplitl [H11]; · iexact H11
    isplitl [H12]; · iexact H12
    isplitl [H13]; · iexact H13
    ipureintro
    exact ⟨fun ix => (congrFun eM ix).trans (sampled_old _ _ _ _ _ 0 ix (Nat.zero_le _)).symm, fun ix => (congrFun eT ix).trans (sampled_old _ _ _ _ _ 0 ix (Nat.zero_le _)).symm⟩
  iintro %acc Hinv
  unfold SampleInv
  icases Hinv with ⟨%g12, %g13, H1, H10, H11, H12, H13, %hs⟩
  have eM' : arg12.view.read (Elt F) g12 = sampled rowM (tab (F := F) arg1 X1 (prevBatchW i) hb) (prevHiW i) m1 aM 1280 := by
    rw [← show octM arg10 G10 = m1 from em1]; exact funext hs.1
  have eT' : arg13.view.read (Elt F) g13 = sampled rowT (tab (F := F) arg1 X1 (prevBatchW i) hb) (prevHiW i) t1 aT 1280 := by
    rw [← show octT arg11 G11 = t1 from et1]; exact funext hs.2
  have T4 := fun k : Fin k0_t4_loop.trips => octStep4 c i arg1 harg1 arg2 harg2 arg3 harg3 arg4 harg4 arg5 harg5 arg6 harg6 arg7 harg7 arg8 harg8 arg9 harg9 arg10 harg10 arg11 harg11 arg12 harg12 arg13 harg13 X2 G6 G7 (words i).1 (words i).2.1 (words i).2.2.1 (words i).2.2.2 k E
  by_cases h2 : k0_cond2 i = 1#1
  · sl_exec
    iapply (Scf.wp_for_bind frame (wpE (defs₀ (F := F)) Variants.none (c : Thread nD τ) none) E _ _ _ (k0_t3_ok i h2) _ _
      (fun k _ => FinishInv c arg1 arg5 arg12 arg13 X1 (Scalar.ofBits .f32 0x3CE4F92E#32) g12 g13 0#32 hb0 k)
      (fun k _ => trip3 c i arg1 harg1 arg2 harg2 arg3 harg3 arg4 harg4 arg5 harg5 arg6 harg6 arg7 harg7 arg8 harg8 arg9 harg9 arg10 harg10 arg11 harg11 arg12 harg12 arg13 harg13 X1 (Scalar.ofBits .f32 0x3CE4F92E#32) g12 g13 hb0 (words i).1 (words i).2.1 (words i).2.2.1 (words i).2.2.2 h2 k E)) $$ [H1 H12 H13 H5]
    · unfold FinishInv
      iexists _
      isplitl [H1]; · iexact H1
      isplitl [H12]; · iexact H12
      isplitl [H13]; · iexact H13
      isplitl [H5]; · iexact H5
      ipureintro
      exact fun ix hix => absurd hix (by omega)
    iintro %acc Hinv
    unfold FinishInv
    icases Hinv with ⟨%g5, H1, H12, H13, H5, %hy⟩
    sl_exec
    iapply (Scf.wp_for_bind frame (wpE (defs₀ (F := F)) Variants.none (c : Thread nD τ) none) E _ _ _ k0_t4_ok _ _
        (fun k _ => OctInv c arg2 arg6 arg7 X2 G6 G7 arg10 arg11 1 k)
        (fun k _ => T4 k)) $$ [H2 H6 H7 H10 H11]
    · unfold OctInv
      iexists _
      iexists _
      isplitl [H2]; · iexact H2
      isplitl [H6]; · iexact H6
      isplitl [H7]; · iexact H7
      isplitl [H10]; · iexact H10
      isplitl [H11]; · iexact H11
      ipureintro
      exact ⟨fun j hj => absurd hj (by omega), fun j hj => absurd hj (by omega)⟩
    iintro %acc Hinv
    unfold OctInv
    icases Hinv with ⟨%g10, %g11, H2, H6, H7, H10, H11, %h89⟩
    obtain ⟨h8, h9⟩ := h89
    sl_exec
    sl_step
    isplitr
    · ipureintro; rfl
    iexists _
    iexists _
    iexists _
    iexists _
    iexists _
    iexists _
    iexists _
    iexists _
    iexists _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    ipureintro

    refine ⟨e6, em0, et0, chunkM_of arg10 g10 _ _ _ _ _ 1 e6 e7 (fun j => h8 j (lt_of_lt_of_eq j.isLt (by decide))), chunkT_of arg11 g11 _ _ _ _ _ 1 e6 e7 (fun j => h9 j (lt_of_lt_of_eq j.isLt (by decide))), ?_, ?_, ?_⟩
    · rw [if_pos h2]; exact funext fun x => read_writes_full arg12.view _ ![0, 0] (by decide) inb_S20480x128_S20480x128_0_0 k0_pay3140 x
    · rw [if_pos h2]; exact funext fun x => read_writes_full arg13.view _ ![0, 0] (by decide) inb_S20480x128_S20480x128_0_0 k0_pay3141 x
    · intro _; rw [← eM', ← eT']; exact funext fun x => hy x (lt_of_lt_of_eq (x 1).isLt (by decide))

  · sl_exec
    iapply (Scf.wp_for_bind frame (wpE (defs₀ (F := F)) Variants.none (c : Thread nD τ) none) E _ _ _ k0_t4_ok _ _
        (fun k _ => OctInv c arg2 arg6 arg7 X2 G6 G7 arg10 arg11 1 k)
        (fun k _ => T4 k)) $$ [H2 H6 H7 H10 H11]
    · unfold OctInv
      iexists _
      iexists _
      isplitl [H2]; · iexact H2
      isplitl [H6]; · iexact H6
      isplitl [H7]; · iexact H7
      isplitl [H10]; · iexact H10
      isplitl [H11]; · iexact H11
      ipureintro
      exact ⟨fun j hj => absurd hj (by omega), fun j hj => absurd hj (by omega)⟩
    iintro %acc Hinv
    unfold OctInv
    icases Hinv with ⟨%g10, %g11, H2, H6, H7, H10, H11, %h89⟩
    obtain ⟨h8, h9⟩ := h89
    sl_exec
    sl_step
    isplitr
    · ipureintro; rfl
    iexists _
    iexists _
    iexists _
    iexists _
    iexists _
    iexists _
    iexists _
    iexists _
    iexists _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    ipureintro

    refine ⟨e6, em0, et0, chunkM_of arg10 g10 _ _ _ _ _ 1 e6 e7 (fun j => h8 j (lt_of_lt_of_eq j.isLt (by decide))), chunkT_of arg11 g11 _ _ _ _ _ 1 e6 e7 (fun j => h9 j (lt_of_lt_of_eq j.isLt (by decide))), ?_, ?_, ?_⟩
    · rw [if_neg h2]; exact eM'
    · rw [if_neg h2]; exact eT'
    · exact fun hc => absurd hc h2

end Loop
end Cert.Proof
end
-- ==== Proof.BodyC.lean ====
module

public import proofs.«01_k».proof.Proof.State
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)

/-- The third part of a point: the sample of the point's first chunk, and at the last point the sample of its second chunk and the second batch's result. -/
theorem partC (X1 : BufTy.Contents (Elt F) arg1.view.ty) (X2 : BufTy.Contents (Elt F) arg2.view.ty) (X3 : BufTy.Contents (Elt F) arg3.view.ty) (X4 : BufTy.Contents (Elt F) arg4.view.ty) (h : S256x256.Idx → F .bf16) (m0 m1 : Fin 8 → Fin 2048 → Fin 128 → F .f32) (t0 t1 : Fin 8 → Fin 512 → Fin 128 → F .f32) (aM aT : S20480x128.Idx → F .f32)
    (P : (S1x1280x160.Idx → F .f32) → Prop) (hb : (curBatchW i : BitVec 32).toNat < 2) (hb1 : (1#32 : BitVec 32).toNat < 2) (E : Set ℕ) :
    Hold c arg1 arg2 arg3 arg4 arg5 arg6 arg7 arg8 arg9 arg10 arg11 arg12 arg13 X1 X2 X3 X4 (fun s => s.h = h ∧ s.m0 = m0 ∧ s.t0 = t0 ∧ s.m1 = m1 ∧ s.t1 = t1 ∧ s.aM = aM ∧ s.aT = aT ∧ P s.y)
    ⊢ (wp frame (wpE (defs₀ (F := F)) Variants.none (c : Thread nD τ) none) E (restBody (F := F) i arg1 harg1 arg2 harg2 arg3 harg3 arg4 harg4 arg5 harg5 arg6 harg6 arg7 harg7 arg8 harg8 arg9 harg9 arg10 harg10 arg11 harg11 arg12 harg12 arg13 harg13 (words i).1 (curBatchW i))
     (fun _ => Hold c arg1 arg2 arg3 arg4 arg5 arg6 arg7 arg8 arg9 arg10 arg11 arg12 arg13 X1 X2 X3 X4 (fun s => s.h = h ∧ s.m1 = m1 ∧ s.t1 = t1
        ∧ (¬ k0_cond3 i = 1#1 → s.aM = sampled rowM (tab (F := F) arg1 X1 (curBatchW i) hb) (curHiW i) m0 aM 1280 ∧ s.aT = sampled rowT (tab (F := F) arg1 X1 (curBatchW i) hb) (curHiW i) t0 aT 1280 ∧ P s.y)
        ∧ (k0_cond3 i = 1#1 → s.y = finY (Scalar.ofBits .f32 0x3CE4F92E#32) (tab (F := F) arg1 X1 1#32 hb1)
            (sampled rowM (tab (F := F) arg1 X1 1#32 hb1) 63#32 m1 (sampled rowM (tab (F := F) arg1 X1 (curBatchW i) hb) (curHiW i) m0 aM 1280) 1280)
            (sampled rowT (tab (F := F) arg1 X1 1#32 hb1) 63#32 t1 (sampled rowT (tab (F := F) arg1 X1 (curBatchW i) hb) (curHiW i) t0 aT 1280) 1280)))) : sProp 𝕄G) := by
  unfold restBody Hold
  iintro ⟨%G5, %G6, %G7, %G8, %G9, %G10, %G11, %G12, %G13, H1, H2, H3, H4, H5, H6, H7, H8, H9, H10, H11, H12, H13, %h⟩
  obtain ⟨e6, em0, et0, em1, et1, eM, eT, hP⟩ := h
  sl_exec
  iapply (Scf.wp_for_bind frame (wpE (defs₀ (F := F)) Variants.none (c : Thread nD τ) none) E _ _ _ k0_t5_ok _ _
      (fun k _ => SampleInv c arg1 arg12 arg13 X1 arg8 arg9 G8 G9 (curBatchW i) hb (curHiW i) aM aT (16 * k))
      (fun k _ => trip5 c i arg1 harg1 arg2 harg2 arg3 harg3 arg4 harg4 arg5 harg5 arg6 harg6 arg7 harg7 arg8 harg8 arg9 harg9 arg10 harg10 arg11 harg11 arg12 harg12 arg13 harg13 X1 G8 G9 aM aT hb k E)) $$ [H1 H8 H9 H12 H13]
  · unfold SampleInv
    iexists _
    iexists _
    isplitl [H1]; · iexact H1
    isplitl [H8]; · iexact H8
    isplitl [H9]; · iexact H9
    isplitl [H12]; · iexact H12
    isplitl [H13]; · iexact H13
    ipureintro
    exact ⟨fun ix => (congrFun eM ix).trans (sampled_old _ _ _ _ _ 0 ix (Nat.zero_le _)).symm, fun ix => (congrFun eT ix).trans (sampled_old _ _ _ _ _ 0 ix (Nat.zero_le _)).symm⟩
  iintro %acc Hinv
  unfold SampleInv
  icases Hinv with ⟨%g12, %g13, H1, H8, H9, H12, H13, %hs⟩
  have eM' : arg12.view.read (Elt F) g12 = sampled rowM (tab (F := F) arg1 X1 (curBatchW i) hb) (curHiW i) m0 aM 1280 := by
    rw [← show octM arg8 G8 = m0 from em0]; exact funext hs.1
  have eT' : arg13.view.read (Elt F) g13 = sampled rowT (tab (F := F) arg1 X1 (curBatchW i) hb) (curHiW i) t0 aT 1280 := by
    rw [← show octT arg9 G9 = t0 from et0]; exact funext hs.2
  by_cases h3 : k0_cond3 i = 1#1
  · sl_exec
    iapply (Scf.wp_for_bind frame (wpE (defs₀ (F := F)) Variants.none (c : Thread nD τ) none) E _ _ _ (k0_t6_ok i h3) _ _
      (fun k _ => SampleInv c arg1 arg12 arg13 X1 arg10 arg11 G10 G11 1#32 hb1 63#32 (arg12.view.read (Elt F) g12) (arg13.view.read (Elt F) g13) (16 * k))
      (fun k _ => trip6 c i arg1 harg1 arg2 harg2 arg3 harg3 arg4 harg4 arg5 harg5 arg6 harg6 arg7 harg7 arg8 harg8 arg9 harg9 arg10 harg10 arg11 harg11 arg12 harg12 arg13 harg13 X1 G10 G11 (arg12.view.read (Elt F) g12) (arg13.view.read (Elt F) g13) hb1 h3 k E)) $$ [H1 H10 H11 H12 H13]
    · unfold SampleInv
      iexists _
      iexists _
      isplitl [H1]; · iexact H1
      isplitl [H10]; · iexact H10
      isplitl [H11]; · iexact H11
      isplitl [H12]; · iexact H12
      isplitl [H13]; · iexact H13
      ipureintro
      exact ⟨fun ix => (sampled_old _ _ _ _ _ 0 ix (Nat.zero_le _)).symm, fun ix => (sampled_old _ _ _ _ _ 0 ix (Nat.zero_le _)).symm⟩
    iintro %acc Hinv
    unfold SampleInv
    icases Hinv with ⟨%g12', %g13', H1, H10, H11, H12, H13, %hs'⟩
    sl_exec
    iapply (Scf.wp_for_bind frame (wpE (defs₀ (F := F)) Variants.none (c : Thread nD τ) none) E _ _ _ (k0_t7_ok i h3) _ _
      (fun k _ => FinishInv c arg1 arg5 arg12 arg13 X1 (Scalar.ofBits .f32 0x3CE4F92E#32) g12' g13' 1#32 hb1 k)
      (fun k _ => trip7 c i arg1 harg1 arg2 harg2 arg3 harg3 arg4 harg4 arg5 harg5 arg6 harg6 arg7 harg7 arg8 harg8 arg9 harg9 arg10 harg10 arg11 harg11 arg12 harg12 arg13 harg13 X1 (Scalar.ofBits .f32 0x3CE4F92E#32) g12' g13' hb1 h3 k E)) $$ [H1 H12 H13 H5]
    · unfold FinishInv
      iexists _
      isplitl [H1]; · iexact H1
      isplitl [H12]; · iexact H12
      isplitl [H13]; · iexact H13
      isplitl [H5]; · iexact H5
      ipureintro
      exact fun ix hix => absurd hix (by omega)
    iintro %acc Hinv
    unfold FinishInv
    icases Hinv with ⟨%g5, H1, H12, H13, H5, %hy⟩
    sl_exec
    sl_step
    iexists _
    iexists _
    iexists _
    iexists _
    iexists _
    iexists _
    iexists _
    iexists _
    iexists _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    ipureintro

    refine ⟨e6, em1, et1, fun hc => absurd h3 hc, fun _ => ?_⟩
    rw [← eM', ← eT', ← show octM arg10 G10 = m1 from em1, ← show octT arg11 G11 = t1 from et1]
    exact (funext fun x => hy x (lt_of_lt_of_eq (x 1).isLt (by decide))).trans (congrArg₂ (finY _ _) (funext hs'.1) (funext hs'.2))
  · sl_exec
    sl_step
    iexists _
    iexists _
    iexists _
    iexists _
    iexists _
    iexists _
    iexists _
    iexists _
    iexists _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    ipureintro

    exact ⟨e6, em1, et1, fun _ => ⟨eM', eT', hP⟩, fun hc => absurd hc h3⟩

end Loop
end Cert.Proof
end
-- ==== Proof.Body.lean ====
module

public import proofs.«01_k».proof.Proof.BodyA
public import proofs.«01_k».proof.Proof.BodyB
public import proofs.«01_k».proof.Proof.BodyC
public import proofs.«01_k».proof.Proof.Gen.KernelIdeal.Skeleton
public import Idealize.ShloMosaic.Lib.Exec
public import Idealize.ShloMosaic.Lib.Pipeline.Kit
public import Idealize.ShloMosaic.Lib.Tactic
public import Idealize.ShloMosaic.Lib.Writes
public import Idealize.ShloMosaic.Lib.ValueIdxCore

@[expose] public section

set_option maxRecDepth 8192
set_option maxHeartbeats 4000000

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loop
variable (c : Dev nD) (i : grid0.Coords) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)

/-- The accumulator a point's second sample starts from: the first sample added, or zeros at the point where the second batch begins. -/
def restart {R : ℕ} (row : BitVec 32 → Fin R) (i : grid0.Coords) (T : Fin 1280 → BitVec 32) (m1 : Fin 8 → Fin R → Fin 128 → F .f32) (a : S20480x128.Idx → F .f32) : S20480x128.Idx → F .f32 :=
  if k0_cond2 i = 1#1 then fun _ => Scalar.ofBits .f32 0#32 else sampled row T (prevHiW i) m1 a 1280

theorem Hold_mono (X1 : BufTy.Contents (Elt F) arg1.view.ty) (X2 : BufTy.Contents (Elt F) arg2.view.ty) (X3 : BufTy.Contents (Elt F) arg3.view.ty) (X4 : BufTy.Contents (Elt F) arg4.view.ty) (P Q : St F → Prop) (hPQ : ∀ s, P s → Q s) :
    Hold c arg1 arg2 arg3 arg4 arg5 arg6 arg7 arg8 arg9 arg10 arg11 arg12 arg13 X1 X2 X3 X4 P ⊢ (Hold c arg1 arg2 arg3 arg4 arg5 arg6 arg7 arg8 arg9 arg10 arg11 arg12 arg13 X1 X2 X3 X4 Q : sProp 𝕄G) := by
  unfold Hold
  iintro ⟨%g5, %g6, %g7, %g8, %g9, %g10, %g11, %g12, %g13, H1, H2, H3, H4, H5, H6, H7, H8, H9, H10, H11, H12, H13, %h⟩
  iexists g5; iexists g6; iexists g7; iexists g8; iexists g9; iexists g10; iexists g11; iexists g12; iexists g13
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  ipureintro
  exact hPQ _ h
/-- A pure fact beside a resource, taken out. -/

theorem pure_sep_elim {φ : Prop} {P Q : sProp 𝕄G} (h : φ → P ⊢ Q) : iprop(⌜φ⌝ ∗ P) ⊢ Q := by
  iintro ⟨%hp, H⟩
  iapply (h hp) $$ H

/-- A whole point: from the buffers as the point before left them to the buffers as this one leaves them. -/
theorem body_point (X1 : BufTy.Contents (Elt F) arg1.view.ty) (X2 : BufTy.Contents (Elt F) arg2.view.ty) (X3 : BufTy.Contents (Elt F) arg3.view.ty) (X4 : BufTy.Contents (Elt F) arg4.view.ty) (m1 : Fin 8 → Fin 2048 → Fin 128 → F .f32) (t1 : Fin 8 → Fin 512 → Fin 128 → F .f32) (aM aT : S20480x128.Idx → F .f32)
    (hz : firstW i = 1#1 → (∀ j r d, m1 j r d = Scalar.ofBits .f32 0#32) ∧ (∀ j r d, t1 j r d = Scalar.ofBits .f32 0#32)
      ∧ (∀ ix, aM ix = Scalar.ofBits .f32 0#32) ∧ (∀ ix, aT ix = Scalar.ofBits .f32 0#32))
    (hb : (prevBatchW i : BitVec 32).toNat < 2) (hc : (curBatchW i : BitVec 32).toNat < 2) (hb0 : (0#32 : BitVec 32).toNat < 2) (hb1 : (1#32 : BitVec 32).toNat < 2) (E : Set ℕ) :
    Hold c arg1 arg2 arg3 arg4 arg5 arg6 arg7 arg8 arg9 arg10 arg11 arg12 arg13 X1 X2 X3 X4 (fun s => ¬ firstW i = 1#1 → s.h = k0_pay3128 ∧ s.m1 = m1 ∧ s.t1 = t1 ∧ s.aM = aM ∧ s.aT = aT)
    ⊢ (wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
     (fun _ => Hold c arg1 arg2 arg3 arg4 arg5 arg6 arg7 arg8 arg9 arg10 arg11 arg12 arg13 X1 X2 X3 X4 (fun s => s.h = k0_pay3128
        ∧ s.m1 = chunkM k0_pay3128 (scales (arg3.view.read (Elt F) X3) (arg4.view.read (Elt F) X4)) (arg2.view.read (Elt F) X2) 1
        ∧ s.t1 = chunkT k0_pay3128 (scales (arg3.view.read (Elt F) X3) (arg4.view.read (Elt F) X4)) (arg2.view.read (Elt F) X2) 1
        ∧ (¬ k0_cond3 i = 1#1 →
            s.aM = sampled rowM (tab (F := F) arg1 X1 (curBatchW i) hc) (curHiW i) (chunkM k0_pay3128 (scales (arg3.view.read (Elt F) X3) (arg4.view.read (Elt F) X4)) (arg2.view.read (Elt F) X2) 0) (restart rowM i (tab (F := F) arg1 X1 (prevBatchW i) hb) m1 aM) 1280
            ∧ s.aT = sampled rowT (tab (F := F) arg1 X1 (curBatchW i) hc) (curHiW i) (chunkT k0_pay3128 (scales (arg3.view.read (Elt F) X3) (arg4.view.read (Elt F) X4)) (arg2.view.read (Elt F) X2) 0) (restart rowT i (tab (F := F) arg1 X1 (prevBatchW i) hb) t1 aT) 1280
            ∧ (k0_cond2 i = 1#1 → s.y = finY (Scalar.ofBits .f32 0x3CE4F92E#32) (tab (F := F) arg1 X1 0#32 hb0)
               (sampled rowM (tab (F := F) arg1 X1 (prevBatchW i) hb) (prevHiW i) m1 aM 1280) (sampled rowT (tab (F := F) arg1 X1 (prevBatchW i) hb) (prevHiW i) t1 aT 1280)))
        ∧ (k0_cond3 i = 1#1 → s.y = finY (Scalar.ofBits .f32 0x3CE4F92E#32) (tab (F := F) arg1 X1 1#32 hb1)
               (sampled rowM (tab (F := F) arg1 X1 1#32 hb1) 63#32 (chunkM k0_pay3128 (scales (arg3.view.read (Elt F) X3) (arg4.view.read (Elt F) X4)) (arg2.view.read (Elt F) X2) 1)
                 (sampled rowM (tab (F := F) arg1 X1 (curBatchW i) hc) (curHiW i) (chunkM k0_pay3128 (scales (arg3.view.read (Elt F) X3) (arg4.view.read (Elt F) X4)) (arg2.view.read (Elt F) X2) 0) (restart rowM i (tab (F := F) arg1 X1 (prevBatchW i) hb) m1 aM) 1280) 1280)
               (sampled rowT (tab (F := F) arg1 X1 1#32 hb1) 63#32 (chunkT k0_pay3128 (scales (arg3.view.read (Elt F) X3) (arg4.view.read (Elt F) X4)) (arg2.view.read (Elt F) X2) 1)
                 (sampled rowT (tab (F := F) arg1 X1 (curBatchW i) hc) (curHiW i) (chunkT k0_pay3128 (scales (arg3.view.read (Elt F) X3) (arg4.view.read (Elt F) X4)) (arg2.view.read (Elt F) X2) 0) (restart rowT i (tab (F := F) arg1 X1 (prevBatchW i) hb) t1 aT) 1280) 1280)))) : sProp 𝕄G) := by
  rw [cc0__body_eq_skeleton]
  show _ ⊢ wp frame (wpE (defs₀ (F := F)) Variants.none (c : Thread nD τ) none) E
    (k0_part269 (F := F) i arg1 harg1 arg2 harg2 arg3 harg3 arg4 harg4 arg5 harg5 arg6 harg6 arg7 harg7 arg8 harg8 arg9 harg9 arg10 harg10 arg11 harg11 arg12 harg12 arg13 harg13 >>= fun r => k0_part270 (F := F) i arg1 harg1 arg2 harg2 arg3 harg3 arg4 harg4 arg5 harg5 arg6 harg6 arg7 harg7 arg8 harg8 arg9 harg9 arg10 harg10 arg11 harg11 arg12 harg12 arg13 harg13 r.1 r.2.1 r.2.2.1 r.2.2.2 >>= fun v65 => restBody (F := F) i arg1 harg1 arg2 harg2 arg3 harg3 arg4 harg4 arg5 harg5 arg6 harg6 arg7 harg7 arg8 harg8 arg9 harg9 arg10 harg10 arg11 harg11 arg12 harg12 arg13 harg13 r.1 v65) _
  rw [wp_bind]
  refine entails_trans (partA c i arg1 harg1 arg2 harg2 arg3 harg3 arg4 harg4 arg5 harg5 arg6 harg6 arg7 harg7 arg8 harg8 arg9 harg9 arg10 harg10 arg11 harg11 arg12 harg12 arg13 harg13 X1 X2 X3 X4 m1 t1 aM aT hz E) (wp_mono _ _ _ fun r => ?_)
  refine pure_sep_elim ?_
  intro hr
  subst hr
  rw [wp_bind]
  refine entails_trans (partB c i arg1 harg1 arg2 harg2 arg3 harg3 arg4 harg4 arg5 harg5 arg6 harg6 arg7 harg7 arg8 harg8 arg9 harg9 arg10 harg10 arg11 harg11 arg12 harg12 arg13 harg13 X1 X2 X3 X4 _ _ _ m1 _ t1 aM aT hb hb0 E) (wp_mono _ _ _ fun r => ?_)
  refine pure_sep_elim ?_
  intro hr
  subst hr
  refine entails_trans (partC c i arg1 harg1 arg2 harg2 arg3 harg3 arg4 harg4 arg5 harg5 arg6 harg6 arg7 harg7 arg8 harg8 arg9 harg9 arg10 harg10 arg11 harg11 arg12 harg12 arg13 harg13 X1 X2 X3 X4 k0_pay3128 _ _ _ _ _ _ (fun y => k0_cond2 i = 1#1 → y = finY (Scalar.ofBits .f32 0x3CE4F92E#32) (tab (F := F) arg1 X1 0#32 hb0)
               (sampled rowM (tab (F := F) arg1 X1 (prevBatchW i) hb) (prevHiW i) m1 aM 1280) (sampled rowT (tab (F := F) arg1 X1 (prevBatchW i) hb) (prevHiW i) t1 aT 1280)) hc hb1 E) (wp_mono _ _ _ fun r => ?_)
  exact Hold_mono c arg1 arg2 arg3 arg4 arg5 arg6 arg7 arg8 arg9 arg10 arg11 arg12 arg13 X1 X2 X3 X4 _ _ fun s h => h

end Loop
end Cert.Proof
end
-- ==== Proof.Feed.lean ====
module

public import proofs.«01_k».proof.Proof.Body
public import proofs.«01_k».proof.Proof.Gen.KernelIdeal.Launch
public import Idealize.ShloMosaic.Lib.Pipeline.FrameBody
public import Idealize.ShloMosaic.Lib.Pipeline.ArrRel
public import Idealize.ShloMosaic.Lib.Pipeline.Kit
public import Idealize.ShloMosaic.Lib.Tactic
public import Idealize.ShloMosaic.Lib.ValueIdxCore

@[expose] public section

set_option maxRecDepth 16384

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The points of the grid -/

/-- Point `t` of the grid (modulo their number). -/
def pt (t : ℕ) : grid0.Coords := grid0.coords ⟨t % 64, lt_of_lt_of_eq (Nat.mod_lt _ (by decide)) (by decide)⟩
theorem pt_eq (t : Fin grid0.N) : pt t.val = grid0.coords t :=
  congrArg grid0.coords (Fin.ext (Nat.mod_eq_of_lt (lt_of_lt_of_eq t.isLt (by decide))))

theorem first_iff : ∀ t : Fin 64, firstW (pt t.val) = 1#1 ↔ t.val = 0 := by decide +kernel
theorem cond2_iff : ∀ t : Fin 64, k0_cond2 (pt t.val) = 1#1 ↔ t.val = 32 := by decide +kernel
theorem cond3_iff : ∀ t : Fin 64, k0_cond3 (pt t.val) = 1#1 ↔ t.val = 63 := by decide +kernel
theorem prevBatch_lt : ∀ t : Fin 64, (prevBatchW (pt t.val)).toNat < 2 := by decide +kernel
theorem curBatch_lt : ∀ t : Fin 64, (curBatchW (pt t.val)).toNat < 2 := by decide +kernel

/-! ## What the buffers hold before each point -/

/-- What the kernel is fed: the blocks of codes, scales and signs of every point, and the rows of the table. -/
structure Feed (F : FTy → Type) where
  x : ℕ → S1x160x32768.Idx → BitVec 8
  sc : ℕ → S1x256x128.Idx → F .f32
  sg : ℕ → S1x256x128.Idx → BitVec 8
  T : BitVec 32 → Fin 1280 → BitVec 32

/-- The transformed chunks of a point. -/
def mainOf (f : Feed F) (half t : ℕ) : Fin 8 → Fin 2048 → Fin 128 → F .f32 := chunkM k0_pay3128 (scales (f.sc t) (f.sg t)) (f.x t) half
def tailOf (f : Feed F) (half t : ℕ) : Fin 8 → Fin 512 → Fin 128 → F .f32 := chunkT k0_pay3128 (scales (f.sc t) (f.sg t)) (f.x t) half
/-- The second chunk of the point before (zeros before the first point). -/
def lastOf {R : ℕ} (C : ℕ → ℕ → Fin 8 → Fin R → Fin 128 → F .f32) : ℕ → Fin 8 → Fin R → Fin 128 → F .f32
  | 0 => fun _ _ _ => Scalar.ofBits .f32 0#32
  | t + 1 => C 1 t
/-- The accumulator before point `t`. -/
def accOf {R : ℕ} (row : BitVec 32 → Fin R) (T : BitVec 32 → Fin 1280 → BitVec 32) (C : ℕ → ℕ → Fin 8 → Fin R → Fin 128 → F .f32) : ℕ → S20480x128.Idx → F .f32
  | 0 => fun _ => Scalar.ofBits .f32 0#32
  | t + 1 => sampled row (T (curBatchW (pt t))) (curHiW (pt t)) (C 0 t) (restart row (pt t) (T (prevBatchW (pt t))) (lastOf C t) (accOf row T C t)) 1280
/-- The accumulator each batch's result is made of. -/
def endOf0 {R : ℕ} (row : BitVec 32 → Fin R) (T : BitVec 32 → Fin 1280 → BitVec 32) (C : ℕ → ℕ → Fin 8 → Fin R → Fin 128 → F .f32) : S20480x128.Idx → F .f32 :=
  sampled row (T (prevBatchW (pt 32))) (prevHiW (pt 32)) (lastOf C 32) (accOf row T C 32) 1280
def endOf1 {R : ℕ} (row : BitVec 32 → Fin R) (T : BitVec 32 → Fin 1280 → BitVec 32) (C : ℕ → ℕ → Fin 8 → Fin R → Fin 128 → F .f32) : S20480x128.Idx → F .f32 :=
  sampled row (T 1#32) 63#32 (C 1 63) (accOf row T C 64) 1280
/-- The two results. -/
def result0 (f : Feed F) : S1x1280x160.Idx → F .f32 :=
  finY (Scalar.ofBits .f32 0x3CE4F92E#32) (f.T 0#32) (endOf0 rowM f.T (mainOf f)) (endOf0 rowT f.T (tailOf f))
def result1 (f : Feed F) : S1x1280x160.Idx → F .f32 :=
  finY (Scalar.ofBits .f32 0x3CE4F92E#32) (f.T 1#32) (endOf1 rowM f.T (mainOf f)) (endOf1 rowT f.T (tailOf f))

/-- What is known of the buffers before point `t`. -/
def Before (f : Feed F) (t : ℕ) (s : St F) : Prop :=
  t ≠ 0 → s.h = k0_pay3128 ∧ s.m1 = lastOf (mainOf f) t ∧ s.t1 = lastOf (tailOf f) t
    ∧ (t < 64 → s.aM = accOf rowM f.T (mainOf f) t ∧ s.aT = accOf rowT f.T (tailOf f) t)
/-- What a point leaves in the output block: the first result at point 32, the second at point 63. -/
def Out (f : Feed F) (t : ℕ) (y : S1x1280x160.Idx → F .f32) : Prop := (t = 32 → y = result0 f) ∧ (t = 63 → y = result1 f)

section Loop
variable (c : Dev nD) (f : Feed F) (t : ℕ) (ht : t < 64) (arg1 : Memref sig .tc .smem S2x1280 .i32) (harg1 : arg1.IsWhole) (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole) (arg6 : Memref sig .tc .vmem S256x256 .bf16) (harg6 : arg6.IsWhole) (arg7 : Memref sig .tc .vmem S256x128 .f32) (harg7 : arg7.IsWhole) (arg8 : Memref sig .tc .vmem S16416x128 .f32) (harg8 : arg8.IsWhole) (arg9 : Memref sig .tc .vmem S4128x128 .f32) (harg9 : arg9.IsWhole) (arg10 : Memref sig .tc .vmem S16416x128 .f32) (harg10 : arg10.IsWhole) (arg11 : Memref sig .tc .vmem S4128x128 .f32) (harg11 : arg11.IsWhole) (arg12 : Memref sig .tc .vmem S20480x128 .f32) (harg12 : arg12.IsWhole) (arg13 : Memref sig .tc .vmem S20480x128 .f32) (harg13 : arg13.IsWhole)

include ht in
/-- A point takes the buffers from what is known before it to what is known before the next, and leaves its output. -/
theorem point_run (X1 : BufTy.Contents (Elt F) arg1.view.ty) (X2 : BufTy.Contents (Elt F) arg2.view.ty) (X3 : BufTy.Contents (Elt F) arg3.view.ty) (X4 : BufTy.Contents (Elt F) arg4.view.ty)
    (hT : ∀ (b : BitVec 32) (hb : b.toNat < 2), tab (F := F) arg1 X1 b hb = f.T b) (h2 : arg2.view.read (Elt F) X2 = f.x t) (h3 : arg3.view.read (Elt F) X3 = f.sc t) (h4 : arg4.view.read (Elt F) X4 = f.sg t) (E : Set ℕ) :
    Hold c arg1 arg2 arg3 arg4 arg5 arg6 arg7 arg8 arg9 arg10 arg11 arg12 arg13 X1 X2 X3 X4 (Before f t)
    ⊢ (wp frame (wpE (defs₀ (F := F)) Variants.none (c : Thread nD τ) none) E (cc0__body (F := F) (pt t) arg1 harg1 arg2 harg2 arg3 harg3 arg4 harg4 arg5 harg5 arg6 harg6 arg7 harg7 arg8 harg8 arg9 harg9 arg10 harg10 arg11 harg11 arg12 harg12 arg13 harg13)
     (fun _ => Hold c arg1 arg2 arg3 arg4 arg5 arg6 arg7 arg8 arg9 arg10 arg11 arg12 arg13 X1 X2 X3 X4 (fun s => Before f (t + 1) s ∧ Out f t s.y)) : sProp 𝕄) := by
  have hz := first_iff ⟨t, ht⟩
  have hc2 := cond2_iff ⟨t, ht⟩
  have hc3 := cond3_iff ⟨t, ht⟩
  refine entails_trans (Hold_mono c arg1 arg2 arg3 arg4 arg5 arg6 arg7 arg8 arg9 arg10 arg11 arg12 arg13 X1 X2 X3 X4 _ _ ?_) (entails_trans (body_point c (pt t) arg1 harg1 arg2 harg2 arg3 harg3 arg4 harg4 arg5 harg5 arg6 harg6 arg7 harg7 arg8 harg8 arg9 harg9 arg10 harg10 arg11 harg11 arg12 harg12 arg13 harg13 X1 X2 X3 X4
    (lastOf (mainOf f) t) (lastOf (tailOf f) t) (accOf rowM f.T (mainOf f) t) (accOf rowT f.T (tailOf f) t) ?_ (prevBatch_lt ⟨t, ht⟩) (curBatch_lt ⟨t, ht⟩) (by decide) (by decide) E) (wp_mono _ _ _ fun _ => Hold_mono c arg1 arg2 arg3 arg4 arg5 arg6 arg7 arg8 arg9 arg10 arg11 arg12 arg13 X1 X2 X3 X4 _ _ ?_))
  · intro s h h0
    obtain ⟨a, b, d, e⟩ := h (fun e => h0 (hz.mpr e))
    exact ⟨a, b, d, e ht⟩
  · intro h0
    obtain rfl : t = 0 := hz.mp h0
    exact ⟨fun _ _ _ => rfl, fun _ _ _ => rfl, fun _ => rfl, fun _ => rfl⟩
  · intro s h
    simp only [hT, h2, h3, h4] at h
    obtain ⟨a, b, d, e, g⟩ := h
    refine ⟨fun _ => ⟨a, b, d, fun hl => ?_⟩, fun h32 => ?_, fun h63 => ?_⟩
    · have := e (fun q => absurd (hc3.mp q) (by show t ≠ 63; omega))
      exact ⟨this.1, this.2.1⟩
    · have := e (fun q => absurd (hc3.mp q) (by show t ≠ 63; omega))
      rw [this.2.2 (hc2.mpr h32)]
      subst h32; rfl
    · rw [g (hc3.mpr h63)]
      subst h63; rfl

end Loop

end Cert.Proof
end
-- ==== Proof.Kit.lean ====
module

public import proofs.«01_k».proof.Proof.Gen.KernelIdeal.Launch
public import Idealize.ShloMosaic.Lib.Pipeline.FrameBody
public import Idealize.ShloMosaic.Lib.Pipeline.ArrRel
public import Idealize.ShloMosaic.Lib.Pipeline.Kit
public import Idealize.ShloMosaic.Lib.Tactic
public import Idealize.ShloMosaic.Lib.ValueIdxCore

@[expose] public section

set_option maxRecDepth 16384

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- Window 0 (operand 1 (%0)) is fetched at every point, at any contents of the tables (its index map reads none). -/
theorem fetch0_0 (a : (pcfg0 (F := F)).Adm) : ∀ t : Fin (cfg0 a).N, ((cfg0 a).win 0).fetch t = true :=
  (by decide +kernel : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (by decide +kernel : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (by decide +kernel : ∀ t : Fin grid0.N, Pipeline.Window.fetchOf grid0 false cc0_transform_2 t = true)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`). -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2x1280 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

end Cert.Proof
end
-- ==== Proof.Run.lean ====
module

public import proofs.«01_k».proof.Proof.Feed
public import proofs.«01_k».proof.Proof.Kit
public import proofs.«01_k».proof.Proof.Gen.KernelIdeal.Launch
public import Idealize.ShloMosaic.Lib.Pipeline.FrameBody
public import Idealize.ShloMosaic.Lib.Pipeline.ArrRel
public import Idealize.ShloMosaic.Lib.Pipeline.Kit
public import Idealize.ShloMosaic.Lib.Tactic
public import Idealize.ShloMosaic.Lib.ValueIdxCore

@[expose] public section

set_option maxRecDepth 16384

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (c : Dev nD)

/-- The kernel's own buffers before point `t`: at contents of which what is known there holds. -/
def Own (f : Feed F) (t : ℕ) : sProp 𝕄 :=
  iprop(∃ g6, ∃ g7, ∃ g8, ∃ g9, ∃ g10, ∃ g11, ∃ g12, ∃ g13, ((Memref.whole cc0_scratch0).view.loc (c : Thread nD τ) ↦[(Memref.whole cc0_scratch0).view.set]{fullShare} g6) ∗ ((Memref.whole cc0_scratch1).view.loc (c : Thread nD τ) ↦[(Memref.whole cc0_scratch1).view.set]{fullShare} g7) ∗ ((Memref.whole cc0_scratch2).view.loc (c : Thread nD τ) ↦[(Memref.whole cc0_scratch2).view.set]{fullShare} g8) ∗ ((Memref.whole cc0_scratch3).view.loc (c : Thread nD τ) ↦[(Memref.whole cc0_scratch3).view.set]{fullShare} g9) ∗ ((Memref.whole cc0_scratch4).view.loc (c : Thread nD τ) ↦[(Memref.whole cc0_scratch4).view.set]{fullShare} g10) ∗ ((Memref.whole cc0_scratch5).view.loc (c : Thread nD τ) ↦[(Memref.whole cc0_scratch5).view.set]{fullShare} g11) ∗ ((Memref.whole cc0_scratch6).view.loc (c : Thread nD τ) ↦[(Memref.whole cc0_scratch6).view.set]{fullShare} g12) ∗ ((Memref.whole cc0_scratch7).view.loc (c : Thread nD τ) ↦[(Memref.whole cc0_scratch7).view.set]{fullShare} g13) ∗ ⌜∀ y, Before f t ⟨y, (Memref.whole cc0_scratch0).view.read (Elt F) g6, (Memref.whole cc0_scratch1).view.read (Elt F) g7, octM (Memref.whole cc0_scratch2) g8, octT (Memref.whole cc0_scratch3) g9, octM (Memref.whole cc0_scratch4) g10, octT (Memref.whole cc0_scratch5) g11, (Memref.whole cc0_scratch6).view.read (Elt F) g12, (Memref.whole cc0_scratch7).view.read (Elt F) g13⟩⌝)

section Point
variable (f : Feed F) (t : ℕ) (ht : t < 64)
  (arg2 : Memref sig .tc .vmem S1x160x32768 .i8) (harg2 : arg2.IsWhole) (arg3 : Memref sig .tc .vmem S1x256x128 .f32) (harg3 : arg3.IsWhole) (arg4 : Memref sig .tc .vmem S1x256x128 .i8) (harg4 : arg4.IsWhole) (arg5 : Memref sig .tc .vmem S1x1280x160 .f32) (harg5 : arg5.IsWhole)

include ht in
/-- One point, with the kernel's own buffers, the table and the four staging buffers held. -/
theorem point_owns (X1 : TbBuf0 (F := F) c tbM0_0) (hT : ∀ (b : BitVec 32) (hb : b.toNat < 2), tab (F := F) tbM0_0 X1 b hb = f.T b) (E : Set ℕ) :
    iprop(Own c f t ∗ tbPt0 c tbM0_0 X1 ∗ owns (c : Thread nD τ) arg2 fullShare (f.x t) ∗ owns (c : Thread nD τ) arg3 fullShare (f.sc t) ∗ owns (c : Thread nD τ) arg4 fullShare (f.sg t) ∗ (∃ y, owns (c : Thread nD τ) arg5 fullShare y))
    ⊢ (wp frame (wpE (defs₀ (F := F)) Variants.none (c : Thread nD τ) none) E (cc0__body (F := F) (pt t) tbM0_0 htbM0_0 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _))
      (fun _ => iprop(Own c f (t + 1) ∗ tbPt0 c tbM0_0 X1 ∗ owns (c : Thread nD τ) arg2 fullShare (f.x t) ∗ owns (c : Thread nD τ) arg3 fullShare (f.sc t) ∗ owns (c : Thread nD τ) arg4 fullShare (f.sg t) ∗ (∃ y, ⌜Out f t y⌝ ∗ owns (c : Thread nD τ) arg5 fullShare y))) : sProp 𝕄) := by
  unfold owns Own
  iintro ⟨⟨%g6, %g7, %g8, %g9, %g10, %g11, %g12, %g13, H6, H7, H8, H9, H10, H11, H12, H13, %hP⟩, H1, ⟨%X2, %h2, H2⟩, ⟨%X3, %h3, H3⟩, ⟨%X4, %h4, H4⟩, ⟨%y, %X5, -, H5⟩⟩
  iapply (wp_wand frame (wpE (defs₀ (F := F)) Variants.none (c : Thread nD τ) none) E) $$ [H1 H2 H3 H4 H5 H6 H7 H8 H9 H10 H11 H12 H13]
  · iapply (point_run c f t ht tbM0_0 htbM0_0 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) X1 X2 X3 X4 hT h2 h3 h4 E)
    unfold Hold
    iexists X5; iexists g6; iexists g7; iexists g8; iexists g9; iexists g10; iexists g11; iexists g12; iexists g13
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    ipureintro; exact hP _
  · unfold Hold
    iintro %_ ⟨%g5, %g6, %g7, %g8, %g9, %g10, %g11, %g12, %g13, H1, H2, H3, H4, H5, H6, H7, H8, H9, H10, H11, H12, H13, %hQ⟩
    isplitl [H6 H7 H8 H9 H10 H11 H12 H13]
    · iexists g6; iexists g7; iexists g8; iexists g9; iexists g10; iexists g11; iexists g12; iexists g13
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      ipureintro; exact fun _ => hQ.1
    isplitl [H1]; · iexact H1
    isplitl [H2]; · iexists X2; isplitr; · ipureintro; exact h2
                    iexact H2
    isplitl [H3]; · iexists X3; isplitr; · ipureintro; exact h3
                    iexact H3
    isplitl [H4]; · iexists X4; isplitr; · ipureintro; exact h4
                    iexact H4
    iexists _; isplitr; · ipureintro; exact hQ.2
    iexists g5; isplitr; · ipureintro; rfl
    iexact H5

end Point

/-! ## The pipeline's proof data -/

variable (m : (ℓ : Loc nD τ sig) → Buf (Elt F) ℓ) (ρ : Dev nD → PrngReg)

abbrev hO : Ok m := trivial

/-- What the launch memory feeds the kernel. -/
def feedOf : Feed F where
  x t := iblk m (hO m) c 0 ⟨t % 64, lt_of_lt_of_eq (Nat.mod_lt _ (by decide)) N_0.symm⟩
  sc t := iblk m (hO m) c 1 ⟨t % 64, lt_of_lt_of_eq (Nat.mod_lt _ (by decide)) N_0.symm⟩
  sg t := iblk m (hO m) c 2 ⟨t % 64, lt_of_lt_of_eq (Nat.mod_lt _ (by decide)) N_0.symm⟩
  T b := if hb : b.toNat < 2 then tab (F := F) tbM0_0 (tbl m 0) b hb else fun _ => 0

/-- The arrays as the region finds them; each input's block left as it was, the output's block as `Out` says. -/
def rdat : RDat τ (Elt F) Unit ℕ (UR sig nD τ) ℕ (cfgM m (hO m)) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun _ X => Out (feedOf c m) t.val X
  Φ t := iprop(Own c (feedOf c m) t.val ∗ tbPt0 c tbM0_0 (tbl m 0) ∗ (∃ r, prngReg c r))
  q _ := fullShare
  owed _ := 0

theorem fin64 (t : Fin (cfgM m (hO m)).N) : (⟨t.val % 64, lt_of_lt_of_eq (Nat.mod_lt _ (by decide)) N_0.symm⟩ : Fin (cfgM m (hO m)).N) = t :=
  Fin.ext (Nat.mod_eq_of_lt (lt_of_lt_of_eq t.isLt N_0))
theorem blk0_congr (u t : Fin (cfgM m (hO m)).N) (h : u = t) : (iblk m (hO m) c 0 u : S1x160x32768.Idx → BitVec 8) = iblk m (hO m) c 0 t := by subst h; rfl
theorem blk1_congr (u t : Fin (cfgM m (hO m)).N) (h : u = t) : (iblk m (hO m) c 1 u : S1x256x128.Idx → F .f32) = iblk m (hO m) c 1 t := by subst h; rfl
theorem blk2_congr (u t : Fin (cfgM m (hO m)).N) (h : u = t) : (iblk m (hO m) c 2 u : S1x256x128.Idx → BitVec 8) = iblk m (hO m) c 2 t := by subst h; rfl
theorem feed_x (t : Fin (cfgM m (hO m)).N) : (feedOf c m).x t.val = iblk m (hO m) c 0 t := blk0_congr c m _ _ (fin64 m t)
theorem feed_sc (t : Fin (cfgM m (hO m)).N) : (feedOf c m).sc t.val = iblk m (hO m) c 1 t := blk1_congr c m _ _ (fin64 m t)
theorem feed_sg (t : Fin (cfgM m (hO m)).N) : (feedOf c m).sg t.val = iblk m (hO m) c 2 t := blk2_congr c m _ _ (fin64 m t)

/-- Each input's staging buffer holds its block when the body runs. -/
theorem finds0 (t : Fin (cfgM m (hO m)).N) (Y) (h : (rdat c m).Finds 0 t Y) : Y = (feedOf c m).x t.val := by
  obtain ⟨d, rfl⟩ := ((rdat c m).finds_of_fetch (fetch0_0 (adm m (hO m)) t) Y).mp h
  rw [feed_x]; unfold RDat.fetched RDat.blockOf iblk; rfl
theorem finds1 (t : Fin (cfgM m (hO m)).N) (Y) (h : (rdat c m).Finds 1 t Y) : Y = (feedOf c m).sc t.val := by
  obtain ⟨d, rfl⟩ := ((rdat c m).finds_of_fetch (fetch0_1 (adm m (hO m)) t) Y).mp h
  rw [feed_sc]; unfold RDat.fetched RDat.blockOf iblk; rfl
theorem finds2 (t : Fin (cfgM m (hO m)).N) (Y) (h : (rdat c m).Finds 2 t Y) : Y = (feedOf c m).sg t.val := by
  obtain ⟨d, rfl⟩ := ((rdat c m).finds_of_fetch (fetch0_2 (adm m (hO m)) t) Y).mp h
  rw [feed_sg]; unfold RDat.fetched RDat.blockOf iblk; rfl
theorem feed_T (b : BitVec 32) (hb : b.toNat < 2) : tab (F := F) tbM0_0 (tbl m 0) b hb = (feedOf c m).T b := by
  show _ = dite _ _ _; rw [dif_pos hb]

theorem body_obligation : (rdat c m).BodyObligation (defs₀ (F := F)) Variants.none () Set.univ := fun t Y hY => by
  rw [bigSep_W0, bigSep_W0]
  have e0 := finds0 c m t (Y 0) (hY 0)
  have e1 := finds1 c m t (Y 1) (hY 1)
  have e2 := finds2 c m t (Y 2) (hY 2)
  have ht : t.val < 64 := lt_of_lt_of_eq t.isLt N_0
  sl_whnfR [defs₀, Defs.onTc]
  rw [show (rdat c m).owesAt () t.succ = (rdat c m).owesAt () t.castSucc from rfl, e0, e1, e2,
    show (rdat c m).Φ t.castSucc = iprop(Own c (feedOf c m) t.val ∗ tbPt0 c tbM0_0 (tbl m 0) ∗ (∃ r, prngReg c r)) from rfl,
    show (rdat c m).Φ t.succ = iprop(Own c (feedOf c m) (t.val + 1) ∗ tbPt0 c tbM0_0 (tbl m 0) ∗ (∃ r, prngReg c r)) from rfl]
  iintro ⟨⟨HΦ, HT, HG⟩, Ho, H0, H1, H2, H3⟩
  iapply (wp_wand frame (wpE (defs₀ (F := F)) Variants.none (c : Thread nD τ) none) Set.univ) $$ [HΦ HT H0 H1 H2 H3]
  · have P := point_owns c (feedOf c m) t.val ht
    rw [pt_eq t] at P
    iapply (P _ _ _ _ _ _ _ _ (tbl m 0) (feed_T c m) Set.univ)
    isplitl [HΦ]; · iexact HΦ
    isplitl [HT]; · iexact HT
    isplitl [H0]; · iexact H0
    isplitl [H1]; · iexact H1
    isplitl [H2]; · iexact H2
    iexists _; iexact H3
  · iintro %_ ⟨HΦ, HT, H0, H1, H2, ⟨%y, %hy, H3⟩⟩
    isplitl [HΦ HT HG]
    · isplitl [HΦ]; · iexact HΦ
      isplitl [HT]; · iexact HT
      iexact HG
    isplitl [Ho]; · iexact Ho
    isplitl [H0]; · iexists ((feedOf c m).x t.val); isplitr; · ipureintro; exact (rfl : (feedOf c m).x t.val = _)
                    iexact H0
    isplitl [H1]; · iexists ((feedOf c m).sc t.val); isplitr; · ipureintro; exact (rfl : (feedOf c m).sc t.val = _)
                    iexact H1
    isplitl [H2]; · iexists ((feedOf c m).sg t.val); isplitr; · ipureintro; exact (rfl : (feedOf c m).sg t.val = _)
                    iexact H2
    iexists y; isplitr; · ipureintro; exact hy
    iexact H3

/-! ## The run -/

theorem own_in : iprop(Pipeline.ΦA spec0 c ∗ Pipeline.ΦT pre0 (tbl m) c) ⊢ ((rdat c m).Φ 0 : sProp 𝕄) := by
  show _ ⊢ iprop(Own c (feedOf c m) 0 ∗ tbPt0 c tbM0_0 (tbl m 0) ∗ (∃ r, prngReg c r))
  rw [PhiT0_eq]; unfold Pipeline.ΦA; rw [scopedRest0_eq]
  simp only [← owns_whole]
  unfold Own owns
  iintro ⟨⟨⟨⟨%f0, %g6, -, H6⟩, ⟨%f1, %g7, -, H7⟩, ⟨%f2, %g8, -, H8⟩, ⟨%f3, %g9, -, H9⟩, ⟨%f4, %g10, -, H10⟩, ⟨%f5, %g11, -, H11⟩, ⟨%f6, %g12, -, H12⟩, ⟨%f7, %g13, -, H13⟩⟩, HG⟩, HT⟩
  isplitl [H6 H7 H8 H9 H10 H11 H12 H13]
  · iexists g6; iexists g7; iexists g8; iexists g9; iexists g10; iexists g11; iexists g12; iexists g13
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    ipureintro; exact fun _ h => absurd rfl h
  isplitl [HT]; · iexact HT
  iexact HG

theorem own_out : ((rdat c m).Φ (Fin.last (cfgM m (hO m)).N) : sProp 𝕄) ⊢ Pipeline.ΦA spec0 c := by
  show iprop(Own c (feedOf c m) (cfgM m (hO m)).N ∗ tbPt0 c tbM0_0 (tbl m 0) ∗ (∃ r, prngReg c r)) ⊢ _
  unfold Pipeline.ΦA; rw [scopedRest0_eq]
  simp only [← owns_whole]
  unfold Own owns
  iintro ⟨⟨%g6, %g7, %g8, %g9, %g10, %g11, %g12, %g13, H6, H7, H8, H9, H10, H11, H12, H13, -⟩, -, HG⟩
  isplitr [HG]
  · isplitl [H6]; · iexists _; iexists g6; isplitr; { ipureintro; rfl }; iexact H6
    isplitl [H7]; · iexists _; iexists g7; isplitr; { ipureintro; rfl }; iexact H7
    isplitl [H8]; · iexists _; iexists g8; isplitr; { ipureintro; rfl }; iexact H8
    isplitl [H9]; · iexists _; iexists g9; isplitr; { ipureintro; rfl }; iexact H9
    isplitl [H10]; · iexists _; iexists g10; isplitr; { ipureintro; rfl }; iexact H10
    isplitl [H11]; · iexists _; iexists g11; isplitr; { ipureintro; rfl }; iexact H11
    isplitl [H12]; · iexists _; iexists g12; isplitr; { ipureintro; rfl }; iexact H12
    iexists _; iexists g13; isplitr; { ipureintro; rfl }; iexact H13
  iexact HG

set_option backward.isDefEq.respectTransparency.types false in
/-- From any memory with zero counters every execution terminates; at the end each array of the pipeline stands as the proof data say,
    every other buffer as it was, every counter at zero. -/
theorem run_main : θ_run defs (onTc (τ := τ) (main (F := F))) (s₀ m ρ)
    (fun r => RDat.FramePost (cfgM m (hO m)) (fun c => rdat c m) (V m) r ∧ r.2.sem = fun _ => 0) :=
  Pipeline.RDat.θ_run_frameP_track (Q' := _) pcfgs (fun _ => adm m (hO m)) (0 : Fin 1) launch0 defs₀ Variants.none (fun c => rdat c m) m ρ main
    (hbody := fun c => body_obligation c m) (hshare := fun c w => by unfold RDat.share; split <;> rfl) (howed := fun _ _ => rfl) (V := V m) (hmain := hmain m Variants.none) (hA := fun _ _ => rfl)
    (hpf := V_pre m) (hin := fun c => own_in c m) (hout := fun c => own_out c m)

/-- The arguments end as they began. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (show main_arg0 ∈ Pipeline.restRefs sig spec0 by decide)).trans (V_main_arg0 m c), ((h.1 c).2 main_arg1 (show main_arg1 ∈ Pipeline.restRefs sig spec0 by decide)).trans (V_main_arg1 m c),
     ((h.1 c).2 main_arg2 (show main_arg2 ∈ Pipeline.restRefs sig spec0 by decide)).trans (V_main_arg2 m c), ((h.1 c).2 main_arg3 (show main_arg3 ∈ Pipeline.restRefs sig spec0 by decide)).trans (V_main_arg3 m c)⟩, h.2⟩) (run_main m ρ)

end Cert.Proof
end
-- ==== Proof.SameBody.lean ====
module

public import proofs.«01_k».proof.Proof.Gen.KernelIdeal.Launch
public import proofs.«01_k».proof.Proof.Gen.Kernel.Launch

@[expose] public section

noncomputable section

namespace Cert.Proof

open Idealize.ShloMosaic Idealize.ShloMosaic.TcCoe
open Idealize.SL Idealize.SL.Sem

variable {F : FTy → Type} [FloatOps F]

set_option maxRecDepth 1000000 in
set_option maxHeartbeats 0 in
/-- The kernel before idealization is the same program. -/
theorem same_body : @Cert.Kernel.cc0__body F _ _ = @Cert.KernelIdeal.cc0__body F _ _ := by rfl

end Cert.Proof
end
-- ==== Proof.KernelRun.lean ====
module

public import proofs.«01_k».proof.Proof.Run
public import proofs.«01_k».proof.Proof.SameBody

@[expose] public section

noncomputable section

namespace Cert.Proof

open Idealize.ShloMosaic Idealize.ShloMosaic.TcCoe
open Idealize.SL Idealize.SL.Sem

variable {F : FTy → Type} [FloatOps F]

set_option maxRecDepth 1000000 in
set_option maxHeartbeats 0 in
/-- So the arguments of the kernel before idealization end as they began. -/
theorem kernel_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  have hd : Cert.Kernel.defs (F := F) = Cert.KernelIdeal.defs (F := F) := by
    unfold Cert.Kernel.defs Cert.KernelIdeal.defs Cert.Kernel.defs₀ Cert.KernelIdeal.defs₀
    rw [same_body]
    refine congrArg (Pipeline.defs Cert.Kernel.pcfgs) (congrArg Defs.onTc (funext fun l => funext fun x => ?_))
    obtain rfl : l = (0 : Fin 1) := Subsingleton.elim _ _
    rfl
  have hm : Cert.Kernel.main (F := F) = Cert.KernelIdeal.main (F := F) := rfl
  rw [hd, hm]
  exact run_frame m ρ

end Cert.Proof
end
-- ==== Proof.RefRun.lean ====
module

public import proofs.«01_k».proof.Proof.Gen.ReferenceIdeal.Run
public import proofs.«01_k».proof.Proof.Gen.ReferenceIdeal.Read

@[expose] public section

end
-- ==== Proof.Sign.lean ====
module

public import proofs.«01_k».proof.Proof.Sample
public import Idealize.ShloMosaic.Lib.WordArith
public import Idealize.ShloMosaic.Lib.ValueIdxCore
public import Idealize.ShloMosaic.Lib.ValueIdx
public import Idealize.ShloMosaic.Lib.MatmulPlain

@[expose] public section

set_option maxRecDepth 8192

noncomputable section

namespace Cert.Proof

open Idealize.ShloMosaic

/-! ## The Walsh sign of two numbers -/

/-- The sign `(-1)^popcount(a & b)` over the low `k` bits. -/
def sgZ : ℕ → ℕ → ℕ → ℤ
  | 0, _, _ => 1
  | k + 1, a, b => (if a % 2 = 1 ∧ b % 2 = 1 then -1 else 1) * sgZ k (a / 2) (b / 2)
/-- The same sign as a real number. -/
def sg (k a b : ℕ) : ℝ := (sgZ k a b : ℝ)

theorem sgZ_add (j k a b : ℕ) : sgZ (j + k) a b = sgZ j a b * sgZ k (a / 2 ^ j) (b / 2 ^ j) := by
  induction j generalizing a b with
  | zero => simp [sgZ]
  | succ j ih =>
    rw [Nat.succ_add, sgZ, sgZ, ih, Nat.div_div_eq_div_mul, Nat.div_div_eq_div_mul, ← pow_succ', mul_assoc]
theorem sgZ_mod (k a b : ℕ) : sgZ k (a % 2 ^ k) (b % 2 ^ k) = sgZ k a b := by
  induction k generalizing a b with
  | zero => rfl
  | succ k ih =>
    rw [sgZ, sgZ, pow_succ', Nat.mod_mul_right_div_self, Nat.mod_mul_right_div_self, ih, Nat.mod_mul_right_mod, Nat.mod_mul_right_mod]
theorem sgZ_congr (k : ℕ) {a a' b b' : ℕ} (ha : a % 2 ^ k = a' % 2 ^ k) (hb : b % 2 ^ k = b' % 2 ^ k) : sgZ k a b = sgZ k a' b' := by
  rw [← sgZ_mod k a b, ha, hb, sgZ_mod]
theorem sgZ_zero_right (k a : ℕ) : sgZ k a 0 = 1 := by
  induction k generalizing a with
  | zero => rfl
  | succ k ih => rw [sgZ, Nat.zero_div, ih]; simp
theorem sgZ_of_lt (j k a b : ℕ) (h : b < 2 ^ j) : sgZ (j + k) a b = sgZ j a b := by
  rw [sgZ_add, Nat.div_eq_of_lt h, sgZ_zero_right, mul_one]
theorem sgZ_and (k a b : ℕ) : sgZ k (a &&& b) (a &&& b) = sgZ k a b := by
  induction k generalizing a b with
  | zero => rfl
  | succ k ih =>
    have h2 : (a &&& b) / 2 = a / 2 &&& b / 2 := by
      have := Nat.shiftRight_and_distrib (a := a) (b := b) (i := 1)
      simpa [Nat.shiftRight_eq_div_pow] using this
    have h1 : (a &&& b) % 2 = 1 ↔ a % 2 = 1 ∧ b % 2 = 1 := by
      have := Nat.testBit_and a b 0
      rw [Nat.testBit_zero, Nat.testBit_zero, Nat.testBit_zero] at this
      have h := congrArg (· = true) this
      simpa using h
    rw [sgZ, sgZ, h2, ih]
    simp only [h1, and_self]
theorem sgZ_comm (k a b : ℕ) : sgZ k a b = sgZ k b a := by
  rw [← sgZ_and k a b, ← sgZ_and k b a, Nat.and_comm]
theorem sgZ_cases (k a b : ℕ) : sgZ k a b = 1 ∨ sgZ k a b = -1 := by
  induction k generalizing a b with
  | zero => exact .inl rfl
  | succ k ih =>
    rw [sgZ]
    split_ifs <;> rcases ih (a / 2) (b / 2) with h | h <;> rw [h] <;> simp

theorem sgZ_list (k a : ℕ) : sgZ k a a = ((List.range k).map fun i => if a.testBit i then (-1 : ℤ) else 1).prod := by
  induction k generalizing a with
  | zero => rfl
  | succ k ih =>
    rw [sgZ, ih, List.range_succ_eq_map, List.map_cons, List.prod_cons, List.map_map]
    congr 1
    · simp
    · refine congrArg List.prod (List.map_congr_left fun i _ => ?_)
      simp [Function.comp, Nat.testBit_succ]
theorem prod_filter (l : List ℕ) (p : ℕ → Bool) : (l.map fun i => if p i then (-1 : ℤ) else 1).prod = (-1) ^ (l.filter p).length := by
  induction l with
  | nil => rfl
  | cons x l ih =>
    rw [List.map_cons, List.prod_cons, ih, List.filter_cons]
    by_cases h : p x = true
    · simp [h, pow_succ]
    · simp [h]
/-- One less twice the parity of a popcount is the sign. -/
theorem ctpop_sign (u v : BitVec 32) : (1#32 - 2#32 * (IntOp.ctpop (u &&& v) &&& 1#32)).toInt = sgZ 32 u.toNat v.toNat := by
  rw [← sgZ_and, ← BitVec.toNat_and]
  generalize u &&& v = x
  have hn := WordArith.toNat_ctpop x
  have hs := sgZ_list 32 x.toNat
  have e : (List.map (fun i => if x.toNat.testBit i then (-1 : ℤ) else 1) (List.range 32)).prod = (-1) ^ (IntOp.ctpop x).toNat := by
    rw [hn]
    exact prod_filter (List.range 32) fun i => x.getLsbD i
  rw [hs, e, neg_one_pow_eq_pow_mod_two]
  have hm : (IntOp.ctpop x &&& 1#32).toNat = (IntOp.ctpop x).toNat % 2 := by
    rw [BitVec.toNat_and]
    exact Nat.and_one_is_mod _
  have hc : IntOp.ctpop x &&& 1#32 = BitVec.ofNat 32 ((IntOp.ctpop x).toNat % 2) := by
    apply BitVec.eq_of_toNat_eq
    rw [hm, BitVec.toNat_ofNat]
    omega
  rw [hc]
  rcases Nat.mod_two_eq_zero_or_one (IntOp.ctpop x).toNat with h | h <;> rw [h] <;> decide

/-! ## The index words -/

theorem sshiftRight_and (w v : BitVec 32) (s : ℕ) (hs : s < 32) (h : v.toNat < 2 ^ (32 - s)) :
    (w.sshiftRight s &&& v).toNat = w.toNat / 2 ^ s &&& v.toNat := by
  have e : w.sshiftRight s &&& v = w >>> s &&& v := by
    apply BitVec.eq_of_getLsbD_eq
    intro i hi
    rw [BitVec.getLsbD_and, BitVec.getLsbD_and, BitVec.getLsbD_sshiftRight, BitVec.getLsbD_ushiftRight]
    by_cases h' : s + i < 32
    · simp [h', show ¬ 32 ≤ i by omega]
    · have : v.getLsbD i = false := by
        rw [BitVec.getLsbD]
        exact Nat.testBit_lt_two_pow (lt_of_lt_of_le h (Nat.pow_le_pow_right (by decide) (by omega)))
      rw [this, Bool.and_false, Bool.and_false]
  rw [e, BitVec.toNat_and, BitVec.toNat_ushiftRight, Nat.shiftRight_eq_div_pow]

theorem par6_table : ∀ a : Fin 64, (par6 (BitVec.ofNat 32 a.val)).toNat = if sgZ 6 a.val a.val = 1 then 0 else 1 := by decide +kernel
/-- Which half of the accumulator a sample goes to: the first if the sign is one, the second if it is minus one. -/
theorem minus_eq (w hi : BitVec 32) (h : hi.toNat < 64) : minus w hi = if sgZ 6 (w.toNat / 2 ^ 14) hi.toNat = 1 then 0 else 1 := by
  have e : (Scalar.andi (Scalar.shrsi w 14#32) hi).toNat = w.toNat / 2 ^ 14 &&& hi.toNat :=
    sshiftRight_and w hi 14 (by decide) (lt_trans h (by decide))
  have hlt : w.toNat / 2 ^ 14 &&& hi.toNat < 64 := lt_of_le_of_lt Nat.and_le_right h
  have e' : Scalar.andi (Scalar.shrsi w 14#32) hi = BitVec.ofNat 32 (w.toNat / 2 ^ 14 &&& hi.toNat) := by
    apply BitVec.eq_of_toNat_eq
    rw [e, BitVec.toNat_ofNat]; omega
  show (par6 _).toNat = _
  rw [e']
  exact (par6_table ⟨_, hlt⟩).trans (by rw [sgZ_and])
theorem rowM_val (w : BitVec 32) : (rowM w).val = w.toNat % 2048 := by
  show (w &&& 2047#32).toNat = _
  rw [BitVec.toNat_and]
  exact Nat.and_two_pow_sub_one_eq_mod w.toNat 11
theorem rowT_val (w : BitVec 32) : (rowT w).val = w.toNat % 256 + 256 * (w.toNat / 1024 % 2) := by
  have e1 : (w &&& 255#32).toNat = w.toNat % 256 := by
    rw [BitVec.toNat_and]
    exact Nat.and_two_pow_sub_one_eq_mod w.toNat 8
  have e2 : (w.sshiftRight 2 &&& 256#32).toNat = 256 * (w.toNat / 1024 % 2) := by
    rw [sshiftRight_and w 256#32 2 (by decide) (by decide)]
    show w.toNat / 2 ^ 2 &&& 2 ^ 8 = _
    have h8 : (w.toNat / 2 ^ 2 &&& 2 ^ 8) = if (w.toNat / 2 ^ 2).testBit 8 then 2 ^ 8 else 0 := by
      apply Nat.eq_of_testBit_eq
      intro i
      rw [Nat.testBit_and, Nat.testBit_two_pow]
      by_cases hi : 8 = i
      · subst hi
        cases (w.toNat / 2 ^ 2).testBit 8
        · simp
        · decide
      · have h0 : Nat.testBit 256 i = false := by
          rw [show 256 = 2 ^ 8 from rfl, Nat.testBit_two_pow]; simp [hi]
        cases (w.toNat / 2 ^ 2).testBit 8 <;> simp [hi, h0]
    rw [h8, Nat.testBit_eq_decide_div_mod_eq]
    have : w.toNat / 2 ^ 2 / 2 ^ 8 = w.toNat / 1024 := by omega
    rw [this]
    rcases Nat.mod_two_eq_zero_or_one (w.toNat / 1024) with h | h <;> rw [h] <;> simp
  show ((w &&& 255#32) + (w.sshiftRight 2 &&& 256#32) : BitVec 32).toNat = _
  rw [BitVec.toNat_add, e1, e2]
  omega

/-! ## Sums -/

theorem sum_mul_range (a b : ℕ) (f : ℕ → ℝ) : ∑ u ∈ Finset.range (a * b), f u = ∑ i ∈ Finset.range a, ∑ j ∈ Finset.range b, f (i * b + j) := by
  induction a with
  | zero => simp
  | succ a ih => rw [Nat.succ_mul, Finset.sum_range_add, ih, Finset.sum_range_succ]
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem sg_add (j k a b : ℕ) : sg (j + k) a b = sg j a b * sg k (a / 2 ^ j) (b / 2 ^ j) := by
  unfold sg; rw [sgZ_add, Int.cast_mul]
theorem sg_congr (k : ℕ) {a a' b b' : ℕ} (ha : a % 2 ^ k = a' % 2 ^ k) (hb : b % 2 ^ k = b' % 2 ^ k) : sg k a b = sg k a' b' := by
  unfold sg; rw [sgZ_congr k ha hb]
theorem sg_comm (k a b : ℕ) : sg k a b = sg k b a := by unfold sg; rw [sgZ_comm]
theorem sgZ32 (k a b : ℕ) (hk : k ≤ 32) (h : b < 2 ^ k) : sgZ 32 a b = sgZ k a b := by
  obtain ⟨j, hj⟩ := Nat.exists_eq_add_of_le hk
  rw [hj, sgZ_of_lt k j a b h]

end Cert.Proof
end
-- ==== Proof.IdealTile.lean ====
module

public import proofs.«01_k».proof.Proof.Sign
public import proofs.«01_k».proof.Proof.Chunk
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.KernelIdeal Cert.KernelIdeal.Gen
open Idealize.ShloMosaic Idealize.ShloMosaic.TcCoe Idealize.ShloMosaic.ValueIdx

/-! ## A transformed chunk at the extended reals -/

/-- The Hadamard matrix's entries are the signs. -/
theorem had_apply (r c : Fin 256) : (k0_pay3128 (F := Ideal)) (ix2 r c) = ((sg 8 r.val c.val : ℝ) : EReal) := by
  have h : (k0_pay3128 (F := Ideal)) (ix2 r c)
      = (((1#32 - 2#32 * (IntOp.ctpop (BitVec.ofNat 32 r.val &&& BitVec.ofNat 32 c.val) &&& 1#32)).toInt : ℝ) : EReal) := by
    unfold k0_pay3128
    rw [shapeCast_self]
    show (((1#32 - 2#32 * (IntOp.ctpop (iota .tc S256x256 32 [0] iota_S256x256_d0_w32 (ix2 r c) &&& iota .tc S256x256 32 [1] iota_S256x256_d1_w32 (ix2 r c)) &&& 1#32)).toInt : ℝ) : EReal) = _
    rw [iota_single_apply, iota_single_apply]
  rw [h, ctpop_sign, BitVec.toNat_ofNat, BitVec.toNat_ofNat, Nat.mod_eq_of_lt (show r.val < 2 ^ 32 by omega), Nat.mod_eq_of_lt (show c.val < 2 ^ 32 by omega),
    sgZ32 8 r.val c.val (by decide) (by omega)]
  rfl

theorem scaled_apply (row : FVec Ideal S1x128 .f32) (x : Vec Ideal S1x160x128 .i8) (c : Fin 160) (l : Fin 128) :
    scaled row x (ix2 c l) = ((((x (ix3 0 c l) : BitVec 8).toInt : ℝ) : EReal)) * (row (ix2 0 l) : EReal) := by
  unfold scaled
  refine (shapeCast_apply _ _ (ix2 c l) (ix3 ⟨c.val / 16, by omega⟩ ⟨c.val % 16, Nat.mod_lt _ (by decide)⟩ l) ?_).trans ?_
  · rw [Shape.rowMajor_val_three, Shape.rowMajor_val_two]
    show (c.val / 16 * 16 + c.val % 16) * 128 + l.val = c.val * 128 + l.val
    omega
  · refine congrArg₂ (fun a b : EReal => a * b) ?_ ?_
    · refine (shapeCast_apply _ _ _ (ix2 c l) ?_).trans ?_
      · rw [Shape.rowMajor_val_three, Shape.rowMajor_val_two]
        show c.val * 128 + l.val = (c.val / 16 * 16 + c.val % 16) * 128 + l.val
        omega
      · show ((((shapeCast S160x128 x shapeCasts_S1x160x128_S160x128 (ix2 c l) : BitVec 8).toInt : ℝ) : EReal)) = _
        rw [shapeCast_1ab_ab_apply]
    · refine (broadcastTo_apply _ _ _ (ix3 0 ⟨c.val % 16, Nat.mod_lt _ (by decide)⟩ l) ?_).trans ?_
      · intro a; fin_cases a <;> rfl
      · rw [shapeCast_ab_1ab_apply]
        show broadcastTo S16x128 (shapeCast S1x128 row shapeCasts_S1x128_S1x128) broadcasts_S1x128_S16x128 (ix2 _ l) = _
        rw [broadcastTo_1b_ab_apply, shapeCast_self]

theorem mainBlk_apply (row : ℕ → ℕ → FVec Ideal S1x128 .f32) (x : ℕ → ℕ → Vec Ideal S1x160x128 .i8) (q : ℕ) (c : Fin 128) (v : Fin 256) :
    mainBlk row x q (ix2 c v) = scaled (row q (v.val / 128)) (x q (v.val / 128)) (ix2 ⟨c.val, by omega⟩ ⟨v.val % 128, Nat.mod_lt _ (by decide)⟩) := by
  unfold mainBlk
  by_cases h : v.val < 128
  · rw [show v.val / 128 = 0 by omega]
    refine (concatenate_apply_piece (t := S128x256) 1 _ _ (ix2 c v) 0 (by simp) S128x128 _ rfl rfl 0 rfl (ix2 c ⟨v.val, h⟩) ?_ ?_).trans ?_
    · intro b hb; fin_cases b
      · rfl
      · exact absurd rfl hb
    · show 0 + v.val = v.val; omega
    · refine extractStridedSlice_apply _ _ _ _ _ fun a => ?_
      fin_cases a
      · show c.val = 0 + c.val; omega
      · show v.val % 128 = 0 + v.val; omega
  · rw [show v.val / 128 = 1 by omega]
    refine (concatenate_apply_piece (t := S128x256) 1 _ _ (ix2 c v) 1 (by simp) S128x128 _ rfl rfl 128 rfl (ix2 c ⟨v.val - 128, by omega⟩) ?_ ?_).trans ?_
    · intro b hb; fin_cases b
      · rfl
      · exact absurd rfl hb
    · show 128 + (v.val - 128) = v.val; omega
    · refine extractStridedSlice_apply _ _ _ _ _ fun a => ?_
      fin_cases a
      · show c.val = 0 + c.val; omega
      · show v.val % 128 = 0 + (v.val - 128); omega
theorem tailBlk_apply (row : ℕ → ℕ → FVec Ideal S1x128 .f32) (x : ℕ → ℕ → Vec Ideal S1x160x128 .i8) (q : ℕ) (c : Fin 32) (v : Fin 256) :
    tailBlk row x q (ix2 c v) = scaled (row q (v.val / 128)) (x q (v.val / 128)) (ix2 ⟨128 + c.val, by omega⟩ ⟨v.val % 128, Nat.mod_lt _ (by decide)⟩) := by
  unfold tailBlk
  by_cases h : v.val < 128
  · rw [show v.val / 128 = 0 by omega]
    refine (concatenate_apply_piece (t := S32x256) 1 _ _ (ix2 c v) 0 (by simp) S32x128 _ rfl rfl 0 rfl (ix2 c ⟨v.val, h⟩) ?_ ?_).trans ?_
    · intro b hb; fin_cases b
      · rfl
      · exact absurd rfl hb
    · show 0 + v.val = v.val; omega
    · refine extractStridedSlice_apply _ _ _ _ _ fun a => ?_
      fin_cases a
      · rfl
      · show v.val % 128 = 0 + v.val; omega
  · rw [show v.val / 128 = 1 by omega]
    refine (concatenate_apply_piece (t := S32x256) 1 _ _ (ix2 c v) 1 (by simp) S32x128 _ rfl rfl 128 rfl (ix2 c ⟨v.val - 128, by omega⟩) ?_ ?_).trans ?_
    · intro b hb; fin_cases b
      · rfl
      · exact absurd rfl hb
    · show 128 + (v.val - 128) = v.val; omega
    · refine extractStridedSlice_apply _ _ _ _ _ fun a => ?_
      fin_cases a
      · rfl
      · show v.val % 128 = 0 + (v.val - 128); omega

/-- A product with the Hadamard matrix whose other side is real: a signed sum over the 256 columns. -/
theorem dotH_apply (b : FVec Ideal S256x256 .bf16) (r c : Fin 256) (f : ℕ → ℝ) (hf : ∀ v : Fin 256, b (ix2 c v) = ((f v.val : ℝ) : EReal)) :
    dotH (k0_pay3128 (F := Ideal)) b (ix2 r c) = ((∑ v ∈ Finset.range 256, sg 8 r.val v * f v : ℝ) : EReal) := by
  have h : dotH (k0_pay3128 (F := Ideal)) b (ix2 r c)
      = Ideal.ofBits .f32 0x00000000#32 + ∑ v : Fin 256, (k0_pay3128 (F := Ideal) (ix2 r v) : EReal) * b (ix2 c v) :=
    Ideal.matmul_transposedRhs_apply none (k0_pay3128 (F := Ideal)) b (constant S256x256 .f32 0x00000000#32) r c
  rw [h, Ideal.ofBits_zero_f32, zero_add, Finset.sum_range, ← coe_sum]
  refine Finset.sum_congr rfl fun v _ => ?_
  rw [had_apply, hf, EReal.coe_mul]

section Chunk
variable (R : S256x128.Idx → Ideal .f32) (X : S1x160x32768.Idx → BitVec 8) (half : ℕ) (z : ℕ → ℕ → ℝ)

/-- The scaled codes of a half block are the reals `z`, by position in the half block and channel. -/
def Scaled : Prop := ∀ p d (hp : p < 16384) (hd : d < 160),
  ((((X (ix3 0 ⟨d, hd⟩ ⟨(half * 16384 + p) % 32768, Nat.mod_lt _ (by decide)⟩)).toInt : ℝ) : EReal))
    * (R (ix2 ⟨(half * 128 + p / 128) % 256, Nat.mod_lt _ (by decide)⟩ ⟨p % 128, Nat.mod_lt _ (by decide)⟩) : EReal) = ((z p d : ℝ) : EReal)

variable {R X half z}

theorem scaled_of (hz : Scaled R X half z) (j q v d : ℕ) (hj : j < 8) (hq : q < 8) (hv : v < 256) (hd : d < 160) :
    scaled (rowOf (F := Ideal) R half j q (v / 128)) (xOf (F := Ideal) X half j q (v / 128)) (ix2 ⟨d, hd⟩ ⟨v % 128, Nat.mod_lt _ (by decide)⟩)
      = ((z (j * 2048 + q * 256 + v) d : ℝ) : EReal) := by
  rw [scaled_apply, ← hz (j * 2048 + q * 256 + v) d (by omega) hd]
  refine congrArg₂ (fun a b : EReal => a * b) ?_ ?_
  · refine congrArg (fun w : BitVec 8 => ((w.toInt : ℝ) : EReal)) (congrArg X (congrArg (ix3 0 (⟨d, hd⟩ : Fin 160)) (Fin.ext ?_)))
    show (half * 16384 + j * 2048 + 256 * q + 128 * (v / 128) + v % 128) % 32768 = (half * 16384 + (j * 2048 + q * 256 + v)) % 32768
    omega
  · refine congrArg R (congrArg₂ ix2 (Fin.ext ?_) (Fin.ext ?_))
    · show (half * 128 + j * 16 + 2 * q + v / 128) % 256 = (half * 128 + (j * 2048 + q * 256 + v) / 128) % 256
      omega
    · show v % 128 = (j * 2048 + q * 256 + v) % 128
      omega

theorem wMain_apply (hz : Scaled R X half z) (j : ℕ) (hj : j < 8) (p : ℕ) (hp : p < 4) (r c : Fin 256) :
    wMain (k0_pay3128 (F := Ideal)) (rowOf R half j) (xOf X half j) p (ix2 r c)
      = ((∑ v ∈ Finset.range 256, sg 8 r.val v * z (j * 2048 + (2 * p + c.val / 128) * 256 + v) (c.val % 128) : ℝ) : EReal) := by
  unfold wMain
  refine dotH_apply _ r c (fun v => z (j * 2048 + (2 * p + c.val / 128) * 256 + v) (c.val % 128)) fun v => ?_
  by_cases h : c.val < 128
  · refine (concatenate_apply_piece (t := S256x256) 0 _ _ (ix2 c v) 0 (by simp) S128x256 _ rfl rfl 0 rfl (ix2 ⟨c.val, h⟩ v) ?_ ?_).trans ?_
    · intro b hb; fin_cases b
      · exact absurd rfl hb
      · rfl
    · show 0 + c.val = c.val; omega
    · rw [mainBlk_apply]
      refine (scaled_of hz j (2 * p) v.val c.val hj (by omega) v.isLt (by omega)).trans ?_
      rw [show 2 * p + c.val / 128 = 2 * p by omega, show c.val % 128 = c.val by omega]
  · refine (concatenate_apply_piece (t := S256x256) 0 _ _ (ix2 c v) 1 (by simp) S128x256 _ rfl rfl 128 rfl (ix2 ⟨c.val - 128, by omega⟩ v) ?_ ?_).trans ?_
    · intro b hb; fin_cases b
      · exact absurd rfl hb
      · rfl
    · show 128 + (c.val - 128) = c.val; omega
    · rw [mainBlk_apply]
      refine (scaled_of hz j (2 * p + 1) v.val (c.val - 128) hj (by omega) v.isLt (by omega)).trans ?_
      rw [show 2 * p + c.val / 128 = 2 * p + 1 by omega, show c.val % 128 = c.val - 128 by omega]

theorem wTail_apply (hz : Scaled R X half z) (j : ℕ) (hj : j < 8) (r c : Fin 256) :
    wTail (k0_pay3128 (F := Ideal)) (rowOf R half j) (xOf X half j) (ix2 r c)
      = ((∑ v ∈ Finset.range 256, sg 8 r.val v * z (j * 2048 + (c.val / 32) * 256 + v) (128 + c.val % 32) : ℝ) : EReal) := by
  unfold wTail
  refine dotH_apply _ r c (fun v => z (j * 2048 + (c.val / 32) * 256 + v) (128 + c.val % 32)) fun v => ?_
  have hk : c.val / 32 < 8 := by omega
  have key : ∀ k, k < 8 → c.val / 32 = k → tailBlk (rowOf (F := Ideal) R half j) (xOf (F := Ideal) X half j) k (ix2 ⟨c.val % 32, Nat.mod_lt _ (by decide)⟩ v)
      = ((z (j * 2048 + (c.val / 32) * 256 + v) (128 + c.val % 32) : ℝ) : EReal) := by
    intro k hk e
    rw [tailBlk_apply, e]
    exact scaled_of hz j k v.val (128 + c.val % 32) hj hk v.isLt (by omega)
  generalize hkk : c.val / 32 = k at hk
  have hb : ∀ (b : Fin S32x256.rank), b.cast (rfl : S32x256.rank = S256x256.rank) ≠ 0 →
      ((ix2 ⟨c.val % 32, Nat.mod_lt _ (by decide)⟩ v : S32x256.Idx) b).val = ((ix2 c v : S256x256.Idx) (b.cast rfl)).val := by
    intro b hb; fin_cases b
    · exact absurd rfl hb
    · rfl
  have ha : ∀ k, c.val / 32 = k → 32 * k + c.val % 32 = c.val := by intro k h; omega
  rw [← hkk]
  interval_cases k
  all_goals
    refine Eq.trans ?_ (key _ (by decide) hkk)
  · exact concatenate_apply_piece (t := S256x256) 0 _ _ (ix2 c v) 0 (by simp) S32x256 _ rfl rfl (32 * 0) rfl _ hb (ha _ hkk)
  · exact concatenate_apply_piece (t := S256x256) 0 _ _ (ix2 c v) 1 (by simp) S32x256 _ rfl rfl (32 * 1) rfl _ hb (ha _ hkk)
  · exact concatenate_apply_piece (t := S256x256) 0 _ _ (ix2 c v) 2 (by simp) S32x256 _ rfl rfl (32 * 2) rfl _ hb (ha _ hkk)
  · exact concatenate_apply_piece (t := S256x256) 0 _ _ (ix2 c v) 3 (by simp) S32x256 _ rfl rfl (32 * 3) rfl _ hb (ha _ hkk)
  · exact concatenate_apply_piece (t := S256x256) 0 _ _ (ix2 c v) 4 (by simp) S32x256 _ rfl rfl (32 * 4) rfl _ hb (ha _ hkk)
  · exact concatenate_apply_piece (t := S256x256) 0 _ _ (ix2 c v) 5 (by simp) S32x256 _ rfl rfl (32 * 5) rfl _ hb (ha _ hkk)
  · exact concatenate_apply_piece (t := S256x256) 0 _ _ (ix2 c v) 6 (by simp) S32x256 _ rfl rfl (32 * 6) rfl _ hb (ha _ hkk)
  · exact concatenate_apply_piece (t := S256x256) 0 _ _ (ix2 c v) 7 (by simp) S32x256 _ rfl rfl (32 * 7) rfl _ hb (ha _ hkk)

end Chunk

end Cert.Proof
end
-- ==== Proof.IdealChunk.lean ====
module

public import proofs.«01_k».proof.Proof.IdealTile
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.KernelIdeal Cert.KernelIdeal.Gen
open Idealize.ShloMosaic Idealize.ShloMosaic.TcCoe Idealize.ShloMosaic.ValueIdx

/-! ## The Walsh stages of a transformed chunk, in the reals -/

/-- One stage, in the reals. -/
def stR (h : ℕ) (b : ℕ → ℝ) (k : ℕ) : ℝ := if k / h % 2 = 0 then b k + b (k + h) else b (k - h) - b k
theorem stR3 (b : ℕ → ℝ) (q : ℕ) (hq : q < 8) : stR 4 (stR 2 (stR 1 b)) q = ∑ k ∈ Finset.range 8, sg 3 q k * b k := by
  interval_cases q <;> simp [stR, Finset.sum_range_succ, sg, sgZ] <;> ring
theorem stR1 (b : ℕ → ℝ) (q : ℕ) (hq : q < 2) : stR 1 b q = ∑ k ∈ Finset.range 2, sg 1 q k * b k := by
  interval_cases q <;> simp [stR, Finset.sum_range_succ, sg, sgZ] <;> ring

theorem rows8x128_apply (w : FVec Ideal S256x256 .f32) (lo c : ℕ) (hlo : lo < 32) (hc : c < 2) (s : Fin 8) (d : Fin 128) :
    rows8x128 w lo c hlo hc (ix2 s d) = w (ix2 ⟨8 * lo + s.val, by omega⟩ ⟨128 * c + d.val, by omega⟩) :=
  extractStridedSlice_apply _ _ _ _ _ fun a => by fin_cases a <;> rfl

/-- A stage of real values at one place. -/
theorem stage_real (h : ℕ) (v : ℕ → FVec Ideal S8x128 .f32) (ix : S8x128.Idx) (b : ℕ → ℝ) (n : ℕ) (hv : ∀ k, k < n → v k ix = ((b k : ℝ) : EReal))
    (k : ℕ) (hk : k < n) (hk' : k / h % 2 = 0 → k + h < n) :
    stage h v k ix = ((stR h b k : ℝ) : EReal) := by
  unfold stage stR
  by_cases hc : k / h % 2 = 0
  · rw [if_pos hc, if_pos hc]
    show (v k ix : EReal) + (v (k + h) ix : EReal) = _
    rw [hv k hk, hv (k + h) (hk' hc), EReal.coe_add]
  · rw [if_neg hc, if_neg hc]
    show (v (k - h) ix : EReal) - (v k ix : EReal) = _
    rw [hv k hk, hv (k - h) (by omega), EReal.coe_sub]
theorem octetM_real (w : ℕ → FVec Ideal S256x256 .f32) (lo : ℕ) (hlo : lo < 32) (ix : S8x128.Idx) (b : ℕ → ℝ)
    (hv : ∀ k, k < 8 → rows8x128 (w (k / 2)) lo (k % 2) hlo (Nat.mod_lt _ (by decide)) ix = ((b k : ℝ) : EReal)) (q : ℕ) (hq : q < 8) :
    octetM w lo hlo q ix = ((∑ k ∈ Finset.range 8, sg 3 q k * b k : ℝ) : EReal) := by
  rw [← stR3 b q hq]
  exact stage_real 4 _ ix (stR 2 (stR 1 b)) 8 (fun k hk => stage_real 2 _ ix (stR 1 b) 8 (fun k hk => stage_real 1
    (fun k => rows8x128 (w (k / 2)) lo (k % 2) hlo (Nat.mod_lt _ (by decide))) ix b 8 hv k hk (by omega)) k hk (by omega)) q hq (by omega)
theorem octetT_real (w : FVec Ideal S256x256 .f32) (lo : ℕ) (hlo : lo < 32) (ix : S8x128.Idx) (b : ℕ → ℝ)
    (hv : ∀ k, k < 2 → rows8x128 w lo (k % 2) hlo (Nat.mod_lt _ (by decide)) ix = ((b k : ℝ) : EReal)) (q : ℕ) (hq : q < 2) :
    octetT w lo hlo q ix = ((∑ k ∈ Finset.range 2, sg 1 q k * b k : ℝ) : EReal) := by
  rw [← stR1 b q hq]
  exact stage_real 1 (fun k => rows8x128 w lo (k % 2) hlo (Nat.mod_lt _ (by decide))) ix b 2 hv q hq (by omega)

section Chunk
variable {R : S256x128.Idx → Ideal .f32} {X : S1x160x32768.Idx → BitVec 8} {half : ℕ} {z : ℕ → ℕ → ℝ}

/-- A row of a transformed chunk: the signed sum over an octet's 2048 positions. -/
theorem chunkM_apply (hz : Scaled R X half z) (j : Fin 8) (r : Fin 2048) (d : Fin 128) :
    chunkM (k0_pay3128 (F := Ideal)) R X half j r d
      = ((∑ q ∈ Finset.range 8, sg 3 (r.val / 256) q * ∑ v ∈ Finset.range 256, sg 8 (r.val % 256) v * z (j.val * 2048 + q * 256 + v) d.val : ℝ) : EReal) := by
  refine octetM_real (wMain (k0_pay3128 (F := Ideal)) (rowOf R half j.val) (xOf X half j.val)) (r.val % 256 / 8) (by omega) (ix2 ⟨r.val % 8, Nat.mod_lt _ (by decide)⟩ d)
    (fun q => ∑ v ∈ Finset.range 256, sg 8 (r.val % 256) v * z (j.val * 2048 + q * 256 + v) d.val) (fun k hk => ?_) (r.val / 256) (by omega)
  rw [rows8x128_apply, wMain_apply hz j.val j.isLt (k / 2) (by omega)]
  refine congrArg _ (Finset.sum_congr rfl fun v _ => ?_)
  have e1 : 8 * (r.val % 256 / 8) + r.val % 8 = r.val % 256 := by omega
  have e2 : 2 * (k / 2) + (128 * (k % 2) + d.val) / 128 = k := by omega
  have e3 : (128 * (k % 2) + d.val) % 128 = d.val := by omega
  simp only [e1, e2, e3]
theorem chunkT_apply (hz : Scaled R X half z) (j : Fin 8) (r : Fin 512) (d : Fin 128) :
    chunkT (k0_pay3128 (F := Ideal)) R X half j r d
      = ((∑ h ∈ Finset.range 2, sg 1 (r.val / 256) h * ∑ v ∈ Finset.range 256, sg 8 (r.val % 256) v * z (j.val * 2048 + (4 * h + d.val / 32) * 256 + v) (128 + d.val % 32) : ℝ) : EReal) := by
  refine octetT_real (wTail (k0_pay3128 (F := Ideal)) (rowOf R half j.val) (xOf X half j.val)) (r.val % 256 / 8) (by omega) (ix2 ⟨r.val % 8, Nat.mod_lt _ (by decide)⟩ d)
    (fun h => ∑ v ∈ Finset.range 256, sg 8 (r.val % 256) v * z (j.val * 2048 + (4 * h + d.val / 32) * 256 + v) (128 + d.val % 32)) (fun k hk => ?_) (r.val / 256) (by omega)
  rw [rows8x128_apply, wTail_apply hz j.val j.isLt]
  refine congrArg _ (Finset.sum_congr rfl fun v _ => ?_)
  have e1 : 8 * (r.val % 256 / 8) + r.val % 8 = r.val % 256 := by omega
  have e2 : (128 * (k % 2) + d.val) / 32 = 4 * k + d.val / 32 := by omega
  have e3 : (128 * (k % 2) + d.val) % 32 = d.val % 32 := by omega
  simp only [e1, e2, e3]

end Chunk

end Cert.Proof
end
-- ==== Proof.IdealAcc.lean ====
module

public import proofs.«01_k».proof.Proof.Sign
public import proofs.«01_k».proof.Proof.Feed
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.KernelIdeal Cert.KernelIdeal.Gen
open Idealize.ShloMosaic Idealize.ShloMosaic.TcCoe Idealize.ShloMosaic.ValueIdx

/-! ## The accumulators at the extended reals -/

/-- The two halves of an accumulator are real, and the first less the second is `δ`. -/
def Diff (acc : S20480x128.Idx → Ideal .f32) (δ : Fin 1280 → Fin 8 → Fin 128 → ℝ) : Prop := ∀ (m : Fin 1280) (j : Fin 8) (d : Fin 128), ∃ a b : ℝ,
  acc (ix2 ⟨m.val * 8 + j.val, by omega⟩ d) = ((a : ℝ) : EReal) ∧ acc (ix2 ⟨10240 + m.val * 8 + j.val, by omega⟩ d) = ((b : ℝ) : EReal) ∧ a - b = δ m j d

theorem zero_diff (δ : Fin 1280 → Fin 8 → Fin 128 → ℝ) (hδ : ∀ m j d, δ m j d = 0) : Diff (fun _ => Scalar.ofBits .f32 0#32) δ := fun m j d =>
  ⟨0, 0, Ideal.ofBits_zero_f32, Ideal.ofBits_zero_f32, by rw [hδ, sub_zero]⟩

section Acc
variable {R : ℕ} (row : BitVec 32 → Fin R)

theorem sampled_half (T : Fin 1280 → BitVec 32) (hi : BitVec 32) (V : Fin 8 → Fin R → Fin 128 → Ideal .f32) (old : S20480x128.Idx → Ideal .f32)
    (s : ℕ) (m : Fin 1280) (j : Fin 8) (d : Fin 128) (r : Fin 20480) (hr : r.val = s * 10240 + m.val * 8 + j.val) :
    sampled row T hi V old 1280 (ix2 r d) = if minus (T m) hi = s then (old (ix2 r d) + V j (row (T m)) d : EReal) else old (ix2 r d) := by
  by_cases h : minus (T m) hi = s
  · rw [if_pos h]
    exact sampled_at row T hi V old 1280 (ix2 r d) m j d (by rw [h]; exact hr) rfl m.isLt
  · rw [if_neg h]
    unfold sampled
    have e : (⟨r.val % 10240 / 8, by omega⟩ : Fin 1280) = m := Fin.ext (by show _ % 10240 / 8 = m.val; omega)
    refine if_neg fun h' => h ?_
    have h2 := h'.2
    have e2 : ((ix2 r d : S20480x128.Idx) 0).val / 10240 = s := by show r.val / 10240 = s; omega
    rw [e2] at h2
    rw [← e]; exact h2

/-- A round of samples adds to the difference the sign times the sampled row. -/
theorem sampled_diff (T : Fin 1280 → BitVec 32) (hi : BitVec 32) (hhi : hi.toNat < 64) (V : Fin 8 → Fin R → Fin 128 → Ideal .f32) (v : Fin 8 → Fin R → Fin 128 → ℝ)
    (hV : ∀ j r d, V j r d = ((v j r d : ℝ) : EReal)) (old : S20480x128.Idx → Ideal .f32) (δ δ' : Fin 1280 → Fin 8 → Fin 128 → ℝ) (h : Diff old δ)
    (hδ : ∀ m j d, δ' m j d = δ m j d + sg 6 ((T m).toNat / 2 ^ 14) hi.toNat * v j (row (T m)) d) :
    Diff (sampled row T hi V old 1280) δ' := by
  intro m j d
  obtain ⟨a, b, ha, hb, hab⟩ := h m j d
  have h0 := sampled_half row T hi V old 0 m j d ⟨m.val * 8 + j.val, by omega⟩ (by show m.val * 8 + j.val = _; omega)
  have h1 := sampled_half row T hi V old 1 m j d ⟨10240 + m.val * 8 + j.val, by omega⟩ (by show 10240 + m.val * 8 + j.val = _; omega)
  rw [minus_eq _ _ hhi] at h0 h1
  rcases sgZ_cases 6 ((T m).toNat / 2 ^ 14) hi.toNat with hs | hs
  · rw [hs] at h0 h1
    refine ⟨a + v j (row (T m)) d, b, ?_, ?_, ?_⟩
    · rw [h0, if_pos rfl, if_pos rfl, ha, hV, EReal.coe_add]
    · rw [h1, if_pos rfl, if_neg (by decide), hb]
    · rw [hδ, ← hab, sg, hs]; push_cast; ring
  · rw [hs] at h0 h1
    refine ⟨a, b + v j (row (T m)) d, ?_, ?_, ?_⟩
    · rw [h0, if_neg (show ¬(if (-1 : ℤ) = 1 then 0 else 1) = 0 by decide), ha]
    · rw [h1, if_pos (show (if (-1 : ℤ) = 1 then 0 else 1) = 1 by decide), hb, hV, EReal.coe_add]
    · rw [hδ, ← hab, sg, hs]; push_cast; ring

theorem words_cur : ∀ p : Fin 64, curBatchW (pt p.val) = BitVec.ofNat 32 (p.val / 32) ∧ curHiW (pt p.val) = BitVec.ofNat 32 (2 * (p.val % 32)) := by decide +kernel
theorem words_prev : ∀ p : Fin 64, p.val % 32 ≠ 0 → prevBatchW (pt p.val) = BitVec.ofNat 32 (p.val / 32) ∧ prevHiW (pt p.val) = BitVec.ofNat 32 (2 * (p.val % 32) - 1) := by decide +kernel
theorem words_0 : prevHiW (pt 0) = 0#32 := by decide +kernel
theorem words_32 : prevBatchW (pt 32) = 0#32 ∧ prevHiW (pt 32) = 63#32 := by decide +kernel

variable (T : BitVec 32 → Fin 1280 → BitVec 32) (C : ℕ → ℕ → Fin 8 → Fin R → Fin 128 → Ideal .f32) (c : ℕ → ℕ → Fin 8 → Fin R → Fin 128 → ℝ)
  (hC : ∀ half t j r d, half < 2 → t < 64 → C half t j r d = ((c half t j r d : ℝ) : EReal))

/-- The signed sum of the first `n` chunks of batch `b`. -/
def part (b n : ℕ) (m : Fin 1280) (j : Fin 8) (d : Fin 128) : ℝ :=
  ∑ h ∈ Finset.range n, sg 6 ((T (BitVec.ofNat 32 b) m).toNat / 2 ^ 14) h * c (h % 2) (32 * b + h / 2) j (row (T (BitVec.ofNat 32 b) m)) d

include hC in
theorem part_step (b n : ℕ) (hb : b < 2) (hn : n < 64) (half t : ℕ) (e1 : half = n % 2) (e2 : t = 32 * b + n / 2) (old : S20480x128.Idx → Ideal .f32) (h : Diff old (part row T c b n)) :
    Diff (sampled row (T (BitVec.ofNat 32 b)) (BitVec.ofNat 32 n) (C half t) old 1280) (part row T c b (n + 1)) := by
  subst e1 e2
  refine sampled_diff row _ _ (by rw [BitVec.toNat_ofNat]; omega) _ (c (n % 2) (32 * b + n / 2)) (fun j r d => hC _ _ j r d (by omega) (by omega)) old _ _ h fun m j d => ?_
  rw [part, Finset.sum_range_succ, BitVec.toNat_ofNat, Nat.mod_eq_of_lt (show n < 2 ^ 32 by omega)]
  rfl

include hC in
theorem acc_part (b : ℕ) (hb : b < 2) (t : ℕ) (ht : t < 32) : Diff (accOf row T C (32 * b + t + 1)) (part row T c b (2 * t + 1)) := by
  induction t with
  | zero =>
    have hcur := words_cur ⟨32 * b, by omega⟩
    simp only [] at hcur
    show Diff (sampled row (T (curBatchW (pt (32 * b)))) (curHiW (pt (32 * b))) (C 0 (32 * b)) (restart row (pt (32 * b)) (T (prevBatchW (pt (32 * b)))) (lastOf C (32 * b)) (accOf row T C (32 * b))) 1280) _
    rw [hcur.1, hcur.2, show 32 * b / 32 = b by omega, show 2 * (32 * b % 32) = 0 by omega]
    refine part_step row T C c hC b 0 hb (by decide) 0 (32 * b) rfl (by omega) _ ?_
    have hb' : b = 0 ∨ b = 1 := by omega
    rcases hb' with rfl | rfl
    · unfold restart
      rw [if_neg (fun q => absurd ((cond2_iff ⟨0, by decide⟩).mp q) (by decide)), show prevHiW (pt (32 * 0)) = 0#32 from words_0]
      refine sampled_diff row _ _ (by decide) _ (fun _ _ _ => 0) (fun _ _ _ => Ideal.ofBits_zero_f32) _ (fun _ _ _ => 0) _ (zero_diff _ fun _ _ _ => rfl) fun m j d => ?_
      simp [part]
    · unfold restart
      rw [if_pos ((cond2_iff ⟨32, by decide⟩).mpr rfl)]
      exact zero_diff _ fun m j d => by simp [part]
  | succ t ih =>
    have hcur := words_cur ⟨32 * b + (t + 1), by omega⟩
    have hprev := words_prev ⟨32 * b + (t + 1), by omega⟩ (by show (32 * b + (t + 1)) % 32 ≠ 0; omega)
    simp only [] at hcur hprev
    show Diff (sampled row (T (curBatchW (pt (32 * b + (t + 1))))) (curHiW (pt (32 * b + (t + 1)))) (C 0 (32 * b + (t + 1)))
      (restart row (pt (32 * b + (t + 1))) (T (prevBatchW (pt (32 * b + (t + 1))))) (C 1 (32 * b + t)) (accOf row T C (32 * b + t + 1))) 1280) _
    rw [hcur.1, hcur.2, hprev.1, show (32 * b + (t + 1)) / 32 = b by omega, show 2 * ((32 * b + (t + 1)) % 32) = 2 * (t + 1) by omega]
    refine part_step row T C c hC b (2 * (t + 1)) hb (by omega) 0 _ (by omega) (by omega) _ ?_
    unfold restart
    rw [if_neg (fun q => absurd ((cond2_iff ⟨32 * b + (t + 1), by omega⟩).mp q) (by show 32 * b + (t + 1) ≠ 32; omega)), hprev.2,
      show 2 * ((32 * b + (t + 1)) % 32) - 1 = 2 * t + 1 by omega]
    exact part_step row T C c hC b (2 * t + 1) hb (by omega) 1 _ (by omega) (by omega) _ (ih (by omega))

include hC in
/-- The accumulators the results are made of hold the signed sums of all 64 chunks. -/
theorem end0_part : Diff (endOf0 row T C) (part row T c 0 64) := by
  unfold endOf0
  rw [words_32.1, words_32.2]
  exact part_step row T C c hC 0 63 (by decide) (by decide) 1 31 rfl rfl _ (acc_part row T C c hC 0 (by decide) 31 (by decide))
include hC in
theorem end1_part : Diff (endOf1 row T C) (part row T c 1 64) := by
  unfold endOf1
  exact part_step row T C c hC 1 63 (by decide) (by decide) 1 63 rfl rfl _ (acc_part row T C c hC 1 (by decide) 31 (by decide))

end Acc

end Cert.Proof
end
-- ==== Proof.IdealFinish.lean ====
module

public import proofs.«01_k».proof.Proof.IdealAcc
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.KernelIdeal Cert.KernelIdeal.Gen
open Idealize.ShloMosaic Idealize.ShloMosaic.TcCoe Idealize.ShloMosaic.ValueIdx

/-! ## The finish at the extended reals -/

theorem laneSign_apply (s : IVec S8x128 32) (a : BitVec 32) (ix : S8x128.Idx) (k n : ℕ) (hk : k ≤ 32) (hs : s ix = BitVec.ofNat 32 n) (hn : n < 2 ^ k) :
    laneSign (F := Ideal) s a ix = ((sg k a.toNat n : ℝ) : EReal) := by
  have hn' : n < 2 ^ 32 := lt_of_lt_of_le hn (Nat.pow_le_pow_right (by decide) hk)
  show (((1#32 - 2#32 * (IntOp.ctpop (a &&& s ix) &&& 1#32)).toInt : ℝ) : EReal) = _
  rw [hs, ctpop_sign, BitVec.toNat_ofNat, Nat.mod_eq_of_lt hn', sgZ32 k _ _ hk hn]
  rfl
theorem subW_apply (s : Fin 8) (l : Fin 128) : subW (ix2 s l) = BitVec.ofNat 32 s.val := by
  unfold subW
  rw [iota_single_apply]
theorem block_apply : ∀ (s : Fin 8) (l : Fin 128), k0_pay3138 (ix2 s l) = BitVec.ofNat 32 (l.val / 32) := by decide +kernel
theorem sgM_apply (w : BitVec 32) (s : Fin 8) (l : Fin 128) : sgM (F := Ideal) w (ix2 s l) = ((sg 3 (w.toNat / 2 ^ 11) s.val : ℝ) : EReal) := by
  unfold sgM
  rw [laneSign_apply subW _ _ 3 s.val (by decide) (subW_apply s l) (by omega)]
  have e : (Scalar.andi (Scalar.shrsi w 11#32) 7#32).toNat = w.toNat / 2 ^ 11 &&& 7 := sshiftRight_and w 7#32 11 (by decide) (by decide)
  rw [e, show (w.toNat / 2 ^ 11 &&& 7) = w.toNat / 2 ^ 11 % 2 ^ 3 from Nat.and_two_pow_sub_one_eq_mod _ 3, sg_congr 3 (Nat.mod_mod _ _) rfl]
theorem sgT_apply (w : BitVec 32) (s : Fin 8) (l : Fin 128) :
    sgT (F := Ideal) w (ix2 s l) = ((sg 3 (w.toNat / 2 ^ 11) s.val * sg 2 (w.toNat / 2 ^ 8) (l.val / 32) : ℝ) : EReal) := by
  unfold sgT
  show (sgM (F := Ideal) w (ix2 s l) : EReal) * (laneSign (F := Ideal) k0_pay3138 _ (ix2 s l) : EReal) = _
  rw [sgM_apply, laneSign_apply k0_pay3138 _ _ 2 (l.val / 32) (by decide) (block_apply s l) (by omega)]
  have e : (Scalar.andi (Scalar.shrsi w 8#32) 3#32).toNat = w.toNat / 2 ^ 8 &&& 3 := sshiftRight_and w 3#32 8 (by decide) (by decide)
  rw [e, show (w.toNat / 2 ^ 8 &&& 3) = w.toNat / 2 ^ 8 % 2 ^ 2 from Nat.and_two_pow_sub_one_eq_mod _ 2, sg_congr 2 (Nat.mod_mod _ _) rfl, EReal.coe_mul]

theorem rowSum_apply (A B s : FVec Ideal S8x128 .f32) (l : Fin 128) (f : Fin 8 → ℝ)
    (hf : ∀ j : Fin 8, ((A (ix2 j l) : EReal) - B (ix2 j l)) * s (ix2 j l) = ((f j : ℝ) : EReal)) :
    rowSum A B s (ix2 0 l) = ((∑ j, f j : ℝ) : EReal) := by
  unfold rowSum
  rw [shapeCast_a_1a_apply]
  show Ideal.reduceAdd reduces_S8x128_S128 (mulf (subf A B) s) (ix1 l) = _
  rw [Ideal.reduceAdd_single reduces_S8x128_S128 _ (ix1 l), ← coe_sum]
  refine Finset.sum_congr rfl fun j _ => ?_
  rw [← hf j]
  refine congrArg (mulf (subf A B) s) (funext fun a => ?_)
  fin_cases a <;> rfl
theorem eightRows_apply (r : ℕ → FVec Ideal S1x128 .f32) (u : Fin 8) (l : Fin 128) : eightRows r (ix2 u l) = r u.val (ix2 0 l) := by
  unfold eightRows
  have hb : ∀ (b : Fin S1x128.rank), b.cast (rfl : S1x128.rank = S8x128.rank) ≠ 0 → ((ix2 0 l : S1x128.Idx) b).val = ((ix2 u l : S8x128.Idx) (b.cast rfl)).val := by
    intro b hb; fin_cases b
    · exact absurd rfl hb
    · rfl
  fin_cases u
  · exact concatenate_apply_piece (t := S8x128) 0 _ _ _ 0 (by simp) S1x128 _ rfl rfl 0 rfl (ix2 0 l) hb rfl
  · exact concatenate_apply_piece (t := S8x128) 0 _ _ _ 1 (by simp) S1x128 _ rfl rfl 1 rfl (ix2 0 l) hb rfl
  · exact concatenate_apply_piece (t := S8x128) 0 _ _ _ 2 (by simp) S1x128 _ rfl rfl 2 rfl (ix2 0 l) hb rfl
  · exact concatenate_apply_piece (t := S8x128) 0 _ _ _ 3 (by simp) S1x128 _ rfl rfl 3 rfl (ix2 0 l) hb rfl
  · exact concatenate_apply_piece (t := S8x128) 0 _ _ _ 4 (by simp) S1x128 _ rfl rfl 4 rfl (ix2 0 l) hb rfl
  · exact concatenate_apply_piece (t := S8x128) 0 _ _ _ 5 (by simp) S1x128 _ rfl rfl 5 rfl (ix2 0 l) hb rfl
  · exact concatenate_apply_piece (t := S8x128) 0 _ _ _ 6 (by simp) S1x128 _ rfl rfl 6 rfl (ix2 0 l) hb rfl
  · exact concatenate_apply_piece (t := S8x128) 0 _ _ _ 7 (by simp) S1x128 _ rfl rfl 7 rfl (ix2 0 l) hb rfl
theorem rotate_lane (n : ℕ) (hn : n < 128) (v : FVec Ideal S8x128 .f32) (h) (u : Fin 8) (l : Fin 128) :
    dynamicRotate (s := S8x128) 1 (BitVec.ofNat 32 n) none v h (ix2 u l) = v (ix2 u ⟨(l.val + 128 - n) % 128, Nat.mod_lt _ (by decide)⟩) := by
  refine dynamicRotate_apply (s := S8x128) 1 _ v h _ _ fun b => ?_
  fin_cases b
  · rfl
  · show (l.val + 128 - n) % 128 = (l.val + 128 - (BitVec.ofNat 32 n).toNat % 128) % 128
    rw [BitVec.toNat_ofNat, show n % 2 ^ 32 % 128 = n by omega]
theorem addBlocks_apply (v : FVec Ideal S8x128 .f32) (u : Fin 8) (l : Fin 32) (f : ℕ → ℝ)
    (hf : ∀ k (hk : k < 4), v (ix2 u ⟨32 * k + l.val, by omega⟩) = ((f k : ℝ) : EReal)) :
    addBlocks v (ix2 u ⟨l.val, by omega⟩) = ((∑ k ∈ Finset.range 4, f k : ℝ) : EReal) := by
  have e : ∀ k (hk : k < 4) (n : Fin 128), n.val = 32 * k + l.val → v (ix2 u n) = ((f k : ℝ) : EReal) := by
    intro k hk n hn
    rw [← hf k hk]; exact congrArg (fun n => v (ix2 u n)) (Fin.ext hn)
  show ((v (ix2 u ⟨l.val, by omega⟩) : EReal) + dynamicRotate (s := S8x128) 1 (BitVec.ofNat 32 64) none v rotates_S8x128_d1 (ix2 u ⟨l.val, by omega⟩))
    + dynamicRotate (s := S8x128) 1 (BitVec.ofNat 32 32) none (addf v (dynamicRotate 1 64#32 none v rotates_S8x128_d1)) rotates_S8x128_d1 (ix2 u ⟨l.val, by omega⟩) = _
  rw [rotate_lane 64 (by decide), rotate_lane 32 (by decide)]
  show ((v _ : EReal) + v _) + ((v _ : EReal) + dynamicRotate (s := S8x128) 1 (BitVec.ofNat 32 64) none v rotates_S8x128_d1 _) = _
  rw [rotate_lane 64 (by decide), e 0 (by decide) _ (by show l.val = _; omega), e 2 (by decide) _ (by show (l.val + 128 - 64) % 128 = _; omega),
    e 3 (by decide) _ (by show (l.val + 128 - 32) % 128 = _; omega), e 1 (by decide) _ (by show ((l.val + 128 - 32) % 128 + 128 - 64) % 128 = _; omega),
    ← EReal.coe_add, ← EReal.coe_add, ← EReal.coe_add]
  refine congrArg _ ?_
  simp only [Finset.sum_range_succ, Finset.sum_range_zero]
  ring

section Fin
variable (cst : Ideal .f32) (T : Fin 1280 → BitVec 32) (O O' : S20480x128.Idx → Ideal .f32) (δ δ' : Fin 1280 → Fin 8 → Fin 128 → ℝ)

theorem rowSum_diff {O : S20480x128.Idx → Ideal .f32} {δ : Fin 1280 → Fin 8 → Fin 128 → ℝ} (hO : Diff O δ) (m : Fin 1280) (l : Fin 128) (s : FVec Ideal S8x128 .f32) (σ : Fin 8 → ℝ)
    (hs : ∀ j : Fin 8, s (ix2 j l) = ((σ j : ℝ) : EReal)) (n : ℕ) (hn : n = m.val) :
    rowSum (rows8 O (n * 8)) (rows8 O (10240 + n * 8)) s (ix2 0 l) = ((∑ j, δ m j l * σ j : ℝ) : EReal) := by
  subst hn
  refine rowSum_apply _ _ _ l (fun j => δ m j l * σ j) fun j => ?_
  obtain ⟨a, b, ha, hb, hab⟩ := hO m j l
  have e1 : rows8 O (m.val * 8) (ix2 j l) = ((a : ℝ) : EReal) := by
    rw [← ha]
    exact congrArg (fun n => O (ix2 n l)) (Fin.ext (by show (m.val * 8 + j.val) % 20480 = m.val * 8 + j.val; omega))
  have e2 : rows8 O (10240 + m.val * 8) (ix2 j l) = ((b : ℝ) : EReal) := by
    rw [← hb]
    exact congrArg (fun n => O (ix2 n l)) (Fin.ext (by show (10240 + m.val * 8 + j.val) % 20480 = 10240 + m.val * 8 + j.val; omega))
  rw [e1, e2, hs, ← EReal.coe_sub, hab, ← EReal.coe_mul]

/-- A lane below 128 of a result row. -/
theorem finY_main (hO : Diff O δ) (m : Fin 1280) (d : Fin 160) (hd : d.val < 128) :
    finY cst T O O' (ix3 0 m d) = (((∑ j : Fin 8, δ m j ⟨d.val, hd⟩ * sg 3 ((T m).toNat / 2 ^ 11) j.val : ℝ) : EReal)) * (cst : EReal) := by
  unfold finY
  show (if h : d.val < 128 then _ else _) = _
  rw [dif_pos hd]
  unfold finM
  rw [shapeCast_ab_1ab_apply]
  show FloatOps.mulf (eightRows (F := Ideal) _ (ix2 (⟨m.val % 8, _⟩ : Fin 8) (⟨d.val, hd⟩ : Fin 128))) cst = _
  rw [eightRows_apply]
  have e : 8 * (m.val / 8) + m.val % 8 = m.val := by omega
  have et : tabAt T (8 * (m.val / 8) + m.val % 8) = T m := congrArg T (Fin.ext (by show (8 * (m.val / 8) + m.val % 8) % 1280 = m.val; omega))
  refine congrArg (fun a : EReal => a * cst) ?_
  refine (rowSum_diff hO m ⟨d.val, hd⟩ _ (fun j => sg 3 ((T m).toNat / 2 ^ 11) j.val) (fun j => ?_) _ e)
  show sgM (F := Ideal) (tabAt T (8 * (m.val / 8) + m.val % 8)) _ = _
  rw [et, sgM_apply]

/-- A lane from 128 on of a result row. -/
theorem finY_tail (hO : Diff O' δ') (m : Fin 1280) (d : Fin 160) (hd : 128 ≤ d.val) :
    finY cst T O O' (ix3 0 m d) = (((∑ k ∈ Finset.range 4, ∑ j : Fin 8, δ' m j ⟨(32 * k + (d.val - 128)) % 128, Nat.mod_lt _ (by decide)⟩
      * (sg 3 ((T m).toNat / 2 ^ 11) j.val * sg 2 ((T m).toNat / 2 ^ 8) k) : ℝ) : EReal)) * (cst : EReal) := by
  unfold finY
  show (if h : d.val < 128 then _ else _) = _
  rw [dif_neg (by omega)]
  unfold finT
  rw [shapeCast_ab_1ab_apply]
  refine congrArg (fun a : EReal => a * cst) ?_
  have hl : d.val - 128 < 32 := by omega
  refine (extractStridedSlice_apply _ _ _ _ (ix2 (⟨m.val % 8, Nat.mod_lt _ (by decide)⟩ : Fin 8) (⟨d.val - 128, by omega⟩ : Fin 128)) fun a => ?_).trans ?_
  · fin_cases a
    · show m.val % 8 = 0 + m.val % 8; omega
    · show d.val - 128 = 0 + (d.val - 128); omega
  have e : 8 * (m.val / 8) + m.val % 8 = m.val := by omega
  have et : tabAt T (8 * (m.val / 8) + m.val % 8) = T m := congrArg T (Fin.ext (by show (8 * (m.val / 8) + m.val % 8) % 1280 = m.val; omega))
  refine addBlocks_apply _ ⟨m.val % 8, Nat.mod_lt _ (by decide)⟩ ⟨d.val - 128, hl⟩ _ fun k hk => ?_
  rw [eightRows_apply]
  have el : (⟨(32 * k + (d.val - 128)) % 128, Nat.mod_lt _ (by decide)⟩ : Fin 128) = ⟨32 * k + (d.val - 128), by omega⟩ := Fin.ext (by show (32 * k + (d.val - 128)) % 128 = 32 * k + (d.val - 128); omega)
  rw [el]
  refine (rowSum_diff hO m ⟨32 * k + (d.val - 128), by omega⟩ _ (fun j => sg 3 ((T m).toNat / 2 ^ 11) j.val * sg 2 ((T m).toNat / 2 ^ 8) k) (fun j => ?_) _ e)
  show sgT (F := Ideal) (tabAt T (8 * (m.val / 8) + m.val % 8)) _ = _
  rw [et, sgT_apply, show (32 * k + (d.val - 128)) / 32 = k by omega]
end Fin

end Cert.Proof
end
-- ==== Proof.Total.lean ====
module

public import proofs.«01_k».proof.Proof.Sign
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.KernelIdeal Cert.KernelIdeal.Gen
open Idealize.ShloMosaic Idealize.ShloMosaic.TcCoe Idealize.ShloMosaic.ValueIdx

/-! ## The Walsh–Hadamard sum, by stages -/

/-- The `w`-th Walsh–Hadamard sum of the first `2 ^ k` values. -/
def wh (k w : ℕ) (f : ℕ → ℝ) : ℝ := ∑ n ∈ Finset.range (2 ^ k), sg k w n * f n

/-- A sum over `j + k` bits is a sum over the upper `j` of sums over the lower `k`. -/
theorem wh_split (k j w : ℕ) (f : ℕ → ℝ) :
    wh (k + j) w f = ∑ i ∈ Finset.range (2 ^ j), sg j (w / 2 ^ k) i * wh k w (fun u => f (i * 2 ^ k + u)) := by
  unfold wh
  rw [show 2 ^ (k + j) = 2 ^ j * 2 ^ k by rw [pow_add, mul_comm], sum_mul_range]
  refine Finset.sum_congr rfl fun i _ => ?_
  rw [Finset.mul_sum]
  refine Finset.sum_congr rfl fun u hu => ?_
  have hu' : u < 2 ^ k := Finset.mem_range.mp hu
  have hp : 0 < 2 ^ k := Nat.two_pow_pos k
  rw [sg_add, show (i * 2 ^ k + u) / 2 ^ k = i by rw [add_comm, Nat.add_mul_div_right _ _ hp, Nat.div_eq_of_lt hu', zero_add],
    sg_congr k (rfl : w % 2 ^ k = w % 2 ^ k) (show (i * 2 ^ k + u) % 2 ^ k = u % 2 ^ k by rw [add_comm, Nat.add_mul_mod_self_right])]
  ring
theorem wh_congr (k : ℕ) {w w' : ℕ} (h : w % 2 ^ k = w' % 2 ^ k) (f : ℕ → ℝ) : wh k w f = wh k w' f :=
  Finset.sum_congr rfl fun n _ => by rw [sg_congr k h rfl]
theorem wh_fun (k w : ℕ) {f g : ℕ → ℝ} (h : ∀ n, f n = g n) : wh k w f = wh k w g := by rw [funext h]

/-- The first 128 columns: the order the kernel sums in. -/
theorem total_main (w : ℕ) (f : ℕ → ℝ) :
    ∑ j ∈ Finset.range 8, (∑ h ∈ Finset.range 64, sg 6 (w / 2 ^ 14) h * ∑ q ∈ Finset.range 8, sg 3 (w % 2048 / 256) q
      * ∑ v ∈ Finset.range 256, sg 8 (w % 2048 % 256) v * f (h * 16384 + (j * 2048 + q * 256 + v))) * sg 3 (w / 2 ^ 11) j = wh 20 w f := by
  rw [wh_split 14 6]
  simp_rw [Finset.sum_mul]
  rw [Finset.sum_comm]
  refine Finset.sum_congr rfl fun h _ => ?_
  rw [wh_split 11 3, Finset.mul_sum]
  refine Finset.sum_congr rfl fun j _ => ?_
  rw [wh_split 8 3, mul_assoc]
  refine congrArg _ ((mul_comm _ _).trans (congrArg _ ?_))
  refine Finset.sum_congr rfl fun q _ => ?_
  rw [sg_congr 3 (show w % 2048 / 256 % 2 ^ 3 = w / 2 ^ 8 % 2 ^ 3 by omega) rfl]
  refine congrArg _ (Finset.sum_congr rfl fun v _ => ?_)
  rw [sg_congr 8 (show w % 2048 % 256 % 2 ^ 8 = w % 2 ^ 8 by omega) rfl]
  refine congrArg _ (congrArg f ?_)
  omega

/-- The last 32 columns: the order the kernel sums in. -/
theorem total_tail (w : ℕ) (f : ℕ → ℝ) :
    ∑ k ∈ Finset.range 4, ∑ j ∈ Finset.range 8, (∑ h ∈ Finset.range 64, sg 6 (w / 2 ^ 14) h * ∑ q ∈ Finset.range 2, sg 1 ((w % 256 + 256 * (w / 1024 % 2)) / 256) q
      * ∑ v ∈ Finset.range 256, sg 8 ((w % 256 + 256 * (w / 1024 % 2)) % 256) v * f (h * 16384 + (j * 2048 + (4 * q + k) * 256 + v))) * (sg 3 (w / 2 ^ 11) j * sg 2 (w / 2 ^ 8) k) = wh 20 w f := by
  rw [wh_split 14 6, Finset.sum_comm]
  simp_rw [Finset.sum_mul]
  rw [show (∑ j ∈ Finset.range 8, ∑ k ∈ Finset.range 4, ∑ h ∈ Finset.range 64, sg 6 (w / 2 ^ 14) h * (∑ q ∈ Finset.range 2, sg 1 ((w % 256 + 256 * (w / 1024 % 2)) / 256) q
      * ∑ v ∈ Finset.range 256, sg 8 ((w % 256 + 256 * (w / 1024 % 2)) % 256) v * f (h * 16384 + (j * 2048 + (4 * q + k) * 256 + v))) * (sg 3 (w / 2 ^ 11) j * sg 2 (w / 2 ^ 8) k))
    = ∑ j ∈ Finset.range 8, ∑ h ∈ Finset.range 64, ∑ k ∈ Finset.range 4, sg 6 (w / 2 ^ 14) h * (∑ q ∈ Finset.range 2, sg 1 ((w % 256 + 256 * (w / 1024 % 2)) / 256) q
      * ∑ v ∈ Finset.range 256, sg 8 ((w % 256 + 256 * (w / 1024 % 2)) % 256) v * f (h * 16384 + (j * 2048 + (4 * q + k) * 256 + v))) * (sg 3 (w / 2 ^ 11) j * sg 2 (w / 2 ^ 8) k)
    from Finset.sum_congr rfl fun j _ => Finset.sum_comm, Finset.sum_comm]
  refine Finset.sum_congr rfl fun h _ => ?_
  rw [wh_split 11 3, Finset.mul_sum]
  refine Finset.sum_congr rfl fun j _ => ?_
  rw [wh_split 10 1]
  simp_rw [wh_split 8 2, Finset.mul_sum]
  rw [Finset.sum_comm]
  simp only [Finset.sum_mul, Finset.mul_sum]
  refine Finset.sum_congr rfl fun k _ => Finset.sum_congr rfl fun q _ => ?_
  unfold wh
  simp_rw [Finset.mul_sum]
  refine Finset.sum_congr rfl fun v _ => ?_
  rw [sg_congr 1 (show (w % 256 + 256 * (w / 1024 % 2)) / 256 % 2 ^ 1 = w / 2 ^ 10 % 2 ^ 1 by omega) rfl,
    sg_congr 8 (show (w % 256 + 256 * (w / 1024 % 2)) % 256 % 2 ^ 8 = w % 2 ^ 8 by omega) rfl,
    show h * 16384 + (j * 2048 + (4 * q + k) * 256 + v) = h * 2 ^ 14 + (j * 2 ^ 11 + (q * 2 ^ 10 + (k * 2 ^ 8 + v))) by omega]
  ring

/-- The order the reference sums in. -/
theorem total_reference (w : ℕ) (f : ℕ → ℝ) :
    ∑ p ∈ Finset.range 128, sg 7 w p * (∑ q ∈ Finset.range 128, sg 7 (w / 2 ^ 7) q * ∑ i ∈ Finset.range 64, sg 6 (w / 2 ^ 14) i * f (i * 16384 + q * 128 + p)) = wh 20 w f := by
  rw [wh_split 14 6]
  simp_rw [wh_split 7 7]
  unfold wh
  simp_rw [Finset.mul_sum]
  rw [Finset.sum_comm]
  rw [show (∑ q ∈ Finset.range 128, ∑ p ∈ Finset.range 128, ∑ i ∈ Finset.range 64, sg 7 w p * (sg 7 (w / 2 ^ 7) q * (sg 6 (w / 2 ^ 14) i * f (i * 16384 + q * 128 + p))))
     = ∑ q ∈ Finset.range 128, ∑ i ∈ Finset.range 64, ∑ p ∈ Finset.range 128, sg 7 w p * (sg 7 (w / 2 ^ 7) q * (sg 6 (w / 2 ^ 14) i * f (i * 16384 + q * 128 + p)))
     from Finset.sum_congr rfl fun q _ => Finset.sum_comm, Finset.sum_comm]
  refine Finset.sum_congr rfl fun i _ => Finset.sum_congr rfl fun q _ => Finset.sum_congr rfl fun p _ => ?_
  rw [show i * 16384 + q * 128 + p = i * 2 ^ 14 + (q * 2 ^ 7 + p) by omega]
  ring

end Cert.Proof
end
-- ==== Proof.Entry.lean ====
module

public import proofs.«01_k».proof.Proof.Sign
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.KernelIdeal Cert.KernelIdeal.Gen
open Idealize.ShloMosaic Idealize.ShloMosaic.TcCoe Idealize.ShloMosaic.ValueIdx

/-! ## The dequantised entries as real numbers -/

/-- Entry `d` of row `n` of batch `b`: the code times the row's scale and sign. -/
def entry (a0 : IVec S2x1048576x160 8) (a1 : FVec Ideal S2x1048576 .f32) (a2 : IVec S2x1048576 8) (b n d : ℕ) : ℝ :=
  ((a0 (ix3 ⟨b % 2, Nat.mod_lt _ (by decide)⟩ ⟨n % 1048576, Nat.mod_lt _ (by decide)⟩ ⟨d % 160, Nat.mod_lt _ (by decide)⟩)).toInt : ℝ)
    * ((a1 (ix2 ⟨b % 2, Nat.mod_lt _ (by decide)⟩ ⟨n % 1048576, Nat.mod_lt _ (by decide)⟩) : EReal).toReal
      * ((a2 (ix2 ⟨b % 2, Nat.mod_lt _ (by decide)⟩ ⟨n % 1048576, Nat.mod_lt _ (by decide)⟩)).toInt : ℝ))

/-- Every scale is finite. -/
def Finite (a1 : FVec Ideal S2x1048576 .f32) : Prop := ∀ i, (a1 i : EReal) ≠ ⊤ ∧ (a1 i : EReal) ≠ ⊥

/-- The product of code, scale and sign is the entry. -/
theorem entry_eq (a0 : IVec S2x1048576x160 8) (a1 : FVec Ideal S2x1048576 .f32) (a2 : IVec S2x1048576 8) (h : Finite a1) (b : Fin 2) (n : Fin 1048576) (d : Fin 160) :
    (((a0 (ix3 b n d)).toInt : ℝ) : EReal) * ((a1 (ix2 b n) : EReal) * (((a2 (ix2 b n)).toInt : ℝ) : EReal)) = ((entry a0 a1 a2 b.val n.val d.val : ℝ) : EReal) := by
  unfold entry
  have eb : (⟨b.val % 2, Nat.mod_lt _ (by decide)⟩ : Fin 2) = b := Fin.ext (Nat.mod_eq_of_lt b.isLt)
  have en : (⟨n.val % 1048576, Nat.mod_lt _ (by decide)⟩ : Fin 1048576) = n := Fin.ext (Nat.mod_eq_of_lt n.isLt)
  have ed : (⟨d.val % 160, Nat.mod_lt _ (by decide)⟩ : Fin 160) = d := Fin.ext (Nat.mod_eq_of_lt d.isLt)
  rw [eb, en, ed, EReal.coe_mul, EReal.coe_mul, EReal.coe_toReal (h _).1 (h _).2]

end Cert.Proof
end
-- ==== Proof.FeedBlocks.lean ====
module

public import proofs.«01_k».proof.Proof.Run
public import proofs.«01_k».proof.Proof.Entry
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.KernelIdeal Cert.KernelIdeal.Gen
open Idealize.ShloMosaic Idealize.ShloMosaic.TcCoe Idealize.ShloMosaic.ValueIdx

/-! ## The blocks the kernel is fed -/

section Blocks
variable {F : FTy → Type} [FloatOps F]
variable (c : Dev nD) (m : (ℓ : Loc nD τ sig) → Buf (Elt F) ℓ)

theorem index_in0 : ∀ t : Fin grid0.N, cc0_transform_0 (grid0.coords t) 0 = t.val / 32 ∧ cc0_transform_0 (grid0.coords t) 1 = 0 ∧ cc0_transform_0 (grid0.coords t) 2 = t.val % 32 := by decide +kernel
theorem index_in1 : ∀ t : Fin grid0.N, cc0_transform_1 (grid0.coords t) 0 = t.val / 32 ∧ cc0_transform_1 (grid0.coords t) 1 = t.val % 32 ∧ cc0_transform_1 (grid0.coords t) 2 = 0 := by decide +kernel
theorem index_in2 : ∀ t : Fin grid0.N, cc0_transform_2 (grid0.coords t) 0 = t.val / 32 ∧ cc0_transform_2 (grid0.coords t) 1 = t.val % 32 ∧ cc0_transform_2 (grid0.coords t) 2 = 0 := by decide +kernel

theorem V_codes : V m c main_v0 = transpose S2x160x1048576 [0, 2, 1] (m ((c : Thread nD τ).loc main_arg0)) transposes_S2x1048576x160_S2x160x1048576_0_2_1 := by
  show StableHlo.after hostOps0 _ (Proc.devRef .tc main_v0) = _
  after_results
theorem V_scales : V m c main_v1 = shapeCast S2x8192x128 (m ((c : Thread nD τ).loc main_arg1)) shapeCasts_S2x1048576_S2x8192x128 := by
  show StableHlo.after hostOps0 _ (Proc.devRef .tc main_v1) = _
  after_results
  rfl
theorem V_signs : V m c main_v2 = shapeCast S2x8192x128 (m ((c : Thread nD τ).loc main_arg2)) shapeCasts_S2x1048576_S2x8192x128 := by
  show StableHlo.after hostOps0 _ (Proc.devRef .tc main_v2) = _
  after_results
  rfl

theorem codes_apply (b : Fin 2) (d : Fin 160) (n : Fin 1048576) : V m c main_v0 (ix3 b d n) = m ((c : Thread nD τ).loc main_arg0) (ix3 b n d) := by
  rw [V_codes]
  refine transpose_apply _ _ _ _ _ fun a => ?_
  fin_cases a <;> rfl
theorem scales_apply (b : Fin 2) (k : Fin 8192) (l : Fin 128) (n : Fin 1048576) (hn : n.val = k.val * 128 + l.val) : V m c main_v1 (ix3 b k l) = m ((c : Thread nD τ).loc main_arg1) (ix2 b n) := by
  rw [V_scales]
  refine shapeCast_apply _ _ _ _ ?_
  show (S2x1048576.rowMajor (ix2 b n)).val = (S2x8192x128.rowMajor (ix3 b k l)).val
  rw [Shape.rowMajor_val_two, Shape.rowMajor_val_three]
  show b.val * 1048576 + n.val = (b.val * 8192 + k.val) * 128 + l.val
  omega
theorem signs_apply (b : Fin 2) (k : Fin 8192) (l : Fin 128) (n : Fin 1048576) (hn : n.val = k.val * 128 + l.val) : V m c main_v2 (ix3 b k l) = m ((c : Thread nD τ).loc main_arg2) (ix2 b n) := by
  rw [V_signs]
  refine shapeCast_apply _ _ _ _ ?_
  show (S2x1048576.rowMajor (ix2 b n)).val = (S2x8192x128.rowMajor (ix3 b k l)).val
  rw [Shape.rowMajor_val_two, Shape.rowMajor_val_three]
  show b.val * 1048576 + n.val = (b.val * 8192 + k.val) * 128 + l.val
  omega

theorem iblk0_apply (t : Fin (cfgM m (hO m)).N) (b : Fin 2) (d : Fin 160) (n : Fin 1048576) (p : Fin 32768) (hb : b.val = t.val / 32) (hn : n.val = (t.val % 32) * 32768 + p.val) :
    (iblk m (hO m) c 0 t : S1x160x32768.Idx → BitVec 8) (ix3 0 d p) = m ((c : Thread nD τ).loc main_arg0) (ix3 b n d) := by
  refine Eq.trans ?_ (codes_apply c m b d n)
  have hi := index_in0 t
  unfold iblk
  show V m c main_v0 ((((cfgM m (hO m)).win 0).blk t).view.emb (ix3 0 d p)) = _
  refine congrArg (V m c main_v0) (funext fun a => Fin.ext ?_)
  refine (Pipeline.Window.rect_emb_val ((cfgM m (hO m)).win 0) t (ix3 0 d p) a).trans ?_
  fin_cases a
  · show cc0_transform_0 (grid0.coords t) 0 * 1 + 0 = b.val; omega
  · show cc0_transform_0 (grid0.coords t) 1 * 160 + d.val = d.val; omega
  · show cc0_transform_0 (grid0.coords t) 2 * 32768 + p.val = n.val; omega
theorem iblk1_apply (t : Fin (cfgM m (hO m)).N) (b : Fin 2) (n : Fin 1048576) (k : Fin 256) (l : Fin 128) (hb : b.val = t.val / 32) (hn : n.val = (t.val % 32) * 32768 + k.val * 128 + l.val) :
    (iblk m (hO m) c 1 t : S1x256x128.Idx → F .f32) (ix3 0 k l) = m ((c : Thread nD τ).loc main_arg1) (ix2 b n) := by
  refine Eq.trans ?_ (scales_apply c m b ⟨(t.val % 32) * 256 + k.val, by omega⟩ l n (by show n.val = ((t.val % 32) * 256 + k.val) * 128 + l.val; omega))
  have hi := index_in1 t
  unfold iblk
  show V m c main_v1 ((((cfgM m (hO m)).win 1).blk t).view.emb (ix3 0 k l)) = _
  refine congrArg (V m c main_v1) (funext fun a => Fin.ext ?_)
  refine (Pipeline.Window.rect_emb_val ((cfgM m (hO m)).win 1) t (ix3 0 k l) a).trans ?_
  fin_cases a
  · show cc0_transform_1 (grid0.coords t) 0 * 1 + 0 = b.val; omega
  · show cc0_transform_1 (grid0.coords t) 1 * 256 + k.val = (t.val % 32) * 256 + k.val; omega
  · show cc0_transform_1 (grid0.coords t) 2 * 128 + l.val = l.val; omega
theorem iblk2_apply (t : Fin (cfgM m (hO m)).N) (b : Fin 2) (n : Fin 1048576) (k : Fin 256) (l : Fin 128) (hb : b.val = t.val / 32) (hn : n.val = (t.val % 32) * 32768 + k.val * 128 + l.val) :
    (iblk m (hO m) c 2 t : S1x256x128.Idx → BitVec 8) (ix3 0 k l) = m ((c : Thread nD τ).loc main_arg2) (ix2 b n) := by
  refine Eq.trans ?_ (signs_apply c m b ⟨(t.val % 32) * 256 + k.val, by omega⟩ l n (by show n.val = ((t.val % 32) * 256 + k.val) * 128 + l.val; omega))
  have hi := index_in2 t
  unfold iblk
  show V m c main_v2 ((((cfgM m (hO m)).win 2).blk t).view.emb (ix3 0 k l)) = _
  refine congrArg (V m c main_v2) (funext fun a => Fin.ext ?_)
  refine (Pipeline.Window.rect_emb_val ((cfgM m (hO m)).win 2) t (ix3 0 k l) a).trans ?_
  fin_cases a
  · show cc0_transform_2 (grid0.coords t) 0 * 1 + 0 = b.val; omega
  · show cc0_transform_2 (grid0.coords t) 1 * 256 + k.val = (t.val % 32) * 256 + k.val; omega
  · show cc0_transform_2 (grid0.coords t) 2 * 128 + l.val = l.val; omega

end Blocks

end Cert.Proof
end
-- ==== Proof.Output.lean ====
module

public import proofs.«01_k».proof.Proof.Run
public import proofs.«01_k».proof.Proof.Entry
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.KernelIdeal Cert.KernelIdeal.Gen
open Idealize.ShloMosaic Idealize.ShloMosaic.TcCoe Idealize.ShloMosaic.ValueIdx

/-! ## The result array -/

section Out
variable {F : FTy → Type} [FloatOps F]
variable (c : Dev nD) (m : (ℓ : Loc nD τ sig) → Buf (Elt F) ℓ) (ρ : Dev nD → PrngReg)

/-- The two results, one for each batch. -/
def result : S2x1280x160.Idx → F .f32 := fun i =>
  if (i 0).val = 0 then result0 (feedOf c m) (ix3 0 (i 1) (i 2)) else result1 (feedOf c m) (ix3 0 (i 1) (i 2))

theorem index_out : ∀ t : Fin grid0.N, cc0_transform_3 (grid0.coords t) 0 = (t.val - 1) / 32 ∧ cc0_transform_3 (grid0.coords t) 1 = 0 ∧ cc0_transform_3 (grid0.coords t) 2 = 0 := by decide +kernel
theorem flush_out : ∀ t : Fin grid0.N, ((t.val + 1 = grid0.N || decide (∃ h : t.val + 1 < grid0.N, cc0_transform_3 (grid0.coords ⟨t.val + 1, h⟩) ≠ cc0_transform_3 (grid0.coords t))) = true) ↔ t.val = 32 ∨ t.val = 63 := by decide +kernel
theorem flush_iff (t : Fin (cfgM m (hO m)).N) : ((cfgM m (hO m)).win 3).flush t = true ↔ t.val = 32 ∨ t.val = 63 := by
  refine Iff.trans ?_ (flush_out t)
  show (true && _) = true ↔ _
  rw [Bool.true_and]
  exact Iff.rfl

theorem mem_out (t : Fin (cfgM m (hO m)).N) (i : S2x1280x160.Idx) (hi : (i 0).val = (t.val - 1) / 32) : i ∈ (((cfgM m (hO m)).win 3).blk t).view.set := by
  have ho := index_out t
  have e : (((cfgM m (hO m)).win 3).blk t).view.emb (ix3 (0 : Fin 1) (i 1 : Fin 1280) (i 2 : Fin 160)) = i := by
    refine funext fun a => Fin.ext ?_
    refine (Pipeline.Window.rect_emb_val ((cfgM m (hO m)).win 3) t (ix3 (0 : Fin 1) (i 1 : Fin 1280) (i 2 : Fin 160)) a).trans ?_
    fin_cases a
    · show cc0_transform_3 (grid0.coords t) 0 * 1 + 0 = (i 0).val; omega
    · show cc0_transform_3 (grid0.coords t) 1 * 1280 + (i 1).val = (i 1).val; rw [ho.2.1]; omega
    · show cc0_transform_3 (grid0.coords t) 2 * 160 + (i 2).val = (i 2).val; rw [ho.2.2]; omega
  exact Eq.subst (motive := fun i => i ∈ (((cfgM m (hO m)).win 3).blk t).view.set) e ((((cfgM m (hO m)).win 3).blk t).view.emb_mem_set _)

theorem result_at (t : Fin (cfgM m (hO m)).N) (ht : t.val = 32 ∨ t.val = 63) (X : S1x1280x160.Idx → F .f32) (hX : Out (feedOf c m) t.val X) (y : S1x1280x160.Idx) (i : S2x1280x160.Idx)
    (h0 : (i 0).val = (t.val - 1) / 32) (h1 : (i 1).val = (y 1).val) (h2 : (i 2).val = (y 2).val) : X y = result c m i := by
  have ey : y = ix3 0 (i 1) (i 2) := by
    refine funext fun a => Fin.ext ?_
    fin_cases a
    · show (y 0).val = 0
      have := (y 0).isLt
      exact Nat.lt_one_iff.mp this
    · exact h1.symm
    · exact h2.symm
  rw [ey]
  unfold result
  rcases ht with ht | ht
  · rw [if_pos (by omega), hX.1 ht]; rfl
  · rw [if_neg (by omega), hX.2 ht]; rfl

/-- Whatever the output's array may hold after the run is the two results. -/
theorem out_eq (G : S2x1280x160.Idx → F .f32) (hG : (rdat c m).ArrAt 3 (cfgM m (hO m)).N G) : G = result c m := by
  obtain ⟨X, hX, hA⟩ := hG.exists_exact
  refine (hA (Function.update (fun _ _ _ => Classical.arbitrary _) 3 X) fun u _ _ => by rw [Function.update_self]).trans ?_
  refine Pipeline.Dat.arrAt_eq_of_emb (Val := Elt F) (cfg := cfgM m (hO m)) (c := c) _ 3 (result c m) (fun t hf (y : S1x1280x160.Idx) => ?_) fun (i : S2x1280x160.Idx) => ?_
  · have ht := (flush_iff m t).mp hf
    obtain ⟨Y, _, hY⟩ := hX t t.isLt hf
    have ho := index_out t
    show Function.update (fun _ _ _ => Classical.arbitrary _) 3 X 3 t _ = _
    rw [Function.update_self]
    refine result_at c m t ht (X t) hY _ _ ?_ ?_ ?_
    · refine (Pipeline.Window.rect_emb_val ((cfgM m (hO m)).win 3) t y (0 : Fin 3)).trans ?_
      show cc0_transform_3 (grid0.coords t) 0 * 1 + (y 0).val = _
      have h0 : (y 0).val < 1 := (y 0).isLt
      omega
    · refine (Pipeline.Window.rect_emb_val ((cfgM m (hO m)).win 3) t y (1 : Fin 3)).trans ?_
      show cc0_transform_3 (grid0.coords t) 1 * 1280 + (y 1).val = (y 1).val
      rw [ho.2.1]; omega
    · refine (Pipeline.Window.rect_emb_val ((cfgM m (hO m)).win 3) t y (2 : Fin 3)).trans ?_
      show cc0_transform_3 (grid0.coords t) 2 * 160 + (y 2).val = (y 2).val
      rw [ho.2.2]; omega
  · have hi : (i 0).val < 2 := (i 0).isLt
    by_cases h0 : (i 0).val = 0
    · exact ⟨⟨32, lt_of_lt_of_eq (by decide) N_0.symm⟩, (flush_iff m _).mpr (.inl rfl), mem_out m _ i (by show (i 0).val = (32 - 1) / 32; omega)⟩
    · exact ⟨⟨63, lt_of_lt_of_eq (by decide) N_0.symm⟩, (flush_iff m _).mpr (.inr rfl), mem_out m _ i (by show (i 0).val = (63 - 1) / 32; omega)⟩

end Out

end Cert.Proof
end
-- ==== Proof.KernelValue.lean ====
module

public import proofs.«01_k».proof.Proof.IdealChunk
public import proofs.«01_k».proof.Proof.IdealAcc
public import proofs.«01_k».proof.Proof.IdealFinish
public import proofs.«01_k».proof.Proof.Total
public import proofs.«01_k».proof.Proof.FeedBlocks
public import proofs.«01_k».proof.Proof.Output
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.KernelIdeal Cert.KernelIdeal.Gen
open Idealize.ShloMosaic Idealize.ShloMosaic.TcCoe Idealize.ShloMosaic.ValueIdx

/-! ## The kernel's results as signed sums of the entries -/

/-- A transformed chunk of the first 128 columns, as sums of the entries `E`. -/
def chunkSum (E : ℕ → ℕ → ℕ → ℝ) (half t : ℕ) (j : Fin 8) (r : Fin 2048) (d : Fin 128) : ℝ :=
  ∑ q ∈ Finset.range 8, sg 3 (r.val / 256) q * ∑ v ∈ Finset.range 256, sg 8 (r.val % 256) v * E (t / 32) ((2 * (t % 32) + half) * 16384 + (j.val * 2048 + q * 256 + v)) d.val
/-- A transformed chunk of the last 32 columns. -/
def tailSum (E : ℕ → ℕ → ℕ → ℝ) (half t : ℕ) (j : Fin 8) (r : Fin 512) (d : Fin 128) : ℝ :=
  ∑ h ∈ Finset.range 2, sg 1 (r.val / 256) h * ∑ v ∈ Finset.range 256, sg 8 (r.val % 256) v * E (t / 32) ((2 * (t % 32) + half) * 16384 + (j.val * 2048 + (4 * h + d.val / 32) * 256 + v)) (128 + d.val % 32)

theorem part_main (T : BitVec 32 → Fin 1280 → BitVec 32) (E : ℕ → ℕ → ℕ → ℝ) (b : ℕ) (m : Fin 1280) (j : Fin 8) (d : Fin 128) :
    part rowM T (chunkSum E) b 64 m j d = ∑ h ∈ Finset.range 64, sg 6 ((T (BitVec.ofNat 32 b) m).toNat / 2 ^ 14) h * ∑ q ∈ Finset.range 8, sg 3 ((T (BitVec.ofNat 32 b) m).toNat % 2048 / 256) q
      * ∑ v ∈ Finset.range 256, sg 8 ((T (BitVec.ofNat 32 b) m).toNat % 2048 % 256) v * E b (h * 16384 + (j.val * 2048 + q * 256 + v)) d.val := by
  unfold part chunkSum
  refine Finset.sum_congr rfl fun h hh => ?_
  have hl := Finset.mem_range.mp hh
  rw [rowM_val, show (32 * b + h / 2) / 32 = b by omega, show 2 * ((32 * b + h / 2) % 32) + h % 2 = h by omega]
theorem part_tail (T : BitVec 32 → Fin 1280 → BitVec 32) (E : ℕ → ℕ → ℕ → ℝ) (b : ℕ) (m : Fin 1280) (j : Fin 8) (d : Fin 128) :
    part rowT T (tailSum E) b 64 m j d = ∑ h ∈ Finset.range 64, sg 6 ((T (BitVec.ofNat 32 b) m).toNat / 2 ^ 14) h * ∑ q ∈ Finset.range 2, sg 1 (((T (BitVec.ofNat 32 b) m).toNat % 256 + 256 * ((T (BitVec.ofNat 32 b) m).toNat / 1024 % 2)) / 256) q
      * ∑ v ∈ Finset.range 256, sg 8 (((T (BitVec.ofNat 32 b) m).toNat % 256 + 256 * ((T (BitVec.ofNat 32 b) m).toNat / 1024 % 2)) % 256) v * E b (h * 16384 + (j.val * 2048 + (4 * q + d.val / 32) * 256 + v)) (128 + d.val % 32) := by
  unfold part tailSum
  refine Finset.sum_congr rfl fun h hh => ?_
  have hl := Finset.mem_range.mp hh
  rw [rowT_val, show (32 * b + h / 2) / 32 = b by omega, show 2 * ((32 * b + h / 2) % 32) + h % 2 = h by omega]

section Finish
variable (cst : Ideal .f32) (T : BitVec 32 → Fin 1280 → BitVec 32) (O O' : S20480x128.Idx → Ideal .f32) (E : ℕ → ℕ → ℕ → ℝ) (b : ℕ) (m : Fin 1280) (d : Fin 160)

theorem finish_main (hd : d.val < 128) (hO : Diff O (part rowM T (chunkSum E) b 64)) :
    finY cst (T (BitVec.ofNat 32 b)) O O' (ix3 0 m d) = ((wh 20 (T (BitVec.ofNat 32 b) m).toNat (fun n => E b n d.val) : ℝ) : EReal) * (cst : EReal) := by
  rw [finY_main cst (T (BitVec.ofNat 32 b)) O O' _ hO m d hd]
  refine congrArg (fun r : ℝ => (r : EReal) * (cst : EReal)) ?_
  rw [← total_main, Finset.sum_range]
  refine Finset.sum_congr rfl fun j _ => ?_
  rw [part_main]
theorem finish_tail (hd : 128 ≤ d.val) (hO : Diff O' (part rowT T (tailSum E) b 64)) :
    finY cst (T (BitVec.ofNat 32 b)) O O' (ix3 0 m d) = ((wh 20 (T (BitVec.ofNat 32 b) m).toNat (fun n => E b n d.val) : ℝ) : EReal) * (cst : EReal) := by
  rw [finY_tail cst (T (BitVec.ofNat 32 b)) O O' _ hO m d hd]
  refine congrArg (fun r : ℝ => (r : EReal) * (cst : EReal)) ?_
  rw [← total_tail]
  refine Finset.sum_congr rfl fun k hk => ?_
  have hl := Finset.mem_range.mp hk
  rw [Finset.sum_range]
  refine Finset.sum_congr rfl fun j _ => ?_
  rw [part_tail]
  dsimp only
  rw [show (32 * k + (d.val - 128)) % 128 / 32 = k by omega, show 128 + (32 * k + (d.val - 128)) % 128 % 32 = d.val by omega]

end Finish

theorem scales_of (s : S1x256x128.Idx → Ideal .f32) (g : S1x256x128.Idx → BitVec 8) (k : Fin 256) (l : Fin 128) :
    scales (F := Ideal) s g (ix2 k l) = (s (ix3 0 k l) : EReal) * (((g (ix3 0 k l)).toInt : ℝ) : EReal) := by
  unfold scales k0_pay3133
  rw [shapeCast_self]
  show ((shapeCast S256x128 s shapeCasts_S1x256x128_S256x128 (ix2 k l) : EReal)) * (((shapeCast S256x128 g shapeCasts_S1x256x128_S256x128 (ix2 k l) : BitVec 8).toInt : ℝ) : EReal) = _
  rw [shapeCast_1ab_ab_apply, shapeCast_1ab_ab_apply]

section Results
variable (c : Dev nD) (m : (ℓ : Loc nD τ sig) → Buf (Elt Ideal) ℓ)

/-- The four arguments. -/
abbrev A0 : IVec S2x1048576x160 8 := m ((c : Thread nD τ).loc main_arg0)
abbrev A1 : FVec Ideal S2x1048576 .f32 := m ((c : Thread nD τ).loc main_arg1)
abbrev A2 : IVec S2x1048576 8 := m ((c : Thread nD τ).loc main_arg2)
abbrev A3 : IVec S2x1280 32 := m ((c : Thread nD τ).loc main_arg3)

theorem fed (h : Finite (A1 c m)) (half t : ℕ) (hh : half < 2) (ht : t < 64) :
    Scaled (scales ((feedOf c m).sc t) ((feedOf c m).sg t)) ((feedOf c m).x t) half (fun p d => entry (A0 c m) (A1 c m) (A2 c m) (t / 32) ((2 * (t % 32) + half) * 16384 + p) d) := by
  intro p d hp hd
  obtain ⟨t', rfl⟩ : ∃ t' : Fin (cfgM m (hO m)).N, t'.val = t := ⟨⟨t, lt_of_lt_of_eq ht N_0.symm⟩, rfl⟩
  have hb : t'.val / 32 < 2 := by omega
  have hn : (2 * (t'.val % 32) + half) * 16384 + p < 1048576 := by omega
  rw [scales_of, feed_x, feed_sc, feed_sg]
  rw [iblk0_apply c m t' ⟨t'.val / 32, hb⟩ ⟨d, hd⟩ ⟨(2 * (t'.val % 32) + half) * 16384 + p, hn⟩ _ rfl
      (by show (2 * (t'.val % 32) + half) * 16384 + p = (t'.val % 32) * 32768 + (half * 16384 + p) % 32768; omega),
    iblk1_apply c m t' ⟨t'.val / 32, hb⟩ ⟨(2 * (t'.val % 32) + half) * 16384 + p, hn⟩ _ _ rfl
      (by show (2 * (t'.val % 32) + half) * 16384 + p = (t'.val % 32) * 32768 + (half * 128 + p / 128) % 256 * 128 + p % 128; omega),
    iblk2_apply c m t' ⟨t'.val / 32, hb⟩ ⟨(2 * (t'.val % 32) + half) * 16384 + p, hn⟩ _ _ rfl
      (by show (2 * (t'.val % 32) + half) * 16384 + p = (t'.val % 32) * 32768 + (half * 128 + p / 128) % 256 * 128 + p % 128; omega)]
  exact entry_eq _ _ _ h ⟨t'.val / 32, hb⟩ ⟨(2 * (t'.val % 32) + half) * 16384 + p, hn⟩ ⟨d, hd⟩

theorem mainOf_value (h : Finite (A1 c m)) (half t : ℕ) (j : Fin 8) (r : Fin 2048) (d : Fin 128) (hh : half < 2) (ht : t < 64) :
    mainOf (feedOf c m) half t j r d = ((chunkSum (entry (A0 c m) (A1 c m) (A2 c m)) half t j r d : ℝ) : EReal) :=
  chunkM_apply (fed c m h half t hh ht) j r d
theorem tailOf_value (h : Finite (A1 c m)) (half t : ℕ) (j : Fin 8) (r : Fin 512) (d : Fin 128) (hh : half < 2) (ht : t < 64) :
    tailOf (feedOf c m) half t j r d = ((tailSum (entry (A0 c m) (A1 c m) (A2 c m)) half t j r d : ℝ) : EReal) :=
  chunkT_apply (fed c m h half t hh ht) j r d

theorem table (b : ℕ) (hb : b < 2) (j : Fin 1280) : (feedOf c m).T (BitVec.ofNat 32 b) j = A3 c m (ix2 ⟨b, hb⟩ j) := by
  have e' : (BitVec.ofNat 32 b).toNat = b := by rw [BitVec.toNat_ofNat]; omega
  have hb' : (BitVec.ofNat 32 b).toNat < 2 := by omega
  have e : (tbl m 0 : S2x1280.Idx → BitVec 32) = A3 c m := (V_pre m c 0).symm.trans (V_main_arg3 m c)
  rw [← feed_T c m (BitVec.ofNat 32 b) hb']
  show (tbl m 0 : S2x1280.Idx → BitVec 32) (ix2 ⟨(BitVec.ofNat 32 b).toNat, hb'⟩ j) = _
  rw [e]
  exact congrArg (fun i : Fin 2 => A3 c m (ix2 i j)) (Fin.ext e')

/-- Each result is the signed sum of its column's entries, times the constant. -/
theorem result_value (h : Finite (A1 c m)) (b : Fin 2) (j : Fin 1280) (d : Fin 160) :
    result c m (ix3 b j d) = ((wh 20 (A3 c m (ix2 b j)).toNat (fun n => entry (A0 c m) (A1 c m) (A2 c m) b.val n d.val) : ℝ) : EReal) * (Scalar.ofBits (F := Ideal) .f32 0x3CE4F92E#32 : EReal) := by
  have hM : ∀ half t j r d, half < 2 → t < 64 → mainOf (feedOf c m) half t j r d = ((chunkSum (entry (A0 c m) (A1 c m) (A2 c m)) half t j r d : ℝ) : EReal) := mainOf_value c m h
  have hT : ∀ half t j r d, half < 2 → t < 64 → tailOf (feedOf c m) half t j r d = ((tailSum (entry (A0 c m) (A1 c m) (A2 c m)) half t j r d : ℝ) : EReal) := tailOf_value c m h
  unfold result
  show (if b.val = 0 then result0 (feedOf c m) (ix3 0 j d) else result1 (feedOf c m) (ix3 0 j d)) = _
  by_cases hb : b.val = 0
  · obtain rfl : b = ⟨0, by decide⟩ := Fin.ext hb
    rw [if_pos rfl, ← table c m 0 (by decide)]
    unfold result0
    by_cases hd : d.val < 128
    · exact finish_main _ (feedOf c m).T _ _ _ 0 j d hd (end0_part rowM (feedOf c m).T (mainOf (feedOf c m)) _ hM)
    · exact finish_tail _ (feedOf c m).T _ _ _ 0 j d (by omega) (end0_part rowT (feedOf c m).T (tailOf (feedOf c m)) _ hT)
  · obtain rfl : b = ⟨1, by decide⟩ := Fin.ext (by show b.val = 1; omega)
    rw [if_neg hb, ← table c m 1 (by decide)]
    unfold result1
    by_cases hd : d.val < 128
    · exact finish_main _ (feedOf c m).T _ _ _ 1 j d hd (end1_part rowM (feedOf c m).T (mainOf (feedOf c m)) _ hM)
    · exact finish_tail _ (feedOf c m).T _ _ _ 1 j d (by omega) (end1_part rowT (feedOf c m).T (tailOf (feedOf c m)) _ hT)

end Results

end Cert.Proof
end
-- ==== Proof.KernelOutcome.lean ====
module

public import proofs.«01_k».proof.Proof.Output
public import proofs.«01_k».proof.Proof.Run
public import proofs.«01_k».proof.Proof.Entry
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 400000

noncomputable section

namespace Cert.Proof

open Cert.KernelIdeal Cert.KernelIdeal.Gen
open Idealize.ShloMosaic Idealize.ShloMosaic.TcCoe Idealize.ShloMosaic.ValueIdx

/-! ## The kernel's run, its result and arguments -/

variable {F : FTy → Type} [FloatOps F]
variable (m : (ℓ : Loc nD τ sig) → Buf (Elt F) ℓ) (ρ : Dev nD → PrngReg)

theorem kernel_run : θ_run defs (onTc (τ := τ) (main (F := F))) (s₀ m ρ) (fun r => ∀ c : Dev nD,
      r.2.mem ((c.tc : Thread nD τ).loc main_v3) = result c m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨out_eq c m (r.2.mem ((c.tc : Thread nD τ).loc main_v3)) ((h.1 c).1 3), ((h.1 c).2 main_arg0 (show main_arg0 ∈ Pipeline.restRefs sig spec0 by decide)).trans (V_main_arg0 m c), ((h.1 c).2 main_arg1 (show main_arg1 ∈ Pipeline.restRefs sig spec0 by decide)).trans (V_main_arg1 m c),
     ((h.1 c).2 main_arg2 (show main_arg2 ∈ Pipeline.restRefs sig spec0 by decide)).trans (V_main_arg2 m c), ((h.1 c).2 main_arg3 (show main_arg3 ∈ Pipeline.restRefs sig spec0 by decide)).trans (V_main_arg3 m c)⟩) (run_main m ρ)

end Cert.Proof
end
-- ==== Proof.RefOutcome.lean ====
module

public import proofs.«01_k».proof.Defs
public import proofs.«01_k».proof.Proof.Gen.ReferenceIdeal.Run
public import proofs.«01_k».proof.Proof.Gen.ReferenceIdeal.Read

@[expose] public section

set_option maxRecDepth 8192
set_option maxHeartbeats 400000

noncomputable section

namespace Cert.Proof

open Cert.ReferenceIdeal Cert.ReferenceIdeal.Gen
open Idealize.ShloMosaic Idealize.ShloMosaic.TcCoe Idealize.SL.Sem Idealize.ShloMosaic.ValueIdx

/-! ## The reference's run, its result read as a function of two arrays -/

variable (m : (ℓ : Loc nD τ sig) → Buf (Elt Ideal) ℓ)

/-- The reference's result, from the sample words and the dequantised array. -/
def outcome (c : Dev nD) : Buf (Elt Ideal) ((c.tc : Thread nD τ).loc main_v72) :=
  Read.val_main_v72 (F := Ideal) (m ((c.tc : Thread nD τ).loc main_arg3)) (Value.reg_main_v2 m c)

theorem outcome_eq (c : Dev nD) : Read.val_main_v72 (F := Ideal) (Value.exitV m c (Proc.devRef .tc main_arg3)) (Value.exitV m c (Proc.devRef .tc main_v2)) = outcome m c := by
  unfold outcome
  exact congrArg₂ (Read.val_main_v72 (F := Ideal)) (Value.exit_main_arg3 m c) (Value.exit_main_v2 m c)

theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v72) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨(h c).1.trans ((Read.val_main_v72_eq (F := Ideal) (Value.exitV m c)).trans (outcome_eq m c)), (h c).2⟩) (Value.run m g)

end Cert.Proof

end
-- ==== Proof.RefBlocks.lean ====
module

public import proofs.«01_k».proof.Proof.Entry
public import proofs.«01_k».proof.Proof.Gen.ReferenceIdeal.Read
public import proofs.«01_k».proof.Proof.Gen.ReferenceIdeal.Run
public import Idealize.ShloMosaic.Lib.Pipeline.ValueKit.Geometry
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.ReferenceIdeal Cert.ReferenceIdeal.Gen Cert.ReferenceIdeal.Read
open Idealize.ShloMosaic Idealize.ShloMosaic.TcCoe Idealize.ShloMosaic.ValueIdx

/-! ## Each window of the reference's dequantisation is its whole array -/

section Region
variable (c : Dev nD) (m : (ℓ : Loc nD τ sig) → Buf (Elt Ideal) ℓ)

theorem whole_0 (t : Fin cfg0.N) : (Gen.iblk m c 0 t : S2x1048576x160.Idx → BitVec 8) = Gen.V m c main_arg0 := by
  funext y
  unfold Gen.iblk
  show Gen.V m c main_arg0 (((cfg0.win 0).blk t).view.emb y) = _
  refine congrArg (Gen.V m c main_arg0) (funext fun a => Fin.ext ?_)
  refine (Pipeline.Window.rect_emb_val (cfg0.win 0) t y a).trans ?_
  have hi : ∀ (t : Fin cfg0.N) (a : Fin 3), (cfg0.win 0).index t a = 0 := by decide +kernel
  show (cfg0.win 0).index t a * _ + (y a).val = (y a).val
  rw [hi t a, Nat.zero_mul, Nat.zero_add]
theorem whole_1 (t : Fin cfg0.N) : (Gen.iblk m c 1 t : S2x1048576x1.Idx → Ideal .f32) = Gen.V m c main_v0 := by
  funext y
  unfold Gen.iblk
  show Gen.V m c main_v0 (((cfg0.win 1).blk t).view.emb y) = _
  refine congrArg (Gen.V m c main_v0) (funext fun a => Fin.ext ?_)
  refine (Pipeline.Window.rect_emb_val (cfg0.win 1) t y a).trans ?_
  have hi : ∀ (t : Fin cfg0.N) (a : Fin 3), (cfg0.win 1).index t a = 0 := by decide +kernel
  show (cfg0.win 1).index t a * _ + (y a).val = (y a).val
  rw [hi t a, Nat.zero_mul, Nat.zero_add]
theorem whole_2 (t : Fin cfg0.N) : (Gen.iblk m c 2 t : S2x1048576x1.Idx → BitVec 8) = Gen.V m c main_v1 := by
  funext y
  unfold Gen.iblk
  show Gen.V m c main_v1 (((cfg0.win 2).blk t).view.emb y) = _
  refine congrArg (Gen.V m c main_v1) (funext fun a => Fin.ext ?_)
  refine (Pipeline.Window.rect_emb_val (cfg0.win 2) t y a).trans ?_
  have hi : ∀ (t : Fin cfg0.N) (a : Fin 3), (cfg0.win 2).index t a = 0 := by decide +kernel
  show (cfg0.win 2).index t a * _ + (y a).val = (y a).val
  rw [hi t a, Nat.zero_mul, Nat.zero_add]

end Region

end Cert.Proof
end
-- ==== Proof.RefRegion.lean ====
module

public import proofs.«01_k».proof.Proof.RefBlocks
public import proofs.«01_k».proof.Proof.Entry
public import proofs.«01_k».proof.Proof.Gen.ReferenceIdeal.Read
public import proofs.«01_k».proof.Proof.Gen.ReferenceIdeal.Run
public import Idealize.ShloMosaic.Lib.Pipeline.ValueKit.Geometry
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.ReferenceIdeal Cert.ReferenceIdeal.Gen Cert.ReferenceIdeal.Read
open Idealize.ShloMosaic Idealize.ShloMosaic.TcCoe Idealize.ShloMosaic.ValueIdx

/-! ## The reference's dequantised array -/

section Region
variable (c : Dev nD) (m : (ℓ : Loc nD τ sig) → Buf (Elt Ideal) ℓ)

theorem V_scale : Gen.V m c main_v0 = broadcastInDim S2x1048576x1 ![0, 1] bcast_S2x1048576_S2x1048576x1_0_1 (m ((c : Thread nD τ).loc main_arg1)) := by
  show StableHlo.after hostOps0 _ (Proc.devRef .tc main_v0) = _
  after_results
theorem V_sign : Gen.V m c main_v1 = broadcastInDim S2x1048576x1 ![0, 1] bcast_S2x1048576_S2x1048576x1_0_1 (m ((c : Thread nD τ).loc main_arg2)) := by
  show StableHlo.after hostOps0 _ (Proc.devRef .tc main_v1) = _
  after_results

theorem column_apply {α : Type} (x : S2x1048576.Idx → α) (b : Fin 2) (n : Fin 1048576) :
    broadcastInDim S2x1048576x1 ![0, 1] bcast_S2x1048576_S2x1048576x1_0_1 x (ix3 b n 0) = x (ix2 b n) :=
  broadcastInDim_apply _ _ x _ _ fun a => by fin_cases a <;> rfl

theorem pay_apply (s : S2x1048576x1.Idx → Ideal .f32) (g : S2x1048576x1.Idx → BitVec 8) (x : S2x1048576x160.Idx → BitVec 8) (b : Fin 2) (n : Fin 1048576) (d : Fin 160) :
    (k0_pay1 (F := Ideal) s g x (ix3 b n d) : EReal) = (((x (ix3 b n d)).toInt : ℝ) : EReal) * ((s (ix3 b n 0) : EReal) * (((g (ix3 b n 0)).toInt : ℝ) : EReal)) := by
  unfold k0_pay1
  rw [shapeCast_self, shapeCast_self]
  refine congrArg (fun z : EReal => (((x (ix3 b n d)).toInt : ℝ) : EReal) * z) ?_
  exact broadcastTo_apply _ _ _ (ix3 b n 0) fun a => by fin_cases a <;> rfl

theorem out_apply (x : Vec Ideal S2x1048576x160 .i8) (s : Vec Ideal S2x1048576x1 .f32) (g : Vec Ideal S2x1048576x1 .i8) : Gen.out0_3 (F := Ideal) x s g = k0_pay1 (F := Ideal) s g x := by
  have h0 : (![0, 0, 0] : Fin 3 → ℕ) = 0 := by funext a; fin_cases a <;> rfl
  unfold Gen.out0_3
  rw [View.canon_unit_zero h0, View.ld_unit_zero h0, View.ld_unit_zero h0, View.ld_unit_zero h0]

theorem region_apply (h : Finite (m ((c : Thread nD τ).loc main_arg1))) (b : Fin 2) (n : Fin 1048576) (d : Fin 160) :
    ((Value.reg_main_v2 m c : S2x1048576x160.Idx → Ideal .bf16) (ix3 b n d) : EReal)
      = ((entry (m ((c : Thread nD τ).loc main_arg0)) (m ((c : Thread nD τ).loc main_arg1)) (m ((c : Thread nD τ).loc main_arg2)) b.val n.val d.val : ℝ) : EReal) := by
  have e : Value.reg_main_v2 m c = (k0_pay1 (F := Ideal) (Gen.V m c main_v0) (Gen.V m c main_v1) (Gen.V m c main_arg0) : S2x1048576x160.Idx → Ideal .bf16) := by
    unfold Value.reg_main_v2
    refine Pipeline.Dat.arrAt_eq_of_after_last (Val := Elt Ideal) (cfg := cfg0) (c := c) _ 3 ⟨0, by decide⟩ (by decide +kernel) _ (fun j => ?_)
    show (Gen.dats m 0 c).after 3 ⟨0, by decide⟩ _ = _
    rw [Gen.after0_3, out_apply, whole_0, whole_1, whole_2]
    rfl
  rw [e, pay_apply, V_scale, V_sign, column_apply, column_apply, Gen.V_main_arg0]
  exact entry_eq _ _ _ h b n d

end Region

end Cert.Proof
end
-- ==== Proof.RefGather.lean ====
module

public import proofs.«01_k».proof.Proof.Sign
public import proofs.«01_k».proof.Proof.Gen.ReferenceIdeal.Read
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.ReferenceIdeal Cert.ReferenceIdeal.Gen Cert.ReferenceIdeal.Read
open Idealize.ShloMosaic Idealize.ShloMosaic.TcCoe Idealize.ShloMosaic.ValueIdx

/-! ## The reference's gathers -/

theorem rows_axis0 (idx : IVec S2x1280x2 32) (b : Fin 2) (j : Fin 1280) (p : Fin 128) (d : Fin 160) (r : ℕ) (hr : r ≤ 1) (h : (idx (ix3 b j 0)).toInt = r) :
    gather_S2x8192x128x160_S2x1280x2_S2x1280x128x160_23_01_n_n_01_2_11128160.start (ix4 b j p d) idx 0 + gather_S2x8192x128x160_S2x1280x2_S2x1280x128x160_23_01_n_n_01_2_11128160.batchCoord (ix4 b j p d) 0 + gather_S2x8192x128x160_S2x1280x2_S2x1280x128x160_23_01_n_n_01_2_11128160.offCoord (ix4 b j p d) 0 = r := by
  rw [GatherDims.batchCoord_eq_zero _ _ _ List.not_mem_nil, GatherDims.offCoord_eq_zero _ _ _ (fun h => ((GatherDims.mem_sKept _ _).mp h).1 (show (0 : Fin S2x8192x128x160.rank) ∈ gather_S2x8192x128x160_S2x1280x2_S2x1280x128x160_23_01_n_n_01_2_11128160.collapsedSliceDims by decide))]
  unfold GatherDims.start
  rw [dif_pos (show (0 : Fin S2x8192x128x160.rank) ∈ gather_S2x8192x128x160_S2x1280x2_S2x1280x128x160_23_01_n_n_01_2_11128160.startIndexMap by decide)]
  have e : gather_S2x8192x128x160_S2x1280x2_S2x1280x128x160_23_01_n_n_01_2_11128160.siIdx (ix4 b j p d) ⟨List.idxOf (0 : Fin S2x8192x128x160.rank) gather_S2x8192x128x160_S2x1280x2_S2x1280x128x160_23_01_n_n_01_2_11128160.startIndexMap, List.idxOf_lt_length_iff.2 (by decide)⟩ = ix3 b j 0 := by
    funext k; refine Fin.ext ?_
    match k with
    | ⟨0, _⟩ => rfl
    | ⟨1, _⟩ => rfl
    | ⟨2, _⟩ => rfl
  rw [e, h]
  show min (r : ℤ).toNat 1 + 0 + 0 = r
  omega
theorem rows_axis1 (idx : IVec S2x1280x2 32) (b : Fin 2) (j : Fin 1280) (p : Fin 128) (d : Fin 160) (r : ℕ) (hr : r ≤ 8191) (h : (idx (ix3 b j 1)).toInt = r) :
    gather_S2x8192x128x160_S2x1280x2_S2x1280x128x160_23_01_n_n_01_2_11128160.start (ix4 b j p d) idx 1 + gather_S2x8192x128x160_S2x1280x2_S2x1280x128x160_23_01_n_n_01_2_11128160.batchCoord (ix4 b j p d) 1 + gather_S2x8192x128x160_S2x1280x2_S2x1280x128x160_23_01_n_n_01_2_11128160.offCoord (ix4 b j p d) 1 = r := by
  rw [GatherDims.batchCoord_eq_zero _ _ _ List.not_mem_nil, GatherDims.offCoord_eq_zero _ _ _ (fun h => ((GatherDims.mem_sKept _ _).mp h).1 (show (1 : Fin S2x8192x128x160.rank) ∈ gather_S2x8192x128x160_S2x1280x2_S2x1280x128x160_23_01_n_n_01_2_11128160.collapsedSliceDims by decide))]
  unfold GatherDims.start
  rw [dif_pos (show (1 : Fin S2x8192x128x160.rank) ∈ gather_S2x8192x128x160_S2x1280x2_S2x1280x128x160_23_01_n_n_01_2_11128160.startIndexMap by decide)]
  have e : gather_S2x8192x128x160_S2x1280x2_S2x1280x128x160_23_01_n_n_01_2_11128160.siIdx (ix4 b j p d) ⟨List.idxOf (1 : Fin S2x8192x128x160.rank) gather_S2x8192x128x160_S2x1280x2_S2x1280x128x160_23_01_n_n_01_2_11128160.startIndexMap, List.idxOf_lt_length_iff.2 (by decide)⟩ = ix3 b j 1 := by
    funext k; refine Fin.ext ?_
    match k with
    | ⟨0, _⟩ => rfl
    | ⟨1, _⟩ => rfl
    | ⟨2, _⟩ => rfl
  rw [e, h]
  show min (r : ℤ).toNat 8191 + 0 + 0 = r
  omega
theorem rows_axis2 (idx : IVec S2x1280x2 32) (b : Fin 2) (j : Fin 1280) (p : Fin 128) (d : Fin 160) :
    gather_S2x8192x128x160_S2x1280x2_S2x1280x128x160_23_01_n_n_01_2_11128160.start (ix4 b j p d) idx 2 + gather_S2x8192x128x160_S2x1280x2_S2x1280x128x160_23_01_n_n_01_2_11128160.batchCoord (ix4 b j p d) 2 + gather_S2x8192x128x160_S2x1280x2_S2x1280x128x160_23_01_n_n_01_2_11128160.offCoord (ix4 b j p d) 2 = p.val := by
  rw [GatherDims.batchCoord_eq_zero _ _ _ List.not_mem_nil]
  unfold GatherDims.start GatherDims.offCoord
  rw [dif_neg (show ¬ (2 : Fin S2x8192x128x160.rank) ∈ gather_S2x8192x128x160_S2x1280x2_S2x1280x128x160_23_01_n_n_01_2_11128160.startIndexMap by decide), dif_pos (show (2 : Fin S2x8192x128x160.rank) ∈ gather_S2x8192x128x160_S2x1280x2_S2x1280x128x160_23_01_n_n_01_2_11128160.sKept from (GatherDims.mem_sKept _ _).mpr ⟨by decide, List.not_mem_nil⟩)]
  show 0 + 0 + p.val = p.val
  omega
theorem rows_axis3 (idx : IVec S2x1280x2 32) (b : Fin 2) (j : Fin 1280) (p : Fin 128) (d : Fin 160) :
    gather_S2x8192x128x160_S2x1280x2_S2x1280x128x160_23_01_n_n_01_2_11128160.start (ix4 b j p d) idx 3 + gather_S2x8192x128x160_S2x1280x2_S2x1280x128x160_23_01_n_n_01_2_11128160.batchCoord (ix4 b j p d) 3 + gather_S2x8192x128x160_S2x1280x2_S2x1280x128x160_23_01_n_n_01_2_11128160.offCoord (ix4 b j p d) 3 = d.val := by
  rw [GatherDims.batchCoord_eq_zero _ _ _ List.not_mem_nil]
  unfold GatherDims.start GatherDims.offCoord
  rw [dif_neg (show ¬ (3 : Fin S2x8192x128x160.rank) ∈ gather_S2x8192x128x160_S2x1280x2_S2x1280x128x160_23_01_n_n_01_2_11128160.startIndexMap by decide), dif_pos (show (3 : Fin S2x8192x128x160.rank) ∈ gather_S2x8192x128x160_S2x1280x2_S2x1280x128x160_23_01_n_n_01_2_11128160.sKept from (GatherDims.mem_sKept _ _).mpr ⟨by decide, List.not_mem_nil⟩)]
  show 0 + 0 + d.val = d.val
  omega
theorem row_axis0 (idx : IVec S2x1280x1 32) (b : Fin 2) (j : Fin 1280) (p : Fin 128) (r : ℕ) (hr : r ≤ 127) (h : (idx (ix3 b j 0)).toInt = r) :
    gather_S128x128_S2x1280x1_S2x1280x128_2_0_n_n_0_2_1128.start (ix3 b j p) idx 0 + gather_S128x128_S2x1280x1_S2x1280x128_2_0_n_n_0_2_1128.batchCoord (ix3 b j p) 0 + gather_S128x128_S2x1280x1_S2x1280x128_2_0_n_n_0_2_1128.offCoord (ix3 b j p) 0 = r := by
  rw [GatherDims.batchCoord_eq_zero _ _ _ List.not_mem_nil, GatherDims.offCoord_eq_zero _ _ _ (fun h => ((GatherDims.mem_sKept _ _).mp h).1 (show (0 : Fin S128x128.rank) ∈ gather_S128x128_S2x1280x1_S2x1280x128_2_0_n_n_0_2_1128.collapsedSliceDims by decide))]
  unfold GatherDims.start
  rw [dif_pos (show (0 : Fin S128x128.rank) ∈ gather_S128x128_S2x1280x1_S2x1280x128_2_0_n_n_0_2_1128.startIndexMap by decide)]
  have e : gather_S128x128_S2x1280x1_S2x1280x128_2_0_n_n_0_2_1128.siIdx (ix3 b j p) ⟨List.idxOf (0 : Fin S128x128.rank) gather_S128x128_S2x1280x1_S2x1280x128_2_0_n_n_0_2_1128.startIndexMap, List.idxOf_lt_length_iff.2 (by decide)⟩ = ix3 b j 0 := by
    funext k; refine Fin.ext ?_
    match k with
    | ⟨0, _⟩ => rfl
    | ⟨1, _⟩ => rfl
    | ⟨2, _⟩ => rfl
  rw [e, h]
  show min (r : ℤ).toNat 127 + 0 + 0 = r
  omega
theorem row_axis1 (idx : IVec S2x1280x1 32) (b : Fin 2) (j : Fin 1280) (p : Fin 128) :
    gather_S128x128_S2x1280x1_S2x1280x128_2_0_n_n_0_2_1128.start (ix3 b j p) idx 1 + gather_S128x128_S2x1280x1_S2x1280x128_2_0_n_n_0_2_1128.batchCoord (ix3 b j p) 1 + gather_S128x128_S2x1280x1_S2x1280x128_2_0_n_n_0_2_1128.offCoord (ix3 b j p) 1 = p.val := by
  rw [GatherDims.batchCoord_eq_zero _ _ _ List.not_mem_nil]
  unfold GatherDims.start GatherDims.offCoord
  rw [dif_neg (show ¬ (1 : Fin S128x128.rank) ∈ gather_S128x128_S2x1280x1_S2x1280x128_2_0_n_n_0_2_1128.startIndexMap by decide), dif_pos (show (1 : Fin S128x128.rank) ∈ gather_S128x128_S2x1280x1_S2x1280x128_2_0_n_n_0_2_1128.sKept from (GatherDims.mem_sKept _ _).mpr ⟨by decide, List.not_mem_nil⟩)]
  show 0 + 0 + p.val = p.val
  omega

/-- The rows `idx`'s pairs of words name. -/
theorem pick_rows {α : Type} (x : S2x8192x128x160.Idx → α) (idx : IVec S2x1280x2 32) (b : Fin 2) (j : Fin 1280) (p : Fin 128) (d : Fin 160) (r : Fin 8192)
    (hb : (idx (ix3 b j 0)).toInt = (b.val : ℕ)) (hr : (idx (ix3 b j 1)).toInt = (r.val : ℕ)) :
    Host.gather gather_S2x8192x128x160_S2x1280x2_S2x1280x128x160_23_01_n_n_01_2_11128160 x idx (ix4 b j p d) = x (ix4 b r p d) := by
  unfold Host.gather
  refine congrArg x (funext fun a => Fin.ext ?_)
  match a with
  | ⟨0, _⟩ => exact rows_axis0 idx b j p d b.val (by omega) hb
  | ⟨1, _⟩ => exact rows_axis1 idx b j p d r.val (by omega) hr
  | ⟨2, _⟩ => exact rows_axis2 idx b j p d
  | ⟨3, _⟩ => exact rows_axis3 idx b j p d
/-- The rows of a square matrix `idx`'s words name. -/
theorem pick_row {α : Type} (x : S128x128.Idx → α) (idx : IVec S2x1280x1 32) (b : Fin 2) (j : Fin 1280) (p r : Fin 128) (hr : (idx (ix3 b j 0)).toInt = (r.val : ℕ)) :
    Host.gather gather_S128x128_S2x1280x1_S2x1280x128_2_0_n_n_0_2_1128 x idx (ix3 b j p) = x (ix2 r p) := by
  unfold Host.gather
  refine congrArg x (funext fun a => Fin.ext ?_)
  match a with
  | ⟨0, _⟩ => exact row_axis0 idx b j p r.val (by omega) hr
  | ⟨1, _⟩ => exact row_axis1 idx b j p

end Cert.Proof
end
-- ==== Proof.RefSigns.lean ====
module

public import proofs.«01_k».proof.Proof.Sign
public import proofs.«01_k».proof.Proof.Gen.ReferenceIdeal.Read
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.ReferenceIdeal Cert.ReferenceIdeal.Gen Cert.ReferenceIdeal.Read
open Idealize.ShloMosaic Idealize.ShloMosaic.TcCoe Idealize.ShloMosaic.ValueIdx

/-! ## The reference's sign matrices and its sample words -/

theorem w64_apply (i k : Fin 64) : val_main_v14 (F := Ideal) (ix2 i k) = ((sg 6 i.val k.val : ℝ) : EReal) := by
  simp only [val_main_v14_apply, val_main_v13_apply, val_main_v12_apply, val_main_v11_apply, val_main_v10_apply, val_main_v9_apply, val_main_v8_apply, val_main_v7_apply, val_main_v6_apply, val_main_v5_apply, val_main_v4_apply, val_main_c_apply, val_main_c_0_apply, val_main_c_1_apply]
  show (((1#32 - 2#32 * (IntOp.ctpop (BitVec.ofNat 32 i.val &&& BitVec.ofNat 32 k.val) &&& 1#32)).toInt : ℝ) : EReal) = _
  rw [ctpop_sign, BitVec.toNat_ofNat, BitVec.toNat_ofNat, Nat.mod_eq_of_lt (show i.val < 2 ^ 32 by omega), Nat.mod_eq_of_lt (show k.val < 2 ^ 32 by omega),
    sgZ32 6 i.val k.val (by decide) (by omega)]
  rfl
theorem w128_apply (i k : Fin 128) : val_main_v27 (F := Ideal) (ix2 i k) = ((sg 7 i.val k.val : ℝ) : EReal) := by
  simp only [val_main_v27_apply, val_main_v26_apply, val_main_v25_apply, val_main_v24_apply, val_main_v23_apply, val_main_v22_apply, val_main_v21_apply, val_main_v20_apply, val_main_v19_apply, val_main_v18_apply, val_main_v17_apply, val_main_c_2_apply, val_main_c_3_apply, val_main_c_4_apply]
  show (((1#32 - 2#32 * (IntOp.ctpop (BitVec.ofNat 32 i.val &&& BitVec.ofNat 32 k.val) &&& 1#32)).toInt : ℝ) : EReal) = _
  rw [ctpop_sign, BitVec.toNat_ofNat, BitVec.toNat_ofNat, Nat.mod_eq_of_lt (show i.val < 2 ^ 32 by omega), Nat.mod_eq_of_lt (show k.val < 2 ^ 32 by omega),
    sgZ32 7 i.val k.val (by decide) (by omega)]
  rfl
theorem w128'_apply (i k : Fin 128) : val_main_v62 (F := Ideal) (ix2 i k) = ((sg 7 i.val k.val : ℝ) : EReal) := by
  simp only [val_main_v62_apply, val_main_v61_apply, val_main_v60_apply, val_main_v59_apply, val_main_v58_apply, val_main_v57_apply, val_main_v56_apply, val_main_v55_apply, val_main_v54_apply, val_main_v53_apply, val_main_v52_apply, val_main_c_11_apply, val_main_c_12_apply, val_main_c_13_apply]
  show (((1#32 - 2#32 * (IntOp.ctpop (BitVec.ofNat 32 i.val &&& BitVec.ofNat 32 k.val) &&& 1#32)).toInt : ℝ) : EReal) = _
  rw [ctpop_sign, BitVec.toNat_ofNat, BitVec.toNat_ofNat, Nat.mod_eq_of_lt (show i.val < 2 ^ 32 by omega), Nat.mod_eq_of_lt (show k.val < 2 ^ 32 by omega),
    sgZ32 7 i.val k.val (by decide) (by omega)]
  rfl

theorem slt_iff (x : BitVec 32) : IntOp.cmpi .slt x 0#32 = if x.toInt < 0 then 1#1 else 0#1 := by
  unfold IntOp.cmpi
  by_cases h : x.toInt < 0
  · rw [if_pos h]
    have : BitVec.slt x 0#32 = true := by rw [BitVec.slt_iff_toInt_lt]; exact h
    simp only [this]; rfl
  · rw [if_neg h]
    have : BitVec.slt x 0#32 = false := by rw [← Bool.not_eq_true, BitVec.slt_iff_toInt_lt]; exact h
    simp only [this]; rfl

/-- The row of 128 a word in range names, a negative one from the end. -/
theorem row_word (w : BitVec 32) (h0 : -1048576 ≤ w.toInt) (h1 : w.toInt < 1048576) :
    (Scalar.select (IntOp.cmpi .slt (w.sshiftRight 7) 0#32) (w.sshiftRight 7 + 8192#32) (w.sshiftRight 7)).toInt = (w.toNat / 128 % 8192 : ℕ) := by
  have hs : (w.sshiftRight 7).toInt = w.toInt / 128 := by
    rw [BitVec.toInt_sshiftRight, Int.shiftRight_eq_div_pow]; rfl
  have hc : w.toInt = w.toNat ∨ w.toInt = w.toNat - 4294967296 := by
    rw [BitVec.toInt_eq_toNat_cond]; split
    · exact .inl rfl
    · exact .inr rfl
  have hl := w.isLt
  rw [slt_iff, hs]
  by_cases h : w.toInt / 128 < 0
  · rw [if_pos h]
    show (w.sshiftRight 7 + 8192#32).toInt = _
    rw [BitVec.toInt_add, hs, show (8192#32).toInt = 8192 by decide, Int.bmod_eq_of_le (by omega) (by omega)]
    omega
  · rw [if_neg h]
    show (w.sshiftRight 7).toInt = _
    rw [hs]; omega
/-- The place within a row. -/
theorem lane_word (w : BitVec 32) :
    (Scalar.select (IntOp.cmpi .slt (w &&& 127#32) 0#32) ((w &&& 127#32) + 128#32) (w &&& 127#32)).toInt = (w.toNat % 128 : ℕ) := by
  have hn : (w &&& 127#32).toNat = w.toNat % 128 := by
    rw [BitVec.toNat_and]; exact Nat.and_two_pow_sub_one_eq_mod w.toNat 7
  have hi : (w &&& 127#32).toInt = (w.toNat % 128 : ℕ) := by
    rw [BitVec.toInt_eq_toNat_cond, if_pos (by omega), hn]
  rw [slt_iff, if_neg (by omega)]
  exact hi

section Words
variable (x3 : IVec S2x1280 32) (hx : ∀ i, -1048576 ≤ (x3 i).toInt ∧ (x3 i).toInt < 1048576) (b : Fin 2) (j : Fin 1280)

theorem lane_apply : (val_main_v68 (F := Ideal) x3 (ix3 b j 0)).toInt = ((x3 (ix2 b j)).toNat % 128 : ℕ) := by
  have e : idx_main_v68 (ix3 b j 0) = ix2 b j := by funext a; fin_cases a <;> rfl
  rw [val_main_v68_apply, e]
  simp only [val_main_v67_apply, val_main_v66_apply, val_main_v65_apply, val_main_v64_apply, val_main_v63_apply, val_main_v34_apply, val_main_v33_apply, val_main_c_6_apply, val_main_c_14_apply, val_main_c_15_apply]
  exact lane_word (x3 (ix2 b j))
include hx in
theorem row_apply : (val_main_v50 (F := Ideal) x3 (ix3 b j 1)).toInt = ((x3 (ix2 b j)).toNat / 128 % 8192 : ℕ) := by
  have e : idx_main_v49 (ix3 b j 0) = ix2 b j := by funext a; fin_cases a <;> rfl
  have e1 : val_main_v50 (F := Ideal) x3 (ix3 b j 1) = val_main_v49 (F := Ideal) x3 (ix3 b j 0) := by
    unfold val_main_v50
    refine concatenate_apply_piece (t := S2x1280x2) 2 _ _ (ix3 b j 1) 1 (by simp) S2x1280x1 _ rfl rfl 1 rfl (ix3 b j 0) ?_ ?_
    · intro a ha; fin_cases a
      · rfl
      · rfl
      · exact absurd rfl ha
    · rfl
  rw [e1, val_main_v49_apply, e]
  simp only [val_main_v46_apply, val_main_v45_apply, val_main_v44_apply, val_main_v43_apply, val_main_v42_apply, val_main_v32_apply, val_main_v31_apply, val_main_c_5_apply, val_main_c_9_apply, val_main_c_10_apply]
  exact row_word (x3 (ix2 b j)) (hx _).1 (hx _).2
theorem batch_apply : (val_main_v50 (F := Ideal) x3 (ix3 b j 0)).toInt = (b.val : ℕ) := by
  have e1 : val_main_v50 (F := Ideal) x3 (ix3 b j 0) = val_main_v48 (F := Ideal) (ix3 b j 0) := by
    unfold val_main_v50
    refine concatenate_apply_piece (t := S2x1280x2) 2 _ _ (ix3 b j 0) 0 (by simp) S2x1280x1 _ rfl rfl 0 rfl (ix3 b j 0) ?_ ?_
    · intro a ha; fin_cases a
      · rfl
      · rfl
      · exact absurd rfl ha
    · rfl
  rw [e1]
  simp only [val_main_v48_apply, val_main_v47_apply, val_main_v41_apply, val_main_v40_apply, val_main_v39_apply, val_main_v38_apply, val_main_v37_apply, val_main_v36_apply, val_main_v35_apply, val_main_c_7_apply, val_main_c_8_apply]
  show (Scalar.select (IntOp.cmpi .slt (BitVec.ofNat 32 b.val) 0#32) (BitVec.ofNat 32 b.val + 2#32) (BitVec.ofNat 32 b.val)).toInt = (b.val : ℕ)
  clear e1
  revert b
  decide

end Words

end Cert.Proof
end
-- ==== Proof.RefValue.lean ====
module

public import proofs.«01_k».proof.Proof.RefGather
public import proofs.«01_k».proof.Proof.RefSigns
public import proofs.«01_k».proof.Proof.Total
public import proofs.«01_k».proof.Proof.Gen.ReferenceIdeal.Read
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.ReferenceIdeal Cert.ReferenceIdeal.Gen Cert.ReferenceIdeal.Read
open Idealize.ShloMosaic Idealize.ShloMosaic.TcCoe Idealize.ShloMosaic.ValueIdx

/-! ## The reference's value -/

section Value
variable (x3 : IVec S2x1280 32) (r0 : (⟨S2x1048576x160, .bf16⟩ : BufTy).Contents (Elt Ideal)) (f : ℕ → ℕ → ℕ → ℝ)
variable (hr : ∀ (b : Fin 2) (n : Fin 1048576) (d : Fin 160), (r0 (ix3 b n d) : EReal) = ((f b.val n.val d.val : ℝ) : EReal))
variable (hx : ∀ i, -1048576 ≤ (x3 i).toInt ∧ (x3 i).toInt < 1048576)

include hr in
/-- The transform over the highest six bits of the position. -/
theorem high_apply (i : Fin 64) (b : Fin 2) (q p : Fin 128) (d : Fin 160) :
    (val_main_v15 (F := Ideal) r0 (ix5 i b q p d) : EReal) = ((∑ k ∈ Finset.range 64, sg 6 i.val k * f b.val (k * 16384 + q.val * 128 + p.val) d.val : ℝ) : EReal) := by
  rw [val_main_v15_apply, Finset.sum_range, ← coe_sum]
  refine Finset.sum_congr rfl fun k _ => ?_
  have el : lidx_main_v15 (ix5 i b q p d) k = ix2 i k := by funext a; fin_cases a <;> rfl
  have er : idx_main_v3 (ridx_main_v15 (ix5 i b q p d) k) = ix3 b ⟨k.val * 16384 + q.val * 128 + p.val, by omega⟩ d := by
    funext a; refine Fin.ext ?_; fin_cases a
    · show ((((b.val * 64 + k.val) * 128 + q.val) * 128 + p.val) * 160 + d.val) / 167772160 = b.val; omega
    · show ((((b.val * 64 + k.val) * 128 + q.val) * 128 + p.val) * 160 + d.val) / 160 % 1048576 = k.val * 16384 + q.val * 128 + p.val; omega
    · show ((((b.val * 64 + k.val) * 128 + q.val) * 128 + p.val) * 160 + d.val) % 160 = d.val; omega
  rw [el, w64_apply, val_main_v3_apply, er, EReal.coe_mul]
  exact congrArg (fun z : EReal => ((sg 6 i.val k.val : ℝ) : EReal) * z) (hr b _ d)

include hr in
/-- The transform over the next seven bits as well. -/
theorem mid_apply (q' : Fin 128) (b : Fin 2) (i : Fin 64) (p : Fin 128) (d : Fin 160) :
    (val_main_v28 (F := Ideal) r0 (ix5 q' b i p d) : EReal)
      = ((∑ q ∈ Finset.range 128, sg 7 q'.val q * ∑ k ∈ Finset.range 64, sg 6 i.val k * f b.val (k * 16384 + q * 128 + p.val) d.val : ℝ) : EReal) := by
  rw [val_main_v28_apply, Finset.sum_range, ← coe_sum]
  refine Finset.sum_congr rfl fun q _ => ?_
  have el : lidx_main_v28 (ix5 q' b i p d) q = ix2 q' q := by funext a; fin_cases a <;> rfl
  have er : idx_main_v16 (ridx_main_v28 (ix5 q' b i p d) q) = ix5 i b q p d := by funext a; fin_cases a <;> rfl
  rw [el, w128_apply, val_main_v16_apply, er, EReal.coe_mul]
  exact congrArg (fun z : EReal => ((sg 7 q'.val q.val : ℝ) : EReal) * z) (high_apply r0 f hr i b q p d)

theorem rows_idx (b : Fin 2) (p : Fin 128) (d : Fin 160) (r : ℕ) (hl : r < 8192) :
    idx_main_v29 (idx_main_v30 (ix4 b ⟨r, hl⟩ p d)) = ix5 (⟨r % 128, Nat.mod_lt _ (by decide)⟩ : Fin 128) b (⟨r / 128, by omega⟩ : Fin 64) p d := by
  funext a; refine Fin.ext ?_; fin_cases a
  · show (((b.val * 8192 + r) * 128 + p.val) * 160 + d.val) / 20480 % 128 = r % 128; omega
  · show (((b.val * 8192 + r) * 128 + p.val) * 160 + d.val) / 167772160 = b.val; omega
  · show (((b.val * 8192 + r) * 128 + p.val) * 160 + d.val) / 2621440 % 64 = r / 128; omega
  · show (((b.val * 8192 + r) * 128 + p.val) * 160 + d.val) / 160 % 128 = p.val; omega
  · show (((b.val * 8192 + r) * 128 + p.val) * 160 + d.val) % 160 = d.val; omega

include hr hx in
/-- The sampled rows. -/
theorem rows_apply (b : Fin 2) (j : Fin 1280) (p : Fin 128) (d : Fin 160) :
    (val_main_v51 (F := Ideal) x3 r0 (ix4 b j p d) : EReal)
      = ((∑ q ∈ Finset.range 128, sg 7 ((x3 (ix2 b j)).toNat / 2 ^ 7) q * ∑ k ∈ Finset.range 64, sg 6 ((x3 (ix2 b j)).toNat / 2 ^ 14) k * f b.val (k * 16384 + q * 128 + p.val) d.val : ℝ) : EReal) := by
  have hl : (x3 (ix2 b j)).toNat / 128 % 8192 < 8192 := Nat.mod_lt _ (by decide)
  have e := pick_rows (val_main_v30 (F := Ideal) r0) (val_main_v50 (F := Ideal) x3) b j p d ⟨(x3 (ix2 b j)).toNat / 128 % 8192, hl⟩ (batch_apply x3 b j) (row_apply x3 hx b j)
  have ei := rows_idx b p d _ hl
  refine e.trans ?_
  rw [val_main_v30_apply, val_main_v29_apply, ei]
  refine (mid_apply r0 f hr _ b _ p d).trans ?_
  refine congrArg (fun z : ℝ => (z : EReal)) (Finset.sum_congr rfl fun q _ => congrArg₂ (fun a b : ℝ => a * b) ?_ (Finset.sum_congr rfl fun k _ => congrArg₂ (fun a b : ℝ => a * b) ?_ rfl))
  · exact sg_congr 7 (by show (x3 (ix2 b j)).toNat / 128 % 8192 % 128 % 2 ^ 7 = (x3 (ix2 b j)).toNat / 2 ^ 7 % 2 ^ 7; omega) rfl
  · exact sg_congr 6 (by show (x3 (ix2 b j)).toNat / 128 % 8192 / 128 % 2 ^ 6 = (x3 (ix2 b j)).toNat / 2 ^ 14 % 2 ^ 6; omega) rfl

theorem lanes_apply (b : Fin 2) (j : Fin 1280) (p : Fin 128) :
    (val_main_v69 (F := Ideal) x3 (ix3 b j p) : EReal) = ((sg 7 (x3 (ix2 b j)).toNat p.val : ℝ) : EReal) := by
  have hl : (x3 (ix2 b j)).toNat % 128 < 128 := Nat.mod_lt _ (by decide)
  have e := pick_row (val_main_v62 (F := Ideal)) (val_main_v68 (F := Ideal) x3) b j p ⟨(x3 (ix2 b j)).toNat % 128, hl⟩ (lane_apply x3 b j)
  refine e.trans ((w128'_apply _ _).trans (congrArg (fun z : ℝ => (z : EReal)) (sg_congr 7 ?_ rfl)))
  show (x3 (ix2 b j)).toNat % 128 % 2 ^ 7 = (x3 (ix2 b j)).toNat % 2 ^ 7
  omega

include hr hx in
/-- Each result is the signed sum of its column's entries, times the constant. -/
theorem reference_value (b : Fin 2) (j : Fin 1280) (d : Fin 160) :
    (val_main_v72 (F := Ideal) x3 r0 (ix3 b j d) : EReal) = ((wh 20 (x3 (ix2 b j)).toNat (fun n => f b.val n d.val) : ℝ) : EReal) * (Scalar.ofBits (F := Ideal) .f32 0x3CE4F92E#32 : EReal) := by
  rw [val_main_v72_apply, ← total_reference, Finset.sum_range, ← coe_sum]
  refine congrArg₂ (fun a b : EReal => a * b) ?_ ?_
  · rw [val_main_v70_apply]
    refine Finset.sum_congr rfl fun p _ => ?_
    have el : lidx_main_v70 (ix3 b j d) p = ix3 b j p := by funext a; fin_cases a <;> rfl
    have er : ridx_main_v70 (ix3 b j d) p = ix4 b j p d := by funext a; fin_cases a <;> rfl
    rw [el, er, EReal.coe_mul]
    exact congrArg₂ (fun a b : EReal => a * b) (lanes_apply x3 b j p) (rows_apply x3 r0 f hr hx b j p d)
  · rw [val_main_v71_apply]
    rfl

end Value

end Cert.Proof
end
-- ==== Proof.Usable.lean ====
module

public import proofs.«01_k».proof.Proof.Entry
public import proofs.«01_k».proof.Proof.Gen.Pre_usable
public import Idealize.ShloMosaic.Lib.ValueIdx
public import Idealize.ShloMosaic.Lib.ValueLayout
public import Idealize.ShloMosaic.Lib.MatmulPlain
public import Idealize.ShloMosaic.Lib.KernelVsHost

@[expose] public section

set_option maxRecDepth 8192
set_option maxHeartbeats 2000000

noncomputable section

namespace Cert.Proof

open Cert.KernelIdeal Cert.KernelIdeal.Gen
open Idealize.ShloMosaic Idealize.ShloMosaic.TcCoe Idealize.ShloMosaic.ValueIdx

/-! ## What the precondition says -/

section Usable
variable (a0 : IVec S2x1048576x160 8) (a1 : FVec Ideal S2x1048576 .f32) (a2 : IVec S2x1048576 8) (a3 : IVec S2x1280 32)

/-- The scales are finite. -/
theorem usable_scales (h : (Cert.Pre_usable.fn (F := Ideal) a0 a1 a2 a3).1 = fun _ => 1#1) : Finite a1 := fun i => by
  have hi : BitVec.ofBool (decide (max (a1 i : EReal) (-(a1 i : EReal)) < Ideal.ofBits .f32 0x7F800000#32)) = 1#1 := congrFun h i
  have hd : decide (max (a1 i : EReal) (-(a1 i : EReal)) < Ideal.ofBits .f32 0x7F800000#32) = true := by
    revert hi; cases decide (max (a1 i : EReal) (-(a1 i : EReal)) < Ideal.ofBits .f32 0x7F800000#32) <;> decide
  have hlt := of_decide_eq_true hd
  replace hlt := max_lt_iff.mp (lt_of_lt_of_le hlt le_top)
  refine ⟨hlt.1.ne, fun e => ?_⟩
  rw [e, EReal.neg_bot] at hlt
  exact lt_irrefl _ hlt.2

/-- The sample words are in range. -/
theorem usable_words (h : (Cert.Pre_usable.fn (F := Ideal) a0 a1 a2 a3).2 = fun _ => 1#1) (i : S2x1280.Idx) : -1048576 ≤ (a3 i).toInt ∧ (a3 i).toInt < 1048576 := by
  have hi : BitVec.ofBool ((4293918720#32).sle (a3 i)) &&& BitVec.ofBool ((a3 i).slt 1048576#32) = 1#1 := congrFun h i
  have hd : (4293918720#32).sle (a3 i) = true ∧ (a3 i).slt 1048576#32 = true := by
    revert hi; cases (4293918720#32).sle (a3 i) <;> cases (a3 i).slt 1048576#32 <;> decide
  rw [BitVec.sle_iff_toInt_le, BitVec.slt_iff_toInt_lt] at hd
  rw [show (4293918720#32).toInt = -1048576 by decide, show (1048576#32).toInt = 1048576 by decide] at hd
  exact hd

end Usable

end Cert.Proof
end
-- ==== Proof.Agree.lean ====
module

public import proofs.«01_k».proof.Defs
public import proofs.«01_k».proof.Proof.KernelValue
public import proofs.«01_k».proof.Proof.KernelOutcome
public import proofs.«01_k».proof.Proof.RefOutcome
public import proofs.«01_k».proof.Proof.RefRegion
public import proofs.«01_k».proof.Proof.RefValue
public import proofs.«01_k».proof.Proof.Usable

@[expose] public section

set_option maxRecDepth 8192
set_option maxHeartbeats 400000

noncomputable section

namespace Cert.Proof

open Idealize.ShloMosaic Idealize.ShloMosaic.TcCoe Idealize.SL.Sem Idealize.ShloMosaic.ValueIdx

/-! ## The kernel and the reference agree -/

/-- The two programs' results are one array. -/
theorem values_eq (c : Dev Cert.KernelIdeal.nD) (m : (ℓ : Loc Cert.KernelIdeal.nD Cert.KernelIdeal.τ Cert.KernelIdeal.sig) → Buf (Elt Ideal) ℓ)
    (h : Finite (A1 c m)) (hx : ∀ i, -1048576 ≤ ((A3 c m) i).toInt ∧ ((A3 c m) i).toInt < 1048576)
    (r0 : (⟨Cert.ReferenceIdeal.S2x1048576x160, .bf16⟩ : BufTy).Contents (Elt Ideal))
    (hr : ∀ (b : Fin 2) (n : Fin 1048576) (d : Fin 160), (r0 (ix3 b n d) : EReal) = ((entry (A0 c m) (A1 c m) (A2 c m) b.val n.val d.val : ℝ) : EReal)) :
    Cert.ReferenceIdeal.Read.val_main_v72 (F := Ideal) (A3 c m) r0 = result c m := by
  funext i
  have ei : i = ix3 (i 0 : Fin 2) (i 1 : Fin 1280) (i 2 : Fin 160) := by funext a; fin_cases a <;> rfl
  rw [ei]
  exact (reference_value (A3 c m) r0 (entry (A0 c m) (A1 c m) (A2 c m)) hr hx (i 0) (i 1) (i 2)).trans (result_value c m h (i 0) (i 1) (i 2)).symm

/-- The two outcomes agree where the arguments do. -/
theorem outcomes_eq (c : Dev Cert.KernelIdeal.nD) (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Finite (A1 c m)) (hx : ∀ i, -1048576 ≤ ((A3 c m) i).toInt ∧ ((A3 c m) i).toInt < 1048576)
    (e0 : (m' ((c.tc : Thread Cert.ReferenceIdeal.nD Cert.ReferenceIdeal.τ).loc Cert.ReferenceIdeal.main_arg0) : Cert.ReferenceIdeal.S2x1048576x160.Idx → BitVec 8) = A0 c m)
    (e1 : (m' ((c.tc : Thread Cert.ReferenceIdeal.nD Cert.ReferenceIdeal.τ).loc Cert.ReferenceIdeal.main_arg1) : Cert.ReferenceIdeal.S2x1048576.Idx → Ideal .f32) = A1 c m)
    (e2 : (m' ((c.tc : Thread Cert.ReferenceIdeal.nD Cert.ReferenceIdeal.τ).loc Cert.ReferenceIdeal.main_arg2) : Cert.ReferenceIdeal.S2x1048576.Idx → BitVec 8) = A2 c m)
    (e3 : (m' ((c.tc : Thread Cert.ReferenceIdeal.nD Cert.ReferenceIdeal.τ).loc Cert.ReferenceIdeal.main_arg3) : Cert.ReferenceIdeal.S2x1280.Idx → BitVec 32) = A3 c m) :
    (outcome m' c : Cert.ReferenceIdeal.S2x1280x160.Idx → Ideal .f32) = result c m := by
  unfold outcome
  refine (congrArg (fun x => Cert.ReferenceIdeal.Read.val_main_v72 (F := Ideal) x (Cert.ReferenceIdeal.Value.reg_main_v2 m' c)) e3).trans ?_
  refine values_eq c m h hx _ fun b n d => ?_
  refine (region_apply c m' (e1 ▸ h) b n d).trans ?_
  rw [e0, e1, e2]

theorem algebraic : Cert.algebraic_KernelIdeal_ReferenceIdeal_pre_usable (hKernelIdeal := Cert.KernelIdeal.Gen.facts) (hReferenceIdeal := Cert.ReferenceIdeal.Gen.facts) (hPre_usable := Cert.Pre_usable.Gen.facts) := by
  intro m g m' g' hp ha
  have hv : ∀ c : Dev Cert.KernelIdeal.nD, outcome m' c = (result c m : Cert.KernelIdeal.S2x1280x160.Idx → Ideal .f32) := fun c =>
    outcomes_eq c m m' (usable_scales _ _ _ _ (hp c).1) (usable_words _ _ _ _ (hp c).2) (ha c).1 (ha c).2.1 (ha c).2.2.1 (ha c).2.2.2
  exact ⟨fun c => (result c m : Cert.KernelIdeal.S2x1280x160.Idx → Ideal .f32), kernel_run m g, (θ_run _ _ _).mono (fun r h c => ⟨(h c).1.trans (hv c), (h c).2⟩) (reference_run m' g')⟩

end Cert.Proof

end
-- ==== Proof.lean ====
module

public import proofs.«01_k».proof.Defs
public import proofs.«01_k».proof.Proof.KernelRun
public import proofs.«01_k».proof.Proof.RefRun
public import proofs.«01_k».proof.Proof.Agree
public import proofs.«01_k».proof.Proof.Gen.Pre_usable
public import proofs.«01_k».proof.Proof.Gen.ReferenceIdeal.Frame

@[expose] public section

noncomputable section

namespace Cert.Proof

open Idealize.ShloMosaic Idealize.SL.Sem

/-- The five claims. -/
theorem claim : Cert.Claim := ⟨Cert.Kernel.Gen.facts, Cert.KernelIdeal.Gen.facts, Cert.ReferenceIdeal.Gen.facts, Cert.Pre_usable.Gen.facts,
  fun m g _ => kernel_frame m g,
  fun m g _ => run_frame m g,
  fun m g _ => run_frame m g,
  fun m g _ => Cert.ReferenceIdeal.Gen.frame m g,
  fun m g _ => Cert.ReferenceIdeal.Gen.frame m g,
  trivial,
  algebraic⟩

end Cert.Proof

end
